-- ==== Defs.lean ====
def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_PairRef (m : (ℓ : Loc Cert.PairRef.nD Cert.PairRef.τ Cert.PairRef.sig) → Buf (Elt Bits) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumProj (m : (ℓ : Loc Cert.SumProj.nD Cert.SumProj.τ Cert.SumProj.sig) → Buf (Elt Bits) ℓ) : Prop :=
  True

def Pre_SumProjIdeal (m : (ℓ : Loc Cert.SumProjIdeal.nD Cert.SumProjIdeal.τ Cert.SumProjIdeal.sig) → Buf (Elt Ideal) ℓ) : Prop :=
  True

def Pre_SumProjRefIdeal (m : (ℓ : Loc Cert.SumProjRefIdeal.nD Cert.SumProjRefIdeal.τ Cert.SumProjRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumFfn (m : (ℓ : Loc Cert.SumFfn.nD Cert.SumFfn.τ Cert.SumFfn.sig) → Buf (Elt Bits) ℓ) : Prop :=
  True

def Pre_SumFfnIdeal (m : (ℓ : Loc Cert.SumFfnIdeal.nD Cert.SumFfnIdeal.τ Cert.SumFfnIdeal.sig) → Buf (Elt Ideal) ℓ) : Prop :=
  True

def Pre_SumFfnRefIdeal (m : (ℓ : Loc Cert.SumFfnRefIdeal.nD Cert.SumFfnRefIdeal.τ Cert.SumFfnRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_GradFfn (m : (ℓ : Loc Cert.GradFfn.nD Cert.GradFfn.τ Cert.GradFfn.sig) → Buf (Elt Bits) ℓ) : Prop :=
  True

def Pre_GradFfnIdeal (m : (ℓ : Loc Cert.GradFfnIdeal.nD Cert.GradFfnIdeal.τ Cert.GradFfnIdeal.sig) → Buf (Elt Ideal) ℓ) : Prop :=
  True

def Pre_GradFfnRefIdeal (m : (ℓ : Loc Cert.GradFfnRefIdeal.nD Cert.GradFfnRefIdeal.τ Cert.GradFfnRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradProj (m : (ℓ : Loc Cert.GradProj.nD Cert.GradProj.τ Cert.GradProj.sig) → Buf (Elt Bits) ℓ) : Prop :=
  True

def Pre_GradProjIdeal (m : (ℓ : Loc Cert.GradProjIdeal.nD Cert.GradProjIdeal.τ Cert.GradProjIdeal.sig) → Buf (Elt Ideal) ℓ) : Prop :=
  True

def Pre_GradProjRefIdeal (m : (ℓ : Loc Cert.GradProjRefIdeal.nD Cert.GradProjRefIdeal.τ Cert.GradProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdRefIdeal (m : (ℓ : Loc Cert.FfnBwdRefIdeal.nD Cert.FfnBwdRefIdeal.τ Cert.FfnBwdRefIdeal.sig) → Buf (Elt Ideal) ℓ) : Prop :=
  True

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0))
      ∧ r.2.sem = fun _ => 0)

def quiescent_PairRef [hPairRef : Cert.PairRef.Facts] : Prop :=
  ∀ (m : (ℓ : Loc Cert.PairRef.nD Cert.PairRef.τ Cert.PairRef.sig) → Buf (Elt Bits) ℓ) (g : Dev Cert.PairRef.nD → PrngReg), Pre_PairRef m →
    θ_run (Cert.PairRef.defs (F := Bits)) (onTc (τ := Cert.PairRef.τ) (Cert.PairRef.main (F := Bits))) ⟨m, fun _ => 0, g⟩ (fun r => (∀ c : Dev Cert.PairRef.nD,
      r.2.mem ((c.tc : Thread Cert.PairRef.nD Cert.PairRef.τ).loc Cert.PairRef.main_arg0) = m ((c.tc : Thread Cert.PairRef.nD Cert.PairRef.τ).loc Cert.PairRef.main_arg0))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1))
      ∧ r.2.sem = fun _ => 0)

def quiescent_SumProj [hSumProj : Cert.SumProj.Facts] : Prop :=
  ∀ (m : (ℓ : Loc Cert.SumProj.nD Cert.SumProj.τ Cert.SumProj.sig) → Buf (Elt Bits) ℓ) (g : Dev Cert.SumProj.nD → PrngReg), Pre_SumProj m →
    θ_run (Cert.SumProj.defs (F := Bits)) (onTc (τ := Cert.SumProj.τ) (Cert.SumProj.main (F := Bits))) ⟨m, fun _ => 0, g⟩ (fun r => (∀ c : Dev Cert.SumProj.nD,
      r.2.mem ((c.tc : Thread Cert.SumProj.nD Cert.SumProj.τ).loc Cert.SumProj.main_arg0) = m ((c.tc : Thread Cert.SumProj.nD Cert.SumProj.τ).loc Cert.SumProj.main_arg0)
      ∧ r.2.mem ((c.tc : Thread Cert.SumProj.nD Cert.SumProj.τ).loc Cert.SumProj.main_arg1) = m ((c.tc : Thread Cert.SumProj.nD Cert.SumProj.τ).loc Cert.SumProj.main_arg1))
      ∧ r.2.sem = fun _ => 0)

def quiescent_SumProjIdeal [hSumProjIdeal : Cert.SumProjIdeal.Facts] : Prop :=
  ∀ (m : (ℓ : Loc Cert.SumProjIdeal.nD Cert.SumProjIdeal.τ Cert.SumProjIdeal.sig) → Buf (Elt Ideal) ℓ) (g : Dev Cert.SumProjIdeal.nD → PrngReg), Pre_SumProjIdeal m →
    θ_run (Cert.SumProjIdeal.defs (F := Ideal)) (onTc (τ := Cert.SumProjIdeal.τ) (Cert.SumProjIdeal.main (F := Ideal))) ⟨m, fun _ => 0, g⟩ (fun r => (∀ c : Dev Cert.SumProjIdeal.nD,
      r.2.mem ((c.tc : Thread Cert.SumProjIdeal.nD Cert.SumProjIdeal.τ).loc Cert.SumProjIdeal.main_arg0) = m ((c.tc : Thread Cert.SumProjIdeal.nD Cert.SumProjIdeal.τ).loc Cert.SumProjIdeal.main_arg0)
      ∧ r.2.mem ((c.tc : Thread Cert.SumProjIdeal.nD Cert.SumProjIdeal.τ).loc Cert.SumProjIdeal.main_arg1) = m ((c.tc : Thread Cert.SumProjIdeal.nD Cert.SumProjIdeal.τ).loc Cert.SumProjIdeal.main_arg1))
      ∧ r.2.sem = fun _ => 0)

def quiescent_SumProjRefIdeal [hSumProjRefIdeal : Cert.SumProjRefIdeal.Facts] : Prop :=
  ∀ (m : (ℓ : Loc Cert.SumProjRefIdeal.nD Cert.SumProjRefIdeal.τ Cert.SumProjRefIdeal.sig) → Buf (Elt Ideal) ℓ) (g : Dev Cert.SumProjRefIdeal.nD → PrngReg), Pre_SumProjRefIdeal m →
    θ_run (Cert.SumProjRefIdeal.defs (F := Ideal)) (onTc (τ := Cert.SumProjRefIdeal.τ) (Cert.SumProjRefIdeal.main (F := Ideal))) ⟨m, fun _ => 0, g⟩ (fun r => (∀ c : Dev Cert.SumProjRefIdeal.nD,
      r.2.mem ((c.tc : Thread Cert.SumProjRefIdeal.nD Cert.SumProjRefIdeal.τ).loc Cert.SumProjRefIdeal.main_arg0) = m ((c.tc : Thread Cert.SumProjRefIdeal.nD Cert.SumProjRefIdeal.τ).loc Cert.SumProjRefIdeal.main_arg0)
      ∧ r.2.mem ((c.tc : Thread Cert.SumProjRefIdeal.nD Cert.SumProjRefIdeal.τ).loc Cert.SumProjRefIdeal.main_arg1) = m ((c.tc : Thread Cert.SumProjRefIdeal.nD Cert.SumProjRefIdeal.τ).loc Cert.SumProjRefIdeal.main_arg1))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1))
      ∧ r.2.sem = fun _ => 0)

def quiescent_SumFfn [hSumFfn : Cert.SumFfn.Facts] : Prop :=
  ∀ (m : (ℓ : Loc Cert.SumFfn.nD Cert.SumFfn.τ Cert.SumFfn.sig) → Buf (Elt Bits) ℓ) (g : Dev Cert.SumFfn.nD → PrngReg), Pre_SumFfn m →
    θ_run (Cert.SumFfn.defs (F := Bits)) (onTc (τ := Cert.SumFfn.τ) (Cert.SumFfn.main (F := Bits))) ⟨m, fun _ => 0, g⟩ (fun r => (∀ c : Dev Cert.SumFfn.nD,
      r.2.mem ((c.tc : Thread Cert.SumFfn.nD Cert.SumFfn.τ).loc Cert.SumFfn.main_arg0) = m ((c.tc : Thread Cert.SumFfn.nD Cert.SumFfn.τ).loc Cert.SumFfn.main_arg0)
      ∧ r.2.mem ((c.tc : Thread Cert.SumFfn.nD Cert.SumFfn.τ).loc Cert.SumFfn.main_arg1) = m ((c.tc : Thread Cert.SumFfn.nD Cert.SumFfn.τ).loc Cert.SumFfn.main_arg1))
      ∧ r.2.sem = fun _ => 0)

def quiescent_SumFfnIdeal [hSumFfnIdeal : Cert.SumFfnIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg), Pre_SumFfnIdeal m →
    θ_run (Cert.SumFfnIdeal.defs (F := Ideal)) (onTc (τ := Cert.SumFfnIdeal.τ) (Cert.SumFfnIdeal.main (F := Ideal))) ⟨m, fun _ => 0, g⟩ (fun r => (∀ c : Dev Cert.SumFfnIdeal.nD,
      r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0)
      ∧ r.2.mem ((c.tc : Thread Cert.SumFfnIdeal.nD Cert.SumFfnIdeal.τ).loc Cert.SumFfnIdeal.main_arg1) = m ((c.tc : Thread Cert.SumFfnIdeal.nD Cert.SumFfnIdeal.τ).loc Cert.SumFfnIdeal.main_arg1))
      ∧ r.2.sem = fun _ => 0)

def quiescent_SumFfnRefIdeal [hSumFfnRefIdeal : Cert.SumFfnRefIdeal.Facts] : Prop :=
  ∀ (m : (ℓ : Loc Cert.SumFfnRefIdeal.nD Cert.SumFfnRefIdeal.τ Cert.SumFfnRefIdeal.sig) → Buf (Elt Ideal) ℓ) (g : Dev Cert.SumFfnRefIdeal.nD → PrngReg), Pre_SumFfnRefIdeal m →
    θ_run (Cert.SumFfnRefIdeal.defs (F := Ideal)) (onTc (τ := Cert.SumFfnRefIdeal.τ) (Cert.SumFfnRefIdeal.main (F := Ideal))) ⟨m, fun _ => 0, g⟩ (fun r => (∀ c : Dev Cert.SumFfnRefIdeal.nD,
      r.2.mem ((c.tc : Thread Cert.SumFfnRefIdeal.nD Cert.SumFfnRefIdeal.τ).loc Cert.SumFfnRefIdeal.main_arg0) = m ((c.tc : Thread Cert.SumFfnRefIdeal.nD Cert.SumFfnRefIdeal.τ).loc Cert.SumFfnRefIdeal.main_arg0)
      ∧ r.2.mem ((c.tc : Thread Cert.SumFfnRefIdeal.nD Cert.SumFfnRefIdeal.τ).loc Cert.SumFfnRefIdeal.main_arg1) = m ((c.tc : Thread Cert.SumFfnRefIdeal.nD Cert.SumFfnRefIdeal.τ).loc Cert.SumFfnRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4))
      ∧ r.2.sem = fun _ => 0)

def quiescent_GradFfn [hGradFfn : Cert.GradFfn.Facts] : Prop :=
  ∀ (m : (ℓ : Loc Cert.GradFfn.nD Cert.GradFfn.τ Cert.GradFfn.sig) → Buf (Elt Bits) ℓ) (g : Dev Cert.GradFfn.nD → PrngReg), Pre_GradFfn m →
    θ_run (Cert.GradFfn.defs (F := Bits)) (onTc (τ := Cert.GradFfn.τ) (Cert.GradFfn.main (F := Bits))) ⟨m, fun _ => 0, g⟩ (fun r => (∀ c : Dev Cert.GradFfn.nD,
      r.2.mem ((c.tc : Thread Cert.GradFfn.nD Cert.GradFfn.τ).loc Cert.GradFfn.main_arg0) = m ((c.tc : Thread Cert.GradFfn.nD Cert.GradFfn.τ).loc Cert.GradFfn.main_arg0)
      ∧ r.2.mem ((c.tc : Thread Cert.GradFfn.nD Cert.GradFfn.τ).loc Cert.GradFfn.main_arg1) = m ((c.tc : Thread Cert.GradFfn.nD Cert.GradFfn.τ).loc Cert.GradFfn.main_arg1))
      ∧ r.2.sem = fun _ => 0)

def quiescent_GradFfnIdeal [hGradFfnIdeal : Cert.GradFfnIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg), Pre_GradFfnIdeal m →
    θ_run (Cert.GradFfnIdeal.defs (F := Ideal)) (onTc (τ := Cert.GradFfnIdeal.τ) (Cert.GradFfnIdeal.main (F := Ideal))) ⟨m, fun _ => 0, g⟩ (fun r => (∀ c : Dev Cert.GradFfnIdeal.nD,
      r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
      ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ r.2.sem = fun _ => 0)

def quiescent_GradFfnRefIdeal [hGradFfnRefIdeal : Cert.GradFfnRefIdeal.Facts] : Prop :=
  ∀ (m : (ℓ : Loc Cert.GradFfnRefIdeal.nD Cert.GradFfnRefIdeal.τ Cert.GradFfnRefIdeal.sig) → Buf (Elt Ideal) ℓ) (g : Dev Cert.GradFfnRefIdeal.nD → PrngReg), Pre_GradFfnRefIdeal m →
    θ_run (Cert.GradFfnRefIdeal.defs (F := Ideal)) (onTc (τ := Cert.GradFfnRefIdeal.τ) (Cert.GradFfnRefIdeal.main (F := Ideal))) ⟨m, fun _ => 0, g⟩ (fun r => (∀ c : Dev Cert.GradFfnRefIdeal.nD,
      r.2.mem ((c.tc : Thread Cert.GradFfnRefIdeal.nD Cert.GradFfnRefIdeal.τ).loc Cert.GradFfnRefIdeal.main_arg0) = m ((c.tc : Thread Cert.GradFfnRefIdeal.nD Cert.GradFfnRefIdeal.τ).loc Cert.GradFfnRefIdeal.main_arg0)
      ∧ r.2.mem ((c.tc : Thread Cert.GradFfnRefIdeal.nD Cert.GradFfnRefIdeal.τ).loc Cert.GradFfnRefIdeal.main_arg1) = m ((c.tc : Thread Cert.GradFfnRefIdeal.nD Cert.GradFfnRefIdeal.τ).loc Cert.GradFfnRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradProj [hGradProj : Cert.GradProj.Facts] : Prop :=
  ∀ (m : (ℓ : Loc Cert.GradProj.nD Cert.GradProj.τ Cert.GradProj.sig) → Buf (Elt Bits) ℓ) (g : Dev Cert.GradProj.nD → PrngReg), Pre_GradProj m →
    θ_run (Cert.GradProj.defs (F := Bits)) (onTc (τ := Cert.GradProj.τ) (Cert.GradProj.main (F := Bits))) ⟨m, fun _ => 0, g⟩ (fun r => (∀ c : Dev Cert.GradProj.nD,
      r.2.mem ((c.tc : Thread Cert.GradProj.nD Cert.GradProj.τ).loc Cert.GradProj.main_arg0) = m ((c.tc : Thread Cert.GradProj.nD Cert.GradProj.τ).loc Cert.GradProj.main_arg0)
      ∧ r.2.mem ((c.tc : Thread Cert.GradProj.nD Cert.GradProj.τ).loc Cert.GradProj.main_arg1) = m ((c.tc : Thread Cert.GradProj.nD Cert.GradProj.τ).loc Cert.GradProj.main_arg1))
      ∧ r.2.sem = fun _ => 0)

def quiescent_GradProjIdeal [hGradProjIdeal : Cert.GradProjIdeal.Facts] : Prop :=
  ∀ (m : (ℓ : Loc Cert.GradProjIdeal.nD Cert.GradProjIdeal.τ Cert.GradProjIdeal.sig) → Buf (Elt Ideal) ℓ) (g : Dev Cert.GradProjIdeal.nD → PrngReg), Pre_GradProjIdeal m →
    θ_run (Cert.GradProjIdeal.defs (F := Ideal)) (onTc (τ := Cert.GradProjIdeal.τ) (Cert.GradProjIdeal.main (F := Ideal))) ⟨m, fun _ => 0, g⟩ (fun r => (∀ c : Dev Cert.GradProjIdeal.nD,
      r.2.mem ((c.tc : Thread Cert.GradProjIdeal.nD Cert.GradProjIdeal.τ).loc Cert.GradProjIdeal.main_arg0) = m ((c.tc : Thread Cert.GradProjIdeal.nD Cert.GradProjIdeal.τ).loc Cert.GradProjIdeal.main_arg0)
      ∧ r.2.mem ((c.tc : Thread Cert.GradProjIdeal.nD Cert.GradProjIdeal.τ).loc Cert.GradProjIdeal.main_arg1) = m ((c.tc : Thread Cert.GradProjIdeal.nD Cert.GradProjIdeal.τ).loc Cert.GradProjIdeal.main_arg1))
      ∧ r.2.sem = fun _ => 0)

def quiescent_GradProjRefIdeal [hGradProjRefIdeal : Cert.GradProjRefIdeal.Facts] : Prop :=
  ∀ (m : (ℓ : Loc Cert.GradProjRefIdeal.nD Cert.GradProjRefIdeal.τ Cert.GradProjRefIdeal.sig) → Buf (Elt Ideal) ℓ) (g : Dev Cert.GradProjRefIdeal.nD → PrngReg), Pre_GradProjRefIdeal m →
    θ_run (Cert.GradProjRefIdeal.defs (F := Ideal)) (onTc (τ := Cert.GradProjRefIdeal.τ) (Cert.GradProjRefIdeal.main (F := Ideal))) ⟨m, fun _ => 0, g⟩ (fun r => (∀ c : Dev Cert.GradProjRefIdeal.nD,
      r.2.mem ((c.tc : Thread Cert.GradProjRefIdeal.nD Cert.GradProjRefIdeal.τ).loc Cert.GradProjRefIdeal.main_arg0) = m ((c.tc : Thread Cert.GradProjRefIdeal.nD Cert.GradProjRefIdeal.τ).loc Cert.GradProjRefIdeal.main_arg0)
      ∧ r.2.mem ((c.tc : Thread Cert.GradProjRefIdeal.nD Cert.GradProjRefIdeal.τ).loc Cert.GradProjRefIdeal.main_arg1) = m ((c.tc : Thread Cert.GradProjRefIdeal.nD Cert.GradProjRefIdeal.τ).loc Cert.GradProjRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7)
      ∧ r.2.mem ((c.tc : Thread Cert.FfnBwd.nD Cert.FfnBwd.τ).loc Cert.FfnBwd.main_arg8) = m ((c.tc : Thread Cert.FfnBwd.nD Cert.FfnBwd.τ).loc Cert.FfnBwd.main_arg8))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7)
      ∧ r.2.mem ((c.tc : Thread Cert.FfnBwdRefIdeal.nD Cert.FfnBwdRefIdeal.τ).loc Cert.FfnBwdRefIdeal.main_arg8) = m ((c.tc : Thread Cert.FfnBwdRefIdeal.nD Cert.FfnBwdRefIdeal.τ).loc Cert.FfnBwdRefIdeal.main_arg8))
      ∧ r.2.sem = fun _ => 0)

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m ((c.tc : Thread Cert.PairIdeal.nD Cert.PairIdeal.τ).loc Cert.PairIdeal.main_arg0) = Layout.block ⟨4, ![4, 2, 960, 1024]⟩ ⟨4, ![32, 2, 960, 1024]⟩ 0 8 c (m' (((0 : Dev Cert.PairRefIdeal.nD).tc : Thread Cert.PairRefIdeal.nD Cert.PairRefIdeal.τ).loc Cert.PairRefIdeal.main_arg0))) →
    ∃ (v0 : Buf (Elt Ideal) (((0 : Dev Cert.PairRefIdeal.nD).tc : Thread Cert.PairRefIdeal.nD Cert.PairRefIdeal.τ).loc Cert.PairRefIdeal.main_v8)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v1) = Layout.block ⟨3, ![4, 960, 1024]⟩ ⟨3, ![32, 960, 1024]⟩ 0 8 c v0
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ θ_run (Cert.PairRefIdeal.defs (F := Ideal)) (onTc (τ := Cert.PairRefIdeal.τ) (Cert.PairRefIdeal.main (F := Ideal))) ⟨m', fun _ => 0, g'⟩ (fun r =>
          r.2.mem (((0 : Dev Cert.PairRefIdeal.nD).tc : Thread Cert.PairRefIdeal.nD Cert.PairRefIdeal.τ).loc Cert.PairRefIdeal.main_v8) = v0
          ∧ r.2.mem (((0 : Dev Cert.PairRefIdeal.nD).tc : Thread Cert.PairRefIdeal.nD Cert.PairRefIdeal.τ).loc Cert.PairRefIdeal.main_arg0) = m' (((0 : Dev Cert.PairRefIdeal.nD).tc : Thread Cert.PairRefIdeal.nD Cert.PairRefIdeal.τ).loc Cert.PairRefIdeal.main_arg0))

def bitexact_Pair_PairRef [hPair : Cert.Pair.Facts] [hPairRef : Cert.PairRef.Facts] : Prop :=
  ∀ (m : (ℓ : Loc Cert.Pair.nD Cert.Pair.τ Cert.Pair.sig) → Buf (Elt Bits) ℓ) (g : Dev Cert.Pair.nD → PrngReg)
    (m' : (ℓ : Loc Cert.PairRef.nD Cert.PairRef.τ Cert.PairRef.sig) → Buf (Elt Bits) ℓ) (g' : Dev Cert.PairRef.nD → PrngReg), Pre_Pair m →
    (∀ c : Dev Cert.Pair.nD,
      m ((c.tc : Thread Cert.Pair.nD Cert.Pair.τ).loc Cert.Pair.main_arg0) = Layout.block ⟨4, ![4, 2, 960, 1024]⟩ ⟨4, ![32, 2, 960, 1024]⟩ 0 8 c (m' (((0 : Dev Cert.PairRef.nD).tc : Thread Cert.PairRef.nD Cert.PairRef.τ).loc Cert.PairRef.main_arg0))) →
    ∃ (v0 : Buf (Elt Bits) (((0 : Dev Cert.PairRef.nD).tc : Thread Cert.PairRef.nD Cert.PairRef.τ).loc Cert.PairRef.main_v8)),
      θ_run (Cert.Pair.defs (F := Bits)) (onTc (τ := Cert.Pair.τ) (Cert.Pair.main (F := Bits))) ⟨m, fun _ => 0, g⟩ (fun r => ∀ c : Dev Cert.Pair.nD,
          r.2.mem ((c.tc : Thread Cert.Pair.nD Cert.Pair.τ).loc Cert.Pair.main_v1) = Layout.block ⟨3, ![4, 960, 1024]⟩ ⟨3, ![32, 960, 1024]⟩ 0 8 c v0
          ∧ r.2.mem ((c.tc : Thread Cert.Pair.nD Cert.Pair.τ).loc Cert.Pair.main_arg0) = m ((c.tc : Thread Cert.Pair.nD Cert.Pair.τ).loc Cert.Pair.main_arg0))
      ∧ θ_run (Cert.PairRef.defs (F := Bits)) (onTc (τ := Cert.PairRef.τ) (Cert.PairRef.main (F := Bits))) ⟨m', fun _ => 0, g'⟩ (fun r =>
          r.2.mem (((0 : Dev Cert.PairRef.nD).tc : Thread Cert.PairRef.nD Cert.PairRef.τ).loc Cert.PairRef.main_v8) = v0
          ∧ r.2.mem (((0 : Dev Cert.PairRef.nD).tc : Thread Cert.PairRef.nD Cert.PairRef.τ).loc Cert.PairRef.main_arg0) = m' (((0 : Dev Cert.PairRef.nD).tc : Thread Cert.PairRef.nD Cert.PairRef.τ).loc Cert.PairRef.main_arg0))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m ((c.tc : Thread Cert.InBwdIdeal.nD Cert.InBwdIdeal.τ).loc Cert.InBwdIdeal.main_arg0) = Layout.block ⟨2, ![8192, 4608]⟩ ⟨2, ![65536, 4608]⟩ 0 8 c (m' (((0 : Dev Cert.InBwdRefIdeal.nD).tc : Thread Cert.InBwdRefIdeal.nD Cert.InBwdRefIdeal.τ).loc Cert.InBwdRefIdeal.main_arg0))
      ∧ m ((c.tc : Thread Cert.InBwdIdeal.nD Cert.InBwdIdeal.τ).loc Cert.InBwdIdeal.main_arg1) = Layout.block ⟨2, ![8192, 3072]⟩ ⟨2, ![65536, 3072]⟩ 0 8 c (m' (((0 : Dev Cert.InBwdRefIdeal.nD).tc : Thread Cert.InBwdRefIdeal.nD Cert.InBwdRefIdeal.τ).loc Cert.InBwdRefIdeal.main_arg1))
      ∧ m ((c.tc : Thread Cert.InBwdIdeal.nD Cert.InBwdIdeal.τ).loc Cert.InBwdIdeal.main_arg2) = m' (((0 : Dev Cert.InBwdRefIdeal.nD).tc : Thread Cert.InBwdRefIdeal.nD Cert.InBwdRefIdeal.τ).loc Cert.InBwdRefIdeal.main_arg2)
      ∧ m ((c.tc : Thread Cert.InBwdIdeal.nD Cert.InBwdIdeal.τ).loc Cert.InBwdIdeal.main_arg3) = Layout.block ⟨2, ![8192, 1024]⟩ ⟨2, ![65536, 1024]⟩ 0 8 c (m' (((0 : Dev Cert.InBwdRefIdeal.nD).tc : Thread Cert.InBwdRefIdeal.nD Cert.InBwdRefIdeal.τ).loc Cert.InBwdRefIdeal.main_arg3))
      ∧ m ((c.tc : Thread Cert.InBwdIdeal.nD Cert.InBwdIdeal.τ).loc Cert.InBwdIdeal.main_arg4) = m' (((0 : Dev Cert.InBwdRefIdeal.nD).tc : Thread Cert.InBwdRefIdeal.nD Cert.InBwdRefIdeal.τ).loc Cert.InBwdRefIdeal.main_arg4)
      ∧ m ((c.tc : Thread Cert.InBwdIdeal.nD Cert.InBwdIdeal.τ).loc Cert.InBwdIdeal.main_arg5) = Layout.block ⟨2, ![8192, 1024]⟩ ⟨2, ![65536, 1024]⟩ 0 8 c (m' (((0 : Dev Cert.InBwdRefIdeal.nD).tc : Thread Cert.InBwdRefIdeal.nD Cert.InBwdRefIdeal.τ).loc Cert.InBwdRefIdeal.main_arg5))
      ∧ m ((c.tc : Thread Cert.InBwdIdeal.nD Cert.InBwdIdeal.τ).loc Cert.InBwdIdeal.main_arg6) = Layout.block ⟨3, ![4, 960, 1024]⟩ ⟨3, ![32, 960, 1024]⟩ 0 8 c (m' (((0 : Dev Cert.InBwdRefIdeal.nD).tc : Thread Cert.InBwdRefIdeal.nD Cert.InBwdRefIdeal.τ).loc Cert.InBwdRefIdeal.main_arg6))) →
    ∃ (v0 : Buf (Elt Ideal) (((0 : Dev Cert.InBwdRefIdeal.nD).tc : Thread Cert.InBwdRefIdeal.nD Cert.InBwdRefIdeal.τ).loc Cert.InBwdRefIdeal.main_v30)) (v1 : Buf (Elt Ideal) (((0 : Dev Cert.InBwdRefIdeal.nD).tc : Thread Cert.InBwdRefIdeal.nD Cert.InBwdRefIdeal.τ).loc Cert.InBwdRefIdeal.main_v17)) (v2 : Buf (Elt Ideal) (((0 : Dev Cert.InBwdRefIdeal.nD).tc : Thread Cert.InBwdRefIdeal.nD Cert.InBwdRefIdeal.τ).loc Cert.InBwdRefIdeal.main_v77)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v1_0) = Layout.block ⟨2, ![8192, 1024]⟩ ⟨2, ![65536, 1024]⟩ 0 8 c v0
          ∧ r.2.mem ((c.tc : Thread Cert.InBwdIdeal.nD Cert.InBwdIdeal.τ).loc Cert.InBwdIdeal.main_v1_1) = Layout.block ⟨2, ![1, 1024]⟩ ⟨2, ![8, 1024]⟩ 0 8 c v1
          ∧ r.2.mem ((c.tc : Thread Cert.InBwdIdeal.nD Cert.InBwdIdeal.τ).loc Cert.InBwdIdeal.main_v1_2) = Layout.block ⟨3, ![3, 960, 1024]⟩ ⟨3, ![24, 960, 1024]⟩ 0 8 c v2
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6))
      ∧ θ_run (Cert.InBwdRefIdeal.defs (F := Ideal)) (onTc (τ := Cert.InBwdRefIdeal.τ) (Cert.InBwdRefIdeal.main (F := Ideal))) ⟨m', fun _ => 0, g'⟩ (fun r =>
          r.2.mem (((0 : Dev Cert.InBwdRefIdeal.nD).tc : Thread Cert.InBwdRefIdeal.nD Cert.InBwdRefIdeal.τ).loc Cert.InBwdRefIdeal.main_v30) = v0
          ∧ r.2.mem (((0 : Dev Cert.InBwdRefIdeal.nD).tc : Thread Cert.InBwdRefIdeal.nD Cert.InBwdRefIdeal.τ).loc Cert.InBwdRefIdeal.main_v17) = v1
          ∧ r.2.mem (((0 : Dev Cert.InBwdRefIdeal.nD).tc : Thread Cert.InBwdRefIdeal.nD Cert.InBwdRefIdeal.τ).loc Cert.InBwdRefIdeal.main_v77) = v2
          ∧ r.2.mem (((0 : Dev Cert.InBwdRefIdeal.nD).tc : Thread Cert.InBwdRefIdeal.nD Cert.InBwdRefIdeal.τ).loc Cert.InBwdRefIdeal.main_arg0) = m' (((0 : Dev Cert.InBwdRefIdeal.nD).tc : Thread Cert.InBwdRefIdeal.nD Cert.InBwdRefIdeal.τ).loc Cert.InBwdRefIdeal.main_arg0)
          ∧ r.2.mem (((0 : Dev Cert.InBwdRefIdeal.nD).tc : Thread Cert.InBwdRefIdeal.nD Cert.InBwdRefIdeal.τ).loc Cert.InBwdRefIdeal.main_arg1) = m' (((0 : Dev Cert.InBwdRefIdeal.nD).tc : Thread Cert.InBwdRefIdeal.nD Cert.InBwdRefIdeal.τ).loc Cert.InBwdRefIdeal.main_arg1)
          ∧ r.2.mem (((0 : Dev Cert.InBwdRefIdeal.nD).tc : Thread Cert.InBwdRefIdeal.nD Cert.InBwdRefIdeal.τ).loc Cert.InBwdRefIdeal.main_arg2) = m' (((0 : Dev Cert.InBwdRefIdeal.nD).tc : Thread Cert.InBwdRefIdeal.nD Cert.InBwdRefIdeal.τ).loc Cert.InBwdRefIdeal.main_arg2)
          ∧ r.2.mem (((0 : Dev Cert.InBwdRefIdeal.nD).tc : Thread Cert.InBwdRefIdeal.nD Cert.InBwdRefIdeal.τ).loc Cert.InBwdRefIdeal.main_arg3) = m' (((0 : Dev Cert.InBwdRefIdeal.nD).tc : Thread Cert.InBwdRefIdeal.nD Cert.InBwdRefIdeal.τ).loc Cert.InBwdRefIdeal.main_arg3)
          ∧ r.2.mem (((0 : Dev Cert.InBwdRefIdeal.nD).tc : Thread Cert.InBwdRefIdeal.nD Cert.InBwdRefIdeal.τ).loc Cert.InBwdRefIdeal.main_arg4) = m' (((0 : Dev Cert.InBwdRefIdeal.nD).tc : Thread Cert.InBwdRefIdeal.nD Cert.InBwdRefIdeal.τ).loc Cert.InBwdRefIdeal.main_arg4)
          ∧ r.2.mem (((0 : Dev Cert.InBwdRefIdeal.nD).tc : Thread Cert.InBwdRefIdeal.nD Cert.InBwdRefIdeal.τ).loc Cert.InBwdRefIdeal.main_arg5) = m' (((0 : Dev Cert.InBwdRefIdeal.nD).tc : Thread Cert.InBwdRefIdeal.nD Cert.InBwdRefIdeal.τ).loc Cert.InBwdRefIdeal.main_arg5)
          ∧ r.2.mem (((0 : Dev Cert.InBwdRefIdeal.nD).tc : Thread Cert.InBwdRefIdeal.nD Cert.InBwdRefIdeal.τ).loc Cert.InBwdRefIdeal.main_arg6) = m' (((0 : Dev Cert.InBwdRefIdeal.nD).tc : Thread Cert.InBwdRefIdeal.nD Cert.InBwdRefIdeal.τ).loc Cert.InBwdRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m ((c.tc : Thread Cert.NormIdeal.nD Cert.NormIdeal.τ).loc Cert.NormIdeal.main_arg0) = Layout.block ⟨2, ![8192, 1024]⟩ ⟨2, ![65536, 1024]⟩ 0 8 c (m' (((0 : Dev Cert.NormRefIdeal.nD).tc : Thread Cert.NormRefIdeal.nD Cert.NormRefIdeal.τ).loc Cert.NormRefIdeal.main_arg0))
      ∧ m ((c.tc : Thread Cert.NormIdeal.nD Cert.NormIdeal.τ).loc Cert.NormIdeal.main_arg1) = m' (((0 : Dev Cert.NormRefIdeal.nD).tc : Thread Cert.NormRefIdeal.nD Cert.NormRefIdeal.τ).loc Cert.NormRefIdeal.main_arg1)
      ∧ m ((c.tc : Thread Cert.NormIdeal.nD Cert.NormIdeal.τ).loc Cert.NormIdeal.main_arg2) = Layout.block ⟨2, ![8192, 1]⟩ ⟨2, ![65536, 1]⟩ 0 8 c (m' (((0 : Dev Cert.NormRefIdeal.nD).tc : Thread Cert.NormRefIdeal.nD Cert.NormRefIdeal.τ).loc Cert.NormRefIdeal.main_arg2))
      ∧ m ((c.tc : Thread Cert.NormIdeal.nD Cert.NormIdeal.τ).loc Cert.NormIdeal.main_arg3) = m' (((0 : Dev Cert.NormRefIdeal.nD).tc : Thread Cert.NormRefIdeal.nD Cert.NormRefIdeal.τ).loc Cert.NormRefIdeal.main_arg3)
      ∧ m ((c.tc : Thread Cert.NormIdeal.nD Cert.NormIdeal.τ).loc Cert.NormIdeal.main_arg4) = Layout.block ⟨2, ![960, 1024]⟩ ⟨2, ![7680, 1024]⟩ 0 8 c (m' (((0 : Dev Cert.NormRefIdeal.nD).tc : Thread Cert.NormRefIdeal.nD Cert.NormRefIdeal.τ).loc Cert.NormRefIdeal.main_arg4))) →
    ∃ (v0 : Buf (Elt Ideal) (((0 : Dev Cert.NormRefIdeal.nD).tc : Thread Cert.NormRefIdeal.nD Cert.NormRefIdeal.τ).loc Cert.NormRefIdeal.main_v12)) (v1 : Buf (Elt Ideal) (((0 : Dev Cert.NormRefIdeal.nD).tc : Thread Cert.NormRefIdeal.nD Cert.NormRefIdeal.τ).loc Cert.NormRefIdeal.main_v26)) (v2 : Buf (Elt Ideal) (((0 : Dev Cert.NormRefIdeal.nD).tc : Thread Cert.NormRefIdeal.nD Cert.NormRefIdeal.τ).loc Cert.NormRefIdeal.main_v30)) (v3 : Buf (Elt Ideal) (((0 : Dev Cert.NormRefIdeal.nD).tc : Thread Cert.NormRefIdeal.nD Cert.NormRefIdeal.τ).loc Cert.NormRefIdeal.main_v36)) (v4 : Buf (Elt Ideal) (((0 : Dev Cert.NormRefIdeal.nD).tc : Thread Cert.NormRefIdeal.nD Cert.NormRefIdeal.τ).loc Cert.NormRefIdeal.main_arg4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = Layout.block ⟨2, ![8192, 1024]⟩ ⟨2, ![65536, 1024]⟩ 0 8 c v0
          ∧ r.2.mem ((c.tc : Thread Cert.NormIdeal.nD Cert.NormIdeal.τ).loc Cert.NormIdeal.main_v1_1) = Layout.block ⟨2, ![8192, 128]⟩ ⟨2, ![65536, 128]⟩ 0 8 c v1
          ∧ r.2.mem ((c.tc : Thread Cert.NormIdeal.nD Cert.NormIdeal.τ).loc Cert.NormIdeal.main_v1_2) = Layout.block ⟨2, ![8192, 128]⟩ ⟨2, ![65536, 128]⟩ 0 8 c v2
          ∧ r.2.mem ((c.tc : Thread Cert.NormIdeal.nD Cert.NormIdeal.τ).loc Cert.NormIdeal.main_v1_3) = Layout.block ⟨2, ![8192, 128]⟩ ⟨2, ![65536, 128]⟩ 0 8 c v3
          ∧ r.2.mem ((c.tc : Thread Cert.NormIdeal.nD Cert.NormIdeal.τ).loc Cert.NormIdeal.main_v1_4) = v4
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r =>
          r.2.mem (((0 : Dev Cert.NormRefIdeal.nD).tc : Thread Cert.NormRefIdeal.nD Cert.NormRefIdeal.τ).loc Cert.NormRefIdeal.main_v12) = v0
          ∧ r.2.mem (((0 : Dev Cert.NormRefIdeal.nD).tc : Thread Cert.NormRefIdeal.nD Cert.NormRefIdeal.τ).loc Cert.NormRefIdeal.main_v26) = v1
          ∧ r.2.mem (((0 : Dev Cert.NormRefIdeal.nD).tc : Thread Cert.NormRefIdeal.nD Cert.NormRefIdeal.τ).loc Cert.NormRefIdeal.main_v30) = v2
          ∧ r.2.mem (((0 : Dev Cert.NormRefIdeal.nD).tc : Thread Cert.NormRefIdeal.nD Cert.NormRefIdeal.τ).loc Cert.NormRefIdeal.main_v36) = v3
          ∧ r.2.mem (((0 : Dev Cert.NormRefIdeal.nD).tc : Thread Cert.NormRefIdeal.nD Cert.NormRefIdeal.τ).loc Cert.NormRefIdeal.main_arg4) = v4
          ∧ r.2.mem (((0 : Dev Cert.NormRefIdeal.nD).tc : Thread Cert.NormRefIdeal.nD Cert.NormRefIdeal.τ).loc Cert.NormRefIdeal.main_arg0) = m' (((0 : Dev Cert.NormRefIdeal.nD).tc : Thread Cert.NormRefIdeal.nD Cert.NormRefIdeal.τ).loc Cert.NormRefIdeal.main_arg0)
          ∧ r.2.mem (((0 : Dev Cert.NormRefIdeal.nD).tc : Thread Cert.NormRefIdeal.nD Cert.NormRefIdeal.τ).loc Cert.NormRefIdeal.main_arg1) = m' (((0 : Dev Cert.NormRefIdeal.nD).tc : Thread Cert.NormRefIdeal.nD Cert.NormRefIdeal.τ).loc Cert.NormRefIdeal.main_arg1)
          ∧ r.2.mem (((0 : Dev Cert.NormRefIdeal.nD).tc : Thread Cert.NormRefIdeal.nD Cert.NormRefIdeal.τ).loc Cert.NormRefIdeal.main_arg2) = m' (((0 : Dev Cert.NormRefIdeal.nD).tc : Thread Cert.NormRefIdeal.nD Cert.NormRefIdeal.τ).loc Cert.NormRefIdeal.main_arg2)
          ∧ r.2.mem (((0 : Dev Cert.NormRefIdeal.nD).tc : Thread Cert.NormRefIdeal.nD Cert.NormRefIdeal.τ).loc Cert.NormRefIdeal.main_arg3) = m' (((0 : Dev Cert.NormRefIdeal.nD).tc : Thread Cert.NormRefIdeal.nD Cert.NormRefIdeal.τ).loc Cert.NormRefIdeal.main_arg3)
          ∧ r.2.mem (((0 : Dev Cert.NormRefIdeal.nD).tc : Thread Cert.NormRefIdeal.nD Cert.NormRefIdeal.τ).loc Cert.NormRefIdeal.main_arg4) = m' (((0 : Dev Cert.NormRefIdeal.nD).tc : Thread Cert.NormRefIdeal.nD Cert.NormRefIdeal.τ).loc Cert.NormRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m ((c.tc : Thread Cert.MergeIdeal.nD Cert.MergeIdeal.τ).loc Cert.MergeIdeal.main_arg0) = Layout.block ⟨2, ![8192, 1024]⟩ ⟨2, ![65536, 1024]⟩ 0 8 c (m' (((0 : Dev Cert.MergeRefIdeal.nD).tc : Thread Cert.MergeRefIdeal.nD Cert.MergeRefIdeal.τ).loc Cert.MergeRefIdeal.main_arg0))
      ∧ m ((c.tc : Thread Cert.MergeIdeal.nD Cert.MergeIdeal.τ).loc Cert.MergeIdeal.main_arg1) = m' (((0 : Dev Cert.MergeRefIdeal.nD).tc : Thread Cert.MergeRefIdeal.nD Cert.MergeRefIdeal.τ).loc Cert.MergeRefIdeal.main_arg1)
      ∧ m ((c.tc : Thread Cert.MergeIdeal.nD Cert.MergeIdeal.τ).loc Cert.MergeIdeal.main_arg2) = Layout.block ⟨2, ![8192, 1024]⟩ ⟨2, ![65536, 1024]⟩ 0 8 c (m' (((0 : Dev Cert.MergeRefIdeal.nD).tc : Thread Cert.MergeRefIdeal.nD Cert.MergeRefIdeal.τ).loc Cert.MergeRefIdeal.main_arg2))
      ∧ m ((c.tc : Thread Cert.MergeIdeal.nD Cert.MergeIdeal.τ).loc Cert.MergeIdeal.main_arg3) = Layout.block ⟨2, ![8192, 1024]⟩ ⟨2, ![65536, 1024]⟩ 0 8 c (m' (((0 : Dev Cert.MergeRefIdeal.nD).tc : Thread Cert.MergeRefIdeal.nD Cert.MergeRefIdeal.τ).loc Cert.MergeRefIdeal.main_arg3))
      ∧ m ((c.tc : Thread Cert.MergeIdeal.nD Cert.MergeIdeal.τ).loc Cert.MergeIdeal.main_arg4) = Layout.block ⟨2, ![8192, 3072]⟩ ⟨2, ![65536, 3072]⟩ 0 8 c (m' (((0 : Dev Cert.MergeRefIdeal.nD).tc : Thread Cert.MergeRefIdeal.nD Cert.MergeRefIdeal.τ).loc Cert.MergeRefIdeal.main_arg4))
      ∧ m ((c.tc : Thread Cert.MergeIdeal.nD Cert.MergeIdeal.τ).loc Cert.MergeIdeal.main_arg5) = m' (((0 : Dev Cert.MergeRefIdeal.nD).tc : Thread Cert.MergeRefIdeal.nD Cert.MergeRefIdeal.τ).loc Cert.MergeRefIdeal.main_arg5)
      ∧ m ((c.tc : Thread Cert.MergeIdeal.nD Cert.MergeIdeal.τ).loc Cert.MergeIdeal.main_arg6) = m' (((0 : Dev Cert.MergeRefIdeal.nD).tc : Thread Cert.MergeRefIdeal.nD Cert.MergeRefIdeal.τ).loc Cert.MergeRefIdeal.main_arg6)
      ∧ m ((c.tc : Thread Cert.MergeIdeal.nD Cert.MergeIdeal.τ).loc Cert.MergeIdeal.main_arg7) = Layout.block ⟨2, ![8192, 512]⟩ ⟨2, ![65536, 512]⟩ 0 8 c (m' (((0 : Dev Cert.MergeRefIdeal.nD).tc : Thread Cert.MergeRefIdeal.nD Cert.MergeRefIdeal.τ).loc Cert.MergeRefIdeal.main_arg7))
      ∧ m ((c.tc : Thread Cert.MergeIdeal.nD Cert.MergeIdeal.τ).loc Cert.MergeIdeal.main_arg8) = Layout.block ⟨2, ![8192, 128]⟩ ⟨2, ![65536, 128]⟩ 0 8 c (m' (((0 : Dev Cert.MergeRefIdeal.nD).tc : Thread Cert.MergeRefIdeal.nD Cert.MergeRefIdeal.τ).loc Cert.MergeRefIdeal.main_arg8))
      ∧ m ((c.tc : Thread Cert.MergeIdeal.nD Cert.MergeIdeal.τ).loc Cert.MergeIdeal.main_arg9) = Layout.block ⟨4, ![4, 2, 352, 1024]⟩ ⟨4, ![32, 2, 352, 1024]⟩ 0 8 c (m' (((0 : Dev Cert.MergeRefIdeal.nD).tc : Thread Cert.MergeRefIdeal.nD Cert.MergeRefIdeal.τ).loc Cert.MergeRefIdeal.main_arg9))
      ∧ m ((c.tc : Thread Cert.MergeIdeal.nD Cert.MergeIdeal.τ).loc Cert.MergeIdeal.main_arg10) = Layout.block ⟨4, ![4, 2, 352, 1024]⟩ ⟨4, ![32, 2, 352, 1024]⟩ 0 8 c (m' (((0 : Dev Cert.MergeRefIdeal.nD).tc : Thread Cert.MergeRefIdeal.nD Cert.MergeRefIdeal.τ).loc Cert.MergeRefIdeal.main_arg10))
      ∧ m ((c.tc : Thread Cert.MergeIdeal.nD Cert.MergeIdeal.τ).loc Cert.MergeIdeal.main_arg11) = Layout.block ⟨4, ![4, 2, 352, 1024]⟩ ⟨4, ![32, 2, 352, 1024]⟩ 0 8 c (m' (((0 : Dev Cert.MergeRefIdeal.nD).tc : Thread Cert.MergeRefIdeal.nD Cert.MergeRefIdeal.τ).loc Cert.MergeRefIdeal.main_arg11))) →
    ∃ (v0 : Buf (Elt Ideal) (((0 : Dev Cert.MergeRefIdeal.nD).tc : Thread Cert.MergeRefIdeal.nD Cert.MergeRefIdeal.τ).loc Cert.MergeRefIdeal.main_v21)) (v1 : Buf (Elt Ideal) (((0 : Dev Cert.MergeRefIdeal.nD).tc : Thread Cert.MergeRefIdeal.nD Cert.MergeRefIdeal.τ).loc Cert.MergeRefIdeal.main_v23)) (v2 : Buf (Elt Ideal) (((0 : Dev Cert.MergeRefIdeal.nD).tc : Thread Cert.MergeRefIdeal.nD Cert.MergeRefIdeal.τ).loc Cert.MergeRefIdeal.main_v26)) (v3 : Buf (Elt Ideal) (((0 : Dev Cert.MergeRefIdeal.nD).tc : Thread Cert.MergeRefIdeal.nD Cert.MergeRefIdeal.τ).loc Cert.MergeRefIdeal.main_v35)) (v4 : Buf (Elt Ideal) (((0 : Dev Cert.MergeRefIdeal.nD).tc : Thread Cert.MergeRefIdeal.nD Cert.MergeRefIdeal.τ).loc Cert.MergeRefIdeal.main_v44)) (v5 : Buf (Elt Ideal) (((0 : Dev Cert.MergeRefIdeal.nD).tc : Thread Cert.MergeRefIdeal.nD Cert.MergeRefIdeal.τ).loc Cert.MergeRefIdeal.main_v53)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = Layout.block ⟨2, ![8192, 1024]⟩ ⟨2, ![65536, 1024]⟩ 0 8 c v0
          ∧ r.2.mem ((c.tc : Thread Cert.MergeIdeal.nD Cert.MergeIdeal.τ).loc Cert.MergeIdeal.main_v1_1) = Layout.block ⟨2, ![8192, 1024]⟩ ⟨2, ![65536, 1024]⟩ 0 8 c v1
          ∧ r.2.mem ((c.tc : Thread Cert.MergeIdeal.nD Cert.MergeIdeal.τ).loc Cert.MergeIdeal.main_v1_3) = Layout.block ⟨2, ![8192, 512]⟩ ⟨2, ![65536, 512]⟩ 0 8 c v2
          ∧ r.2.mem ((c.tc : Thread Cert.MergeIdeal.nD Cert.MergeIdeal.τ).loc Cert.MergeIdeal.main_v1_10) = Layout.block ⟨3, ![4, 352, 1024]⟩ ⟨3, ![32, 352, 1024]⟩ 0 8 c v3
          ∧ r.2.mem ((c.tc : Thread Cert.MergeIdeal.nD Cert.MergeIdeal.τ).loc Cert.MergeIdeal.main_v1_11) = Layout.block ⟨3, ![4, 352, 1024]⟩ ⟨3, ![32, 352, 1024]⟩ 0 8 c v4
          ∧ r.2.mem ((c.tc : Thread Cert.MergeIdeal.nD Cert.MergeIdeal.τ).loc Cert.MergeIdeal.main_v1_12) = Layout.block ⟨3, ![4, 352, 1024]⟩ ⟨3, ![32, 352, 1024]⟩ 0 8 c v5
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r =>
          r.2.mem (((0 : Dev Cert.MergeRefIdeal.nD).tc : Thread Cert.MergeRefIdeal.nD Cert.MergeRefIdeal.τ).loc Cert.MergeRefIdeal.main_v21) = v0
          ∧ r.2.mem (((0 : Dev Cert.MergeRefIdeal.nD).tc : Thread Cert.MergeRefIdeal.nD Cert.MergeRefIdeal.τ).loc Cert.MergeRefIdeal.main_v23) = v1
          ∧ r.2.mem (((0 : Dev Cert.MergeRefIdeal.nD).tc : Thread Cert.MergeRefIdeal.nD Cert.MergeRefIdeal.τ).loc Cert.MergeRefIdeal.main_v26) = v2
          ∧ r.2.mem (((0 : Dev Cert.MergeRefIdeal.nD).tc : Thread Cert.MergeRefIdeal.nD Cert.MergeRefIdeal.τ).loc Cert.MergeRefIdeal.main_v35) = v3
          ∧ r.2.mem (((0 : Dev Cert.MergeRefIdeal.nD).tc : Thread Cert.MergeRefIdeal.nD Cert.MergeRefIdeal.τ).loc Cert.MergeRefIdeal.main_v44) = v4
          ∧ r.2.mem (((0 : Dev Cert.MergeRefIdeal.nD).tc : Thread Cert.MergeRefIdeal.nD Cert.MergeRefIdeal.τ).loc Cert.MergeRefIdeal.main_v53) = v5
          ∧ r.2.mem (((0 : Dev Cert.MergeRefIdeal.nD).tc : Thread Cert.MergeRefIdeal.nD Cert.MergeRefIdeal.τ).loc Cert.MergeRefIdeal.main_arg0) = m' (((0 : Dev Cert.MergeRefIdeal.nD).tc : Thread Cert.MergeRefIdeal.nD Cert.MergeRefIdeal.τ).loc Cert.MergeRefIdeal.main_arg0)
          ∧ r.2.mem (((0 : Dev Cert.MergeRefIdeal.nD).tc : Thread Cert.MergeRefIdeal.nD Cert.MergeRefIdeal.τ).loc Cert.MergeRefIdeal.main_arg1) = m' (((0 : Dev Cert.MergeRefIdeal.nD).tc : Thread Cert.MergeRefIdeal.nD Cert.MergeRefIdeal.τ).loc Cert.MergeRefIdeal.main_arg1)
          ∧ r.2.mem (((0 : Dev Cert.MergeRefIdeal.nD).tc : Thread Cert.MergeRefIdeal.nD Cert.MergeRefIdeal.τ).loc Cert.MergeRefIdeal.main_arg2) = m' (((0 : Dev Cert.MergeRefIdeal.nD).tc : Thread Cert.MergeRefIdeal.nD Cert.MergeRefIdeal.τ).loc Cert.MergeRefIdeal.main_arg2)
          ∧ r.2.mem (((0 : Dev Cert.MergeRefIdeal.nD).tc : Thread Cert.MergeRefIdeal.nD Cert.MergeRefIdeal.τ).loc Cert.MergeRefIdeal.main_arg3) = m' (((0 : Dev Cert.MergeRefIdeal.nD).tc : Thread Cert.MergeRefIdeal.nD Cert.MergeRefIdeal.τ).loc Cert.MergeRefIdeal.main_arg3)
          ∧ r.2.mem (((0 : Dev Cert.MergeRefIdeal.nD).tc : Thread Cert.MergeRefIdeal.nD Cert.MergeRefIdeal.τ).loc Cert.MergeRefIdeal.main_arg4) = m' (((0 : Dev Cert.MergeRefIdeal.nD).tc : Thread Cert.MergeRefIdeal.nD Cert.MergeRefIdeal.τ).loc Cert.MergeRefIdeal.main_arg4)
          ∧ r.2.mem (((0 : Dev Cert.MergeRefIdeal.nD).tc : Thread Cert.MergeRefIdeal.nD Cert.MergeRefIdeal.τ).loc Cert.MergeRefIdeal.main_arg5) = m' (((0 : Dev Cert.MergeRefIdeal.nD).tc : Thread Cert.MergeRefIdeal.nD Cert.MergeRefIdeal.τ).loc Cert.MergeRefIdeal.main_arg5)
          ∧ r.2.mem (((0 : Dev Cert.MergeRefIdeal.nD).tc : Thread Cert.MergeRefIdeal.nD Cert.MergeRefIdeal.τ).loc Cert.MergeRefIdeal.main_arg6) = m' (((0 : Dev Cert.MergeRefIdeal.nD).tc : Thread Cert.MergeRefIdeal.nD Cert.MergeRefIdeal.τ).loc Cert.MergeRefIdeal.main_arg6)
          ∧ r.2.mem (((0 : Dev Cert.MergeRefIdeal.nD).tc : Thread Cert.MergeRefIdeal.nD Cert.MergeRefIdeal.τ).loc Cert.MergeRefIdeal.main_arg7) = m' (((0 : Dev Cert.MergeRefIdeal.nD).tc : Thread Cert.MergeRefIdeal.nD Cert.MergeRefIdeal.τ).loc Cert.MergeRefIdeal.main_arg7)
          ∧ r.2.mem (((0 : Dev Cert.MergeRefIdeal.nD).tc : Thread Cert.MergeRefIdeal.nD Cert.MergeRefIdeal.τ).loc Cert.MergeRefIdeal.main_arg8) = m' (((0 : Dev Cert.MergeRefIdeal.nD).tc : Thread Cert.MergeRefIdeal.nD Cert.MergeRefIdeal.τ).loc Cert.MergeRefIdeal.main_arg8)
          ∧ r.2.mem (((0 : Dev Cert.MergeRefIdeal.nD).tc : Thread Cert.MergeRefIdeal.nD Cert.MergeRefIdeal.τ).loc Cert.MergeRefIdeal.main_arg9) = m' (((0 : Dev Cert.MergeRefIdeal.nD).tc : Thread Cert.MergeRefIdeal.nD Cert.MergeRefIdeal.τ).loc Cert.MergeRefIdeal.main_arg9)
          ∧ r.2.mem (((0 : Dev Cert.MergeRefIdeal.nD).tc : Thread Cert.MergeRefIdeal.nD Cert.MergeRefIdeal.τ).loc Cert.MergeRefIdeal.main_arg10) = m' (((0 : Dev Cert.MergeRefIdeal.nD).tc : Thread Cert.MergeRefIdeal.nD Cert.MergeRefIdeal.τ).loc Cert.MergeRefIdeal.main_arg10)
          ∧ r.2.mem (((0 : Dev Cert.MergeRefIdeal.nD).tc : Thread Cert.MergeRefIdeal.nD Cert.MergeRefIdeal.τ).loc Cert.MergeRefIdeal.main_arg11) = m' (((0 : Dev Cert.MergeRefIdeal.nD).tc : Thread Cert.MergeRefIdeal.nD Cert.MergeRefIdeal.τ).loc Cert.MergeRefIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m ((c.tc : Thread Cert.InProjIdeal.nD Cert.InProjIdeal.τ).loc Cert.InProjIdeal.main_arg0) = Layout.block ⟨2, ![8192, 1024]⟩ ⟨2, ![65536, 1024]⟩ 0 8 c (m' (((0 : Dev Cert.InProjRefIdeal.nD).tc : Thread Cert.InProjRefIdeal.nD Cert.InProjRefIdeal.τ).loc Cert.InProjRefIdeal.main_arg0))
      ∧ m ((c.tc : Thread Cert.InProjIdeal.nD Cert.InProjIdeal.τ).loc Cert.InProjIdeal.main_arg1) = m' (((0 : Dev Cert.InProjRefIdeal.nD).tc : Thread Cert.InProjRefIdeal.nD Cert.InProjRefIdeal.τ).loc Cert.InProjRefIdeal.main_arg1)
      ∧ m ((c.tc : Thread Cert.InProjIdeal.nD Cert.InProjIdeal.τ).loc Cert.InProjIdeal.main_arg2) = Layout.block ⟨2, ![8192, 128]⟩ ⟨2, ![65536, 128]⟩ 0 8 c (m' (((0 : Dev Cert.InProjRefIdeal.nD).tc : Thread Cert.InProjRefIdeal.nD Cert.InProjRefIdeal.τ).loc Cert.InProjRefIdeal.main_arg2))
      ∧ m ((c.tc : Thread Cert.InProjIdeal.nD Cert.InProjIdeal.τ).loc Cert.InProjIdeal.main_arg3) = Layout.block ⟨2, ![8192, 128]⟩ ⟨2, ![65536, 128]⟩ 0 8 c (m' (((0 : Dev Cert.InProjRefIdeal.nD).tc : Thread Cert.InProjRefIdeal.nD Cert.InProjRefIdeal.τ).loc Cert.InProjRefIdeal.main_arg3))
      ∧ m ((c.tc : Thread Cert.InProjIdeal.nD Cert.InProjIdeal.τ).loc Cert.InProjIdeal.main_arg4) = Layout.block ⟨2, ![8192, 128]⟩ ⟨2, ![65536, 128]⟩ 0 8 c (m' (((0 : Dev Cert.InProjRefIdeal.nD).tc : Thread Cert.InProjRefIdeal.nD Cert.InProjRefIdeal.τ).loc Cert.InProjRefIdeal.main_arg4))
      ∧ m ((c.tc : Thread Cert.InProjIdeal.nD Cert.InProjIdeal.τ).loc Cert.InProjIdeal.main_arg5) = Layout.block ⟨2, ![352, 1024]⟩ ⟨2, ![2816, 1024]⟩ 0 8 c (m' (((0 : Dev Cert.InProjRefIdeal.nD).tc : Thread Cert.InProjRefIdeal.nD Cert.InProjRefIdeal.τ).loc Cert.InProjRefIdeal.main_arg5))
      ∧ m ((c.tc : Thread Cert.InProjIdeal.nD Cert.InProjIdeal.τ).loc Cert.InProjIdeal.main_arg6) = Layout.block ⟨2, ![352, 1024]⟩ ⟨2, ![2816, 1024]⟩ 0 8 c (m' (((0 : Dev Cert.InProjRefIdeal.nD).tc : Thread Cert.InProjRefIdeal.nD Cert.InProjRefIdeal.τ).loc Cert.InProjRefIdeal.main_arg6))
      ∧ m ((c.tc : Thread Cert.InProjIdeal.nD Cert.InProjIdeal.τ).loc Cert.InProjIdeal.main_arg7) = Layout.block ⟨2, ![128, 1024]⟩ ⟨2, ![1024, 1024]⟩ 0 8 c (m' (((0 : Dev Cert.InProjRefIdeal.nD).tc : Thread Cert.InProjRefIdeal.nD Cert.InProjRefIdeal.τ).loc Cert.InProjRefIdeal.main_arg7))
      ∧ m ((c.tc : Thread Cert.InProjIdeal.nD Cert.InProjIdeal.τ).loc Cert.InProjIdeal.main_arg8) = Layout.block ⟨2, ![128, 512]⟩ ⟨2, ![1024, 512]⟩ 0 8 c (m' (((0 : Dev Cert.InProjRefIdeal.nD).tc : Thread Cert.InProjRefIdeal.nD Cert.InProjRefIdeal.τ).loc Cert.InProjRefIdeal.main_arg8))
      ∧ m ((c.tc : Thread Cert.InProjIdeal.nD Cert.InProjIdeal.τ).loc Cert.InProjIdeal.main_arg9) = Layout.block ⟨2, ![128, 512]⟩ ⟨2, ![1024, 512]⟩ 0 8 c (m' (((0 : Dev Cert.InProjRefIdeal.nD).tc : Thread Cert.InProjRefIdeal.nD Cert.InProjRefIdeal.τ).loc Cert.InProjRefIdeal.main_arg9))
      ∧ m ((c.tc : Thread Cert.InProjIdeal.nD Cert.InProjIdeal.τ).loc Cert.InProjIdeal.main_arg10) = Layout.block ⟨2, ![352, 1024]⟩ ⟨2, ![2816, 1024]⟩ 0 8 c (m' (((0 : Dev Cert.InProjRefIdeal.nD).tc : Thread Cert.InProjRefIdeal.nD Cert.InProjRefIdeal.τ).loc Cert.InProjRefIdeal.main_arg10))) →
    ∃ (v0 : Buf (Elt Ideal) (((0 : Dev Cert.InProjRefIdeal.nD).tc : Thread Cert.InProjRefIdeal.nD Cert.InProjRefIdeal.τ).loc Cert.InProjRefIdeal.main_v5)) (v1 : Buf (Elt Ideal) (((0 : Dev Cert.InProjRefIdeal.nD).tc : Thread Cert.InProjRefIdeal.nD Cert.InProjRefIdeal.τ).loc Cert.InProjRefIdeal.main_arg5)) (v2 : Buf (Elt Ideal) (((0 : Dev Cert.InProjRefIdeal.nD).tc : Thread Cert.InProjRefIdeal.nD Cert.InProjRefIdeal.τ).loc Cert.InProjRefIdeal.main_arg6)) (v3 : Buf (Elt Ideal) (((0 : Dev Cert.InProjRefIdeal.nD).tc : Thread Cert.InProjRefIdeal.nD Cert.InProjRefIdeal.τ).loc Cert.InProjRefIdeal.main_arg7)) (v4 : Buf (Elt Ideal) (((0 : Dev Cert.InProjRefIdeal.nD).tc : Thread Cert.InProjRefIdeal.nD Cert.InProjRefIdeal.τ).loc Cert.InProjRefIdeal.main_arg8)) (v5 : Buf (Elt Ideal) (((0 : Dev Cert.InProjRefIdeal.nD).tc : Thread Cert.InProjRefIdeal.nD Cert.InProjRefIdeal.τ).loc Cert.InProjRefIdeal.main_arg9)) (v6 : Buf (Elt Ideal) (((0 : Dev Cert.InProjRefIdeal.nD).tc : Thread Cert.InProjRefIdeal.nD Cert.InProjRefIdeal.τ).loc Cert.InProjRefIdeal.main_arg10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_3) = Layout.block ⟨2, ![8192, 3072]⟩ ⟨2, ![65536, 3072]⟩ 0 8 c v0
          ∧ r.2.mem ((c.tc : Thread Cert.InProjIdeal.nD Cert.InProjIdeal.τ).loc Cert.InProjIdeal.main_v1_4) = v1
          ∧ r.2.mem ((c.tc : Thread Cert.InProjIdeal.nD Cert.InProjIdeal.τ).loc Cert.InProjIdeal.main_v1_5) = v2
          ∧ r.2.mem ((c.tc : Thread Cert.InProjIdeal.nD Cert.InProjIdeal.τ).loc Cert.InProjIdeal.main_v1_6) = v3
          ∧ r.2.mem ((c.tc : Thread Cert.InProjIdeal.nD Cert.InProjIdeal.τ).loc Cert.InProjIdeal.main_v1_7) = v4
          ∧ r.2.mem ((c.tc : Thread Cert.InProjIdeal.nD Cert.InProjIdeal.τ).loc Cert.InProjIdeal.main_v1_8) = v5
          ∧ r.2.mem ((c.tc : Thread Cert.InProjIdeal.nD Cert.InProjIdeal.τ).loc Cert.InProjIdeal.main_v1_9) = v6
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r =>
          r.2.mem (((0 : Dev Cert.InProjRefIdeal.nD).tc : Thread Cert.InProjRefIdeal.nD Cert.InProjRefIdeal.τ).loc Cert.InProjRefIdeal.main_v5) = v0
          ∧ r.2.mem (((0 : Dev Cert.InProjRefIdeal.nD).tc : Thread Cert.InProjRefIdeal.nD Cert.InProjRefIdeal.τ).loc Cert.InProjRefIdeal.main_arg5) = v1
          ∧ r.2.mem (((0 : Dev Cert.InProjRefIdeal.nD).tc : Thread Cert.InProjRefIdeal.nD Cert.InProjRefIdeal.τ).loc Cert.InProjRefIdeal.main_arg6) = v2
          ∧ r.2.mem (((0 : Dev Cert.InProjRefIdeal.nD).tc : Thread Cert.InProjRefIdeal.nD Cert.InProjRefIdeal.τ).loc Cert.InProjRefIdeal.main_arg7) = v3
          ∧ r.2.mem (((0 : Dev Cert.InProjRefIdeal.nD).tc : Thread Cert.InProjRefIdeal.nD Cert.InProjRefIdeal.τ).loc Cert.InProjRefIdeal.main_arg8) = v4
          ∧ r.2.mem (((0 : Dev Cert.InProjRefIdeal.nD).tc : Thread Cert.InProjRefIdeal.nD Cert.InProjRefIdeal.τ).loc Cert.InProjRefIdeal.main_arg9) = v5
          ∧ r.2.mem (((0 : Dev Cert.InProjRefIdeal.nD).tc : Thread Cert.InProjRefIdeal.nD Cert.InProjRefIdeal.τ).loc Cert.InProjRefIdeal.main_arg10) = v6
          ∧ r.2.mem (((0 : Dev Cert.InProjRefIdeal.nD).tc : Thread Cert.InProjRefIdeal.nD Cert.InProjRefIdeal.τ).loc Cert.InProjRefIdeal.main_arg0) = m' (((0 : Dev Cert.InProjRefIdeal.nD).tc : Thread Cert.InProjRefIdeal.nD Cert.InProjRefIdeal.τ).loc Cert.InProjRefIdeal.main_arg0)
          ∧ r.2.mem (((0 : Dev Cert.InProjRefIdeal.nD).tc : Thread Cert.InProjRefIdeal.nD Cert.InProjRefIdeal.τ).loc Cert.InProjRefIdeal.main_arg1) = m' (((0 : Dev Cert.InProjRefIdeal.nD).tc : Thread Cert.InProjRefIdeal.nD Cert.InProjRefIdeal.τ).loc Cert.InProjRefIdeal.main_arg1)
          ∧ r.2.mem (((0 : Dev Cert.InProjRefIdeal.nD).tc : Thread Cert.InProjRefIdeal.nD Cert.InProjRefIdeal.τ).loc Cert.InProjRefIdeal.main_arg2) = m' (((0 : Dev Cert.InProjRefIdeal.nD).tc : Thread Cert.InProjRefIdeal.nD Cert.InProjRefIdeal.τ).loc Cert.InProjRefIdeal.main_arg2)
          ∧ r.2.mem (((0 : Dev Cert.InProjRefIdeal.nD).tc : Thread Cert.InProjRefIdeal.nD Cert.InProjRefIdeal.τ).loc Cert.InProjRefIdeal.main_arg3) = m' (((0 : Dev Cert.InProjRefIdeal.nD).tc : Thread Cert.InProjRefIdeal.nD Cert.InProjRefIdeal.τ).loc Cert.InProjRefIdeal.main_arg3)
          ∧ r.2.mem (((0 : Dev Cert.InProjRefIdeal.nD).tc : Thread Cert.InProjRefIdeal.nD Cert.InProjRefIdeal.τ).loc Cert.InProjRefIdeal.main_arg4) = m' (((0 : Dev Cert.InProjRefIdeal.nD).tc : Thread Cert.InProjRefIdeal.nD Cert.InProjRefIdeal.τ).loc Cert.InProjRefIdeal.main_arg4)
          ∧ r.2.mem (((0 : Dev Cert.InProjRefIdeal.nD).tc : Thread Cert.InProjRefIdeal.nD Cert.InProjRefIdeal.τ).loc Cert.InProjRefIdeal.main_arg5) = m' (((0 : Dev Cert.InProjRefIdeal.nD).tc : Thread Cert.InProjRefIdeal.nD Cert.InProjRefIdeal.τ).loc Cert.InProjRefIdeal.main_arg5)
          ∧ r.2.mem (((0 : Dev Cert.InProjRefIdeal.nD).tc : Thread Cert.InProjRefIdeal.nD Cert.InProjRefIdeal.τ).loc Cert.InProjRefIdeal.main_arg6) = m' (((0 : Dev Cert.InProjRefIdeal.nD).tc : Thread Cert.InProjRefIdeal.nD Cert.InProjRefIdeal.τ).loc Cert.InProjRefIdeal.main_arg6)
          ∧ r.2.mem (((0 : Dev Cert.InProjRefIdeal.nD).tc : Thread Cert.InProjRefIdeal.nD Cert.InProjRefIdeal.τ).loc Cert.InProjRefIdeal.main_arg7) = m' (((0 : Dev Cert.InProjRefIdeal.nD).tc : Thread Cert.InProjRefIdeal.nD Cert.InProjRefIdeal.τ).loc Cert.InProjRefIdeal.main_arg7)
          ∧ r.2.mem (((0 : Dev Cert.InProjRefIdeal.nD).tc : Thread Cert.InProjRefIdeal.nD Cert.InProjRefIdeal.τ).loc Cert.InProjRefIdeal.main_arg8) = m' (((0 : Dev Cert.InProjRefIdeal.nD).tc : Thread Cert.InProjRefIdeal.nD Cert.InProjRefIdeal.τ).loc Cert.InProjRefIdeal.main_arg8)
          ∧ r.2.mem (((0 : Dev Cert.InProjRefIdeal.nD).tc : Thread Cert.InProjRefIdeal.nD Cert.InProjRefIdeal.τ).loc Cert.InProjRefIdeal.main_arg9) = m' (((0 : Dev Cert.InProjRefIdeal.nD).tc : Thread Cert.InProjRefIdeal.nD Cert.InProjRefIdeal.τ).loc Cert.InProjRefIdeal.main_arg9)
          ∧ r.2.mem (((0 : Dev Cert.InProjRefIdeal.nD).tc : Thread Cert.InProjRefIdeal.nD Cert.InProjRefIdeal.τ).loc Cert.InProjRefIdeal.main_arg10) = m' (((0 : Dev Cert.InProjRefIdeal.nD).tc : Thread Cert.InProjRefIdeal.nD Cert.InProjRefIdeal.τ).loc Cert.InProjRefIdeal.main_arg10))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v23) = v0 c
          ∧ r.2.mem ((c.tc : Thread Cert.AdamProjRefIdeal.nD Cert.AdamProjRefIdeal.τ).loc Cert.AdamProjRefIdeal.main_v4) = v1 c
          ∧ r.2.mem ((c.tc : Thread Cert.AdamProjRefIdeal.nD Cert.AdamProjRefIdeal.τ).loc Cert.AdamProjRefIdeal.main_v10) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v2) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1))

def preserves_SumProj_SumProjIdeal : Prop :=
  True

def algebraic_SumProjIdeal_SumProjRefIdeal [hSumProjIdeal : Cert.SumProjIdeal.Facts] [hSumProjRefIdeal : Cert.SumProjRefIdeal.Facts] : Prop :=
  ∀ (m : (ℓ : Loc Cert.SumProjIdeal.nD Cert.SumProjIdeal.τ Cert.SumProjIdeal.sig) → Buf (Elt Ideal) ℓ) (g : Dev Cert.SumProjIdeal.nD → PrngReg)
    (m' : (ℓ : Loc Cert.SumProjRefIdeal.nD Cert.SumProjRefIdeal.τ Cert.SumProjRefIdeal.sig) → Buf (Elt Ideal) ℓ) (g' : Dev Cert.SumProjRefIdeal.nD → PrngReg), Pre_SumProjIdeal m →
    (∀ c : Dev Cert.SumProjIdeal.nD,
      m' ((c.tc : Thread Cert.SumProjRefIdeal.nD Cert.SumProjRefIdeal.τ).loc Cert.SumProjRefIdeal.main_arg0) = m ((c.tc : Thread Cert.SumProjIdeal.nD Cert.SumProjIdeal.τ).loc Cert.SumProjIdeal.main_arg0)
      ∧ m' ((c.tc : Thread Cert.SumProjRefIdeal.nD Cert.SumProjRefIdeal.τ).loc Cert.SumProjRefIdeal.main_arg1) = m ((c.tc : Thread Cert.SumProjIdeal.nD Cert.SumProjIdeal.τ).loc Cert.SumProjIdeal.main_arg1)) →
    ∃ (v0 : (c : Dev Cert.SumProjIdeal.nD) → Buf (Elt Ideal) ((c.tc : Thread Cert.SumProjIdeal.nD Cert.SumProjIdeal.τ).loc Cert.SumProjIdeal.main_v0)),
      θ_run (Cert.SumProjIdeal.defs (F := Ideal)) (onTc (τ := Cert.SumProjIdeal.τ) (Cert.SumProjIdeal.main (F := Ideal))) ⟨m, fun _ => 0, g⟩ (fun r => ∀ c : Dev Cert.SumProjIdeal.nD,
          r.2.mem ((c.tc : Thread Cert.SumProjIdeal.nD Cert.SumProjIdeal.τ).loc Cert.SumProjIdeal.main_v0) = v0 c
          ∧ r.2.mem ((c.tc : Thread Cert.SumProjIdeal.nD Cert.SumProjIdeal.τ).loc Cert.SumProjIdeal.main_arg0) = m ((c.tc : Thread Cert.SumProjIdeal.nD Cert.SumProjIdeal.τ).loc Cert.SumProjIdeal.main_arg0)
          ∧ r.2.mem ((c.tc : Thread Cert.SumProjIdeal.nD Cert.SumProjIdeal.τ).loc Cert.SumProjIdeal.main_arg1) = m ((c.tc : Thread Cert.SumProjIdeal.nD Cert.SumProjIdeal.τ).loc Cert.SumProjIdeal.main_arg1))
      ∧ θ_run (Cert.SumProjRefIdeal.defs (F := Ideal)) (onTc (τ := Cert.SumProjRefIdeal.τ) (Cert.SumProjRefIdeal.main (F := Ideal))) ⟨m', fun _ => 0, g'⟩ (fun r => ∀ c : Dev Cert.SumProjRefIdeal.nD,
          r.2.mem ((c.tc : Thread Cert.SumProjRefIdeal.nD Cert.SumProjRefIdeal.τ).loc Cert.SumProjRefIdeal.main_v2) = v0 c
          ∧ r.2.mem ((c.tc : Thread Cert.SumProjRefIdeal.nD Cert.SumProjRefIdeal.τ).loc Cert.SumProjRefIdeal.main_arg0) = m' ((c.tc : Thread Cert.SumProjRefIdeal.nD Cert.SumProjRefIdeal.τ).loc Cert.SumProjRefIdeal.main_arg0)
          ∧ r.2.mem ((c.tc : Thread Cert.SumProjRefIdeal.nD Cert.SumProjRefIdeal.τ).loc Cert.SumProjRefIdeal.main_arg1) = m' ((c.tc : Thread Cert.SumProjRefIdeal.nD Cert.SumProjRefIdeal.τ).loc Cert.SumProjRefIdeal.main_arg1))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v2) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1))

def preserves_SumFfn_SumFfnIdeal : Prop :=
  True

def algebraic_SumFfnIdeal_SumFfnRefIdeal [hSumFfnIdeal : Cert.SumFfnIdeal.Facts] [hSumFfnRefIdeal : Cert.SumFfnRefIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg)
    (m' : (ℓ : Loc Cert.SumFfnRefIdeal.nD Cert.SumFfnRefIdeal.τ Cert.SumFfnRefIdeal.sig) → Buf (Elt Ideal) ℓ) (g' : Dev Cert.SumFfnRefIdeal.nD → PrngReg), Pre_SumFfnIdeal m →
    (∀ c : Dev Cert.SumFfnIdeal.nD,
      m' ((c.tc : Thread Cert.SumFfnRefIdeal.nD Cert.SumFfnRefIdeal.τ).loc Cert.SumFfnRefIdeal.main_arg0) = m ((c.tc : Thread Cert.SumFfnIdeal.nD Cert.SumFfnIdeal.τ).loc Cert.SumFfnIdeal.main_arg0)
      ∧ m' ((c.tc : Thread Cert.SumFfnRefIdeal.nD Cert.SumFfnRefIdeal.τ).loc Cert.SumFfnRefIdeal.main_arg1) = m ((c.tc : Thread Cert.SumFfnIdeal.nD Cert.SumFfnIdeal.τ).loc Cert.SumFfnIdeal.main_arg1)) →
    ∃ (v0 : (c : Dev Cert.SumFfnIdeal.nD) → Buf (Elt Ideal) ((c.tc : Thread Cert.SumFfnIdeal.nD Cert.SumFfnIdeal.τ).loc Cert.SumFfnIdeal.main_v0)),
      θ_run (Cert.SumFfnIdeal.defs (F := Ideal)) (onTc (τ := Cert.SumFfnIdeal.τ) (Cert.SumFfnIdeal.main (F := Ideal))) ⟨m, fun _ => 0, g⟩ (fun r => ∀ c : Dev Cert.SumFfnIdeal.nD,
          r.2.mem ((c.tc : Thread Cert.SumFfnIdeal.nD Cert.SumFfnIdeal.τ).loc Cert.SumFfnIdeal.main_v0) = v0 c
          ∧ r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0)
          ∧ r.2.mem ((c.tc : Thread Cert.SumFfnIdeal.nD Cert.SumFfnIdeal.τ).loc Cert.SumFfnIdeal.main_arg1) = m ((c.tc : Thread Cert.SumFfnIdeal.nD Cert.SumFfnIdeal.τ).loc Cert.SumFfnIdeal.main_arg1))
      ∧ θ_run (Cert.SumFfnRefIdeal.defs (F := Ideal)) (onTc (τ := Cert.SumFfnRefIdeal.τ) (Cert.SumFfnRefIdeal.main (F := Ideal))) ⟨m', fun _ => 0, g'⟩ (fun r => ∀ c : Dev Cert.SumFfnRefIdeal.nD,
          r.2.mem ((c.tc : Thread Cert.SumFfnRefIdeal.nD Cert.SumFfnRefIdeal.τ).loc Cert.SumFfnRefIdeal.main_v2) = v0 c
          ∧ r.2.mem ((c.tc : Thread Cert.SumFfnRefIdeal.nD Cert.SumFfnRefIdeal.τ).loc Cert.SumFfnRefIdeal.main_arg0) = m' ((c.tc : Thread Cert.SumFfnRefIdeal.nD Cert.SumFfnRefIdeal.τ).loc Cert.SumFfnRefIdeal.main_arg0)
          ∧ r.2.mem ((c.tc : Thread Cert.SumFfnRefIdeal.nD Cert.SumFfnRefIdeal.τ).loc Cert.SumFfnRefIdeal.main_arg1) = m' ((c.tc : Thread Cert.SumFfnRefIdeal.nD Cert.SumFfnRefIdeal.τ).loc Cert.SumFfnRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)) (v4 : (c : Dev Cert.SmallIdeal.nD) → Buf (Elt Ideal) ((c.tc : Thread Cert.SmallIdeal.nD Cert.SmallIdeal.τ).loc Cert.SmallIdeal.main_v0_4)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_v0_4) = v4 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v4) = v0 c
          ∧ r.2.mem ((c.tc : Thread Cert.SmallRefIdeal.nD Cert.SmallRefIdeal.τ).loc Cert.SmallRefIdeal.main_v28) = v1 c
          ∧ r.2.mem ((c.tc : Thread Cert.SmallRefIdeal.nD Cert.SmallRefIdeal.τ).loc Cert.SmallRefIdeal.main_v9) = v2 c
          ∧ r.2.mem ((c.tc : Thread Cert.SmallRefIdeal.nD Cert.SmallRefIdeal.τ).loc Cert.SmallRefIdeal.main_v15) = v3 c
          ∧ r.2.mem ((c.tc : Thread Cert.SmallRefIdeal.nD Cert.SmallRefIdeal.τ).loc Cert.SmallRefIdeal.main_v31) = v4 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4))

def preserves_GradFfn_GradFfnIdeal : Prop :=
  True

def algebraic_GradFfnIdeal_GradFfnRefIdeal [hGradFfnIdeal : Cert.GradFfnIdeal.Facts] [hGradFfnRefIdeal : Cert.GradFfnRefIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradFfnRefIdeal.nD Cert.GradFfnRefIdeal.τ Cert.GradFfnRefIdeal.sig) → Buf (Elt Ideal) ℓ) (g' : Dev Cert.GradFfnRefIdeal.nD → PrngReg), Pre_GradFfnIdeal m →
    (∀ c : Dev Cert.GradFfnIdeal.nD,
      m' ((c.tc : Thread Cert.GradFfnRefIdeal.nD Cert.GradFfnRefIdeal.τ).loc Cert.GradFfnRefIdeal.main_arg0) = m ((c.tc : Thread Cert.GradFfnIdeal.nD Cert.GradFfnIdeal.τ).loc Cert.GradFfnIdeal.main_arg0)
      ∧ m' ((c.tc : Thread Cert.GradFfnRefIdeal.nD Cert.GradFfnRefIdeal.τ).loc Cert.GradFfnRefIdeal.main_arg1) = m ((c.tc : Thread Cert.GradFfnIdeal.nD Cert.GradFfnIdeal.τ).loc Cert.GradFfnIdeal.main_arg1)) →
    ∃ (v0 : (c : Dev Cert.GradFfnIdeal.nD) → Buf (Elt Ideal) ((c.tc : Thread Cert.GradFfnIdeal.nD Cert.GradFfnIdeal.τ).loc Cert.GradFfnIdeal.main_v0)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v0) = v0 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ θ_run (Cert.GradFfnRefIdeal.defs (F := Ideal)) (onTc (τ := Cert.GradFfnRefIdeal.τ) (Cert.GradFfnRefIdeal.main (F := Ideal))) ⟨m', fun _ => 0, g'⟩ (fun r => ∀ c : Dev Cert.GradFfnRefIdeal.nD,
          r.2.mem ((c.tc : Thread Cert.GradFfnRefIdeal.nD Cert.GradFfnRefIdeal.τ).loc Cert.GradFfnRefIdeal.main_v3) = v0 c
          ∧ r.2.mem ((c.tc : Thread Cert.GradFfnRefIdeal.nD Cert.GradFfnRefIdeal.τ).loc Cert.GradFfnRefIdeal.main_arg0) = m' ((c.tc : Thread Cert.GradFfnRefIdeal.nD Cert.GradFfnRefIdeal.τ).loc Cert.GradFfnRefIdeal.main_arg0)
          ∧ r.2.mem ((c.tc : Thread Cert.GradFfnRefIdeal.nD Cert.GradFfnRefIdeal.τ).loc Cert.GradFfnRefIdeal.main_arg1) = m' ((c.tc : Thread Cert.GradFfnRefIdeal.nD Cert.GradFfnRefIdeal.τ).loc Cert.GradFfnRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v3) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradProj_GradProjIdeal : Prop :=
  True

def algebraic_GradProjIdeal_GradProjRefIdeal [hGradProjIdeal : Cert.GradProjIdeal.Facts] [hGradProjRefIdeal : Cert.GradProjRefIdeal.Facts] : Prop :=
  ∀ (m : (ℓ : Loc Cert.GradProjIdeal.nD Cert.GradProjIdeal.τ Cert.GradProjIdeal.sig) → Buf (Elt Ideal) ℓ) (g : Dev Cert.GradProjIdeal.nD → PrngReg)
    (m' : (ℓ : Loc Cert.GradProjRefIdeal.nD Cert.GradProjRefIdeal.τ Cert.GradProjRefIdeal.sig) → Buf (Elt Ideal) ℓ) (g' : Dev Cert.GradProjRefIdeal.nD → PrngReg), Pre_GradProjIdeal m →
    (∀ c : Dev Cert.GradProjIdeal.nD,
      m' ((c.tc : Thread Cert.GradProjRefIdeal.nD Cert.GradProjRefIdeal.τ).loc Cert.GradProjRefIdeal.main_arg0) = m ((c.tc : Thread Cert.GradProjIdeal.nD Cert.GradProjIdeal.τ).loc Cert.GradProjIdeal.main_arg0)
      ∧ m' ((c.tc : Thread Cert.GradProjRefIdeal.nD Cert.GradProjRefIdeal.τ).loc Cert.GradProjRefIdeal.main_arg1) = m ((c.tc : Thread Cert.GradProjIdeal.nD Cert.GradProjIdeal.τ).loc Cert.GradProjIdeal.main_arg1)) →
    ∃ (v0 : (c : Dev Cert.GradProjIdeal.nD) → Buf (Elt Ideal) ((c.tc : Thread Cert.GradProjIdeal.nD Cert.GradProjIdeal.τ).loc Cert.GradProjIdeal.main_v0)),
      θ_run (Cert.GradProjIdeal.defs (F := Ideal)) (onTc (τ := Cert.GradProjIdeal.τ) (Cert.GradProjIdeal.main (F := Ideal))) ⟨m, fun _ => 0, g⟩ (fun r => ∀ c : Dev Cert.GradProjIdeal.nD,
          r.2.mem ((c.tc : Thread Cert.GradProjIdeal.nD Cert.GradProjIdeal.τ).loc Cert.GradProjIdeal.main_v0) = v0 c
          ∧ r.2.mem ((c.tc : Thread Cert.GradProjIdeal.nD Cert.GradProjIdeal.τ).loc Cert.GradProjIdeal.main_arg0) = m ((c.tc : Thread Cert.GradProjIdeal.nD Cert.GradProjIdeal.τ).loc Cert.GradProjIdeal.main_arg0)
          ∧ r.2.mem ((c.tc : Thread Cert.GradProjIdeal.nD Cert.GradProjIdeal.τ).loc Cert.GradProjIdeal.main_arg1) = m ((c.tc : Thread Cert.GradProjIdeal.nD Cert.GradProjIdeal.τ).loc Cert.GradProjIdeal.main_arg1))
      ∧ θ_run (Cert.GradProjRefIdeal.defs (F := Ideal)) (onTc (τ := Cert.GradProjRefIdeal.τ) (Cert.GradProjRefIdeal.main (F := Ideal))) ⟨m', fun _ => 0, g'⟩ (fun r => ∀ c : Dev Cert.GradProjRefIdeal.nD,
          r.2.mem ((c.tc : Thread Cert.GradProjRefIdeal.nD Cert.GradProjRefIdeal.τ).loc Cert.GradProjRefIdeal.main_v3) = v0 c
          ∧ r.2.mem ((c.tc : Thread Cert.GradProjRefIdeal.nD Cert.GradProjRefIdeal.τ).loc Cert.GradProjRefIdeal.main_arg0) = m' ((c.tc : Thread Cert.GradProjRefIdeal.nD Cert.GradProjRefIdeal.τ).loc Cert.GradProjRefIdeal.main_arg0)
          ∧ r.2.mem ((c.tc : Thread Cert.GradProjRefIdeal.nD Cert.GradProjRefIdeal.τ).loc Cert.GradProjRefIdeal.main_arg1) = m' ((c.tc : Thread Cert.GradProjRefIdeal.nD Cert.GradProjRefIdeal.τ).loc Cert.GradProjRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v15) = v0 c
          ∧ r.2.mem ((c.tc : Thread Cert.FfnRefIdeal.nD Cert.FfnRefIdeal.τ).loc Cert.FfnRefIdeal.main_v16) = v1 c
          ∧ r.2.mem ((c.tc : Thread Cert.FfnRefIdeal.nD Cert.FfnRefIdeal.τ).loc Cert.FfnRefIdeal.main_v18) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v30) = v0 c
          ∧ r.2.mem ((c.tc : Thread Cert.LossRefIdeal.nD Cert.LossRefIdeal.τ).loc Cert.LossRefIdeal.main_v31) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_v39) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_FfnBwd_FfnBwdIdeal : Prop :=
  True

def algebraic_FfnBwdIdeal_FfnBwdRefIdeal [hFfnBwdIdeal : Cert.FfnBwdIdeal.Facts] [hFfnBwdRefIdeal : Cert.FfnBwdRefIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)
      ∧ m' ((c.tc : Thread Cert.FfnBwdRefIdeal.nD Cert.FfnBwdRefIdeal.τ).loc Cert.FfnBwdRefIdeal.main_arg7) = m ((c.tc : Thread Cert.FfnBwdIdeal.nD Cert.FfnBwdIdeal.τ).loc Cert.FfnBwdIdeal.main_arg7)
      ∧ m' ((c.tc : Thread Cert.FfnBwdRefIdeal.nD Cert.FfnBwdRefIdeal.τ).loc Cert.FfnBwdRefIdeal.main_arg8) = m ((c.tc : Thread Cert.FfnBwdIdeal.nD Cert.FfnBwdIdeal.τ).loc Cert.FfnBwdIdeal.main_arg8)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)) (v4 : (c : Dev Cert.FfnBwdIdeal.nD) → Buf (Elt Ideal) ((c.tc : Thread Cert.FfnBwdIdeal.nD Cert.FfnBwdIdeal.τ).loc Cert.FfnBwdIdeal.main_v0_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_v0_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
          ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v50) = v0 c
          ∧ r.2.mem ((c.tc : Thread Cert.FfnBwdRefIdeal.nD Cert.FfnBwdRefIdeal.τ).loc Cert.FfnBwdRefIdeal.main_v51) = v1 c
          ∧ r.2.mem ((c.tc : Thread Cert.FfnBwdRefIdeal.nD Cert.FfnBwdRefIdeal.τ).loc Cert.FfnBwdRefIdeal.main_v49) = v2 c
          ∧ r.2.mem ((c.tc : Thread Cert.FfnBwdRefIdeal.nD Cert.FfnBwdRefIdeal.τ).loc Cert.FfnBwdRefIdeal.main_v52) = v3 c
          ∧ r.2.mem ((c.tc : Thread Cert.FfnBwdRefIdeal.nD Cert.FfnBwdRefIdeal.τ).loc Cert.FfnBwdRefIdeal.main_v55) = v4 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7)
          ∧ r.2.mem ((c.tc : Thread Cert.FfnBwdRefIdeal.nD Cert.FfnBwdRefIdeal.τ).loc Cert.FfnBwdRefIdeal.main_arg8) = m' ((c.tc : Thread Cert.FfnBwdRefIdeal.nD Cert.FfnBwdRefIdeal.τ).loc Cert.FfnBwdRefIdeal.main_arg8))

def Claim : Prop :=
  ∃ (hPair : Cert.Pair.Facts) (hPairIdeal : Cert.PairIdeal.Facts) (hPairRefIdeal : Cert.PairRefIdeal.Facts) (hPairRef : Cert.PairRef.Facts) (hInBwd : Cert.InBwd.Facts) (hInBwdIdeal : Cert.InBwdIdeal.Facts) (hInBwdRefIdeal : Cert.InBwdRefIdeal.Facts) (hNorm : Cert.Norm.Facts) (hNormIdeal : Cert.NormIdeal.Facts) (hNormRefIdeal : Cert.NormRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hAdamIn : Cert.AdamIn.Facts) (hAdamInIdeal : Cert.AdamInIdeal.Facts) (hAdamInRefIdeal : Cert.AdamInRefIdeal.Facts) (hAdamProj : Cert.AdamProj.Facts) (hAdamProjIdeal : Cert.AdamProjIdeal.Facts) (hAdamProjRefIdeal : Cert.AdamProjRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hSumIn : Cert.SumIn.Facts) (hSumInIdeal : Cert.SumInIdeal.Facts) (hSumInRefIdeal : Cert.SumInRefIdeal.Facts) (hSumProj : Cert.SumProj.Facts) (hSumProjIdeal : Cert.SumProjIdeal.Facts) (hSumProjRefIdeal : Cert.SumProjRefIdeal.Facts) (hSumOut : Cert.SumOut.Facts) (hSumOutIdeal : Cert.SumOutIdeal.Facts) (hSumOutRefIdeal : Cert.SumOutRefIdeal.Facts) (hSumFfn : Cert.SumFfn.Facts) (hSumFfnIdeal : Cert.SumFfnIdeal.Facts) (hSumFfnRefIdeal : Cert.SumFfnRefIdeal.Facts) (hSmall : Cert.Small.Facts) (hSmallIdeal : Cert.SmallIdeal.Facts) (hSmallRefIdeal : Cert.SmallRefIdeal.Facts) (hGradFfn : Cert.GradFfn.Facts) (hGradFfnIdeal : Cert.GradFfnIdeal.Facts) (hGradFfnRefIdeal : Cert.GradFfnRefIdeal.Facts) (hGradOut : Cert.GradOut.Facts) (hGradOutIdeal : Cert.GradOutIdeal.Facts) (hGradOutRefIdeal : Cert.GradOutRefIdeal.Facts) (hGradProj : Cert.GradProj.Facts) (hGradProjIdeal : Cert.GradProjIdeal.Facts) (hGradProjRefIdeal : Cert.GradProjRefIdeal.Facts) (hFfn : Cert.Ffn.Facts) (hFfnIdeal : Cert.FfnIdeal.Facts) (hFfnRefIdeal : Cert.FfnRefIdeal.Facts) (hLoss : Cert.Loss.Facts) (hLossIdeal : Cert.LossIdeal.Facts) (hLossRefIdeal : Cert.LossRefIdeal.Facts) (hFfnBwd : Cert.FfnBwd.Facts) (hFfnBwdIdeal : Cert.FfnBwdIdeal.Facts) (hFfnBwdRefIdeal : Cert.FfnBwdRefIdeal.Facts),
    quiescent_Pair (hPair := hPair)
    ∧ quiescent_PairIdeal (hPairIdeal := hPairIdeal)
    ∧ quiescent_PairRefIdeal (hPairRefIdeal := hPairRefIdeal)
    ∧ quiescent_PairRef (hPairRef := hPairRef)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_Norm (hNorm := hNorm)
    ∧ quiescent_NormIdeal (hNormIdeal := hNormIdeal)
    ∧ quiescent_NormRefIdeal (hNormRefIdeal := hNormRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumProj (hSumProj := hSumProj)
    ∧ quiescent_SumProjIdeal (hSumProjIdeal := hSumProjIdeal)
    ∧ quiescent_SumProjRefIdeal (hSumProjRefIdeal := hSumProjRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumFfn (hSumFfn := hSumFfn)
    ∧ quiescent_SumFfnIdeal (hSumFfnIdeal := hSumFfnIdeal)
    ∧ quiescent_SumFfnRefIdeal (hSumFfnRefIdeal := hSumFfnRefIdeal)
    ∧ quiescent_Small (hSmall := hSmall)
    ∧ quiescent_SmallIdeal (hSmallIdeal := hSmallIdeal)
    ∧ quiescent_SmallRefIdeal (hSmallRefIdeal := hSmallRefIdeal)
    ∧ quiescent_GradFfn (hGradFfn := hGradFfn)
    ∧ quiescent_GradFfnIdeal (hGradFfnIdeal := hGradFfnIdeal)
    ∧ quiescent_GradFfnRefIdeal (hGradFfnRefIdeal := hGradFfnRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradProj (hGradProj := hGradProj)
    ∧ quiescent_GradProjIdeal (hGradProjIdeal := hGradProjIdeal)
    ∧ quiescent_GradProjRefIdeal (hGradProjRefIdeal := hGradProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Loss (hLoss := hLoss)
    ∧ quiescent_LossIdeal (hLossIdeal := hLossIdeal)
    ∧ quiescent_LossRefIdeal (hLossRefIdeal := hLossRefIdeal)
    ∧ quiescent_FfnBwd (hFfnBwd := hFfnBwd)
    ∧ quiescent_FfnBwdIdeal (hFfnBwdIdeal := hFfnBwdIdeal)
    ∧ quiescent_FfnBwdRefIdeal (hFfnBwdRefIdeal := hFfnBwdRefIdeal)
    ∧ preserves_Pair_PairIdeal
    ∧ algebraic_PairIdeal_PairRefIdeal (hPairIdeal := hPairIdeal) (hPairRefIdeal := hPairRefIdeal)
    ∧ bitexact_Pair_PairRef (hPair := hPair) (hPairRef := hPairRef)
    ∧ preserves_InBwd_InBwdIdeal
    ∧ algebraic_InBwdIdeal_InBwdRefIdeal (hInBwdIdeal := hInBwdIdeal) (hInBwdRefIdeal := hInBwdRefIdeal)
    ∧ preserves_Norm_NormIdeal
    ∧ algebraic_NormIdeal_NormRefIdeal (hNormIdeal := hNormIdeal) (hNormRefIdeal := hNormRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_AdamIn_AdamInIdeal
    ∧ algebraic_AdamInIdeal_AdamInRefIdeal (hAdamInIdeal := hAdamInIdeal) (hAdamInRefIdeal := hAdamInRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_SumIn_SumInIdeal
    ∧ algebraic_SumInIdeal_SumInRefIdeal (hSumInIdeal := hSumInIdeal) (hSumInRefIdeal := hSumInRefIdeal)
    ∧ preserves_SumProj_SumProjIdeal
    ∧ algebraic_SumProjIdeal_SumProjRefIdeal (hSumProjIdeal := hSumProjIdeal) (hSumProjRefIdeal := hSumProjRefIdeal)
    ∧ preserves_SumOut_SumOutIdeal
    ∧ algebraic_SumOutIdeal_SumOutRefIdeal (hSumOutIdeal := hSumOutIdeal) (hSumOutRefIdeal := hSumOutRefIdeal)
    ∧ preserves_SumFfn_SumFfnIdeal
    ∧ algebraic_SumFfnIdeal_SumFfnRefIdeal (hSumFfnIdeal := hSumFfnIdeal) (hSumFfnRefIdeal := hSumFfnRefIdeal)
    ∧ preserves_Small_SmallIdeal
    ∧ algebraic_SmallIdeal_SmallRefIdeal (hSmallIdeal := hSmallIdeal) (hSmallRefIdeal := hSmallRefIdeal)
    ∧ preserves_GradFfn_GradFfnIdeal
    ∧ algebraic_GradFfnIdeal_GradFfnRefIdeal (hGradFfnIdeal := hGradFfnIdeal) (hGradFfnRefIdeal := hGradFfnRefIdeal)
    ∧ preserves_GradOut_GradOutIdeal
    ∧ algebraic_GradOutIdeal_GradOutRefIdeal (hGradOutIdeal := hGradOutIdeal) (hGradOutRefIdeal := hGradOutRefIdeal)
    ∧ preserves_GradProj_GradProjIdeal
    ∧ algebraic_GradProjIdeal_GradProjRefIdeal (hGradProjIdeal := hGradProjIdeal) (hGradProjRefIdeal := hGradProjRefIdeal)
    ∧ preserves_Ffn_FfnIdeal
    ∧ algebraic_FfnIdeal_FfnRefIdeal (hFfnIdeal := hFfnIdeal) (hFfnRefIdeal := hFfnRefIdeal)
    ∧ preserves_Loss_LossIdeal
    ∧ algebraic_LossIdeal_LossRefIdeal (hLossIdeal := hLossIdeal) (hLossRefIdeal := hLossRefIdeal)
    ∧ preserves_FfnBwd_FfnBwdIdeal
    ∧ algebraic_FfnBwdIdeal_FfnBwdRefIdeal (hFfnBwdIdeal := hFfnBwdIdeal) (hFfnBwdRefIdeal := hFfnBwdRefIdeal)
-- ==== Pair.lean ====
abbrev S4x2x960x1024 : Shape := ⟨4, ![4, 2, 960, 1024]⟩
abbrev S4x960x1024 : Shape := ⟨3, ![4, 960, 1024]⟩
abbrev S1 : Shape := ⟨1, ![1]⟩
abbrev S_ : Shape := ⟨0, ![]⟩
abbrev S4x1x960x1024 : Shape := ⟨4, ![4, 1, 960, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x2x960x1024, .f32⟩
  | .hbm, ⟨1, _⟩ => ⟨S4x960x1024, .f32⟩
  | _, _ => ⟨S4x2x960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32_10 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_11 : BitVec 32 := 0#32
  let c0_i32_12 : BitVec 32 := 0#32
  ![0, v9.toNat, 0, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_9 : BitVec 32 := 1#32
  let v15 : BitVec 32 := Scalar.muli v10 c1_i32_9
  let v16 : BitVec 32 := Scalar.addi v14 v15
  v16.toNat
-- ==== PairRef.lean ====
abbrev S32x2x960x1024 : Shape := ⟨4, ![32, 2, 960, 1024]⟩
abbrev S4x2x4x2x960x1024 : Shape := ⟨6, ![4, 2, 4, 2, 960, 1024]⟩
abbrev S4x1x4x1x960x1024 : Shape := ⟨6, ![4, 1, 4, 1, 960, 1024]⟩
abbrev S4x4x960x1024 : Shape := ⟨4, ![4, 4, 960, 1024]⟩
abbrev S4x1x4x960x1024 : Shape := ⟨5, ![4, 1, 4, 960, 1024]⟩
abbrev S4x2x4x960x1024 : Shape := ⟨5, ![4, 2, 4, 960, 1024]⟩
abbrev S32x960x1024 : Shape := ⟨3, ![32, 960, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x2x960x1024, .f32⟩
  | .hbm, ⟨1, _⟩ => ⟨S4x2x4x2x960x1024, .f32⟩
  | .hbm, ⟨2, _⟩ => ⟨S4x1x4x1x960x1024, .f32⟩
  | .hbm, ⟨3, _⟩ => ⟨S4x4x960x1024, .f32⟩
  | .hbm, ⟨4, _⟩ => ⟨S4x1x4x1x960x1024, .f32⟩
  | .hbm, ⟨5, _⟩ => ⟨S4x4x960x1024, .f32⟩
  | .hbm, ⟨6, _⟩ => ⟨S4x1x4x960x1024, .f32⟩
  | .hbm, ⟨7, _⟩ => ⟨S4x1x4x960x1024, .f32⟩
  | .hbm, ⟨8, _⟩ => ⟨S4x2x4x960x1024, .f32⟩
  | .hbm, ⟨9, _⟩ => ⟨S32x960x1024, .f32⟩
  | _, _ => ⟨S32x2x960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== InBwd.lean ====
abbrev S8192x4608 : Shape := ⟨2, ![8192, 4608]⟩
abbrev S8192x3072 : Shape := ⟨2, ![8192, 3072]⟩
abbrev S7680x1024 : Shape := ⟨2, ![7680, 1024]⟩
abbrev S8192x1024 : Shape := ⟨2, ![8192, 1024]⟩
abbrev S1x1024 : Shape := ⟨2, ![1, 1024]⟩
abbrev S4x960x1024 : Shape := ⟨3, ![4, 960, 1024]⟩
abbrev S3x960x1024 : Shape := ⟨3, ![3, 960, 1024]⟩
abbrev S512x4608 : Shape := ⟨2, ![512, 4608]⟩
abbrev S512x3072 : Shape := ⟨2, ![512, 3072]⟩
abbrev S512x1024 : Shape := ⟨2, ![512, 1024]⟩
abbrev S1x3 : Shape := ⟨2, ![1, 3]⟩
abbrev S1x1 : Shape := ⟨2, ![1, 1]⟩
abbrev S_ : Shape := ⟨0, ![]⟩
abbrev S1x960x1024 : Shape := ⟨3, ![1, 960, 1024]⟩
abbrev S960x1024 : Shape := ⟨2, ![960, 1024]⟩
abbrev S4608x1024 : Shape := ⟨2, ![4608, 1024]⟩
abbrev S3072x1024 : Shape := ⟨2, ![3072, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x4608, .bf16⟩
  | .hbm, ⟨1, _⟩ => ⟨S8192x3072, .bf16⟩
  | .hbm, ⟨2, _⟩ => ⟨S7680x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S4x960x1024, .bf16⟩
  | .hbm, ⟨7, _⟩ => ⟨S8192x1024, .f32⟩
  | .hbm, ⟨8, _⟩ => ⟨S1x1024, .f32⟩
  | .hbm, ⟨9, _⟩ => ⟨S3x960x1024, .bf16⟩
  | .local _ .vmem, ⟨0, _⟩ => ⟨S512x4608, .bf16⟩
  | .local _ .vmem, ⟨1, _⟩ => ⟨S512x4608, .bf16⟩
  | .local _ .vmem, ⟨2, _⟩ => ⟨S512x3072, .bf16⟩
  | .local _ .vmem, ⟨3, _⟩ => ⟨S512x3072, .bf16⟩
  | .local _ .vmem, ⟨4, _⟩ => ⟨S7680x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_7 : BitVec 32 := 0#32
  let v15 : BitVec 1 := Scalar.cmpi .ne v14 c0_i32_7
  v15

def k0_off1 (d0 : Dev nD) : Fin 3 → Nat :=
  let c2_i32_36 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v73 : BitVec 32 := Scalar.muli c2_i32_36 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.addi v73 v5
  let c0_i32_50 : BitVec 32 := 0#32
  let c0_i32_51 : BitVec 32 := 0#32
  ![v74.toNat, 0, 0]
def k0_dev1 (d0 : Dev nD) : Nat :=
  let c0_i32_45 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_44 : BitVec 32 := 4#32
  let v79 : BitVec 32 := Scalar.muli v9 c4_i32_44
  let v80 : BitVec 32 := Scalar.addi c0_i32_45 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v81 : BitVec 32 := Scalar.muli v5 c2_i32_46
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v83 : BitVec 32 := Scalar.muli v8 c1_i32_47
  let v84 : BitVec 32 := Scalar.addi v82 v83
  v84.toNat
def k0_off2 (d0 : Dev nD) : Fin 3 → Nat :=
  let c2_i32_37 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.muli c2_i32_37 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v76 : BitVec 32 := Scalar.addi v75 v10
  let c0_i32_63 : BitVec 32 := 0#32
  let c0_i32_64 : BitVec 32 := 0#32
  ![v76.toNat, 0, 0]
def k0_dev2 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v93 : BitVec 32 := Scalar.muli v2 c4_i32_57
  let v94 : BitVec 32 := Scalar.addi c0_i32_58 v93
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_59 : BitVec 32 := 2#32
  let v95 : BitVec 32 := Scalar.muli v10 c2_i32_59
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v97 : BitVec 32 := Scalar.muli v8 c1_i32_60
  let v98 : BitVec 32 := Scalar.addi v96 v97
  v98.toNat
def k0_off3 (d0 : Dev nD) : Fin 3 → Nat :=
  let c2_i32_38 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v77 : BitVec 32 := Scalar.muli c2_i32_38 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v78 : BitVec 32 := Scalar.addi v77 v12
  let c0_i32_76 : BitVec 32 := 0#32
  let c0_i32_77 : BitVec 32 := 0#32
  ![v78.toNat, 0, 0]
def k0_dev3 (d0 : Dev nD) : Nat :=
  let c0_i32_71 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_70 : BitVec 32 := 4#32
  let v107 : BitVec 32 := Scalar.muli v11 c4_i32_70
  let v108 : BitVec 32 := Scalar.addi c0_i32_71 v107
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_72 : BitVec 32 := 2#32
  let v109 : BitVec 32 := Scalar.muli v12 c2_i32_72
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v111 : BitVec 32 := Scalar.muli v8 c1_i32_73
  let v112 : BitVec 32 := Scalar.addi v110 v111
  v112.toNat
def k0_cond3 (i : grid0.Coords) : BitVec 1 :=
  let arg0 : BitVec 32 := BitVec.ofNat 32 (i 0).val
  let c15_i32 : BitVec 32 := 15#32
  let v70 : BitVec 1 := Scalar.cmpi .eq arg0 c15_i32
  let v71 : BitVec 32 := Scalar.extui v70
  let c0_i32_35 : BitVec 32 := 0#32
  let v72 : BitVec 1 := Scalar.cmpi .ne v71 c0_i32_35
  v72

def k0_off4 (d0 : Dev nD) : Fin 3 → Nat :=
  let c2_i32_36 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v73 : BitVec 32 := Scalar.muli c2_i32_36 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v74 : BitVec 32 := Scalar.addi v73 v5
  let c0_i32_50 : BitVec 32 := 0#32
  let c0_i32_51 : BitVec 32 := 0#32
  ![v74.toNat, 0, 0]
def k0_off5 (d0 : Dev nD) : Fin 3 → Nat :=
  let c2_i32_37 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.muli c2_i32_37 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v76 : BitVec 32 := Scalar.addi v75 v10
  let c0_i32_63 : BitVec 32 := 0#32
  let c0_i32_64 : BitVec 32 := 0#32
  ![v76.toNat, 0, 0]
def k0_off6 (d0 : Dev nD) : Fin 3 → Nat :=
  let c2_i32_38 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v77 : BitVec 32 := Scalar.muli c2_i32_38 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v78 : BitVec 32 := Scalar.addi v77 v12
  let c0_i32_76 : BitVec 32 := 0#32
  let c0_i32_77 : BitVec 32 := 0#32
  ![v78.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7680x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InBwdRefIdeal.lean ====
abbrev S65536x4608 : Shape := ⟨2, ![65536, 4608]⟩
abbrev S65536x3072 : Shape := ⟨2, ![65536, 3072]⟩
abbrev S7680x1024 : Shape := ⟨2, ![7680, 1024]⟩
abbrev S65536x1024 : Shape := ⟨2, ![65536, 1024]⟩
abbrev S1x1024 : Shape := ⟨2, ![1, 1024]⟩
abbrev S32x960x1024 : Shape := ⟨3, ![32, 960, 1024]⟩
abbrev S65536x7680 : Shape := ⟨2, ![65536, 7680]⟩
abbrev S_ : Shape := ⟨0, ![]⟩
abbrev S65536 : Shape := ⟨1, ![65536]⟩
abbrev S65536x1 : Shape := ⟨2, ![65536, 1]⟩
abbrev S8x8192x1024 : Shape := ⟨3, ![8, 8192, 1024]⟩
abbrev S8x1024 : Shape := ⟨2, ![8, 1024]⟩
abbrev S4x2x4x960x1024 : Shape := ⟨5, ![4, 2, 4, 960, 1024]⟩
abbrev S1x2x1x960x1024 : Shape := ⟨5, ![1, 2, 1, 960, 1024]⟩
abbrev S2x960x1024 : Shape := ⟨3, ![2, 960, 1024]⟩
abbrev S2x1x960x1024 : Shape := ⟨4, ![2, 1, 960, 1024]⟩
abbrev S2x3x960x1024 : Shape := ⟨4, ![2, 3, 960, 1024]⟩
abbrev S1x2x3x960x1024 : Shape := ⟨5, ![1, 2, 3, 960, 1024]⟩
abbrev S4x2x3x960x1024 : Shape := ⟨5, ![4, 2, 3, 960, 1024]⟩
abbrev S24x960x1024 : Shape := ⟨3, ![24, 960, 1024]⟩

abbrev nBuf : Space → Nat
  | .hbm => 91
  | .vmem => 0
  | .smem => 0
  | _ => 0

abbrev bufTy : (tb : Table) → Fin (tcTables nBuf tb) → BufTy
  | .hbm, ⟨0, _⟩ => ⟨S65536x4608, .bf16⟩
  | .hbm, ⟨1, _⟩ => ⟨S65536x3072, .bf16⟩
  | .hbm, ⟨2, _⟩ => ⟨S7680x1024, .bf16⟩
  | .hbm, ⟨3, _⟩ => ⟨S65536x1024, .f32⟩
  | .hbm, ⟨4, _⟩ => ⟨S1x1024, .f32⟩
  | .hbm, ⟨5, _⟩ => ⟨S65536x1024, .f32⟩
  | .hbm, ⟨6, _⟩ => ⟨S32x960x1024, .bf16⟩
  | .hbm, ⟨7, _⟩ => ⟨S65536x4608, .f32⟩
  | .hbm, ⟨8, _⟩ => ⟨S65536x3072, .f32⟩
  | .hbm, ⟨9, _⟩ => ⟨S65536x7680, .f32⟩
  | .hbm, ⟨10, _⟩ => ⟨S7680x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S8x8192x1024, .f32⟩
  | .hbm, ⟨27, _⟩ => ⟨S_, .f32⟩
  | .hbm, ⟨28, _⟩ => ⟨S8x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S4x2x4x960x1024, .bf16⟩
  | .hbm, ⟨45, _⟩ => ⟨S1x2x1x960x1024, .bf16⟩
  | .hbm, ⟨46, _⟩ => ⟨S2x960x1024, .bf16⟩
  | .hbm, ⟨47, _⟩ => ⟨S1x2x1x960x1024, .bf16⟩
  | .hbm, ⟨48, _⟩ => ⟨S2x960x1024, .bf16⟩
  | .hbm, ⟨49, _⟩ => ⟨S1x2x1x960x1024, .bf16⟩
  | .hbm, ⟨50, _⟩ => ⟨S2x960x1024, .bf16⟩
  | .hbm, ⟨51, _⟩ => ⟨S2x1x960x1024, .bf16⟩
  | .hbm, ⟨52, _⟩ => ⟨S2x1x960x1024, .bf16⟩
  | .hbm, ⟨53, _⟩ => ⟨S2x1x960x1024, .bf16⟩
  | .hbm, ⟨54, _⟩ => ⟨S2x3x960x1024, .bf16⟩
  | .hbm, ⟨55, _⟩ => ⟨S1x2x1x960x1024, .bf16⟩
  | .hbm, ⟨56, _⟩ => ⟨S2x960x1024, .bf16⟩
  | .hbm, ⟨57, _⟩ => ⟨S1x2x1x960x1024, .bf16⟩
  | .hbm, ⟨58, _⟩ => ⟨S2x960x1024, .bf16⟩
  | .hbm, ⟨59, _⟩ => ⟨S1x2x1x960x1024, .bf16⟩
  | .hbm, ⟨60, _⟩ => ⟨S2x960x1024, .bf16⟩
  | .hbm, ⟨61, _⟩ => ⟨S2x1x960x1024, .bf16⟩
  | .hbm, ⟨62, _⟩ => ⟨S2x1x960x1024, .bf16⟩
  | .hbm, ⟨63, _⟩ => ⟨S2x1x960x1024, .bf16⟩
  | .hbm, ⟨64, _⟩ => ⟨S2x3x960x1024, .bf16⟩
  | .hbm, ⟨65, _⟩ => ⟨S1x2x1x960x1024, .bf16⟩
  | .hbm, ⟨66, _⟩ => ⟨S2x960x1024, .bf16⟩
  | .hbm, ⟨67, _⟩ => ⟨S1x2x1x960x1024, .bf16⟩
  | .hbm, ⟨68, _⟩ => ⟨S2x960x1024, .bf16⟩
  | .hbm, ⟨69, _⟩ => ⟨S1x2x1x960x1024, .bf16⟩
  | .hbm, ⟨70, _⟩ => ⟨S2x960x1024, .bf16⟩
  | .hbm, ⟨71, _⟩ => ⟨S2x1x960x1024, .bf16⟩
  | .hbm, ⟨72, _⟩ => ⟨S2x1x960x1024, .bf16⟩
  | .hbm, ⟨73, _⟩ => ⟨S2x1x960x1024, .bf16⟩
  | .hbm, ⟨74, _⟩ => ⟨S2x3x960x1024, .bf16⟩
  | .hbm, ⟨75, _⟩ => ⟨S1x2x1x960x1024, .bf16⟩
  | .hbm, ⟨76, _⟩ => ⟨S2x960x1024, .bf16⟩
  | .hbm, ⟨77, _⟩ => ⟨S1x2x1x960x1024, .bf16⟩
  | .hbm, ⟨78, _⟩ => ⟨S2x960x1024, .bf16⟩
  | .hbm, ⟨79, _⟩ => ⟨S1x2x1x960x1024, .bf16⟩
  | .hbm, ⟨80, _⟩ => ⟨S2x960x1024, .bf16⟩
  | .hbm, ⟨81, _⟩ => ⟨S2x1x960x1024, .bf16⟩
  | .hbm, ⟨82, _⟩ => ⟨S2x1x960x1024, .bf16⟩
  | .hbm, ⟨83, _⟩ => ⟨S2x1x960x1024, .bf16⟩
  | .hbm, ⟨84, _⟩ => ⟨S2x3x960x1024, .bf16⟩
  | .hbm, ⟨85, _⟩ => ⟨S1x2x3x960x1024, .bf16⟩
  | .hbm, ⟨86, _⟩ => ⟨S1x2x3x960x1024, .bf16⟩
  | .hbm, ⟨87, _⟩ => ⟨S1x2x3x960x1024, .bf16⟩
  | .hbm, ⟨88, _⟩ => ⟨S1x2x3x960x1024, .bf16⟩
  | .hbm, ⟨89, _⟩ => ⟨S4x2x3x960x1024, .bf16⟩
  | .hbm, ⟨90, _⟩ => ⟨S24x960x1024, .bf16⟩
  | _, _ => ⟨S65536x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S8192x1 : Shape := ⟨2, ![8192, 1]⟩
abbrev S1x128 : Shape := ⟨2, ![1, 128]⟩
abbrev S960x1024 : Shape := ⟨2, ![960, 1024]⟩
abbrev S8192x128 : Shape := ⟨2, ![8192, 128]⟩
abbrev S7680x1024 : Shape := ⟨2, ![7680, 1024]⟩
abbrev S512x1024 : Shape := ⟨2, ![512, 1024]⟩
abbrev S512x1 : Shape := ⟨2, ![512, 1]⟩
abbrev S512x128 : Shape := ⟨2, ![512, 128]⟩
abbrev S1x7 : Shape := ⟨2, ![1, 7]⟩
abbrev S1 : Shape := ⟨1, ![1]⟩
abbrev S_ : Shape := ⟨0, ![]⟩
abbrev S1x1 : Shape := ⟨2, ![1, 1]⟩
abbrev S512 : Shape := ⟨1, ![512]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1, .i32⟩
  | .hbm, ⟨3, _⟩ => ⟨S1x128, .f32⟩
  | .hbm, ⟨4, _⟩ => ⟨S960x1024, .bf16⟩
  | .hbm, ⟨5, _⟩ => ⟨S8192x1024, .bf16⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S7680x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1, .i32⟩
  | .local _ .vmem, ⟨4, _⟩ => ⟨S512x1, .i32⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_8 : BitVec 32 := 0#32
  let v16 : BitVec 1 := Scalar.cmpi .ne v15 c0_i32_8
  v16

def k0_off1 (d0 : Dev nD) : Fin 2 → Nat :=
  let c4_i32_39 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v102 : BitVec 32 := Scalar.muli c4_i32_39 v2
  let c2_i32_40 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v103 : BitVec 32 := Scalar.muli c2_i32_40 v5
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.addi v104 v8
  let c960_i32 : BitVec 32 := 960#32
  let v106 : BitVec 32 := Scalar.muli v105 c960_i32
  let c0_i32_42 : BitVec 32 := 0#32
  ![v106.toNat, 0]
def k0_dev1 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v130 : BitVec 32 := Scalar.muli v2 c4_i32_59
  let v131 : BitVec 32 := Scalar.addi c0_i32_60 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v132 : BitVec 32 := Scalar.muli v5 c2_i32_61
  let v133 : BitVec 32 := Scalar.addi v131 v132
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_62 : BitVec 32 := 1#32
  let v134 : BitVec 32 := Scalar.muli v9 c1_i32_62
  let v135 : BitVec 32 := Scalar.addi v133 v134
  v135.toNat
def k0_dev2 (d0 : Dev nD) : Nat :=
  let c0_i32_69 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_68 : BitVec 32 := 4#32
  let v141 : BitVec 32 := Scalar.muli v10 c4_i32_68
  let v142 : BitVec 32 := Scalar.addi c0_i32_69 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v143 : BitVec 32 := Scalar.muli v5 c2_i32_70
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v145 : BitVec 32 := Scalar.muli v8 c1_i32_71
  let v146 : BitVec 32 := Scalar.addi v144 v145
  v146.toNat
def k0_dev3 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v152 : BitVec 32 := Scalar.muli v2 c4_i32_77
  let v153 : BitVec 32 := Scalar.addi c0_i32_78 v152
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_79 : BitVec 32 := 2#32
  let v154 : BitVec 32 := Scalar.muli v11 c2_i32_79
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v156 : BitVec 32 := Scalar.muli v8 c1_i32_80
  let v157 : BitVec 32 := Scalar.addi v155 v156
  v157.toNat
def k0_dev4 (d0 : Dev nD) : Nat :=
  let c0_i32_86 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_85 : BitVec 32 := 4#32
  let v163 : BitVec 32 := Scalar.muli v12 c4_i32_85
  let v164 : BitVec 32 := Scalar.addi c0_i32_86 v163
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_87 : BitVec 32 := 2#32
  let v165 : BitVec 32 := Scalar.muli v13 c2_i32_87
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v167 : BitVec 32 := Scalar.muli v8 c1_i32_88
  let v168 : BitVec 32 := Scalar.addi v166 v167
  v168.toNat
def k0_cond2 (i : grid0.Coords) : BitVec 1 :=
  let arg0 : BitVec 32 := BitVec.ofNat 32 (i 0).val
  let c12_i32 : BitVec 32 := 12#32
  let v17 : BitVec 1 := Scalar.cmpi .eq arg0 c12_i32
  let v18 : BitVec 32 := Scalar.extui v17
  let c0_i32_9 : BitVec 32 := 0#32
  let v19 : BitVec 1 := Scalar.cmpi .ne v18 c0_i32_9
  v19

def k0_off2 (d0 : Dev nD) : Fin 2 → Nat :=
  let c4_i32_41 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v107 : BitVec 32 := Scalar.muli c4_i32_41 v10
  let c2_i32_42 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v108 : BitVec 32 := Scalar.muli c2_i32_42 v5
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v110 : BitVec 32 := Scalar.addi v109 v8
  let c960_i32_43 : BitVec 32 := 960#32
  let v111 : BitVec 32 := Scalar.muli v110 c960_i32_43
  let c0_i32_52 : BitVec 32 := 0#32
  ![v111.toNat, 0]
def k0_dev5 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v132 : BitVec 32 := Scalar.muli v2 c4_i32_64
  let v133 : BitVec 32 := Scalar.addi c0_i32_65 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v134 : BitVec 32 := Scalar.muli v5 c2_i32_66
  let v135 : BitVec 32 := Scalar.addi v133 v134
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_67 : BitVec 32 := 1#32
  let v136 : BitVec 32 := Scalar.muli v9 c1_i32_67
  let v137 : BitVec 32 := Scalar.addi v135 v136
  v137.toNat
def k0_off3 (d0 : Dev nD) : Fin 2 → Nat :=
  let c4_i32_73 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v149 : BitVec 32 := Scalar.muli c4_i32_73 v2
  let c2_i32_74 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v150 : BitVec 32 := Scalar.muli c2_i32_74 v11
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.addi v151 v8
  let c960_i32_75 : BitVec 32 := 960#32
  let v153 : BitVec 32 := Scalar.muli v152 c960_i32_75
  let c0_i32_84 : BitVec 32 := 0#32
  ![v153.toNat, 0]
def k0_dev6 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v174 : BitVec 32 := Scalar.muli v2 c4_i32_95
  let v175 : BitVec 32 := Scalar.addi c0_i32_96 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v176 : BitVec 32 := Scalar.muli v5 c2_i32_97
  let v177 : BitVec 32 := Scalar.addi v175 v176
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_98 : BitVec 32 := 1#32
  let v178 : BitVec 32 := Scalar.muli v9 c1_i32_98
  let v179 : BitVec 32 := Scalar.addi v177 v178
  v179.toNat
def k0_off4 (d0 : Dev nD) : Fin 2 → Nat :=
  let c4_i32_104 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v191 : BitVec 32 := Scalar.muli c4_i32_104 v12
  let c2_i32_105 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v192 : BitVec 32 := Scalar.muli c2_i32_105 v13
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v194 : BitVec 32 := Scalar.addi v193 v8
  let c960_i32_106 : BitVec 32 := 960#32
  let v195 : BitVec 32 := Scalar.muli v194 c960_i32_106
  let c0_i32_114 : BitVec 32 := 0#32
  ![v195.toNat, 0]
def k0_dev7 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v216 : BitVec 32 := Scalar.muli v2 c4_i32_125
  let v217 : BitVec 32 := Scalar.addi c0_i32_126 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v218 : BitVec 32 := Scalar.muli v5 c2_i32_127
  let v219 : BitVec 32 := Scalar.addi v217 v218
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_128 : BitVec 32 := 1#32
  let v220 : BitVec 32 := Scalar.muli v9 c1_i32_128
  let v221 : BitVec 32 := Scalar.addi v219 v220
  v221.toNat
def k0_cond3 (i : grid0.Coords) : BitVec 1 :=
  let arg0 : BitVec 32 := BitVec.ofNat 32 (i 0).val
  let c15_i32 : BitVec 32 := 15#32
  let v99 : BitVec 1 := Scalar.cmpi .eq arg0 c15_i32
  let v100 : BitVec 32 := Scalar.extui v99
  let c0_i32_38 : BitVec 32 := 0#32
  let v101 : BitVec 1 := Scalar.cmpi .ne v100 c0_i32_38
  v101

def k0_off5 (d0 : Dev nD) : Fin 2 → Nat :=
  let c4_i32_41 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v107 : BitVec 32 := Scalar.muli c4_i32_41 v2
  let c2_i32_42 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v108 : BitVec 32 := Scalar.muli c2_i32_42 v5
  let v109 : BitVec 32 := Scalar.addi v107 v108
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v110 : BitVec 32 := Scalar.addi v109 v9
  let c960_i32_43 : BitVec 32 := 960#32
  let v111 : BitVec 32 := Scalar.muli v110 c960_i32_43
  let c0_i32_52 : BitVec 32 := 0#32
  ![v111.toNat, 0]
def k0_off6 (d0 : Dev nD) : Fin 2 → Nat :=
  let c4_i32_58 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v128 : BitVec 32 := Scalar.muli c4_i32_58 v10
  let c2_i32_59 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v129 : BitVec 32 := Scalar.muli c2_i32_59 v5
  let v130 : BitVec 32 := Scalar.addi v128 v129
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v122 : BitVec 32 := Scalar.subi c1_i32_54 v8
  let v131 : BitVec 32 := Scalar.addi v130 v122
  let c960_i32_60 : BitVec 32 := 960#32
  let v132 : BitVec 32 := Scalar.muli v131 c960_i32_60
  let c0_i32_69 : BitVec 32 := 0#32
  ![v132.toNat, 0]
def k0_off7 (d0 : Dev nD) : Fin 2 → Nat :=
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v149 : BitVec 32 := Scalar.muli c4_i32_75 v2
  let c2_i32_76 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v150 : BitVec 32 := Scalar.muli c2_i32_76 v11
  let v151 : BitVec 32 := Scalar.addi v149 v150
  let c1_i32_71 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v143 : BitVec 32 := Scalar.subi c1_i32_71 v8
  let v152 : BitVec 32 := Scalar.addi v151 v143
  let c960_i32_77 : BitVec 32 := 960#32
  let v153 : BitVec 32 := Scalar.muli v152 c960_i32_77
  let c0_i32_85 : BitVec 32 := 0#32
  ![v153.toNat, 0]
def k0_off8 (d0 : Dev nD) : Fin 2 → Nat :=
  let c4_i32_91 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v170 : BitVec 32 := Scalar.muli c4_i32_91 v12
  let c2_i32_92 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v171 : BitVec 32 := Scalar.muli c2_i32_92 v13
  let v172 : BitVec 32 := Scalar.addi v170 v171
  let c1_i32_87 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v164 : BitVec 32 := Scalar.subi c1_i32_87 v8
  let v173 : BitVec 32 := Scalar.addi v172 v164
  let c960_i32_93 : BitVec 32 := 960#32
  let v174 : BitVec 32 := Scalar.muli v173 c960_i32_93
  let c0_i32_101 : BitVec 32 := 0#32
  ![v174.toNat, 0]
def k0_off9 (d0 : Dev nD) : Fin 2 → Nat :=
  let c4_i32_103 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v185 : BitVec 32 := Scalar.muli c4_i32_103 v2
  let c2_i32_104 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v186 : BitVec 32 := Scalar.muli c2_i32_104 v5
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.addi v187 v8
  let c960_i32_105 : BitVec 32 := 960#32
  let v189 : BitVec 32 := Scalar.muli v188 c960_i32_105
  let c0_i32_138 : BitVec 32 := 0#32
  ![v189.toNat, 0]
def k0_off10 (d0 : Dev nD) : Fin 2 → Nat :=
  let c4_i32_115 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v205 : BitVec 32 := Scalar.muli c4_i32_115 v10
  let c2_i32_116 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v206 : BitVec 32 := Scalar.muli c2_i32_116 v5
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v208 : BitVec 32 := Scalar.addi v207 v8
  let c960_i32_117 : BitVec 32 := 960#32
  let v209 : BitVec 32 := Scalar.muli v208 c960_i32_117
  let c0_i32_161 : BitVec 32 := 0#32
  ![v209.toNat, 0]
def k0_off11 (d0 : Dev nD) : Fin 2 → Nat :=
  let c4_i32_121 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v215 : BitVec 32 := Scalar.muli c4_i32_121 v2
  let c2_i32_122 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v216 : BitVec 32 := Scalar.muli c2_i32_122 v11
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v218 : BitVec 32 := Scalar.addi v217 v8
  let c960_i32_123 : BitVec 32 := 960#32
  let v219 : BitVec 32 := Scalar.muli v218 c960_i32_123
  let c0_i32_168 : BitVec 32 := 0#32
  ![v219.toNat, 0]
def k0_off12 (d0 : Dev nD) : Fin 2 → Nat :=
  let c4_i32_127 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v225 : BitVec 32 := Scalar.muli c4_i32_127 v12
  let c2_i32_128 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v226 : BitVec 32 := Scalar.muli c2_i32_128 v13
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.addi v227 v8
  let c960_i32_129 : BitVec 32 := 960#32
  let v229 : BitVec 32 := Scalar.muli v228 c960_i32_129
  let c0_i32_175 : BitVec 32 := 0#32
  ![v229.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormRefIdeal.lean ====
abbrev S65536x1024 : Shape := ⟨2, ![65536, 1024]⟩
abbrev S1x1024 : Shape := ⟨2, ![1, 1024]⟩
abbrev S65536x1 : Shape := ⟨2, ![65536, 1]⟩
abbrev S1x128 : Shape := ⟨2, ![1, 128]⟩
abbrev S7680x1024 : Shape := ⟨2, ![7680, 1024]⟩
abbrev S_ : Shape := ⟨0, ![]⟩
abbrev S65536 : Shape := ⟨1, ![65536]⟩
abbrev S65536x128 : Shape := ⟨2, ![65536, 128]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S65536x1, .i32⟩
  | .hbm, ⟨3, _⟩ => ⟨S1x128, .f32⟩
  | .hbm, ⟨4, _⟩ => ⟨S7680x1024, .bf16⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .bf16⟩
  | .hbm, ⟨21, _⟩ => ⟨S65536x1, .f32⟩
  | .hbm, ⟨22, _⟩ => ⟨S65536x128, .f32⟩
  | .hbm, ⟨23, _⟩ => ⟨S65536x128, .f32⟩
  | .hbm, ⟨24, _⟩ => ⟨S65536x128, .f32⟩
  | .hbm, ⟨25, _⟩ => ⟨S65536x128, .i32⟩
  | .hbm, ⟨26, _⟩ => ⟨S_, .i32⟩
  | .hbm, ⟨27, _⟩ => ⟨S65536x128, .i32⟩
  | .hbm, ⟨28, _⟩ => ⟨S65536x128, .i32⟩
  | .hbm, ⟨29, _⟩ => ⟨S65536x128, .f32⟩
  | .hbm, ⟨30, _⟩ => ⟨S_, .f32⟩
  | .hbm, ⟨31, _⟩ => ⟨S65536x128, .f32⟩
  | .hbm, ⟨32, _⟩ => ⟨S_, .i32⟩
  | .hbm, ⟨33, _⟩ => ⟨S65536x128, .i32⟩
  | .hbm, ⟨34, _⟩ => ⟨S65536x128, .i1⟩
  | .hbm, ⟨35, _⟩ => ⟨S65536x128, .f32⟩
  | .hbm, ⟨36, _⟩ => ⟨S_, .f32⟩
  | .hbm, ⟨37, _⟩ => ⟨S65536x128, .f32⟩
  | .hbm, ⟨38, _⟩ => ⟨S65536x128, .f32⟩
  | .hbm, ⟨39, _⟩ => ⟨S_, .i32⟩
  | .hbm, ⟨40, _⟩ => ⟨S65536x128, .i32⟩
  | .hbm, ⟨41, _⟩ => ⟨S65536x128, .i1⟩
  | .hbm, ⟨42, _⟩ => ⟨S65536x128, .f32⟩
  | .hbm, ⟨43, _⟩ => ⟨S65536x128, .f32⟩
  | .hbm, ⟨44, _⟩ => ⟨S_, .i32⟩
  | .hbm, ⟨45, _⟩ => ⟨S65536x128, .i32⟩
  | .hbm, ⟨46, _⟩ => ⟨S65536x128, .i1⟩
  | .hbm, ⟨47, _⟩ => ⟨S_, .i32⟩
  | .hbm, ⟨48, _⟩ => ⟨S65536x128, .i32⟩
  | .hbm, ⟨49, _⟩ => ⟨S65536x128, .i1⟩
  | .hbm, ⟨50, _⟩ => ⟨S65536x128, .i1⟩
  | .hbm, ⟨51, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Merge.lean ====
abbrev S8192x1024 : Shape := ⟨2, ![8192, 1024]⟩
abbrev S1024x1024 : Shape := ⟨2, ![1024, 1024]⟩
abbrev S8192x3072 : Shape := ⟨2, ![8192, 3072]⟩
abbrev S1024x512 : Shape := ⟨2, ![1024, 512]⟩
abbrev S8192x512 : Shape := ⟨2, ![8192, 512]⟩
abbrev S8192x128 : Shape := ⟨2, ![8192, 128]⟩
abbrev S4x2x352x1024 : Shape := ⟨4, ![4, 2, 352, 1024]⟩
abbrev S1x8192x512 : Shape := ⟨3, ![1, 8192, 512]⟩
abbrev S1x8192x128 : Shape := ⟨3, ![1, 8192, 128]⟩
abbrev S4x2048x512 : Shape := ⟨3, ![4, 2048, 512]⟩
abbrev S4x2048x128 : Shape := ⟨3, ![4, 2048, 128]⟩
abbrev S16x512x512 : Shape := ⟨3, ![16, 512, 512]⟩
abbrev S16x512x128 : Shape := ⟨3, ![16, 512, 128]⟩
abbrev S4x352x1024 : Shape := ⟨3, ![4, 352, 1024]⟩
abbrev S512x1024 : Shape := ⟨2, ![512, 1024]⟩
abbrev S512x512 : Shape := ⟨2, ![512, 512]⟩
abbrev S512x128 : Shape := ⟨2, ![512, 128]⟩
abbrev S512x3072 : Shape := ⟨2, ![512, 3072]⟩
abbrev S1x512x512 : Shape := ⟨3, ![1, 512, 512]⟩
abbrev S1x512x128 : Shape := ⟨3, ![1, 512, 128]⟩
abbrev S4x128x512 : Shape := ⟨3, ![4, 128, 512]⟩
abbrev S4x128x128 : Shape := ⟨3, ![4, 128, 128]⟩
abbrev S16x32x512 : Shape := ⟨3, ![16, 32, 512]⟩
abbrev S16x32x128 : Shape := ⟨3, ![16, 32, 128]⟩
abbrev S4x512x128 : Shape := ⟨3, ![4, 512, 128]⟩
abbrev S3 : Shape := ⟨1, ![3]⟩
abbrev S1 : Shape := ⟨1, ![1]⟩
abbrev S_ : Shape := ⟨0, ![]⟩
abbrev S4x1x352x1024 : Shape := ⟨4, ![4, 1, 352, 1024]⟩
abbrev S1x128 : Shape := ⟨2, ![1, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 25
  | .vmem => 39
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x3072, .bf16⟩
  | .hbm, ⟨5, _⟩ => ⟨S1024x512, .bf16⟩
  | .hbm, ⟨6, _⟩ => ⟨S1024x512, .bf16⟩
  | .hbm, ⟨7, _⟩ => ⟨S8192x512, .f32⟩
  | .hbm, ⟨8, _⟩ => ⟨S8192x128, .f32⟩
  | .hbm, ⟨9, _⟩ => ⟨S4x2x352x1024, .f32⟩
  | .hbm, ⟨10, _⟩ => ⟨S4x2x352x1024, .f32⟩
  | .hbm, ⟨11, _⟩ => ⟨S4x2x352x1024, .f32⟩
  | .hbm, ⟨12, _⟩ => ⟨S8192x1024, .bf16⟩
  | .hbm, ⟨13, _⟩ => ⟨S8192x1024, .bf16⟩
  | .hbm, ⟨14, _⟩ => ⟨S8192x3072, .bf16⟩
  | .hbm, ⟨15, _⟩ => ⟨S8192x512, .f32⟩
  | .hbm, ⟨16, _⟩ => ⟨S1x8192x512, .bf16⟩
  | .hbm, ⟨17, _⟩ => ⟨S1x8192x128, .f32⟩
  | .hbm, ⟨18, _⟩ => ⟨S4x2048x512, .bf16⟩
  | .hbm, ⟨19, _⟩ => ⟨S4x2048x128, .f32⟩
  | .hbm, ⟨20, _⟩ => ⟨S16x512x512, .bf16⟩
  | .hbm, ⟨21, _⟩ => ⟨S16x512x128, .f32⟩
  | .hbm, ⟨22, _⟩ => ⟨S4x352x1024, .f32⟩
  | .hbm, ⟨23, _⟩ => ⟨S4x352x1024, .f32⟩
  | .hbm, ⟨24, _⟩ => ⟨S4x352x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | .local _ .vmem, ⟨23, _⟩ => ⟨S512x512, .f32⟩
  | .local _ .vmem, ⟨24, _⟩ => ⟨S512x512, .f32⟩
  | .local _ .vmem, ⟨25, _⟩ => ⟨S1x512x512, .bf16⟩
  | .local _ .vmem, ⟨26, _⟩ => ⟨S1x512x512, .bf16⟩
  | .local _ .vmem, ⟨27, _⟩ => ⟨S1x512x128, .f32⟩
  | .local _ .vmem, ⟨28, _⟩ => ⟨S1x512x128, .f32⟩
  | .local _ .vmem, ⟨29, _⟩ => ⟨S4x128x512, .bf16⟩
  | .local _ .vmem, ⟨30, _⟩ => ⟨S4x128x512, .bf16⟩
  | .local _ .vmem, ⟨31, _⟩ => ⟨S4x128x128, .f32⟩
  | .local _ .vmem, ⟨32, _⟩ => ⟨S4x128x128, .f32⟩
  | .local _ .vmem, ⟨33, _⟩ => ⟨S16x32x512, .bf16⟩
  | .local _ .vmem, ⟨34, _⟩ => ⟨S16x32x512, .bf16⟩
  | .local _ .vmem, ⟨35, _⟩ => ⟨S16x32x128, .f32⟩
  | .local _ .vmem, ⟨36, _⟩ => ⟨S16x32x128, .f32⟩
  | .local _ .vmem, ⟨37, _⟩ => ⟨S4x512x128, .f32⟩
  | .local _ .vmem, ⟨38, _⟩ => ⟨S1x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev main_v1_9 : Ref sig .tc := ⟨.hbm, 21, rfl⟩
abbrev main_v1_10 : Ref sig .tc := ⟨.hbm, 22, rfl⟩
abbrev main_v1_11 : Ref sig .tc := ⟨.hbm, 23, rfl⟩
abbrev main_v1_12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_3 : BitVec 32 := 0#32
  let v11 : BitVec 1 := Scalar.cmpi .ne v10 c0_i32_3
  v11

def k0_off1 (d0 : Dev nD) : Fin 4 → Nat :=
  let c0_i32_679 : BitVec 32 := 0#32
  let c1_i32_671 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v811 : BitVec 32 := Scalar.subi c1_i32_671 v8
  let c0_i32_680 : BitVec 32 := 0#32
  let c0_i32_681 : BitVec 32 := 0#32
  ![0, v811.toNat, 0, 0]
def k0_dev1 (d0 : Dev nD) : Nat :=
  let c0_i32_676 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_675 : BitVec 32 := 4#32
  let v813 : BitVec 32 := Scalar.muli v2 c4_i32_675
  let v814 : BitVec 32 := Scalar.addi c0_i32_676 v813
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_677 : BitVec 32 := 2#32
  let v815 : BitVec 32 := Scalar.muli v5 c2_i32_677
  let v816 : BitVec 32 := Scalar.addi v814 v815
  let c1_i32_672 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v812 : BitVec 32 := Scalar.subi c1_i32_672 v8
  let c1_i32_678 : BitVec 32 := 1#32
  let v817 : BitVec 32 := Scalar.muli v812 c1_i32_678
  let v818 : BitVec 32 := Scalar.addi v816 v817
  v818.toNat
def k0_dev2 (d0 : Dev nD) : Nat :=
  let c0_i32_687 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_686 : BitVec 32 := 4#32
  let v827 : BitVec 32 := Scalar.muli v2 c4_i32_686
  let v828 : BitVec 32 := Scalar.addi c0_i32_687 v827
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_688 : BitVec 32 := 2#32
  let v829 : BitVec 32 := Scalar.muli v5 c2_i32_688
  let v830 : BitVec 32 := Scalar.addi v828 v829
  let c1_i32_683 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v826 : BitVec 32 := Scalar.subi c1_i32_683 v8
  let c1_i32_689 : BitVec 32 := 1#32
  let v831 : BitVec 32 := Scalar.muli v826 c1_i32_689
  let v832 : BitVec 32 := Scalar.addi v830 v831
  v832.toNat
def k0_dev3 (d0 : Dev nD) : Nat :=
  let c0_i32_698 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_697 : BitVec 32 := 4#32
  let v841 : BitVec 32 := Scalar.muli v2 c4_i32_697
  let v842 : BitVec 32 := Scalar.addi c0_i32_698 v841
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_699 : BitVec 32 := 2#32
  let v843 : BitVec 32 := Scalar.muli v5 c2_i32_699
  let v844 : BitVec 32 := Scalar.addi v842 v843
  let c1_i32_694 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v840 : BitVec 32 := Scalar.subi c1_i32_694 v8
  let c1_i32_700 : BitVec 32 := 1#32
  let v845 : BitVec 32 := Scalar.muli v840 c1_i32_700
  let v846 : BitVec 32 := Scalar.addi v844 v845
  v846.toNat
def k0_cond2 (i : grid0.Coords) : BitVec 1 :=
  let arg0 : BitVec 32 := BitVec.ofNat 32 (i 0).val
  let c15_i32_669 : BitVec 32 := 15#32
  let v808 : BitVec 1 := Scalar.cmpi .eq arg0 c15_i32_669
  let v809 : BitVec 32 := Scalar.extui v808
  let c0_i32_670 : BitVec 32 := 0#32
  let v810 : BitVec 1 := Scalar.cmpi .ne v809 c0_i32_670
  v810

def k0_off2 (d0 : Dev nD) : Fin 4 → Nat :=
  let c0_i32_676 : BitVec 32 := 0#32
  let c1_i32_671 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v811 : BitVec 32 := Scalar.subi c1_i32_671 v8
  let c0_i32_677 : BitVec 32 := 0#32
  let c0_i32_678 : BitVec 32 := 0#32
  ![0, v811.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x32x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x32x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeRefIdeal.lean ====
abbrev S65536x1024 : Shape := ⟨2, ![65536, 1024]⟩
abbrev S1024x1024 : Shape := ⟨2, ![1024, 1024]⟩
abbrev S65536x3072 : Shape := ⟨2, ![65536, 3072]⟩
abbrev S1024x512 : Shape := ⟨2, ![1024, 512]⟩
abbrev S65536x512 : Shape := ⟨2, ![65536, 512]⟩
abbrev S65536x128 : Shape := ⟨2, ![65536, 128]⟩
abbrev S32x2x352x1024 : Shape := ⟨4, ![32, 2, 352, 1024]⟩
abbrev S_ : Shape := ⟨0, ![]⟩
abbrev S4x2x4x2x352x1024 : Shape := ⟨6, ![4, 2, 4, 2, 352, 1024]⟩
abbrev S4x1x4x1x352x1024 : Shape := ⟨6, ![4, 1, 4, 1, 352, 1024]⟩
abbrev S4x4x352x1024 : Shape := ⟨4, ![4, 4, 352, 1024]⟩
abbrev S4x1x4x352x1024 : Shape := ⟨5, ![4, 1, 4, 352, 1024]⟩
abbrev S4x2x4x352x1024 : Shape := ⟨5, ![4, 2, 4, 352, 1024]⟩
abbrev S32x352x1024 : Shape := ⟨3, ![32, 352, 1024]⟩

abbrev nBuf : Space → Nat
  | .hbm => 70
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .bf16⟩
  | .hbm, ⟨2, _⟩ => ⟨S65536x1024, .bf16⟩
  | .hbm, ⟨3, _⟩ => ⟨S65536x1024, .bf16⟩
  | .hbm, ⟨4, _⟩ => ⟨S65536x3072, .bf16⟩
  | .hbm, ⟨5, _⟩ => ⟨S1024x512, .bf16⟩
  | .hbm, ⟨6, _⟩ => ⟨S1024x512, .bf16⟩
  | .hbm, ⟨7, _⟩ => ⟨S65536x512, .f32⟩
  | .hbm, ⟨8, _⟩ => ⟨S65536x128, .f32⟩
  | .hbm, ⟨9, _⟩ => ⟨S32x2x352x1024, .f32⟩
  | .hbm, ⟨10, _⟩ => ⟨S32x2x352x1024, .f32⟩
  | .hbm, ⟨11, _⟩ => ⟨S32x2x352x1024, .f32⟩
  | .hbm, ⟨12, _⟩ => ⟨S65536x1024, .f32⟩
  | .hbm, ⟨13, _⟩ => ⟨S1024x1024, .f32⟩
  | .hbm, ⟨14, _⟩ => ⟨S1024x1024, .f32⟩
  | .hbm, ⟨15, _⟩ => ⟨S65536x1024, .f32⟩
  | .hbm, ⟨16, _⟩ => ⟨S65536x1024, .bf16⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .bf16⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .bf16⟩
  | .hbm, ⟨38, _⟩ => ⟨S65536x1024, .f32⟩
  | .hbm, ⟨39, _⟩ => ⟨S65536x1024, .bf16⟩
  | .hbm, ⟨40, _⟩ => ⟨S65536x1024, .f32⟩
  | .hbm, ⟨41, _⟩ => ⟨S1024x512, .f32⟩
  | .hbm, ⟨42, _⟩ => ⟨S65536x512, .f32⟩
  | .hbm, ⟨43, _⟩ => ⟨S4x2x4x2x352x1024, .f32⟩
  | .hbm, ⟨44, _⟩ => ⟨S4x1x4x1x352x1024, .f32⟩
  | .hbm, ⟨45, _⟩ => ⟨S4x4x352x1024, .f32⟩
  | .hbm, ⟨46, _⟩ => ⟨S4x1x4x1x352x1024, .f32⟩
  | .hbm, ⟨47, _⟩ => ⟨S4x4x352x1024, .f32⟩
  | .hbm, ⟨48, _⟩ => ⟨S4x1x4x352x1024, .f32⟩
  | .hbm, ⟨49, _⟩ => ⟨S4x1x4x352x1024, .f32⟩
  | .hbm, ⟨50, _⟩ => ⟨S4x2x4x352x1024, .f32⟩
  | .hbm, ⟨51, _⟩ => ⟨S32x352x1024, .f32⟩
  | .hbm, ⟨52, _⟩ => ⟨S4x2x4x2x352x1024, .f32⟩
  | .hbm, ⟨53, _⟩ => ⟨S4x1x4x1x352x1024, .f32⟩
  | .hbm, ⟨54, _⟩ => ⟨S4x4x352x1024, .f32⟩
  | .hbm, ⟨55, _⟩ => ⟨S4x1x4x1x352x1024, .f32⟩
  | .hbm, ⟨56, _⟩ => ⟨S4x4x352x1024, .f32⟩
  | .hbm, ⟨57, _⟩ => ⟨S4x1x4x352x1024, .f32⟩
  | .hbm, ⟨58, _⟩ => ⟨S4x1x4x352x1024, .f32⟩
  | .hbm, ⟨59, _⟩ => ⟨S4x2x4x352x1024, .f32⟩
  | .hbm, ⟨60, _⟩ => ⟨S32x352x1024, .f32⟩
  | .hbm, ⟨61, _⟩ => ⟨S4x2x4x2x352x1024, .f32⟩
  | .hbm, ⟨62, _⟩ => ⟨S4x1x4x1x352x1024, .f32⟩
  | .hbm, ⟨63, _⟩ => ⟨S4x4x352x1024, .f32⟩
  | .hbm, ⟨64, _⟩ => ⟨S4x1x4x1x352x1024, .f32⟩
  | .hbm, ⟨65, _⟩ => ⟨S4x4x352x1024, .f32⟩
  | .hbm, ⟨66, _⟩ => ⟨S4x1x4x352x1024, .f32⟩
  | .hbm, ⟨67, _⟩ => ⟨S4x1x4x352x1024, .f32⟩
  | .hbm, ⟨68, _⟩ => ⟨S4x2x4x352x1024, .f32⟩
  | .hbm, ⟨69, _⟩ => ⟨S32x352x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== InProj.lean ====
abbrev S8192x1024 : Shape := ⟨2, ![8192, 1024]⟩
abbrev S7680x1024 : Shape := ⟨2, ![7680, 1024]⟩
abbrev S8192x128 : Shape := ⟨2, ![8192, 128]⟩
abbrev S352x1024 : Shape := ⟨2, ![352, 1024]⟩
abbrev S128x1024 : Shape := ⟨2, ![128, 1024]⟩
abbrev S128x512 : Shape := ⟨2, ![128, 512]⟩
abbrev S1x8192x1536 : Shape := ⟨3, ![1, 8192, 1536]⟩
abbrev S4x2048x1536 : Shape := ⟨3, ![4, 2048, 1536]⟩
abbrev S16x512x1536 : Shape := ⟨3, ![16, 512, 1536]⟩
abbrev S8192x3072 : Shape := ⟨2, ![8192, 3072]⟩
abbrev S2816x1024 : Shape := ⟨2, ![2816, 1024]⟩
abbrev S1024x1024 : Shape := ⟨2, ![1024, 1024]⟩
abbrev S1024x512 : Shape := ⟨2, ![1024, 512]⟩
abbrev S512x1024 : Shape := ⟨2, ![512, 1024]⟩
abbrev S512x128 : Shape := ⟨2, ![512, 128]⟩
abbrev S1x512x1536 : Shape := ⟨3, ![1, 512, 1536]⟩
abbrev S4x128x1536 : Shape := ⟨3, ![4, 128, 1536]⟩
abbrev S16x32x1536 : Shape := ⟨3, ![16, 32, 1536]⟩
abbrev S512x3072 : Shape := ⟨2, ![512, 3072]⟩
abbrev S4x512x128 : Shape := ⟨3, ![4, 512, 128]⟩
abbrev S6x7 : Shape := ⟨2, ![6, 7]⟩
abbrev S6 : Shape := ⟨1, ![6]⟩
abbrev S1 : Shape := ⟨1, ![1]⟩
abbrev S_ : Shape := ⟨0, ![]⟩
abbrev S1x1 : Shape := ⟨2, ![1, 1]⟩
abbrev S512x512 : Shape := ⟨2, ![512, 512]⟩
abbrev S1x512x512 : Shape := ⟨3, ![1, 512, 512]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 21
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S7680x1024, .bf16⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S352x1024, .bf16⟩
  | .hbm, ⟨6, _⟩ => ⟨S352x1024, .bf16⟩
  | .hbm, ⟨7, _⟩ => ⟨S128x1024, .bf16⟩
  | .hbm, ⟨8, _⟩ => ⟨S128x512, .bf16⟩
  | .hbm, ⟨9, _⟩ => ⟨S128x512, .bf16⟩
  | .hbm, ⟨10, _⟩ => ⟨S352x1024, .bf16⟩
  | .hbm, ⟨11, _⟩ => ⟨S1x8192x1536, .bf16⟩
  | .hbm, ⟨12, _⟩ => ⟨S4x2048x1536, .bf16⟩
  | .hbm, ⟨13, _⟩ => ⟨S16x512x1536, .bf16⟩
  | .hbm, ⟨14, _⟩ => ⟨S8192x3072, .bf16⟩
  | .hbm, ⟨15, _⟩ => ⟨S2816x1024, .bf16⟩
  | .hbm, ⟨16, _⟩ => ⟨S2816x1024, .bf16⟩
  | .hbm, ⟨17, _⟩ => ⟨S1024x1024, .bf16⟩
  | .hbm, ⟨18, _⟩ => ⟨S1024x512, .bf16⟩
  | .hbm, ⟨19, _⟩ => ⟨S1024x512, .bf16⟩
  | .hbm, ⟨20, _⟩ => ⟨S2816x1024, .bf16⟩
  | .local _ .vmem, ⟨0, _⟩ => ⟨S512x1024, .bf16⟩
  | .local _ .vmem, ⟨1, _⟩ => ⟨S512x1024, .bf16⟩
  | .local _ .vmem, ⟨2, _⟩ => ⟨S7680x1024, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x512x1536, .bf16⟩
  | .local _ .vmem, ⟨10, _⟩ => ⟨S1x512x1536, .bf16⟩
  | .local _ .vmem, ⟨11, _⟩ => ⟨S4x128x1536, .bf16⟩
  | .local _ .vmem, ⟨12, _⟩ => ⟨S4x128x1536, .bf16⟩
  | .local _ .vmem, ⟨13, _⟩ => ⟨S16x32x1536, .bf16⟩
  | .local _ .vmem, ⟨14, _⟩ => ⟨S16x32x1536, .bf16⟩
  | .local _ .vmem, ⟨15, _⟩ => ⟨S512x3072, .bf16⟩
  | .local _ .vmem, ⟨16, _⟩ => ⟨S512x3072, .bf16⟩
  | .local _ .vmem, ⟨17, _⟩ => ⟨S4x512x128, .f32⟩
  | .local _ .vmem, ⟨18, _⟩ => ⟨S4x512x128, .f32⟩
  | .local _ .vmem, ⟨19, _⟩ => ⟨S4x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  ofTc nBuf bufTy 0 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev main_v1_8 : Ref sig .tc := ⟨.hbm, 19, rfl⟩
abbrev main_v1_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 8
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_8 : BitVec 32 := 0#32
  let v16 : BitVec 1 := Scalar.cmpi .ne v15 c0_i32_8
  v16

def k0_off1 (d0 : Dev nD) : Fin 2 → Nat :=
  let c4_i32_1570 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1714 : BitVec 32 := Scalar.muli c4_i32_1570 v2
  let c2_i32_1571 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1715 : BitVec 32 := Scalar.muli c2_i32_1571 v5
  let v1716 : BitVec 32 := Scalar.addi v1714 v1715
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1717 : BitVec 32 := Scalar.addi v1716 v8
  let c352_i32 : BitVec 32 := 352#32
  let v1718 : BitVec 32 := Scalar.muli v1717 c352_i32
  let c0_i32_1573 : BitVec 32 := 0#32
  ![v1718.toNat, 0]
def k0_off2 (d0 : Dev nD) : Fin 2 → Nat :=
  let c4_i32_1579 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1730 : BitVec 32 := Scalar.muli c4_i32_1579 v2
  let c2_i32_1580 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1731 : BitVec 32 := Scalar.muli c2_i32_1580 v5
  let v1732 : BitVec 32 := Scalar.addi v1730 v1731
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1733 : BitVec 32 := Scalar.addi v1732 v8
  let c128_i32 : BitVec 32 := 128#32
  let v1734 : BitVec 32 := Scalar.muli v1733 c128_i32
  let c0_i32_1582 : BitVec 32 := 0#32
  ![v1734.toNat, 0]
def k0_off3 (d0 : Dev nD) : Fin 2 → Nat :=
  let c4_i32_1583 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1738 : BitVec 32 := Scalar.muli c4_i32_1583 v2
  let c2_i32_1584 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1739 : BitVec 32 := Scalar.muli c2_i32_1584 v5
  let v1740 : BitVec 32 := Scalar.addi v1738 v1739
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1741 : BitVec 32 := Scalar.addi v1740 v8
  let c128_i32_1585 : BitVec 32 := 128#32
  let v1742 : BitVec 32 := Scalar.muli v1741 c128_i32_1585
  let c0_i32_1586 : BitVec 32 := 0#32
  ![v1742.toNat, 0]
def k0_dev1 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1782 : BitVec 32 := Scalar.muli v2 c4_i32_1612
  let v1783 : BitVec 32 := Scalar.addi c0_i32_1613 v1782
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1614 : BitVec 32 := 2#32
  let v1784 : BitVec 32 := Scalar.muli v5 c2_i32_1614
  let v1785 : BitVec 32 := Scalar.addi v1783 v1784
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1615 : BitVec 32 := 1#32
  let v1786 : BitVec 32 := Scalar.muli v9 c1_i32_1615
  let v1787 : BitVec 32 := Scalar.addi v1785 v1786
  v1787.toNat
def k0_dev2 (d0 : Dev nD) : Nat :=
  let c0_i32_1622 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1621 : BitVec 32 := 4#32
  let v1793 : BitVec 32 := Scalar.muli v10 c4_i32_1621
  let v1794 : BitVec 32 := Scalar.addi c0_i32_1622 v1793
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1623 : BitVec 32 := 2#32
  let v1795 : BitVec 32 := Scalar.muli v5 c2_i32_1623
  let v1796 : BitVec 32 := Scalar.addi v1794 v1795
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1624 : BitVec 32 := 1#32
  let v1797 : BitVec 32 := Scalar.muli v8 c1_i32_1624
  let v1798 : BitVec 32 := Scalar.addi v1796 v1797
  v1798.toNat
def k0_dev3 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1804 : BitVec 32 := Scalar.muli v2 c4_i32_1630
  let v1805 : BitVec 32 := Scalar.addi c0_i32_1631 v1804
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1632 : BitVec 32 := 2#32
  let v1806 : BitVec 32 := Scalar.muli v11 c2_i32_1632
  let v1807 : BitVec 32 := Scalar.addi v1805 v1806
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1633 : BitVec 32 := 1#32
  let v1808 : BitVec 32 := Scalar.muli v8 c1_i32_1633
  let v1809 : BitVec 32 := Scalar.addi v1807 v1808
  v1809.toNat
def k0_dev4 (d0 : Dev nD) : Nat :=
  let c0_i32_1640 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_1639 : BitVec 32 := 4#32
  let v1815 : BitVec 32 := Scalar.muli v12 c4_i32_1639
  let v1816 : BitVec 32 := Scalar.addi c0_i32_1640 v1815
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_1641 : BitVec 32 := 2#32
  let v1817 : BitVec 32 := Scalar.muli v13 c2_i32_1641
  let v1818 : BitVec 32 := Scalar.addi v1816 v1817
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1642 : BitVec 32 := 1#32
  let v1819 : BitVec 32 := Scalar.muli v8 c1_i32_1642
  let v1820 : BitVec 32 := Scalar.addi v1818 v1819
  v1820.toNat
def k0_dev5 (d0 : Dev nD) : Nat :=
  let c0_i32_1661 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1660 : BitVec 32 := 4#32
  let v1846 : BitVec 32 := Scalar.muli v2 c4_i32_1660
  let v1847 : BitVec 32 := Scalar.addi c0_i32_1661 v1846
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1662 : BitVec 32 := 2#32
  let v1848 : BitVec 32 := Scalar.muli v5 c2_i32_1662
  let v1849 : BitVec 32 := Scalar.addi v1847 v1848
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1663 : BitVec 32 := 1#32
  let v1850 : BitVec 32 := Scalar.muli v9 c1_i32_1663
  let v1851 : BitVec 32 := Scalar.addi v1849 v1850
  v1851.toNat
def k0_dev6 (d0 : Dev nD) : Nat :=
  let c0_i32_1670 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1669 : BitVec 32 := 4#32
  let v1857 : BitVec 32 := Scalar.muli v10 c4_i32_1669
  let v1858 : BitVec 32 := Scalar.addi c0_i32_1670 v1857
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1671 : BitVec 32 := 2#32
  let v1859 : BitVec 32 := Scalar.muli v5 c2_i32_1671
  let v1860 : BitVec 32 := Scalar.addi v1858 v1859
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1672 : BitVec 32 := 1#32
  let v1861 : BitVec 32 := Scalar.muli v8 c1_i32_1672
  let v1862 : BitVec 32 := Scalar.addi v1860 v1861
  v1862.toNat
def k0_dev7 (d0 : Dev nD) : Nat :=
  let c0_i32_1679 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1678 : BitVec 32 := 4#32
  let v1868 : BitVec 32 := Scalar.muli v2 c4_i32_1678
  let v1869 : BitVec 32 := Scalar.addi c0_i32_1679 v1868
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1680 : BitVec 32 := 2#32
  let v1870 : BitVec 32 := Scalar.muli v11 c2_i32_1680
  let v1871 : BitVec 32 := Scalar.addi v1869 v1870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1681 : BitVec 32 := 1#32
  let v1872 : BitVec 32 := Scalar.muli v8 c1_i32_1681
  let v1873 : BitVec 32 := Scalar.addi v1871 v1872
  v1873.toNat
def k0_dev8 (d0 : Dev nD) : Nat :=
  let c0_i32_1688 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_1687 : BitVec 32 := 4#32
  let v1879 : BitVec 32 := Scalar.muli v12 c4_i32_1687
  let v1880 : BitVec 32 := Scalar.addi c0_i32_1688 v1879
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_1689 : BitVec 32 := 2#32
  let v1881 : BitVec 32 := Scalar.muli v13 c2_i32_1689
  let v1882 : BitVec 32 := Scalar.addi v1880 v1881
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1690 : BitVec 32 := 1#32
  let v1883 : BitVec 32 := Scalar.muli v8 c1_i32_1690
  let v1884 : BitVec 32 := Scalar.addi v1882 v1883
  v1884.toNat
def k0_dev9 (d0 : Dev nD) : Nat :=
  let c0_i32_1709 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1708 : BitVec 32 := 4#32
  let v1910 : BitVec 32 := Scalar.muli v2 c4_i32_1708
  let v1911 : BitVec 32 := Scalar.addi c0_i32_1709 v1910
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1710 : BitVec 32 := 2#32
  let v1912 : BitVec 32 := Scalar.muli v5 c2_i32_1710
  let v1913 : BitVec 32 := Scalar.addi v1911 v1912
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1711 : BitVec 32 := 1#32
  let v1914 : BitVec 32 := Scalar.muli v9 c1_i32_1711
  let v1915 : BitVec 32 := Scalar.addi v1913 v1914
  v1915.toNat
def k0_dev10 (d0 : Dev nD) : Nat :=
  let c0_i32_1718 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1717 : BitVec 32 := 4#32
  let v1921 : BitVec 32 := Scalar.muli v10 c4_i32_1717
  let v1922 : BitVec 32 := Scalar.addi c0_i32_1718 v1921
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1719 : BitVec 32 := 2#32
  let v1923 : BitVec 32 := Scalar.muli v5 c2_i32_1719
  let v1924 : BitVec 32 := Scalar.addi v1922 v1923
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1720 : BitVec 32 := 1#32
  let v1925 : BitVec 32 := Scalar.muli v8 c1_i32_1720
  let v1926 : BitVec 32 := Scalar.addi v1924 v1925
  v1926.toNat
def k0_dev11 (d0 : Dev nD) : Nat :=
  let c0_i32_1727 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1726 : BitVec 32 := 4#32
  let v1932 : BitVec 32 := Scalar.muli v2 c4_i32_1726
  let v1933 : BitVec 32 := Scalar.addi c0_i32_1727 v1932
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1728 : BitVec 32 := 2#32
  let v1934 : BitVec 32 := Scalar.muli v11 c2_i32_1728
  let v1935 : BitVec 32 := Scalar.addi v1933 v1934
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1729 : BitVec 32 := 1#32
  let v1936 : BitVec 32 := Scalar.muli v8 c1_i32_1729
  let v1937 : BitVec 32 := Scalar.addi v1935 v1936
  v1937.toNat
def k0_dev12 (d0 : Dev nD) : Nat :=
  let c0_i32_1736 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_1735 : BitVec 32 := 4#32
  let v1943 : BitVec 32 := Scalar.muli v12 c4_i32_1735
  let v1944 : BitVec 32 := Scalar.addi c0_i32_1736 v1943
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_1737 : BitVec 32 := 2#32
  let v1945 : BitVec 32 := Scalar.muli v13 c2_i32_1737
  let v1946 : BitVec 32 := Scalar.addi v1944 v1945
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1738 : BitVec 32 := 1#32
  let v1947 : BitVec 32 := Scalar.muli v8 c1_i32_1738
  let v1948 : BitVec 32 := Scalar.addi v1946 v1947
  v1948.toNat
def k0_dev13 (d0 : Dev nD) : Nat :=
  let c0_i32_1757 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1756 : BitVec 32 := 4#32
  let v1974 : BitVec 32 := Scalar.muli v2 c4_i32_1756
  let v1975 : BitVec 32 := Scalar.addi c0_i32_1757 v1974
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1758 : BitVec 32 := 2#32
  let v1976 : BitVec 32 := Scalar.muli v5 c2_i32_1758
  let v1977 : BitVec 32 := Scalar.addi v1975 v1976
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1759 : BitVec 32 := 1#32
  let v1978 : BitVec 32 := Scalar.muli v9 c1_i32_1759
  let v1979 : BitVec 32 := Scalar.addi v1977 v1978
  v1979.toNat
def k0_dev14 (d0 : Dev nD) : Nat :=
  let c0_i32_1766 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1765 : BitVec 32 := 4#32
  let v1985 : BitVec 32 := Scalar.muli v10 c4_i32_1765
  let v1986 : BitVec 32 := Scalar.addi c0_i32_1766 v1985
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1767 : BitVec 32 := 2#32
  let v1987 : BitVec 32 := Scalar.muli v5 c2_i32_1767
  let v1988 : BitVec 32 := Scalar.addi v1986 v1987
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1768 : BitVec 32 := 1#32
  let v1989 : BitVec 32 := Scalar.muli v8 c1_i32_1768
  let v1990 : BitVec 32 := Scalar.addi v1988 v1989
  v1990.toNat
def k0_dev15 (d0 : Dev nD) : Nat :=
  let c0_i32_1775 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1774 : BitVec 32 := 4#32
  let v1996 : BitVec 32 := Scalar.muli v2 c4_i32_1774
  let v1997 : BitVec 32 := Scalar.addi c0_i32_1775 v1996
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1776 : BitVec 32 := 2#32
  let v1998 : BitVec 32 := Scalar.muli v11 c2_i32_1776
  let v1999 : BitVec 32 := Scalar.addi v1997 v1998
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1777 : BitVec 32 := 1#32
  let v2000 : BitVec 32 := Scalar.muli v8 c1_i32_1777
  let v2001 : BitVec 32 := Scalar.addi v1999 v2000
  v2001.toNat
def k0_dev16 (d0 : Dev nD) : Nat :=
  let c0_i32_1784 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_1783 : BitVec 32 := 4#32
  let v2007 : BitVec 32 := Scalar.muli v12 c4_i32_1783
  let v2008 : BitVec 32 := Scalar.addi c0_i32_1784 v2007
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_1785 : BitVec 32 := 2#32
  let v2009 : BitVec 32 := Scalar.muli v13 c2_i32_1785
  let v2010 : BitVec 32 := Scalar.addi v2008 v2009
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1786 : BitVec 32 := 1#32
  let v2011 : BitVec 32 := Scalar.muli v8 c1_i32_1786
  let v2012 : BitVec 32 := Scalar.addi v2010 v2011
  v2012.toNat
def k0_dev17 (d0 : Dev nD) : Nat :=
  let c0_i32_1805 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1804 : BitVec 32 := 4#32
  let v2038 : BitVec 32 := Scalar.muli v2 c4_i32_1804
  let v2039 : BitVec 32 := Scalar.addi c0_i32_1805 v2038
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1806 : BitVec 32 := 2#32
  let v2040 : BitVec 32 := Scalar.muli v5 c2_i32_1806
  let v2041 : BitVec 32 := Scalar.addi v2039 v2040
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1807 : BitVec 32 := 1#32
  let v2042 : BitVec 32 := Scalar.muli v9 c1_i32_1807
  let v2043 : BitVec 32 := Scalar.addi v2041 v2042
  v2043.toNat
def k0_dev18 (d0 : Dev nD) : Nat :=
  let c0_i32_1814 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1813 : BitVec 32 := 4#32
  let v2049 : BitVec 32 := Scalar.muli v10 c4_i32_1813
  let v2050 : BitVec 32 := Scalar.addi c0_i32_1814 v2049
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1815 : BitVec 32 := 2#32
  let v2051 : BitVec 32 := Scalar.muli v5 c2_i32_1815
  let v2052 : BitVec 32 := Scalar.addi v2050 v2051
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1816 : BitVec 32 := 1#32
  let v2053 : BitVec 32 := Scalar.muli v8 c1_i32_1816
  let v2054 : BitVec 32 := Scalar.addi v2052 v2053
  v2054.toNat
def k0_dev19 (d0 : Dev nD) : Nat :=
  let c0_i32_1823 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1822 : BitVec 32 := 4#32
  let v2060 : BitVec 32 := Scalar.muli v2 c4_i32_1822
  let v2061 : BitVec 32 := Scalar.addi c0_i32_1823 v2060
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1824 : BitVec 32 := 2#32
  let v2062 : BitVec 32 := Scalar.muli v11 c2_i32_1824
  let v2063 : BitVec 32 := Scalar.addi v2061 v2062
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1825 : BitVec 32 := 1#32
  let v2064 : BitVec 32 := Scalar.muli v8 c1_i32_1825
  let v2065 : BitVec 32 := Scalar.addi v2063 v2064
  v2065.toNat
def k0_dev20 (d0 : Dev nD) : Nat :=
  let c0_i32_1832 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_1831 : BitVec 32 := 4#32
  let v2071 : BitVec 32 := Scalar.muli v12 c4_i32_1831
  let v2072 : BitVec 32 := Scalar.addi c0_i32_1832 v2071
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_1833 : BitVec 32 := 2#32
  let v2073 : BitVec 32 := Scalar.muli v13 c2_i32_1833
  let v2074 : BitVec 32 := Scalar.addi v2072 v2073
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1834 : BitVec 32 := 1#32
  let v2075 : BitVec 32 := Scalar.muli v8 c1_i32_1834
  let v2076 : BitVec 32 := Scalar.addi v2074 v2075
  v2076.toNat
def k0_dev21 (d0 : Dev nD) : Nat :=
  let c0_i32_1853 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1852 : BitVec 32 := 4#32
  let v2102 : BitVec 32 := Scalar.muli v2 c4_i32_1852
  let v2103 : BitVec 32 := Scalar.addi c0_i32_1853 v2102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1854 : BitVec 32 := 2#32
  let v2104 : BitVec 32 := Scalar.muli v5 c2_i32_1854
  let v2105 : BitVec 32 := Scalar.addi v2103 v2104
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1855 : BitVec 32 := 1#32
  let v2106 : BitVec 32 := Scalar.muli v9 c1_i32_1855
  let v2107 : BitVec 32 := Scalar.addi v2105 v2106
  v2107.toNat
def k0_dev22 (d0 : Dev nD) : Nat :=
  let c0_i32_1862 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1861 : BitVec 32 := 4#32
  let v2113 : BitVec 32 := Scalar.muli v10 c4_i32_1861
  let v2114 : BitVec 32 := Scalar.addi c0_i32_1862 v2113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1863 : BitVec 32 := 2#32
  let v2115 : BitVec 32 := Scalar.muli v5 c2_i32_1863
  let v2116 : BitVec 32 := Scalar.addi v2114 v2115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1864 : BitVec 32 := 1#32
  let v2117 : BitVec 32 := Scalar.muli v8 c1_i32_1864
  let v2118 : BitVec 32 := Scalar.addi v2116 v2117
  v2118.toNat
def k0_dev23 (d0 : Dev nD) : Nat :=
  let c0_i32_1871 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1870 : BitVec 32 := 4#32
  let v2124 : BitVec 32 := Scalar.muli v2 c4_i32_1870
  let v2125 : BitVec 32 := Scalar.addi c0_i32_1871 v2124
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1872 : BitVec 32 := 2#32
  let v2126 : BitVec 32 := Scalar.muli v11 c2_i32_1872
  let v2127 : BitVec 32 := Scalar.addi v2125 v2126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1873 : BitVec 32 := 1#32
  let v2128 : BitVec 32 := Scalar.muli v8 c1_i32_1873
  let v2129 : BitVec 32 := Scalar.addi v2127 v2128
  v2129.toNat
def k0_dev24 (d0 : Dev nD) : Nat :=
  let c0_i32_1880 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_1879 : BitVec 32 := 4#32
  let v2135 : BitVec 32 := Scalar.muli v12 c4_i32_1879
  let v2136 : BitVec 32 := Scalar.addi c0_i32_1880 v2135
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_1881 : BitVec 32 := 2#32
  let v2137 : BitVec 32 := Scalar.muli v13 c2_i32_1881
  let v2138 : BitVec 32 := Scalar.addi v2136 v2137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1882 : BitVec 32 := 1#32
  let v2139 : BitVec 32 := Scalar.muli v8 c1_i32_1882
  let v2140 : BitVec 32 := Scalar.addi v2138 v2139
  v2140.toNat
def k0_cond2 (i : grid0.Coords) : BitVec 1 :=
  let arg0 : BitVec 32 := BitVec.ofNat 32 (i 0).val
  let c12_i32 : BitVec 32 := 12#32
  let v17 : BitVec 1 := Scalar.cmpi .eq arg0 c12_i32
  let v18 : BitVec 32 := Scalar.extui v17
  let c0_i32_9 : BitVec 32 := 0#32
  let v19 : BitVec 1 := Scalar.cmpi .ne v18 c0_i32_9
  v19

def k0_off4 (d0 : Dev nD) : Fin 2 → Nat :=
  let c4_i32_1572 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1719 : BitVec 32 := Scalar.muli c4_i32_1572 v10
  let c2_i32_1573 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1720 : BitVec 32 := Scalar.muli c2_i32_1573 v5
  let v1721 : BitVec 32 := Scalar.addi v1719 v1720
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1722 : BitVec 32 := Scalar.addi v1721 v8
  let c352_i32_1574 : BitVec 32 := 352#32
  let v1723 : BitVec 32 := Scalar.muli v1722 c352_i32_1574
  let c0_i32_1583 : BitVec 32 := 0#32
  ![v1723.toNat, 0]
def k0_dev25 (d0 : Dev nD) : Nat :=
  let c0_i32_1596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1595 : BitVec 32 := 4#32
  let v1744 : BitVec 32 := Scalar.muli v2 c4_i32_1595
  let v1745 : BitVec 32 := Scalar.addi c0_i32_1596 v1744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1597 : BitVec 32 := 2#32
  let v1746 : BitVec 32 := Scalar.muli v5 c2_i32_1597
  let v1747 : BitVec 32 := Scalar.addi v1745 v1746
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1598 : BitVec 32 := 1#32
  let v1748 : BitVec 32 := Scalar.muli v9 c1_i32_1598
  let v1749 : BitVec 32 := Scalar.addi v1747 v1748
  v1749.toNat
def k0_off5 (d0 : Dev nD) : Fin 2 → Nat :=
  let c4_i32_1604 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1761 : BitVec 32 := Scalar.muli c4_i32_1604 v2
  let c2_i32_1605 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1762 : BitVec 32 := Scalar.muli c2_i32_1605 v11
  let v1763 : BitVec 32 := Scalar.addi v1761 v1762
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1764 : BitVec 32 := Scalar.addi v1763 v8
  let c352_i32_1606 : BitVec 32 := 352#32
  let v1765 : BitVec 32 := Scalar.muli v1764 c352_i32_1606
  let c0_i32_1615 : BitVec 32 := 0#32
  ![v1765.toNat, 0]
def k0_dev26 (d0 : Dev nD) : Nat :=
  let c0_i32_1627 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1626 : BitVec 32 := 4#32
  let v1786 : BitVec 32 := Scalar.muli v2 c4_i32_1626
  let v1787 : BitVec 32 := Scalar.addi c0_i32_1627 v1786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1628 : BitVec 32 := 2#32
  let v1788 : BitVec 32 := Scalar.muli v5 c2_i32_1628
  let v1789 : BitVec 32 := Scalar.addi v1787 v1788
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1629 : BitVec 32 := 1#32
  let v1790 : BitVec 32 := Scalar.muli v9 c1_i32_1629
  let v1791 : BitVec 32 := Scalar.addi v1789 v1790
  v1791.toNat
def k0_off6 (d0 : Dev nD) : Fin 2 → Nat :=
  let c4_i32_1635 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1803 : BitVec 32 := Scalar.muli c4_i32_1635 v12
  let c2_i32_1636 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1804 : BitVec 32 := Scalar.muli c2_i32_1636 v13
  let v1805 : BitVec 32 := Scalar.addi v1803 v1804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1806 : BitVec 32 := Scalar.addi v1805 v8
  let c352_i32_1637 : BitVec 32 := 352#32
  let v1807 : BitVec 32 := Scalar.muli v1806 c352_i32_1637
  let c0_i32_1645 : BitVec 32 := 0#32
  ![v1807.toNat, 0]
def k0_dev27 (d0 : Dev nD) : Nat :=
  let c0_i32_1657 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1656 : BitVec 32 := 4#32
  let v1828 : BitVec 32 := Scalar.muli v2 c4_i32_1656
  let v1829 : BitVec 32 := Scalar.addi c0_i32_1657 v1828
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1658 : BitVec 32 := 2#32
  let v1830 : BitVec 32 := Scalar.muli v5 c2_i32_1658
  let v1831 : BitVec 32 := Scalar.addi v1829 v1830
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1659 : BitVec 32 := 1#32
  let v1832 : BitVec 32 := Scalar.muli v9 c1_i32_1659
  let v1833 : BitVec 32 := Scalar.addi v1831 v1832
  v1833.toNat
def k0_dev28 (d0 : Dev nD) : Nat :=
  let c0_i32_1689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1688 : BitVec 32 := 4#32
  let v1870 : BitVec 32 := Scalar.muli v2 c4_i32_1688
  let v1871 : BitVec 32 := Scalar.addi c0_i32_1689 v1870
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1690 : BitVec 32 := 2#32
  let v1872 : BitVec 32 := Scalar.muli v5 c2_i32_1690
  let v1873 : BitVec 32 := Scalar.addi v1871 v1872
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1691 : BitVec 32 := 1#32
  let v1874 : BitVec 32 := Scalar.muli v9 c1_i32_1691
  let v1875 : BitVec 32 := Scalar.addi v1873 v1874
  v1875.toNat
def k0_dev29 (d0 : Dev nD) : Nat :=
  let c0_i32_1721 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1720 : BitVec 32 := 4#32
  let v1912 : BitVec 32 := Scalar.muli v2 c4_i32_1720
  let v1913 : BitVec 32 := Scalar.addi c0_i32_1721 v1912
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1722 : BitVec 32 := 2#32
  let v1914 : BitVec 32 := Scalar.muli v5 c2_i32_1722
  let v1915 : BitVec 32 := Scalar.addi v1913 v1914
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1723 : BitVec 32 := 1#32
  let v1916 : BitVec 32 := Scalar.muli v9 c1_i32_1723
  let v1917 : BitVec 32 := Scalar.addi v1915 v1916
  v1917.toNat
def k0_dev30 (d0 : Dev nD) : Nat :=
  let c0_i32_1753 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1752 : BitVec 32 := 4#32
  let v1954 : BitVec 32 := Scalar.muli v2 c4_i32_1752
  let v1955 : BitVec 32 := Scalar.addi c0_i32_1753 v1954
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1754 : BitVec 32 := 2#32
  let v1956 : BitVec 32 := Scalar.muli v5 c2_i32_1754
  let v1957 : BitVec 32 := Scalar.addi v1955 v1956
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1755 : BitVec 32 := 1#32
  let v1958 : BitVec 32 := Scalar.muli v9 c1_i32_1755
  let v1959 : BitVec 32 := Scalar.addi v1957 v1958
  v1959.toNat
def k0_off7 (d0 : Dev nD) : Fin 2 → Nat :=
  let c4_i32_1760 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1971 : BitVec 32 := Scalar.muli c4_i32_1760 v10
  let c2_i32_1761 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1972 : BitVec 32 := Scalar.muli c2_i32_1761 v5
  let v1973 : BitVec 32 := Scalar.addi v1971 v1972
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1974 : BitVec 32 := Scalar.addi v1973 v8
  let c128_i32_1762 : BitVec 32 := 128#32
  let v1975 : BitVec 32 := Scalar.muli v1974 c128_i32_1762
  let c0_i32_1771 : BitVec 32 := 0#32
  ![v1975.toNat, 0]
def k0_dev31 (d0 : Dev nD) : Nat :=
  let c0_i32_1784 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1783 : BitVec 32 := 4#32
  let v1996 : BitVec 32 := Scalar.muli v2 c4_i32_1783
  let v1997 : BitVec 32 := Scalar.addi c0_i32_1784 v1996
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1785 : BitVec 32 := 2#32
  let v1998 : BitVec 32 := Scalar.muli v5 c2_i32_1785
  let v1999 : BitVec 32 := Scalar.addi v1997 v1998
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1786 : BitVec 32 := 1#32
  let v2000 : BitVec 32 := Scalar.muli v9 c1_i32_1786
  let v2001 : BitVec 32 := Scalar.addi v1999 v2000
  v2001.toNat
def k0_off8 (d0 : Dev nD) : Fin 2 → Nat :=
  let c4_i32_1792 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2013 : BitVec 32 := Scalar.muli c4_i32_1792 v2
  let c2_i32_1793 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2014 : BitVec 32 := Scalar.muli c2_i32_1793 v11
  let v2015 : BitVec 32 := Scalar.addi v2013 v2014
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2016 : BitVec 32 := Scalar.addi v2015 v8
  let c128_i32_1794 : BitVec 32 := 128#32
  let v2017 : BitVec 32 := Scalar.muli v2016 c128_i32_1794
  let c0_i32_1803 : BitVec 32 := 0#32
  ![v2017.toNat, 0]
def k0_dev32 (d0 : Dev nD) : Nat :=
  let c0_i32_1816 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1815 : BitVec 32 := 4#32
  let v2038 : BitVec 32 := Scalar.muli v2 c4_i32_1815
  let v2039 : BitVec 32 := Scalar.addi c0_i32_1816 v2038
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1817 : BitVec 32 := 2#32
  let v2040 : BitVec 32 := Scalar.muli v5 c2_i32_1817
  let v2041 : BitVec 32 := Scalar.addi v2039 v2040
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1818 : BitVec 32 := 1#32
  let v2042 : BitVec 32 := Scalar.muli v9 c1_i32_1818
  let v2043 : BitVec 32 := Scalar.addi v2041 v2042
  v2043.toNat
def k0_off9 (d0 : Dev nD) : Fin 2 → Nat :=
  let c4_i32_1824 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2055 : BitVec 32 := Scalar.muli c4_i32_1824 v12
  let c2_i32_1825 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2056 : BitVec 32 := Scalar.muli c2_i32_1825 v13
  let v2057 : BitVec 32 := Scalar.addi v2055 v2056
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2058 : BitVec 32 := Scalar.addi v2057 v8
  let c128_i32_1826 : BitVec 32 := 128#32
  let v2059 : BitVec 32 := Scalar.muli v2058 c128_i32_1826
  let c0_i32_1835 : BitVec 32 := 0#32
  ![v2059.toNat, 0]
def k0_dev33 (d0 : Dev nD) : Nat :=
  let c0_i32_1848 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1847 : BitVec 32 := 4#32
  let v2080 : BitVec 32 := Scalar.muli v2 c4_i32_1847
  let v2081 : BitVec 32 := Scalar.addi c0_i32_1848 v2080
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1849 : BitVec 32 := 2#32
  let v2082 : BitVec 32 := Scalar.muli v5 c2_i32_1849
  let v2083 : BitVec 32 := Scalar.addi v2081 v2082
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1850 : BitVec 32 := 1#32
  let v2084 : BitVec 32 := Scalar.muli v9 c1_i32_1850
  let v2085 : BitVec 32 := Scalar.addi v2083 v2084
  v2085.toNat
def k0_off10 (d0 : Dev nD) : Fin 2 → Nat :=
  let c4_i32_1856 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2097 : BitVec 32 := Scalar.muli c4_i32_1856 v10
  let c2_i32_1857 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2098 : BitVec 32 := Scalar.muli c2_i32_1857 v5
  let v2099 : BitVec 32 := Scalar.addi v2097 v2098
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2100 : BitVec 32 := Scalar.addi v2099 v8
  let c128_i32_1858 : BitVec 32 := 128#32
  let v2101 : BitVec 32 := Scalar.muli v2100 c128_i32_1858
  let c0_i32_1867 : BitVec 32 := 0#32
  ![v2101.toNat, 0]
def k0_dev34 (d0 : Dev nD) : Nat :=
  let c0_i32_1880 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1879 : BitVec 32 := 4#32
  let v2122 : BitVec 32 := Scalar.muli v2 c4_i32_1879
  let v2123 : BitVec 32 := Scalar.addi c0_i32_1880 v2122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1881 : BitVec 32 := 2#32
  let v2124 : BitVec 32 := Scalar.muli v5 c2_i32_1881
  let v2125 : BitVec 32 := Scalar.addi v2123 v2124
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1882 : BitVec 32 := 1#32
  let v2126 : BitVec 32 := Scalar.muli v9 c1_i32_1882
  let v2127 : BitVec 32 := Scalar.addi v2125 v2126
  v2127.toNat
def k0_off11 (d0 : Dev nD) : Fin 2 → Nat :=
  let c4_i32_1888 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2139 : BitVec 32 := Scalar.muli c4_i32_1888 v2
  let c2_i32_1889 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2140 : BitVec 32 := Scalar.muli c2_i32_1889 v11
  let v2141 : BitVec 32 := Scalar.addi v2139 v2140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2142 : BitVec 32 := Scalar.addi v2141 v8
  let c128_i32_1890 : BitVec 32 := 128#32
  let v2143 : BitVec 32 := Scalar.muli v2142 c128_i32_1890
  let c0_i32_1899 : BitVec 32 := 0#32
  ![v2143.toNat, 0]
def k0_dev35 (d0 : Dev nD) : Nat :=
  let c0_i32_1912 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1911 : BitVec 32 := 4#32
  let v2164 : BitVec 32 := Scalar.muli v2 c4_i32_1911
  let v2165 : BitVec 32 := Scalar.addi c0_i32_1912 v2164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1913 : BitVec 32 := 2#32
  let v2166 : BitVec 32 := Scalar.muli v5 c2_i32_1913
  let v2167 : BitVec 32 := Scalar.addi v2165 v2166
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1914 : BitVec 32 := 1#32
  let v2168 : BitVec 32 := Scalar.muli v9 c1_i32_1914
  let v2169 : BitVec 32 := Scalar.addi v2167 v2168
  v2169.toNat
def k0_off12 (d0 : Dev nD) : Fin 2 → Nat :=
  let c4_i32_1920 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2181 : BitVec 32 := Scalar.muli c4_i32_1920 v12
  let c2_i32_1921 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2182 : BitVec 32 := Scalar.muli c2_i32_1921 v13
  let v2183 : BitVec 32 := Scalar.addi v2181 v2182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2184 : BitVec 32 := Scalar.addi v2183 v8
  let c128_i32_1922 : BitVec 32 := 128#32
  let v2185 : BitVec 32 := Scalar.muli v2184 c128_i32_1922
  let c0_i32_1931 : BitVec 32 := 0#32
  ![v2185.toNat, 0]
def k0_dev36 (d0 : Dev nD) : Nat :=
  let c0_i32_1944 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1943 : BitVec 32 := 4#32
  let v2206 : BitVec 32 := Scalar.muli v2 c4_i32_1943
  let v2207 : BitVec 32 := Scalar.addi c0_i32_1944 v2206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1945 : BitVec 32 := 2#32
  let v2208 : BitVec 32 := Scalar.muli v5 c2_i32_1945
  let v2209 : BitVec 32 := Scalar.addi v2207 v2208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1946 : BitVec 32 := 1#32
  let v2210 : BitVec 32 := Scalar.muli v9 c1_i32_1946
  let v2211 : BitVec 32 := Scalar.addi v2209 v2210
  v2211.toNat
def k0_dev37 (d0 : Dev nD) : Nat :=
  let c0_i32_1976 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1975 : BitVec 32 := 4#32
  let v2248 : BitVec 32 := Scalar.muli v2 c4_i32_1975
  let v2249 : BitVec 32 := Scalar.addi c0_i32_1976 v2248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1977 : BitVec 32 := 2#32
  let v2250 : BitVec 32 := Scalar.muli v5 c2_i32_1977
  let v2251 : BitVec 32 := Scalar.addi v2249 v2250
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1978 : BitVec 32 := 1#32
  let v2252 : BitVec 32 := Scalar.muli v9 c1_i32_1978
  let v2253 : BitVec 32 := Scalar.addi v2251 v2252
  v2253.toNat
def k0_dev38 (d0 : Dev nD) : Nat :=
  let c0_i32_2008 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2007 : BitVec 32 := 4#32
  let v2290 : BitVec 32 := Scalar.muli v2 c4_i32_2007
  let v2291 : BitVec 32 := Scalar.addi c0_i32_2008 v2290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2009 : BitVec 32 := 2#32
  let v2292 : BitVec 32 := Scalar.muli v5 c2_i32_2009
  let v2293 : BitVec 32 := Scalar.addi v2291 v2292
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_2010 : BitVec 32 := 1#32
  let v2294 : BitVec 32 := Scalar.muli v9 c1_i32_2010
  let v2295 : BitVec 32 := Scalar.addi v2293 v2294
  v2295.toNat
def k0_dev39 (d0 : Dev nD) : Nat :=
  let c0_i32_2040 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2039 : BitVec 32 := 4#32
  let v2332 : BitVec 32 := Scalar.muli v2 c4_i32_2039
  let v2333 : BitVec 32 := Scalar.addi c0_i32_2040 v2332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2041 : BitVec 32 := 2#32
  let v2334 : BitVec 32 := Scalar.muli v5 c2_i32_2041
  let v2335 : BitVec 32 := Scalar.addi v2333 v2334
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_2042 : BitVec 32 := 1#32
  let v2336 : BitVec 32 := Scalar.muli v9 c1_i32_2042
  let v2337 : BitVec 32 := Scalar.addi v2335 v2336
  v2337.toNat
def k0_dev40 (d0 : Dev nD) : Nat :=
  let c0_i32_2072 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2071 : BitVec 32 := 4#32
  let v2374 : BitVec 32 := Scalar.muli v2 c4_i32_2071
  let v2375 : BitVec 32 := Scalar.addi c0_i32_2072 v2374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2073 : BitVec 32 := 2#32
  let v2376 : BitVec 32 := Scalar.muli v5 c2_i32_2073
  let v2377 : BitVec 32 := Scalar.addi v2375 v2376
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_2074 : BitVec 32 := 1#32
  let v2378 : BitVec 32 := Scalar.muli v9 c1_i32_2074
  let v2379 : BitVec 32 := Scalar.addi v2377 v2378
  v2379.toNat
def k0_dev41 (d0 : Dev nD) : Nat :=
  let c0_i32_2104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2103 : BitVec 32 := 4#32
  let v2416 : BitVec 32 := Scalar.muli v2 c4_i32_2103
  let v2417 : BitVec 32 := Scalar.addi c0_i32_2104 v2416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2105 : BitVec 32 := 2#32
  let v2418 : BitVec 32 := Scalar.muli v5 c2_i32_2105
  let v2419 : BitVec 32 := Scalar.addi v2417 v2418
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_2106 : BitVec 32 := 1#32
  let v2420 : BitVec 32 := Scalar.muli v9 c1_i32_2106
  let v2421 : BitVec 32 := Scalar.addi v2419 v2420
  v2421.toNat
def k0_dev42 (d0 : Dev nD) : Nat :=
  let c0_i32_2136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2135 : BitVec 32 := 4#32
  let v2458 : BitVec 32 := Scalar.muli v2 c4_i32_2135
  let v2459 : BitVec 32 := Scalar.addi c0_i32_2136 v2458
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2137 : BitVec 32 := 2#32
  let v2460 : BitVec 32 := Scalar.muli v5 c2_i32_2137
  let v2461 : BitVec 32 := Scalar.addi v2459 v2460
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_2138 : BitVec 32 := 1#32
  let v2462 : BitVec 32 := Scalar.muli v9 c1_i32_2138
  let v2463 : BitVec 32 := Scalar.addi v2461 v2462
  v2463.toNat
def k0_cond3 (i : grid0.Coords) : BitVec 1 :=
  let arg0 : BitVec 32 := BitVec.ofNat 32 (i 0).val
  let c15_i32 : BitVec 32 := 15#32
  let v1711 : BitVec 1 := Scalar.cmpi .eq arg0 c15_i32
  let v1712 : BitVec 32 := Scalar.extui v1711
  let c0_i32_1569 : BitVec 32 := 0#32
  let v1713 : BitVec 1 := Scalar.cmpi .ne v1712 c0_i32_1569
  v1713

def k0_off13 (d0 : Dev nD) : Fin 2 → Nat :=
  let c4_i32_1572 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1719 : BitVec 32 := Scalar.muli c4_i32_1572 v2
  let c2_i32_1573 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1720 : BitVec 32 := Scalar.muli c2_i32_1573 v5
  let v1721 : BitVec 32 := Scalar.addi v1719 v1720
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1722 : BitVec 32 := Scalar.addi v1721 v9
  let c352_i32_1574 : BitVec 32 := 352#32
  let v1723 : BitVec 32 := Scalar.muli v1722 c352_i32_1574
  let c0_i32_1583 : BitVec 32 := 0#32
  ![v1723.toNat, 0]
def k0_off14 (d0 : Dev nD) : Fin 2 → Nat :=
  let c4_i32_1589 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1740 : BitVec 32 := Scalar.muli c4_i32_1589 v10
  let c2_i32_1590 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1741 : BitVec 32 := Scalar.muli c2_i32_1590 v5
  let v1742 : BitVec 32 := Scalar.addi v1740 v1741
  let c1_i32_1585 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1734 : BitVec 32 := Scalar.subi c1_i32_1585 v8
  let v1743 : BitVec 32 := Scalar.addi v1742 v1734
  let c352_i32_1591 : BitVec 32 := 352#32
  let v1744 : BitVec 32 := Scalar.muli v1743 c352_i32_1591
  let c0_i32_1600 : BitVec 32 := 0#32
  ![v1744.toNat, 0]
def k0_off15 (d0 : Dev nD) : Fin 2 → Nat :=
  let c4_i32_1606 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1761 : BitVec 32 := Scalar.muli c4_i32_1606 v2
  let c2_i32_1607 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1762 : BitVec 32 := Scalar.muli c2_i32_1607 v11
  let v1763 : BitVec 32 := Scalar.addi v1761 v1762
  let c1_i32_1602 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1755 : BitVec 32 := Scalar.subi c1_i32_1602 v8
  let v1764 : BitVec 32 := Scalar.addi v1763 v1755
  let c352_i32_1608 : BitVec 32 := 352#32
  let v1765 : BitVec 32 := Scalar.muli v1764 c352_i32_1608
  let c0_i32_1616 : BitVec 32 := 0#32
  ![v1765.toNat, 0]
def k0_off16 (d0 : Dev nD) : Fin 2 → Nat :=
  let c4_i32_1622 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1782 : BitVec 32 := Scalar.muli c4_i32_1622 v12
  let c2_i32_1623 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1783 : BitVec 32 := Scalar.muli c2_i32_1623 v13
  let v1784 : BitVec 32 := Scalar.addi v1782 v1783
  let c1_i32_1618 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1776 : BitVec 32 := Scalar.subi c1_i32_1618 v8
  let v1785 : BitVec 32 := Scalar.addi v1784 v1776
  let c352_i32_1624 : BitVec 32 := 352#32
  let v1786 : BitVec 32 := Scalar.muli v1785 c352_i32_1624
  let c0_i32_1632 : BitVec 32 := 0#32
  ![v1786.toNat, 0]
def k0_off17 (d0 : Dev nD) : Fin 2 → Nat :=
  let c4_i32_1703 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1885 : BitVec 32 := Scalar.muli c4_i32_1703 v2
  let c2_i32_1704 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1886 : BitVec 32 := Scalar.muli c2_i32_1704 v5
  let v1887 : BitVec 32 := Scalar.addi v1885 v1886
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1888 : BitVec 32 := Scalar.addi v1887 v9
  let c128_i32_1705 : BitVec 32 := 128#32
  let v1889 : BitVec 32 := Scalar.muli v1888 c128_i32_1705
  let c0_i32_1714 : BitVec 32 := 0#32
  ![v1889.toNat, 0]
def k0_off18 (d0 : Dev nD) : Fin 2 → Nat :=
  let c4_i32_1720 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1906 : BitVec 32 := Scalar.muli c4_i32_1720 v10
  let c2_i32_1721 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1907 : BitVec 32 := Scalar.muli c2_i32_1721 v5
  let v1908 : BitVec 32 := Scalar.addi v1906 v1907
  let c1_i32_1716 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1900 : BitVec 32 := Scalar.subi c1_i32_1716 v8
  let v1909 : BitVec 32 := Scalar.addi v1908 v1900
  let c128_i32_1722 : BitVec 32 := 128#32
  let v1910 : BitVec 32 := Scalar.muli v1909 c128_i32_1722
  let c0_i32_1731 : BitVec 32 := 0#32
  ![v1910.toNat, 0]
def k0_off19 (d0 : Dev nD) : Fin 2 → Nat :=
  let c4_i32_1737 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1927 : BitVec 32 := Scalar.muli c4_i32_1737 v2
  let c2_i32_1738 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1928 : BitVec 32 := Scalar.muli c2_i32_1738 v11
  let v1929 : BitVec 32 := Scalar.addi v1927 v1928
  let c1_i32_1733 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1921 : BitVec 32 := Scalar.subi c1_i32_1733 v8
  let v1930 : BitVec 32 := Scalar.addi v1929 v1921
  let c128_i32_1739 : BitVec 32 := 128#32
  let v1931 : BitVec 32 := Scalar.muli v1930 c128_i32_1739
  let c0_i32_1748 : BitVec 32 := 0#32
  ![v1931.toNat, 0]
def k0_off20 (d0 : Dev nD) : Fin 2 → Nat :=
  let c4_i32_1754 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1948 : BitVec 32 := Scalar.muli c4_i32_1754 v12
  let c2_i32_1755 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1949 : BitVec 32 := Scalar.muli c2_i32_1755 v13
  let v1950 : BitVec 32 := Scalar.addi v1948 v1949
  let c1_i32_1750 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1942 : BitVec 32 := Scalar.subi c1_i32_1750 v8
  let v1951 : BitVec 32 := Scalar.addi v1950 v1942
  let c128_i32_1756 : BitVec 32 := 128#32
  let v1952 : BitVec 32 := Scalar.muli v1951 c128_i32_1756
  let c0_i32_1765 : BitVec 32 := 0#32
  ![v1952.toNat, 0]
def k0_off21 (d0 : Dev nD) : Fin 2 → Nat :=
  let c4_i32_1770 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1968 : BitVec 32 := Scalar.muli c4_i32_1770 v2
  let c2_i32_1771 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1969 : BitVec 32 := Scalar.muli c2_i32_1771 v5
  let v1970 : BitVec 32 := Scalar.addi v1968 v1969
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1971 : BitVec 32 := Scalar.addi v1970 v9
  let c128_i32_1772 : BitVec 32 := 128#32
  let v1972 : BitVec 32 := Scalar.muli v1971 c128_i32_1772
  let c0_i32_1780 : BitVec 32 := 0#32
  ![v1972.toNat, 0]
def k0_off22 (d0 : Dev nD) : Fin 2 → Nat :=
  let c4_i32_1786 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1989 : BitVec 32 := Scalar.muli c4_i32_1786 v10
  let c2_i32_1787 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1990 : BitVec 32 := Scalar.muli c2_i32_1787 v5
  let v1991 : BitVec 32 := Scalar.addi v1989 v1990
  let c1_i32_1782 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1983 : BitVec 32 := Scalar.subi c1_i32_1782 v8
  let v1992 : BitVec 32 := Scalar.addi v1991 v1983
  let c128_i32_1788 : BitVec 32 := 128#32
  let v1993 : BitVec 32 := Scalar.muli v1992 c128_i32_1788
  let c0_i32_1797 : BitVec 32 := 0#32
  ![v1993.toNat, 0]
def k0_off23 (d0 : Dev nD) : Fin 2 → Nat :=
  let c4_i32_1803 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2010 : BitVec 32 := Scalar.muli c4_i32_1803 v2
  let c2_i32_1804 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2011 : BitVec 32 := Scalar.muli c2_i32_1804 v11
  let v2012 : BitVec 32 := Scalar.addi v2010 v2011
  let c1_i32_1799 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2004 : BitVec 32 := Scalar.subi c1_i32_1799 v8
  let v2013 : BitVec 32 := Scalar.addi v2012 v2004
  let c128_i32_1805 : BitVec 32 := 128#32
  let v2014 : BitVec 32 := Scalar.muli v2013 c128_i32_1805
  let c0_i32_1814 : BitVec 32 := 0#32
  ![v2014.toNat, 0]
def k0_off24 (d0 : Dev nD) : Fin 2 → Nat :=
  let c4_i32_1820 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2031 : BitVec 32 := Scalar.muli c4_i32_1820 v12
  let c2_i32_1821 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2032 : BitVec 32 := Scalar.muli c2_i32_1821 v13
  let v2033 : BitVec 32 := Scalar.addi v2031 v2032
  let c1_i32_1816 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2025 : BitVec 32 := Scalar.subi c1_i32_1816 v8
  let v2034 : BitVec 32 := Scalar.addi v2033 v2025
  let c128_i32_1822 : BitVec 32 := 128#32
  let v2035 : BitVec 32 := Scalar.muli v2034 c128_i32_1822
  let c0_i32_1831 : BitVec 32 := 0#32
  ![v2035.toNat, 0]
def k0_off25 (d0 : Dev nD) : Fin 2 → Nat :=
  let c4_i32_1967 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2212 : BitVec 32 := Scalar.muli c4_i32_1967 v2
  let c2_i32_1968 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2213 : BitVec 32 := Scalar.muli c2_i32_1968 v5
  let v2214 : BitVec 32 := Scalar.addi v2212 v2213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2215 : BitVec 32 := Scalar.addi v2214 v8
  let c352_i32_1969 : BitVec 32 := 352#32
  let v2216 : BitVec 32 := Scalar.muli v2215 c352_i32_1969
  let c0_i32_2002 : BitVec 32 := 0#32
  ![v2216.toNat, 0]
def k0_off26 (d0 : Dev nD) : Fin 2 → Nat :=
  let c4_i32_1979 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2232 : BitVec 32 := Scalar.muli c4_i32_1979 v10
  let c2_i32_1980 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2233 : BitVec 32 := Scalar.muli c2_i32_1980 v5
  let v2234 : BitVec 32 := Scalar.addi v2232 v2233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2235 : BitVec 32 := Scalar.addi v2234 v8
  let c352_i32_1981 : BitVec 32 := 352#32
  let v2236 : BitVec 32 := Scalar.muli v2235 c352_i32_1981
  let c0_i32_2026 : BitVec 32 := 0#32
  ![v2236.toNat, 0]
def k0_off27 (d0 : Dev nD) : Fin 2 → Nat :=
  let c4_i32_1985 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2242 : BitVec 32 := Scalar.muli c4_i32_1985 v2
  let c2_i32_1986 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2243 : BitVec 32 := Scalar.muli c2_i32_1986 v11
  let v2244 : BitVec 32 := Scalar.addi v2242 v2243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2245 : BitVec 32 := Scalar.addi v2244 v8
  let c352_i32_1987 : BitVec 32 := 352#32
  let v2246 : BitVec 32 := Scalar.muli v2245 c352_i32_1987
  let c0_i32_2033 : BitVec 32 := 0#32
  ![v2246.toNat, 0]
def k0_off28 (d0 : Dev nD) : Fin 2 → Nat :=
  let c4_i32_1991 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2252 : BitVec 32 := Scalar.muli c4_i32_1991 v12
  let c2_i32_1992 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2253 : BitVec 32 := Scalar.muli c2_i32_1992 v13
  let v2254 : BitVec 32 := Scalar.addi v2252 v2253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2255 : BitVec 32 := Scalar.addi v2254 v8
  let c352_i32_1993 : BitVec 32 := 352#32
  let v2256 : BitVec 32 := Scalar.muli v2255 c352_i32_1993
  let c0_i32_2040 : BitVec 32 := 0#32
  ![v2256.toNat, 0]
def k0_off29 (d0 : Dev nD) : Fin 2 → Nat :=
  let c4_i32_2127 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2376 : BitVec 32 := Scalar.muli c4_i32_2127 v2
  let c2_i32_2128 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2377 : BitVec 32 := Scalar.muli c2_i32_2128 v5
  let v2378 : BitVec 32 := Scalar.addi v2376 v2377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2379 : BitVec 32 := Scalar.addi v2378 v8
  let c128_i32_2129 : BitVec 32 := 128#32
  let v2380 : BitVec 32 := Scalar.muli v2379 c128_i32_2129
  let c0_i32_2162 : BitVec 32 := 0#32
  ![v2380.toNat, 0]
def k0_off30 (d0 : Dev nD) : Fin 2 → Nat :=
  let c4_i32_2139 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2396 : BitVec 32 := Scalar.muli c4_i32_2139 v10
  let c2_i32_2140 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2397 : BitVec 32 := Scalar.muli c2_i32_2140 v5
  let v2398 : BitVec 32 := Scalar.addi v2396 v2397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2399 : BitVec 32 := Scalar.addi v2398 v8
  let c128_i32_2141 : BitVec 32 := 128#32
  let v2400 : BitVec 32 := Scalar.muli v2399 c128_i32_2141
  let c0_i32_2186 : BitVec 32 := 0#32
  ![v2400.toNat, 0]
def k0_off31 (d0 : Dev nD) : Fin 2 → Nat :=
  let c4_i32_2145 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2406 : BitVec 32 := Scalar.muli c4_i32_2145 v2
  let c2_i32_2146 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2407 : BitVec 32 := Scalar.muli c2_i32_2146 v11
  let v2408 : BitVec 32 := Scalar.addi v2406 v2407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2409 : BitVec 32 := Scalar.addi v2408 v8
  let c128_i32_2147 : BitVec 32 := 128#32
  let v2410 : BitVec 32 := Scalar.muli v2409 c128_i32_2147
  let c0_i32_2193 : BitVec 32 := 0#32
  ![v2410.toNat, 0]
def k0_off32 (d0 : Dev nD) : Fin 2 → Nat :=
  let c4_i32_2151 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2416 : BitVec 32 := Scalar.muli c4_i32_2151 v12
  let c2_i32_2152 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2417 : BitVec 32 := Scalar.muli c2_i32_2152 v13
  let v2418 : BitVec 32 := Scalar.addi v2416 v2417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2419 : BitVec 32 := Scalar.addi v2418 v8
  let c128_i32_2153 : BitVec 32 := 128#32
  let v2420 : BitVec 32 := Scalar.muli v2419 c128_i32_2153
  let c0_i32_2200 : BitVec 32 := 0#32
  ![v2420.toNat, 0]
def k0_off33 (d0 : Dev nD) : Fin 2 → Nat :=
  let c4_i32_2207 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2458 : BitVec 32 := Scalar.muli c4_i32_2207 v2
  let c2_i32_2208 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2459 : BitVec 32 := Scalar.muli c2_i32_2208 v5
  let v2460 : BitVec 32 := Scalar.addi v2458 v2459
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2461 : BitVec 32 := Scalar.addi v2460 v8
  let c128_i32_2209 : BitVec 32 := 128#32
  let v2462 : BitVec 32 := Scalar.muli v2461 c128_i32_2209
  let c0_i32_2242 : BitVec 32 := 0#32
  ![v2462.toNat, 0]
def k0_off34 (d0 : Dev nD) : Fin 2 → Nat :=
  let c4_i32_2219 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v2478 : BitVec 32 := Scalar.muli c4_i32_2219 v10
  let c2_i32_2220 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2479 : BitVec 32 := Scalar.muli c2_i32_2220 v5
  let v2480 : BitVec 32 := Scalar.addi v2478 v2479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2481 : BitVec 32 := Scalar.addi v2480 v8
  let c128_i32_2221 : BitVec 32 := 128#32
  let v2482 : BitVec 32 := Scalar.muli v2481 c128_i32_2221
  let c0_i32_2266 : BitVec 32 := 0#32
  ![v2482.toNat, 0]
def k0_off35 (d0 : Dev nD) : Fin 2 → Nat :=
  let c4_i32_2225 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2488 : BitVec 32 := Scalar.muli c4_i32_2225 v2
  let c2_i32_2226 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v2489 : BitVec 32 := Scalar.muli c2_i32_2226 v11
  let v2490 : BitVec 32 := Scalar.addi v2488 v2489
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2491 : BitVec 32 := Scalar.addi v2490 v8
  let c128_i32_2227 : BitVec 32 := 128#32
  let v2492 : BitVec 32 := Scalar.muli v2491 c128_i32_2227
  let c0_i32_2273 : BitVec 32 := 0#32
  ![v2492.toNat, 0]
def k0_off36 (d0 : Dev nD) : Fin 2 → Nat :=
  let c4_i32_2231 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v2498 : BitVec 32 := Scalar.muli c4_i32_2231 v12
  let c2_i32_2232 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v2499 : BitVec 32 := Scalar.muli c2_i32_2232 v13
  let v2500 : BitVec 32 := Scalar.addi v2498 v2499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2501 : BitVec 32 := Scalar.addi v2500 v8
  let c128_i32_2233 : BitVec 32 := 128#32
  let v2502 : BitVec 32 := Scalar.muli v2501 c128_i32_2233
  let c0_i32_2280 : BitVec 32 := 0#32
  ![v2502.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7680x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S65536x1024 : Shape := ⟨2, ![65536, 1024]⟩
abbrev S7680x1024 : Shape := ⟨2, ![7680, 1024]⟩
abbrev S65536x128 : Shape := ⟨2, ![65536, 128]⟩
abbrev S2816x1024 : Shape := ⟨2, ![2816, 1024]⟩
abbrev S1024x1024 : Shape := ⟨2, ![1024, 1024]⟩
abbrev S1024x512 : Shape := ⟨2, ![1024, 512]⟩
abbrev S3072x1024 : Shape := ⟨2, ![3072, 1024]⟩
abbrev S1024x3072 : Shape := ⟨2, ![1024, 3072]⟩
abbrev S65536x3072 : Shape := ⟨2, ![65536, 3072]⟩

abbrev nBuf : Space → Nat
  | .hbm => 17
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S7680x1024, .bf16⟩
  | .hbm, ⟨2, _⟩ => ⟨S65536x128, .f32⟩
  | .hbm, ⟨3, _⟩ => ⟨S65536x128, .f32⟩
  | .hbm, ⟨4, _⟩ => ⟨S65536x128, .f32⟩
  | .hbm, ⟨5, _⟩ => ⟨S2816x1024, .bf16⟩
  | .hbm, ⟨6, _⟩ => ⟨S2816x1024, .bf16⟩
  | .hbm, ⟨7, _⟩ => ⟨S1024x1024, .bf16⟩
  | .hbm, ⟨8, _⟩ => ⟨S1024x512, .bf16⟩
  | .hbm, ⟨9, _⟩ => ⟨S1024x512, .bf16⟩
  | .hbm, ⟨10, _⟩ => ⟨S2816x1024, .bf16⟩
  | .hbm, ⟨11, _⟩ => ⟨S65536x1024, .f32⟩
  | .hbm, ⟨12, _⟩ => ⟨S3072x1024, .bf16⟩
  | .hbm, ⟨13, _⟩ => ⟨S3072x1024, .f32⟩
  | .hbm, ⟨14, _⟩ => ⟨S1024x3072, .f32⟩
  | .hbm, ⟨15, _⟩ => ⟨S65536x3072, .f32⟩
  | .hbm, ⟨16, _⟩ => ⟨S65536x3072, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AdamIn.lean ====
abbrev S1024x960 : Shape := ⟨2, ![1024, 960]⟩
abbrev S256x960 : Shape := ⟨2, ![256, 960]⟩

abbrev nBuf : Space → Nat
  | .hbm => 7
  | .vmem => 14
  | .smem => 0
  | _ => 0

abbrev bufTy : (tb : Table) → Fin (tcTables nBuf tb) → BufTy
  | .hbm, ⟨0, _⟩ => ⟨S1024x960, .f32⟩
  | .hbm, ⟨1, _⟩ => ⟨S1024x960, .f32⟩
  | .hbm, ⟨2, _⟩ => ⟨S1024x960, .f32⟩
  | .hbm, ⟨3, _⟩ => ⟨S1024x960, .f32⟩
  | .hbm, ⟨4, _⟩ => ⟨S1024x960, .f32⟩
  | .hbm, ⟨5, _⟩ => ⟨S1024x960, .f32⟩
  | .hbm, ⟨6, _⟩ => ⟨S1024x960, .f32⟩
  | .local _ .vmem, ⟨0, _⟩ => ⟨S256x960, .f32⟩
  | .local _ .vmem, ⟨1, _⟩ => ⟨S256x960, .f32⟩
  | .local _ .vmem, ⟨2, _⟩ => ⟨S256x960, .f32⟩
  | .local _ .vmem, ⟨3, _⟩ => ⟨S256x960, .f32⟩
  | .local _ .vmem, ⟨4, _⟩ => ⟨S256x960, .f32⟩
  | .local _ .vmem, ⟨5, _⟩ => ⟨S256x960, .f32⟩
  | .local _ .vmem, ⟨6, _⟩ => ⟨S256x960, .f32⟩
  | .local _ .vmem, ⟨7, _⟩ => ⟨S256x960, .f32⟩
  | .local _ .vmem, ⟨8, _⟩ => ⟨S256x960, .f32⟩
  | .local _ .vmem, ⟨9, _⟩ => ⟨S256x960, .f32⟩
  | .local _ .vmem, ⟨10, _⟩ => ⟨S256x960, .f32⟩
  | .local _ .vmem, ⟨11, _⟩ => ⟨S256x960, .f32⟩
  | .local _ .vmem, ⟨12, _⟩ => ⟨S256x960, .f32⟩
  | .local _ .vmem, ⟨13, _⟩ => ⟨S256x960, .f32⟩
  | _, _ => ⟨S1024x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x960 : Shape := ⟨2, ![1024, 960]⟩
abbrev S256x960 : Shape := ⟨2, ![256, 960]⟩

abbrev nBuf : Space → Nat
  | .hbm => 7
  | .vmem => 14
  | .smem => 0
  | _ => 0

abbrev bufTy : (tb : Table) → Fin (tcTables nBuf tb) → BufTy
  | .hbm, ⟨0, _⟩ => ⟨S1024x960, .f32⟩
  | .hbm, ⟨1, _⟩ => ⟨S1024x960, .f32⟩
  | .hbm, ⟨2, _⟩ => ⟨S1024x960, .f32⟩
  | .hbm, ⟨3, _⟩ => ⟨S1024x960, .f32⟩
  | .hbm, ⟨4, _⟩ => ⟨S1024x960, .f32⟩
  | .hbm, ⟨5, _⟩ => ⟨S1024x960, .f32⟩
  | .hbm, ⟨6, _⟩ => ⟨S1024x960, .f32⟩
  | .local _ .vmem, ⟨0, _⟩ => ⟨S256x960, .f32⟩
  | .local _ .vmem, ⟨1, _⟩ => ⟨S256x960, .f32⟩
  | .local _ .vmem, ⟨2, _⟩ => ⟨S256x960, .f32⟩
  | .local _ .vmem, ⟨3, _⟩ => ⟨S256x960, .f32⟩
  | .local _ .vmem, ⟨4, _⟩ => ⟨S256x960, .f32⟩
  | .local _ .vmem, ⟨5, _⟩ => ⟨S256x960, .f32⟩
  | .local _ .vmem, ⟨6, _⟩ => ⟨S256x960, .f32⟩
  | .local _ .vmem, ⟨7, _⟩ => ⟨S256x960, .f32⟩
  | .local _ .vmem, ⟨8, _⟩ => ⟨S256x960, .f32⟩
  | .local _ .vmem, ⟨9, _⟩ => ⟨S256x960, .f32⟩
  | .local _ .vmem, ⟨10, _⟩ => ⟨S256x960, .f32⟩
  | .local _ .vmem, ⟨11, _⟩ => ⟨S256x960, .f32⟩
  | .local _ .vmem, ⟨12, _⟩ => ⟨S256x960, .f32⟩
  | .local _ .vmem, ⟨13, _⟩ => ⟨S256x960, .f32⟩
  | _, _ => ⟨S1024x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x960 : Shape := ⟨2, ![1024, 960]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x960, .f32⟩
  | .hbm, ⟨1, _⟩ => ⟨S1024x960, .f32⟩
  | .hbm, ⟨2, _⟩ => ⟨S1024x960, .f32⟩
  | .hbm, ⟨3, _⟩ => ⟨S1024x960, .f32⟩
  | .hbm, ⟨4, _⟩ => ⟨S_, .f32⟩
  | .hbm, ⟨5, _⟩ => ⟨S1024x960, .f32⟩
  | .hbm, ⟨6, _⟩ => ⟨S1024x960, .f32⟩
  | .hbm, ⟨7, _⟩ => ⟨S_, .f32⟩
  | .hbm, ⟨8, _⟩ => ⟨S1024x960, .f32⟩
  | .hbm, ⟨9, _⟩ => ⟨S1024x960, .f32⟩
  | .hbm, ⟨10, _⟩ => ⟨S1024x960, .f32⟩
  | .hbm, ⟨11, _⟩ => ⟨S_, .f32⟩
  | .hbm, ⟨12, _⟩ => ⟨S1024x960, .f32⟩
  | .hbm, ⟨13, _⟩ => ⟨S1024x960, .f32⟩
  | .hbm, ⟨14, _⟩ => ⟨S1024x960, .f32⟩
  | .hbm, ⟨15, _⟩ => ⟨S_, .f32⟩
  | .hbm, ⟨16, _⟩ => ⟨S1024x960, .f32⟩
  | .hbm, ⟨17, _⟩ => ⟨S1024x960, .f32⟩
  | .hbm, ⟨18, _⟩ => ⟨S1024x960, .f32⟩
  | .hbm, ⟨19, _⟩ => ⟨S_, .f32⟩
  | .hbm, ⟨20, _⟩ => ⟨S1024x960, .f32⟩
  | .hbm, ⟨21, _⟩ => ⟨S1024x960, .f32⟩
  | .hbm, ⟨22, _⟩ => ⟨S_, .f32⟩
  | .hbm, ⟨23, _⟩ => ⟨S1024x960, .f32⟩
  | .hbm, ⟨24, _⟩ => ⟨S1024x960, .f32⟩
  | .hbm, ⟨25, _⟩ => ⟨S1024x960, .f32⟩
  | .hbm, ⟨26, _⟩ => ⟨S_, .f32⟩
  | .hbm, ⟨27, _⟩ => ⟨S1024x960, .f32⟩
  | .hbm, ⟨28, _⟩ => ⟨S1024x960, .f32⟩
  | .hbm, ⟨29, _⟩ => ⟨S1024x960, .f32⟩
  | .hbm, ⟨30, _⟩ => ⟨S_, .f32⟩
  | .hbm, ⟨31, _⟩ => ⟨S1024x960, .f32⟩
  | .hbm, ⟨32, _⟩ => ⟨S1024x960, .f32⟩
  | .hbm, ⟨33, _⟩ => ⟨S1024x960, .f32⟩
  | .hbm, ⟨34, _⟩ => ⟨S_, .f32⟩
  | .hbm, ⟨35, _⟩ => ⟨S1024x960, .f32⟩
  | .hbm, ⟨36, _⟩ => ⟨S1024x960, .f32⟩
  | _, _ => ⟨S1024x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjIdeal.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S352x1024 : Shape := ⟨2, ![352, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S960x1024 : Shape := ⟨2, ![960, 1024]⟩
abbrev S3x960x1024 : Shape := ⟨3, ![3, 960, 1024]⟩
abbrev S320x1024 : Shape := ⟨2, ![320, 1024]⟩
abbrev S3x320x1024 : Shape := ⟨3, ![3, 320, 1024]⟩
abbrev S1x320x1024 : Shape := ⟨3, ![1, 320, 1024]⟩

abbrev nBuf : Space → Nat
  | .hbm => 3
  | .vmem => 6
  | .smem => 0
  | _ => 0

abbrev bufTy : (tb : Table) → Fin (tcTables nBuf tb) → BufTy
  | .hbm, ⟨0, _⟩ => ⟨S960x1024, .f32⟩
  | .hbm, ⟨1, _⟩ => ⟨S3x960x1024, .bf16⟩
  | .hbm, ⟨2, _⟩ => ⟨S960x1024, .f32⟩
  | .local _ .vmem, ⟨0, _⟩ => ⟨S320x1024, .f32⟩
  | .local _ .vmem, ⟨1, _⟩ => ⟨S320x1024, .f32⟩
  | .local _ .vmem, ⟨2, _⟩ => ⟨S3x320x1024, .bf16⟩
  | .local _ .vmem, ⟨3, _⟩ => ⟨S3x320x1024, .bf16⟩
  | .local _ .vmem, ⟨4, _⟩ => ⟨S320x1024, .f32⟩
  | .local _ .vmem, ⟨5, _⟩ => ⟨S320x1024, .f32⟩
  | _, _ => ⟨S960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInIdeal.lean ====
abbrev S960x1024 : Shape := ⟨2, ![960, 1024]⟩
abbrev S3x960x1024 : Shape := ⟨3, ![3, 960, 1024]⟩
abbrev S320x1024 : Shape := ⟨2, ![320, 1024]⟩
abbrev S3x320x1024 : Shape := ⟨3, ![3, 320, 1024]⟩
abbrev S1x320x1024 : Shape := ⟨3, ![1, 320, 1024]⟩

abbrev nBuf : Space → Nat
  | .hbm => 3
  | .vmem => 6
  | .smem => 0
  | _ => 0

abbrev bufTy : (tb : Table) → Fin (tcTables nBuf tb) → BufTy
  | .hbm, ⟨0, _⟩ => ⟨S960x1024, .f32⟩
  | .hbm, ⟨1, _⟩ => ⟨S3x960x1024, .bf16⟩
  | .hbm, ⟨2, _⟩ => ⟨S960x1024, .f32⟩
  | .local _ .vmem, ⟨0, _⟩ => ⟨S320x1024, .f32⟩
  | .local _ .vmem, ⟨1, _⟩ => ⟨S320x1024, .f32⟩
  | .local _ .vmem, ⟨2, _⟩ => ⟨S3x320x1024, .bf16⟩
  | .local _ .vmem, ⟨3, _⟩ => ⟨S3x320x1024, .bf16⟩
  | .local _ .vmem, ⟨4, _⟩ => ⟨S320x1024, .f32⟩
  | .local _ .vmem, ⟨5, _⟩ => ⟨S320x1024, .f32⟩
  | _, _ => ⟨S960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInRefIdeal.lean ====
abbrev S960x1024 : Shape := ⟨2, ![960, 1024]⟩
abbrev S3x960x1024 : Shape := ⟨3, ![3, 960, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S960x1024, .f32⟩
  | .hbm, ⟨1, _⟩ => ⟨S3x960x1024, .bf16⟩
  | .hbm, ⟨2, _⟩ => ⟨S3x960x1024, .f32⟩
  | .hbm, ⟨3, _⟩ => ⟨S_, .f32⟩
  | .hbm, ⟨4, _⟩ => ⟨S960x1024, .f32⟩
  | .hbm, ⟨5, _⟩ => ⟨S960x1024, .f32⟩
  | _, _ => ⟨S960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumProj.lean ====
abbrev S128x512 : Shape := ⟨2, ![128, 512]⟩
abbrev S3x128x512 : Shape := ⟨3, ![3, 128, 512]⟩
abbrev S1x128x512 : Shape := ⟨3, ![1, 128, 512]⟩

abbrev nBuf : Space → Nat
  | .hbm => 3
  | .vmem => 3
  | .smem => 0
  | _ => 0

abbrev bufTy : (tb : Table) → Fin (tcTables nBuf tb) → BufTy
  | .hbm, ⟨0, _⟩ => ⟨S128x512, .f32⟩
  | .hbm, ⟨1, _⟩ => ⟨S3x128x512, .bf16⟩
  | .hbm, ⟨2, _⟩ => ⟨S128x512, .f32⟩
  | .local _ .vmem, ⟨0, _⟩ => ⟨S128x512, .f32⟩
  | .local _ .vmem, ⟨1, _⟩ => ⟨S3x128x512, .bf16⟩
  | .local _ .vmem, ⟨2, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumProjIdeal.lean ====
abbrev S128x512 : Shape := ⟨2, ![128, 512]⟩
abbrev S3x128x512 : Shape := ⟨3, ![3, 128, 512]⟩
abbrev S1x128x512 : Shape := ⟨3, ![1, 128, 512]⟩

abbrev nBuf : Space → Nat
  | .hbm => 3
  | .vmem => 3
  | .smem => 0
  | _ => 0

abbrev bufTy : (tb : Table) → Fin (tcTables nBuf tb) → BufTy
  | .hbm, ⟨0, _⟩ => ⟨S128x512, .f32⟩
  | .hbm, ⟨1, _⟩ => ⟨S3x128x512, .bf16⟩
  | .hbm, ⟨2, _⟩ => ⟨S128x512, .f32⟩
  | .local _ .vmem, ⟨0, _⟩ => ⟨S128x512, .f32⟩
  | .local _ .vmem, ⟨1, _⟩ => ⟨S3x128x512, .bf16⟩
  | .local _ .vmem, ⟨2, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumProjRefIdeal.lean ====
abbrev S128x512 : Shape := ⟨2, ![128, 512]⟩
abbrev S3x128x512 : Shape := ⟨3, ![3, 128, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S3x128x512, .bf16⟩
  | .hbm, ⟨2, _⟩ => ⟨S3x128x512, .f32⟩
  | .hbm, ⟨3, _⟩ => ⟨S_, .f32⟩
  | .hbm, ⟨4, _⟩ => ⟨S128x512, .f32⟩
  | .hbm, ⟨5, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumOut.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutIdeal.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutRefIdeal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S3x128x1024, .f32⟩
  | .hbm, ⟨3, _⟩ => ⟨S_, .f32⟩
  | .hbm, ⟨4, _⟩ => ⟨S128x1024, .f32⟩
  | .hbm, ⟨5, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumFfn.lean ====
abbrev S352x1024 : Shape := ⟨2, ![352, 1024]⟩
abbrev S3x352x1024 : Shape := ⟨3, ![3, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfnRefIdeal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S3x352x1024, .f32⟩
  | .hbm, ⟨3, _⟩ => ⟨S_, .f32⟩
  | .hbm, ⟨4, _⟩ => ⟨S352x1024, .f32⟩
  | .hbm, ⟨5, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Small.lean ====
abbrev S64x128 : Shape := ⟨2, ![64, 128]⟩
abbrev S8512x128 : Shape := ⟨2, ![8512, 128]⟩
abbrev S1072x128 : Shape := ⟨2, ![1072, 128]⟩
abbrev S1x1 : Shape := ⟨2, ![1, 1]⟩
abbrev S8x128 : Shape := ⟨2, ![8, 128]⟩
abbrev S1064x128 : Shape := ⟨2, ![1064, 128]⟩
abbrev S8 : Shape := ⟨1, ![8]⟩
abbrev S8x1 : Shape := ⟨2, ![8, 1]⟩
abbrev S1 : Shape := ⟨1, ![1]⟩

abbrev nBuf : Space → Nat
  | .hbm => 10
  | .vmem => 10
  | .smem => 0
  | _ => 0

abbrev bufTy : (tb : Table) → Fin (tcTables nBuf tb) → BufTy
  | .hbm, ⟨0, _⟩ => ⟨S64x128, .f32⟩
  | .hbm, ⟨1, _⟩ => ⟨S8512x128, .f32⟩
  | .hbm, ⟨2, _⟩ => ⟨S1072x128, .f32⟩
  | .hbm, ⟨3, _⟩ => ⟨S1072x128, .f32⟩
  | .hbm, ⟨4, _⟩ => ⟨S1072x128, .f32⟩
  | .hbm, ⟨5, _⟩ => ⟨S1072x128, .f32⟩
  | .hbm, ⟨6, _⟩ => ⟨S1072x128, .f32⟩
  | .hbm, ⟨7, _⟩ => ⟨S1072x128, .f32⟩
  | .hbm, ⟨8, _⟩ => ⟨S1072x128, .f32⟩
  | .hbm, ⟨9, _⟩ => ⟨S1x1, .f32⟩
  | .local _ .vmem, ⟨0, _⟩ => ⟨S64x128, .f32⟩
  | .local _ .vmem, ⟨1, _⟩ => ⟨S8512x128, .f32⟩
  | .local _ .vmem, ⟨2, _⟩ => ⟨S1072x128, .f32⟩
  | .local _ .vmem, ⟨3, _⟩ => ⟨S1072x128, .f32⟩
  | .local _ .vmem, ⟨4, _⟩ => ⟨S1072x128, .f32⟩
  | .local _ .vmem, ⟨5, _⟩ => ⟨S1072x128, .f32⟩
  | .local _ .vmem, ⟨6, _⟩ => ⟨S1072x128, .f32⟩
  | .local _ .vmem, ⟨7, _⟩ => ⟨S1072x128, .f32⟩
  | .local _ .vmem, ⟨8, _⟩ => ⟨S1072x128, .f32⟩
  | .local _ .vmem, ⟨9, _⟩ => ⟨S1x1, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1072x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1072x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1072x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1072x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1072x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1072x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1072x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== SmallRefIdeal.lean ====
abbrev S64x128 : Shape := ⟨2, ![64, 128]⟩
abbrev S8512x128 : Shape := ⟨2, ![8512, 128]⟩
abbrev S1072x128 : Shape := ⟨2, ![1072, 128]⟩
abbrev S8x8x128 : Shape := ⟨3, ![8, 8, 128]⟩
abbrev S_ : Shape := ⟨0, ![]⟩
abbrev S8x128 : Shape := ⟨2, ![8, 128]⟩
abbrev S8x1064x128 : Shape := ⟨3, ![8, 1064, 128]⟩
abbrev S1064x128 : Shape := ⟨2, ![1064, 128]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8512x128, .f32⟩
  | .hbm, ⟨2, _⟩ => ⟨S1072x128, .f32⟩
  | .hbm, ⟨3, _⟩ => ⟨S1072x128, .f32⟩
  | .hbm, ⟨4, _⟩ => ⟨S1072x128, .f32⟩
  | .hbm, ⟨5, _⟩ => ⟨S8x8x128, .f32⟩
  | .hbm, ⟨6, _⟩ => ⟨S_, .f32⟩
  | .hbm, ⟨7, _⟩ => ⟨S8x128, .f32⟩
  | .hbm, ⟨8, _⟩ => ⟨S8x1064x128, .f32⟩
  | .hbm, ⟨9, _⟩ => ⟨S_, .f32⟩
  | .hbm, ⟨10, _⟩ => ⟨S1064x128, .f32⟩
  | .hbm, ⟨11, _⟩ => ⟨S1072x128, .f32⟩
  | .hbm, ⟨12, _⟩ => ⟨S_, .f32⟩
  | .hbm, ⟨13, _⟩ => ⟨S1072x128, .f32⟩
  | .hbm, ⟨14, _⟩ => ⟨S1072x128, .f32⟩
  | .hbm, ⟨15, _⟩ => ⟨S_, .f32⟩
  | .hbm, ⟨16, _⟩ => ⟨S1072x128, .f32⟩
  | .hbm, ⟨17, _⟩ => ⟨S1072x128, .f32⟩
  | .hbm, ⟨18, _⟩ => ⟨S1072x128, .f32⟩
  | .hbm, ⟨19, _⟩ => ⟨S_, .f32⟩
  | .hbm, ⟨20, _⟩ => ⟨S1072x128, .f32⟩
  | .hbm, ⟨21, _⟩ => ⟨S1072x128, .f32⟩
  | .hbm, ⟨22, _⟩ => ⟨S1072x128, .f32⟩
  | .hbm, ⟨23, _⟩ => ⟨S_, .f32⟩
  | .hbm, ⟨24, _⟩ => ⟨S1072x128, .f32⟩
  | .hbm, ⟨25, _⟩ => ⟨S1072x128, .f32⟩
  | .hbm, ⟨26, _⟩ => ⟨S1072x128, .f32⟩
  | .hbm, ⟨27, _⟩ => ⟨S_, .f32⟩
  | .hbm, ⟨28, _⟩ => ⟨S1072x128, .f32⟩
  | .hbm, ⟨29, _⟩ => ⟨S1072x128, .f32⟩
  | .hbm, ⟨30, _⟩ => ⟨S_, .f32⟩
  | .hbm, ⟨31, _⟩ => ⟨S1072x128, .f32⟩
  | .hbm, ⟨32, _⟩ => ⟨S1072x128, .f32⟩
  | .hbm, ⟨33, _⟩ => ⟨S1072x128, .f32⟩
  | .hbm, ⟨34, _⟩ => ⟨S_, .f32⟩
  | .hbm, ⟨35, _⟩ => ⟨S1072x128, .f32⟩
  | .hbm, ⟨36, _⟩ => ⟨S1072x128, .f32⟩
  | .hbm, ⟨37, _⟩ => ⟨S1072x128, .f32⟩
  | .hbm, ⟨38, _⟩ => ⟨S_, .f32⟩
  | .hbm, ⟨39, _⟩ => ⟨S1072x128, .f32⟩
  | .hbm, ⟨40, _⟩ => ⟨S1072x128, .f32⟩
  | .hbm, ⟨41, _⟩ => ⟨S1072x128, .f32⟩
  | .hbm, ⟨42, _⟩ => ⟨S_, .f32⟩
  | .hbm, ⟨43, _⟩ => ⟨S1072x128, .f32⟩
  | .hbm, ⟨44, _⟩ => ⟨S1072x128, .f32⟩
  | .hbm, ⟨45, _⟩ => ⟨S8x128, .f32⟩
  | .hbm, ⟨46, _⟩ => ⟨S_, .f32⟩
  | .hbm, ⟨47, _⟩ => ⟨S_, .f32⟩
  | .hbm, ⟨48, _⟩ => ⟨S1x1, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== GradFfn.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradFfnRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradProj.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradProjRefIdeal.lean ====
abbrev S8192x1024 : Shape := ⟨2, ![8192, 1024]⟩
abbrev S8192x512 : Shape := ⟨2, ![8192, 512]⟩
abbrev S1024x8192 : Shape := ⟨2, ![1024, 8192]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S1024x8192, .f32⟩
  | .hbm, ⟨4, _⟩ => ⟨S8192x512, .f32⟩
  | .hbm, ⟨5, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ffn.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S1408x1024 : Shape := ⟨2, ![1408, 1024]⟩
abbrev S512x1408 : Shape := ⟨2, ![512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S2816x1024, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | .hbm, ⟨21, _⟩ => ⟨S8192x2816, .bf16⟩
  | .hbm, ⟨22, _⟩ => ⟨S8192x2816, .f32⟩
  | .hbm, ⟨23, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== FfnBwd.lean ====
abbrev S8192x1024 : Shape := ⟨2, ![8192, 1024]⟩
abbrev S2816x1024 : Shape := ⟨2, ![2816, 1024]⟩
abbrev S8192x2816 : Shape := ⟨2, ![8192, 2816]⟩
abbrev S1x1024 : Shape := ⟨2, ![1, 1024]⟩
abbrev S256x1024 : Shape := ⟨2, ![256, 1024]⟩
abbrev S256x2816 : Shape := ⟨2, ![256, 2816]⟩
abbrev S1408x1024 : Shape := ⟨2, ![1408, 1024]⟩
abbrev S256x1408 : Shape := ⟨2, ![256, 1408]⟩
abbrev S256 : Shape := ⟨1, ![256]⟩
abbrev S256x1 : Shape := ⟨2, ![256, 1]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x1024, .f32⟩
  | .hbm, ⟨8, _⟩ => ⟨S1x1024, .f32⟩
  | .hbm, ⟨9, _⟩ => ⟨S8192x2816, .bf16⟩
  | .hbm, ⟨10, _⟩ => ⟨S8192x2816, .bf16⟩
  | .hbm, ⟨11, _⟩ => ⟨S8192x1024, .f32⟩
  | .hbm, ⟨12, _⟩ => ⟨S8192x1024, .bf16⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnBwdRefIdeal.lean ====
abbrev S8192x1024 : Shape := ⟨2, ![8192, 1024]⟩
abbrev S2816x1024 : Shape := ⟨2, ![2816, 1024]⟩
abbrev S8192x2816 : Shape := ⟨2, ![8192, 2816]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x1024, .f32⟩
  | .hbm, ⟨8, _⟩ => ⟨S1x1024, .f32⟩
  | .hbm, ⟨9, _⟩ => ⟨S8192x2816, .f32⟩
  | .hbm, ⟨10, _⟩ => ⟨S8192x2816, .f32⟩
  | .hbm, ⟨11, _⟩ => ⟨S8192x1024, .f32⟩
  | .hbm, ⟨12, _⟩ => ⟨S2816x1024, .f32⟩
  | .hbm, ⟨13, _⟩ => ⟨S1024x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S2816x1024, .f32⟩
  | .hbm, ⟨36, _⟩ => ⟨S8192x1024, .f32⟩
  | .hbm, ⟨37, _⟩ => ⟨S2816x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x2816, .bf16⟩
  | .hbm, ⟨69, _⟩ => ⟨S8192x2816, .bf16⟩
  | .hbm, ⟨70, _⟩ => ⟨S8192x1024, .bf16⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Proof.Deal.lean ====
/-
  The launch of a one-region program whose devices copy into each other's arrays.

  The library's launch theorem for kernels that owe at launch hands the kernels' own semaphores to one global step
  and each device's arrays to a later step of that device alone. A kernel that copies into a peer's array without a
  handshake needs the peer's array at its own start, so here the global step (`hdeal`) is handed everything at once:
  every device's own semaphores, its unscoped semaphores, its arrays that are no window's, its launch credit, its
  generator register and its ghost resources, with the level facts; it deals each device what it starts from and
  what waits for the end.
-/
module

public import Idealize.ShloMosaic.Lib.Pipeline.Launch

@[expose] public section

noncomputable section

namespace Deal

open Idealize.SL Idealize.ShloMosaic Idealize.ShloMosaic.Pipeline
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open Idealize.ShloMosaic.Rounds
open Idealize.SL.RA.PCS
open TcCoe

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The level rights of every TensorCore, assigned at once: the level facts of the whole machine. -/
theorem assign (L : GSem nD τ sig → Finset Ix) (lv : GSem nD τ sig → Ix → Lvl)
    (hL : ∀ g : GSem nD τ sig, g.1.2 ≠ .tc → L g = ∅) :
    (bigSep Finset.univ fun c : Dev nD => levels0 c : sProp 𝕄) ⊢ |==> levAts L lv := by
  have hside : (bigSep Finset.univ fun d : Dev nD => bigSep (Finset.univ.erase Proc.tc) fun p =>
      (coreLevAts ((d, p) : Thread nD τ) L lv : sProp 𝕄)) = BI.emp := by
    have h1 (d : Dev nD) : (bigSep (Finset.univ.erase Proc.tc) fun p => (coreLevAts ((d, p) : Thread nD τ) L lv : sProp 𝕄)) = BI.emp := by
      rw [bigSep_congr (Ψ := fun _ => (BI.emp : sProp 𝕄)), BI.bigSep_emp_const]
      intro p hp
      unfold coreLevAts
      rw [bigSep_congr (Ψ := fun _ => (BI.emp : sProp 𝕄)), BI.bigSep_emp_const]
      intro sm _
      rw [hL (((d, p) : Thread nD τ), sm) (Finset.ne_of_mem_erase hp), BI.bigSep_empty]
    rw [bigSep_congr (Ψ := fun _ => (BI.emp : sProp 𝕄)) fun d _ => h1 d, BI.bigSep_emp_const]
  have hall : (levAts L lv : sProp 𝕄) = bigSep Finset.univ fun c : Thread nD τ => coreLevAts c L lv :=
    bigSep_univ_prod fun g : GSem nD τ sig => bigSep (L g) fun ι => levAt g ι (lv g ι)
  have hdrop : (bigSep Finset.univ fun c : Dev nD =>
        iprop((bigSep Finset.univ fun sm : SemLoc sig => levels ((c.tc : Thread nD τ), sm) (L ((c.tc : Thread nD τ), sm))) ∗ coreLevAts (c.tc : Thread nD τ) L lv) : sProp 𝕄)
      ⊢ levAts L lv := by
    rw [hall, bigSep_threads, hside, bigSep_sep']
    iintro ⟨-, H⟩
    isplitl [H]; · iexact H
    iempintro
  exact (bigSep_mono fun c _ => lev_assign_cells (c.tc : Thread nD τ) L lv).trans ((BI.bigSep_bupd _ _).trans (BI.bupd_mono hdrop))

variable {Λ₀ : Idealize.SL.Sem.Labels} {P : Type} [Fintype P]
  (cfgs : P → Cfg sig Λ₀)
  (ι : Ix)
  (hinj : Function.Injective (PerCore.cellOf (nD := nD) fun (_ : Dev nD) => cfgs)) (p : P)
  {K : Type} [Fintype K] {osem : K → SemLoc sig}
  (EP : Emb (URounds (GSem nD τ sig) Unit) (MT nD τ sig Ix Val Name U Lvl))
  (defs₀ : Defs nD τ sig Val Λ₀) (𝒱₀ : Variants)

local notation "pcs" => fun q => Cfg.toPCfg (Val := Val) (cfgs q)
local notation "adm" => fun (_ : Dev nD) q => Cfg.toPCfg_adm (Val := Val) (cfgs q)
local notation "cfgD" => pinD pcs adm
local notation "𝔻" => Pipeline.defs pcs defs₀
local notation "𝕍" => Variants.lift 𝒱₀

/-- What one device brings to the global step. -/
def brings (osem : K → SemLoc sig) (O₀ : Dev nD → CellTallies nD τ sig Ix) (m : (ℓ : Loc nD τ sig) → Buf Val ℓ)
    (g : Dev nD → PrngReg) (G : Dev nD → sProp 𝕄) (c : Dev nD) : sProp 𝕄 :=
  iprop(ownSems0 osem c ∗ unscopedSems0 c ∗ unscopedRest (cfgs p).spec c (fun b => m ((c.tc : Thread nD τ).loc b))
    ∗ launchCred O₀ c ∗ prngReg c (g c) ∗ G c)

/-- From the body obligation to the program's runs, the global step handed every device's arrays: for proof data that
    may say nothing of some windows, and for input windows that may share an array. -/
theorem θ_run_dealt_rel (rds : (p : P) → (c : Dev nD) → RDat τ Val Ix Name U Lvl (cfgs p) c) [DecidableEq P] [Preorder Lvl] [∀ e, Nonempty (Val e)] [Infinite Name]
    [EP.LandsIn (upEmb : UEmb _ 𝕄)]
    (hw : WinFacts₀ (cfgs p).spec) (hsh : SharedIn (cfgs p).spec) (ho : OwnSemFacts (cfgs p).spec osem)
    (m : (ℓ : Loc nD τ sig) → Buf Val ℓ) (g : Dev nD → PrngReg)
    (main : Dev nD → Prog (TpuEff nD τ sig Val (Sig Λ₀ P fun p => (Cfg.toPCfg (Val := Val) (cfgs p)).Adm) .tc) PUnit)
    (hmain : ∀ c, main c = .op (.customCall (entry p) ()) fun _ => .ret ⟨⟩)
    (hbody : ∀ c, (rds p c).BodyObligation defs₀ 𝒱₀ ι Set.univ)
    (hne : ∀ w : Fin (cfgs p).W, 0 < ((cfgs p).spec w).block.numel)
    (harr : ∀ w, ((cfgs p).spec w).arr.IsWhole) (hstage : ∀ w s, (((cfgs p).spec w).stage s).IsWhole)
    (hq : ∀ c w, ((cfgs p).spec w).isOut = false → (rds p c).q w = shareOf (cfgs p).spec w)
    (O₀ : Dev nD → CellTallies nD τ sig Ix) (howed₀ : ∀ c, (rds p c).owed 0 = O₀ c) (howedN : ∀ c, (rds p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.RDat.cellsWaits cfgD rds ι p c)
    (G : Dev nD → sProp 𝕄) (u₀ : U)
    (hu₀ : (ownU u₀ : sProp 𝕄)
      ⊢ |={Set.univ}=> iprop(BI.own (EP (initOf (PerCore.cells cfgD hinj) (PerCore.launchToks cfgD hinj))) ∗ bigSep Finset.univ G))
    (hA : ∀ c w, (rds p c).A w = m (((cfgs p).spec w).arr.view.loc (c.tc : Thread nD τ)))
    (X Y Z : Dev nD → sProp 𝕄)
    (hdeal : iprop(levAts L lv ∗ bigSep Finset.univ (brings cfgs p osem O₀ m g G))
      ⊢ |={Set.univ}=> bigSep Finset.univ fun c => iprop(X c ∗ Z c))
    (hin : ∀ c, iprop(X c ∗ scopedRest (cfgs p).spec c) ⊢ (rds p c).Φ 0)
    (hout : ∀ c, (rds p c).Φ (Fin.last (cfgs p).N) ⊢ iprop(Y c ∗ ownSems0 osem c ∗ scopedRest (cfgs p).spec c))
    (QY : Dev nD → MemSt nD τ sig Val → Prop)
    (hY : ∀ (s' : Phys nD τ sig Val), iprop((bigSep Finset.univ fun c => iprop(Y c ∗ Z c)) ∗ SI s') ⊢ |={Set.univ}=> iprop(⌜∀ c, QY c s'.mem⌝ ∗ SI s'))
    {Q : PUnit × MemSt nD τ sig Val → Prop}
    (hQ : ∀ s : MemSt nD τ sig Val,
      (∀ c : Dev nD, (∀ w, (rds p c).ArrAt w (cfgs p).N (s.mem (((cfgs p).spec w).arr.view.loc (c.tc : Thread nD τ)))) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hss (c : Dev nD) := PerCore.scopedSems0_split cfgD hinj p (fun _ => hw) (fun _ => ho) (Ix := Ix) (Val := Val) (Name := Name) (U := U) (Lvl := Lvl) c
  have hsb (c : Dev nD) := PerCore.scopedBufs_split cfgD p c hw.stage_scoped hw.stage_inj hstage (nD := nD) (τ := τ) (Ix := Ix) (Val := Val) (Name := Name) (U := U) (Lvl := Lvl)
  have hub (c : Dev nD) := PerCore.unscopedBufs_split₀ cfgD p c hw.arr_unscoped (Ix := Ix) (Name := Name) (U := U) (Lvl := Lvl) (fun b => m ((c.tc : Thread nD τ).loc b))
  have hads (c : Dev nD) : (arrBufs (cfgs p).spec c (fun b => m ((c.tc : Thread nD τ).loc b)) : sProp 𝕄) = (rds p c).arrays (rds p c).A :=
    (rds p c).arrBufs_eq_arrays hsh harr (hq c) _ _ fun w => hA c w
  let idle : Dev nD → sProp 𝕄 := fun c => PerCore.idleSems0 cfgD hinj p (fun _ => ho) c
  let mine : Dev nD → sProp 𝕄 := fun c => iprop(scopedBufs (c.tc : Thread nD τ) ∗ PerCore.cellsSems0 cfgD p c ∗ idle c
    ∗ (rds p c).arrays (rds p c).A ∗ owes (c.tc : Thread nD τ) (O₀ c) ∅)
  let pre : Dev nD → sProp 𝕄 := fun c => iprop(mine c ∗ levAts L lv ∗ PerCore.cellsGhost cfgD EP p c ∗ PerCore.toksInit cfgD EP p c ∗ X c ∗ Z c)
  let fin : Dev nD → sProp 𝕄 := fun c => iprop(((rds p c).arraysAt (cfgs p).N ∗ scopedSems0 (c.tc : Thread nD τ)) ∗ Y c ∗ Z c)
  refine (θ_run 𝔻 _ _).mono (Q := fun r => (∀ c : Dev nD, ((∀ w, (rds p c).ArrAt w (cfgs p).N (r.2.mem (((cfgs p).spec w).arr.view.loc (c.tc : Thread nD τ)))) ∧ QY c r.2)
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => ⟨(hr.1 c).1.1, (hr.1 c).1.2⟩)
      (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch: each core's holdings sorted into what stays with it, its level rights and what it brings
    have hcore (c : Dev nD) :
        coreInit (Ix := Ix) (Name := Name) (U := U) (Lvl := Lvl) (owing O₀) 0 (⟨m, fun _ => 0, g⟩ : MemSt nD τ sig Val) (c.tc : Thread nD τ)
          ⊢ iprop(mine c ∗ levels0 c ∗ ownSems0 osem c ∗ unscopedSems0 c
              ∗ unscopedRest (cfgs p).spec c (fun b => m ((c.tc : Thread nD τ).loc b)) ∗ launchCred O₀ c ∗ prngReg c (g c)) := by
      refine (coreInit_boundary_owing O₀ m g c).trans ?_
      unfold boundary
      rw [hss c, hub c]
      iintro ⟨⟨Hsc, ⟨⟨Hcells, Hos⟩, Hidle⟩, -⟩, ⟨Harr, Hrest⟩, Hus, HL, Hlv, Hpr, Hcr⟩
      isplitl [Hsc Hcells Hidle Harr HL]
      · simp only [mine, idle]
        isplitl [Hsc]; · iexact Hsc
        isplitl [Hcells]; · iexact Hcells
        isplitl [Hidle]; · iexact Hidle
        isplitl [Harr]; · iapply (Entails.of_eq (hads c)); iexact Harr
        iexact HL
      isplitl [Hlv]; · iexact Hlv
      isplitl [Hos]; · iexact Hos
      isplitl [Hus]; · iexact Hus
      isplitl [Hrest]; · iexact Hrest
      isplitl [Hcr] <;> iassumption
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    iintro ⟨Hcores, Hu⟩
    ihave Hc := (show _ ⊢ _ from bigSep_mono (s := Finset.univ) fun c _ => hcore c) $$ Hcores
    simp only [bigSep_sep']
    icases Hc with ⟨Hmine, Hlv, Hos, Hus, Hur, Hcr, Hpr⟩
    imod (assign L lv hL) $$ Hlv with #Hla
    imod hu₀ $$ Hu with ⟨HP, HG⟩
    imod (PerCore.fund_ghost cfgD EP hinj) $$ HP with ⟨Hg, Ht⟩
    imod hdeal $$ [Hos Hus Hur Hcr Hpr HG] with HXZ
    · isplitr; · iexact Hla
      unfold brings
      simp only [bigSep_sep']
      isplitl [Hos]; · iexact Hos
      isplitl [Hus]; · iexact Hus
      isplitl [Hur]; · iexact Hur
      isplitl [Hcr]; · iexact Hcr
      isplitl [Hpr] <;> iassumption
    imodintro
    iexists ()
    isplitr []
    · simp only [pre, bigSep_sep']
      icases HXZ with ⟨HX, HZ⟩
      isplitl [Hmine]; · iexact Hmine
      isplitr; · iapply (BI.bigSep_intro_persistent (S := Finset.univ) fun (c : Dev nD) _ => (BI.Entails.refl (levAts L lv : sProp 𝕄))); iexact Hla
      isplitl [Hg]; · iapply (hpick fun p' c => PerCore.cellsGhost cfgD EP p' c); iexact Hg
      isplitl [Ht]; · iapply (hpick fun p' c => PerCore.toksInit cfgD EP p' c); iexact Ht
      isplitl [HX] <;> iassumption
    · iempintro
  · -- a core's run: the region, then the return
    simp only [pre, mine]
    rw [hmain c]
    iintro ⟨⟨Hsc, Hcells, Hidle, Harr, HL⟩, #Hla, Hg, Ht, HX, HZ⟩
    ihave Hw := (hwaits c) $$ Hla
    iapply (fupd_wp frame (wpE 𝔻 𝕍 (c.tc : Thread nD τ) none) Set.univ _ _)
    imod (PerCore.RDat.cellsInit_alloc cfgD rds EP hinj p c) $$ [Hcells Hg] with ⟨%κ, -, Hinit⟩
    · isplitl [Hcells] <;> iassumption
    imodintro
    have hin' : iprop(X c ∗ prefHeld ((cfgs p).toPCfg (Val := Val)).pre c (fun _ => fullShare) ((cfgs p).toPCfg_adm (Val := Val)).1 ∗ scopedRest (cfgs p).spec c)
        ⊢ (rds p c).Φ 0 := by
      have hdrop : iprop(X c ∗ prefHeld ((cfgs p).toPCfg (Val := Val)).pre c (fun _ => fullShare) ((cfgs p).toPCfg_adm (Val := Val)).1 ∗ scopedRest (cfgs p).spec c)
          ⊢ iprop(X c ∗ scopedRest (cfgs p).spec c) := by
        iintro ⟨HX, -, HR⟩
        isplitl [HX] <;> iassumption
      exact hdrop.trans (hin c)
    have hout' : iprop((rds p c).Φ (Fin.last (cfgs p).N) ∗ PerCore.cellsSems0 cfgD p c ∗ Dat.staging (cfgs p) c ∗ idle c)
        ⊢ iprop(Y c ∗ scopedSems0 (c.tc : Thread nD τ) ∗ scopedBufs (c.tc : Thread nD τ)) := by
      rw [hss c, hsb c]
      iintro ⟨HΦ, Hcells, Hst, Hidle⟩
      ihave H := (show (rds p c).Φ (Fin.last (cfgs p).N) ⊢ _ from hout c) $$ HΦ
      icases H with ⟨HY, Hos, Hrest⟩
      isplitl [HY]; · iexact HY
      isplitl [Hcells Hos Hidle]
      · isplitl [Hcells Hos]; · isplitl [Hcells] <;> iassumption
        iexact Hidle
      isplitl [Hst] <;> iassumption
    iapply (PerCore.RDat.wp_customCall_entry_frame pcs adm rds ι EP κ hinj p defs₀ 𝒱₀ (fun _ => fullShare) c Set.univ (fun _ _ => Set.mem_univ _)
        (hbody c) hne none (fun u h => nomatch h) (X := X c) (Y := Y c) (R := scopedRest (cfgs p).spec c) (I := idle c)
        (Entails.of_eq (hsb c)) hin' hout'
        (k := fun _ => .ret ⟨⟩) (Q := fun _ => post (liftTc fin BI.emp) (c.tc : Thread nD τ))) $$ [Harr HL Hinit Ht HX Hidle Hsc Hw]
    · isplitl [Harr HL Hinit Ht Hw]
      · unfold PerCore.RDat.EntryPre RDat.owesAt owesWithin
        rw [show (rds p c).owed 0 = O₀ c from howed₀ c]
        isplitl [Harr]; · iexact Harr
        isplitl [HL]
        · iexists ∅; isplitr; · ipureintro; rw [Finset.coe_empty]; exact Set.empty_subset _
          iexact HL
        isplitl [Hw]; · iexact Hw
        isplitl [Hinit] <;> iassumption
      isplitr
      · unfold prefHeld; rw [Finset.univ_eq_empty (α := Fin 0), BI.bigSep_empty]; iempintro
      isplitl [HX]; · iexact HX
      isplitl [Hidle]; · iexact Hidle
      iexact Hsc
    iintro ⟨Hpost, HY, Hss, -⟩
    rw [wp_ret]; imodintro
    unfold post PerCore.RDat.EntryPost RDat.owesAt owesWithin
    rw [show (rds p c).owed (Fin.last _) = 0 from howedN c]
    simp only [liftTc_tc, fin]
    icases Hpost with ⟨Ha, ⟨%W, -, HW⟩⟩
    isplitr [HW]
    · isplitl [Ha Hss]; · isplitl [Ha] <;> iassumption
      isplitl [HY] <;> iassumption
    · iexists W; iexact HW
  · -- the posts, read against a final state
    have hone (c : Dev nD) (s' : Phys nD τ sig Val) :
        iprop(((rds p c).arraysAt (cfgs p).N ∗ scopedSems0 (c.tc : Thread nD τ)) ∗ SI s') ⊢ |={Set.univ}=>
          iprop(⌜(∀ w, (rds p c).ArrAt w (cfgs p).N (s'.mem.mem (((cfgs p).spec w).arr.view.loc (c.tc : Thread nD τ))))
            ∧ ∀ sm : SemLoc sig, sm.isScoped .tc = true → s'.mem.sem ((c.tc : Thread nD τ), sm) = 0⌝ ∗ SI s') := by
      iintro ⟨⟨Ha, Hss⟩, HSI⟩
      ihave %hz := (tcScoped_read_pers c s') $$ [Hss HSI]
      · isplitl [Hss] <;> iassumption
      ihave Hr := (PerCore.RDat.arraysAt_read pcs adm rds p c harr (cfgs p).N s') $$ [Ha HSI]
      · isplitl [Ha] <;> iassumption
      icases Hr with ⟨%ha, HSI⟩
      imodintro
      isplitr
      · ipureintro; exact ⟨ha, hz⟩
      · iexact HSI
    iintro ⟨H, -, Hsc⟩ %s' HSI
    ihave %hsc := (scSems_read_zero m g s') $$ [Hsc HSI]
    · isplitl [Hsc] <;> iassumption
    ihave H := (Entails.of_eq (bigSep_sep' _ _ _)) $$ H
    icases H with ⟨H, HYZ⟩
    imod (hY s') $$ [HYZ HSI] with ⟨%hy, HSI⟩
    · isplitl [HYZ] <;> iassumption
    imod (posts_fupd Finset.univ hone s') $$ [H HSI] with %h
    · isplitl [H] <;> iassumption
    imodintro
    ipureintro
    exact ⟨fun c => ⟨⟨(h c (Finset.mem_univ c)).1, hy c⟩, (h c (Finset.mem_univ c)).2⟩, hsc⟩

/-- The same for proof data that name every window's contents, the windows' arrays distinct. -/
theorem θ_run_dealt (dats : (p : P) → (c : Dev nD) → Dat τ Val Ix Name U Lvl (cfgs p) c) [DecidableEq P] [Preorder Lvl] [∀ e, Nonempty (Val e)] [Infinite Name]
    [EP.LandsIn (upEmb : UEmb _ 𝕄)]
    (hw : WinFacts (cfgs p).spec) (ho : OwnSemFacts (cfgs p).spec osem)
    (m : (ℓ : Loc nD τ sig) → Buf Val ℓ) (g : Dev nD → PrngReg)
    (main : Dev nD → Prog (TpuEff nD τ sig Val (Sig Λ₀ P fun p => (Cfg.toPCfg (Val := Val) (cfgs p)).Adm) .tc) PUnit)
    (hmain : ∀ c, main c = .op (.customCall (entry p) ()) fun _ => .ret ⟨⟩)
    (hbody : ∀ c, BodyObligationLoose (dats p c) defs₀ 𝒱₀ ι Set.univ)
    (hne : ∀ w : Fin (cfgs p).W, 0 < ((cfgs p).spec w).block.numel)
    (harr : ∀ w, ((cfgs p).spec w).arr.IsWhole) (hstage : ∀ w s, (((cfgs p).spec w).stage s).IsWhole)
    (hshare : ∀ c w, (dats p c).share w = fullShare)
    (O₀ : Dev nD → CellTallies nD τ sig Ix) (howed₀ : ∀ c, (dats p c).owed 0 = O₀ c) (howedN : ∀ c, (dats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.cellsWaits cfgD dats ι p c)
    (G : Dev nD → sProp 𝕄) (u₀ : U)
    (hu₀ : (ownU u₀ : sProp 𝕄)
      ⊢ |={Set.univ}=> iprop(BI.own (EP (initOf (PerCore.cells cfgD hinj) (PerCore.launchToks cfgD hinj))) ∗ bigSep Finset.univ G))
    (hA : ∀ c w, (dats p c).A w = m (((cfgs p).spec w).arr.view.loc (c.tc : Thread nD τ)))
    (X Y Z : Dev nD → sProp 𝕄)
    (hdeal : iprop(levAts L lv ∗ bigSep Finset.univ (brings cfgs p osem O₀ m g G))
      ⊢ |={Set.univ}=> bigSep Finset.univ fun c => iprop(X c ∗ Z c))
    (hin : ∀ c, iprop(X c ∗ scopedRest (cfgs p).spec c) ⊢ (dats p c).Φ 0)
    (hout : ∀ c, (dats p c).Φ (Fin.last (cfgs p).N) ⊢ iprop(Y c ∗ ownSems0 osem c ∗ scopedRest (cfgs p).spec c))
    (QY : Dev nD → MemSt nD τ sig Val → Prop)
    (hY : ∀ (s' : Phys nD τ sig Val), iprop((bigSep Finset.univ fun c => iprop(Y c ∗ Z c)) ∗ SI s') ⊢ |={Set.univ}=> iprop(⌜∀ c, QY c s'.mem⌝ ∗ SI s'))
    {Q : PUnit × MemSt nD τ sig Val → Prop}
    (hQ : ∀ s : MemSt nD τ sig Val,
      (∀ c : Dev nD, (∀ w, s.mem (((cfgs p).spec w).arr.view.loc (c.tc : Thread nD τ)) = (dats p c).arrAt w (cfgs p).N) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q :=
  θ_run_dealt_rel cfgs ι hinj p EP defs₀ 𝒱₀ (Dat.toRs dats) hw.to₀ (SharedIn.of_injective hw.arr_inj) ho m g main hmain (fun c => (hbody c).toR)
    hne harr hstage (fun c => (dats p c).q_eq_shareOf_of_share_full hw.arr_inj (hshare c)) O₀ howed₀ howedN L lv hL hwaits G u₀ hu₀ hA X Y Z hdeal
    hin hout QY hY fun s h => hQ s fun c => ⟨fun w => ((dats p c).toR_arrAt_iff w _ _).mp ((h c).1 w), (h c).2⟩

end Deal
-- ==== Proof.Wire.lean ====
/-
  One-shot copies between devices, for any number of them.

  A kernel's own DMA semaphores are named by a finite type `K`. On every device each of them completes exactly one copy:
  the device's cell `k` is credited once, by the device that names it its `peer k` (itself for a copy's read-out, the peer
  for a copy that arrives), with `amt k`; the credit hands the cell's owner `pay c k`. The cells that arrive from
  outside (`away`) are owed from the launch on, at the levels `lev`, which order the waits.

  `hold` is what a device has of the protocol while it still has to pay the cells `P` and to wait for the cells `W`.
  `hold_send` (an addressed copy), `hold_copy` (a local one) and `hold_wait` are its steps, `deal` makes it at launch.
-/
module

public import proofs.«01_k».proof.Proof.Deal
public import Idealize.ShloMosaic.Lib.Tactic

@[expose] public section

noncomputable section

namespace Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

set_option Elab.async false

/-- The cells of a kernel's one-shot copies. -/
structure Plan (nD : Nat) (sig : RefSig) (K : Type) where
  /-- the semaphore of each kind, -/
  sem : K → SemLoc sig
  /-- what its one copy credits, -/
  amt : K → ℕ
  /-- the device whose cell a device pays, -/
  peer : K → Equiv.Perm (Dev nD)
  /-- whether the payment is owed from the launch on, -/
  away : K → Bool
  /-- and the level of the wait. -/
  lev : K → ℕ
  inj : Function.Injective sem
  pos : ∀ k, 0 < amt k

/-- One copy of the rounds library's algebra, -/
abbrev UR (nD : Nat) (τ : Topo) (sig : RefSig) : Type := URounds (GSem nD τ sig) Unit
/-- the pipeline's and the copies' side by side. -/
abbrev UU (nD : Nat) (τ : Topo) (sig : RefSig) : Type := UR nD τ sig × UR nD τ sig

variable {nD : Nat} {τ : Topo} {sig : RefSig} {Val : EltTy → Type} {K : Type} [Fintype K] [DecidableEq K]

local notation "𝕄" => MT nD τ sig Unit Val ℕ (UU nD τ sig) ℕ

/-- The pipeline's copy inside the machine's algebra, -/
def EP : Emb (UR nD τ sig) (MT nD τ sig Unit Val ℕ (UU nD τ sig) ℕ) :=
  (Emb.inl : Emb (UR nD τ sig) (UU nD τ sig)).trans (uEmb (nD := nD) (sig := sig) (Ix := Unit) (Val := Val) (Name := ℕ) (U := UU nD τ sig) (Lvl := ℕ)).toEmb
/-- and the copies'. -/
def ER : Emb (UR nD τ sig) (MT nD τ sig Unit Val ℕ (UU nD τ sig) ℕ) :=
  (Emb.inr : Emb (UR nD τ sig) (UU nD τ sig)).trans (uEmb (nD := nD) (sig := sig) (Ix := Unit) (Val := Val) (Name := ℕ) (U := UU nD τ sig) (Lvl := ℕ)).toEmb

instance EP_lands : (EP : Emb (UR nD τ sig) 𝕄).LandsIn (upEmb : UEmb _ 𝕄) := by unfold EP; infer_instance
instance ER_lands : (ER : Emb (UR nD τ sig) 𝕄).LandsIn (upEmb : UEmb _ 𝕄) := by unfold ER; infer_instance

variable (w : Plan nD sig K) (pay : Dev nD → K → sProp (MT nD τ sig Unit Val ℕ (UU nD τ sig) ℕ))

/-- Device `c`'s cell `k`. -/
abbrev cell (c : Dev nD) (k : K) : GSem nD τ sig := ((c : Thread nD τ), w.sem k)

open Classical in
/-- The schedule: one round of one duty on every cell. -/
def sched : Schedule (GSem nD τ sig) Unit 𝕄 where
  duties g r := if r = 0 ∧ g.1.2 = .tc ∧ ∃ k, w.sem k = g.2 then {()} else ∅
  amount g _ _ := if h : ∃ k, w.sem k = g.2 then w.amt h.choose else 1
  payload g _ _ := if h : ∃ k, w.sem k = g.2 then pay g.1.1 h.choose else iprop(emp)
  unitless _ := False
  amount_pos g _ _ _ := by
    split
    · exact w.pos _
    · exact Nat.one_pos

instance sched_storable [∀ c k, BI.Storable (upEmb : UEmb _ 𝕄) (pay c k)] (g : GSem nD τ sig) (r : ℕ) (d : Unit) :
    BI.Storable (upEmb : UEmb _ 𝕄) ((sched w pay).payload g r d) := by
  unfold sched
  dsimp only
  split <;> infer_instance

theorem choose_eq (k : K) (h : ∃ k', w.sem k' = w.sem k) : h.choose = k := w.inj h.choose_spec

section Table

variable (c : Dev nD) (k : K)

theorem duties_cell : (sched w pay).duties (cell w c k) 0 = {()} := if_pos ⟨rfl, rfl, k, rfl⟩
theorem duties_later (g : GSem nD τ sig) : ∀ r, 0 + 1 ≤ r → (sched w pay).duties g r = ∅ :=
  fun r hr => if_neg fun h => by omega
theorem amount_cell (r : ℕ) (u : Unit) : (sched w pay).amount (cell w c k) r u = w.amt k := by
  have h : ∃ k', w.sem k' = w.sem k := ⟨k, rfl⟩
  unfold sched; dsimp only
  rw [dif_pos h, choose_eq]
theorem payload_cell (r : ℕ) (u : Unit) : (sched w pay).payload (cell w c k) r u = pay c k := by
  have h : ∃ k', w.sem k' = w.sem k := ⟨k, rfl⟩
  unfold sched; dsimp only
  rw [dif_pos h, choose_eq]
theorem expect_cell : (sched w pay).expect (cell w c k) 0 = w.amt k := by
  unfold Schedule.expect Schedule.amountOf
  rw [duties_cell, Finset.sum_singleton, amount_cell]
theorem rest_cell : bigSep ((sched w pay).duties (cell w c k) 0 \ ∅) (fun u => (sched w pay).payload (cell w c k) 0 u) = pay c k := by
  rw [Finset.sdiff_empty, duties_cell, bigSep_singleton, payload_cell]

end Table

/-! ## What is owed, and the levels -/

/-- What device `c` owes while it has still to pay the kinds `S`. -/
def owe (c : Dev nD) (S : Finset K) : CellTallies nD τ sig Unit := ∑ k ∈ S.filter (fun k => w.away k), tallyAt (cell w (w.peer k c) k) () (w.amt k)

open Classical in
def L (g : GSem nD τ sig) : Finset Unit := if g.1.2 = .tc then {()} else ∅
open Classical in
/-- The level of a cell: its kind's; 0 if it is none of them. -/
def lv (g : GSem nD τ sig) (_ : Unit) : ℕ := if h : ∃ k, w.sem k = g.2 then w.lev h.choose else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : K) (u : Unit) : lv w (cell (τ := τ) w c k) u = w.lev k := by
  have h : ∃ k', w.sem k' = w.sem k := ⟨k, rfl⟩
  unfold lv
  rw [dif_pos h, choose_eq]

theorem owe_pos {c : Dev nD} {S : Finset K} {g : GSem nD τ sig} {u : Unit} (h : 0 < owe w c S g u) :
    ∃ k ∈ S, w.away k = true ∧ g = cell w (w.peer k c) k := by
  unfold owe at h
  obtain ⟨k, hk, hp⟩ := Pipeline.sum_pos_exists h
  rw [tallyAt_apply] at hp
  have hk' := Finset.mem_filter.mp hk
  refine ⟨k, hk'.1, hk'.2, ?_⟩
  by_contra hn
  rw [if_neg fun h' => hn h'.1] at hp
  exact Nat.lt_irrefl 0 hp

theorem owe_take {c : Dev nD} {S : Finset K} {k : K} (hk : k ∈ S) (ha : w.away k = true) :
    (owe w c S : CellTallies nD τ sig Unit) = owe w c (S.erase k) + tallyAt (cell w (w.peer k c) k) () (w.amt k) := by
  unfold owe
  have hm : k ∈ S.filter (fun k => w.away k) := Finset.mem_filter.mpr ⟨hk, ha⟩
  rw [← Finset.sum_erase_add _ _ hm, Finset.filter_erase]
theorem owe_drop {c : Dev nD} {S : Finset K} {k : K} (ha : w.away k = false) : (owe w c (S.erase k) : CellTallies nD τ sig Unit) = owe w c S := by
  unfold owe
  rw [Finset.filter_erase, Finset.erase_eq_of_notMem fun h => by rw [(Finset.mem_filter.mp h).2] at ha; cases ha]
theorem owe_empty (c : Dev nD) : (owe w c ∅ : CellTallies nD τ sig Unit) = 0 := by
  unfold owe
  rw [Finset.filter_empty, Finset.sum_empty]

/-- A wait on a cell of a lower level than all that is owed. -/
theorem mayWait_owe (c : Dev nD) (sm : SemLoc sig) (S : Finset K) (h : ∀ j ∈ S, w.away j = true → lv w ((c : Thread nD τ), sm) () < w.lev j) :
    (levAts L (lv w) : sProp 𝕄) ⊢ MayWait (c : Thread nD τ) sm () (owe w c S) := by
  refine Pipeline.mayWait_of_levAts (by rw [L_tc]; exact Finset.mem_singleton_self _) fun g u hg => ?_
  obtain ⟨k, hk, ha, rfl⟩ := owe_pos w hg
  refine ⟨by rw [L_tc]; exact Finset.mem_singleton_self _, ?_⟩
  rw [lv_cell]
  exact h k hk ha

/-! ## What a device holds -/

variable (κ : Dev nD × K → ℕ) (c : Dev nD)

/-- The records every device shares: the cells' invariants, that each is at its first round, and the levels. -/
def records : sProp 𝕄 :=
  iprop((bigSep Finset.univ fun x : Dev nD × K => cellInv ER (sched w pay) (κ x) (cell w x.1 x.2))
    ∗ (bigSep Finset.univ fun x : Dev nD × K => reached ER (cell w x.1 x.2) 0) ∗ levAts L (lv w))

instance records_persistent : BI.Persistent (records w pay κ) := by unfold records; infer_instance

theorem records_inv (d : Dev nD) (k : K) : records w pay κ ⊢ cellInv ER (sched w pay) (κ (d, k)) (cell w d k) := by
  have h : (bigSep Finset.univ fun x : Dev nD × K => (cellInv ER (sched w pay) (κ x) (cell w x.1 x.2) : sProp 𝕄)) ⊢ cellInv ER (sched w pay) (κ (d, k)) (cell w d k) :=
    bigSep_elim (i := (d, k)) (Finset.mem_univ _)
  unfold records
  iintro ⟨H, -⟩
  iapply h; iexact H
theorem records_reached (d : Dev nD) (k : K) : records w pay κ ⊢ reached ER (cell w d k) 0 := by
  have h : (bigSep Finset.univ fun x : Dev nD × K => (reached ER (cell w x.1 x.2) 0 : sProp 𝕄)) ⊢ reached ER (cell w d k) 0 :=
    bigSep_elim (i := (d, k)) (Finset.mem_univ _)
  unfold records
  iintro ⟨-, H, -⟩
  iapply h; iexact H
theorem records_levels : records w pay κ ⊢ levAts L (lv w) := by
  unfold records
  iintro ⟨-, -, H⟩
  iexact H

def tok (k : K) : sProp 𝕄 := dutyTok ER (cell w (w.peer k c) k) 0 ()
def pos (k : K) : sProp 𝕄 := atPos ER (cell w c k) 0 ∅ 0
def crd (k : K) : sProp 𝕄 := cred (tallyAt (cell w c k) () (w.amt k))
def fin (k : K) : sProp 𝕄 := semVal (cell w c k) 0

/-- The kinds whose credit a device has while `P` is to pay and `W` to wait for. -/
def due (P W : Finset K) : Finset K := W.filter fun k => w.away k = true ∨ k ∉ P

/-- What a device holds while it has still to pay the kinds `P` and to wait for the kinds `W`. -/
def hold (P W : Finset K) : sProp 𝕄 :=
  iprop(records w pay κ ∗ bigSep P (tok w c) ∗ bigSep W (pos w c) ∗ bigSep (due w P W) (crd w c) ∗ bigSep (Finset.univ \ W) (fin w c))

/-- What it owes. -/
def debt (P : Finset K) : sProp 𝕄 := iprop(∃ Ws : Waits sig Unit, owes (c : Thread nD τ) (owe w c P) Ws)

theorem due_paid {P W : Finset K} {k : K} (hk : k ∈ P) (ha : w.away k = true) : due w (P.erase k) W = due w P W := by
  unfold due
  refine Finset.filter_congr fun j _ => ?_
  by_cases hj : j = k
  · subst hj; simp [ha]
  · simp [hj]
theorem due_issued {P W : Finset K} {k : K} (hP : k ∈ P) (hW : k ∈ W) (ha : w.away k = false) :
    k ∈ due w (P.erase k) W ∧ (due w (P.erase k) W).erase k = due w P W := by
  refine ⟨Finset.mem_filter.mpr ⟨hW, Or.inr (Finset.notMem_erase _ _)⟩, ?_⟩
  ext j
  unfold due
  by_cases hj : j = k
  · subst hj; simp [ha, hP]
  · simp [hj]
theorem due_waited {P W : Finset K} {k : K} (h : k ∈ W) (hr : w.away k = true ∨ k ∉ P) :
    k ∈ due w P W ∧ (due w P W).erase k = due w P (W.erase k) :=
  ⟨Finset.mem_filter.mpr ⟨h, hr⟩, by unfold due; rw [Finset.filter_erase]⟩

section Steps

variable {Λ : Idealize.SL.Sem.Labels} (defs : Defs nD τ sig Val Λ) (𝒱 : Variants)

/-- AN ADDRESSED COPY: it pays the peer's cell `kr` with the rewritten destination and the issuer's own cell `ks`
    with what was read. -/
theorem hold_send {n : Dev nD} {sp sp' : Space} {s : Shape} {e : EltTy} {src : Memref sig .tc sp s e} {dst : Memref sig .tc sp' s e}
    {sS sR : SemLoc sig} {hsc : dst.view.ref.isScScratch = false}
    {hsrc : src.view.WordExact} {hdst : dst.view.WordExact}
    {hsem : DmaTarget.Typed sp sR (.remote (Dev.tc n : Thread nD τ) (dst : Memref sig (Dev.tc n : Thread nD τ).2.kind sp' s e) sS hsc)}
    {α : Type} {Q : α → sProp 𝕄} {k : PUnit → Prog (TpuEff nD τ sig Val Λ .tc) α}
    (ks kr : K) {P W : Finset K} (hn : n = w.peer kr c) (hS : w.sem ks = sS) (hR : w.sem kr = sR)
    (hself : w.peer ks c = c) (has : w.away ks = false) (har : w.away kr = true) (hks : ks ∈ P) (hkr : kr ∈ P) (hW : ks ∈ W)
    (hamtS : w.amt ks = dst.view.amount sR) (hamtR : w.amt kr = dst.view.amount sR)
    {q : PosShare TreeShare} {fs : Buf Val (src.view.loc (c : Thread nD τ))} {fd : Buf Val (dst.view.loc (w.peer kr c : Thread nD τ))}
    (hpayS : (src.view.loc (c : Thread nD τ) ↦[src.view.set]{q} fs) ⊢ pay c ks)
    (hpayR : (dst.view.loc (w.peer kr c : Thread nD τ) ↦[dst.view.set]{fullShare} (dst.view.write Val fd (src.view.read Val fs) Finset.univ)) ⊢ pay (w.peer kr c) kr)
    (hroute : τ.routes (c : Thread nD τ) (w.peer kr c : Thread nD τ) = true) :
    iprop(hold w pay κ c P W ∗ debt w c P ∗ (src.view.loc (c : Thread nD τ) ↦[src.view.set]{q} fs)
        ∗ (dst.view.loc (w.peer kr c : Thread nD τ) ↦[dst.view.set]{fullShare} fd))
      ⊢ iprop(((hold w pay κ c ((P.erase ks).erase kr) W ∗ debt w c ((P.erase ks).erase kr)) -∗ wp frame (wpE defs 𝒱 (c : Thread nD τ) none) Set.univ (k ⟨⟩) Q)
          -∗ wp frame (wpE defs 𝒱 (c : Thread nD τ) none) Set.univ
              (.op (.enqueueDma src (.remote (Dev.tc n : Thread nD τ) dst sS hsc) sR hsrc hdst hsem) k) Q) := by
  subst hn hS hR
  have hne : kr ≠ ks := fun h => by rw [h, has] at har; cases har
  have hkr' : kr ∈ P.erase ks := Finset.mem_erase.mpr ⟨hne, hkr⟩
  have hdue : bigSep (due w ((P.erase ks).erase kr) W) (crd w c) = (iprop(crd w c ks ∗ bigSep (due w P W) (crd w c)) : sProp 𝕄) := by
    rw [due_paid w hkr' har, bigSep_erase (due_issued w hks hW has).1, (due_issued w hks hW has).2]; rfl
  have htok : bigSep P (tok w c) = (iprop(tok w c ks ∗ tok w c kr ∗ bigSep ((P.erase ks).erase kr) (tok w c)) : sProp 𝕄) := by
    rw [bigSep_erase hks, bigSep_erase hkr']; rfl
  have htk : tok w c ks = (dutyTok ER (cell w c ks) 0 () : sProp 𝕄) := by unfold tok; rw [hself]
  have hcr : crd w c ks = (cred (tallyAt (cell w c ks) () (dst.view.amount (w.sem kr))) : sProp 𝕄) := by unfold crd; rw [hamtS]
  have hO : (owe w c P : CellTallies nD τ sig Unit) = owe w c ((P.erase ks).erase kr) + tallyAt (cell w (w.peer kr c) kr) () (dst.view.amount (w.sem kr)) := by
    rw [← owe_drop w has, owe_take w hkr' har, hamtR]
  unfold hold debt
  rw [hdue, htok, htk, hcr]
  iintro ⟨⟨#HR, ⟨HtS, HtR, HT⟩, HP, HC, HF⟩, ⟨%Ws, HO⟩, Hsrc, Hdst⟩ Hk
  ihave #HiS := (records_inv w pay κ c ks) $$ HR
  ihave #HiR := (records_inv w pay κ (w.peer kr c) kr) $$ HR
  ihave #HrS := (records_reached w pay κ c ks) $$ HR
  ihave #HrR := (records_reached w pay κ (w.peer kr c) kr) $$ HR
  iapply (Rounds.wp_send_pointsTo 𝒱 ER (sched w pay) (c : Thread nD τ) none (κ₁ := κ (c, ks)) (κ₂ := κ (w.peer kr c, kr))
    (r₁ := 0) (r₂ := 0) (d₁ := ()) (d₂ := ()) (fd := fd) (fs := fs) (q := q)
    (by rw [duties_cell]; exact Finset.mem_singleton_self _) (by rw [duties_cell]; exact Finset.mem_singleton_self _)
    () () (dst.view.amount (w.sem kr)) rfl ((amount_cell w pay c ks 0 ()).trans hamtS) ((amount_cell w pay (w.peer kr c) kr 0 ()).trans hamtR)
    (owe w c ((P.erase ks).erase kr)) hO (W := Ws)
    (by rw [payload_cell]; exact hpayS) (by rw [payload_cell]; exact hpayR) (hr := hroute)) $$ [HtS HtR HO Hsrc Hdst]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · unfold tok; iexact HtR
    iexact HrR
  iintro ⟨Hc, HO⟩
  iapply Hk
  isplitr [HO]
  · isplitr; · iexact HR
    isplitl [HT]; · iexact HT
    isplitl [HP]; · iexact HP
    isplitl [Hc HC]
    · isplitl [Hc]; · iexact Hc
      iexact HC
    iexact HF
  · iexists Ws; iexact HO

/-- A LOCAL COPY: it pays the issuer's own cell `ks` with the rewritten destination and what was read. -/
theorem hold_copy {sp sp' : Space} {s : Shape} {e : EltTy} {src : Memref sig .tc sp s e} {dst : Memref sig .tc sp' s e}
    {sS : SemLoc sig} {hsrc : src.view.WordExact} {hdst : dst.view.WordExact} {hsem : DmaTarget.Typed (nD := nD) sp sS (.here (p := Proc.tc) dst)}
    {α : Type} {Q : α → sProp 𝕄} {k : PUnit → Prog (TpuEff nD τ sig Val Λ .tc) α}
    (ks : K) {P W : Finset K} (hS : w.sem ks = sS)
    (hself : w.peer ks c = c) (has : w.away ks = false) (hks : ks ∈ P) (hW : ks ∈ W) (hamtS : w.amt ks = dst.view.amount sS)
    {q : PosShare TreeShare} {fs : Buf Val (src.view.loc (c : Thread nD τ))} {fd : Buf Val (dst.view.loc (c : Thread nD τ))}
    (hpay : iprop((dst.view.loc (c : Thread nD τ) ↦[dst.view.set]{fullShare} (dst.view.write Val fd (src.view.read Val fs) Finset.univ))
        ∗ (src.view.loc (c : Thread nD τ) ↦[src.view.set]{q} fs)) ⊢ pay c ks) :
    iprop(hold w pay κ c P W ∗ (src.view.loc (c : Thread nD τ) ↦[src.view.set]{q} fs) ∗ (dst.view.loc (c : Thread nD τ) ↦[dst.view.set]{fullShare} fd))
      ⊢ iprop((hold w pay κ c (P.erase ks) W -∗ wp frame (wpE defs 𝒱 (c : Thread nD τ) none) Set.univ (k ⟨⟩) Q)
          -∗ wp frame (wpE defs 𝒱 (c : Thread nD τ) none) Set.univ (.op (.enqueueDma src (.here dst) sS hsrc hdst hsem) k) Q) := by
  subst hS
  have hdue : bigSep (due w (P.erase ks) W) (crd w c) = (iprop(crd w c ks ∗ bigSep (due w P W) (crd w c)) : sProp 𝕄) := by
    rw [bigSep_erase (due_issued w hks hW has).1, (due_issued w hks hW has).2]; rfl
  have htok : bigSep P (tok w c) = (iprop(tok w c ks ∗ bigSep (P.erase ks) (tok w c)) : sProp 𝕄) := bigSep_erase hks
  have htk : tok w c ks = (dutyTok ER (cell w c ks) 0 () : sProp 𝕄) := by unfold tok; rw [hself]
  have hcr : crd w c ks = (cred (tallyAt (cell w c ks) () (dst.view.amount (w.sem ks))) : sProp 𝕄) := by unfold crd; rw [hamtS]
  unfold hold
  rw [hdue, htok, htk, hcr]
  iintro ⟨⟨#HR, ⟨HtS, HT⟩, HP, HC, HF⟩, Hsrc, Hdst⟩ Hk
  ihave #HiS := (records_inv w pay κ c ks) $$ HR
  ihave #HrS := (records_reached w pay κ c ks) $$ HR
  iapply (Rounds.wp_copy_pointsTo 𝒱 ER (sched w pay) (c : Thread nD τ) none (κ := κ (c, ks)) (r := 0) (d := ()) (fd := fd) (fs := fs) (q := q)
    (by rw [duties_cell]; exact Finset.mem_singleton_self _) () (dst.view.amount (w.sem ks)) rfl ((amount_cell w pay c ks 0 ()).trans hamtS)
    (by rw [payload_cell]; exact hpay)) $$ [HtS Hsrc Hdst]
  · isplitr; · iexact HiS
    isplitl [Hsrc]; · iexact Hsrc
    isplitl [Hdst]; · iexact Hdst
    isplitl [HtS]; · iexact HtS
    iexact HrS
  iintro Hc
  iapply Hk
  isplitr; · iexact HR
  isplitl [HT]; · iexact HT
  isplitl [HP]; · iexact HP
  isplitl [Hc HC]
  · isplitl [Hc]; · iexact Hc
    iexact HC
  iexact HF

/-- A WAIT for the cell `kw`, its credit in hand and of a lower level than all still owed: what it was paid comes
    back, and its counter, at zero. -/
theorem hold_wait {sp sp' : Space} {s s' : Shape} {e e' : EltTy} {sem : DmaSem sig}
    {src : Memref sig .tc sp' s' e'} {κ' : Kind} {dst : Memref sig κ' sp s e} {hsrc : src.view.WordExact} {hdst : dst.view.WordExact}
    {α : Type} {Q : α → sProp 𝕄} {k : PUnit → Prog (TpuEff nD τ sig Val Λ .tc) α}
    (kw : K) {P W : Finset K} (hS : w.sem kw = SemLoc.dma sem) (hW : kw ∈ W) (hr : w.away kw = true ∨ kw ∉ P)
    (hamt : w.amt kw = dst.view.dmaCredit) (hlev : ∀ j ∈ P, w.away j = true → w.lev kw < w.lev j) :
    iprop(hold w pay κ c P W ∗ debt w c P)
      ⊢ iprop(((hold w pay κ c P (W.erase kw) ∗ debt w c P ∗ pay c kw) -∗ wp frame (wpE defs 𝒱 (c : Thread nD τ) none) Set.univ (k ⟨⟩) Q)
          -∗ wp frame (wpE defs 𝒱 (c : Thread nD τ) none) Set.univ (.op (.waitDma2 sem src dst hsrc hdst) k) Q) := by
  have hdue : bigSep (due w P W) (crd w c) = (iprop(crd w c kw ∗ bigSep (due w P (W.erase kw)) (crd w c)) : sProp 𝕄) := by
    rw [bigSep_erase (due_waited w hW hr).1, (due_waited w hW hr).2]; rfl
  have hpos : bigSep W (pos w c) = (iprop(pos w c kw ∗ bigSep (W.erase kw) (pos w c)) : sProp 𝕄) := bigSep_erase hW
  have hfin : bigSep (Finset.univ \ W.erase kw) (fin w c) = (iprop(fin w c kw ∗ bigSep (Finset.univ \ W) (fin w c)) : sProp 𝕄) := by
    have hm : kw ∈ Finset.univ \ W.erase kw := Finset.mem_sdiff.mpr ⟨Finset.mem_univ _, Finset.notMem_erase _ _⟩
    rw [bigSep_erase hm, show (Finset.univ \ W.erase kw).erase kw = Finset.univ \ W from by ext j; by_cases hj : j = kw <;> simp [hj, hW]]
    rfl
  have hmay := mayWait_owe (Val := Val) (τ := τ) w c (SemLoc.dma sem) P (by
    rw [← hS]
    intro j hj ha
    rw [show lv w ((c : Thread nD τ), w.sem kw) () = w.lev kw from lv_cell w c kw ()]
    exact hlev j hj ha)
  have hcr : crd w c kw = (cred (tallyAt ((c : Thread nD τ), SemLoc.dma sem) () dst.view.dmaCredit) : sProp 𝕄) := by unfold crd; rw [hamt, ← hS]
  have hpw : pos w c kw = (atPos ER ((c : Thread nD τ), SemLoc.dma sem) 0 ∅ 0 : sProp 𝕄) := by unfold pos; rw [← hS]
  have hfw : fin w c kw = (semVal ((c : Thread nD τ), SemLoc.dma sem) 0 : sProp 𝕄) := by unfold fin; rw [← hS]
  have hinv := records_inv w pay κ c kw
  have hrest := rest_cell w pay c kw
  have hexp := expect_cell w pay c kw
  simp only [cell] at hinv hrest hexp
  rw [hS] at hinv hrest hexp
  unfold hold debt
  rw [hdue, hpos, hfin, hcr, hpw, hfw]
  iintro ⟨⟨#HR, HT, ⟨Hp, HP⟩, ⟨Hc, HC⟩, HF⟩, ⟨%Ws, HO⟩⟩ Hk
  ihave #Hi := hinv $$ HR
  ihave #Hlev := (records_levels w pay κ) $$ HR
  iapply (Rounds.wp_wait_rest_token 𝒱 ER (sched w pay) (c : Thread nD τ) none (κ := κ (c, kw))
      (wpE_waitDma2_eq 𝒱 (c : Thread nD τ) none Set.univ) (Set.mem_univ _) () (O := owe w c P) (W := Ws) (R := 0) (m := 0) (T := ∅)
      (by rw [Nat.zero_add, hexp, hamt])) $$ [Hc HO Hp]
  · isplitr; · iexact Hi
    isplitl [Hc]; · iexact Hc
    isplitl [HO]; · iexact HO
    isplitr; · iapply hmay; iexact Hlev
    iexact Hp
  iintro ⟨HO, Hp, -, Hpay⟩
  ihave Hpay' := (Entails.of_eq hrest) $$ Hpay
  imod (Rounds.cell_close ER (sched w pay) (Set.mem_univ (κ (c, kw))) (fun h => h) (R := 0 + 1) (duties_later w pay _)) $$ [Hp] with Hz
  · isplitr; · iexact Hi
    iexact Hp
  iapply Hk
  isplitr [HO Hpay']
  · isplitr; · iexact HR
    isplitl [HT]; · iexact HT
    isplitl [HP]; · iexact HP
    isplitl [HC]; · iexact HC
    isplitl [Hz]; · iexact Hz
    iexact HF
  · isplitl [HO]; · iexists (insert (SemLoc.dma sem, ()) Ws); iexact HO
    iexact Hpay'

end Steps

/-! ## The end -/

theorem hold_done : hold w pay κ c ∅ ∅ ⊢ Pipeline.ownSems0 w.sem c := by
  have h : bigSep (Finset.univ \ ∅) (fin w c) = (Pipeline.ownSems0 w.sem c : sProp 𝕄) := by
    rw [Finset.sdiff_empty]; rfl
  unfold hold
  rw [h]
  iintro ⟨-, -, -, -, H⟩
  iexact H
theorem debt_done : debt w c ∅ ⊢ (iprop(∃ Ws : Waits sig Unit, owes (c : Thread nD τ) 0 Ws) : sProp 𝕄) := by
  unfold debt
  rw [owe_empty]

/-! ## The launch -/

section Launch

variable {Λ₀ : Idealize.SL.Sem.Labels} {P : Type} [Fintype P] (cfgs : P → Cfg sig Λ₀) (p : P) (ho : Pipeline.OwnSemFacts (cfgs p).spec w.sem)

/-- One token for every cell. -/
def duties (_ : Dev nD) : Finset (K × ℕ × Unit) := Finset.univ.map ⟨fun k => (k, 0, ()), fun _ _ h => (Prod.mk.inj h).1⟩

/-- The copies' half of the launch element. -/
def seed : UR nD τ sig := initOf (Pipeline.ownCells cfgs p ho) (Pipeline.ownToksOf cfgs p ho duties)

/-- What the launch element deals device `c`. -/
def G : sProp 𝕄 :=
  iprop(Pipeline.ownGhost cfgs p ho ER (sched w pay) c ∗ bigSep Finset.univ fun k => dutyTok ER (cell w c k) 0 ())

theorem ownU_split (a b : UR nD τ sig) : (ownU (a, b) : sProp 𝕄) ⊢ iprop(BI.own (EP a) ∗ BI.own (ER b)) :=
  BI.own_op_elim ((uEmb (nD := nD) (sig := sig) (Ix := Unit) (Val := Val) (Name := ℕ) (U := UU nD τ sig) (Lvl := ℕ)).toEmb.op_of_mem
    (Prod.mk_mem_op (URA.mem_op_one a) (URA.mem_one_op b)))

theorem fund (a : UR nD τ sig) :
    (ownU (a, seed w cfgs p ho) : sProp 𝕄) ⊢ |={Set.univ}=> iprop(BI.own (EP a) ∗ bigSep Finset.univ fun c => G w pay c cfgs p ho) := by
  have ht : (bigSep (Pipeline.ownToksOf cfgs p ho duties) fun x => (dutyTok ER x.1 x.2.1 x.2.2 : sProp 𝕄))
      = bigSep Finset.univ fun c : Dev nD => bigSep Finset.univ fun k => dutyTok ER (cell w c k) 0 () := by
    rw [Pipeline.bigSep_ownToksOf]
    refine bigSep_congr fun c _ => ?_
    unfold duties
    exact Finset.fold_map
  iintro Hu
  ihave H := (ownU_split a (seed w cfgs p ho)) $$ Hu
  icases H with ⟨HA, HB⟩
  imod (Pipeline.fund_own cfgs p ho ER (sched w pay) (Pipeline.ownToksOf cfgs p ho duties)) $$ [HB] with ⟨Hg, Ht⟩
  · unfold seed; iexact HB
  imodintro
  isplitl [HA]; · iexact HA
  ihave Ht' := (Entails.of_eq ht) $$ Ht
  unfold G
  rw [bigSep_sep']
  isplitl [Hg]; · iexact Hg
  iexact Ht'

/-- What the devices together owe a cell at the launch: its one copy's credit. -/
theorem launched (k : K) (ha : w.away k = true) :
    tallyOn (cell (τ := τ) w c k) (launchCredit (Pipeline.owing fun d => owe w d Finset.univ) 0 (cell (τ := τ) w c k))
      = (tallyAt (cell w c k) () (w.amt k) : CellTallies nD τ sig Unit) := by
  unfold tallyAt
  refine congrArg _ (Finsupp.ext fun u => ?_)
  cases u
  rw [Pipeline.launchCredit_owing, Finsupp.single_eq_same]
  have h1 (d : Dev nD) : (owe w d Finset.univ : CellTallies nD τ sig Unit) (cell w c k) () = if d = (w.peer k).symm c then w.amt k else 0 := by
    unfold owe
    rw [Finset.sum_apply, Finsupp.finsetSum_apply, Finset.sum_eq_single k]
    · rw [tallyAt_apply]
      by_cases h : d = (w.peer k).symm c
      · subst h; rw [if_pos rfl, Equiv.apply_symm_apply, if_pos ⟨rfl, rfl⟩]
      · rw [if_neg h, if_neg]
        rintro ⟨h', -⟩
        have h2 : c = w.peer k d := congrArg (fun g : GSem nD τ sig => g.1.1) h'
        exact h (by rw [h2, Equiv.symm_apply_apply])
    · intro j _ hj
      rw [tallyAt_apply, if_neg]
      rintro ⟨h', -⟩
      exact hj (w.inj (congrArg Prod.snd h').symm)
    · intro hn
      exact absurd (Finset.mem_filter.mpr ⟨Finset.mem_univ k, ha⟩) hn
  rw [Finset.sum_congr rfl fun d _ => h1 d, Finset.sum_ite_eq' Finset.univ _ fun _ => w.amt k, if_pos (Finset.mem_univ _)]

theorem credits : (Pipeline.launchCred (fun d => owe w d Finset.univ) c : sProp 𝕄) ⊢ bigSep (due w Finset.univ Finset.univ) (crd w c) := by
  have hm : bigSep ((due w Finset.univ Finset.univ).map ⟨w.sem, w.inj⟩)
      (fun sm => (cred (tallyOn ((c : Thread nD τ), sm) (launchCredit (Pipeline.owing fun d => owe w d Finset.univ) 0 ((c : Thread nD τ), sm))) : sProp 𝕄))
        = bigSep (due w Finset.univ Finset.univ) (crd w c) := by
    refine Eq.trans Finset.fold_map (bigSep_congr fun k hk => ?_)
    have ha : w.away k = true := ((Finset.mem_filter.mp hk).2).resolve_right fun h => h (Finset.mem_univ _)
    show cred (tallyOn (cell w c k) (launchCredit (Pipeline.owing fun d => owe w d Finset.univ) 0 (cell w c k))) = crd w c k
    rw [launched w c k ha]
    rfl
  unfold Pipeline.launchCred
  rw [← hm]
  exact bigSep_subset (Finset.subset_univ _)

/-- On one device: its cells' invariants allocated, at names chosen there. -/
theorem alloc [∀ c k, BI.Storable (upEmb : UEmb _ 𝕄) (pay c k)] :
    iprop(Pipeline.ownSems0 w.sem c ∗ G w pay c cfgs p ho)
      ⊢ |={Set.univ}=> iprop((bigSep Finset.univ fun k => iprop(∃ n : ℕ, cellInv ER (sched w pay) n (cell w c k)))
          ∗ (bigSep Finset.univ fun k => iprop(atPos ER (cell w c k) 0 ∅ 0 ∗ reached ER (cell w c k) 0))
          ∗ bigSep Finset.univ fun k => dutyTok ER (cell w c k) 0 ()) := by
  unfold G
  rw [Pipeline.ownGhost_eq]
  iintro ⟨Hos, ⟨Hst, Hat⟩, Htok⟩
  imod (Pipeline.ownCells_alloc cfgs p ho ER (sched w pay) c) $$ [Hos Hst] with Hinv
  · isplitl [Hos] <;> iassumption
  imodintro
  isplitl [Hinv]; · iexact Hinv
  isplitl [Hat]; · iexact Hat
  iexact Htok

/-- A persistent assertion serves every summand. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens, each to the device that pays with it. -/
theorem tokens :
    (bigSep Finset.univ fun c : Dev nD => bigSep Finset.univ fun k => (dutyTok ER (cell w c k) 0 () : sProp 𝕄))
      = bigSep Finset.univ fun c : Dev nD => bigSep Finset.univ (tok w c) := by
  rw [Pipeline.bigSep_univ_comm]
  rw [show (bigSep Finset.univ fun c : Dev nD => bigSep Finset.univ (tok w c) : sProp 𝕄)
      = bigSep Finset.univ fun k => bigSep Finset.univ fun c : Dev nD => tok w c k from Pipeline.bigSep_univ_comm _]
  exact bigSep_congr fun k _ => bigSep_univ_equiv (w.peer k) _

/-- THE DEAL: the protocol's whole state, every device at its start. -/
theorem deal [∀ c k, BI.Storable (upEmb : UEmb _ 𝕄) (pay c k)] :
    iprop(levAts L (lv w) ∗ bigSep Finset.univ fun c : Dev nD => iprop(Pipeline.ownSems0 w.sem c
        ∗ Pipeline.launchCred (fun d => owe w d Finset.univ) c ∗ G w pay c cfgs p ho))
      ⊢ |={Set.univ}=> iprop(∃ κ, bigSep Finset.univ fun c : Dev nD => hold w pay κ c Finset.univ Finset.univ) := by
  have hal : (bigSep Finset.univ fun c : Dev nD => iprop(Pipeline.ownSems0 w.sem c ∗ G w pay c cfgs p ho) : sProp 𝕄)
      ⊢ |={Set.univ}=> bigSep Finset.univ fun c : Dev nD => iprop((bigSep Finset.univ fun k => iprop(∃ n : ℕ, cellInv ER (sched w pay) n (cell w c k)))
          ∗ (bigSep Finset.univ fun k => iprop(atPos ER (cell w c k) 0 ∅ 0 ∗ reached ER (cell w c k) 0))
          ∗ bigSep Finset.univ fun k => dutyTok ER (cell w c k) 0 ()) :=
    (bigSep_mono fun c _ => alloc w pay c cfgs p ho).trans (bigSep_fupd _ _)
  have hcr : (bigSep Finset.univ fun c : Dev nD => Pipeline.launchCred (fun d => owe w d Finset.univ) c : sProp 𝕄)
      ⊢ bigSep Finset.univ fun c : Dev nD => bigSep (due w Finset.univ Finset.univ) (crd w c) :=
    bigSep_mono fun c _ => credits w c
  have hstart (κ : Dev nD × K → ℕ) (c : Dev nD) (_ : c ∈ (Finset.univ : Finset (Dev nD))) :
      iprop(records w pay κ ∗ (bigSep Finset.univ (pos w c) ∗ bigSep Finset.univ (tok w c) ∗ bigSep (due w Finset.univ Finset.univ) (crd w c)))
        ⊢ hold w pay κ c Finset.univ Finset.univ := by
    unfold hold
    rw [Finset.sdiff_self, bigSep_empty]
    iintro ⟨HR, HP, HT, HC⟩
    isplitl [HR]; · iexact HR
    isplitl [HT]; · iexact HT
    isplitl [HP]; · iexact HP
    isplitl [HC]; · iexact HC
    iempintro
  simp only [bigSep_sep'] at hal ⊢
  iintro ⟨#Hlev, Hos, Hcr, HG⟩
  imod hal $$ [Hos HG] with ⟨HI, ⟨Hat, HR⟩, Htok⟩
  · isplitl [Hos] <;> iassumption
  imodintro
  ihave HI' := (Entails.of_eq (bigSep_univ_prod (fun x : Dev nD × K => (iprop(∃ n : ℕ, cellInv ER (sched w pay) n (cell w x.1 x.2)) : sProp 𝕄))).symm) $$ HI
  ihave #HR' := (Entails.of_eq (bigSep_univ_prod (fun x : Dev nD × K => (reached ER (cell w x.1 x.2) 0 : sProp 𝕄))).symm) $$ HR
  ihave HK := (BI.bigSep_exists_pi Finset.univ (fun (x : Dev nD × K) (n : ℕ) => (cellInv ER (sched w pay) n (cell w x.1 x.2) : sProp 𝕄))) $$ HI'
  icases HK with ⟨%κ, #HI⟩
  ihave Htk := (Entails.of_eq (tokens (Val := Val) (τ := τ) w)) $$ Htok
  ihave Hc := hcr $$ Hcr
  iexists κ
  iapply (spread (hstart κ))
  simp only [bigSep_sep']
  isplitr
  · unfold records
    isplitr; · iexact HI
    isplitr; · iexact HR'
    iexact Hlev
  isplitl [Hat]; · unfold pos; iexact Hat
  isplitl [Htk]; · iexact Htk
  iexact Hc

/-- The same from what the devices bring to the launch, each keeping its arrays. -/
theorem deal_brings [∀ c k, BI.Storable (upEmb : UEmb _ 𝕄) (pay c k)] (m : (ℓ : Loc nD τ sig) → Buf Val ℓ) (g : Dev nD → PrngReg) :
    iprop(levAts L (lv w) ∗ bigSep Finset.univ (Deal.brings cfgs p w.sem (fun d => owe w d Finset.univ) m g fun c => G w pay c cfgs p ho))
      ⊢ |={Set.univ}=> iprop(∃ κ, (bigSep Finset.univ fun c : Dev nD => hold w pay κ c Finset.univ Finset.univ)
          ∗ bigSep Finset.univ fun c : Dev nD => Pipeline.unscopedRest (cfgs p).spec c (fun b => m ((c.tc : Thread nD τ).loc b))) := by
  have hd := deal w pay cfgs p ho
  unfold Deal.brings
  simp only [bigSep_sep'] at hd ⊢
  iintro ⟨#Hlev, Hos, -, Hur, Hcr, -, HG⟩
  imod hd $$ [Hos Hcr HG] with ⟨%κ, H⟩
  · isplitr; · iexact Hlev
    isplitl [Hos]; · iexact Hos
    isplitl [Hcr] <;> iassumption
  imodintro
  iexists κ
  isplitl [H] <;> iassumption

end Launch

/-- A wait on a cell that is none of the copies', below all of them. -/
theorem mayWait_other (sm : SemLoc sig) (S : Finset K) (h : ∀ k, w.sem k ≠ sm) (hl : ∀ j ∈ S, w.away j = true → 0 < w.lev j) :
    (levAts L (lv w) : sProp 𝕄) ⊢ MayWait (c : Thread nD τ) sm () (owe w c S) :=
  mayWait_owe w c sm S fun j hj ha => by
    unfold lv
    rw [dif_neg (by rintro ⟨k, hk⟩; exact h k hk)]
    exact hl j hj ha

/-! ## Reading the memory back -/

theorem read_all {Φ : Dev nD → sProp 𝕄} {φ : Dev nD → MemSt nD τ sig Val → Prop} (s : Phys nD τ sig Val)
    (h : ∀ c, iprop(Φ c ∗ SI s) ⊢ (⌜φ c s.mem⌝ : sProp 𝕄)) :
    iprop((bigSep Finset.univ Φ) ∗ SI s) ⊢ |={Set.univ}=> (iprop(⌜∀ c, φ c s.mem⌝ ∗ SI s) : sProp 𝕄) := by
  have h1 : iprop((bigSep Finset.univ Φ) ∗ SI s) ⊢ (⌜∀ c, φ c s.mem⌝ : sProp 𝕄) := by
    refine Entails.trans (forall_intro fun c => ?_) (BI.Laws.pure_forall.2)
    have h2 : bigSep Finset.univ Φ ⊢ Φ c := bigSep_elim (Finset.mem_univ c)
    exact (sep_mono_left h2).trans (h c)
  iintro H
  ihave %hp := h1 $$ H
  icases H with ⟨-, HSI⟩
  imodintro
  isplitr; · ipureintro; exact hp
  iexact HSI

/-- A whole buffer read back. -/
theorem read_buf (s : Phys nD τ sig Val) (ℓ : Loc nD τ sig) (f : Buf Val ℓ) : iprop((ℓ ↦{fullShare} f) ∗ SI s) ⊢ (⌜s.mem.mem ℓ = f⌝ : sProp 𝕄) := by
  iintro ⟨H, HSI⟩
  ihave %h := (SI_pointsTo_agree (st := s) (ℓ := ℓ) (I := Finset.univ) (q := fullShare) (f := f)) $$ [H HSI]
  · isplitl [HSI] <;> iassumption
  ipureintro
  exact funext fun i => h i (Finset.mem_univ i)

end Wire
-- ==== Proof.Pair.lean ====
/-
  The exchange inside a chip (`Pair`): every device copies the halves its sibling core keeps into the sibling's result
  and waits for its own. The run, over any float values.
-/
module

public import proofs.«01_k».proof.Proof.Wire
public import proofs.«01_k».proof.Proof.Gen.PairIdeal.Frame
public import proofs.«01_k».proof.Proof.Gen.PairIdeal.Skeleton

@[expose] public section

noncomputable section

namespace Cert.Proof.Pair

open Cert.PairIdeal Cert.PairIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

set_option Elab.async false

variable {F : FTy → Type} [FloatOps F]

local notation "𝕄" => MT nD τ sig Unit (Elt F) ℕ (Wire.UU nD τ sig) ℕ

/-! ## The protocol -/

/-- The other core of the device's chip, as the kernel addresses it. -/
def sibF (c : Dev nD) : Dev nD := ⟨k0_dev1 c, k0_dev1_lt c⟩
theorem sibF_sibF : ∀ c : Dev nD, sibF (sibF c) = c := by decide
def sib : Equiv.Perm (Dev nD) := ⟨sibF, sibF, sibF_sibF, sibF_sibF⟩

abbrev sndS : DmaSems sig S_ := (cc0_scratch0.slice (Rect.unit (s := S1) ![0] S1.size inb_S1_S1_0)).squeeze S_ squeezes_S1_S_
abbrev rcvS : DmaSems sig S_ := (cc0_scratch1.slice (Rect.unit (s := S1) ![0] S1.size inb_S1_S1_0)).squeeze S_ squeezes_S1_S_
/-- What device `c` sends: the halves of its chunks that are its sibling's. -/
abbrev srcM (c : Dev nD) : Memref sig .tc .hbm S4x960x1024 .f32 :=
  ((Memref.whole main_arg0).slice (Rect.unit (s := S4x2x960x1024) (k0_off1 c) S4x1x960x1024.size (k0_off1_inb c)) (fun _ => rfl)).squeeze S4x960x1024 squeezes_S4x1x960x1024_S4x960x1024
abbrev dstM : Memref sig .tc .hbm S4x960x1024 .f32 := Memref.whole main_v1

/-- Kind 0 is the read-out of the device's own copy, kind 1 the arrival of its sibling's. -/
def plan : Wire.Plan nD sig (Fin 2) where
  sem := ![.dma sndS.sem, .dma rcvS.sem]
  amt _ := dstM.view.dmaCredit
  peer := ![Equiv.refl _, sib]
  away := ![false, true]
  lev := ![0, 1]
  inj := by decide
  pos _ := by decide

theorem ownSems : Pipeline.OwnSemFacts (cfgs 0).spec plan.sem := by decide

variable (m : (ℓ : Loc nD τ sig) → Buf (Elt F) ℓ) (ρ : Dev nD → PrngReg)

/-- What device `c` sends, -/
def sent (c : Dev nD) : S4x960x1024.Idx → Elt F .f32 := (srcM c).view.read (Elt F) (m ((c : Thread nD τ).loc main_arg0))
/-- and what its result ends holding: what its sibling sent. -/
def got (c : Dev nD) : Buf (Elt F) ((c : Thread nD τ).loc main_v1) := sent m (sib c)

theorem landed (c : Dev nD) (fd : Buf (Elt F) ((sib c : Thread nD τ).loc main_v1)) :
    dstM.view.write (Elt F) fd ((srcM c).view.read (Elt F) (m ((c : Thread nD τ).loc main_arg0))) Finset.univ = got m (sib c) := by
  show (View.whole main_v1).write (Elt F) fd (sent m c) Finset.univ = sent m (sib (sib c))
  rw [show sib (sib c) = c from sibF_sibF c]
  exact View.write_whole_univ _ _ _

/-- The payloads: what was read comes back; the result holds what was sent. -/
def pay (c : Dev nD) (k : Fin 2) : sProp 𝕄 := match k with
  | 0 => ((c : Thread nD τ).loc main_arg0) ↦[(srcM c).view.set]{fullShare} m ((c : Thread nD τ).loc main_arg0)
  | 1 => ((c : Thread nD τ).loc main_v1) ↦{fullShare} got m c

instance pay_storable (c : Dev nD) (k : Fin 2) : BI.Storable (upEmb : UEmb _ 𝕄) (pay m c k) := by
  unfold pay
  split <;> infer_instance

/-! ## The proof data -/

/-- What device `c` starts from: the protocol's start, its argument and its sibling's result. -/
def start (c : Dev nD) : sProp 𝕄 :=
  iprop(∃ κ, Wire.hold plan (pay m) κ c Finset.univ Finset.univ ∗ (((c : Thread nD τ).loc main_arg0) ↦{fullShare} m ((c : Thread nD τ).loc main_arg0))
    ∗ (((sib c : Thread nD τ).loc main_v1) ↦{fullShare} m ((sib c : Thread nD τ).loc main_v1)))
/-- What it ends with: its argument as it was and its result. -/
def kept (c : Dev nD) : sProp 𝕄 :=
  iprop((((c : Thread nD τ).loc main_arg0) ↦{fullShare} m ((c : Thread nD τ).loc main_arg0)) ∗ (((c : Thread nD τ).loc main_v1) ↦{fullShare} got m c))

def dats (_ : Fin 1) (c : Dev nD) : Dat τ (Elt F) Unit ℕ (Wire.UU nD τ sig) ℕ cfg0 c where
  A w := w.elim0
  after w := w.elim0
  Φ t := match t with
    | ⟨0, _⟩ => start m c
    | ⟨_ + 1, _⟩ => iprop(kept m c ∗ Pipeline.ownSems0 plan.sem c)
  q w := w.elim0
  owed t := match t with
    | ⟨0, _⟩ => Wire.owe plan c Finset.univ
    | ⟨_ + 1, _⟩ => 0

abbrev 𝒱₀ : Variants := Variants.none

/-! ## The body -/

theorem pay_zero (c : Dev nD) : pay m c 0 = (((c : Thread nD τ).loc main_arg0) ↦[(srcM c).view.set]{fullShare} m ((c : Thread nD τ).loc main_arg0)) := rfl
theorem pay_one (c : Dev nD) : pay m c 1 = (((c : Thread nD τ).loc main_v1) ↦{fullShare} got m c) := rfl
theorem dst_set : dstM.view.set = Finset.univ := View.set_whole _

/-- The source comes back as it went, -/
theorem hback (c : Dev nD) : (((c : Thread nD τ).loc main_arg0 ↦[(srcM c).view.set]{fullShare} m ((c : Thread nD τ).loc main_arg0) : sProp 𝕄)) ⊢ pay m c 0 :=
  Entails.of_eq (pay_zero m c).symm

/-- and the sibling's result comes to hold what was sent. -/
theorem hthere (c : Dev nD) : (((sib c : Thread nD τ).loc main_v1 ↦[dstM.view.set]{fullShare}
      dstM.view.write (Elt F) (m ((sib c : Thread nD τ).loc main_v1)) ((srcM c).view.read (Elt F) (m ((c : Thread nD τ).loc main_arg0))) Finset.univ : sProp 𝕄))
    ⊢ pay m (sib c) 1 := by
  rw [landed, dst_set]
  exact Entails.of_eq (pay_one m (sib c)).symm

theorem open_dst (c : Dev nD) : (((sib c : Thread nD τ).loc main_v1) ↦{fullShare} m ((sib c : Thread nD τ).loc main_v1) : sProp 𝕄)
    ⊢ ((sib c : Thread nD τ).loc main_v1) ↦[dstM.view.set]{fullShare} m ((sib c : Thread nD τ).loc main_v1) := by
  rw [dst_set]

theorem route (c : Dev nD) : τ.routes (c : Thread nD τ) ((plan.peer 1 c : Dev nD) : Thread nD τ) = true := by
  revert c; decide

set_option maxHeartbeats 800000 in
theorem sound_body (κ : Dev nD × Fin 2 → ℕ) (c : Dev nD) (Kt : PUnit → sProp 𝕄) :
    iprop((Wire.hold plan (pay m) κ c Finset.univ Finset.univ ∗ Wire.debt plan c Finset.univ
        ∗ (((c : Thread nD τ).loc main_arg0) ↦{fullShare} m ((c : Thread nD τ).loc main_arg0))
        ∗ (((sib c : Thread nD τ).loc main_v1) ↦{fullShare} m ((sib c : Thread nD τ).loc main_v1)))
      ∗ ((kept m c ∗ Pipeline.ownSems0 plan.sem c ∗ ∃ Ws : Waits sig Unit, owes (c : Thread nD τ) 0 Ws) -∗ Kt ⟨⟩))
      ⊢ wp frame (wpE (defs₀ (F := F)) 𝒱₀ (c : Thread nD τ) none) Set.univ
          (cc0_w_in_grad_pair_exchange (Memref.whole main_arg0) (Memref.isWhole_whole _) (Memref.whole main_v1) (Memref.isWhole_whole _)
            cc0_scratch0 cc0_scratch1) Kt := by
  simp only [cc0_w_in_grad_pair_exchange_eq_skeleton]; unfold cc0_w_in_grad_pair_exchange_skel
  simp only [k0_part1_eq_skeleton]; unfold k0_part1_skel
  simp only [Prog.lift, Prog.bind_op, Prog.bind_ret, Prog.pure_eq_ret, wp_deviceId]
  have hsplit := (pointsTo_split_subset (nD := nD) (τ := τ) (sig := sig) (Val := Elt F) (Ix := Unit) (Name := ℕ) (U := Wire.UU nD τ sig) (Lvl := ℕ)
    (ℓ := (c : Thread nD τ).loc main_arg0) (q := fullShare) (f := m ((c : Thread nD τ).loc main_arg0)) (Finset.subset_univ (srcM c).view.set))
  iintro ⟨⟨Hh, Hd, Ha, Hb⟩, Hk⟩
  ihave Ha' := hsplit.1 $$ Ha
  icases Ha' with ⟨Hs, Hrest⟩
  ihave Hb := (open_dst m c) $$ Hb
  iapply (Wire.hold_send plan (pay m) κ c (defs₀ (F := F)) 𝒱₀ (src := srcM c) (dst := dstM) 0 1 (P := Finset.univ) (W := Finset.univ)
    (fd := m ((sib c : Thread nD τ).loc main_v1)) (fs := m ((c : Thread nD τ).loc main_arg0)) (q := fullShare)
    rfl rfl rfl rfl rfl rfl (Finset.mem_univ _) (Finset.mem_univ _) (Finset.mem_univ _) rfl rfl
    (hback m c) (hthere m c) (route c)) $$ [Hh Hd Hs Hb]
  · isplitl [Hh]; · iexact Hh
    isplitl [Hd]; · iexact Hd
    isplitl [Hs]; · iexact Hs
    iexact Hb
  iintro ⟨Hh, Hd⟩
  iapply (Wire.hold_wait plan (pay m) κ c (defs₀ (F := F)) 𝒱₀ (P := (Finset.univ.erase 0).erase 1) (W := Finset.univ) 0 rfl (Finset.mem_univ _) (Or.inr (by decide)) rfl (by decide)) $$ [Hh Hd]
  · isplitl [Hh] <;> iassumption
  iintro ⟨Hh, Hd, Hs⟩
  ihave Hs := (Entails.of_eq (pay_zero m c)) $$ Hs
  iapply (Wire.hold_wait plan (pay m) κ c (defs₀ (F := F)) 𝒱₀ (P := (Finset.univ.erase 0).erase 1) (W := Finset.univ.erase 0) 1 rfl (by decide) (Or.inl rfl) rfl (by decide)) $$ [Hh Hd]
  · isplitl [Hh] <;> iassumption
  iintro ⟨Hh, Hd, Hb⟩
  ihave Hb := (Entails.of_eq (pay_one m c)) $$ Hb
  rw [show ((Finset.univ : Finset (Fin 2)).erase 0).erase 1 = ∅ from by decide]
  rw [wp_ret]
  imodintro
  iapply Hk
  isplitl [Hs Hrest Hb]
  · unfold kept
    isplitl [Hs Hrest]
    · iapply hsplit.2
      isplitl [Hs]
      · iexact Hs
      iexact Hrest
    iexact Hb
  isplitl [Hh]; · iapply (Wire.hold_done plan (pay m) κ c); iexact Hh
  iapply (Wire.debt_done plan c); iexact Hd

theorem body_obligation (c : Dev nD) : BodyObligation (dats m 0 c) (defs₀ (F := F)) 𝒱₀ () Set.univ := fun t => by
  have h0 (Φ : Fin cfg0.W → sProp 𝕄) : bigSep Finset.univ Φ = iprop(emp) := by
    rw [show (Finset.univ : Finset (Fin cfg0.W)) = ∅ from by decide, bigSep_empty]; rfl
  rw [fin_N0 t, h0, h0]
  show iprop(start m c ∗ (dats m 0 c).owesAt () t0_0.castSucc ∗ emp) ⊢ wp frame (wpE (defs₀ (F := F)) 𝒱₀ (c : Thread nD τ) none) Set.univ
    (cc0_w_in_grad_pair_exchange (Memref.whole main_arg0) (Memref.isWhole_whole _) (Memref.whole main_v1) (Memref.isWhole_whole _)
      cc0_scratch0 cc0_scratch1) (fun _ => iprop((kept m c ∗ Pipeline.ownSems0 plan.sem c) ∗ (dats m 0 c).owesAt () t0_0.succ ∗ emp))
  unfold Dat.owesAt Pipeline.owesWithin start
  rw [show (dats m 0 c).owed t0_0.castSucc = Wire.owe plan c Finset.univ from rfl, show (dats m 0 c).owed t0_0.succ = 0 from rfl]
  iintro ⟨⟨%κ, Hh, Ha, Hb⟩, ⟨%Ws, -, HO⟩, -⟩
  iapply (sound_body m κ c)
  isplitl [Hh Ha Hb HO]
  · isplitl [Hh]; · iexact Hh
    isplitl [HO]; · unfold Wire.debt; iexists Ws; iexact HO
    isplitl [Ha] <;> iassumption
  iintro ⟨HK, Hos, ⟨%Ws', HO⟩⟩
  isplitl [HK Hos]
  · isplitl [HK] <;> iassumption
  isplitl [HO]
  · iexists Ws'
    isplitr; · ipureintro; exact fun _ _ => Or.inl trivial
    iexact HO
  iempintro

/-! ## The run -/

/-- The arrays, each result to the device that writes it. -/
theorem hand (κ : Dev nD × Fin 2 → ℕ) :
    iprop((bigSep Finset.univ fun c : Dev nD => Wire.hold plan (pay m) κ c Finset.univ Finset.univ)
        ∗ bigSep Finset.univ fun c : Dev nD => Pipeline.unscopedRest (cfgs 0).spec c (fun b => m ((c.tc : Thread nD τ).loc b)))
      ⊢ bigSep Finset.univ fun c : Dev nD => iprop(start m c ∗ emp) := by
  have hr (c : Dev nD) := unscopedRest0_eq (Ix := Unit) (Val := Elt F) (Name := ℕ) (U := Wire.UU nD τ sig) (Lvl := ℕ) c (fun b => m ((c.tc : Thread nD τ).loc b))
  have hs (c : Dev nD) (_ : c ∈ (Finset.univ : Finset (Dev nD))) : (iprop(Wire.hold plan (pay m) κ c Finset.univ Finset.univ ∗ (((c : Thread nD τ).loc main_arg0) ↦{fullShare} m ((c : Thread nD τ).loc main_arg0))
      ∗ (((sib c : Thread nD τ).loc main_v1) ↦{fullShare} m ((sib c : Thread nD τ).loc main_v1))) : sProp 𝕄) ⊢ iprop(start m c ∗ emp) := by
    unfold start
    iintro H
    isplitl; · iexists κ; iexact H
    iempintro
  have hmove := bigSep_univ_equiv sib (fun c : Dev nD => (((c : Thread nD τ).loc main_v1) ↦{fullShare} m ((c : Thread nD τ).loc main_v1) : sProp 𝕄))
  apply BI.Entails.trans ?_ (bigSep_mono hs)
  rw [bigSep_congr fun (c : Dev nD) _ => hr c]
  simp only [bigSep_sep']
  rw [← hmove]
  exact BI.Entails.refl _

/-- Every run ends, every device's result holding what its sibling sent, its argument as it was, all counters at zero. -/
theorem run_main : θ_run defs (onTc (τ := τ) (main (F := F))) ⟨m, fun _ => 0, ρ⟩
    (fun r => (∀ c : Dev nD, r.2.mem ((c : Thread nD τ).loc main_v1) = got m c ∧ r.2.mem ((c : Thread nD τ).loc main_arg0) = m ((c : Thread nD τ).loc main_arg0))
      ∧ r.2.sem = fun _ => 0) :=
  Deal.θ_run_dealt cfgs () cellOf_inj (0 : Fin 1) Wire.EP defs₀ 𝒱₀ (dats m) winFacts0 ownSems m ρ main
    (hmain := fun _ => rfl)
    (hbody := fun c => (body_obligation m c).loose)
    (hne := block_pos0) (harr := arr_whole0) (hstage := stage_whole0) (hshare := fun _ w => w.elim0)
    (O₀ := fun c => Wire.owe plan c Finset.univ) (howed₀ := fun _ => rfl) (howedN := fun _ => rfl)
    (L := Wire.L) (lv := Wire.lv plan) (hL := Wire.L_of_ne)
    (hwaits := fun c => Pipeline.PerCore.cellsWaits_intro _ (dats m) () 0 c fun w => w.elim0)
    (G := fun c => Wire.G plan (pay m) c cfgs 0 ownSems) (u₀ := (_, Wire.seed plan cfgs 0 ownSems))
    (hu₀ := Wire.fund plan (pay m) cfgs 0 ownSems _)
    (hA := fun _ w => w.elim0)
    (X := start m) (Y := kept m) (Z := fun _ => iprop(emp))
    (hdeal := by
      iintro H
      imod (Wire.deal_brings plan (pay m) cfgs 0 ownSems m ρ) $$ H with ⟨%κ, H⟩
      imodintro
      iapply (hand m κ); iexact H)
    (hin := fun c => by
      show iprop(start m c ∗ _) ⊢ start m c
      iintro ⟨H, -⟩
      iexact H)
    (hout := fun c => by
      rw [scopedRest0_eq]
      show iprop(kept m c ∗ Pipeline.ownSems0 plan.sem c) ⊢ _
      iintro ⟨H, Hs⟩
      isplitl [H]; · iexact H
      isplitl [Hs]; · iexact Hs
      iempintro)
    (QY := fun c s => s.mem ((c : Thread nD τ).loc main_v1) = got m c ∧ s.mem ((c : Thread nD τ).loc main_arg0) = m ((c : Thread nD τ).loc main_arg0))
    (hY := fun s => Wire.read_all (φ := fun c s => s.mem ((c : Thread nD τ).loc main_v1) = got m c ∧ s.mem ((c : Thread nD τ).loc main_arg0) = m ((c : Thread nD τ).loc main_arg0)) s fun c => by
      unfold kept
      iintro ⟨⟨⟨Ha, Hb⟩, -⟩, HSI⟩
      ihave %h1 := (Wire.read_buf s ((c : Thread nD τ).loc main_v1) (got m c)) $$ [Hb HSI]
      · isplitl [Hb] <;> iassumption
      ihave %h2 := (Wire.read_buf s ((c : Thread nD τ).loc main_arg0) (m ((c : Thread nD τ).loc main_arg0))) $$ [Ha HSI]
      · isplitl [Ha] <;> iassumption
      ipureintro
      exact ⟨h1, h2⟩)
    (hQ := fun _ h hs => ⟨fun c => (h c).2, sem_eq_zero_of_scoped (by decide) hs⟩)

end Cert.Proof.Pair
-- ==== Proof.Halves.lean ====
/-
  Halves traded inside a chip, read at an index: of an array of 32 rows of chunks in two halves of `n` rows each, four
  chips of two cores of four rows, the reference takes at each core the half of its own number from the other core's rows.
-/
module

public import Idealize.ShloMosaic.Lib.Pipeline.Value
public import Idealize.ShloMosaic.Lib.ValueIdxRank6
public import Idealize.ShloMosaic.Lib.Layout

@[expose] public section

noncomputable section

namespace Cert.Proof.Halves

open Idealize.ShloMosaic Idealize.ShloMosaic.ValueIdx

set_option Elab.async false

variable {n : ℕ} {α : Type}

/-- All rows, in halves; by chip, core and chunk; the halves chosen, as they are cut, by chip and with their core. -/
abbrev Rows (n : ℕ) : Shape := ⟨4, ![32, 2, n, 1024]⟩
abbrev Split (n : ℕ) : Shape := ⟨6, ![4, 2, 4, 2, n, 1024]⟩
abbrev Cut (n : ℕ) : Shape := ⟨6, ![4, 1, 4, 1, n, 1024]⟩
abbrev Chosen (n : ℕ) : Shape := ⟨4, ![4, 4, n, 1024]⟩
abbrev One (n : ℕ) : Shape := ⟨5, ![4, 1, 4, n, 1024]⟩
abbrev Both (n : ℕ) : Shape := ⟨5, ![4, 2, 4, n, 1024]⟩
abbrev Out (n : ℕ) : Shape := ⟨3, ![32, n, 1024]⟩

/-- What the shapes of the reference's operations are to be to each other. -/
structure Fits (n : ℕ) : Prop where
  split : (Rows n).ShapeCasts (Split n)
  low : (Split n).Slices ![0, 1, 0, 0, 0, 0] (Cut n)
  high : (Split n).Slices ![0, 0, 0, 1, 0, 0] (Cut n)
  drop : (Cut n).ShapeCasts (Chosen n)
  lift : (Chosen n).BroadcastsInDim (One n) (![0, 2, 3, 4] : Fin 4 → Fin (One n).rank)
  join : Shape.Concatenates [One n, One n] (Both n) 1
  out : (Both n).ShapeCasts (Out n)

/-- The halves `half` of the rows of core `core`, chip by chip. -/
def halves (f : Fits n) (core half : ℕ) (h : (Split n).Slices ![0, core, 0, half, 0, 0] (Cut n)) (x : (Rows n).Idx → α) : (One n).Idx → α :=
  broadcastInDim (One n) ![0, 2, 3, 4] f.lift
    (shapeCast _ (extractStridedSlice (Cut n) ![0, core, 0, half, 0, 0] (shapeCast _ x f.split) h) f.drop)

/-- The reference as its operations compose. -/
def whole (f : Fits n) (x : (Rows n).Idx → α) : (Out n).Idx → α :=
  shapeCast _ (concatenate (Both n) 1 [⟨One n, halves f 1 0 f.low x⟩, ⟨One n, halves f 0 1 f.high x⟩] f.join) f.out

theorem halves_apply (f : Fits n) (core half : Fin 2) (h) (x : (Rows n).Idx → α) (p : Fin 4) (k : Fin 4) (a : Fin n) (b : Fin 1024) (r : Fin 32)
    (hr : r.val = 8 * p.val + 4 * core.val + k.val) :
    halves f core.val half.val h x (ix5 p (0 : Fin 1) k a b) = x (ix4 r half a b) := by
  unfold halves
  rw [broadcastInDim_apply _ _ _ _ (ix4 p k a b) (fun | 0 => rfl | 1 => rfl | 2 => by show a.val = if n = 1 then 0 else a.val; split <;> omega | 3 => rfl)]
  rw [shapeCast_apply _ _ _ (ix6 p (0 : Fin 1) k (0 : Fin 1) a b) (by
    rw [Shape.rowMajor_val_six, Shape.rowMajor_val_four]
    show ((((p.val * 1 + 0) * 4 + k.val) * 1 + 0) * n + a.val) * 1024 + b.val = ((p.val * 4 + k.val) * n + a.val) * 1024 + b.val
    rw [show ((p.val * 1 + 0) * 4 + k.val) * 1 + 0 = p.val * 4 + k.val by omega])]
  rw [extractStridedSlice_apply _ _ _ _ (ix6 p core k half a b) (fun
    | 0 => (Nat.zero_add _).symm | 1 => rfl | 2 => (Nat.zero_add _).symm | 3 => rfl | 4 => (Nat.zero_add _).symm | 5 => (Nat.zero_add _).symm)]
  exact shapeCast_apply _ _ _ (ix4 r half a b) (by
    rw [Shape.rowMajor_val_six, Shape.rowMajor_val_four]
    show ((r.val * 2 + half.val) * n + a.val) * 1024 + b.val = ((((p.val * 2 + core.val) * 4 + k.val) * 2 + half.val) * n + a.val) * 1024 + b.val
    rw [show r.val = (p.val * 2 + core.val) * 4 + k.val by omega])

/-- Row `r` of the reference is a half of the row of the core beside it. -/
theorem whole_apply (f : Fits n) (x : (Rows n).Idx → α) (p : Fin 4) (c : Fin 2) (k : Fin 4) (a : Fin n) (b : Fin 1024) (r r' : Fin 32)
    (hr : r.val = 8 * p.val + 4 * c.val + k.val) (hr' : r'.val = 8 * p.val + 4 * (1 - c.val) + k.val) :
    whole f x (ix3 r a b) = x (ix4 r' c a b) := by
  unfold whole
  rw [shapeCast_apply _ _ _ (ix5 p c k a b) (by
    rw [Shape.rowMajor_val_five, Shape.rowMajor_val_three]
    show (((p.val * 2 + c.val) * 4 + k.val) * n + a.val) * 1024 + b.val = (r.val * n + a.val) * 1024 + b.val
    rw [show r.val = (p.val * 2 + c.val) * 4 + k.val by omega])]
  match c with
  | 0 =>
    refine (concatenate_pair_apply_left (t := Both n) (s₁ := One n) (s₂ := One n) 1 _ _ _ _ rfl (ix5 p (0 : Fin 1) k a b)
      (fun | 0 => rfl | 1 => rfl | 2 => rfl | 3 => rfl | 4 => rfl)).trans ?_
    exact halves_apply f 1 0 _ x p k a b r' hr'
  | 1 =>
    refine (concatenate_pair_apply_right (t := Both n) (s₁ := One n) (s₂ := One n) 1 _ _ _ _ rfl rfl (ix5 p (0 : Fin 1) k a b)
      (fun | 0 => fun _ => rfl | 1 => fun h => absurd rfl h | 2 => fun _ => rfl | 3 => fun _ => rfl | 4 => fun _ => rfl) rfl).trans ?_
    exact halves_apply f 0 1 _ x p k a b r' hr'

/-- What each of eight devices receives is its block of the reference's result, if of every row of its sibling's block it
    is the half of its core's number. -/
theorem block (f : Fits n) (x : (Rows n).Idx → α) (c s : Fin 8) (hs : s.val = 2 * (c.val / 2) + (1 - c.val % 2))
    {T : Layout.Tiles ⟨4, ![4, 2, n, 1024]⟩ (Rows n) 0 8} {T' : Layout.Tiles ⟨3, ![4, n, 1024]⟩ (Out n) 0 8} (got : (⟨3, ![4, n, 1024]⟩ : Shape).Idx → α)
    (h : ∀ k a b, got (ix3 k a b) = Layout.block ⟨4, ![4, 2, n, 1024]⟩ (Rows n) 0 8 s x T (ix4 k (⟨c.val % 2, by omega⟩ : Fin 2) a b)) :
    got = Layout.block ⟨3, ![4, n, 1024]⟩ (Out n) 0 8 c (whole f x) T' := by
  suffices H : ∀ (k : Fin 4) (a : Fin n) (b : Fin 1024), got (ix3 k a b) = Layout.block ⟨3, ![4, n, 1024]⟩ (Out n) 0 8 c (whole f x) T' (ix3 k a b) from
    funext fun i => by
      rw [eq_ix3 i]
      exact H (i 0) (i 1) (i 2)
  intro k a b
  have hc8 := c.isLt
  have hk := k.isLt
  rw [h, Layout.block_apply, Layout.block_apply]
  have hw := whole_apply f x ⟨c.val / 2, by omega⟩ ⟨c.val % 2, by omega⟩ k a b ⟨c.val * 4 + k.val, by omega⟩ ⟨s.val * 4 + k.val, by omega⟩
    (by show c.val * 4 + k.val = 8 * (c.val / 2) + 4 * (c.val % 2) + k.val; omega)
    (by show s.val * 4 + k.val = 8 * (c.val / 2) + 4 * (1 - c.val % 2) + k.val; omega)
  exact ((congrArg (whole f x) (funext fun d => Fin.ext (by rw [Layout.Tiles.idx_val]; match d with | 0 => rfl | 1 => rfl | 2 => rfl))).trans hw |>.trans
    (congrArg x (funext fun d => Fin.ext (by rw [Layout.Tiles.idx_val]; match d with | 0 => rfl | 1 => rfl | 2 => rfl | 3 => rfl)))).symm

end Cert.Proof.Halves

end
-- ==== Proof.PairValue.lean ====
/-
  The values of the exchange inside a chip: each device's result is its block of the reference's, over any float values.
-/
module

public import proofs.«01_k».proof.Proof.Pair
public import proofs.«01_k».proof.Proof.Gen.PairRefIdeal.Run
public import proofs.«01_k».proof.Proof.Halves

@[expose] public section

noncomputable section

namespace Cert.Proof.Pair

open Cert.PairRefIdeal Cert.PairRefIdeal.Gen
open Idealize.ShloMosaic Idealize.ShloMosaic.TcCoe Idealize.ShloMosaic.ValueIdx

set_option Elab.async false

variable {F : FTy → Type} [FloatOps F] {α : Type}

theorem fits : Halves.Fits 960 :=
  ⟨shapeCasts_S32x2x960x1024_S4x2x4x2x960x1024, slices_S4x2x4x2x960x1024_S4x1x4x1x960x1024_0_1_0_0_0_0,
    slices_S4x2x4x2x960x1024_S4x1x4x1x960x1024_0_0_0_1_0_0, shapeCasts_S4x1x4x1x960x1024_S4x4x960x1024,
    bcast_S4x4x960x1024_S4x1x4x960x1024_0_2_3_4, concatenates_S4x1x4x960x1024_S4x1x4x960x1024_S4x2x4x960x1024_d1,
    shapeCasts_S4x2x4x960x1024_S32x960x1024⟩

/-- The reference as its operations compose. -/
abbrev whole (x : S32x2x960x1024.Idx → α) : S32x960x1024.Idx → α := Halves.whole fits x

/-! ## The kernel's result as a block of it -/

open Cert.PairIdeal Cert.PairIdeal.Gen in
theorem off_sib : ∀ c : Dev Cert.PairIdeal.nD, Cert.PairIdeal.k0_off1 (sibF c) = ![0, c.val % 2, 0, 0] := by decide
theorem sib_val : ∀ c : Dev Cert.PairIdeal.nD, (sibF c).val = 2 * (c.val / 2) + (1 - c.val % 2) := by decide

theorem got_apply (m : (ℓ : Loc Cert.PairIdeal.nD Cert.PairIdeal.τ Cert.PairIdeal.sig) → Buf (Elt F) ℓ) (c : Dev Cert.PairIdeal.nD) (core : Fin 2) (hc : core.val = c.val % 2)
    (k : Fin 4) (a : Fin 960) (b : Fin 1024) :
    got m c (ix3 k a b) = m ((sibF c).tc.loc Cert.PairIdeal.main_arg0) (ix4 k core a b) := by
  show (srcM (sibF c)).view.read (Elt F) (m ((sibF c).tc.loc Cert.PairIdeal.main_arg0)) (ix3 k a b) = _
  rw [Memref.read_squeeze_slice (Memref.whole Cert.PairIdeal.main_arg0) _ _ _ (show Cert.PairIdeal.S4x1x960x1024.ShapeCasts Cert.PairIdeal.S4x960x1024 by decide)]
  refine (shapeCast_apply (s := Cert.PairIdeal.S4x1x960x1024) (t := Cert.PairIdeal.S4x960x1024) _ _ _ (ix4 k (0 : Fin 1) a b) (by
    rw [Shape.rowMajor_val_four, Shape.rowMajor_val_three]
    show ((k.val * 1 + 0) * 960 + a.val) * 1024 + b.val = (k.val * 960 + a.val) * 1024 + b.val
    omega)).trans ?_
  refine congrArg (m ((sibF c).tc.loc Cert.PairIdeal.main_arg0)) (funext fun d => Fin.ext ?_)
  have H : ∀ d : Fin 4, (![0, c.val % 2, 0, 0] : Fin 4 → ℕ) d + 1 * (ix4 k (0 : Fin 1) a b d).val = (ix4 k core a b d).val := fun
    | 0 => by show 0 + 1 * k.val = k.val; omega
    | 1 => by show c.val % 2 + 1 * 0 = core.val; omega
    | 2 => by show 0 + 1 * a.val = a.val; omega
    | 3 => by show 0 + 1 * b.val = b.val; omega
  exact (congrArg (· + 1 * (ix4 k (0 : Fin 1) a b d).val) (congrFun (off_sib c) d)).trans (H d)

theorem got_block (m : (ℓ : Loc Cert.PairIdeal.nD Cert.PairIdeal.τ Cert.PairIdeal.sig) → Buf (Elt F) ℓ) (x : S32x2x960x1024.Idx → Elt F .f32)
    (h : ∀ c : Dev Cert.PairIdeal.nD, m (c.tc.loc Cert.PairIdeal.main_arg0) = Layout.block ⟨4, ![4, 2, 960, 1024]⟩ ⟨4, ![32, 2, 960, 1024]⟩ 0 8 c x)
    (c : Dev Cert.PairIdeal.nD) : got m c = Layout.block ⟨3, ![4, 960, 1024]⟩ ⟨3, ![32, 960, 1024]⟩ 0 8 c (whole x) := by
  refine Halves.block fits x c (sibF c) (sib_val c) (T := by decide) (got m c) fun k a b => ?_
  rw [got_apply m c ⟨c.val % 2, by omega⟩ rfl k a b, h (sibF c)]

end Cert.Proof.Pair
-- ==== Proof.PairClaims.lean ====
/-
  The claims about the exchange inside a chip, from its run and its values.
-/
module

public import proofs.«01_k».proof.Defs
public import proofs.«01_k».proof.Proof.PairValue
public import proofs.«01_k».proof.Proof.Gen.Pair
public import proofs.«01_k».proof.Proof.Gen.PairRef
public import Idealize.ShloMosaic.Adequacy
public import Idealize.ShloMosaic.Init

@[expose] public section

noncomputable section

namespace Cert.Proof.Pair

open Idealize.ShloMosaic Idealize.ShloMosaic.TcCoe Idealize.SL.Sem

theorem frame : Cert.quiescent_Pair := fun m ρ _ =>
  (θ_run Cert.PairIdeal.defs _ _).mono (fun _ h => ⟨fun c => (h.1 c).2, h.2⟩) (run_main (F := Bits) m ρ)

theorem frame_ideal : Cert.quiescent_PairIdeal := fun m ρ _ =>
  (θ_run Cert.PairIdeal.defs _ _).mono (fun _ h => ⟨fun c => (h.1 c).2, h.2⟩) (run_main (F := Ideal) m ρ)

theorem frame_ref_ideal : Cert.quiescent_PairRefIdeal := fun m ρ _ =>
  (θ_run Cert.PairRefIdeal.defs _ _).mono (fun r h => ⟨fun c => (h c).2, sem_eq_zero_of_no_sems (by decide) r.2⟩)
    (Cert.PairRefIdeal.Value.run (F := Ideal) m ρ)

theorem frame_ref : Cert.quiescent_PairRef := fun m ρ _ =>
  (θ_run Cert.PairRefIdeal.defs _ _).mono (fun r h => ⟨fun c => (h c).2, sem_eq_zero_of_no_sems (by decide) r.2⟩)
    (Cert.PairRefIdeal.Value.run (F := Bits) m ρ)

section
variable {F : FTy → Type} [FloatOps F]
open Cert.PairIdeal

/-- Each device's result is its block of the reference's result on the whole array. -/
theorem run_block (m : (ℓ : Loc nD τ sig) → Buf (Elt F) ℓ) (ρ : Dev nD → PrngReg) (x : Cert.PairRefIdeal.S32x2x960x1024.Idx → Elt F .f32)
    (h : ∀ c : Dev nD, m ((c.tc : Thread nD τ).loc main_arg0) = Layout.block ⟨4, ![4, 2, 960, 1024]⟩ ⟨4, ![32, 2, 960, 1024]⟩ 0 8 c x) :
    θ_run (defs (F := F)) (onTc (τ := τ) (main (F := F))) ⟨m, fun _ => 0, ρ⟩ fun r => ∀ c : Dev nD,
      r.2.mem ((c.tc : Thread nD τ).loc main_v1) = Layout.block ⟨3, ![4, 960, 1024]⟩ ⟨3, ![32, 960, 1024]⟩ 0 8 c (whole x)
      ∧ r.2.mem ((c.tc : Thread nD τ).loc main_arg0) = m ((c.tc : Thread nD τ).loc main_arg0) :=
  (θ_run defs _ _).mono (fun _ hr c => ⟨(hr.1 c).1.trans (got_block m x h c), (hr.1 c).2⟩) (run_main m ρ)
end

theorem ref_whole {F : FTy → Type} [FloatOps F] (m : (ℓ : Loc Cert.PairRefIdeal.nD Cert.PairRefIdeal.τ Cert.PairRefIdeal.sig) → Buf (Elt F) ℓ) (ρ : Dev Cert.PairRefIdeal.nD → PrngReg) :
    θ_run (Cert.PairRefIdeal.defs (F := F)) (onTc (τ := Cert.PairRefIdeal.τ) (Cert.PairRefIdeal.main (F := F))) ⟨m, fun _ => 0, ρ⟩ fun r =>
      r.2.mem (((0 : Dev Cert.PairRefIdeal.nD).tc : Thread Cert.PairRefIdeal.nD Cert.PairRefIdeal.τ).loc Cert.PairRefIdeal.main_v8)
        = whole (m (((0 : Dev Cert.PairRefIdeal.nD).tc : Thread Cert.PairRefIdeal.nD Cert.PairRefIdeal.τ).loc Cert.PairRefIdeal.main_arg0))
      ∧ r.2.mem (((0 : Dev Cert.PairRefIdeal.nD).tc : Thread Cert.PairRefIdeal.nD Cert.PairRefIdeal.τ).loc Cert.PairRefIdeal.main_arg0)
        = m (((0 : Dev Cert.PairRefIdeal.nD).tc : Thread Cert.PairRefIdeal.nD Cert.PairRefIdeal.τ).loc Cert.PairRefIdeal.main_arg0) :=
  (θ_run Cert.PairRefIdeal.defs _ _).mono (fun _ h => h 0) (Cert.PairRefIdeal.Value.run m ρ)

theorem algebraic : Cert.algebraic_PairIdeal_PairRefIdeal := fun m g m' g' _ h =>
  ⟨_, run_block m g _ h, ref_whole m' g'⟩

theorem bitexact : Cert.bitexact_Pair_PairRef := fun m g m' g' _ h =>
  ⟨_, run_block (F := Bits) m g _ h, ref_whole (F := Bits) m' g'⟩

end Cert.Proof.Pair

end
-- ==== Proof.Own.lean ====
/-
  Steps on a memref owned at contents: loads, a store over the whole of it, a condition inside a program; and a buffer's
  elements rewritten through a view.
-/
module

public import Idealize.ShloMosaic.Lib.Memref
public import Idealize.ShloMosaic.Lib.Tactic

@[expose] public section

noncomputable section

namespace Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {nD : Nat} {τ : Topo} {sig : RefSig} {Val : EltTy → Type} {Ix : Type} [DecidableEq Ix] {Name : Type} [DecidableEq Name] [Infinite Name]
  {U : Type} [URA U] {Lvl : Type} [Preorder Lvl] {Λ : Idealize.SL.Sem.Labels}

local notation "𝕄" => MT nD τ sig Ix Val Name U Lvl

variable (defs : Defs nD τ sig Val Λ) (𝒱 : Variants) (c : Thread nD τ)

/-- The index of a rectangle that starts at the origin. -/
theorem idx_zero {s : Shape} {off : Fin s.rank → Nat} (h : ∀ a, off a = 0) (inb : ∀ a, off a + s.size a ≤ s.size a) (x : s.Idx) :
    (Rect.unit (s := s) off s.size inb).toLoadRect.idx x = x :=
  funext fun a => Fin.ext (by
    show off a + 1 * (x a).val = (x a).val
    rw [h a]; omega)

section Steps

variable {cs : CoreSpace} {s : Shape} {e : EltTy} {α : Type}

/-- A load reads the owned contents at its rectangle. -/
theorem load {m : Memref sig c.2.kind cs s e} {r : LoadRect s} {hl : m.view.LoadsAt r} {q : PosShare TreeShare} {X : s.Idx → Val e}
    {k : (r.shape.Idx → Val e) → Prog (TpuEff nD τ sig Val Λ c.2) α} {Q : α → sProp 𝕄} :
    (owns c m q X : sProp 𝕄)
      ⊢ iprop((owns c m q X -∗ wp frame (wpE defs 𝒱 c none) Set.univ (k fun x => X (r.idx x)) Q)
          -∗ wp frame (wpE defs 𝒱 c none) Set.univ (.op (.load m r hl) k) Q) := by
  iintro H Hk
  unfold owns
  icases H with ⟨%f, %hf, H⟩
  subst hf
  iapply (wp_load 𝒱 c none Set.univ (m := m) (r := r) (f := f) (q := q) (m.view.setOn_subset_set r.set)) $$ H
  iintro H
  iapply Hk
  iexists f
  isplitr; · ipureintro; rfl
  iexact H

/-- A load of all of it reads all of it. -/
theorem load_whole {m : Memref sig c.2.kind cs s e} {off : Fin s.rank → Nat} {inb : ∀ a, off a + s.size a ≤ s.size a}
    {hl : m.view.LoadsAt (Rect.unit (s := s) off s.size inb).toLoadRect} {q : PosShare TreeShare} {X : s.Idx → Val e}
    {k : (s.Idx → Val e) → Prog (TpuEff nD τ sig Val Λ c.2) α} {Q : α → sProp 𝕄} (h : ∀ a, off a = 0) :
    (owns c m q X : sProp 𝕄)
      ⊢ iprop((owns c m q X -∗ wp frame (wpE defs 𝒱 c none) Set.univ (k X) Q)
          -∗ wp frame (wpE defs 𝒱 c none) Set.univ (.op (.load m (Rect.unit (s := s) off s.size inb).toLoadRect hl) k) Q) := by
  have hx : (fun x => X ((Rect.unit (s := s) off s.size inb).toLoadRect.idx x)) = X := funext fun x => congrArg X (idx_zero h inb x)
  have := load (Ix := Ix) (Name := Name) (U := U) (Lvl := Lvl) defs 𝒱 c (m := m) (r := (Rect.unit (s := s) off s.size inb).toLoadRect) (hl := hl) (q := q) (X := X) (k := k) (Q := Q)
  rw [hx] at this
  exact this

/-- A store over all of it leaves what was stored. -/
theorem store_whole {m : Memref sig c.2.kind cs s e} {off : Fin s.rank → Nat} {inb : ∀ a, off a + s.size a ≤ s.size a} {w : s.Idx → Val e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {X : s.Idx → Val e} {k : PUnit → Prog (TpuEff nD τ sig Val Λ c.2) α} {Q : α → sProp 𝕄} (h : ∀ a, off a = 0) :
    (owns c m fullShare X : sProp 𝕄)
      ⊢ iprop((owns c m fullShare w -∗ wp frame (wpE defs 𝒱 c none) Set.univ (k ⟨⟩) Q)
          -∗ wp frame (wpE defs 𝒱 c none) Set.univ (.op (.store m (Rect.unit (s := s) off s.size inb) w Finset.univ hx hm) k) Q) := by
  iintro H Hk
  unfold owns
  icases H with ⟨%f, -, H⟩
  have hS : (m.access (Rect.unit (s := s) off s.size inb)).setOn Finset.univ ⊆ m.view.set := by
    intro i hi
    obtain ⟨x, -, rfl⟩ := Finset.mem_map.mp hi
    exact m.view.emb_mem_set _
  iapply (wp_store 𝒱 c none Set.univ (m := m) (r := Rect.unit (s := s) off s.size inb) (w := w) (Mk := Finset.univ) (hx := hx) (hm := hm) (f := f) hS) $$ H
  iintro H
  iapply Hk
  iexists (m.access (Rect.unit (s := s) off s.size inb)).write Val f w Finset.univ
  isplitr
  · ipureintro
    funext i
    have h1 := congrFun ((m.access (Rect.unit (s := s) off s.size inb)).read_write_univ (Val := Val) f w) i
    have h2 : m.view.read Val ((m.access (Rect.unit (s := s) off s.size inb)).write Val f w Finset.univ) ((Rect.unit (s := s) off s.size inb).toLoadRect.idx i) = w i := h1
    rwa [idx_zero h inb i] at h2
  iexact H

end Steps

/-- A condition at the head of a program, each branch to the same post. -/
theorem branch {C : Prop} [Decidable C] {α β : Type} {S : C → Prog (TpuEff nD τ sig Val Λ c.2) β} {T : ¬C → Prog (TpuEff nD τ sig Val Λ c.2) β}
    {k : β → Prog (TpuEff nD τ sig Val Λ c.2) α} {Q : α → sProp 𝕄} {A : sProp 𝕄} (B : β → sProp 𝕄)
    (hS : ∀ h, A ⊢ wp frame (wpE defs 𝒱 c none) Set.univ (S h) B) (hT : ∀ h, A ⊢ wp frame (wpE defs 𝒱 c none) Set.univ (T h) B) :
    A ⊢ iprop((∀ x, B x -∗ wp frame (wpE defs 𝒱 c none) Set.univ (k x) Q)
      -∗ wp frame (wpE defs 𝒱 c none) Set.univ ((dite C S T) >>= k) Q) := by
  have hd : A ⊢ wp frame (wpE defs 𝒱 c none) Set.univ (dite C S T) B := by
    by_cases h : C
    · rw [dif_pos h]; exact hS h
    · rw [dif_neg h]; exact hT h
  iintro HA Hk
  rw [wp_bind]
  ihave H := hd $$ HA
  iapply (wp_wand) $$ H
  iexact Hk

/-- Elements written through a view hold what a buffer does that reads so through it. -/
theorem landed {sp : Space} {s : Shape} {e : EltTy} (m : Memref sig c.2.kind sp s e) {q : PosShare TreeShare} (fd g : Buf Val (m.view.loc c)) (w : s.Idx → Val e)
    (h : m.view.read Val g = w) :
    (m.view.loc c ↦[m.view.set]{q} m.view.write Val fd w Finset.univ : sProp 𝕄) = (m.view.loc c ↦[m.view.set]{q} g) :=
  pointsTo_congr fun i hi => by
    obtain ⟨x, -, rfl⟩ := Finset.mem_map.mp hi
    have h1 : m.view.read Val (m.view.write Val fd w Finset.univ) x = m.view.read Val g x := by
      rw [h]; exact congrFun (m.view.read_write_univ (Val := Val) fd w) x
    exact (cast_inj _).mp h1

/-- The elements of a squeezed slice of a whole buffer. -/
theorem set_squeeze {κ : Kind} (b : Ref sig κ) {t : Shape} (r : Rect b.ty.shape) (hr : ∀ a, r.stride a = 1) (hq : r.shape.Squeezes t) :
    (((Memref.whole b).slice r hr).squeeze t hq).view.set = r.set :=
  (View.set_reshape _ _).trans (View.set_slice_whole _ _)

end Own
-- ==== Proof.InBwd.lean ====
/-
  The backward of the input projection with the exchange between chips beside it (`InBwd`): at its first grid point a
  device sends each of the three other chips the sums it keeps, over the grid it computes, and at the last point it waits
  for what it was sent and for what it sent. The run, over any float values.
-/
module

public import proofs.«01_k».proof.Proof.Wire
public import proofs.«01_k».proof.Proof.Own
public import proofs.«01_k».proof.Proof.Gen.InBwdIdeal.Frame
public import proofs.«01_k».proof.Proof.Gen.InBwdIdeal.Skeleton
public import Idealize.ShloMosaic.Lib.Pipeline.Value
public import Idealize.ShloMosaic.Lib.ValueIdxRank6

@[expose] public section

noncomputable section

namespace Cert.Proof.InBwd

open Cert.InBwdIdeal Cert.InBwdIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Idealize.ShloMosaic.ValueIdx

set_option Elab.async false

variable {F : FTy → Type} [FloatOps F]

local notation "𝕄" => MT nD τ sig Unit (Elt F) ℕ (Wire.UU nD τ sig) ℕ

/-! ## The protocol -/

/-- The device of the same core on the chip across the first axis, across the second, across both. -/
def acrossF (j : Fin 3) (c : Dev nD) : Dev nD :=
  ⟨c.val ^^^ (![4, 2, 6] : Fin 3 → ℕ) j, by revert c j; decide⟩
theorem across_across : ∀ (j : Fin 3) (c : Dev nD), acrossF j (acrossF j c) = c := by decide
def across (j : Fin 3) : Equiv.Perm (Dev nD) := ⟨acrossF j, acrossF j, across_across j, across_across j⟩

abbrev i0 : grid0.Coords := grid0.coords t0_0
theorem cond_i0 : k0_cond1 i0 = 1#1 := by decide

abbrev snd0 : DmaSems sig S_ := (cc0_scratch0.slice (Rect.unit (s := S1x3) ![0, 0] S1x1.size inb_S1x3_S1x1_0_0)).squeeze S_ squeezes_S1x1_S_
abbrev snd1 : DmaSems sig S_ := (cc0_scratch0.slice (Rect.unit (s := S1x3) ![0, 1] S1x1.size inb_S1x3_S1x1_0_1)).squeeze S_ squeezes_S1x1_S_
abbrev snd2 : DmaSems sig S_ := (cc0_scratch0.slice (Rect.unit (s := S1x3) ![0, 2] S1x1.size inb_S1x3_S1x1_0_2)).squeeze S_ squeezes_S1x1_S_
abbrev rcv0 : DmaSems sig S_ := (cc0_scratch1.slice (Rect.unit (s := S1x3) ![0, 0] S1x1.size inb_S1x3_S1x1_0_0)).squeeze S_ squeezes_S1x1_S_
abbrev rcv1 : DmaSems sig S_ := (cc0_scratch1.slice (Rect.unit (s := S1x3) ![0, 1] S1x1.size inb_S1x3_S1x1_0_1)).squeeze S_ squeezes_S1x1_S_
abbrev rcv2 : DmaSems sig S_ := (cc0_scratch1.slice (Rect.unit (s := S1x3) ![0, 2] S1x1.size inb_S1x3_S1x1_0_2)).squeeze S_ squeezes_S1x1_S_

/-- What device `c` sends to each of the three: the sums of the chip it is sent to, -/
abbrev src0 (c : Dev nD) : Memref sig .tc .hbm S960x1024 .bf16 :=
  ((Memref.whole main_arg6).slice (Rect.unit (s := S4x960x1024) (k0_off1 c) S1x960x1024.size (k0_off1_inb i0 c cond_i0)) (fun _ => rfl)).squeeze S960x1024 squeezes_S1x960x1024_S960x1024
abbrev src1 (c : Dev nD) : Memref sig .tc .hbm S960x1024 .bf16 :=
  ((Memref.whole main_arg6).slice (Rect.unit (s := S4x960x1024) (k0_off2 c) S1x960x1024.size (k0_off2_inb i0 c cond_i0)) (fun _ => rfl)).squeeze S960x1024 squeezes_S1x960x1024_S960x1024
abbrev src2 (c : Dev nD) : Memref sig .tc .hbm S960x1024 .bf16 :=
  ((Memref.whole main_arg6).slice (Rect.unit (s := S4x960x1024) (k0_off3 c) S1x960x1024.size (k0_off3_inb i0 c cond_i0)) (fun _ => rfl)).squeeze S960x1024 squeezes_S1x960x1024_S960x1024
/-- and where in the other's result it goes. -/
abbrev dst0 : Memref sig .tc .hbm S960x1024 .bf16 :=
  ((Memref.whole main_v1_2).slice (Rect.unit (s := S3x960x1024) ![0, 0, 0] S1x960x1024.size inb_S3x960x1024_S1x960x1024_0_0_0) (fun _ => rfl)).squeeze S960x1024 squeezes_S1x960x1024_S960x1024
abbrev dst1 : Memref sig .tc .hbm S960x1024 .bf16 :=
  ((Memref.whole main_v1_2).slice (Rect.unit (s := S3x960x1024) ![1, 0, 0] S1x960x1024.size inb_S3x960x1024_S1x960x1024_1_0_0) (fun _ => rfl)).squeeze S960x1024 squeezes_S1x960x1024_S960x1024
abbrev dst2 : Memref sig .tc .hbm S960x1024 .bf16 :=
  ((Memref.whole main_v1_2).slice (Rect.unit (s := S3x960x1024) ![2, 0, 0] S1x960x1024.size inb_S3x960x1024_S1x960x1024_2_0_0) (fun _ => rfl)).squeeze S960x1024 squeezes_S1x960x1024_S960x1024

/-- Kinds 0, 1, 2 are the read-outs of the device's own copies, kinds 3, 4, 5 the arrivals. -/
def plan : Wire.Plan nD sig (Fin 6) where
  sem := ![.dma snd0.sem, .dma snd1.sem, .dma snd2.sem, .dma rcv0.sem, .dma rcv1.sem, .dma rcv2.sem]
  amt _ := dst0.view.dmaCredit
  peer := ![Equiv.refl _, Equiv.refl _, Equiv.refl _, across 0, across 1, across 2]
  away := ![false, false, false, true, true, true]
  lev := ![1, 1, 1, 2, 2, 2]
  inj := by decide
  pos _ := by decide

theorem ownSems : Pipeline.OwnSemFacts (cfgs 0).spec plan.sem := by decide

variable (m : (ℓ : Loc nD τ sig) → Buf (Elt F) ℓ) (ρ : Dev nD → PrngReg)

/-- What device `c` is sent by the others: what each holds for its chip. -/
def far (c : Dev nD) : Buf (Elt F) ((c : Thread nD τ).loc main_v1_2) := fun (x : S3x960x1024.Idx) =>
  m ((acrossF (x 0) c : Thread nD τ).loc main_arg6) (ix3 (⟨c.val / 2, by have : c.val < 8 := c.isLt; omega⟩ : Fin 4) (x 1) (x 2))

/-! ## The slices -/

theorem off0 : ∀ c : Dev nD, k0_off1 c = ![(acrossF 0 c).val / 2, 0, 0] := by decide
theorem off1 : ∀ c : Dev nD, k0_off2 c = ![(acrossF 1 c).val / 2, 0, 0] := by decide
theorem off2 : ∀ c : Dev nD, k0_off3 c = ![(acrossF 2 c).val / 2, 0, 0] := by decide
theorem dev0 : ∀ c : Dev nD, k0_dev1 c = (acrossF 0 c).val := by decide
theorem dev1 : ∀ c : Dev nD, k0_dev2 c = (acrossF 1 c).val := by decide
theorem dev2 : ∀ c : Dev nD, k0_dev3 c = (acrossF 2 c).val := by decide

/-- The elements of a slice along the first axis. -/
theorem mem_src {off : Fin 3 → ℕ} {inb} {p : ℕ} (h : off = ![p, 0, 0]) (x : S4x960x1024.Idx) :
    x ∈ (((Memref.whole main_arg6).slice (Rect.unit (s := S4x960x1024) off S1x960x1024.size inb) (fun _ => rfl)).squeeze S960x1024 squeezes_S1x960x1024_S960x1024 :
      Memref sig .tc .hbm S960x1024 .bf16).view.set ↔ (x 0).val = p := by
  subst h
  refine (Finset.ext_iff.mp (Own.set_squeeze _ _ _ _) x).trans (Rect.mem_set_unit.trans ?_)
  constructor
  · intro h
    have := h (0 : Fin 3)
    have h1 : p ≤ (x 0).val := this.1
    have h2 : (x 0).val < p + 1 := this.2
    omega
  · intro h
    have H : ∀ a : Fin 3, (![p, 0, 0] : Fin 3 → ℕ) a ≤ (x a).val ∧ (x a).val < (![p, 0, 0] : Fin 3 → ℕ) a + (![1, 960, 1024] : Fin 3 → ℕ) a := fun
      | 0 => ⟨h.ge, by show (x 0).val < p + 1; omega⟩
      | 1 => ⟨Nat.zero_le _, by show (x 1).val < 0 + 960; have : (x 1).val < 960 := (x 1).isLt; omega⟩
      | 2 => ⟨Nat.zero_le _, by show (x 2).val < 0 + 1024; have : (x 2).val < 1024 := (x 2).isLt; omega⟩
    exact H
theorem mem_dst {p : ℕ} {inb} (x : S3x960x1024.Idx) :
    x ∈ (((Memref.whole main_v1_2).slice (Rect.unit (s := S3x960x1024) ![p, 0, 0] S1x960x1024.size inb) (fun _ => rfl)).squeeze S960x1024 squeezes_S1x960x1024_S960x1024 :
      Memref sig .tc .hbm S960x1024 .bf16).view.set ↔ (x 0).val = p := by
  refine (Finset.ext_iff.mp (Own.set_squeeze _ _ _ _) x).trans (Rect.mem_set_unit.trans ?_)
  constructor
  · intro h
    have := h (0 : Fin 3)
    have h1 : p ≤ (x 0).val := this.1
    have h2 : (x 0).val < p + 1 := this.2
    omega
  · intro h
    have H : ∀ a : Fin 3, (![p, 0, 0] : Fin 3 → ℕ) a ≤ (x a).val ∧ (x a).val < (![p, 0, 0] : Fin 3 → ℕ) a + (![1, 960, 1024] : Fin 3 → ℕ) a := fun
      | 0 => ⟨h.ge, by show (x 0).val < p + 1; omega⟩
      | 1 => ⟨Nat.zero_le _, by show (x 1).val < 0 + 960; have : (x 1).val < 960 := (x 1).isLt; omega⟩
      | 2 => ⟨Nat.zero_le _, by show (x 2).val < 0 + 1024; have : (x 2).val < 1024 := (x 2).isLt; omega⟩
    exact H

/-- What a slice along the first axis reads. -/
theorem read_src {off : Fin 3 → ℕ} {inb} (p : Fin 4) (h : off = ![p.val, 0, 0]) (f : S4x960x1024.Idx → Elt F .bf16) (a : Fin 960) (b : Fin 1024) :
    (((Memref.whole main_arg6).slice (Rect.unit (s := S4x960x1024) off S1x960x1024.size inb) (fun _ => rfl)).squeeze S960x1024 squeezes_S1x960x1024_S960x1024 :
      Memref sig .tc .hbm S960x1024 .bf16).view.read (Elt F) f (ix2 a b) = f (ix3 p a b) := by
  subst h
  rw [Memref.read_squeeze_slice (Memref.whole main_arg6) _ _ _ (show S1x960x1024.ShapeCasts S960x1024 by decide)]
  refine (shapeCast_apply (s := S1x960x1024) (t := S960x1024) _ _ _ (ix3 (0 : Fin 1) a b) (by
    rw [Shape.rowMajor_val_three, Shape.rowMajor_val_two]
    show (0 * 960 + a.val) * 1024 + b.val = a.val * 1024 + b.val
    omega)).trans ?_
  refine congrArg f (funext fun d => Fin.ext ?_)
  have H : ∀ d : Fin 3, (![p.val, 0, 0] : Fin 3 → ℕ) d + 1 * (ix3 (0 : Fin 1) a b d).val = (ix3 p a b d).val := fun
    | 0 => by show p.val + 1 * 0 = p.val; omega
    | 1 => by show 0 + 1 * a.val = a.val; omega
    | 2 => by show 0 + 1 * b.val = b.val; omega
  exact H d
theorem read_dst (p : Fin 3) {inb} (f : S3x960x1024.Idx → Elt F .bf16) (a : Fin 960) (b : Fin 1024) :
    (((Memref.whole main_v1_2).slice (Rect.unit (s := S3x960x1024) ![p.val, 0, 0] S1x960x1024.size inb) (fun _ => rfl)).squeeze S960x1024 squeezes_S1x960x1024_S960x1024 :
      Memref sig .tc .hbm S960x1024 .bf16).view.read (Elt F) f (ix2 a b) = f (ix3 p a b) := by
  rw [Memref.read_squeeze_slice (Memref.whole main_v1_2) _ _ _ (show S1x960x1024.ShapeCasts S960x1024 by decide)]
  refine (shapeCast_apply (s := S1x960x1024) (t := S960x1024) _ _ _ (ix3 (0 : Fin 1) a b) (by
    rw [Shape.rowMajor_val_three, Shape.rowMajor_val_two]
    show (0 * 960 + a.val) * 1024 + b.val = a.val * 1024 + b.val
    omega)).trans ?_
  refine congrArg f (funext fun d => Fin.ext ?_)
  have H : ∀ d : Fin 3, (![p.val, 0, 0] : Fin 3 → ℕ) d + 1 * (ix3 (0 : Fin 1) a b d).val = (ix3 p a b d).val := fun
    | 0 => by show p.val + 1 * 0 = p.val; omega
    | 1 => by show 0 + 1 * a.val = a.val; omega
    | 2 => by show 0 + 1 * b.val = b.val; omega
  exact H d

/-- What each slice of the result reads once it has landed is what was sent there. -/
theorem landed0 (c : Dev nD) : dst0.view.read (Elt F) (far m (acrossF 0 c)) = (src0 c).view.read (Elt F) (m ((c : Thread nD τ).loc main_arg6)) := by
  suffices H : ∀ (a : Fin 960) (b : Fin 1024), dst0.view.read (Elt F) (far m (acrossF 0 c)) (ix2 a b) = (src0 c).view.read (Elt F) (m ((c : Thread nD τ).loc main_arg6)) (ix2 a b) from
    funext fun i => by rw [eq_ix2 i]; exact H (i 0) (i 1)
  intro a b
  refine (read_dst 0 _ a b).trans (.trans ?_ (read_src ⟨(acrossF 0 c).val / 2, by have : (acrossF 0 c).val < 8 := (acrossF 0 c).isLt; omega⟩ (off0 c) _ a b).symm)
  show m ((acrossF 0 (acrossF 0 c) : Thread nD τ).loc main_arg6) _ = _
  rw [across_across]
theorem landed1 (c : Dev nD) : dst1.view.read (Elt F) (far m (acrossF 1 c)) = (src1 c).view.read (Elt F) (m ((c : Thread nD τ).loc main_arg6)) := by
  suffices H : ∀ (a : Fin 960) (b : Fin 1024), dst1.view.read (Elt F) (far m (acrossF 1 c)) (ix2 a b) = (src1 c).view.read (Elt F) (m ((c : Thread nD τ).loc main_arg6)) (ix2 a b) from
    funext fun i => by rw [eq_ix2 i]; exact H (i 0) (i 1)
  intro a b
  refine (read_dst 1 _ a b).trans (.trans ?_ (read_src ⟨(acrossF 1 c).val / 2, by have : (acrossF 1 c).val < 8 := (acrossF 1 c).isLt; omega⟩ (off1 c) _ a b).symm)
  show m ((acrossF 1 (acrossF 1 c) : Thread nD τ).loc main_arg6) _ = _
  rw [across_across]
theorem landed2 (c : Dev nD) : dst2.view.read (Elt F) (far m (acrossF 2 c)) = (src2 c).view.read (Elt F) (m ((c : Thread nD τ).loc main_arg6)) := by
  suffices H : ∀ (a : Fin 960) (b : Fin 1024), dst2.view.read (Elt F) (far m (acrossF 2 c)) (ix2 a b) = (src2 c).view.read (Elt F) (m ((c : Thread nD τ).loc main_arg6)) (ix2 a b) from
    funext fun i => by rw [eq_ix2 i]; exact H (i 0) (i 1)
  intro a b
  refine (read_dst 2 _ a b).trans (.trans ?_ (read_src ⟨(acrossF 2 c).val / 2, by have : (acrossF 2 c).val < 8 := (acrossF 2 c).isLt; omega⟩ (off2 c) _ a b).symm)
  show m ((acrossF 2 (acrossF 2 c) : Thread nD τ).loc main_arg6) _ = _
  rw [across_across]

/-! ## The payloads -/

def pay (c : Dev nD) (k : Fin 6) : sProp 𝕄 := match k with
  | 0 => ((c : Thread nD τ).loc main_arg6) ↦[(src0 c).view.set]{fullShare} m ((c : Thread nD τ).loc main_arg6)
  | 1 => ((c : Thread nD τ).loc main_arg6) ↦[(src1 c).view.set]{fullShare} m ((c : Thread nD τ).loc main_arg6)
  | 2 => ((c : Thread nD τ).loc main_arg6) ↦[(src2 c).view.set]{fullShare} m ((c : Thread nD τ).loc main_arg6)
  | 3 => ((c : Thread nD τ).loc main_v1_2) ↦[dst0.view.set]{fullShare} far m c
  | 4 => ((c : Thread nD τ).loc main_v1_2) ↦[dst1.view.set]{fullShare} far m c
  | 5 => ((c : Thread nD τ).loc main_v1_2) ↦[dst2.view.set]{fullShare} far m c

instance pay_storable (c : Dev nD) (k : Fin 6) : BI.Storable (upEmb : UEmb _ 𝕄) (pay m c k) := by
  unfold pay
  split <;> infer_instance

theorem pay_0 (c : Dev nD) : pay m c 0 = (((c : Thread nD τ).loc main_arg6) ↦[(src0 c).view.set]{fullShare} m ((c : Thread nD τ).loc main_arg6)) := rfl
theorem pay_1 (c : Dev nD) : pay m c 1 = (((c : Thread nD τ).loc main_arg6) ↦[(src1 c).view.set]{fullShare} m ((c : Thread nD τ).loc main_arg6)) := rfl
theorem pay_2 (c : Dev nD) : pay m c 2 = (((c : Thread nD τ).loc main_arg6) ↦[(src2 c).view.set]{fullShare} m ((c : Thread nD τ).loc main_arg6)) := rfl
theorem pay_3 (c : Dev nD) : pay m c 3 = (((c : Thread nD τ).loc main_v1_2) ↦[dst0.view.set]{fullShare} far m c) := rfl
theorem pay_4 (c : Dev nD) : pay m c 4 = (((c : Thread nD τ).loc main_v1_2) ↦[dst1.view.set]{fullShare} far m c) := rfl
theorem pay_5 (c : Dev nD) : pay m c 5 = (((c : Thread nD τ).loc main_v1_2) ↦[dst2.view.set]{fullShare} far m c) := rfl

/-- A result cut in the three slices that arrive. -/
theorem cut_dst (c : Dev nD) (g : Buf (Elt F) ((c : Thread nD τ).loc main_v1_2)) :
    (((c : Thread nD τ).loc main_v1_2) ↦{fullShare} g : sProp 𝕄)
      ⊣⊢ iprop((((c : Thread nD τ).loc main_v1_2) ↦[dst0.view.set]{fullShare} g) ∗ (((c : Thread nD τ).loc main_v1_2) ↦[dst1.view.set]{fullShare} g)
        ∗ (((c : Thread nD τ).loc main_v1_2) ↦[dst2.view.set]{fullShare} g)) := by
  have h12 : Disjoint dst1.view.set dst2.view.set := Finset.disjoint_left.mpr fun x h1 h2 => by
    have := (mem_dst (p := 1) x).mp h1; have := (mem_dst (p := 2) x).mp h2; omega
  have h0 : Disjoint dst0.view.set (dst1.view.set ∪ dst2.view.set) := Finset.disjoint_left.mpr fun x h1 h2 => by
    have := (mem_dst (p := 0) x).mp h1
    rcases Finset.mem_union.mp h2 with h2 | h2
    · have := (mem_dst (p := 1) x).mp h2; omega
    · have := (mem_dst (p := 2) x).mp h2; omega
  have hu : dst0.view.set ∪ (dst1.view.set ∪ dst2.view.set) = Finset.univ := Finset.eq_univ_iff_forall.mpr fun x => by
    have hx : ((x : S3x960x1024.Idx) 0).val < 3 := ((x : S3x960x1024.Idx) 0).isLt
    rcases (by omega : ((x : S3x960x1024.Idx) 0).val = 0 ∨ ((x : S3x960x1024.Idx) 0).val = 1 ∨ ((x : S3x960x1024.Idx) 0).val = 2) with h | h | h
    · exact Finset.mem_union_left _ ((mem_dst x).mpr h)
    · exact Finset.mem_union_right _ (Finset.mem_union_left _ ((mem_dst x).mpr h))
    · exact Finset.mem_union_right _ (Finset.mem_union_right _ ((mem_dst x).mpr h))
  have hA := pointsTo_union (nD := nD) (τ := τ) (sig := sig) (Val := Elt F) (Ix := Unit) (Name := ℕ) (U := Wire.UU nD τ sig) (Lvl := ℕ)
    (ℓ := (c : Thread nD τ).loc main_v1_2) (q := fullShare) (f := g) h0
  have hB := pointsTo_union (nD := nD) (τ := τ) (sig := sig) (Val := Elt F) (Ix := Unit) (Name := ℕ) (U := Wire.UU nD τ sig) (Lvl := ℕ)
    (ℓ := (c : Thread nD τ).loc main_v1_2) (q := fullShare) (f := g) h12
  rw [hu] at hA
  exact hA.trans (sep_congr .rfl hB)

/-- What of the sums is sent nowhere. -/
abbrev unsent (c : Dev nD) : Finset (Idx ((c : Thread nD τ).loc main_arg6)) := ((Finset.univ \ (src0 c).view.set) \ (src1 c).view.set) \ (src2 c).view.set

theorem across_chip : ∀ c : Dev nD, (acrossF 0 c).val / 2 ≠ (acrossF 1 c).val / 2 ∧ (acrossF 0 c).val / 2 ≠ (acrossF 2 c).val / 2
    ∧ (acrossF 1 c).val / 2 ≠ (acrossF 2 c).val / 2 := by decide

/-- The sums cut in the slices that are sent and the rest. -/
theorem cut_src (c : Dev nD) (g : Buf (Elt F) ((c : Thread nD τ).loc main_arg6)) :
    (((c : Thread nD τ).loc main_arg6) ↦{fullShare} g : sProp 𝕄)
      ⊣⊢ iprop((((c : Thread nD τ).loc main_arg6) ↦[(src0 c).view.set]{fullShare} g) ∗ (((c : Thread nD τ).loc main_arg6) ↦[(src1 c).view.set]{fullShare} g)
        ∗ (((c : Thread nD τ).loc main_arg6) ↦[(src2 c).view.set]{fullShare} g) ∗ (((c : Thread nD τ).loc main_arg6) ↦[unsent c]{fullShare} g)) := by
  have hc := across_chip c
  have h1 : (src1 c).view.set ⊆ Finset.univ \ (src0 c).view.set := fun x hx => Finset.mem_sdiff.mpr ⟨Finset.mem_univ _, fun h => by
    have := (mem_src (off1 c) x).mp hx; have := (mem_src (off0 c) x).mp h; omega⟩
  have h2 : (src2 c).view.set ⊆ (Finset.univ \ (src0 c).view.set) \ (src1 c).view.set := fun x hx => by
    have := (mem_src (off2 c) x).mp hx
    refine Finset.mem_sdiff.mpr ⟨Finset.mem_sdiff.mpr ⟨Finset.mem_univ _, fun h => ?_⟩, fun h => ?_⟩
    · have := (mem_src (off0 c) x).mp h; omega
    · have := (mem_src (off1 c) x).mp h; omega
  have hA := pointsTo_split_subset (nD := nD) (τ := τ) (sig := sig) (Val := Elt F) (Ix := Unit) (Name := ℕ) (U := Wire.UU nD τ sig) (Lvl := ℕ)
    (ℓ := (c : Thread nD τ).loc main_arg6) (q := fullShare) (f := g) (Finset.subset_univ (src0 c).view.set)
  have hB := pointsTo_split_subset (nD := nD) (τ := τ) (sig := sig) (Val := Elt F) (Ix := Unit) (Name := ℕ) (U := Wire.UU nD τ sig) (Lvl := ℕ)
    (ℓ := (c : Thread nD τ).loc main_arg6) (q := fullShare) (f := g) h1
  have hC := pointsTo_split_subset (nD := nD) (τ := τ) (sig := sig) (Val := Elt F) (Ix := Unit) (Name := ℕ) (U := Wire.UU nD τ sig) (Lvl := ℕ)
    (ℓ := (c : Thread nD τ).loc main_arg6) (q := fullShare) (f := g) h2
  exact hA.trans (sep_congr .rfl (hB.trans (sep_congr .rfl hC)))

/-! ## The body -/

abbrev 𝒱₀ : Variants := Variants.none

/-- What a device has of the exchange before its first point, -/
def before (κ : Dev nD × Fin 6 → ℕ) (c : Dev nD) : sProp 𝕄 :=
  iprop(Wire.hold plan (pay m) κ c Finset.univ Finset.univ ∗ (((c : Thread nD τ).loc main_arg6) ↦{fullShare} m ((c : Thread nD τ).loc main_arg6))
    ∗ (((acrossF 0 c : Thread nD τ).loc main_v1_2) ↦[dst0.view.set]{fullShare} m ((acrossF 0 c : Thread nD τ).loc main_v1_2))
    ∗ (((acrossF 1 c : Thread nD τ).loc main_v1_2) ↦[dst1.view.set]{fullShare} m ((acrossF 1 c : Thread nD τ).loc main_v1_2))
    ∗ (((acrossF 2 c : Thread nD τ).loc main_v1_2) ↦[dst2.view.set]{fullShare} m ((acrossF 2 c : Thread nD τ).loc main_v1_2)))
/-- between its first and its last, -/
def during (κ : Dev nD × Fin 6 → ℕ) (c : Dev nD) : sProp 𝕄 :=
  iprop(Wire.hold plan (pay m) κ c ∅ Finset.univ ∗ (((c : Thread nD τ).loc main_arg6) ↦[unsent c]{fullShare} m ((c : Thread nD τ).loc main_arg6)))
/-- and after its last. -/
def kept (c : Dev nD) : sProp 𝕄 :=
  iprop((((c : Thread nD τ).loc main_arg6) ↦{fullShare} m ((c : Thread nD τ).loc main_arg6)) ∗ (((c : Thread nD τ).loc main_v1_2) ↦{fullShare} far m c))

section Body

variable (κ : Dev nD × Fin 6 → ℕ) (c : Dev nD) (i : grid0.Coords)
  (arg1 : Memref sig .tc .vmem S512x4608 .bf16) (harg1 : arg1.IsWhole) (arg2 : Memref sig .tc .vmem S512x3072 .bf16) (harg2 : arg2.IsWhole)
  (arg3 : Memref sig .tc .vmem S7680x1024 .bf16) (harg3 : arg3.IsWhole) (arg4 : Memref sig .tc .vmem S512x1024 .f32) (harg4 : arg4.IsWhole)
  (arg5 : Memref sig .tc .vmem S1x1024 .f32) (harg5 : arg5.IsWhole) (arg6 : Memref sig .tc .vmem S512x1024 .f32) (harg6 : arg6.IsWhole)
  (arg8 : Memref sig .tc .vmem S512x1024 .f32) (harg8 : arg8.IsWhole) (arg9 : Memref sig .tc .vmem S1x1024 .f32) (harg9 : arg9.IsWhole)
  (X1 : S512x4608.Idx → Elt F .bf16) (X2 : S512x3072.Idx → Elt F .bf16) (X3 : S7680x1024.Idx → Elt F .bf16) (X4 : S512x1024.Idx → Elt F .f32)
  (X5 : S1x1024.Idx → Elt F .f32) (X6 X8 : S512x1024.Idx → Elt F .f32) (X9 : S1x1024.Idx → Elt F .f32)

/-- The two blocks of the weight that a point multiplies by, -/
def wTop : S4608x1024.Idx → Elt F .bf16 := fun x => X3 ((Rect.unit (s := S7680x1024) ![0, 0] S4608x1024.size inb_S7680x1024_S4608x1024_0_0).toLoadRect.idx x)
def wBot : S3072x1024.Idx → Elt F .bf16 := fun x => X3 ((Rect.unit (s := S7680x1024) ![4608, 0] S3072x1024.size inb_S7680x1024_S3072x1024_4608_0).toLoadRect.idx x)
/-- the gradient it computes first, -/
def dh : FVec F S512x1024 .f32 := k0_pay2 X1 (wTop X3) X2 (wBot X3)
/-- and the sums it starts from. -/
def dgIn : S1x1024.Idx → Elt F .f32 := if k0_cond1 i = 1#1 then k0_pay1 (F := F) else X9

/-- The exchange before a point and after it. -/
def talkIn : sProp 𝕄 := if k0_cond1 i = 1#1 then iprop(before m κ c ∗ Wire.debt plan c Finset.univ) else iprop(during m κ c ∗ Wire.debt plan c ∅)
def talkMid : sProp 𝕄 := iprop(during m κ c ∗ Wire.debt plan c ∅)
def talkOut : sProp 𝕄 := if k0_cond3 i = 1#1 then iprop(kept m c ∗ Pipeline.ownSems0 plan.sem c ∗ ∃ Ws : Waits sig Unit, owes (c : Thread nD τ) 0 Ws) else talkMid m κ c

theorem route0 (c : Dev nD) : τ.routes (c : Thread nD τ) ((plan.peer 3 c : Dev nD) : Thread nD τ) = true := by revert c; decide
theorem route1 (c : Dev nD) : τ.routes (c : Thread nD τ) ((plan.peer 4 c : Dev nD) : Thread nD τ) = true := by revert c; decide
theorem route2 (c : Dev nD) : τ.routes (c : Thread nD τ) ((plan.peer 5 c : Dev nD) : Thread nD τ) = true := by revert c; decide

theorem there0 : (((acrossF 0 c : Thread nD τ).loc main_v1_2 ↦[dst0.view.set]{fullShare}
      dst0.view.write (Elt F) (m ((acrossF 0 c : Thread nD τ).loc main_v1_2)) ((src0 c).view.read (Elt F) (m ((c : Thread nD τ).loc main_arg6))) Finset.univ : sProp 𝕄))
    ⊢ pay m (acrossF 0 c) 3 := Entails.of_eq (Own.landed (acrossF 0 c : Thread nD τ) dst0 _ (far m (acrossF 0 c)) _ (landed0 m c))
theorem there1 : (((acrossF 1 c : Thread nD τ).loc main_v1_2 ↦[dst1.view.set]{fullShare}
      dst1.view.write (Elt F) (m ((acrossF 1 c : Thread nD τ).loc main_v1_2)) ((src1 c).view.read (Elt F) (m ((c : Thread nD τ).loc main_arg6))) Finset.univ : sProp 𝕄))
    ⊢ pay m (acrossF 1 c) 4 := Entails.of_eq (Own.landed (acrossF 1 c : Thread nD τ) dst1 _ (far m (acrossF 1 c)) _ (landed1 m c))
theorem there2 : (((acrossF 2 c : Thread nD τ).loc main_v1_2 ↦[dst2.view.set]{fullShare}
      dst2.view.write (Elt F) (m ((acrossF 2 c : Thread nD τ).loc main_v1_2)) ((src2 c).view.read (Elt F) (m ((c : Thread nD τ).loc main_arg6))) Finset.univ : sProp 𝕄))
    ⊢ pay m (acrossF 2 c) 5 := Entails.of_eq (Own.landed (acrossF 2 c : Thread nD τ) dst2 _ (far m (acrossF 2 c)) _ (landed2 m c))

set_option maxHeartbeats 1600000 in
theorem first_part (Q : _ → sProp 𝕄) :
    iprop(talkIn m κ c i ∗ (owns (c : Thread nD τ) arg1 fullShare X1 ∗ owns (c : Thread nD τ) arg2 fullShare X2 ∗ owns (c : Thread nD τ) arg3 fullShare X3)
        ∗ owns (c : Thread nD τ) arg9 fullShare X9
        ∗ (∀ r, ⌜r.2.1 = c ∧ r.2.2.2.2.2.2.2.2.2 = dh X1 X2 X3⌝ -∗ talkMid m κ c -∗ (owns (c : Thread nD τ) arg1 fullShare X1 ∗ owns (c : Thread nD τ) arg2 fullShare X2 ∗ owns (c : Thread nD τ) arg3 fullShare X3)
            -∗ owns (c : Thread nD τ) arg9 fullShare (dgIn i X9) -∗ Q r))
      ⊢ wp frame (wpE (defs₀ (F := F)) 𝒱₀ (c : Thread nD τ) none) Set.univ
          (k0_part4 i arg1 harg1 arg2 harg2 arg3 harg3 arg4 harg4 arg5 harg5 arg6 harg6 (Memref.whole main_arg6) (Memref.isWhole_whole _) arg8 harg8 arg9 harg9
            (Memref.whole main_v1_2) (Memref.isWhole_whole _) cc0_scratch0 cc0_scratch1) Q := by
  simp only [k0_part4_eq_skeleton]; unfold k0_part4_skel
  simp only [k0_part1_eq_skeleton]; unfold k0_part1_skel
  simp only [Prog.lift, Prog.bind_op, Prog.bind_ret, Prog.pure_eq_ret, wp_deviceId]
  unfold talkIn dgIn
  by_cases h : k0_cond1 i = 1#1
  · rw [if_pos h, if_pos h, dif_pos h]
    rw [dif_pos (show Scalar.cmpi .ne (Scalar.extui (Scalar.cmpi .eq (BitVec.ofNat 32 (i 0).val) 0#32) : BitVec 32) 0#32 = 1#1 from h)]
    unfold before talkMid during
    iintro ⟨⟨⟨Hh, Ha, Hb0, Hb1, Hb2⟩, Hd⟩, H, H9, Hk⟩
    ihave Ha := (cut_src (F := F) c _).1 $$ Ha
    icases Ha with ⟨Hs0, Hs1, Hs2, Ha⟩
    iapply (Wire.hold_send plan (pay m) κ c (defs₀ (F := F)) 𝒱₀ (src := src0 c) (dst := dst0) 0 3 (P := Finset.univ) (W := Finset.univ)
      (fd := m ((acrossF 0 c : Thread nD τ).loc main_v1_2)) (fs := m ((c : Thread nD τ).loc main_arg6)) (q := fullShare)
      (Fin.ext (dev0 c)) rfl rfl rfl rfl rfl (Finset.mem_univ _) (Finset.mem_univ _) (Finset.mem_univ _) rfl rfl
      (Entails.of_eq (pay_0 m c).symm) (there0 m c) (route0 c)) $$ [Hh Hd Hs0 Hb0]
    · isplitl [Hh]; · iexact Hh
      isplitl [Hd]; · iexact Hd
      isplitl [Hs0]; · iexact Hs0
      iexact Hb0
    iintro ⟨Hh, Hd⟩
    iapply (Wire.hold_send plan (pay m) κ c (defs₀ (F := F)) 𝒱₀ (src := src1 c) (dst := dst1) 1 4 (P := (Finset.univ.erase 0).erase 3) (W := Finset.univ)
      (fd := m ((acrossF 1 c : Thread nD τ).loc main_v1_2)) (fs := m ((c : Thread nD τ).loc main_arg6)) (q := fullShare)
      (Fin.ext (dev1 c)) rfl rfl rfl rfl rfl (by decide) (by decide) (Finset.mem_univ _) rfl rfl
      (Entails.of_eq (pay_1 m c).symm) (there1 m c) (route1 c)) $$ [Hh Hd Hs1 Hb1]
    · isplitl [Hh]; · iexact Hh
      isplitl [Hd]; · iexact Hd
      isplitl [Hs1]; · iexact Hs1
      iexact Hb1
    iintro ⟨Hh, Hd⟩
    iapply (Wire.hold_send plan (pay m) κ c (defs₀ (F := F)) 𝒱₀ (src := src2 c) (dst := dst2) 2 5 (P := (((Finset.univ.erase 0).erase 3).erase 1).erase 4) (W := Finset.univ)
      (fd := m ((acrossF 2 c : Thread nD τ).loc main_v1_2)) (fs := m ((c : Thread nD τ).loc main_arg6)) (q := fullShare)
      (Fin.ext (dev2 c)) rfl rfl rfl rfl rfl (by decide) (by decide) (Finset.mem_univ _) rfl rfl
      (Entails.of_eq (pay_2 m c).symm) (there2 m c) (route2 c)) $$ [Hh Hd Hs2 Hb2]
    · isplitl [Hh]; · iexact Hh
      isplitl [Hd]; · iexact Hd
      isplitl [Hs2]; · iexact Hs2
      iexact Hb2
    iintro ⟨Hh, Hd⟩
    rw [show ((((((Finset.univ : Finset (Fin 6)).erase 0).erase 3).erase 1).erase 4).erase 2).erase 5 = ∅ from by decide]
    iapply (Own.load_whole (defs₀ (F := F)) 𝒱₀ (c : Thread nD τ) (m := arg9) (X := X9) (by decide)) $$ H9
    iintro H9
    iapply (Own.store_whole (defs₀ (F := F)) 𝒱₀ (c : Thread nD τ) (m := arg9) (X := X9) (by decide)) $$ H9
    iintro H9
    icases H with ⟨H1, H2, H3⟩
    iapply (Own.load_whole (defs₀ (F := F)) 𝒱₀ (c : Thread nD τ) (m := arg1) (X := X1) (by decide)) $$ H1
    iintro H1
    iapply (Own.load (defs₀ (F := F)) 𝒱₀ (c : Thread nD τ) (m := arg3) (X := X3)) $$ H3
    iintro H3
    iapply (Own.load_whole (defs₀ (F := F)) 𝒱₀ (c : Thread nD τ) (m := arg2) (X := X2) (by decide)) $$ H2
    iintro H2
    iapply (Own.load (defs₀ (F := F)) 𝒱₀ (c : Thread nD τ) (m := arg3) (X := X3)) $$ H3
    iintro H3
    rw [wp_ret]
    imodintro
    iapply Hk $$ [] [Hh Ha Hd] [H1 H2 H3] H9
    · ipureintro; exact ⟨rfl, rfl⟩
    · isplitl [Hh Ha]
      · isplitl [Hh] <;> iassumption
      iexact Hd
    isplitl [H1]; · iexact H1
    isplitl [H2] <;> iassumption
  · rw [if_neg h, if_neg h, dif_neg h]
    rw [dif_neg (show ¬ Scalar.cmpi .ne (Scalar.extui (Scalar.cmpi .eq (BitVec.ofNat 32 (i 0).val) 0#32) : BitVec 32) 0#32 = 1#1 from h)]
    iintro ⟨HT, H, H9, Hk⟩
    icases H with ⟨H1, H2, H3⟩
    iapply (Own.load_whole (defs₀ (F := F)) 𝒱₀ (c : Thread nD τ) (m := arg1) (X := X1) (by decide)) $$ H1
    iintro H1
    iapply (Own.load (defs₀ (F := F)) 𝒱₀ (c : Thread nD τ) (m := arg3) (X := X3)) $$ H3
    iintro H3
    iapply (Own.load_whole (defs₀ (F := F)) 𝒱₀ (c : Thread nD τ) (m := arg2) (X := X2) (by decide)) $$ H2
    iintro H2
    iapply (Own.load (defs₀ (F := F)) 𝒱₀ (c : Thread nD τ) (m := arg3) (X := X3)) $$ H3
    iintro H3
    rw [wp_ret]
    imodintro
    iapply Hk $$ [] [HT] [H1 H2 H3] H9
    · ipureintro; exact ⟨rfl, rfl⟩
    · unfold talkMid; iexact HT
    isplitl [H1]; · iexact H1
    isplitl [H2] <;> iassumption

theorem second_part (a0 : BitVec 32) (v29 : FVec F S512x1024 .f32) (Q : _ → sProp 𝕄) :
    iprop((owns (c : Thread nD τ) arg4 fullShare X4 ∗ owns (c : Thread nD τ) arg5 fullShare X5 ∗ owns (c : Thread nD τ) arg6 fullShare X6)
        ∗ owns (c : Thread nD τ) arg8 fullShare X8 ∗ owns (c : Thread nD τ) arg9 fullShare X9
        ∗ (∀ r, (owns (c : Thread nD τ) arg4 fullShare X4 ∗ owns (c : Thread nD τ) arg5 fullShare X5 ∗ owns (c : Thread nD τ) arg6 fullShare X6)
            -∗ owns (c : Thread nD τ) arg8 fullShare (k0_pay7 v29 X4 X5 X6) -∗ owns (c : Thread nD τ) arg9 fullShare (k0_pay6 v29 X4 X9) -∗ Q r))
      ⊢ wp frame (wpE (defs₀ (F := F)) 𝒱₀ (c : Thread nD τ) none) Set.univ
          (k0_part5 i arg1 harg1 arg2 harg2 arg3 harg3 arg4 harg4 arg5 harg5 arg6 harg6 (Memref.whole main_arg6) (Memref.isWhole_whole _) arg8 harg8 arg9 harg9
            (Memref.whole main_v1_2) (Memref.isWhole_whole _) cc0_scratch0 cc0_scratch1 a0 v29) Q := by
  simp only [k0_part5_eq_skeleton]; unfold k0_part5_skel
  simp only [Prog.lift, Prog.bind_op, Prog.bind_ret, Prog.pure_eq_ret]
  iintro ⟨⟨H4, H5, H6⟩, H8, H9, Hk⟩
  iapply (Own.load_whole (defs₀ (F := F)) 𝒱₀ (c : Thread nD τ) (m := arg4) (X := X4) (by decide)) $$ H4
  iintro H4
  iapply (Own.load_whole (defs₀ (F := F)) 𝒱₀ (c : Thread nD τ) (m := arg5) (X := X5) (by decide)) $$ H5
  iintro H5
  iapply (Own.load_whole (defs₀ (F := F)) 𝒱₀ (c : Thread nD τ) (m := arg6) (X := X6) (by decide)) $$ H6
  iintro H6
  iapply (Own.load_whole (defs₀ (F := F)) 𝒱₀ (c : Thread nD τ) (m := arg9) (X := X9) (by decide)) $$ H9
  iintro H9
  iapply (Own.load_whole (defs₀ (F := F)) 𝒱₀ (c : Thread nD τ) (m := arg9) (X := X9) (by decide)) $$ H9
  iintro H9
  iapply (Own.store_whole (defs₀ (F := F)) 𝒱₀ (c : Thread nD τ) (m := arg9) (X := X9) (by decide)) $$ H9
  iintro H9
  iapply (Own.load_whole (defs₀ (F := F)) 𝒱₀ (c : Thread nD τ) (m := arg8) (X := X8) (by decide)) $$ H8
  iintro H8
  iapply (Own.store_whole (defs₀ (F := F)) 𝒱₀ (c : Thread nD τ) (m := arg8) (X := X8) (by decide)) $$ H8
  iintro H8
  rw [wp_ret]
  imodintro
  iapply Hk $$ [H4 H5 H6] H8 H9
  isplitl [H4]; · iexact H4
  isplitl [H5] <;> iassumption

set_option maxHeartbeats 1600000 in
theorem sound_body (Kt : PUnit → sProp 𝕄) :
    iprop(talkIn m κ c i
      ∗ (owns (c : Thread nD τ) arg1 fullShare X1 ∗ owns (c : Thread nD τ) arg2 fullShare X2 ∗ owns (c : Thread nD τ) arg3 fullShare X3)
      ∗ (owns (c : Thread nD τ) arg4 fullShare X4 ∗ owns (c : Thread nD τ) arg5 fullShare X5 ∗ owns (c : Thread nD τ) arg6 fullShare X6)
      ∗ owns (c : Thread nD τ) arg8 fullShare X8 ∗ owns (c : Thread nD τ) arg9 fullShare X9
      ∗ (talkOut m κ c i -∗ (owns (c : Thread nD τ) arg1 fullShare X1 ∗ owns (c : Thread nD τ) arg2 fullShare X2 ∗ owns (c : Thread nD τ) arg3 fullShare X3)
          -∗ (owns (c : Thread nD τ) arg4 fullShare X4 ∗ owns (c : Thread nD τ) arg5 fullShare X5 ∗ owns (c : Thread nD τ) arg6 fullShare X6)
          -∗ owns (c : Thread nD τ) arg8 fullShare (k0_pay7 (dh X1 X2 X3) X4 X5 X6) -∗ owns (c : Thread nD τ) arg9 fullShare (k0_pay6 (dh X1 X2 X3) X4 (dgIn i X9)) -∗ Kt ⟨⟩))
      ⊢ wp frame (wpE (defs₀ (F := F)) 𝒱₀ (c : Thread nD τ) none) Set.univ
          (cc0_in_bwd i arg1 harg1 arg2 harg2 arg3 harg3 arg4 harg4 arg5 harg5 arg6 harg6 (Memref.whole main_arg6) (Memref.isWhole_whole _) arg8 harg8 arg9 harg9
            (Memref.whole main_v1_2) (Memref.isWhole_whole _) cc0_scratch0 cc0_scratch1) Kt := by
  simp only [cc0_in_bwd_eq_skeleton]; unfold cc0_in_bwd_skel
  iintro ⟨HT, HA, HB, H8, H9, Hk⟩
  rw [wp_bind]
  iapply (first_part m κ c i arg1 harg1 arg2 harg2 arg3 harg3 arg4 harg4 arg5 harg5 arg6 harg6 arg8 harg8 arg9 harg9 X1 X2 X3 X9)
  isplitl [HT]; · iexact HT
  isplitl [HA]; · iexact HA
  isplitl [H9]; · iexact H9
  iintro %r %hr HT HA H9
  obtain ⟨a0, d0, v2, v5, v8, v9, v10, v11, v12, v29⟩ := r
  obtain ⟨h1, h2⟩ := hr
  simp only at h1 h2
  subst h1 h2
  simp only
  rw [wp_bind]
  iapply (second_part d0 i arg1 harg1 arg2 harg2 arg3 harg3 arg4 harg4 arg5 harg5 arg6 harg6 arg8 harg8 arg9 harg9 X4 X5 X6 X8 (dgIn i X9))
  isplitl [HB]; · iexact HB
  isplitl [H8]; · iexact H8
  isplitl [H9]; · iexact H9
  iintro %r HB H8 H9
  unfold talkOut
  by_cases h : k0_cond3 i = 1#1
  · rw [if_pos h, dif_pos h]
    simp only [k0_part2_eq_skeleton, k0_part3_eq_skeleton]; unfold k0_part2_skel k0_part3_skel
    simp only [Prog.lift, Prog.bind_op, Prog.bind_ret, Prog.pure_eq_ret]
    unfold talkMid during
    icases HT with ⟨⟨Hh, Ha⟩, Hd⟩
    iapply (Wire.hold_wait plan (pay m) κ d0 (defs₀ (F := F)) 𝒱₀ (P := ∅) (W := Finset.univ) 3 rfl (by decide) (Or.inl rfl) rfl (by decide)) $$ [Hh Hd]
    · isplitl [Hh] <;> iassumption
    iintro ⟨Hh, Hd, Hb0⟩
    iapply (Wire.hold_wait plan (pay m) κ d0 (defs₀ (F := F)) 𝒱₀ (P := ∅) (W := Finset.univ.erase 3) 4 rfl (by decide) (Or.inl rfl) rfl (by decide)) $$ [Hh Hd]
    · isplitl [Hh] <;> iassumption
    iintro ⟨Hh, Hd, Hb1⟩
    iapply (Wire.hold_wait plan (pay m) κ d0 (defs₀ (F := F)) 𝒱₀ (P := ∅) (W := (Finset.univ.erase 3).erase 4) 5 rfl (by decide) (Or.inl rfl) rfl (by decide)) $$ [Hh Hd]
    · isplitl [Hh] <;> iassumption
    iintro ⟨Hh, Hd, Hb2⟩
    iapply (Wire.hold_wait plan (pay m) κ d0 (defs₀ (F := F)) 𝒱₀ (P := ∅) (W := ((Finset.univ.erase 3).erase 4).erase 5) 0 rfl (by decide) (Or.inr (by decide)) rfl (by decide)) $$ [Hh Hd]
    · isplitl [Hh] <;> iassumption
    iintro ⟨Hh, Hd, Hs0⟩
    iapply (Wire.hold_wait plan (pay m) κ d0 (defs₀ (F := F)) 𝒱₀ (P := ∅) (W := (((Finset.univ.erase 3).erase 4).erase 5).erase 0) 1 rfl (by decide) (Or.inr (by decide)) rfl (by decide)) $$ [Hh Hd]
    · isplitl [Hh] <;> iassumption
    iintro ⟨Hh, Hd, Hs1⟩
    iapply (Wire.hold_wait plan (pay m) κ d0 (defs₀ (F := F)) 𝒱₀ (P := ∅) (W := ((((Finset.univ.erase 3).erase 4).erase 5).erase 0).erase 1) 2 rfl (by decide) (Or.inr (by decide)) rfl (by decide)) $$ [Hh Hd]
    · isplitl [Hh] <;> iassumption
    iintro ⟨Hh, Hd, Hs2⟩
    rw [show ((((((Finset.univ : Finset (Fin 6)).erase 3).erase 4).erase 5).erase 0).erase 1).erase 2 = ∅ from by decide]
    rw [wp_ret]
    imodintro
    iapply Hk $$ [Hh Hd Ha Hb0 Hb1 Hb2 Hs0 Hs1 Hs2] HA HB H8 H9
    ihave Hb0 := (Entails.of_eq (pay_3 m d0)) $$ Hb0
    ihave Hb1 := (Entails.of_eq (pay_4 m d0)) $$ Hb1
    ihave Hb2 := (Entails.of_eq (pay_5 m d0)) $$ Hb2
    ihave Hs0 := (Entails.of_eq (pay_0 m d0)) $$ Hs0
    ihave Hs1 := (Entails.of_eq (pay_1 m d0)) $$ Hs1
    ihave Hs2 := (Entails.of_eq (pay_2 m d0)) $$ Hs2
    isplitl [Ha Hb0 Hb1 Hb2 Hs0 Hs1 Hs2]
    · unfold kept
      isplitl [Ha Hs0 Hs1 Hs2]
      · iapply (cut_src (F := F) d0 _).2
        isplitl [Hs0]; · iexact Hs0
        isplitl [Hs1]; · iexact Hs1
        isplitl [Hs2] <;> iassumption
      iapply (cut_dst (F := F) d0 _).2
      isplitl [Hb0]; · iexact Hb0
      isplitl [Hb1] <;> iassumption
    isplitl [Hh]; · iapply (Wire.hold_done plan (pay m) κ d0); iexact Hh
    iapply (Wire.debt_done plan d0); iexact Hd
  · rw [if_neg h, dif_neg h]
    simp only [Prog.lift, Prog.bind_op, Prog.bind_ret, Prog.pure_eq_ret]
    rw [wp_ret]
    imodintro
    iapply Hk $$ HT HA HB H8 H9

end Body

/-! ## The proof data -/

def start (c : Dev nD) : sProp 𝕄 := iprop(∃ κ, before m κ c)
def going (c : Dev nD) : sProp 𝕄 := iprop(∃ κ, during m κ c)

/-- The gradient of the normalised rows at a point. -/
def dhAt (c : Dev nD) (t : Fin cfg0.N) : FVec F S512x1024 .f32 := dh (iblk m c 0 t) (iblk m c 1 t) (iblk m c 2 t)
/-- The rows of the first result that a point leaves, -/
def dxAt (c : Dev nD) (t : Fin cfg0.N) : S512x1024.Idx → Elt F .f32 := k0_pay7 (dhAt m c t) (iblk m c 3 t) (iblk m c 4 t) (iblk m c 5 t)
abbrev pt (n : ℕ) : Fin cfg0.N := ⟨n % 16, Nat.mod_lt _ (by decide)⟩
/-- and the sums of the second, point after point. -/
def dgAt (c : Dev nD) : ℕ → S1x1024.Idx → Elt F .f32
  | 0 => k0_pay6 (dhAt m c (pt 0)) (iblk m c 3 (pt 0)) (k0_pay1 (F := F))
  | n + 1 => k0_pay6 (dhAt m c (pt (n + 1))) (iblk m c 3 (pt (n + 1))) (dgAt c n)

def dats (_ : Fin 1) (c : Dev nD) : Dat τ (Elt F) Unit ℕ (Wire.UU nD τ sig) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxAt m c t
    | ⟨7, _⟩ => dgAt m c t.val
    | ⟨n + 8, h⟩ => absurd h (by show ¬ n + 8 < 8; omega)
  Φ t := if t.val = 0 then start m c else if t.val = 16 then iprop(kept m c ∗ Pipeline.ownSems0 plan.sem c) else going m c
  q _ := fullShare
  owed t := if t.val = 0 then Wire.owe plan c Finset.univ else 0

theorem find0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem find1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem find2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem find3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem find4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem find5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl

theorem first_iff : ∀ t : Fin cfg0.N, k0_cond1 (grid0.coords t) = 1#1 ↔ t.val = 0 := by decide
theorem last_iff : ∀ t : Fin cfg0.N, k0_cond3 (grid0.coords t) = 1#1 ↔ t.val = 15 := by decide
theorem lt16 (t : Fin cfg0.N) : t.val < 16 := t.isLt

/-- The sums a point finds, zeroed at the first, are those the point before it left. -/
theorem find7 (c : Dev nD) (t : Fin cfg0.N) (d) : k0_pay6 (dhAt m c t) (iblk m c 3 t) (dgIn (grid0.coords t) ((dats m 0 c).before 7 t d)) = dgAt m c t.val := by
  unfold dgIn
  have hp : pt t.val = t := Fin.ext (Nat.mod_eq_of_lt (lt16 t))
  by_cases h : t.val = 0
  · rw [if_pos ((first_iff t).mpr h)]
    have : t = pt 0 := Fin.ext h
    subst this
    rfl
  · rw [if_neg (fun h' => h ((first_iff t).mp h')),
      (dats m 0 c).before_out_kept 7 rfl t h (by
        have := lt16 t
        rw [Bool.eq_false_iff]; intro h'
        have := (flush0_7 ⟨t.val - 1, by omega⟩).mp h'
        simp only at this; omega) (fun _ => rfl) (fun _ _ => rfl)]
    show k0_pay6 (dhAt m c t) (iblk m c 3 t) (dgAt m c (t.val - 1)) = _
    obtain ⟨n, hn⟩ : ∃ n, t.val = n + 1 := ⟨t.val - 1, by omega⟩
    rw [hn] at hp ⊢
    rw [← hp]; rfl

theorem talk_in (c : Dev nD) (t : Fin cfg0.N) : iprop((dats m 0 c).Φ t.castSucc ∗ (dats m 0 c).owesAt () t.castSucc) ⊢ (iprop(∃ κ, talkIn m κ c (grid0.coords t)) : sProp 𝕄) := by
  unfold Dat.owesAt Pipeline.owesWithin talkIn
  show iprop((if t.val = 0 then start m c else if t.val = 16 then iprop(kept m c ∗ Pipeline.ownSems0 plan.sem c) else going m c)
    ∗ ∃ Ws, ⌜_⌝ ∗ owes (c : Thread nD τ) (if t.val = 0 then Wire.owe plan c Finset.univ else 0) Ws) ⊢ _
  by_cases h : t.val = 0
  · rw [if_pos h, if_pos h]; simp only [if_pos ((first_iff t).mpr h)]
    unfold start
    iintro ⟨⟨%κ, H⟩, ⟨%Ws, -, HO⟩⟩
    iexists κ
    isplitl [H]; · iexact H
    unfold Wire.debt; iexists Ws; iexact HO
  · have h16 : t.val ≠ 16 := by have := lt16 t; omega
    rw [if_neg h, if_neg h, if_neg h16]; simp only [if_neg (fun h' => h ((first_iff t).mp h'))]
    unfold going
    iintro ⟨⟨%κ, H⟩, ⟨%Ws, -, HO⟩⟩
    iexists κ
    isplitl [H]; · iexact H
    unfold Wire.debt; rw [Wire.owe_empty]; iexists Ws; iexact HO

theorem talk_out (κ : Dev nD × Fin 6 → ℕ) (c : Dev nD) (t : Fin cfg0.N) : (talkOut m κ c (grid0.coords t) : sProp 𝕄) ⊢ iprop((dats m 0 c).Φ t.succ ∗ (dats m 0 c).owesAt () t.succ) := by
  unfold Dat.owesAt Pipeline.owesWithin talkOut
  show _ ⊢ iprop((if t.val + 1 = 0 then start m c else if t.val + 1 = 16 then iprop(kept m c ∗ Pipeline.ownSems0 plan.sem c) else going m c)
    ∗ ∃ Ws, ⌜_⌝ ∗ owes (c : Thread nD τ) (if t.val + 1 = 0 then Wire.owe plan c Finset.univ else 0) Ws)
  rw [if_neg (Nat.succ_ne_zero _), if_neg (Nat.succ_ne_zero _)]
  by_cases h : t.val = 15
  · rw [if_pos ((last_iff t).mpr h), if_pos (by omega)]
    iintro ⟨HK, Hs, ⟨%Ws, HO⟩⟩
    isplitl [HK Hs]
    · isplitl [HK] <;> iassumption
    iexists Ws
    isplitr; · ipureintro; exact fun _ _ => Or.inl trivial
    iexact HO
  · rw [if_neg (fun h' => h ((last_iff t).mp h')), if_neg (by omega)]
    unfold talkMid Wire.debt going
    rw [Wire.owe_empty]
    iintro ⟨HK, ⟨%Ws, HO⟩⟩
    isplitl [HK]
    · iexists κ; iexact HK
    iexists Ws
    isplitr; · ipureintro; exact fun _ _ => Or.inl trivial
    iexact HO

theorem body_obligation (c : Dev nD) : BodyObligation (dats m 0 c) (defs₀ (F := F)) 𝒱₀ () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)) ∗ (∃ d, owns (c : Thread nD τ) (st0_5 t) fullShare ((dats m 0 c).before 5 t d))
      ∗ (∃ d, owns (c : Thread nD τ) (st0_6 t) fullShare ((dats m 0 c).before 6 t d)) ∗ (∃ d, owns (c : Thread nD τ) (st0_7 t) fullShare ((dats m 0 c).before 7 t d)))
    ⊢ wp frame (wpE (defs₀ (F := F)) 𝒱₀ (c : Thread nD τ) none) Set.univ (bodyAt0 t) fun _ => iprop((dats m 0 c).Φ t.succ ∗ (dats m 0 c).owesAt () t.succ
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (iblk m c 4 t) ∗ owns (c : Thread nD τ) (st0_5 t) fullShare (iblk m c 5 t)
      ∗ owns (c : Thread nD τ) (st0_6 t) fullShare (dxAt m c t) ∗ owns (c : Thread nD τ) (st0_7 t) fullShare (dgAt m c t.val))
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rw [find0, find1, find2, find3, find4, find5]
  ihave HT := (talk_in m c t) $$ [HΦ HO]
  · isplitl [HΦ] <;> iassumption
  icases HT with ⟨%κ, HT⟩
  iapply (sound_body m κ c (grid0.coords t) (st0_0 t) _ (st0_1 t) _ (st0_2 t) _ (st0_3 t) _ (st0_4 t) _ (st0_5 t) _ (st0_6 t) _ (st0_7 t) _
    (iblk m c 0 t) (iblk m c 1 t) (iblk m c 2 t) (iblk m c 3 t) (iblk m c 4 t) (iblk m c 5 t) ((dats m 0 c).before 6 t d6) ((dats m 0 c).before 7 t d7))
  isplitl [HT]; · iexact HT
  isplitl [H0 H1 H2]
  · isplitl [H0]; · iexact H0
    isplitl [H1] <;> iassumption
  isplitl [H3 H4 H5]
  · isplitl [H3]; · iexact H3
    isplitl [H4] <;> iassumption
  isplitl [H6]; · iexact H6
  isplitl [H7]; · iexact H7
  iintro HT ⟨H0, H1, H2⟩ ⟨H3, H4, H5⟩ H6 H7
  ihave HT := (talk_out m κ c t) $$ HT
  icases HT with ⟨HΦ, HO⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  rw [← find7 m c t d7]
  iexact H7

/-! ## The run -/

theorem kinds_sems : ∀ (w : Fin cfg0.W) (s : Fin (cfg0.win w).nbuf) (k : Fin 6), plan.sem k ≠ .dma ((cfg0.win w).sem s) := by decide
theorem lev_pos : ∀ j : Fin 6, 0 < plan.lev j := by decide

/-- The arrays, each slice of a result to the device that writes it. -/
theorem hand (κ : Dev nD × Fin 6 → ℕ) :
    iprop((bigSep Finset.univ fun c : Dev nD => Wire.hold plan (pay m) κ c Finset.univ Finset.univ)
        ∗ bigSep Finset.univ fun c : Dev nD => Pipeline.unscopedRest (cfgs 0).spec c (fun b => m ((c.tc : Thread nD τ).loc b)))
      ⊢ bigSep Finset.univ fun c : Dev nD => iprop(start m c ∗ emp) := by
  have hr (c : Dev nD) : (Pipeline.unscopedRest (cfgs 0).spec c (fun b => m ((c.tc : Thread nD τ).loc b)) : sProp 𝕄)
      ⊢ iprop((((c : Thread nD τ).loc main_arg6) ↦{fullShare} m ((c : Thread nD τ).loc main_arg6))
        ∗ (((c : Thread nD τ).loc main_v1_2) ↦[dst0.view.set]{fullShare} m ((c : Thread nD τ).loc main_v1_2))
        ∗ (((c : Thread nD τ).loc main_v1_2) ↦[dst1.view.set]{fullShare} m ((c : Thread nD τ).loc main_v1_2))
        ∗ (((c : Thread nD τ).loc main_v1_2) ↦[dst2.view.set]{fullShare} m ((c : Thread nD τ).loc main_v1_2))) := by
    refine (Entails.of_eq (unscopedRest0_eq (Ix := Unit) (Val := Elt F) (Name := ℕ) (U := Wire.UU nD τ sig) (Lvl := ℕ) c (fun b => m ((c.tc : Thread nD τ).loc b)))).trans ?_
    iintro ⟨Ha, Hb⟩
    isplitl [Ha]; · iexact Ha
    iapply (cut_dst (F := F) c _).1; iexact Hb
  have hs (c : Dev nD) (_ : c ∈ (Finset.univ : Finset (Dev nD))) : before m κ c ⊢ (iprop(start m c ∗ emp) : sProp 𝕄) := by
    unfold start
    iintro H
    isplitl; · iexists κ; iexact H
    iempintro
  have hm0 := bigSep_univ_equiv (across 0) (fun c : Dev nD => (((c : Thread nD τ).loc main_v1_2) ↦[dst0.view.set]{fullShare} m ((c : Thread nD τ).loc main_v1_2) : sProp 𝕄))
  have hm1 := bigSep_univ_equiv (across 1) (fun c : Dev nD => (((c : Thread nD τ).loc main_v1_2) ↦[dst1.view.set]{fullShare} m ((c : Thread nD τ).loc main_v1_2) : sProp 𝕄))
  have hm2 := bigSep_univ_equiv (across 2) (fun c : Dev nD => (((c : Thread nD τ).loc main_v1_2) ↦[dst2.view.set]{fullShare} m ((c : Thread nD τ).loc main_v1_2) : sProp 𝕄))
  refine BI.Entails.trans (sep_mono (BI.Entails.refl _) (bigSep_mono fun c _ => hr c)) (BI.Entails.trans ?_ (bigSep_mono hs))
  unfold before
  simp only [bigSep_sep']
  exact BI.sep_mono (BI.Entails.refl _) (BI.sep_mono (BI.Entails.refl _) (BI.sep_mono (Entails.of_eq hm0) (BI.sep_mono (Entails.of_eq hm1) (Entails.of_eq hm2))))

/-- Every run ends: the windows' results as the points leave them, the exchange's as the other chips hold it, what was
    read as it was, all counters at zero. -/
theorem run_main : θ_run defs (onTc (τ := τ) (main (F := F))) ⟨m, fun _ => 0, ρ⟩
    (fun r => (∀ c : Dev nD, (∀ w, r.2.mem (((cfgs 0).spec w).arr.view.loc (c.tc : Thread nD τ)) = (dats m 0 c).arrAt w (cfgs 0).N)
        ∧ r.2.mem ((c : Thread nD τ).loc main_v1_2) = far m c ∧ r.2.mem ((c : Thread nD τ).loc main_arg6) = m ((c : Thread nD τ).loc main_arg6))
      ∧ r.2.sem = fun _ => 0) :=
  Deal.θ_run_dealt cfgs () cellOf_inj (0 : Fin 1) Wire.EP defs₀ 𝒱₀ (dats m) winFacts0 ownSems m ρ main
    (hmain := fun _ => rfl)
    (hbody := fun c => (body_obligation m c).loose)
    (hne := block_pos0) (harr := arr_whole0) (hstage := stage_whole0) (hshare := fun _ w => by unfold Dat.share; split <;> rfl)
    (O₀ := fun c => Wire.owe plan c Finset.univ) (howed₀ := fun _ => rfl) (howedN := fun _ => rfl)
    (L := Wire.L) (lv := Wire.lv plan) (hL := Wire.L_of_ne)
    (hwaits := fun c => Pipeline.PerCore.cellsWaits_intro _ (dats m) () 0 c fun w s t => by
      show _ ⊢ MayWait (c : Thread nD τ) (.dma ((cfg0.win w).sem s)) () (if t.val = 0 then Wire.owe plan c Finset.univ else 0)
      have h (S : Finset (Fin 6)) : (levAts Wire.L (Wire.lv plan) : sProp 𝕄) ⊢ MayWait (c : Thread nD τ) (.dma ((cfg0.win w).sem s)) () (Wire.owe plan c S) := Wire.mayWait_other plan c (.dma ((cfg0.win w).sem s)) S (kinds_sems w s) (fun j _ _ => lev_pos j)
      split
      · exact h _
      · rw [← Wire.owe_empty plan c]; exact h _)
    (G := fun c => Wire.G plan (pay m) c cfgs 0 ownSems) (u₀ := (_, Wire.seed plan cfgs 0 ownSems))
    (hu₀ := Wire.fund plan (pay m) cfgs 0 ownSems _)
    (hA := fun _ w => rfl)
    (X := start m) (Y := kept m) (Z := fun _ => iprop(emp))
    (hdeal := by
      iintro H
      imod (Wire.deal_brings plan (pay m) cfgs 0 ownSems m ρ) $$ H with ⟨%κ, H⟩
      imodintro
      iapply (hand m κ); iexact H)
    (hin := fun c => by
      show iprop(start m c ∗ _) ⊢ start m c
      iintro ⟨H, -⟩
      iexact H)
    (hout := fun c => by
      rw [scopedRest0_eq]
      show iprop(kept m c ∗ Pipeline.ownSems0 plan.sem c) ⊢ _
      iintro ⟨H, Hs⟩
      isplitl [H]; · iexact H
      isplitl [Hs]; · iexact Hs
      iempintro)
    (QY := fun c s => s.mem ((c : Thread nD τ).loc main_v1_2) = far m c ∧ s.mem ((c : Thread nD τ).loc main_arg6) = m ((c : Thread nD τ).loc main_arg6))
    (hY := fun s => Wire.read_all (φ := fun c s => s.mem ((c : Thread nD τ).loc main_v1_2) = far m c ∧ s.mem ((c : Thread nD τ).loc main_arg6) = m ((c : Thread nD τ).loc main_arg6)) s fun c => by
      unfold kept
      iintro ⟨⟨⟨Ha, Hb⟩, -⟩, HSI⟩
      ihave %h1 := (Wire.read_buf s ((c : Thread nD τ).loc main_v1_2) (far m c)) $$ [Hb HSI]
      · isplitl [Hb] <;> iassumption
      ihave %h2 := (Wire.read_buf s ((c : Thread nD τ).loc main_arg6) (m ((c : Thread nD τ).loc main_arg6))) $$ [Ha HSI]
      · isplitl [Ha] <;> iassumption
      ipureintro
      exact ⟨h1, h2⟩)
    (hQ := fun _ h hs => ⟨fun c => h c, sem_eq_zero_of_scoped (by decide) hs⟩)

end Cert.Proof.InBwd
-- ==== Proof.InBwdRow.lean ====
/-
  One row of the backward of the input projection, over extended reals: the kernel's payloads on a tile and the
  reference's operations on the whole arrays, each read at an index.
-/
module

public import proofs.«01_k».proof.Proof.InBwd
public import proofs.«01_k».proof.Proof.Gen.InBwdRefIdeal.Run
public import Idealize.ShloMosaic.Lib.Pointwise

@[expose] public section

noncomputable section

namespace Cert.Proof.InBwd

open Idealize.ShloMosaic Idealize.ShloMosaic.TcCoe

set_option Elab.async false

/-- One over the root mean square of a row. -/
def inv (x : Fin 1024 → EReal) : EReal :=
  Ideal.rsqrt (Ideal.div (∑ k, x k * x k) (Ideal.ofBits .f32 0x44800000#32) + Ideal.ofBits .f32 0x358637BD#32)
/-- The gradient of a row `x` before its normalization, from the gradient `h` after it, the gain `g` and what the residual adds. -/
def back (h x g d : Fin 1024 → EReal) (l : Fin 1024) : EReal :=
  d l + inv x * (h l * g l - x l * inv x * Ideal.div (∑ k, h k * g k * (x k * inv x)) (Ideal.ofBits .f32 0x44800000#32))
/-- The gradient of the projection's input: a row of the two gradients times the weight. -/
def dot (a : Fin 4608 → EReal) (b : Fin 3072 → EReal) (w : Fin 7680 → Fin 1024 → EReal) (l : Fin 1024) : EReal :=
  (∑ k : Fin 4608, a k * w ⟨k.val, by omega⟩ l) + ∑ k : Fin 3072, b k * w ⟨4608 + k.val, by omega⟩ l

theorem dot_congr {a a' : Fin 4608 → EReal} {b b' : Fin 3072 → EReal} {w w' : Fin 7680 → Fin 1024 → EReal} {l : Fin 1024}
    (ha : ∀ k, a k = a' k) (hb : ∀ k, b k = b' k) (hw : ∀ k j, w k j = w' k j) : dot a b w l = dot a' b' w' l := by
  rw [funext ha, funext hb, funext fun k => funext (hw k)]
theorem back_congr {h h' x x' g g' d d' : Fin 1024 → EReal} {l : Fin 1024} (hh : ∀ k, h k = h' k) (hx : ∀ k, x k = x' k) (hg : ∀ k, g k = g' k)
    (hd : ∀ k, d k = d' k) : back h x g d l = back h' x' g' d' l := by
  rw [funext hh, funext hx, funext hg, funext hd]

section kernel
open Cert.InBwdIdeal Cert.InBwdIdeal.Gen

theorem dh_apply (X1 : FVec Ideal S512x4608 .bf16) (X2 : FVec Ideal S512x3072 .bf16) (X3 : FVec Ideal S7680x1024 .bf16) (r : Fin 512) (l : Fin 1024) :
    dh (F := Ideal) X1 X2 X3 (ix2 r l) = dot (fun k => X1 (ix2 r k)) (fun k => X2 (ix2 r k)) (fun k j => X3 (ix2 k j)) l := by
  pointwise [dh, k0_pay2, dot, wTop, wBot]

theorem pay4_apply (x : FVec Ideal S512x1024 .f32) (r : Fin 512) :
    k0_pay4 (F := Ideal) x (ix2 r 0) = inv fun k => x (ix2 r k) := by
  pointwise [k0_pay4, k0_pay3, inv]

theorem pay6_apply (h x : FVec Ideal S512x1024 .f32) (a : FVec Ideal S1x1024 .f32) (l : Fin 1024) :
    k0_pay6 (F := Ideal) h x a (ix2 0 l) = a (ix2 0 l) + ∑ r : Fin 512, h (ix2 r l) * (x (ix2 r l) * inv fun k => x (ix2 r k)) := by
  pointwise [k0_pay6, k0_pay5, k0_pay4, k0_pay3, inv]

theorem pay7_apply (h x : FVec Ideal S512x1024 .f32) (g : FVec Ideal S1x1024 .f32) (d : FVec Ideal S512x1024 .f32) (r : Fin 512) (l : Fin 1024) :
    k0_pay7 (F := Ideal) h x g d (ix2 r l) = back (fun k => h (ix2 r k)) (fun k => x (ix2 r k)) (fun k => g (ix2 0 k)) (fun k => d (ix2 r k)) l := by
  pointwise [k0_pay7, k0_pay5, k0_pay4, k0_pay3, inv, back]

end kernel

section reference
open Cert.InBwdRefIdeal Cert.InBwdRefIdeal.Gen

variable (A0 : FVec Ideal S65536x4608 .bf16) (A1 : FVec Ideal S65536x3072 .bf16) (A2 : FVec Ideal S7680x1024 .bf16)
  (A3 : FVec Ideal S65536x1024 .f32) (A4 : FVec Ideal S1x1024 .f32) (A5 : FVec Ideal S65536x1024 .f32)

def refDot : FVec Ideal S65536x1024 .f32 :=
  Host.dotGeneral dot_S65536x7680_S7680x1024_S65536x1024_1_0_0_1_n_n none (concatenate S65536x7680 1 [⟨S65536x4608, (extf .f32 A0 bitsLt_bf16_f32)⟩, ⟨S65536x3072, (extf .f32 A1 bitsLt_bf16_f32)⟩] concatenates_S65536x4608_S65536x3072_S65536x7680_d1) (extf .f32 A2 bitsLt_bf16_f32)

theorem refDot_apply (r : Fin 65536) (l : Fin 1024) :
    refDot A0 A1 A2 (ix2 r l) = dot (fun k => A0 (ix2 r k)) (fun k => A1 (ix2 r k)) (fun k j => A2 (ix2 k j)) l := by
  pointwise [refDot, dot]

def refInv : FVec Ideal S65536x1 .f32 :=
  Host.rsqrt (addf (Host.divf (broadcastInDim S65536x1 ![0] bcast_S65536_S65536x1_0 (Host.reduceAdd (mulf A3 A3) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))

theorem refInv_apply (r : Fin 65536) : refInv A3 (ix2 r 0) = inv fun k => A3 (ix2 r k) := by
  pointwise [refInv, inv]

/-- What the reference puts at its first result, -/
def refDx : FVec Ideal S65536x1024 .f32 :=
  addf A5 (mulf (broadcastInDim S65536x1024 ![0, 1] bcast_S65536x1_S65536x1024_0_1 (refInv A3)) (subf (mulf (refDot A0 A1 A2) (broadcastInDim S65536x1024 ![0, 1] bcast_S1x1024_S65536x1024_0_1 A4)) (mulf (mulf A3 (broadcastInDim S65536x1024 ![0, 1] bcast_S65536x1_S65536x1024_0_1 (refInv A3))) (broadcastInDim S65536x1024 ![0, 1] bcast_S65536x1_S65536x1024_0_1 (Host.divf (broadcastInDim S65536x1 ![0] bcast_S65536_S65536x1_0 (Host.reduceAdd (mulf (mulf (refDot A0 A1 A2) (broadcastInDim S65536x1024 ![0, 1] bcast_S1x1024_S65536x1024_0_1 A4)) (mulf A3 (broadcastInDim S65536x1024 ![0, 1] bcast_S65536x1_S65536x1024_0_1 (refInv A3)))) (constant S_ .f32 0x00000000#32) reducesTo_S65536x1024_S65536_d1 h_S_)) (broadcastInDim S65536x1 ![] bcast_S_S65536x1 (constant S_ .f32 0x44800000#32)))))))

theorem refDx_apply (r : Fin 65536) (l : Fin 1024) :
    refDx A0 A1 A2 A3 A4 A5 (ix2 r l)
      = back (fun k => refDot A0 A1 A2 (ix2 r k)) (fun k => A3 (ix2 r k)) (fun k => A4 (ix2 0 k)) (fun k => A5 (ix2 r k)) l := by
  pointwise [refDx, back, refInv_apply]

/-- and at its second. -/
def refDg : FVec Ideal S8x1024 .f32 :=
  Host.reduceAdd (shapeCast _ (mulf (refDot A0 A1 A2) (mulf A3 (broadcastInDim S65536x1024 ![0, 1] bcast_S65536x1_S65536x1024_0_1 (refInv A3)))) shapeCasts_S65536x1024_S8x8192x1024) (constant S_ .f32 0x00000000#32) reducesTo_S8x8192x1024_S8x1024_d1 h_S_

theorem refDg_apply (c : Fin 8) (l : Fin 1024) :
    refDg A0 A1 A2 A3 (ix2 c l) = ∑ r : Fin 8192, refDot A0 A1 A2 (ix2 ⟨c.val * 8192 + r.val, by omega⟩ l)
      * (A3 (ix2 ⟨c.val * 8192 + r.val, by omega⟩ l) * inv fun k => A3 (ix2 ⟨c.val * 8192 + r.val, by omega⟩ k)) := by
  pointwise [refDg, refInv_apply]

end reference

end Cert.Proof.InBwd

end
-- ==== Proof.InBwdValue.lean ====
/-
  The values of the backward of the input projection, over extended reals: each device's results are its blocks of the
  reference's.
-/
module

public import proofs.«01_k».proof.Proof.InBwdRow
public import Idealize.ShloMosaic.Lib.Pipeline.Value
public import Idealize.ShloMosaic.Lib.Layout

@[expose] public section

noncomputable section

namespace Cert.Proof.InBwd

open Cert.InBwdIdeal Cert.InBwdIdeal.Gen
open Idealize.ShloMosaic Idealize.ShloMosaic.TcCoe
open Idealize.ShloMosaic.Pipeline (Dat Cfg Window)

set_option Elab.async false

/-! ## The windows' blocks -/

section
variable {F : FTy → Type} [FloatOps F] (m : (ℓ : Loc nD τ sig) → Buf (Elt F) ℓ) (c : Dev nD) (t : Fin cfg0.N)

/-- Row `r` of a point's tile, among the device's rows. -/
abbrev row (r : Fin 512) : Fin 8192 := ⟨t.val * 512 + r.val, by have := lt16 t; omega⟩

theorem at0 : ∀ t : Fin cfg0.N, win0_0.index t 0 = t.val ∧ win0_0.index t 1 = 0 := by decide
theorem at1 : ∀ t : Fin cfg0.N, win0_1.index t 0 = t.val ∧ win0_1.index t 1 = 0 := by decide
theorem at2 : ∀ t : Fin cfg0.N, win0_2.index t 0 = 0 ∧ win0_2.index t 1 = 0 := by decide
theorem at3 : ∀ t : Fin cfg0.N, win0_3.index t 0 = t.val ∧ win0_3.index t 1 = 0 := by decide
theorem at4 : ∀ t : Fin cfg0.N, win0_4.index t 0 = 0 ∧ win0_4.index t 1 = 0 := by decide
theorem at5 : ∀ t : Fin cfg0.N, win0_5.index t 0 = t.val ∧ win0_5.index t 1 = 0 := by decide
theorem at6 : ∀ t : Fin cfg0.N, win0_6.index t 0 = t.val ∧ win0_6.index t 1 = 0 := by decide
theorem at7 : ∀ t : Fin cfg0.N, win0_7.index t 0 = 0 ∧ win0_7.index t 1 = 0 := by decide

theorem iblk0 (r : Fin 512) (k : Fin 4608) : iblk m c 0 t (ix2 r k) = m ((c : Thread nD τ).loc main_arg0) (ix2 (row t r) k) := by
  refine congrArg (m ((c : Thread nD τ).loc main_arg0)) (funext fun a => Fin.ext ?_)
  refine (Window.rect_emb_val win0_0 t (ix2 r k) a).trans ?_
  match a with
  | ⟨0, _⟩ => show win0_0.index t 0 * 512 + r.val = _; rw [(at0 t).1]; rfl
  | ⟨1, _⟩ => show win0_0.index t 1 * 4608 + k.val = _; rw [(at0 t).2, Nat.zero_mul, Nat.zero_add]; rfl
theorem iblk1 (r : Fin 512) (k : Fin 3072) : iblk m c 1 t (ix2 r k) = m ((c : Thread nD τ).loc main_arg1) (ix2 (row t r) k) := by
  refine congrArg (m ((c : Thread nD τ).loc main_arg1)) (funext fun a => Fin.ext ?_)
  refine (Window.rect_emb_val win0_1 t (ix2 r k) a).trans ?_
  match a with
  | ⟨0, _⟩ => show win0_1.index t 0 * 512 + r.val = _; rw [(at1 t).1]; rfl
  | ⟨1, _⟩ => show win0_1.index t 1 * 3072 + k.val = _; rw [(at1 t).2, Nat.zero_mul, Nat.zero_add]; rfl
theorem iblk2 (j : Fin 7680) (k : Fin 1024) : iblk m c 2 t (ix2 j k) = m ((c : Thread nD τ).loc main_arg2) (ix2 j k) := by
  refine congrArg (m ((c : Thread nD τ).loc main_arg2)) (funext fun a => Fin.ext ?_)
  refine (Window.rect_emb_val win0_2 t (ix2 j k) a).trans ?_
  match a with
  | ⟨0, _⟩ => show win0_2.index t 0 * 7680 + j.val = _; rw [(at2 t).1, Nat.zero_mul, Nat.zero_add]; rfl
  | ⟨1, _⟩ => show win0_2.index t 1 * 1024 + k.val = _; rw [(at2 t).2, Nat.zero_mul, Nat.zero_add]; rfl
theorem iblk3 (r : Fin 512) (k : Fin 1024) : iblk m c 3 t (ix2 r k) = m ((c : Thread nD τ).loc main_arg3) (ix2 (row t r) k) := by
  refine congrArg (m ((c : Thread nD τ).loc main_arg3)) (funext fun a => Fin.ext ?_)
  refine (Window.rect_emb_val win0_3 t (ix2 r k) a).trans ?_
  match a with
  | ⟨0, _⟩ => show win0_3.index t 0 * 512 + r.val = _; rw [(at3 t).1]; rfl
  | ⟨1, _⟩ => show win0_3.index t 1 * 1024 + k.val = _; rw [(at3 t).2, Nat.zero_mul, Nat.zero_add]; rfl
theorem iblk4 (k : Fin 1024) : iblk m c 4 t (ix2 0 k) = m ((c : Thread nD τ).loc main_arg4) (ix2 0 k) := by
  refine congrArg (m ((c : Thread nD τ).loc main_arg4)) (funext fun a => Fin.ext ?_)
  refine (Window.rect_emb_val win0_4 t (ix2 0 k) a).trans ?_
  match a with
  | ⟨0, _⟩ => show win0_4.index t 0 * 1 + 0 = _; rw [(at4 t).1]; rfl
  | ⟨1, _⟩ => show win0_4.index t 1 * 1024 + k.val = _; rw [(at4 t).2, Nat.zero_mul, Nat.zero_add]; rfl
theorem iblk5 (r : Fin 512) (k : Fin 1024) : iblk m c 5 t (ix2 r k) = m ((c : Thread nD τ).loc main_arg5) (ix2 (row t r) k) := by
  refine congrArg (m ((c : Thread nD τ).loc main_arg5)) (funext fun a => Fin.ext ?_)
  refine (Window.rect_emb_val win0_5 t (ix2 r k) a).trans ?_
  match a with
  | ⟨0, _⟩ => show win0_5.index t 0 * 512 + r.val = _; rw [(at5 t).1]; rfl
  | ⟨1, _⟩ => show win0_5.index t 1 * 1024 + k.val = _; rw [(at5 t).2, Nat.zero_mul, Nat.zero_add]; rfl

/-- Where a point leaves its rows of the first result, -/
theorem emb6 (r : Fin 512) (k : Fin 1024) : ((cfg0.win 6).blk t).view.emb (ix2 r k) = (ix2 (row t r) k : S8192x1024.Idx) := by
  refine funext fun a => Fin.ext ?_
  refine (Window.rect_emb_val win0_6 t (ix2 r k) a).trans ?_
  match a with
  | ⟨0, _⟩ => show win0_6.index t 0 * 512 + r.val = _; rw [(at6 t).1]; rfl
  | ⟨1, _⟩ => show win0_6.index t 1 * 1024 + k.val = _; rw [(at6 t).2, Nat.zero_mul, Nat.zero_add]; rfl
/-- and the sums of the second. -/
theorem emb7 (k : Fin 1024) : ((cfg0.win 7).blk t).view.emb (ix2 0 k) = (ix2 0 k : S1x1024.Idx) := by
  refine funext fun a => Fin.ext ?_
  refine (Window.rect_emb_val win0_7 t (ix2 0 k) a).trans ?_
  match a with
  | ⟨0, _⟩ => show win0_7.index t 0 * 1 + 0 = _; rw [(at7 t).1]; rfl
  | ⟨1, _⟩ => show win0_7.index t 1 * 1024 + k.val = _; rw [(at7 t).2, Nat.zero_mul, Nat.zero_add]; rfl

theorem mem6 (r : Fin 512) (k : Fin 1024) : (ix2 (row t r) k : S8192x1024.Idx) ∈ ((cfg0.win 6).blk t).view.set :=
  (congrArg (· ∈ ((cfg0.win 6).blk t).view.set) (emb6 t r k)).mp (View.emb_mem_set ((cfg0.win 6).blk t).view (ix2 r k))
theorem mem7 (k : Fin 1024) : (ix2 0 k : S1x1024.Idx) ∈ ((cfg0.win 7).blk t).view.set :=
  (congrArg (· ∈ ((cfg0.win 7).blk t).view.set) (emb7 t k)).mp (View.emb_mem_set ((cfg0.win 7).blk t).view (ix2 0 k))

/-- A result's array ends at what each point leaves in it. -/
theorem dx_array (G : S8192x1024.Idx → Elt F .f32) (h : ∀ t r k, dxAt m c t (ix2 r k) = G (ix2 (row t r) k)) :
    (dats m 0 c).arrAt 6 (cfgs 0).N = G :=
  (dats m 0 c).arrAt_eq_of_cover 6 G
    (fun t _ => by
      funext j
      obtain ⟨r, k, rfl⟩ : ∃ (r : Fin 512) (k : Fin 1024), j = ix2 r k := ⟨j 0, j 1, eq_ix2 j⟩
      show dxAt m c t (ix2 r k) = G (((cfg0.win 6).blk t).view.emb (ix2 r k))
      rw [emb6, h])
    (fun (i : S8192x1024.Idx) => by
      obtain ⟨t, r, k, hi⟩ : ∃ (t : Fin cfg0.N) (r : Fin 512) (k : Fin 1024), i = ix2 (row t r) k := by
        have h0 : (i 0).val < 8192 := (i 0).isLt
        refine ⟨⟨(i 0).val / 512, by show _ < 16; omega⟩, ⟨(i 0).val % 512, Nat.mod_lt _ (by decide)⟩, i 1, (eq_ix2 i).trans ?_⟩
        congr 1
        exact Fin.ext (by show (i 0).val = (i 0).val / 512 * 512 + (i 0).val % 512; omega)
      exact ⟨t, flush0_6 _, (congrArg (· ∈ ((cfg0.win 6).blk t).view.set) hi).mpr (mem6 t r k)⟩)

theorem dg_array (G : S1x1024.Idx → Elt F .f32) (h : ∀ k, dgAt m c 15 (ix2 0 k) = G (ix2 0 k)) :
    (dats m 0 c).arrAt 7 (cfgs 0).N = G :=
  (dats m 0 c).arrAt_eq_of_cover 7 G
    (fun t ht => by
      have h15 : t.val = 15 := by have := (flush0_7 t).mp ht; have := lt16 t; omega
      funext j
      obtain ⟨k, rfl⟩ : ∃ k : Fin 1024, j = ix2 0 k := ⟨j 1, (eq_ix2 j).trans (by congr 1; exact Subsingleton.elim (α := Fin 1) _ _)⟩
      show dgAt m c t.val (ix2 0 k) = G (((cfg0.win 7).blk t).view.emb (ix2 0 k))
      rw [emb7, h15, h])
    (fun (i : S1x1024.Idx) => by
      have hi : i = ix2 0 (i 1 : Fin 1024) := (eq_ix2 i).trans (by congr 1; exact Subsingleton.elim (α := Fin 1) _ _)
      exact ⟨t0_15, (flush0_7 _).mpr (by decide), (congrArg (· ∈ ((cfg0.win 7).blk t0_15).view.set) hi).mpr (mem7 t0_15 _)⟩)
end

/-! ## The sums point after point -/

section
variable (m : (ℓ : Loc nD τ sig) → Buf (Elt Ideal) ℓ) (c : Dev nD)

/-- The rows that a point normalizes. -/
def xAt (t : Fin cfg0.N) : S512x1024.Idx → EReal := iblk (F := Ideal) m c 3 t

theorem dgAt_sum (l : Fin 1024) (n : ℕ) : dgAt (F := Ideal) m c n (ix2 0 l)
    = ∑ i ∈ Finset.range (n + 1), ∑ r : Fin 512, dhAt (F := Ideal) m c (pt i) (ix2 r l)
        * (xAt m c (pt i) (ix2 r l) * inv fun k => xAt m c (pt i) (ix2 r k)) := by
  induction n with
  | zero =>
    rw [Finset.sum_range_one]
    refine (pay6_apply _ _ _ l).trans ?_
    rw [show k0_pay1 (F := Ideal) (ix2 0 l) = 0 by pointwise [k0_pay1]]
    exact zero_add _
  | succ n ih =>
    rw [Finset.sum_range_succ, ← ih]
    exact pay6_apply _ _ _ l

end

/-! ## The results as blocks of the reference's -/

section
open Cert.InBwdRefIdeal (S65536x4608 S65536x3072 S65536x1024)

variable (m : (ℓ : Loc nD τ sig) → Buf (Elt Ideal) ℓ)
  (A0 : FVec Ideal S65536x4608 .bf16) (A1 : FVec Ideal S65536x3072 .bf16) (A2 : FVec Ideal S7680x1024 .bf16)
  (A3 : FVec Ideal S65536x1024 .f32) (A4 : FVec Ideal S1x1024 .f32) (A5 : FVec Ideal S65536x1024 .f32)
  (c : Dev nD)
  {T0 : Layout.Tiles ⟨2, ![8192, 4608]⟩ ⟨2, ![65536, 4608]⟩ 0 8} {T1 : Layout.Tiles ⟨2, ![8192, 3072]⟩ ⟨2, ![65536, 3072]⟩ 0 8}
  {T3 T5 T6 : Layout.Tiles ⟨2, ![8192, 1024]⟩ ⟨2, ![65536, 1024]⟩ 0 8} {T7 : Layout.Tiles ⟨2, ![1, 1024]⟩ ⟨2, ![8, 1024]⟩ 0 8}
  (h0 : m ((c : Thread nD τ).loc main_arg0) = Layout.block ⟨2, ![8192, 4608]⟩ ⟨2, ![65536, 4608]⟩ 0 8 c A0 T0)
  (h1 : m ((c : Thread nD τ).loc main_arg1) = Layout.block ⟨2, ![8192, 3072]⟩ ⟨2, ![65536, 3072]⟩ 0 8 c A1 T1)
  (h2 : m ((c : Thread nD τ).loc main_arg2) = A2)
  (h3 : m ((c : Thread nD τ).loc main_arg3) = Layout.block ⟨2, ![8192, 1024]⟩ ⟨2, ![65536, 1024]⟩ 0 8 c A3 T3)
  (h4 : m ((c : Thread nD τ).loc main_arg4) = A4)
  (h5 : m ((c : Thread nD τ).loc main_arg5) = Layout.block ⟨2, ![8192, 1024]⟩ ⟨2, ![65536, 1024]⟩ 0 8 c A5 T5)

/-- Row `r` of device `c`, among the rows of all. -/
abbrev rowOf (c : Dev nD) (r : Fin 8192) : Fin 65536 := ⟨c.val * 8192 + r.val, by have : c.val < 8 := c.isLt; omega⟩

theorem block_row {n : ℕ} {α : Type} (A : (⟨2, ![65536, n]⟩ : Shape).Idx → α) (h : Layout.Tiles ⟨2, ![8192, n]⟩ ⟨2, ![65536, n]⟩ 0 8) (r : Fin 8192) (k : Fin n) :
    Layout.block ⟨2, ![8192, n]⟩ ⟨2, ![65536, n]⟩ 0 8 c A h (ix2 r k) = A (ix2 (rowOf c r) k) := by
  rw [Layout.block_apply]
  exact congrArg A (funext fun d => Fin.ext (by rw [Layout.Tiles.idx_val]; match d with | ⟨0, _⟩ => rfl | ⟨1, _⟩ => rfl))

include h0 h1 h2 in
theorem dhAt_row (t : Fin cfg0.N) (r : Fin 512) (l : Fin 1024) : dhAt (F := Ideal) m c t (ix2 r l) = refDot A0 A1 A2 (ix2 (rowOf c (row t r)) l) := by
  refine (dh_apply _ _ _ r l).trans (Eq.trans ?_ (refDot_apply A0 A1 A2 _ l).symm)
  refine dot_congr (fun k => ?_) (fun k => ?_) fun k j => ?_
  · rw [iblk0, h0]; exact block_row c A0 _ _ k
  · rw [iblk1, h1]; exact block_row c A1 _ _ k
  · rw [iblk2, h2]

include h3 in
theorem xAt_row (t : Fin cfg0.N) (r : Fin 512) (l : Fin 1024) : xAt m c t (ix2 r l) = A3 (ix2 (rowOf c (row t r)) l) := by
  unfold xAt; rw [iblk3, h3]; exact block_row c A3 _ _ l

include h0 h1 h2 h3 h4 h5 in
theorem dx_block : (dats (F := Ideal) m 0 c).arrAt 6 (cfgs 0).N
    = Layout.block ⟨2, ![8192, 1024]⟩ ⟨2, ![65536, 1024]⟩ 0 8 c (refDx A0 A1 A2 A3 A4 A5) T6 := by
  refine dx_array m c _ fun t r k => ?_
  refine (pay7_apply _ _ _ _ r k).trans (Eq.trans ?_ (block_row c _ _ _ k).symm)
  refine Eq.trans ?_ (refDx_apply A0 A1 A2 A3 A4 A5 _ k).symm
  refine back_congr (fun j => ?_) (fun j => ?_) (fun j => ?_) fun j => ?_
  · exact dhAt_row m A0 A1 A2 c h0 h1 h2 t r j
  · exact xAt_row m A3 c h3 t r j
  · rw [iblk4, h4]
  · rw [iblk5, h5]; exact block_row c A5 _ _ j

include h0 h1 h2 h3 in
theorem dg_block : (dats (F := Ideal) m 0 c).arrAt 7 (cfgs 0).N
    = Layout.block ⟨2, ![1, 1024]⟩ ⟨2, ![8, 1024]⟩ 0 8 c (refDg A0 A1 A2 A3) T7 := by
  refine dg_array m c _ fun k => ?_
  rw [dgAt_sum, Layout.block_apply]
  have hi : (Layout.Tiles.idx (S := ⟨2, ![1, 1024]⟩) (T := ⟨2, ![8, 1024]⟩) (a := 0) (k := 8) T7 c (ix2 0 k)) = (ix2 (c : Fin 8) k) :=
    funext fun d => Fin.ext (by rw [Layout.Tiles.idx_val]; match d with | ⟨0, _⟩ => exact Nat.mul_one _ | ⟨1, _⟩ => rfl)
  rw [hi, refDg_apply, Finset.sum_range, Fin.sum_univ_tiles 16 512 rfl]
  refine Finset.sum_congr rfl fun i _ => Finset.sum_congr rfl fun r _ => ?_
  have hp : pt i.val = (⟨i.val, i.isLt⟩ : Fin cfg0.N) := Fin.ext (Nat.mod_eq_of_lt i.isLt)
  rw [hp, dhAt_row m A0 A1 A2 c h0 h1 h2, xAt_row m A3 c h3]
  congr 2
  congr 1
  funext j
  exact xAt_row m A3 c h3 _ r j

end

end Cert.Proof.InBwd

end
-- ==== Proof.InBwdFar.lean ====
/-
  The exchange of the backward of the input projection: the sums that each device ends with are its block of the
  reference's rearrangement of the sums of all devices, over any float values.
-/
module

public import proofs.«01_k».proof.Proof.InBwd
public import proofs.«01_k».proof.Proof.Gen.InBwdRefIdeal.Run
public import Idealize.ShloMosaic.Lib.Pipeline.Value
public import Idealize.ShloMosaic.Lib.ValueIdxRank6
public import Idealize.ShloMosaic.Lib.Layout

@[expose] public section

noncomputable section

namespace Cert.Proof.InBwd

open Idealize.ShloMosaic Idealize.ShloMosaic.TcCoe Idealize.ShloMosaic.ValueIdx

set_option Elab.async false

section reference
open Cert.InBwdRefIdeal Cert.InBwdRefIdeal.Gen
variable {α : Type}

/-- What chip `q` holds for chip `p`, core by core, -/
def chunk (q p : ℕ) (h : S4x2x4x960x1024.Slices ![q, 0, p, 0, 0] S1x2x1x960x1024) (x : S32x960x1024.Idx → α) : S2x1x960x1024.Idx → α :=
  broadcastInDim S2x1x960x1024 ![0, 2, 3] bcast_S2x960x1024_S2x1x960x1024_0_2_3
    (shapeCast _ (extractStridedSlice S1x2x1x960x1024 ![q, 0, p, 0, 0] (shapeCast _ x shapeCasts_S32x960x1024_S4x2x4x960x1024) h)
      shapeCasts_S1x2x1x960x1024_S2x960x1024)

theorem chunk_apply (q p : Fin 4) (h) (x : S32x960x1024.Idx → α) (c : Fin 2) (a : Fin 960) (b : Fin 1024) (r : Fin 32) (hr : r.val = 8 * q.val + 4 * c.val + p.val) :
    chunk q.val p.val h x (ix4 c (0 : Fin 1) a b) = x (ix3 r a b) := by
  unfold chunk
  rw [broadcastInDim_apply _ _ _ _ (ix3 c a b) (fun | 0 => rfl | 1 => rfl | 2 => rfl)]
  rw [shapeCast_apply _ _ _ (ix5 (0 : Fin 1) c (0 : Fin 1) a b) (by
    rw [Shape.rowMajor_val_five, Shape.rowMajor_val_three]
    show (((0 * 2 + c.val) * 1 + 0) * 960 + a.val) * 1024 + b.val = (c.val * 960 + a.val) * 1024 + b.val
    omega)]
  rw [extractStridedSlice_apply _ _ _ _ (ix5 q c p a b) (fun
    | 0 => rfl | 1 => (Nat.zero_add _).symm | 2 => rfl | 3 => (Nat.zero_add _).symm | 4 => (Nat.zero_add _).symm)]
  exact shapeCast_apply _ _ _ (ix3 r a b) (by
    rw [Shape.rowMajor_val_five, Shape.rowMajor_val_three]
    show (r.val * 960 + a.val) * 1024 + b.val = (((q.val * 2 + c.val) * 4 + p.val) * 960 + a.val) * 1024 + b.val
    omega)

/-- and what three of them hold for it. -/
def trio (q₀ q₁ q₂ p : ℕ) (h₀ : S4x2x4x960x1024.Slices ![q₀, 0, p, 0, 0] S1x2x1x960x1024) (h₁ : S4x2x4x960x1024.Slices ![q₁, 0, p, 0, 0] S1x2x1x960x1024)
    (h₂ : S4x2x4x960x1024.Slices ![q₂, 0, p, 0, 0] S1x2x1x960x1024) (x : S32x960x1024.Idx → α) : S1x2x3x960x1024.Idx → α :=
  broadcastInDim S1x2x3x960x1024 ![1, 2, 3, 4] bcast_S2x3x960x1024_S1x2x3x960x1024_1_2_3_4
    (concatenate S2x3x960x1024 1 [⟨S2x1x960x1024, chunk q₀ p h₀ x⟩, ⟨S2x1x960x1024, chunk q₁ p h₁ x⟩, ⟨S2x1x960x1024, chunk q₂ p h₂ x⟩]
      concatenates_S2x1x960x1024_S2x1x960x1024_S2x1x960x1024_S2x3x960x1024_d1)

theorem trio_apply (q : Fin 3 → Fin 4) (p : Fin 4) (h₀ h₁ h₂) (x : S32x960x1024.Idx → α) (c : Fin 2) (k : Fin 3) (a : Fin 960) (b : Fin 1024) (r : Fin 32)
    (hr : r.val = 8 * (q k).val + 4 * c.val + p.val) :
    trio (q 0).val (q 1).val (q 2).val p.val h₀ h₁ h₂ x (ix5 (0 : Fin 1) c k a b) = x (ix3 r a b) := by
  unfold trio
  rw [broadcastInDim_apply _ _ _ _ (ix4 c k a b) (fun | 0 => rfl | 1 => rfl | 2 => rfl | 3 => rfl)]
  match k with
  | 0 => exact (concatenate_apply_piece (t := S2x3x960x1024) 1 _ _ _ 0 (by simp) S2x1x960x1024 _ rfl rfl 0 rfl (ix4 c (0 : Fin 1) a b)
      (fun | 0 => fun _ => rfl | 1 => fun h => absurd rfl h | 2 => fun _ => rfl | 3 => fun _ => rfl) rfl).trans (chunk_apply (q 0) p h₀ x c a b r hr)
  | 1 => exact (concatenate_apply_piece (t := S2x3x960x1024) 1 _ _ _ 1 (by simp) S2x1x960x1024 _ rfl rfl 1 rfl (ix4 c (0 : Fin 1) a b)
      (fun | 0 => fun _ => rfl | 1 => fun h => absurd rfl h | 2 => fun _ => rfl | 3 => fun _ => rfl) rfl).trans (chunk_apply (q 1) p h₁ x c a b r hr)
  | 2 => exact (concatenate_apply_piece (t := S2x3x960x1024) 1 _ _ _ 2 (by simp) S2x1x960x1024 _ rfl rfl 2 rfl (ix4 c (0 : Fin 1) a b)
      (fun | 0 => fun _ => rfl | 1 => fun h => absurd rfl h | 2 => fun _ => rfl | 3 => fun _ => rfl) rfl).trans (chunk_apply (q 2) p h₂ x c a b r hr)

/-- The reference's third result as its operations compose. -/
def swapped (x : S32x960x1024.Idx → α) : S24x960x1024.Idx → α :=
  shapeCast _ (concatenate S4x2x3x960x1024 0
    [⟨S1x2x3x960x1024, trio 2 1 3 0 slices_S4x2x4x960x1024_S1x2x1x960x1024_2_0_0_0_0 slices_S4x2x4x960x1024_S1x2x1x960x1024_1_0_0_0_0 slices_S4x2x4x960x1024_S1x2x1x960x1024_3_0_0_0_0 x⟩,
     ⟨S1x2x3x960x1024, trio 3 0 2 1 slices_S4x2x4x960x1024_S1x2x1x960x1024_3_0_1_0_0 slices_S4x2x4x960x1024_S1x2x1x960x1024_0_0_1_0_0 slices_S4x2x4x960x1024_S1x2x1x960x1024_2_0_1_0_0 x⟩,
     ⟨S1x2x3x960x1024, trio 0 3 1 2 slices_S4x2x4x960x1024_S1x2x1x960x1024_0_0_2_0_0 slices_S4x2x4x960x1024_S1x2x1x960x1024_3_0_2_0_0 slices_S4x2x4x960x1024_S1x2x1x960x1024_1_0_2_0_0 x⟩,
     ⟨S1x2x3x960x1024, trio 1 2 0 3 slices_S4x2x4x960x1024_S1x2x1x960x1024_1_0_3_0_0 slices_S4x2x4x960x1024_S1x2x1x960x1024_2_0_3_0_0 slices_S4x2x4x960x1024_S1x2x1x960x1024_0_0_3_0_0 x⟩]
    concatenates_S1x2x3x960x1024_S1x2x3x960x1024_S1x2x3x960x1024_S1x2x3x960x1024_S4x2x3x960x1024_d0) shapeCasts_S4x2x3x960x1024_S24x960x1024

/-- The chips across the first axis, across the second, across both, from each chip. -/
abbrev others : Fin 4 → Fin 3 → Fin 4 := ![![2, 1, 3], ![3, 0, 2], ![0, 3, 1], ![1, 2, 0]]

theorem swapped_apply (x : S32x960x1024.Idx → α) (p : Fin 4) (c : Fin 2) (k : Fin 3) (a : Fin 960) (b : Fin 1024) (r : Fin 24) (r' : Fin 32)
    (hr : r.val = 6 * p.val + 3 * c.val + k.val) (hr' : r'.val = 8 * (others p k).val + 4 * c.val + p.val) :
    swapped x (ix3 r a b) = x (ix3 r' a b) := by
  unfold swapped
  rw [shapeCast_apply _ _ _ (ix5 p c k a b) (by
    rw [Shape.rowMajor_val_five, Shape.rowMajor_val_three]
    show (((p.val * 2 + c.val) * 3 + k.val) * 960 + a.val) * 1024 + b.val = (r.val * 960 + a.val) * 1024 + b.val
    omega)]
  match p with
  | 0 => exact (concatenate_apply_piece (t := S4x2x3x960x1024) 0 _ _ _ 0 (by simp) S1x2x3x960x1024 _ rfl rfl 0 rfl (ix5 (0 : Fin 1) c k a b)
      (fun | 0 => fun h => absurd rfl h | 1 => fun _ => rfl | 2 => fun _ => rfl | 3 => fun _ => rfl | 4 => fun _ => rfl) rfl).trans (trio_apply (others 0) 0 _ _ _ x c k a b r' hr')
  | 1 => exact (concatenate_apply_piece (t := S4x2x3x960x1024) 0 _ _ _ 1 (by simp) S1x2x3x960x1024 _ rfl rfl 1 rfl (ix5 (0 : Fin 1) c k a b)
      (fun | 0 => fun h => absurd rfl h | 1 => fun _ => rfl | 2 => fun _ => rfl | 3 => fun _ => rfl | 4 => fun _ => rfl) rfl).trans (trio_apply (others 1) 1 _ _ _ x c k a b r' hr')
  | 2 => exact (concatenate_apply_piece (t := S4x2x3x960x1024) 0 _ _ _ 2 (by simp) S1x2x3x960x1024 _ rfl rfl 2 rfl (ix5 (0 : Fin 1) c k a b)
      (fun | 0 => fun h => absurd rfl h | 1 => fun _ => rfl | 2 => fun _ => rfl | 3 => fun _ => rfl | 4 => fun _ => rfl) rfl).trans (trio_apply (others 2) 2 _ _ _ x c k a b r' hr')
  | 3 => exact (concatenate_apply_piece (t := S4x2x3x960x1024) 0 _ _ _ 3 (by simp) S1x2x3x960x1024 _ rfl rfl 3 rfl (ix5 (0 : Fin 1) c k a b)
      (fun | 0 => fun h => absurd rfl h | 1 => fun _ => rfl | 2 => fun _ => rfl | 3 => fun _ => rfl | 4 => fun _ => rfl) rfl).trans (trio_apply (others 3) 3 _ _ _ x c k a b r' hr')

theorem res_swapped {F : FTy → Type} [FloatOps F] (m : (ℓ : Loc nD τ sig) → Buf (Elt F) ℓ) (c : Dev nD) :
    Value.res_main_v77 m c = swapped (m ((c.tc : Thread nD τ).loc main_arg6)) := rfl

end reference

/-! ## What a device ends with as a block of it -/

open Cert.InBwdIdeal

theorem across_others : ∀ (k : Fin 3) (c : Dev nD), (acrossF k c).val = 2 * (others ⟨c.val / 2, by have : c.val < 8 := c.isLt; omega⟩ k).val + c.val % 2 := by decide

theorem far_block {F : FTy → Type} [FloatOps F] (m : (ℓ : Loc nD τ sig) → Buf (Elt F) ℓ) (x : Cert.InBwdRefIdeal.S32x960x1024.Idx → Elt F .bf16)
    {T : Layout.Tiles ⟨3, ![4, 960, 1024]⟩ ⟨3, ![32, 960, 1024]⟩ 0 8} {T' : Layout.Tiles ⟨3, ![3, 960, 1024]⟩ ⟨3, ![24, 960, 1024]⟩ 0 8}
    (h : ∀ c : Dev nD, m ((c : Thread nD τ).loc main_arg6) = Layout.block ⟨3, ![4, 960, 1024]⟩ ⟨3, ![32, 960, 1024]⟩ 0 8 c x T)
    (c : Dev nD) : far m c = Layout.block ⟨3, ![3, 960, 1024]⟩ ⟨3, ![24, 960, 1024]⟩ 0 8 c (swapped x) T' := by
  suffices H : ∀ (k : Fin 3) (a : Fin 960) (b : Fin 1024), far m c (ix3 k a b)
      = Layout.block ⟨3, ![3, 960, 1024]⟩ ⟨3, ![24, 960, 1024]⟩ 0 8 c (swapped x) T' (ix3 k a b) from
    funext fun i => by
      rw [eq_ix3 i]
      exact H (i 0) (i 1) (i 2)
  intro k a b
  have hc8 : c.val < 8 := c.isLt
  have hk := k.isLt
  have hs := across_others k c
  have hw := swapped_apply x ⟨c.val / 2, by omega⟩ ⟨c.val % 2, by omega⟩ k a b ⟨c.val * 3 + k.val, by omega⟩
    ⟨(acrossF k c).val * 4 + c.val / 2, by have : (acrossF k c).val < 8 := (acrossF k c).isLt; omega⟩
    (by show c.val * 3 + k.val = 6 * (c.val / 2) + 3 * (c.val % 2) + k.val; omega)
    (by show (acrossF k c).val * 4 + c.val / 2 = 8 * _ + 4 * (c.val % 2) + c.val / 2; omega)
  show m ((acrossF k c : Thread nD τ).loc main_arg6) (ix3 (⟨c.val / 2, by omega⟩ : Fin 4) a b) = _
  rw [h (acrossF k c), Layout.block_apply, Layout.block_apply]
  exact ((congrArg (swapped x) (funext fun d => Fin.ext (by rw [Layout.Tiles.idx_val]; match d with | 0 => rfl | 1 => rfl | 2 => rfl))).trans hw |>.trans
    (congrArg x (funext fun d => Fin.ext (by rw [Layout.Tiles.idx_val]; match d with | 0 => rfl | 1 => rfl | 2 => rfl)))).symm

end Cert.Proof.InBwd

end
-- ==== Proof.InBwdClaims.lean ====
/-
  The claims about the backward of the input projection, from its run and its values.
-/
module

public import proofs.«01_k».proof.Defs
public import proofs.«01_k».proof.Proof.InBwdValue
public import proofs.«01_k».proof.Proof.InBwdFar
public import proofs.«01_k».proof.Proof.Gen.InBwd
public import Idealize.ShloMosaic.Adequacy
public import Idealize.ShloMosaic.Init

@[expose] public section

noncomputable section

namespace Cert.Proof.InBwd

open Idealize.ShloMosaic Idealize.ShloMosaic.TcCoe Idealize.SL.Sem
open Idealize.ShloMosaic.Pipeline (Dat)

section
variable {F : FTy → Type} [FloatOps F]
open Cert.InBwdIdeal Cert.InBwdIdeal.Gen

/-- The run, array by array. -/
theorem run_arrays (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      (r.2.mem ((c.tc : Thread nD τ).loc main_v1_0) = (dats m 0 c).arrAt 6 (cfgs 0).N
        ∧ r.2.mem ((c.tc : Thread nD τ).loc main_v1_1) = (dats m 0 c).arrAt 7 (cfgs 0).N
        ∧ r.2.mem ((c.tc : Thread nD τ).loc main_v1_2) = far m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun _ h => ⟨fun c => ⟨⟨(h.1 c).1 6, (h.1 c).1 7, (h.1 c).2.1⟩,
      ((h.1 c).1 0).trans ((dats m 0 c).arrAt_in 0 rfl _), ((h.1 c).1 1).trans ((dats m 0 c).arrAt_in 1 rfl _),
      ((h.1 c).1 2).trans ((dats m 0 c).arrAt_in 2 rfl _), ((h.1 c).1 3).trans ((dats m 0 c).arrAt_in 3 rfl _),
      ((h.1 c).1 4).trans ((dats m 0 c).arrAt_in 4 rfl _), ((h.1 c).1 5).trans ((dats m 0 c).arrAt_in 5 rfl _),
      (h.1 c).2.2⟩, h.2⟩) (run_main m ρ)
end

/-- The two printed programs call the same body. -/
theorem bodies_eq : Cert.InBwd.defs₀ (F := Bits) = Cert.InBwdIdeal.defs₀ (F := Bits) := by
  unfold Cert.InBwd.defs₀ Cert.InBwdIdeal.defs₀
  congr 1
  funext l
  match l with
  | 0 => rfl
theorem defs_eq : Cert.InBwd.defs (F := Bits) = Cert.InBwdIdeal.defs (F := Bits) := congrArg (Pipeline.defs _) bodies_eq

theorem frame : Cert.quiescent_InBwd := fun m ρ _ => by
  have h := (θ_run Cert.InBwdIdeal.defs _ _).mono (fun _ h => (⟨fun c => (h.1 c).2, h.2⟩ : (∀ c, _) ∧ _)) (run_arrays (F := Bits) m ρ)
  rw [← defs_eq] at h
  exact h

theorem frame_ideal : Cert.quiescent_InBwdIdeal := fun m ρ _ =>
  (θ_run Cert.InBwdIdeal.defs _ _).mono (fun _ h => ⟨fun c => (h.1 c).2, h.2⟩) (run_arrays (F := Ideal) m ρ)

theorem frame_ref_ideal : Cert.quiescent_InBwdRefIdeal := fun m ρ _ =>
  (θ_run Cert.InBwdRefIdeal.defs _ _).mono (fun r h => ⟨fun c => (h c).2.2.2, sem_eq_zero_of_no_sems (by decide) r.2⟩)
    (Cert.InBwdRefIdeal.Value.run (F := Ideal) m ρ)

theorem algebraic : Cert.algebraic_InBwdIdeal_InBwdRefIdeal := fun m g m' g' _ h =>
  ⟨_, _, _,
    (θ_run Cert.InBwdIdeal.defs _ _).mono (fun _ hr c =>
      ⟨(hr.1 c).1.1.trans (dx_block m _ _ _ _ _ _ c (h c).1 (h c).2.1 (h c).2.2.1 (h c).2.2.2.1 (h c).2.2.2.2.1 (h c).2.2.2.2.2.1),
        (hr.1 c).1.2.1.trans (dg_block m _ _ _ _ c (h c).1 (h c).2.1 (h c).2.2.1 (h c).2.2.2.1),
        (hr.1 c).1.2.2.trans (far_block m _ (fun c => (h c).2.2.2.2.2.2) c), (hr.1 c).2⟩) (run_arrays (F := Ideal) m g),
    (θ_run Cert.InBwdRefIdeal.defs _ _).mono (fun _ hr => ⟨(hr 0).1, (hr 0).2.1, (hr 0).2.2.1.trans (res_swapped m' 0), (hr 0).2.2.2⟩)
      (Cert.InBwdRefIdeal.Value.run (F := Ideal) m' g')⟩

end Cert.Proof.InBwd

end
-- ==== Proof.Norm.lean ====
/-
  The first normalisation with the rotary tables and the gather of a weight beside it (`Norm`): at its first grid point a
  device puts its own rows of the weight in place and sends them to its sibling core and to the same core of the three
  other chips, over the grid it computes; at the thirteenth it passes what arrived from the other chips on to its
  sibling; at the last it waits for what is still under way. The run, over any float values.
-/
module

public import proofs.«01_k».proof.Proof.Wire
public import proofs.«01_k».proof.Proof.Own
public import proofs.«01_k».proof.Proof.Gen.NormIdeal.Frame
public import proofs.«01_k».proof.Proof.Gen.NormIdeal.Skeleton
public import Idealize.ShloMosaic.Lib.Pipeline.Value
public import Idealize.ShloMosaic.Lib.ValueIdxRank6

@[expose] public section

noncomputable section

namespace Cert.Proof.Norm

open Cert.NormIdeal Cert.NormIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Idealize.ShloMosaic.ValueIdx

set_option Elab.async false
variable {F : FTy → Type} [FloatOps F]

local notation "𝕄" => MT nD τ sig Unit (Elt F) ℕ (Wire.UU nD τ sig) ℕ

/-! ## The protocol -/

/-- The devices as one of them sees them: itself, its sibling core, its own core's counterparts on the three other chips,
    and the siblings of those. -/
def nbF (k : Fin 8) (c : Dev nD) : Dev nD := ⟨c.val ^^^ (![0, 1, 4, 2, 6, 5, 3, 7] : Fin 8 → ℕ) k, by revert c k; decide⟩
theorem nb_nb : ∀ (k : Fin 8) (c : Dev nD), nbF k (nbF k c) = c := by decide
def nb (k : Fin 8) : Equiv.Perm (Dev nD) := ⟨nbF k, nbF k, nb_nb k, nb_nb k⟩
theorem nb_inj : ∀ (c : Dev nD) (k l : Fin 8), nbF k c = nbF l c → k = l := by decide
theorem nb_all : ∀ c d : Dev nD, ∃ k : Fin 8, nbF k c = d := by decide
theorem nb_one_5 : ∀ c : Dev nD, nbF 5 (nbF 1 c) = nbF 2 c := by decide
theorem nb_one_6 : ∀ c : Dev nD, nbF 6 (nbF 1 c) = nbF 3 c := by decide
theorem nb_one_7 : ∀ c : Dev nD, nbF 7 (nbF 1 c) = nbF 4 c := by decide

abbrev snd0 : DmaSems sig S_ := (cc0_scratch0.slice (Rect.unit (s := S1x7) ![0, 0] S1x1.size inb_S1x7_S1x1_0_0)).squeeze S_ squeezes_S1x1_S_
abbrev snd1 : DmaSems sig S_ := (cc0_scratch0.slice (Rect.unit (s := S1x7) ![0, 1] S1x1.size inb_S1x7_S1x1_0_1)).squeeze S_ squeezes_S1x1_S_
abbrev snd2 : DmaSems sig S_ := (cc0_scratch0.slice (Rect.unit (s := S1x7) ![0, 2] S1x1.size inb_S1x7_S1x1_0_2)).squeeze S_ squeezes_S1x1_S_
abbrev snd3 : DmaSems sig S_ := (cc0_scratch0.slice (Rect.unit (s := S1x7) ![0, 3] S1x1.size inb_S1x7_S1x1_0_3)).squeeze S_ squeezes_S1x1_S_
abbrev snd4 : DmaSems sig S_ := (cc0_scratch0.slice (Rect.unit (s := S1x7) ![0, 4] S1x1.size inb_S1x7_S1x1_0_4)).squeeze S_ squeezes_S1x1_S_
abbrev snd5 : DmaSems sig S_ := (cc0_scratch0.slice (Rect.unit (s := S1x7) ![0, 5] S1x1.size inb_S1x7_S1x1_0_5)).squeeze S_ squeezes_S1x1_S_
abbrev snd6 : DmaSems sig S_ := (cc0_scratch0.slice (Rect.unit (s := S1x7) ![0, 6] S1x1.size inb_S1x7_S1x1_0_6)).squeeze S_ squeezes_S1x1_S_
abbrev rcv0 : DmaSems sig S_ := (cc0_scratch1.slice (Rect.unit (s := S1x7) ![0, 0] S1x1.size inb_S1x7_S1x1_0_0)).squeeze S_ squeezes_S1x1_S_
abbrev rcv1 : DmaSems sig S_ := (cc0_scratch1.slice (Rect.unit (s := S1x7) ![0, 1] S1x1.size inb_S1x7_S1x1_0_1)).squeeze S_ squeezes_S1x1_S_
abbrev rcv2 : DmaSems sig S_ := (cc0_scratch1.slice (Rect.unit (s := S1x7) ![0, 2] S1x1.size inb_S1x7_S1x1_0_2)).squeeze S_ squeezes_S1x1_S_
abbrev rcv3 : DmaSems sig S_ := (cc0_scratch1.slice (Rect.unit (s := S1x7) ![0, 3] S1x1.size inb_S1x7_S1x1_0_3)).squeeze S_ squeezes_S1x1_S_
abbrev rcv4 : DmaSems sig S_ := (cc0_scratch1.slice (Rect.unit (s := S1x7) ![0, 4] S1x1.size inb_S1x7_S1x1_0_4)).squeeze S_ squeezes_S1x1_S_
abbrev rcv5 : DmaSems sig S_ := (cc0_scratch1.slice (Rect.unit (s := S1x7) ![0, 5] S1x1.size inb_S1x7_S1x1_0_5)).squeeze S_ squeezes_S1x1_S_
abbrev rcv6 : DmaSems sig S_ := (cc0_scratch1.slice (Rect.unit (s := S1x7) ![0, 6] S1x1.size inb_S1x7_S1x1_0_6)).squeeze S_ squeezes_S1x1_S_
abbrev lcl : DmaSems sig S_ := (cc0_scratch2.slice (Rect.unit (s := S1) ![0] S1.size inb_S1_S1_0)).squeeze S_ squeezes_S1_S_

/-- Kinds 0 to 6 are the read-outs of the device's own sends, kinds 7 to 13 the arrivals, kind 14 the copy of its own
    rows. The rows passed on are waited for last. -/
def plan : Wire.Plan nD sig (Fin 15) where
  sem := ![.dma snd0.sem, .dma snd1.sem, .dma snd2.sem, .dma snd3.sem, .dma snd4.sem, .dma snd5.sem, .dma snd6.sem,
    .dma rcv0.sem, .dma rcv1.sem, .dma rcv2.sem, .dma rcv3.sem, .dma rcv4.sem, .dma rcv5.sem, .dma rcv6.sem, .dma lcl.sem]
  amt _ := (Memref.whole main_arg4).view.dmaCredit
  peer := ![Equiv.refl _, Equiv.refl _, Equiv.refl _, Equiv.refl _, Equiv.refl _, Equiv.refl _, Equiv.refl _, nb 1, nb 2, nb 3, nb 4, nb 1, nb 1, nb 1, Equiv.refl _]
  away := ![false, false, false, false, false, false, false, true, true, true, true, true, true, true, false]
  lev := ![1, 1, 1, 1, 1, 1, 1, 2, 2, 2, 2, 3, 3, 3, 1]
  inj := by decide
  pos _ := by decide

theorem ownSems : Pipeline.OwnSemFacts (cfgs 0).spec plan.sem := by decide

variable (m : (ℓ : Loc nD τ sig) → Buf (Elt F) ℓ) (ρ : Dev nD → PrngReg)

/-- The gathered weight: every device's rows at its place. -/
def gathered : S7680x1024.Idx → Elt F .bf16 := fun x =>
  m (((⟨(x 0).val / 960, by have : (x 0).val < 7680 := (x 0).isLt; show _ < 8; omega⟩ : Dev nD) : Thread nD τ).loc main_arg4) (ix2 (⟨(x 0).val % 960, Nat.mod_lt _ (by decide)⟩ : Fin 960) (x 1))

/-! ## The rows -/

/-- The rows of a device's place. -/
def rows (d : Dev nD) : Finset S7680x1024.Idx := Finset.univ.filter fun x => (x 0).val / 960 = d.val
/-- The view of a block of rows. -/
abbrev blk (off : Fin 2 → ℕ) (inb : ∀ a, off a + S960x1024.size a ≤ S7680x1024.size a) : Memref sig .tc .hbm S960x1024 .bf16 :=
  (Memref.whole main_v1_4).slice (Rect.unit (s := S7680x1024) off S960x1024.size inb) (fun _ => rfl)

theorem set_blk {off : Fin 2 → ℕ} {inb} {d : Dev nD} (h : off = ![d.val * 960, 0]) : (blk off inb).view.set = rows d := by
  subst h
  ext x
  refine (Finset.ext_iff.mp (View.set_slice_whole _ _) x).trans (Rect.mem_set_unit.trans (.trans ?_ (Finset.mem_filter.trans ⟨fun h => h.2, fun h => ⟨Finset.mem_univ _, h⟩⟩).symm))
  constructor
  · intro h
    have := h (0 : Fin 2)
    have h1 : d.val * 960 ≤ (x 0).val := this.1
    have h2 : (x 0).val < d.val * 960 + 960 := this.2
    omega
  · intro h
    have H : ∀ a : Fin 2, (![d.val * 960, 0] : Fin 2 → ℕ) a ≤ (x a).val ∧ (x a).val < (![d.val * 960, 0] : Fin 2 → ℕ) a + (![960, 1024] : Fin 2 → ℕ) a := fun
      | 0 => ⟨by show d.val * 960 ≤ (x 0).val; omega, by show (x 0).val < d.val * 960 + 960; omega⟩
      | 1 => ⟨Nat.zero_le _, by show (x 1).val < 0 + 1024; have : (x 1).val < 1024 := (x 1).isLt; omega⟩
    exact H
/-- What a block reads of the gathered weight. -/
theorem read_blk {off : Fin 2 → ℕ} {inb} {d : Dev nD} (h : off = ![d.val * 960, 0]) (a : Fin 960) (b : Fin 1024) :
    (blk off inb).view.read (Elt F) (gathered m) (ix2 a b) = m ((d : Thread nD τ).loc main_arg4) (ix2 a b) := by
  subst h
  have hd : d.val < 8 := d.isLt
  have h1 : (d.val * 960 + a.val) / 960 = d.val := by omega
  have h2 : (d.val * 960 + a.val) % 960 = a.val := by omega
  have e : (blk ![d.val * 960, 0] inb).view.read (Elt F) (gathered m) (ix2 a b) = gathered m (ix2 (⟨d.val * 960 + a.val, by omega⟩ : Fin 7680) b) := by
    refine congrArg (gathered m) (funext fun p => Fin.ext ?_)
    have H : ∀ p : Fin 2, (![d.val * 960, 0] : Fin 2 → ℕ) p + 1 * (ix2 a b p).val = (ix2 (⟨d.val * 960 + a.val, by omega⟩ : Fin 7680) b p).val := fun
      | 0 => by show d.val * 960 + 1 * a.val = d.val * 960 + a.val; omega
      | 1 => by show 0 + 1 * b.val = b.val; omega
    exact H p
  refine e.trans ?_
  unfold gathered
  have h3 : (⟨(d.val * 960 + a.val) / 960, by show _ < 8; omega⟩ : Dev nD) = d := Fin.ext h1
  have h4 : (⟨(d.val * 960 + a.val) % 960, Nat.mod_lt _ (by decide)⟩ : Fin 960) = a := Fin.ext h2
  show m (((⟨(d.val * 960 + a.val) / 960, _⟩ : Dev nD) : Thread nD τ).loc main_arg4) (ix2 (⟨(d.val * 960 + a.val) % 960, _⟩ : Fin 960) b) = _
  rw [h3, h4]

theorem at_rows {off : Fin 2 → ℕ} {inb} {d : Dev nD} (h : off = ![d.val * 960, 0]) (p : Dev nD) (g : Buf (Elt F) ((p : Thread nD τ).loc main_v1_4)) :
    ((p : Thread nD τ).loc main_v1_4 ↦[(blk off inb).view.set]{fullShare} g : sProp 𝕄) = ((p : Thread nD τ).loc main_v1_4 ↦[rows d]{fullShare} g) := by
  rw [set_blk h]
/-- A device's rows, once they have landed at their place. -/
theorem land {off : Fin 2 → ℕ} {inb} {d d' : Dev nD} (h : off = ![d.val * 960, 0]) (hd : d = d') (p : Dev nD) (fd : Buf (Elt F) ((p : Thread nD τ).loc main_v1_4))
    (v : S960x1024.Idx → Elt F .bf16) (hv : ∀ (a : Fin 960) (b : Fin 1024), v (ix2 a b) = m ((d' : Thread nD τ).loc main_arg4) (ix2 a b)) :
    ((p : Thread nD τ).loc main_v1_4 ↦[(blk off inb).view.set]{fullShare} (blk off inb).view.write (Elt F) fd v Finset.univ : sProp 𝕄)
      = ((p : Thread nD τ).loc main_v1_4 ↦[rows d]{fullShare} gathered m) :=
  (Own.landed (p : Thread nD τ) (blk off inb) fd (gathered m) v (funext fun i => by
    rw [eq_ix2 i]; exact (read_blk m h (i 0) (i 1)).trans (by rw [hd]; exact (hv (i 0) (i 1)).symm))).trans (at_rows h p _)

/-! ## The payloads -/

/-- A fifth of a share, and what is left after it. -/
abbrev q0 : PosShare TreeShare := fullShare.left
abbrev q1 : PosShare TreeShare := fullShare.right.left
abbrev q2 : PosShare TreeShare := fullShare.right.right.left
abbrev q3 : PosShare TreeShare := fullShare.right.right.right.left
abbrev q4 : PosShare TreeShare := fullShare.right.right.right.right

def pay (c : Dev nD) (k : Fin 15) : sProp 𝕄 := match k with
  | 0 => (((c : Thread nD τ).loc main_arg4) ↦{q0} m ((c : Thread nD τ).loc main_arg4))
  | 1 => (((c : Thread nD τ).loc main_arg4) ↦{q1} m ((c : Thread nD τ).loc main_arg4))
  | 2 => (((c : Thread nD τ).loc main_arg4) ↦{q2} m ((c : Thread nD τ).loc main_arg4))
  | 3 => (((c : Thread nD τ).loc main_arg4) ↦{q3} m ((c : Thread nD τ).loc main_arg4))
  | 4 => ((c : Thread nD τ).loc main_v1_4 ↦[rows (nbF 2 c)]{fullShare} gathered m)
  | 5 => ((c : Thread nD τ).loc main_v1_4 ↦[rows (nbF 3 c)]{fullShare} gathered m)
  | 6 => ((c : Thread nD τ).loc main_v1_4 ↦[rows (nbF 4 c)]{fullShare} gathered m)
  | 7 => ((c : Thread nD τ).loc main_v1_4 ↦[rows (nbF 1 c)]{fullShare} gathered m)
  | 8 => ((c : Thread nD τ).loc main_v1_4 ↦[rows (nbF 2 c)]{fullShare} gathered m)
  | 9 => ((c : Thread nD τ).loc main_v1_4 ↦[rows (nbF 3 c)]{fullShare} gathered m)
  | 10 => ((c : Thread nD τ).loc main_v1_4 ↦[rows (nbF 4 c)]{fullShare} gathered m)
  | 11 => ((c : Thread nD τ).loc main_v1_4 ↦[rows (nbF 5 c)]{fullShare} gathered m)
  | 12 => ((c : Thread nD τ).loc main_v1_4 ↦[rows (nbF 6 c)]{fullShare} gathered m)
  | 13 => ((c : Thread nD τ).loc main_v1_4 ↦[rows (nbF 7 c)]{fullShare} gathered m)
  | 14 => iprop(((c : Thread nD τ).loc main_v1_4 ↦[rows (nbF 0 c)]{fullShare} gathered m) ∗ (((c : Thread nD τ).loc main_arg4) ↦{q4} m ((c : Thread nD τ).loc main_arg4)))

instance pay_storable (c : Dev nD) (k : Fin 15) : BI.Storable (upEmb : UEmb _ 𝕄) (pay m c k) := by
  unfold pay
  split <;> infer_instance

theorem pay_0 (c : Dev nD) : pay m c 0 = (((c : Thread nD τ).loc main_arg4) ↦{q0} m ((c : Thread nD τ).loc main_arg4)) := rfl
theorem pay_1 (c : Dev nD) : pay m c 1 = (((c : Thread nD τ).loc main_arg4) ↦{q1} m ((c : Thread nD τ).loc main_arg4)) := rfl
theorem pay_2 (c : Dev nD) : pay m c 2 = (((c : Thread nD τ).loc main_arg4) ↦{q2} m ((c : Thread nD τ).loc main_arg4)) := rfl
theorem pay_3 (c : Dev nD) : pay m c 3 = (((c : Thread nD τ).loc main_arg4) ↦{q3} m ((c : Thread nD τ).loc main_arg4)) := rfl
theorem pay_4 (c : Dev nD) : pay m c 4 = ((c : Thread nD τ).loc main_v1_4 ↦[rows (nbF 2 c)]{fullShare} gathered m) := rfl
theorem pay_5 (c : Dev nD) : pay m c 5 = ((c : Thread nD τ).loc main_v1_4 ↦[rows (nbF 3 c)]{fullShare} gathered m) := rfl
theorem pay_6 (c : Dev nD) : pay m c 6 = ((c : Thread nD τ).loc main_v1_4 ↦[rows (nbF 4 c)]{fullShare} gathered m) := rfl
theorem pay_7 (c : Dev nD) : pay m c 7 = ((c : Thread nD τ).loc main_v1_4 ↦[rows (nbF 1 c)]{fullShare} gathered m) := rfl
theorem pay_8 (c : Dev nD) : pay m c 8 = ((c : Thread nD τ).loc main_v1_4 ↦[rows (nbF 2 c)]{fullShare} gathered m) := rfl
theorem pay_9 (c : Dev nD) : pay m c 9 = ((c : Thread nD τ).loc main_v1_4 ↦[rows (nbF 3 c)]{fullShare} gathered m) := rfl
theorem pay_10 (c : Dev nD) : pay m c 10 = ((c : Thread nD τ).loc main_v1_4 ↦[rows (nbF 4 c)]{fullShare} gathered m) := rfl
theorem pay_11 (c : Dev nD) : pay m c 11 = ((c : Thread nD τ).loc main_v1_4 ↦[rows (nbF 5 c)]{fullShare} gathered m) := rfl
theorem pay_12 (c : Dev nD) : pay m c 12 = ((c : Thread nD τ).loc main_v1_4 ↦[rows (nbF 6 c)]{fullShare} gathered m) := rfl
theorem pay_13 (c : Dev nD) : pay m c 13 = ((c : Thread nD τ).loc main_v1_4 ↦[rows (nbF 7 c)]{fullShare} gathered m) := rfl
theorem pay_14 (c : Dev nD) : pay m c 14 = iprop(((c : Thread nD τ).loc main_v1_4 ↦[rows (nbF 0 c)]{fullShare} gathered m) ∗ (((c : Thread nD τ).loc main_arg4) ↦{q4} m ((c : Thread nD τ).loc main_arg4))) := rfl

/-- A result cut in the devices' blocks. -/
theorem cut_out (c : Dev nD) (g : Buf (Elt F) ((c : Thread nD τ).loc main_v1_4)) :
    ((c : Thread nD τ).loc main_v1_4 ↦{fullShare} g : sProp 𝕄)
      = iprop(((c : Thread nD τ).loc main_v1_4 ↦[rows (nbF 0 c)]{fullShare} g) ∗ ((c : Thread nD τ).loc main_v1_4 ↦[rows (nbF 1 c)]{fullShare} g) ∗ ((c : Thread nD τ).loc main_v1_4 ↦[rows (nbF 2 c)]{fullShare} g) ∗ ((c : Thread nD τ).loc main_v1_4 ↦[rows (nbF 3 c)]{fullShare} g) ∗ ((c : Thread nD τ).loc main_v1_4 ↦[rows (nbF 4 c)]{fullShare} g) ∗ ((c : Thread nD τ).loc main_v1_4 ↦[rows (nbF 5 c)]{fullShare} g) ∗ ((c : Thread nD τ).loc main_v1_4 ↦[rows (nbF 6 c)]{fullShare} g) ∗ ((c : Thread nD τ).loc main_v1_4 ↦[rows (nbF 7 c)]{fullShare} g)) := by
  have hu : (Finset.univ : Finset (Fin 8)).biUnion (fun k => rows (nbF k c)) = Finset.univ := Finset.eq_univ_iff_forall.mpr fun x => by
    have hx : (x 0).val < 7680 := (x 0).isLt
    obtain ⟨k, hk⟩ := nb_all c ⟨(x 0).val / 960, by show _ < 8; omega⟩
    exact Finset.mem_biUnion.mpr ⟨k, Finset.mem_univ _, Finset.mem_filter.mpr ⟨Finset.mem_univ _, by rw [hk]⟩⟩
  have hA := pointsTo_biUnion (nD := nD) (τ := τ) (sig := sig) (Val := Elt F) (Ix := Unit) (Name := ℕ) (U := Wire.UU nD τ sig) (Lvl := ℕ)
    (ℓ := (c : Thread nD τ).loc main_v1_4) (q := fullShare) (f := g) (Finset.univ : Finset (Fin 8)) (fun k => rows (nbF k c)) (fun k _ l _ hkl => Finset.disjoint_left.mpr fun x h1 h2 =>
      hkl (nb_inj c k l (Fin.ext ((Finset.mem_filter.mp h1).2.symm.trans (Finset.mem_filter.mp h2).2))))
  rw [hu, bigSep_W0] at hA
  exact hA

/-- What is sent to four devices and put in place, in five shares. -/
theorem cut_src (c : Dev nD) (g : Buf (Elt F) ((c : Thread nD τ).loc main_arg4)) :
    ((c : Thread nD τ).loc main_arg4 ↦{fullShare} g : sProp 𝕄)
      ⊣⊢ iprop(((c : Thread nD τ).loc main_arg4 ↦{q0} g) ∗ ((c : Thread nD τ).loc main_arg4 ↦{q1} g) ∗ ((c : Thread nD τ).loc main_arg4 ↦{q2} g) ∗ ((c : Thread nD τ).loc main_arg4 ↦{q3} g) ∗ ((c : Thread nD τ).loc main_arg4 ↦{q4} g)) := by
  have h (q : PosShare TreeShare) := pointsTo_share (nD := nD) (τ := τ) (sig := sig) (Val := Elt F) (Ix := Unit) (Name := ℕ) (U := Wire.UU nD τ sig) (Lvl := ℕ)
    (ℓ := (c : Thread nD τ).loc main_arg4) (I := Finset.univ) (f := g) (PosShare.mem_left_op_right q)
  exact (h _).trans (sep_congr .rfl ((h _).trans (sep_congr .rfl ((h _).trans (sep_congr .rfl (h _))))))

theorem src_whole (c : Dev nD) (q : PosShare TreeShare) (g : Buf (Elt F) ((c : Thread nD τ).loc main_arg4)) :
    ((c : Thread nD τ).loc main_arg4 ↦[(Memref.whole main_arg4).view.set]{q} g : sProp 𝕄) = ((c : Thread nD τ).loc main_arg4 ↦{q} g) :=
  congrArg (fun I : Finset S960x1024.Idx => ((c : Thread nD τ).loc main_arg4 ↦[I]{q} g : sProp 𝕄)) (View.set_whole main_arg4)

/-! ## The body -/

abbrev 𝒱₀ : Variants := Variants.none
abbrev P1 : Finset (Fin 15) := {4, 5, 6, 11, 12, 13}
abbrev W2 : Finset (Fin 15) := {0, 1, 2, 3, 4, 5, 6, 7, 11, 12, 13, 14}

/-- What a device has of the gather before its first point, -/
def before (κ : Dev nD × Fin 15 → ℕ) (c : Dev nD) : sProp 𝕄 :=
  iprop(Wire.hold plan (pay m) κ c Finset.univ Finset.univ ∗ (((c : Thread nD τ).loc main_arg4) ↦{fullShare} m ((c : Thread nD τ).loc main_arg4))
    ∗ ((c : Thread nD τ).loc main_v1_4 ↦[rows (nbF 0 c)]{fullShare} m ((c : Thread nD τ).loc main_v1_4))
    ∗ ((nbF 1 c : Thread nD τ).loc main_v1_4 ↦[rows (nbF 1 (nbF 1 c))]{fullShare} m ((nbF 1 c : Thread nD τ).loc main_v1_4))
    ∗ ((nbF 2 c : Thread nD τ).loc main_v1_4 ↦[rows (nbF 2 (nbF 2 c))]{fullShare} m ((nbF 2 c : Thread nD τ).loc main_v1_4))
    ∗ ((nbF 3 c : Thread nD τ).loc main_v1_4 ↦[rows (nbF 3 (nbF 3 c))]{fullShare} m ((nbF 3 c : Thread nD τ).loc main_v1_4))
    ∗ ((nbF 4 c : Thread nD τ).loc main_v1_4 ↦[rows (nbF 4 (nbF 4 c))]{fullShare} m ((nbF 4 c : Thread nD τ).loc main_v1_4))
    ∗ ((nbF 1 c : Thread nD τ).loc main_v1_4 ↦[rows (nbF 5 (nbF 1 c))]{fullShare} m ((nbF 1 c : Thread nD τ).loc main_v1_4))
    ∗ ((nbF 1 c : Thread nD τ).loc main_v1_4 ↦[rows (nbF 6 (nbF 1 c))]{fullShare} m ((nbF 1 c : Thread nD τ).loc main_v1_4))
    ∗ ((nbF 1 c : Thread nD τ).loc main_v1_4 ↦[rows (nbF 7 (nbF 1 c))]{fullShare} m ((nbF 1 c : Thread nD τ).loc main_v1_4)))
/-- until it passes on what arrived, -/
def during (κ : Dev nD × Fin 15 → ℕ) (c : Dev nD) : sProp 𝕄 :=
  iprop(Wire.hold plan (pay m) κ c P1 Finset.univ
    ∗ ((nbF 1 c : Thread nD τ).loc main_v1_4 ↦[rows (nbF 5 (nbF 1 c))]{fullShare} m ((nbF 1 c : Thread nD τ).loc main_v1_4))
    ∗ ((nbF 1 c : Thread nD τ).loc main_v1_4 ↦[rows (nbF 6 (nbF 1 c))]{fullShare} m ((nbF 1 c : Thread nD τ).loc main_v1_4))
    ∗ ((nbF 1 c : Thread nD τ).loc main_v1_4 ↦[rows (nbF 7 (nbF 1 c))]{fullShare} m ((nbF 1 c : Thread nD τ).loc main_v1_4)))
/-- from then on, -/
def passing (κ : Dev nD × Fin 15 → ℕ) (c : Dev nD) : sProp 𝕄 := Wire.hold plan (pay m) κ c ∅ W2
/-- and after its last. -/
def kept (c : Dev nD) : sProp 𝕄 :=
  iprop((((c : Thread nD τ).loc main_arg4) ↦{fullShare} m ((c : Thread nD τ).loc main_arg4)) ∗ (((c : Thread nD τ).loc main_v1_4) ↦{fullShare} gathered m))

/-- The gather before each point. -/
def talk (κ : Dev nD × Fin 15 → ℕ) (c : Dev nD) (n : ℕ) : sProp 𝕄 :=
  if n = 0 then iprop(before m κ c ∗ Wire.debt plan c Finset.univ) else if n ≤ 12 then iprop(during m κ c ∗ Wire.debt plan c P1)
    else iprop(passing m κ c ∗ Wire.debt plan c ∅)
/-- The gather after each point. -/
def talkOut (κ : Dev nD × Fin 15 → ℕ) (c : Dev nD) (t : Fin cfg0.N) : sProp 𝕄 :=
  if t.val = 15 then iprop(kept m c ∗ Pipeline.ownSems0 plan.sem c ∗ ∃ Ws : Waits sig Unit, owes (c : Thread nD τ) 0 Ws) else talk m κ c (t.val + 1)

theorem lt16 (t : Fin cfg0.N) : t.val < 16 := t.isLt
theorem cond1_iff : ∀ t : Fin cfg0.N, k0_cond1 (grid0.coords t) = 1#1 ↔ t.val = 0 := by decide
theorem cond2_iff : ∀ t : Fin cfg0.N, k0_cond2 (grid0.coords t) = 1#1 ↔ t.val = 12 := by decide
theorem cond3_iff : ∀ t : Fin cfg0.N, k0_cond3 (grid0.coords t) = 1#1 ↔ t.val = 15 := by decide

theorem route7 (c : Dev nD) : τ.routes (c : Thread nD τ) ((plan.peer 7 c : Dev nD) : Thread nD τ) = true := by revert c; decide
theorem route8 (c : Dev nD) : τ.routes (c : Thread nD τ) ((plan.peer 8 c : Dev nD) : Thread nD τ) = true := by revert c; decide
theorem route9 (c : Dev nD) : τ.routes (c : Thread nD τ) ((plan.peer 9 c : Dev nD) : Thread nD τ) = true := by revert c; decide
theorem route10 (c : Dev nD) : τ.routes (c : Thread nD τ) ((plan.peer 10 c : Dev nD) : Thread nD τ) = true := by revert c; decide
theorem route11 (c : Dev nD) : τ.routes (c : Thread nD τ) ((plan.peer 11 c : Dev nD) : Thread nD τ) = true := by revert c; decide
theorem route12 (c : Dev nD) : τ.routes (c : Thread nD τ) ((plan.peer 12 c : Dev nD) : Thread nD τ) = true := by revert c; decide
theorem route13 (c : Dev nD) : τ.routes (c : Thread nD τ) ((plan.peer 13 c : Dev nD) : Thread nD τ) = true := by revert c; decide

theorem dev1 : ∀ c : Dev nD, k0_dev1 c = (nbF 1 c).val := by decide
theorem dev2 : ∀ c : Dev nD, k0_dev2 c = (nbF 2 c).val := by decide
theorem dev3 : ∀ c : Dev nD, k0_dev3 c = (nbF 3 c).val := by decide
theorem dev4 : ∀ c : Dev nD, k0_dev4 c = (nbF 4 c).val := by decide
theorem dev5 : ∀ c : Dev nD, k0_dev5 c = (nbF 1 c).val := by decide
theorem dev6 : ∀ c : Dev nD, k0_dev6 c = (nbF 1 c).val := by decide
theorem dev7 : ∀ c : Dev nD, k0_dev7 c = (nbF 1 c).val := by decide
theorem off1 : ∀ (k : Fin 5) (c : Dev nD), k0_off1 c = ![(nbF ⟨k.val, by omega⟩ (nbF ⟨k.val, by omega⟩ c)).val * 960, 0] := by decide
theorem off2 : ∀ c : Dev nD, k0_off2 c = ![(nbF 2 c).val * 960, 0] := by decide
theorem off2_there : ∀ c : Dev nD, k0_off2 c = ![(nbF 5 (nbF 1 c)).val * 960, 0] := by decide
theorem off3 : ∀ c : Dev nD, k0_off3 c = ![(nbF 3 c).val * 960, 0] := by decide
theorem off3_there : ∀ c : Dev nD, k0_off3 c = ![(nbF 6 (nbF 1 c)).val * 960, 0] := by decide
theorem off4 : ∀ c : Dev nD, k0_off4 c = ![(nbF 4 c).val * 960, 0] := by decide
theorem off4_there : ∀ c : Dev nD, k0_off4 c = ![(nbF 7 (nbF 1 c)).val * 960, 0] := by decide
theorem off1_here : ∀ c : Dev nD, k0_off1 c = ![(nbF 0 c).val * 960, 0] := by decide
theorem nb_zero : ∀ c : Dev nD, nbF 0 c = c := by decide

section Body

variable (κ : Dev nD × Fin 15 → ℕ) (c : Dev nD) (t : Fin cfg0.N)
  (arg1 : Memref sig .tc .vmem S512x1024 .f32) (harg1 : arg1.IsWhole) (arg2 : Memref sig .tc .vmem S1x1024 .f32) (harg2 : arg2.IsWhole)
  (arg3 : Memref sig .tc .vmem S512x1 .i32) (harg3 : arg3.IsWhole) (arg4 : Memref sig .tc .vmem S1x128 .f32) (harg4 : arg4.IsWhole)
  (arg6 : Memref sig .tc .vmem S512x1024 .bf16) (harg6 : arg6.IsWhole) (arg7 : Memref sig .tc .vmem S512x128 .f32) (harg7 : arg7.IsWhole)
  (arg8 : Memref sig .tc .vmem S512x128 .f32) (harg8 : arg8.IsWhole) (arg9 : Memref sig .tc .vmem S512x128 .f32) (harg9 : arg9.IsWhole)
  (X1 : S512x1024.Idx → Elt F .f32) (X2 : S1x1024.Idx → Elt F .f32) (X3 : S512x1.Idx → Elt F .i32) (X4 : S1x128.Idx → Elt F .f32)
  (X6 : S512x1024.Idx → Elt F .bf16) (X7 X8 X9 : S512x128.Idx → Elt F .f32)

theorem debt_14 : (Wire.debt plan c Finset.univ : sProp 𝕄) = Wire.debt plan c (Finset.univ.erase 14) := by
  unfold Wire.debt
  rw [Wire.owe_drop plan rfl]

set_option maxHeartbeats 3200000 in
theorem first_part (Q : _ → sProp 𝕄) :
    iprop(talk m κ c t.val ∗ owns (c : Thread nD τ) arg1 fullShare X1 ∗ owns (c : Thread nD τ) arg2 fullShare X2
        ∗ (∀ r, ⌜r.2.1 = c ∧ r.2.2.2.2.2.2.2.2.2.2.1 = k0_pay3 X1 ∧ r.2.2.2.2.2.2.2.2.2.2.2 = k0_pay4 X2⌝ -∗ talk m κ c (t.val + 1) -∗ owns (c : Thread nD τ) arg1 fullShare X1 -∗ owns (c : Thread nD τ) arg2 fullShare X2 -∗ Q r))
      ⊢ wp frame (wpE (defs₀ (F := F)) 𝒱₀ (c : Thread nD τ) none) Set.univ
          (k0_part11 (grid0.coords t) arg1 harg1 arg2 harg2 arg3 harg3 arg4 harg4 (Memref.whole main_arg4) (Memref.isWhole_whole _) arg6 harg6 arg7 harg7 arg8 harg8 arg9 harg9 (Memref.whole main_v1_4) (Memref.isWhole_whole _) cc0_scratch0 cc0_scratch1 cc0_scratch2) Q := by
  simp only [k0_part11_eq_skeleton]; unfold k0_part11_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  have ht := lt16 t
  by_cases h1 : t.val = 0
  · have h2 : ¬ t.val = 12 := by omega
    rw [dif_pos ((cond1_iff t).mpr h1), dif_neg (fun h => h2 ((cond2_iff t).mp h))]
    unfold talk
    rw [if_pos h1, if_neg (Nat.succ_ne_zero _), if_pos (by omega)]

    unfold before during
    iintro ⟨⟨⟨Hh, Ha, Hb0, Hb1, Hb2, Hb3, Hb4, Hp⟩, Hd⟩, H1, H2, Hk⟩
    ihave Ha := (cut_src (F := F) c _).1 $$ Ha
    icases Ha with ⟨Hs0, Hs1, Hs2, Hs3, Hs4⟩
    iapply (Wire.hold_copy plan (pay m) κ c (defs₀ (F := F)) 𝒱₀ (src := Memref.whole main_arg4) (dst := blk (k0_off1 c) (k0_off1_inb _ c ((cond1_iff t).mpr h1))) 14 (P := Finset.univ) (W := Finset.univ)
      (fd := m ((c : Thread nD τ).loc main_v1_4)) (fs := m ((c : Thread nD τ).loc main_arg4)) (q := q4)
      rfl rfl rfl (Finset.mem_univ _) (Finset.mem_univ _) rfl
      (BI.sep_mono (Entails.of_eq (land m (off1_here c) (nb_zero c) c _ _ (fun _ _ => rfl))) (Entails.of_eq (src_whole (F := F) c q4 _)))) $$ [Hh Hs4 Hb0]
    · isplitl [Hh]; · iexact Hh
      isplitl [Hs4]; · iapply (Entails.of_eq (src_whole (F := F) c q4 _).symm); iexact Hs4
      iapply (Entails.of_eq (at_rows (off1_here c) c _).symm); iexact Hb0
    iintro Hh
    ihave Hd := (Entails.of_eq (debt_14 (F := F) c)) $$ Hd
    iapply (Wire.hold_send plan (pay m) κ c (defs₀ (F := F)) 𝒱₀ (src := Memref.whole main_arg4) (dst := blk (k0_off1 c) (k0_off1_inb _ c ((cond1_iff t).mpr h1))) 0 7 (P := (Finset.univ : Finset (Fin 15)).erase 14) (W := Finset.univ)
      (fd := m ((nbF 1 c : Thread nD τ).loc main_v1_4)) (fs := m ((c : Thread nD τ).loc main_arg4)) (q := q0)
      (Fin.ext (dev1 c)) rfl rfl rfl rfl rfl (by decide) (by decide) (Finset.mem_univ _) rfl rfl
      ((Entails.of_eq (src_whole (F := F) c q0 _)).trans (Entails.of_eq (pay_0 m c).symm)) (Entails.of_eq (land m (off1 1 c) (nb_nb 1 c) (nbF 1 c) _ _ (fun _ _ => rfl))) (route7 c)) $$ [Hh Hd Hs0 Hb1]
    · isplitl [Hh]; · iexact Hh
      isplitl [Hd]; · iexact Hd
      isplitl [Hs0]; · iapply (Entails.of_eq (src_whole (F := F) c q0 _).symm); iexact Hs0
      iapply (Entails.of_eq (at_rows (off1 1 c) (nbF 1 c) _).symm); iexact Hb1
    iintro ⟨Hh, Hd⟩
    iapply (Wire.hold_send plan (pay m) κ c (defs₀ (F := F)) 𝒱₀ (src := Memref.whole main_arg4) (dst := blk (k0_off1 c) (k0_off1_inb _ c ((cond1_iff t).mpr h1))) 1 8 (P := (((Finset.univ : Finset (Fin 15)).erase 14).erase 0).erase 7) (W := Finset.univ)
      (fd := m ((nbF 2 c : Thread nD τ).loc main_v1_4)) (fs := m ((c : Thread nD τ).loc main_arg4)) (q := q1)
      (Fin.ext (dev2 c)) rfl rfl rfl rfl rfl (by decide) (by decide) (Finset.mem_univ _) rfl rfl
      ((Entails.of_eq (src_whole (F := F) c q1 _)).trans (Entails.of_eq (pay_1 m c).symm)) (Entails.of_eq (land m (off1 2 c) (nb_nb 2 c) (nbF 2 c) _ _ (fun _ _ => rfl))) (route8 c)) $$ [Hh Hd Hs1 Hb2]
    · isplitl [Hh]; · iexact Hh
      isplitl [Hd]; · iexact Hd
      isplitl [Hs1]; · iapply (Entails.of_eq (src_whole (F := F) c q1 _).symm); iexact Hs1
      iapply (Entails.of_eq (at_rows (off1 2 c) (nbF 2 c) _).symm); iexact Hb2
    iintro ⟨Hh, Hd⟩
    iapply (Wire.hold_send plan (pay m) κ c (defs₀ (F := F)) 𝒱₀ (src := Memref.whole main_arg4) (dst := blk (k0_off1 c) (k0_off1_inb _ c ((cond1_iff t).mpr h1))) 2 9 (P := (((((Finset.univ : Finset (Fin 15)).erase 14).erase 0).erase 7).erase 1).erase 8) (W := Finset.univ)
      (fd := m ((nbF 3 c : Thread nD τ).loc main_v1_4)) (fs := m ((c : Thread nD τ).loc main_arg4)) (q := q2)
      (Fin.ext (dev3 c)) rfl rfl rfl rfl rfl (by decide) (by decide) (Finset.mem_univ _) rfl rfl
      ((Entails.of_eq (src_whole (F := F) c q2 _)).trans (Entails.of_eq (pay_2 m c).symm)) (Entails.of_eq (land m (off1 3 c) (nb_nb 3 c) (nbF 3 c) _ _ (fun _ _ => rfl))) (route9 c)) $$ [Hh Hd Hs2 Hb3]
    · isplitl [Hh]; · iexact Hh
      isplitl [Hd]; · iexact Hd
      isplitl [Hs2]; · iapply (Entails.of_eq (src_whole (F := F) c q2 _).symm); iexact Hs2
      iapply (Entails.of_eq (at_rows (off1 3 c) (nbF 3 c) _).symm); iexact Hb3
    iintro ⟨Hh, Hd⟩
    iapply (Wire.hold_send plan (pay m) κ c (defs₀ (F := F)) 𝒱₀ (src := Memref.whole main_arg4) (dst := blk (k0_off1 c) (k0_off1_inb _ c ((cond1_iff t).mpr h1))) 3 10 (P := (((((((Finset.univ : Finset (Fin 15)).erase 14).erase 0).erase 7).erase 1).erase 8).erase 2).erase 9) (W := Finset.univ)
      (fd := m ((nbF 4 c : Thread nD τ).loc main_v1_4)) (fs := m ((c : Thread nD τ).loc main_arg4)) (q := q3)
      (Fin.ext (dev4 c)) rfl rfl rfl rfl rfl (by decide) (by decide) (Finset.mem_univ _) rfl rfl
      ((Entails.of_eq (src_whole (F := F) c q3 _)).trans (Entails.of_eq (pay_3 m c).symm)) (Entails.of_eq (land m (off1 4 c) (nb_nb 4 c) (nbF 4 c) _ _ (fun _ _ => rfl))) (route10 c)) $$ [Hh Hd Hs3 Hb4]
    · isplitl [Hh]; · iexact Hh
      isplitl [Hd]; · iexact Hd
      isplitl [Hs3]; · iapply (Entails.of_eq (src_whole (F := F) c q3 _).symm); iexact Hs3
      iapply (Entails.of_eq (at_rows (off1 4 c) (nbF 4 c) _).symm); iexact Hb4
    iintro ⟨Hh, Hd⟩
    rw [show (((((((((Finset.univ : Finset (Fin 15)).erase 14).erase 0).erase 7).erase 1).erase 8).erase 2).erase 9).erase 3).erase 10 = P1 from by decide]
    ihave HT := (show iprop((Wire.hold plan (pay m) κ c P1 Finset.univ ∗ _) ∗ Wire.debt plan c P1) ⊢ iprop((Wire.hold plan (pay m) κ c P1 Finset.univ ∗ _) ∗ Wire.debt plan c P1) from BI.Entails.refl _) $$ [Hh Hd Hp]
    · isplitl [Hh Hp]
      · isplitl [Hh]; · iexact Hh
        iexact Hp
      iexact Hd
    iapply (Own.load_whole (defs₀ (F := F)) 𝒱₀ (c : Thread nD τ) (m := arg1) (X := X1) (by decide)) $$ H1
    iintro H1
    iapply (Own.load_whole (defs₀ (F := F)) 𝒱₀ (c : Thread nD τ) (m := arg2) (X := X2) (by decide)) $$ H2
    iintro H2
    rw [wp_ret]
    imodintro
    iapply Hk $$ [] HT H1 H2
    ipureintro; exact ⟨rfl, rfl, rfl⟩
  by_cases h2 : t.val = 12
  · rw [dif_neg (fun h => h1 ((cond1_iff t).mp h)), dif_pos ((cond2_iff t).mpr h2)]
    unfold talk
    rw [if_neg h1, if_pos (by omega), if_neg (Nat.succ_ne_zero _), if_neg (by omega)]

    unfold during passing
    iintro ⟨⟨⟨Hh, Hp0, Hp1, Hp2⟩, Hd⟩, H1, H2, Hk⟩
    iapply (Wire.hold_wait plan (pay m) κ c (defs₀ (F := F)) 𝒱₀ (P := P1) (W := (Finset.univ : Finset (Fin 15))) 8 rfl (by decide) (Or.inl rfl) rfl (by decide)) $$ [Hh Hd]
    · isplitl [Hh] <;> iassumption
    iintro ⟨Hh, Hd, Hb⟩
    ihave Hb := (Entails.of_eq (pay_8 m c)) $$ Hb
    iapply (Wire.hold_send plan (pay m) κ c (defs₀ (F := F)) 𝒱₀ (src := blk (k0_off2 c) (k0_off2_inb _ c ((cond2_iff t).mpr h2))) (dst := blk (k0_off2 c) (k0_off2_inb _ c ((cond2_iff t).mpr h2))) 4 11 (P := P1) (W := ((Finset.univ : Finset (Fin 15))).erase 8)
      (fd := m ((nbF 1 c : Thread nD τ).loc main_v1_4)) (fs := gathered m) (q := fullShare)
      (Fin.ext (dev5 c)) rfl rfl rfl rfl rfl (by decide) (by decide) (by decide) rfl rfl
      (Entails.of_eq (at_rows (off2 c) c _)) (Entails.of_eq (land m (off2_there c) (nb_one_5 c) (nbF 1 c) _ _ (fun a b => read_blk m (off2 c) a b))) (route11 c)) $$ [Hh Hd Hb Hp0]
    · isplitl [Hh]; · iexact Hh
      isplitl [Hd]; · iexact Hd
      isplitl [Hb]
      · iapply (Entails.of_eq (at_rows (off2 c) c _).symm); iexact Hb
      iapply (Entails.of_eq (at_rows (off2_there c) (nbF 1 c) _).symm); iexact Hp0
    iintro ⟨Hh, Hd⟩
    iapply (Wire.hold_wait plan (pay m) κ c (defs₀ (F := F)) 𝒱₀ (P := ((P1).erase 4).erase 11) (W := ((Finset.univ : Finset (Fin 15))).erase 8) 9 rfl (by decide) (Or.inl rfl) rfl (by decide)) $$ [Hh Hd]
    · isplitl [Hh] <;> iassumption
    iintro ⟨Hh, Hd, Hb⟩
    ihave Hb := (Entails.of_eq (pay_9 m c)) $$ Hb
    iapply (Wire.hold_send plan (pay m) κ c (defs₀ (F := F)) 𝒱₀ (src := blk (k0_off3 c) (k0_off3_inb _ c ((cond2_iff t).mpr h2))) (dst := blk (k0_off3 c) (k0_off3_inb _ c ((cond2_iff t).mpr h2))) 5 12 (P := ((P1).erase 4).erase 11) (W := (((Finset.univ : Finset (Fin 15))).erase 8).erase 9)
      (fd := m ((nbF 1 c : Thread nD τ).loc main_v1_4)) (fs := gathered m) (q := fullShare)
      (Fin.ext (dev6 c)) rfl rfl rfl rfl rfl (by decide) (by decide) (by decide) rfl rfl
      (Entails.of_eq (at_rows (off3 c) c _)) (Entails.of_eq (land m (off3_there c) (nb_one_6 c) (nbF 1 c) _ _ (fun a b => read_blk m (off3 c) a b))) (route12 c)) $$ [Hh Hd Hb Hp1]
    · isplitl [Hh]; · iexact Hh
      isplitl [Hd]; · iexact Hd
      isplitl [Hb]
      · iapply (Entails.of_eq (at_rows (off3 c) c _).symm); iexact Hb
      iapply (Entails.of_eq (at_rows (off3_there c) (nbF 1 c) _).symm); iexact Hp1
    iintro ⟨Hh, Hd⟩
    iapply (Wire.hold_wait plan (pay m) κ c (defs₀ (F := F)) 𝒱₀ (P := ((((P1).erase 4).erase 11).erase 5).erase 12) (W := (((Finset.univ : Finset (Fin 15))).erase 8).erase 9) 10 rfl (by decide) (Or.inl rfl) rfl (by decide)) $$ [Hh Hd]
    · isplitl [Hh] <;> iassumption
    iintro ⟨Hh, Hd, Hb⟩
    ihave Hb := (Entails.of_eq (pay_10 m c)) $$ Hb
    iapply (Wire.hold_send plan (pay m) κ c (defs₀ (F := F)) 𝒱₀ (src := blk (k0_off4 c) (k0_off4_inb _ c ((cond2_iff t).mpr h2))) (dst := blk (k0_off4 c) (k0_off4_inb _ c ((cond2_iff t).mpr h2))) 6 13 (P := ((((P1).erase 4).erase 11).erase 5).erase 12) (W := ((((Finset.univ : Finset (Fin 15))).erase 8).erase 9).erase 10)
      (fd := m ((nbF 1 c : Thread nD τ).loc main_v1_4)) (fs := gathered m) (q := fullShare)
      (Fin.ext (dev7 c)) rfl rfl rfl rfl rfl (by decide) (by decide) (by decide) rfl rfl
      (Entails.of_eq (at_rows (off4 c) c _)) (Entails.of_eq (land m (off4_there c) (nb_one_7 c) (nbF 1 c) _ _ (fun a b => read_blk m (off4 c) a b))) (route13 c)) $$ [Hh Hd Hb Hp2]
    · isplitl [Hh]; · iexact Hh
      isplitl [Hd]; · iexact Hd
      isplitl [Hb]
      · iapply (Entails.of_eq (at_rows (off4 c) c _).symm); iexact Hb
      iapply (Entails.of_eq (at_rows (off4_there c) (nbF 1 c) _).symm); iexact Hp2
    iintro ⟨Hh, Hd⟩
    rw [show ((((((P1).erase 4).erase 11).erase 5).erase 12).erase 6).erase 13 = ∅ from by decide, show ((((Finset.univ : Finset (Fin 15))).erase 8).erase 9).erase 10 = W2 from by decide]
    ihave HT := (show iprop(Wire.hold plan (pay m) κ c ∅ W2 ∗ Wire.debt plan c ∅) ⊢ iprop(Wire.hold plan (pay m) κ c ∅ W2 ∗ Wire.debt plan c ∅) from BI.Entails.refl _) $$ [Hh Hd]
    · isplitl [Hh] <;> iassumption
    iapply (Own.load_whole (defs₀ (F := F)) 𝒱₀ (c : Thread nD τ) (m := arg1) (X := X1) (by decide)) $$ H1
    iintro H1
    iapply (Own.load_whole (defs₀ (F := F)) 𝒱₀ (c : Thread nD τ) (m := arg2) (X := X2) (by decide)) $$ H2
    iintro H2
    rw [wp_ret]
    imodintro
    iapply Hk $$ [] HT H1 H2
    ipureintro; exact ⟨rfl, rfl, rfl⟩
  · rw [dif_neg (fun h => h1 ((cond1_iff t).mp h)), dif_neg (fun h => h2 ((cond2_iff t).mp h))]
    have e : talk m κ c (t.val + 1) = talk m κ c t.val := by
      unfold talk
      rw [if_neg h1, if_neg (Nat.succ_ne_zero _)]
      by_cases h : t.val ≤ 12
      · rw [if_pos h, if_pos (by omega)]
      · rw [if_neg h, if_neg (by omega)]
    rw [e]

    iintro ⟨HT, H1, H2, Hk⟩
    iapply (Own.load_whole (defs₀ (F := F)) 𝒱₀ (c : Thread nD τ) (m := arg1) (X := X1) (by decide)) $$ H1
    iintro H1
    iapply (Own.load_whole (defs₀ (F := F)) 𝒱₀ (c : Thread nD τ) (m := arg2) (X := X2) (by decide)) $$ H2
    iintro H2
    rw [wp_ret]
    imodintro
    iapply Hk $$ [] HT H1 H2
    ipureintro; exact ⟨rfl, rfl, rfl⟩

theorem second_part (v31 : FVec F S512x1024 .f32) (v33 : FVec F S1x1024 .f32) (Q : _ → sProp 𝕄) :
    iprop((owns (c : Thread nD τ) arg3 fullShare X3 ∗ owns (c : Thread nD τ) arg4 fullShare X4) ∗ owns (c : Thread nD τ) arg6 fullShare X6 ∗ owns (c : Thread nD τ) arg7 fullShare X7
        ∗ (∀ r, ⌜r.1 = k0_pay7 ∧ r.2 = k0_pay8 X3 X4⌝ -∗ (owns (c : Thread nD τ) arg3 fullShare X3 ∗ owns (c : Thread nD τ) arg4 fullShare X4)
            -∗ owns (c : Thread nD τ) arg6 fullShare (k0_pay5 v31 v33) -∗ owns (c : Thread nD τ) arg7 fullShare (k0_pay9 X3 X4) -∗ Q r))
      ⊢ wp frame (wpE (defs₀ (F := F)) 𝒱₀ (c : Thread nD τ) none) Set.univ
          (k0_part12 (grid0.coords t) arg1 harg1 arg2 harg2 arg3 harg3 arg4 harg4 (Memref.whole main_arg4) (Memref.isWhole_whole _) arg6 harg6 arg7 harg7 arg8 harg8 arg9 harg9 (Memref.whole main_v1_4) (Memref.isWhole_whole _) cc0_scratch0 cc0_scratch1 cc0_scratch2 v31 v33) Q := by
  simp only [k0_part12_eq_skeleton]; unfold k0_part12_skel
  simp only [Prog.lift, Prog.bind_op, Prog.bind_ret, Prog.pure_eq_ret]
  iintro ⟨⟨H3, H4⟩, H6, H7, Hk⟩
  iapply (Own.load_whole (defs₀ (F := F)) 𝒱₀ (c : Thread nD τ) (m := arg6) (X := X6) (by decide)) $$ H6
  iintro H6
  iapply (Own.store_whole (defs₀ (F := F)) 𝒱₀ (c : Thread nD τ) (m := arg6) (X := X6) (by decide)) $$ H6
  iintro H6
  iapply (Own.load_whole (defs₀ (F := F)) 𝒱₀ (c : Thread nD τ) (m := arg3) (X := X3) (by decide)) $$ H3
  iintro H3
  iapply (Own.load_whole (defs₀ (F := F)) 𝒱₀ (c : Thread nD τ) (m := arg4) (X := X4) (by decide)) $$ H4
  iintro H4
  iapply (Own.load_whole (defs₀ (F := F)) 𝒱₀ (c : Thread nD τ) (m := arg7) (X := X7) (by decide)) $$ H7
  iintro H7
  iapply (Own.store_whole (defs₀ (F := F)) 𝒱₀ (c : Thread nD τ) (m := arg7) (X := X7) (by decide)) $$ H7
  iintro H7
  rw [wp_ret]
  imodintro
  iapply Hk $$ [] [H3 H4] H6 H7
  · ipureintro; exact ⟨rfl, rfl⟩
  isplitl [H3] <;> iassumption

set_option maxHeartbeats 3200000 in
theorem sound_body (Kt : PUnit → sProp 𝕄) :
    iprop(talk m κ c t.val ∗ (owns (c : Thread nD τ) arg1 fullShare X1 ∗ owns (c : Thread nD τ) arg2 fullShare X2) ∗ (owns (c : Thread nD τ) arg3 fullShare X3 ∗ owns (c : Thread nD τ) arg4 fullShare X4)
      ∗ (owns (c : Thread nD τ) arg6 fullShare X6 ∗ owns (c : Thread nD τ) arg7 fullShare X7 ∗ owns (c : Thread nD τ) arg8 fullShare X8 ∗ owns (c : Thread nD τ) arg9 fullShare X9)
      ∗ (talkOut m κ c t -∗ (owns (c : Thread nD τ) arg1 fullShare X1 ∗ owns (c : Thread nD τ) arg2 fullShare X2) -∗ (owns (c : Thread nD τ) arg3 fullShare X3 ∗ owns (c : Thread nD τ) arg4 fullShare X4)
          -∗ owns (c : Thread nD τ) arg6 fullShare (k0_pay5 (k0_pay3 X1) (k0_pay4 X2)) -∗ owns (c : Thread nD τ) arg7 fullShare (k0_pay9 X3 X4)
          -∗ owns (c : Thread nD τ) arg8 fullShare (k0_pay1 k0_pay7 (k0_pay8 X3 X4)) -∗ owns (c : Thread nD τ) arg9 fullShare (k0_pay2 k0_pay7 (k0_pay8 X3 X4)) -∗ Kt ⟨⟩))
      ⊢ wp frame (wpE (defs₀ (F := F)) 𝒱₀ (c : Thread nD τ) none) Set.univ
          (cc0_norm1_rope_tables (grid0.coords t) arg1 harg1 arg2 harg2 arg3 harg3 arg4 harg4 (Memref.whole main_arg4) (Memref.isWhole_whole _) arg6 harg6 arg7 harg7 arg8 harg8 arg9 harg9 (Memref.whole main_v1_4) (Memref.isWhole_whole _) cc0_scratch0 cc0_scratch1 cc0_scratch2) Kt := by
  simp only [cc0_norm1_rope_tables_eq_skeleton]; unfold cc0_norm1_rope_tables_skel
  iintro ⟨HT, ⟨H1, H2⟩, HB, ⟨H6, H7, H8, H9⟩, Hk⟩
  rw [wp_bind]
  iapply (first_part m κ c t arg1 harg1 arg2 harg2 arg3 harg3 arg4 harg4 arg6 harg6 arg7 harg7 arg8 harg8 arg9 harg9 X1 X2)
  isplitl [HT]; · iexact HT
  isplitl [H1]; · iexact H1
  isplitl [H2]; · iexact H2
  iintro %r %hr HT H1 H2
  obtain ⟨a0, d0, v2, v5, v8, v9, v10, v11, v12, v13, v31, v33⟩ := r
  obtain ⟨h1, h2, h3⟩ := hr
  simp only at h1 h2 h3
  subst h1 h2 h3
  simp only
  rw [wp_bind]
  iapply (second_part d0 t arg1 harg1 arg2 harg2 arg3 harg3 arg4 harg4 arg6 harg6 arg7 harg7 arg8 harg8 arg9 harg9 X3 X4 X6 X7)
  isplitl [HB]; · iexact HB
  isplitl [H6]; · iexact H6
  isplitl [H7]; · iexact H7
  iintro %r %hr HB H6 H7
  obtain ⟨v64, v66⟩ := r
  obtain ⟨h1, h2⟩ := hr
  simp only at h1 h2
  subst h1 h2
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [Prog.lift, Prog.bind_op, Prog.bind_ret, Prog.pure_eq_ret]
  iapply (Own.load_whole (defs₀ (F := F)) 𝒱₀ (d0 : Thread nD τ) (m := arg8) (X := X8) (by decide)) $$ H8
  iintro H8
  iapply (Own.store_whole (defs₀ (F := F)) 𝒱₀ (d0 : Thread nD τ) (m := arg8) (X := X8) (by decide)) $$ H8
  iintro H8
  iapply (Own.load_whole (defs₀ (F := F)) 𝒱₀ (d0 : Thread nD τ) (m := arg9) (X := X9) (by decide)) $$ H9
  iintro H9
  iapply (Own.store_whole (defs₀ (F := F)) 𝒱₀ (d0 : Thread nD τ) (m := arg9) (X := X9) (by decide)) $$ H9
  iintro H9
  unfold talkOut
  by_cases h : t.val = 15
  · rw [if_pos h, dif_pos ((cond3_iff t).mpr h)]
    have e : talk m κ d0 (t.val + 1) = iprop(Wire.hold plan (pay m) κ d0 ∅ W2 ∗ Wire.debt plan d0 ∅) := by
      unfold talk passing
      rw [if_neg (Nat.succ_ne_zero _), if_neg (by omega)]
    ihave HT := (Entails.of_eq e) $$ HT
    icases HT with ⟨Hh, Hd⟩
    iapply (Wire.hold_wait plan (pay m) κ d0 (defs₀ (F := F)) 𝒱₀ (P := ∅) (W := W2) 7 rfl (by decide) (Or.inr (by decide)) rfl (by decide)) $$ [Hh Hd]
    · isplitl [Hh] <;> iassumption
    iintro ⟨Hh, Hd, Hb7⟩
    ihave Hb7 := (Entails.of_eq (pay_7 m d0)) $$ Hb7
    iapply (Wire.hold_wait plan (pay m) κ d0 (defs₀ (F := F)) 𝒱₀ (P := ∅) (W := (W2).erase 7) 11 rfl (by decide) (Or.inr (by decide)) rfl (by decide)) $$ [Hh Hd]
    · isplitl [Hh] <;> iassumption
    iintro ⟨Hh, Hd, Hb11⟩
    ihave Hb11 := (Entails.of_eq (pay_11 m d0)) $$ Hb11
    iapply (Wire.hold_wait plan (pay m) κ d0 (defs₀ (F := F)) 𝒱₀ (P := ∅) (W := ((W2).erase 7).erase 11) 12 rfl (by decide) (Or.inr (by decide)) rfl (by decide)) $$ [Hh Hd]
    · isplitl [Hh] <;> iassumption
    iintro ⟨Hh, Hd, Hb12⟩
    ihave Hb12 := (Entails.of_eq (pay_12 m d0)) $$ Hb12
    iapply (Wire.hold_wait plan (pay m) κ d0 (defs₀ (F := F)) 𝒱₀ (P := ∅) (W := (((W2).erase 7).erase 11).erase 12) 13 rfl (by decide) (Or.inr (by decide)) rfl (by decide)) $$ [Hh Hd]
    · isplitl [Hh] <;> iassumption
    iintro ⟨Hh, Hd, Hb13⟩
    ihave Hb13 := (Entails.of_eq (pay_13 m d0)) $$ Hb13
    iapply (Wire.hold_wait plan (pay m) κ d0 (defs₀ (F := F)) 𝒱₀ (P := ∅) (W := ((((W2).erase 7).erase 11).erase 12).erase 13) 0 rfl (by decide) (Or.inr (by decide)) rfl (by decide)) $$ [Hh Hd]
    · isplitl [Hh] <;> iassumption
    iintro ⟨Hh, Hd, Hb0⟩
    ihave Hb0 := (Entails.of_eq (pay_0 m d0)) $$ Hb0
    iapply (Wire.hold_wait plan (pay m) κ d0 (defs₀ (F := F)) 𝒱₀ (P := ∅) (W := (((((W2).erase 7).erase 11).erase 12).erase 13).erase 0) 1 rfl (by decide) (Or.inr (by decide)) rfl (by decide)) $$ [Hh Hd]
    · isplitl [Hh] <;> iassumption
    iintro ⟨Hh, Hd, Hb1⟩
    ihave Hb1 := (Entails.of_eq (pay_1 m d0)) $$ Hb1
    iapply (Wire.hold_wait plan (pay m) κ d0 (defs₀ (F := F)) 𝒱₀ (P := ∅) (W := ((((((W2).erase 7).erase 11).erase 12).erase 13).erase 0).erase 1) 2 rfl (by decide) (Or.inr (by decide)) rfl (by decide)) $$ [Hh Hd]
    · isplitl [Hh] <;> iassumption
    iintro ⟨Hh, Hd, Hb2⟩
    ihave Hb2 := (Entails.of_eq (pay_2 m d0)) $$ Hb2
    iapply (Wire.hold_wait plan (pay m) κ d0 (defs₀ (F := F)) 𝒱₀ (P := ∅) (W := (((((((W2).erase 7).erase 11).erase 12).erase 13).erase 0).erase 1).erase 2) 3 rfl (by decide) (Or.inr (by decide)) rfl (by decide)) $$ [Hh Hd]
    · isplitl [Hh] <;> iassumption
    iintro ⟨Hh, Hd, Hb3⟩
    ihave Hb3 := (Entails.of_eq (pay_3 m d0)) $$ Hb3
    iapply (Wire.hold_wait plan (pay m) κ d0 (defs₀ (F := F)) 𝒱₀ (P := ∅) (W := ((((((((W2).erase 7).erase 11).erase 12).erase 13).erase 0).erase 1).erase 2).erase 3) 4 rfl (by decide) (Or.inr (by decide)) rfl (by decide)) $$ [Hh Hd]
    · isplitl [Hh] <;> iassumption
    iintro ⟨Hh, Hd, Hb4⟩
    ihave Hb4 := (Entails.of_eq (pay_4 m d0)) $$ Hb4
    iapply (Wire.hold_wait plan (pay m) κ d0 (defs₀ (F := F)) 𝒱₀ (P := ∅) (W := (((((((((W2).erase 7).erase 11).erase 12).erase 13).erase 0).erase 1).erase 2).erase 3).erase 4) 5 rfl (by decide) (Or.inr (by decide)) rfl (by decide)) $$ [Hh Hd]
    · isplitl [Hh] <;> iassumption
    iintro ⟨Hh, Hd, Hb5⟩
    ihave Hb5 := (Entails.of_eq (pay_5 m d0)) $$ Hb5
    iapply (Wire.hold_wait plan (pay m) κ d0 (defs₀ (F := F)) 𝒱₀ (P := ∅) (W := ((((((((((W2).erase 7).erase 11).erase 12).erase 13).erase 0).erase 1).erase 2).erase 3).erase 4).erase 5) 6 rfl (by decide) (Or.inr (by decide)) rfl (by decide)) $$ [Hh Hd]
    · isplitl [Hh] <;> iassumption
    iintro ⟨Hh, Hd, Hb6⟩
    ihave Hb6 := (Entails.of_eq (pay_6 m d0)) $$ Hb6
    iapply (Wire.hold_wait plan (pay m) κ d0 (defs₀ (F := F)) 𝒱₀ (P := ∅) (W := (((((((((((W2).erase 7).erase 11).erase 12).erase 13).erase 0).erase 1).erase 2).erase 3).erase 4).erase 5).erase 6) 14 rfl (by decide) (Or.inr (by decide)) rfl (by decide)) $$ [Hh Hd]
    · isplitl [Hh] <;> iassumption
    iintro ⟨Hh, Hd, Hb14⟩
    ihave Hb14 := (Entails.of_eq (pay_14 m d0)) $$ Hb14
    icases Hb14 with ⟨Hb14, Hs14⟩
    rw [show ((((((((((((W2).erase 7).erase 11).erase 12).erase 13).erase 0).erase 1).erase 2).erase 3).erase 4).erase 5).erase 6).erase 14 = ∅ from by decide]
    rw [wp_ret]
    imodintro
    iapply Hk $$ [Hh Hd Hs14 Hb7 Hb11 Hb12 Hb13 Hb0 Hb1 Hb2 Hb3 Hb4 Hb5 Hb6 Hb14] [H1 H2] HB H6 H7 H8 H9
    · isplitl [Hs14 Hb7 Hb11 Hb12 Hb13 Hb0 Hb1 Hb2 Hb3 Hb4 Hb5 Hb6 Hb14]
      · unfold kept
        isplitl [Hs14 Hb0 Hb1 Hb2 Hb3]
        · iapply (cut_src (F := F) d0 _).2
          isplitl [Hb0]; · iexact Hb0
          isplitl [Hb1]; · iexact Hb1
          isplitl [Hb2]; · iexact Hb2
          isplitl [Hb3] <;> iassumption
        iapply (Entails.of_eq (cut_out (F := F) d0 _).symm)
        isplitl [Hb14]; · iexact Hb14
        isplitl [Hb7]; · iexact Hb7
        isplitl [Hb4]; · iexact Hb4
        isplitl [Hb5]; · iexact Hb5
        isplitl [Hb6]; · iexact Hb6
        isplitl [Hb11]; · iexact Hb11
        isplitl [Hb12] <;> iassumption
      isplitl [Hh]; · iapply (Wire.hold_done plan (pay m) κ d0); iexact Hh
      iapply (Wire.debt_done plan d0); iexact Hd
    isplitl [H1] <;> iassumption
  · rw [if_neg h, dif_neg (fun h' => h ((cond3_iff t).mp h'))]

    rw [wp_ret]
    imodintro
    iapply Hk $$ HT [H1 H2] HB H6 H7 H8 H9
    isplitl [H1] <;> iassumption

end Body

/-! ## The proof data -/

def start (c : Dev nD) : sProp 𝕄 := iprop(∃ κ, before m κ c)
def going (c : Dev nD) : sProp 𝕄 := iprop(∃ κ, during m κ c)
def going' (c : Dev nD) : sProp 𝕄 := iprop(∃ κ, passing m κ c)

/-- The blocks of the four results that a point leaves. -/
def hAt (c : Dev nD) (t : Fin cfg0.N) : S512x1024.Idx → Elt F .bf16 := k0_pay5 (k0_pay3 (iblk m c 0 t)) (k0_pay4 (iblk m c 1 t))
def cosAt (c : Dev nD) (t : Fin cfg0.N) : S512x128.Idx → Elt F .f32 := k0_pay9 (iblk m c 2 t) (iblk m c 3 t)
def lowAt (c : Dev nD) (t : Fin cfg0.N) : S512x128.Idx → Elt F .f32 := k0_pay1 k0_pay7 (k0_pay8 (iblk m c 2 t) (iblk m c 3 t))
def highAt (c : Dev nD) (t : Fin cfg0.N) : S512x128.Idx → Elt F .f32 := k0_pay2 k0_pay7 (k0_pay8 (iblk m c 2 t) (iblk m c 3 t))

def Phi (c : Dev nD) (n : ℕ) : sProp 𝕄 :=
  if n = 0 then start m c else if n = 16 then iprop(kept m c ∗ Pipeline.ownSems0 plan.sem c) else if n ≤ 12 then going m c else going' m c
def owed (c : Dev nD) (n : ℕ) : CellTallies nD τ sig Unit := Wire.owe plan c (if n = 0 then Finset.univ else if n ≤ 12 then P1 else ∅)

def dats (_ : Fin 1) (c : Dev nD) : Dat τ (Elt F) Unit ℕ (Wire.UU nD τ sig) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hAt m c t
    | ⟨5, _⟩ => cosAt m c t
    | ⟨6, _⟩ => lowAt m c t
    | ⟨7, _⟩ => highAt m c t
    | ⟨n + 8, h⟩ => absurd h (by show ¬ n + 8 < 8; omega)
  Φ t := Phi m c t.val
  q _ := fullShare
  owed t := owed c t.val

theorem find0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem find1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem find2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem find3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

theorem talk_in (c : Dev nD) (t : Fin cfg0.N) : iprop((dats m 0 c).Φ t.castSucc ∗ (dats m 0 c).owesAt () t.castSucc) ⊢ (iprop(∃ κ, talk m κ c t.val) : sProp 𝕄) := by
  unfold Dat.owesAt Pipeline.owesWithin
  show iprop(Phi m c t.val ∗ ∃ Ws, ⌜_⌝ ∗ owes (c : Thread nD τ) (owed c t.val) Ws) ⊢ _
  unfold Phi owed talk start going going' Wire.debt
  have ht := lt16 t
  by_cases h : t.val = 0
  · simp only [if_pos h]
    iintro ⟨⟨%κ, H⟩, ⟨%Ws, -, HO⟩⟩
    iexists κ
    isplitl [H]; · iexact H
    iexists Ws; iexact HO
  simp only [if_neg h, if_neg (show ¬ t.val = 16 by omega)]
  by_cases h2 : t.val ≤ 12
  · simp only [if_pos h2]
    iintro ⟨⟨%κ, H⟩, ⟨%Ws, -, HO⟩⟩
    iexists κ
    isplitl [H]; · iexact H
    iexists Ws; iexact HO
  · simp only [if_neg h2]
    iintro ⟨⟨%κ, H⟩, ⟨%Ws, -, HO⟩⟩
    iexists κ
    isplitl [H]; · iexact H
    iexists Ws; iexact HO

theorem talk_out (κ : Dev nD × Fin 15 → ℕ) (c : Dev nD) (t : Fin cfg0.N) : (talkOut m κ c t : sProp 𝕄) ⊢ iprop((dats m 0 c).Φ t.succ ∗ (dats m 0 c).owesAt () t.succ) := by
  unfold Dat.owesAt Pipeline.owesWithin talkOut
  show _ ⊢ iprop(Phi m c (t.val + 1) ∗ ∃ Ws, ⌜_⌝ ∗ owes (c : Thread nD τ) (owed c (t.val + 1)) Ws)
  unfold Phi owed talk going going' Wire.debt
  have ht := lt16 t
  have hn : ¬ t.val + 1 = 0 := Nat.succ_ne_zero _
  by_cases h : t.val = 15
  · have h16 : t.val + 1 = 16 := by omega
    have h12 : ¬ t.val + 1 ≤ 12 := by omega
    simp only [if_pos h, if_neg hn, if_pos h16, if_neg h12, Wire.owe_empty]
    iintro ⟨HK, Hs, ⟨%Ws, HO⟩⟩
    isplitl [HK Hs]
    · isplitl [HK] <;> iassumption
    iexists Ws
    isplitr; · ipureintro; exact fun _ _ => Or.inl trivial
    iexact HO
  have h16 : ¬ t.val + 1 = 16 := by omega
  by_cases h2 : t.val + 1 ≤ 12
  · simp only [if_neg h, if_neg hn, if_neg h16, if_pos h2]
    iintro ⟨HK, ⟨%Ws, HO⟩⟩
    isplitl [HK]
    · iexists κ; iexact HK
    iexists Ws
    isplitr; · ipureintro; exact fun _ _ => Or.inl trivial
    iexact HO
  · simp only [if_neg h, if_neg hn, if_neg h16, if_neg h2]
    iintro ⟨HK, ⟨%Ws, HO⟩⟩
    isplitl [HK]
    · iexists κ; iexact HK
    iexists Ws
    isplitr; · ipureintro; exact fun _ _ => Or.inl trivial
    iexact HO

theorem body_obligation (c : Dev nD) : BodyObligation (dats m 0 c) (defs₀ (F := F)) 𝒱₀ () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
    ⊢ wp frame (wpE (defs₀ (F := F)) 𝒱₀ (c : Thread nD τ) none) Set.univ (bodyAt0 t) fun _ => iprop((dats m 0 c).Φ t.succ ∗ (dats m 0 c).owesAt () t.succ
      ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (hAt m c t) ∗ owns (c : Thread nD τ) (st0_5 t) fullShare (cosAt m c t) ∗ owns (c : Thread nD τ) (st0_6 t) fullShare (lowAt m c t) ∗ owns (c : Thread nD τ) (st0_7 t) fullShare (highAt m c t))
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rw [find0, find1, find2, find3]
  ihave HT := (talk_in m c t) $$ [HΦ HO]
  · isplitl [HΦ] <;> iassumption
  icases HT with ⟨%κ, HT⟩
  iapply (sound_body m κ c t (st0_0 t) _ (st0_1 t) _ (st0_2 t) _ (st0_3 t) _ (st0_4 t) _ (st0_5 t) _ (st0_6 t) _ (st0_7 t) _
    (iblk m c 0 t) (iblk m c 1 t) (iblk m c 2 t) (iblk m c 3 t) ((dats m 0 c).before 4 t d4) ((dats m 0 c).before 5 t d5) ((dats m 0 c).before 6 t d6) ((dats m 0 c).before 7 t d7))
  isplitl [HT]; · iexact HT
  isplitl [H0 H1]
  · isplitl [H0] <;> iassumption
  isplitl [H2 H3]
  · isplitl [H2] <;> iassumption
  isplitl [H4 H5 H6 H7]
  · isplitl [H4]; · iexact H4
    isplitl [H5]; · iexact H5
    isplitl [H6] <;> iassumption
  iintro HT ⟨H0, H1⟩ ⟨H2, H3⟩ H4 H5 H6 H7
  ihave HT := (talk_out m κ c t) $$ HT
  icases HT with ⟨HΦ, HO⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The run -/

theorem kinds_sems : ∀ (w : Fin cfg0.W) (s : Fin (cfg0.win w).nbuf) (k : Fin 15), plan.sem k ≠ .dma ((cfg0.win w).sem s) := by decide
theorem lev_pos : ∀ j : Fin 15, 0 < plan.lev j := by decide

/-- The arrays, each block of a result to the device that writes it. -/
theorem hand (κ : Dev nD × Fin 15 → ℕ) :
    iprop((bigSep Finset.univ fun c : Dev nD => Wire.hold plan (pay m) κ c Finset.univ Finset.univ)
        ∗ bigSep Finset.univ fun c : Dev nD => Pipeline.unscopedRest (cfgs 0).spec c (fun b => m ((c.tc : Thread nD τ).loc b)))
      ⊢ bigSep Finset.univ fun c : Dev nD => iprop(start m c ∗ emp) := by
  have hr (c : Dev nD) : (Pipeline.unscopedRest (cfgs 0).spec c (fun b => m ((c.tc : Thread nD τ).loc b)) : sProp 𝕄)
      ⊢ iprop((((c : Thread nD τ).loc main_arg4) ↦{fullShare} m ((c : Thread nD τ).loc main_arg4))
        ∗ ((c : Thread nD τ).loc main_v1_4 ↦[rows (nbF 0 c)]{fullShare} m ((c : Thread nD τ).loc main_v1_4)) ∗ ((c : Thread nD τ).loc main_v1_4 ↦[rows (nbF 1 c)]{fullShare} m ((c : Thread nD τ).loc main_v1_4)) ∗ ((c : Thread nD τ).loc main_v1_4 ↦[rows (nbF 2 c)]{fullShare} m ((c : Thread nD τ).loc main_v1_4)) ∗ ((c : Thread nD τ).loc main_v1_4 ↦[rows (nbF 3 c)]{fullShare} m ((c : Thread nD τ).loc main_v1_4)) ∗ ((c : Thread nD τ).loc main_v1_4 ↦[rows (nbF 4 c)]{fullShare} m ((c : Thread nD τ).loc main_v1_4)) ∗ ((c : Thread nD τ).loc main_v1_4 ↦[rows (nbF 5 c)]{fullShare} m ((c : Thread nD τ).loc main_v1_4)) ∗ ((c : Thread nD τ).loc main_v1_4 ↦[rows (nbF 6 c)]{fullShare} m ((c : Thread nD τ).loc main_v1_4)) ∗ ((c : Thread nD τ).loc main_v1_4 ↦[rows (nbF 7 c)]{fullShare} m ((c : Thread nD τ).loc main_v1_4))) := by
    refine (Entails.of_eq (unscopedRest0_eq (Ix := Unit) (Val := Elt F) (Name := ℕ) (U := Wire.UU nD τ sig) (Lvl := ℕ) c (fun b => m ((c.tc : Thread nD τ).loc b)))).trans ?_
    exact BI.sep_mono (BI.Entails.refl _) (Entails.of_eq (cut_out (F := F) c _))
  have hs (c : Dev nD) (_ : c ∈ (Finset.univ : Finset (Dev nD))) : before m κ c ⊢ (iprop(start m c ∗ emp) : sProp 𝕄) := by
    unfold start
    iintro H
    isplitl; · iexists κ; iexact H
    iempintro
  have hm (e k : Fin 8) := bigSep_univ_equiv (nb e) (fun c : Dev nD => ((c : Thread nD τ).loc main_v1_4 ↦[rows (nbF k c)]{fullShare} m ((c : Thread nD τ).loc main_v1_4) : sProp 𝕄))
  refine BI.Entails.trans (sep_mono (BI.Entails.refl _) (bigSep_mono fun c _ => hr c)) (BI.Entails.trans ?_ (bigSep_mono hs))
  unfold before
  simp only [bigSep_sep']
  exact BI.sep_mono (BI.Entails.refl _) (BI.sep_mono (BI.Entails.refl _) (BI.sep_mono (BI.Entails.refl _) (BI.sep_mono (Entails.of_eq (hm 1 1)) (BI.sep_mono (Entails.of_eq (hm 2 2)) (BI.sep_mono (Entails.of_eq (hm 3 3))
    (BI.sep_mono (Entails.of_eq (hm 4 4)) (BI.sep_mono (Entails.of_eq (hm 1 5)) (BI.sep_mono (Entails.of_eq (hm 1 6)) (Entails.of_eq (hm 1 7))))))))))

/-- Every run ends: the windows' results as the points leave them, the weight gathered, what was read as it was, all
    counters at zero. -/
theorem run_main : θ_run defs (onTc (τ := τ) (main (F := F))) ⟨m, fun _ => 0, ρ⟩
    (fun r => (∀ c : Dev nD, (∀ w, r.2.mem (((cfgs 0).spec w).arr.view.loc (c.tc : Thread nD τ)) = (dats m 0 c).arrAt w (cfgs 0).N)
        ∧ r.2.mem ((c : Thread nD τ).loc main_v1_4) = gathered m ∧ r.2.mem ((c : Thread nD τ).loc main_arg4) = m ((c : Thread nD τ).loc main_arg4))
      ∧ r.2.sem = fun _ => 0) :=
  Deal.θ_run_dealt cfgs () cellOf_inj (0 : Fin 1) Wire.EP defs₀ 𝒱₀ (dats m) winFacts0 ownSems m ρ main
    (hmain := fun _ => rfl)
    (hbody := fun c => (body_obligation m c).loose)
    (hne := block_pos0) (harr := arr_whole0) (hstage := stage_whole0) (hshare := fun _ w => by unfold Dat.share; split <;> rfl)
    (O₀ := fun c => Wire.owe plan c Finset.univ) (howed₀ := fun _ => rfl) (howedN := fun c => Wire.owe_empty plan c)
    (L := Wire.L) (lv := Wire.lv plan) (hL := Wire.L_of_ne)
    (hwaits := fun c => Pipeline.PerCore.cellsWaits_intro _ (dats m) () 0 c fun w s t =>
      Wire.mayWait_other plan c (.dma ((cfg0.win w).sem s)) _ (kinds_sems w s) (fun j _ _ => lev_pos j))
    (G := fun c => Wire.G plan (pay m) c cfgs 0 ownSems) (u₀ := (_, Wire.seed plan cfgs 0 ownSems))
    (hu₀ := Wire.fund plan (pay m) cfgs 0 ownSems _)
    (hA := fun _ w => rfl)
    (X := start m) (Y := kept m) (Z := fun _ => iprop(emp))
    (hdeal := by
      iintro H
      imod (Wire.deal_brings plan (pay m) cfgs 0 ownSems m ρ) $$ H with ⟨%κ, H⟩
      imodintro
      iapply (hand m κ); iexact H)
    (hin := fun c => by
      show iprop(start m c ∗ _) ⊢ start m c
      iintro ⟨H, -⟩
      iexact H)
    (hout := fun c => by
      rw [scopedRest0_eq]
      show iprop(kept m c ∗ Pipeline.ownSems0 plan.sem c) ⊢ _
      iintro ⟨H, Hs⟩
      isplitl [H]; · iexact H
      isplitl [Hs]; · iexact Hs
      iempintro)
    (QY := fun c s => s.mem ((c : Thread nD τ).loc main_v1_4) = gathered m ∧ s.mem ((c : Thread nD τ).loc main_arg4) = m ((c : Thread nD τ).loc main_arg4))
    (hY := fun s => Wire.read_all (φ := fun c s => s.mem ((c : Thread nD τ).loc main_v1_4) = gathered m ∧ s.mem ((c : Thread nD τ).loc main_arg4) = m ((c : Thread nD τ).loc main_arg4)) s fun c => by
      unfold kept
      iintro ⟨⟨⟨Ha, Hb⟩, -⟩, HSI⟩
      ihave %h1 := (Wire.read_buf s ((c : Thread nD τ).loc main_v1_4) (gathered m)) $$ [Hb HSI]
      · isplitl [Hb] <;> iassumption
      ihave %h2 := (Wire.read_buf s ((c : Thread nD τ).loc main_arg4) (m ((c : Thread nD τ).loc main_arg4))) $$ [Ha HSI]
      · isplitl [Ha] <;> iassumption
      ipureintro
      exact ⟨h1, h2⟩)
    (hQ := fun _ h hs => ⟨fun c => h c, sem_eq_zero_of_scoped (by decide) hs⟩)

end Cert.Proof.Norm
-- ==== Proof.NormRow.lean ====
/-
  One row of the first normalization and of the rotary tables, over extended reals: the kernel's payloads on a tile and
  the reference's operations on the whole arrays, each read at an index.
-/
module

public import proofs.«01_k».proof.Proof.Norm
public import proofs.«01_k».proof.Proof.Gen.NormRefIdeal.Run
public import Idealize.ShloMosaic.Lib.Pointwise

@[expose] public section

noncomputable section

namespace Cert.Proof.Norm

open Idealize.ShloMosaic Idealize.ShloMosaic.TcCoe

set_option Elab.async false

/-- A row over its root mean square, times the gain. -/
def normed (x g : Fin 1024 → EReal) (l : Fin 1024) : EReal :=
  x l * Ideal.rsqrt (Ideal.div (∑ k, x k * x k) (Ideal.ofBits .f32 0x44800000#32) + Ideal.ofBits .f32 0x358637BD#32) * g l

/-- A lane's place in its head. -/
def place (l : Fin 128) : BitVec 32 := BitVec.ofNat 32 (l.val % 64)

/-- The angle's cosine in the lanes that turn, -/
def cosOf (p : BitVec 32) (f : EReal) (l : Fin 128) : EReal :=
  Scalar.select (IntOp.cmpi .slt (place l) 16#32) (Ideal.cos (FloatOps.sitofp (F := Ideal) .f32 p * f)) 1
/-- its sine negated in the lower half of them, -/
def lowOf (p : BitVec 32) (f : EReal) (l : Fin 128) : EReal :=
  Scalar.select (IntOp.cmpi .slt (place l) 8#32) (-Ideal.sin (FloatOps.sitofp (F := Ideal) .f32 p * f)) 0
/-- and its sine in the upper. -/
def highOf (p : BitVec 32) (f : EReal) (l : Fin 128) : EReal :=
  Scalar.select (IntOp.andi (IntOp.cmpi .sge (place l) 8#32) (IntOp.cmpi .slt (place l) 16#32)) (Ideal.sin (FloatOps.sitofp (F := Ideal) .f32 p * f)) 0

section kernel
open Cert.NormIdeal Cert.NormIdeal.Gen

theorem pay5_apply (x : FVec Ideal S512x1024 .f32) (g : FVec Ideal S1x1024 .f32) (r : Fin 512) (l : Fin 1024) :
    k0_pay5 (F := Ideal) (k0_pay3 x) (k0_pay4 g) (ix2 r l) = normed (fun k => x (ix2 r k)) (fun k => g (ix2 0 k)) l := by
  pointwise [k0_pay5, k0_pay4, k0_pay3, normed]

theorem pay7_apply : ∀ l : Fin 128, k0_pay7 (ix2 0 l) = place l := by decide

theorem pay9_apply (p : S512x1.Idx → BitVec 32) (f : FVec Ideal S1x128 .f32) (r : Fin 512) (l : Fin 128) :
    k0_pay9 (F := Ideal) p f (ix2 r l) = cosOf (p (ix2 r 0)) (f (ix2 0 l)) l := by
  pointwise [k0_pay9, k0_pay6, pay7_apply, cosOf]

theorem low_apply (p : S512x1.Idx → BitVec 32) (f : FVec Ideal S1x128 .f32) (r : Fin 512) (l : Fin 128) :
    k0_pay1 (F := Ideal) k0_pay7 (k0_pay8 p f) (ix2 r l) = lowOf (p (ix2 r 0)) (f (ix2 0 l)) l := by
  pointwise [k0_pay1, k0_pay8, k0_pay6, pay7_apply, lowOf]
  rw [zero_sub]
theorem high_apply (p : S512x1.Idx → BitVec 32) (f : FVec Ideal S1x128 .f32) (r : Fin 512) (l : Fin 128) :
    k0_pay2 (F := Ideal) k0_pay7 (k0_pay8 p f) (ix2 r l) = highOf (p (ix2 r 0)) (f (ix2 0 l)) l := by
  pointwise [k0_pay2, k0_pay8, k0_pay6, pay7_apply, highOf]
end kernel

section reference
open Cert.NormRefIdeal Cert.NormRefIdeal.Gen

def lanes : IVec S65536x128 32 := (Host.remsi (iotaInDim S65536x128 32 1) (broadcastInDim S65536x128 ![] bcast_S_S65536x128 (constantI S_ 32 64#32)))

theorem lanes_apply (r : Fin 65536) (l : Fin 128) : lanes (ix2 r l) = place l := by
  revert l
  pointwise [lanes]
  decide

variable (A0 : FVec Ideal S65536x1024 .f32) (A1 : FVec Ideal S1x1024 .f32) (A2 : IVec S65536x1 32) (A3 : FVec Ideal S1x128 .f32)

def refH : FVec Ideal S65536x1024 .bf16 := truncf .bf16 (mulf (mulf A0 (broadcastInDim S65536x1024 ![0, 1] bcast_S65536x1_S65536x1024_0_1 (Host.rsqrt (addf (Host.divf (broadcastInDim S65536x1 ![0] bcast_S65536_S65536x1_0 (Host.reduceAdd (mulf A0 A0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 A1)) bitsLt_bf16_f32
theorem refH_apply (r : Fin 65536) (l : Fin 1024) : refH A0 A1 (ix2 r l) = normed (fun k => A0 (ix2 r k)) (fun k => A1 (ix2 0 k)) l := by
  pointwise [refH, normed]

def angles : FVec Ideal S65536x128 .f32 := (mulf (broadcastInDim S65536x128 ![0, 1] bcast_S65536x1_S65536x128_0_1 (sitofp .f32 A2)) (broadcastInDim S65536x128 ![0, 1] bcast_S1x128_S65536x128_0_1 A3))
def refCos : FVec Ideal S65536x128 .f32 := select (cmpi .slt lanes (broadcastInDim S65536x128 ![] bcast_S_S65536x128 (constantI S_ 32 16#32))) (Host.cos (angles A2 A3)) (broadcastInDim S65536x128 ![] bcast_S_S65536x128 (constant S_ .f32 0x3F800000#32))
def refLow : FVec Ideal S65536x128 .f32 := select (cmpi .slt lanes (broadcastInDim S65536x128 ![] bcast_S_S65536x128 (constantI S_ 32 8#32))) (Host.negf (Host.sin (angles A2 A3))) (broadcastInDim S65536x128 ![] bcast_S_S65536x128 (constant S_ .f32 0x00000000#32))
def refHigh : FVec Ideal S65536x128 .f32 := select (andi (cmpi .sge lanes (broadcastInDim S65536x128 ![] bcast_S_S65536x128 (constantI S_ 32 8#32))) (cmpi .slt lanes (broadcastInDim S65536x128 ![] bcast_S_S65536x128 (constantI S_ 32 16#32)))) (Host.sin (angles A2 A3)) (broadcastInDim S65536x128 ![] bcast_S_S65536x128 (constant S_ .f32 0x00000000#32))
theorem refCos_apply (r : Fin 65536) (l : Fin 128) : refCos A2 A3 (ix2 r l) = cosOf (A2 (ix2 r 0)) (A3 (ix2 0 l)) l := by
  pointwise [refCos, angles, lanes_apply, cosOf]
theorem refLow_apply (r : Fin 65536) (l : Fin 128) : refLow A2 A3 (ix2 r l) = lowOf (A2 (ix2 r 0)) (A3 (ix2 0 l)) l := by
  pointwise [refLow, angles, lanes_apply, lowOf]
theorem refHigh_apply (r : Fin 65536) (l : Fin 128) : refHigh A2 A3 (ix2 r l) = highOf (A2 (ix2 r 0)) (A3 (ix2 0 l)) l := by
  pointwise [refHigh, angles, lanes_apply, highOf]
end reference

end Cert.Proof.Norm

end
-- ==== Proof.NormValue.lean ====
/-
  The values of the first normalization and of the rotary tables, over extended reals, and the gathered weight: each
  device's results are its blocks of the reference's.
-/
module

public import proofs.«01_k».proof.Proof.NormRow
public import Idealize.ShloMosaic.Lib.Pipeline.Value
public import Idealize.ShloMosaic.Lib.Layout

@[expose] public section

noncomputable section

namespace Cert.Proof.Norm

open Cert.NormIdeal Cert.NormIdeal.Gen
open Idealize.ShloMosaic Idealize.ShloMosaic.TcCoe
open Idealize.ShloMosaic.Pipeline (Dat Cfg Window)

set_option Elab.async false

/-! ## The windows' blocks -/

section
variable {F : FTy → Type} [FloatOps F] (m : (ℓ : Loc nD τ sig) → Buf (Elt F) ℓ) (c : Dev nD) (t : Fin cfg0.N)

/-- Row `r` of a point's tile, among the device's rows. -/
abbrev row (r : Fin 512) : Fin 8192 := ⟨t.val * 512 + r.val, by have := lt16 t; omega⟩

/-- Every row is one of some point's. -/
theorem cover {n : ℕ} (i : (⟨2, ![8192, n]⟩ : Shape).Idx) : ∃ (t : Fin cfg0.N) (r : Fin 512), i = ix2 (row t r) (i 1) := by
  have h0 : (i 0).val < 8192 := (i 0).isLt
  refine ⟨⟨(i 0).val / 512, by show _ < 16; omega⟩, ⟨(i 0).val % 512, Nat.mod_lt _ (by decide)⟩, (eq_ix2 i).trans ?_⟩
  exact congrArg (ix2 · (i 1)) (Fin.ext (by show (i 0).val = (i 0).val / 512 * 512 + (i 0).val % 512; omega))

theorem at0 : ∀ t : Fin cfg0.N, win0_0.index t 0 = t.val ∧ win0_0.index t 1 = 0 := by decide
theorem at1 : ∀ t : Fin cfg0.N, win0_1.index t 0 = 0 ∧ win0_1.index t 1 = 0 := by decide
theorem at2 : ∀ t : Fin cfg0.N, win0_2.index t 0 = t.val ∧ win0_2.index t 1 = 0 := by decide
theorem at3 : ∀ t : Fin cfg0.N, win0_3.index t 0 = 0 ∧ win0_3.index t 1 = 0 := by decide
theorem at4 : ∀ t : Fin cfg0.N, win0_4.index t 0 = t.val ∧ win0_4.index t 1 = 0 := by decide
theorem at5 : ∀ t : Fin cfg0.N, win0_5.index t 0 = t.val ∧ win0_5.index t 1 = 0 := by decide
theorem at6 : ∀ t : Fin cfg0.N, win0_6.index t 0 = t.val ∧ win0_6.index t 1 = 0 := by decide
theorem at7 : ∀ t : Fin cfg0.N, win0_7.index t 0 = t.val ∧ win0_7.index t 1 = 0 := by decide

theorem iblk0 (r : Fin 512) (k : Fin 1024) : iblk m c 0 t (ix2 r k) = m ((c : Thread nD τ).loc main_arg0) (ix2 (row t r) k) := by
  refine congrArg (m ((c : Thread nD τ).loc main_arg0)) (funext fun a => Fin.ext ?_)
  refine (Window.rect_emb_val win0_0 t (ix2 r k) a).trans ?_
  match a with
  | ⟨0, _⟩ => show win0_0.index t 0 * 512 + r.val = _; rw [(at0 t).1]; rfl
  | ⟨1, _⟩ => show win0_0.index t 1 * 1024 + k.val = _; rw [(at0 t).2, Nat.zero_mul, Nat.zero_add]; rfl
theorem iblk1 (k : Fin 1024) : iblk m c 1 t (ix2 0 k) = m ((c : Thread nD τ).loc main_arg1) (ix2 0 k) := by
  refine congrArg (m ((c : Thread nD τ).loc main_arg1)) (funext fun a => Fin.ext ?_)
  refine (Window.rect_emb_val win0_1 t (ix2 0 k) a).trans ?_
  match a with
  | ⟨0, _⟩ => show win0_1.index t 0 * 1 + 0 = _; rw [(at1 t).1]; rfl
  | ⟨1, _⟩ => show win0_1.index t 1 * 1024 + k.val = _; rw [(at1 t).2, Nat.zero_mul, Nat.zero_add]; rfl
theorem iblk2 (r : Fin 512) (k : Fin 1) : iblk m c 2 t (ix2 r k) = m ((c : Thread nD τ).loc main_arg2) (ix2 (row t r) k) := by
  refine congrArg (m ((c : Thread nD τ).loc main_arg2)) (funext fun a => Fin.ext ?_)
  refine (Window.rect_emb_val win0_2 t (ix2 r k) a).trans ?_
  match a with
  | ⟨0, _⟩ => show win0_2.index t 0 * 512 + r.val = _; rw [(at2 t).1]; rfl
  | ⟨1, _⟩ => show win0_2.index t 1 * 1 + k.val = _; rw [(at2 t).2, Nat.zero_mul, Nat.zero_add]; rfl
theorem iblk3 (k : Fin 128) : iblk m c 3 t (ix2 0 k) = m ((c : Thread nD τ).loc main_arg3) (ix2 0 k) := by
  refine congrArg (m ((c : Thread nD τ).loc main_arg3)) (funext fun a => Fin.ext ?_)
  refine (Window.rect_emb_val win0_3 t (ix2 0 k) a).trans ?_
  match a with
  | ⟨0, _⟩ => show win0_3.index t 0 * 1 + 0 = _; rw [(at3 t).1]; rfl
  | ⟨1, _⟩ => show win0_3.index t 1 * 128 + k.val = _; rw [(at3 t).2, Nat.zero_mul, Nat.zero_add]; rfl

/-- Where a point leaves its rows of result 0, and the array they make. -/
theorem emb4 (r : Fin 512) (k : Fin 1024) : ((cfg0.win 4).blk t).view.emb (ix2 r k) = (ix2 (row t r) k : S8192x1024.Idx) := by
  refine funext fun a => Fin.ext ?_
  refine (Window.rect_emb_val win0_4 t (ix2 r k) a).trans ?_
  match a with
  | ⟨0, _⟩ => show win0_4.index t 0 * 512 + r.val = _; rw [(at4 t).1]; rfl
  | ⟨1, _⟩ => show win0_4.index t 1 * 1024 + k.val = _; rw [(at4 t).2, Nat.zero_mul, Nat.zero_add]; rfl
theorem mem4 (r : Fin 512) (k : Fin 1024) : (ix2 (row t r) k : S8192x1024.Idx) ∈ ((cfg0.win 4).blk t).view.set :=
  (congrArg (· ∈ ((cfg0.win 4).blk t).view.set) (emb4 t r k)).mp (View.emb_mem_set ((cfg0.win 4).blk t).view (ix2 r k))
theorem array4 (G : S8192x1024.Idx → Elt F .bf16) (h : ∀ t r k, hAt m c t (ix2 r k) = G (ix2 (row t r) k)) :
    (dats m 0 c).arrAt 4 (cfgs 0).N = G :=
  (dats m 0 c).arrAt_eq_of_cover 4 G
    (fun t _ => by
      funext j
      obtain ⟨r, k, rfl⟩ : ∃ (r : Fin 512) (k : Fin 1024), j = ix2 r k := ⟨j 0, j 1, eq_ix2 j⟩
      show hAt m c t (ix2 r k) = G (((cfg0.win 4).blk t).view.emb (ix2 r k))
      rw [emb4, h])
    (fun (i : S8192x1024.Idx) => by
      obtain ⟨t, r, hi⟩ := cover i
      exact ⟨t, flush0_4 _, (congrArg (· ∈ ((cfg0.win 4).blk t).view.set) hi).mpr (mem4 t r (i 1))⟩)

/-- Where a point leaves its rows of result 1, and the array they make. -/
theorem emb5 (r : Fin 512) (k : Fin 128) : ((cfg0.win 5).blk t).view.emb (ix2 r k) = (ix2 (row t r) k : S8192x128.Idx) := by
  refine funext fun a => Fin.ext ?_
  refine (Window.rect_emb_val win0_5 t (ix2 r k) a).trans ?_
  match a with
  | ⟨0, _⟩ => show win0_5.index t 0 * 512 + r.val = _; rw [(at5 t).1]; rfl
  | ⟨1, _⟩ => show win0_5.index t 1 * 128 + k.val = _; rw [(at5 t).2, Nat.zero_mul, Nat.zero_add]; rfl
theorem mem5 (r : Fin 512) (k : Fin 128) : (ix2 (row t r) k : S8192x128.Idx) ∈ ((cfg0.win 5).blk t).view.set :=
  (congrArg (· ∈ ((cfg0.win 5).blk t).view.set) (emb5 t r k)).mp (View.emb_mem_set ((cfg0.win 5).blk t).view (ix2 r k))
theorem array5 (G : S8192x128.Idx → Elt F .f32) (h : ∀ t r k, cosAt m c t (ix2 r k) = G (ix2 (row t r) k)) :
    (dats m 0 c).arrAt 5 (cfgs 0).N = G :=
  (dats m 0 c).arrAt_eq_of_cover 5 G
    (fun t _ => by
      funext j
      obtain ⟨r, k, rfl⟩ : ∃ (r : Fin 512) (k : Fin 128), j = ix2 r k := ⟨j 0, j 1, eq_ix2 j⟩
      show cosAt m c t (ix2 r k) = G (((cfg0.win 5).blk t).view.emb (ix2 r k))
      rw [emb5, h])
    (fun (i : S8192x128.Idx) => by
      obtain ⟨t, r, hi⟩ := cover i
      exact ⟨t, flush0_5 _, (congrArg (· ∈ ((cfg0.win 5).blk t).view.set) hi).mpr (mem5 t r (i 1))⟩)

/-- Where a point leaves its rows of result 2, and the array they make. -/
theorem emb6 (r : Fin 512) (k : Fin 128) : ((cfg0.win 6).blk t).view.emb (ix2 r k) = (ix2 (row t r) k : S8192x128.Idx) := by
  refine funext fun a => Fin.ext ?_
  refine (Window.rect_emb_val win0_6 t (ix2 r k) a).trans ?_
  match a with
  | ⟨0, _⟩ => show win0_6.index t 0 * 512 + r.val = _; rw [(at6 t).1]; rfl
  | ⟨1, _⟩ => show win0_6.index t 1 * 128 + k.val = _; rw [(at6 t).2, Nat.zero_mul, Nat.zero_add]; rfl
theorem mem6 (r : Fin 512) (k : Fin 128) : (ix2 (row t r) k : S8192x128.Idx) ∈ ((cfg0.win 6).blk t).view.set :=
  (congrArg (· ∈ ((cfg0.win 6).blk t).view.set) (emb6 t r k)).mp (View.emb_mem_set ((cfg0.win 6).blk t).view (ix2 r k))
theorem array6 (G : S8192x128.Idx → Elt F .f32) (h : ∀ t r k, lowAt m c t (ix2 r k) = G (ix2 (row t r) k)) :
    (dats m 0 c).arrAt 6 (cfgs 0).N = G :=
  (dats m 0 c).arrAt_eq_of_cover 6 G
    (fun t _ => by
      funext j
      obtain ⟨r, k, rfl⟩ : ∃ (r : Fin 512) (k : Fin 128), j = ix2 r k := ⟨j 0, j 1, eq_ix2 j⟩
      show lowAt m c t (ix2 r k) = G (((cfg0.win 6).blk t).view.emb (ix2 r k))
      rw [emb6, h])
    (fun (i : S8192x128.Idx) => by
      obtain ⟨t, r, hi⟩ := cover i
      exact ⟨t, flush0_6 _, (congrArg (· ∈ ((cfg0.win 6).blk t).view.set) hi).mpr (mem6 t r (i 1))⟩)

/-- Where a point leaves its rows of result 3, and the array they make. -/
theorem emb7 (r : Fin 512) (k : Fin 128) : ((cfg0.win 7).blk t).view.emb (ix2 r k) = (ix2 (row t r) k : S8192x128.Idx) := by
  refine funext fun a => Fin.ext ?_
  refine (Window.rect_emb_val win0_7 t (ix2 r k) a).trans ?_
  match a with
  | ⟨0, _⟩ => show win0_7.index t 0 * 512 + r.val = _; rw [(at7 t).1]; rfl
  | ⟨1, _⟩ => show win0_7.index t 1 * 128 + k.val = _; rw [(at7 t).2, Nat.zero_mul, Nat.zero_add]; rfl
theorem mem7 (r : Fin 512) (k : Fin 128) : (ix2 (row t r) k : S8192x128.Idx) ∈ ((cfg0.win 7).blk t).view.set :=
  (congrArg (· ∈ ((cfg0.win 7).blk t).view.set) (emb7 t r k)).mp (View.emb_mem_set ((cfg0.win 7).blk t).view (ix2 r k))
theorem array7 (G : S8192x128.Idx → Elt F .f32) (h : ∀ t r k, highAt m c t (ix2 r k) = G (ix2 (row t r) k)) :
    (dats m 0 c).arrAt 7 (cfgs 0).N = G :=
  (dats m 0 c).arrAt_eq_of_cover 7 G
    (fun t _ => by
      funext j
      obtain ⟨r, k, rfl⟩ : ∃ (r : Fin 512) (k : Fin 128), j = ix2 r k := ⟨j 0, j 1, eq_ix2 j⟩
      show highAt m c t (ix2 r k) = G (((cfg0.win 7).blk t).view.emb (ix2 r k))
      rw [emb7, h])
    (fun (i : S8192x128.Idx) => by
      obtain ⟨t, r, hi⟩ := cover i
      exact ⟨t, flush0_7 _, (congrArg (· ∈ ((cfg0.win 7).blk t).view.set) hi).mpr (mem7 t r (i 1))⟩)
end

/-! ## The results as blocks of the reference's -/

section
open Cert.NormRefIdeal (S65536x1024 S65536x1)

variable (m : (ℓ : Loc nD τ sig) → Buf (Elt Ideal) ℓ)
  (A0 : FVec Ideal S65536x1024 .f32) (A1 : FVec Ideal S1x1024 .f32) (A2 : IVec S65536x1 32) (A3 : FVec Ideal S1x128 .f32) (c : Dev nD)
  {T0 T4 : Layout.Tiles ⟨2, ![8192, 1024]⟩ ⟨2, ![65536, 1024]⟩ 0 8} {T2 : Layout.Tiles ⟨2, ![8192, 1]⟩ ⟨2, ![65536, 1]⟩ 0 8}
  {T5 : Layout.Tiles ⟨2, ![8192, 128]⟩ ⟨2, ![65536, 128]⟩ 0 8}
  (h0 : m ((c : Thread nD τ).loc main_arg0) = Layout.block ⟨2, ![8192, 1024]⟩ ⟨2, ![65536, 1024]⟩ 0 8 c A0 T0)
  (h1 : m ((c : Thread nD τ).loc main_arg1) = A1)
  (h2 : m ((c : Thread nD τ).loc main_arg2) = Layout.block ⟨2, ![8192, 1]⟩ ⟨2, ![65536, 1]⟩ 0 8 c A2 T2)
  (h3 : m ((c : Thread nD τ).loc main_arg3) = A3)

/-- Row `r` of device `c`, among the rows of all. -/
abbrev rowOf (c : Dev nD) (r : Fin 8192) : Fin 65536 := ⟨c.val * 8192 + r.val, by have : c.val < 8 := c.isLt; omega⟩

theorem block_row {n : ℕ} {α : Type} (A : (⟨2, ![65536, n]⟩ : Shape).Idx → α) (h : Layout.Tiles ⟨2, ![8192, n]⟩ ⟨2, ![65536, n]⟩ 0 8) (r : Fin 8192) (k : Fin n) :
    Layout.block ⟨2, ![8192, n]⟩ ⟨2, ![65536, n]⟩ 0 8 c A h (ix2 r k) = A (ix2 (rowOf c r) k) := by
  rw [Layout.block_apply]
  exact congrArg A (funext fun d => Fin.ext (by rw [Layout.Tiles.idx_val]; match d with | ⟨0, _⟩ => rfl | ⟨1, _⟩ => rfl))

theorem normed_congr {x x' g g' : Fin 1024 → EReal} {l : Fin 1024} (hx : ∀ k, x k = x' k) (hg : ∀ k, g k = g' k) : normed x g l = normed x' g' l := by
  rw [funext hx, funext hg]

include h0 h1 in
theorem h_block : (dats (F := Ideal) m 0 c).arrAt 4 (cfgs 0).N
    = Layout.block ⟨2, ![8192, 1024]⟩ ⟨2, ![65536, 1024]⟩ 0 8 c (refH A0 A1) T4 := by
  refine array4 m c _ fun t r k => ?_
  refine (pay5_apply _ _ r k).trans (Eq.trans ?_ (block_row c _ _ _ k).symm)
  refine Eq.trans ?_ (refH_apply A0 A1 _ k).symm
  refine normed_congr (fun j => ?_) fun j => ?_
  · rw [iblk0, h0]; exact block_row c A0 _ _ j
  · rw [iblk1, h1]

include h2 in
theorem pos_row (t : Fin cfg0.N) (r : Fin 512) : iblk (F := Ideal) m c 2 t (ix2 r (0 : Fin 1)) = A2 (ix2 (rowOf c (row t r)) 0) := by
  rw [iblk2, h2]; exact block_row c A2 _ _ 0
include h3 in
theorem freq_lane (t : Fin cfg0.N) (k : Fin 128) : iblk (F := Ideal) m c 3 t (ix2 0 k) = A3 (ix2 0 k) := by
  rw [iblk3, h3]

include h2 h3 in
theorem cos_block : (dats (F := Ideal) m 0 c).arrAt 5 (cfgs 0).N
    = Layout.block ⟨2, ![8192, 128]⟩ ⟨2, ![65536, 128]⟩ 0 8 c (refCos A2 A3) T5 := by
  refine array5 m c _ fun t r k => ?_
  refine (pay9_apply _ _ r k).trans (Eq.trans ?_ (block_row c _ _ _ k).symm)
  refine Eq.trans ?_ (refCos_apply A2 A3 _ k).symm
  exact congrArg₂ (fun p f => cosOf p f k) (pos_row m A2 c h2 t r) (freq_lane m A3 c h3 t k)

include h2 h3 in
theorem low_block : (dats (F := Ideal) m 0 c).arrAt 6 (cfgs 0).N
    = Layout.block ⟨2, ![8192, 128]⟩ ⟨2, ![65536, 128]⟩ 0 8 c (refLow A2 A3) T5 := by
  refine array6 m c _ fun t r k => ?_
  refine (low_apply _ _ r k).trans (Eq.trans ?_ (block_row c _ _ _ k).symm)
  refine Eq.trans ?_ (refLow_apply A2 A3 _ k).symm
  exact congrArg₂ (fun p f => lowOf p f k) (pos_row m A2 c h2 t r) (freq_lane m A3 c h3 t k)

include h2 h3 in
theorem high_block : (dats (F := Ideal) m 0 c).arrAt 7 (cfgs 0).N
    = Layout.block ⟨2, ![8192, 128]⟩ ⟨2, ![65536, 128]⟩ 0 8 c (refHigh A2 A3) T5 := by
  refine array7 m c _ fun t r k => ?_
  refine (high_apply _ _ r k).trans (Eq.trans ?_ (block_row c _ _ _ k).symm)
  refine Eq.trans ?_ (refHigh_apply A2 A3 _ k).symm
  exact congrArg₂ (fun p f => highOf p f k) (pos_row m A2 c h2 t r) (freq_lane m A3 c h3 t k)

end

/-- The gathered weight is the whole one. -/
theorem gathered_whole {F : FTy → Type} [FloatOps F] (m : (ℓ : Loc nD τ sig) → Buf (Elt F) ℓ) (x : S7680x1024.Idx → Elt F .bf16)
    {T : Layout.Tiles ⟨2, ![960, 1024]⟩ ⟨2, ![7680, 1024]⟩ 0 8}
    (h : ∀ c : Dev nD, m ((c : Thread nD τ).loc main_arg4) = Layout.block ⟨2, ![960, 1024]⟩ ⟨2, ![7680, 1024]⟩ 0 8 c x T) : gathered m = x := by
  funext i
  unfold gathered
  rw [h, Layout.block_apply]
  refine congrArg x (funext fun d => Fin.ext ?_)
  rw [Layout.Tiles.idx_val]
  match d with
  | ⟨0, _⟩ => show (i 0).val / 960 * 960 + (i 0).val % 960 = (i 0).val; omega
  | ⟨1, _⟩ => rfl

end Cert.Proof.Norm

end
-- ==== Proof.NormClaims.lean ====
/-
  The claims about the first normalization, from its run and its values.
-/
module

public import proofs.«01_k».proof.Defs
public import proofs.«01_k».proof.Proof.NormValue
public import proofs.«01_k».proof.Proof.Gen.Norm
public import Idealize.ShloMosaic.Adequacy
public import Idealize.ShloMosaic.Init

@[expose] public section

noncomputable section

namespace Cert.Proof.Norm

open Idealize.ShloMosaic Idealize.ShloMosaic.TcCoe Idealize.SL.Sem
open Idealize.ShloMosaic.Pipeline (Dat)

section
variable {F : FTy → Type} [FloatOps F]
open Cert.NormIdeal Cert.NormIdeal.Gen

/-- The run, array by array. -/
theorem run_arrays (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      (r.2.mem ((c.tc : Thread nD τ).loc main_v1_0) = (dats m 0 c).arrAt 4 (cfgs 0).N
        ∧ r.2.mem ((c.tc : Thread nD τ).loc main_v1_1) = (dats m 0 c).arrAt 5 (cfgs 0).N
        ∧ r.2.mem ((c.tc : Thread nD τ).loc main_v1_2) = (dats m 0 c).arrAt 6 (cfgs 0).N
        ∧ r.2.mem ((c.tc : Thread nD τ).loc main_v1_3) = (dats m 0 c).arrAt 7 (cfgs 0).N
        ∧ r.2.mem ((c.tc : Thread nD τ).loc main_v1_4) = gathered m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun _ h => ⟨fun c => ⟨⟨(h.1 c).1 4, (h.1 c).1 5, (h.1 c).1 6, (h.1 c).1 7, (h.1 c).2.1⟩,
      ((h.1 c).1 0).trans ((dats m 0 c).arrAt_in 0 rfl _), ((h.1 c).1 1).trans ((dats m 0 c).arrAt_in 1 rfl _),
      ((h.1 c).1 2).trans ((dats m 0 c).arrAt_in 2 rfl _), ((h.1 c).1 3).trans ((dats m 0 c).arrAt_in 3 rfl _),
      (h.1 c).2.2⟩, h.2⟩) (run_main m ρ)
end

/-- The two printed programs call the same body. -/
theorem bodies_eq : Cert.Norm.defs₀ (F := Bits) = Cert.NormIdeal.defs₀ (F := Bits) := by
  unfold Cert.Norm.defs₀ Cert.NormIdeal.defs₀
  congr 1
  funext l
  match l with
  | 0 => rfl
theorem defs_eq : Cert.Norm.defs (F := Bits) = Cert.NormIdeal.defs (F := Bits) := congrArg (Pipeline.defs _) bodies_eq

theorem frame : Cert.quiescent_Norm := fun m ρ _ => by
  have h := (θ_run Cert.NormIdeal.defs _ _).mono (fun _ h => (⟨fun c => (h.1 c).2, h.2⟩ : (∀ c, _) ∧ _)) (run_arrays (F := Bits) m ρ)
  rw [← defs_eq] at h
  exact h

theorem frame_ideal : Cert.quiescent_NormIdeal := fun m ρ _ =>
  (θ_run Cert.NormIdeal.defs _ _).mono (fun _ h => ⟨fun c => (h.1 c).2, h.2⟩) (run_arrays (F := Ideal) m ρ)

theorem frame_ref_ideal : Cert.quiescent_NormRefIdeal := fun m ρ _ =>
  (θ_run Cert.NormRefIdeal.defs _ _).mono (fun r h => ⟨fun c => (h c).2.2.2.2.2, sem_eq_zero_of_no_sems (by decide) r.2⟩)
    (Cert.NormRefIdeal.Value.run (F := Ideal) m ρ)

theorem algebraic : Cert.algebraic_NormIdeal_NormRefIdeal := fun m g m' g' _ h =>
  ⟨_, _, _, _, _,
    (θ_run Cert.NormIdeal.defs _ _).mono (fun _ hr c =>
      ⟨(hr.1 c).1.1.trans (h_block m _ _ c (h c).1 (h c).2.1),
        (hr.1 c).1.2.1.trans (cos_block m _ _ c (h c).2.2.1 (h c).2.2.2.1),
        (hr.1 c).1.2.2.1.trans (low_block m _ _ c (h c).2.2.1 (h c).2.2.2.1),
        (hr.1 c).1.2.2.2.1.trans (high_block m _ _ c (h c).2.2.1 (h c).2.2.2.1),
        (hr.1 c).1.2.2.2.2.trans (gathered_whole m _ fun c => (h c).2.2.2.2), (hr.1 c).2⟩) (run_arrays (F := Ideal) m g),
    (θ_run Cert.NormRefIdeal.defs _ _).mono (fun _ hr => hr 0) (Cert.NormRefIdeal.Value.run (F := Ideal) m' g')⟩

end Cert.Proof.Norm

end
-- ==== Proof.Loose.lean ====
/-
  Programs that leave what they hold in the same state, whatever the contents: `Runs R p` says that `p` runs from `R` to
  `R`. Loads and stores of memrefs that `R` holds are such, and so is what is built of them; a long body whose results no
  claim reads is run by these steps alone.
-/
module

public import proofs.«01_k».proof.Proof.Own

@[expose] public section

noncomputable section

namespace Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {nD : Nat} {τ : Topo} {sig : RefSig} {Val : EltTy → Type} {Ix : Type} [DecidableEq Ix] {Name : Type} [DecidableEq Name] [Infinite Name]
  {U : Type} [URA U] {Lvl : Type} [Preorder Lvl] {Λ : Idealize.SL.Sem.Labels}

local notation "𝕄" => MT nD τ sig Ix Val Name U Lvl

variable (defs : Defs nD τ sig Val Λ) (𝒱 : Variants) (c : Thread nD τ)
variable {cs : CoreSpace} {s : Shape} {e : EltTy} {α β : Type}

/-- A memref held at some contents. -/
def any {sp : Space} (m : Memref sig c.2.kind sp s e) : sProp 𝕄 := iprop(∃ X, owns c m fullShare X)

/-- A buffer at some contents. -/
theorem any_whole (b : Ref sig c.2.kind) : (any c (Memref.whole b) : sProp 𝕄) = iprop(∃ f : Buf Val (c.loc b), c.loc b ↦{fullShare} f) := by
  have hs : (Memref.whole b).view.set = Finset.univ := View.set_whole b
  have h1 : any c (Memref.whole b) ⊢ (iprop(∃ f : Buf Val (c.loc b), c.loc b ↦{fullShare} f) : sProp 𝕄) := by
    unfold any owns
    iintro ⟨%X, %f, -, H⟩
    iexists f
    rw [hs]
    iexact H
  have h2 : (iprop(∃ f : Buf Val (c.loc b), c.loc b ↦{fullShare} f) : sProp 𝕄) ⊢ any c (Memref.whole b) := by
    unfold any owns
    iintro ⟨%f, H⟩
    iexists (Memref.whole b).view.read Val f
    iexists f
    isplitr; · ipureintro; rfl
    rw [hs]
    iexact H
  exact Entails.antisymm h1 h2

/-- A store leaves some contents. -/
theorem store {m : Memref sig c.2.kind cs s e} {r : Rect s} {w : r.shape.Idx → Val e} {Mk : Finset r.shape.Idx} {hx : (m.access r).Stores Mk}
    {hm : Mk = Finset.univ ∨ ∀ a, r.stride a = 1} {X : s.Idx → Val e} {k : PUnit → Prog (TpuEff nD τ sig Val Λ c.2) α} {Q : α → sProp 𝕄} :
    (owns c m fullShare X : sProp 𝕄)
      ⊢ iprop((any c m -∗ wp frame (wpE defs 𝒱 c none) Set.univ (k ⟨⟩) Q)
          -∗ wp frame (wpE defs 𝒱 c none) Set.univ (.op (.store m r w Mk hx hm) k) Q) := by
  iintro H Hk
  unfold any owns
  icases H with ⟨%f, -, H⟩
  have hS : (m.access r).setOn Mk ⊆ m.view.set := by
    intro i hi
    obtain ⟨x, -, rfl⟩ := Finset.mem_map.mp hi
    exact m.view.emb_mem_set _
  iapply (wp_store 𝒱 c none Set.univ (m := m) (r := r) (w := w) (Mk := Mk) (hx := hx) (hm := hm) (f := f) hS) $$ H
  iintro H
  iapply Hk
  iexists m.view.read Val ((m.access r).write Val f w Mk)
  iexists (m.access r).write Val f w Mk
  isplitr; · ipureintro; rfl
  iexact H

/-- `R` lends `m`, to be read; -/
def Reads (R : sProp 𝕄) {sp : Space} (m : Memref sig c.2.kind sp s e) : Prop :=
  R ⊢ iprop(∃ X, owns c m fullShare X ∗ (owns c m fullShare X -∗ R))
/-- to be written. -/
def Writes (R : sProp 𝕄) {sp : Space} (m : Memref sig c.2.kind sp s e) : Prop := R ⊢ iprop(any c m ∗ (any c m -∗ R))

theorem Writes.reads {R : sProp 𝕄} {sp : Space} {m : Memref sig c.2.kind sp s e} (h : Writes c R m) : Reads c R m := by
  unfold Reads
  unfold Writes any at h
  iintro H
  ihave H := h $$ H
  icases H with ⟨⟨%X, H⟩, Hk⟩
  iexists X
  isplitl [H]; · iexact H
  iintro H
  iapply Hk
  iexists X
  iexact H
theorem reads_owns {sp : Space} {m : Memref sig c.2.kind sp s e} {X : s.Idx → Val e} : Reads c (owns c m fullShare X : sProp 𝕄) m := by
  unfold Reads
  iintro H
  iexists X
  isplitl [H]; · iexact H
  iintro H
  iexact H
theorem writes_any {sp : Space} {m : Memref sig c.2.kind sp s e} : Writes c (any c m : sProp 𝕄) m := by
  unfold Writes
  iintro H
  isplitl [H]; · iexact H
  iintro H
  iexact H
theorem Reads.left {A B : sProp 𝕄} {sp : Space} {m : Memref sig c.2.kind sp s e} (h : Reads c A m) : Reads c iprop(A ∗ B) m := by
  unfold Reads at h ⊢
  iintro ⟨H, HB⟩
  ihave H := h $$ H
  icases H with ⟨%X, H, Hk⟩
  iexists X
  isplitl [H]; · iexact H
  iintro H
  isplitr [HB]; · iapply Hk; iexact H
  iexact HB
theorem Reads.right {A B : sProp 𝕄} {sp : Space} {m : Memref sig c.2.kind sp s e} (h : Reads c B m) : Reads c iprop(A ∗ B) m := by
  unfold Reads at h ⊢
  iintro ⟨HA, H⟩
  ihave H := h $$ H
  icases H with ⟨%X, H, Hk⟩
  iexists X
  isplitl [H]; · iexact H
  iintro H
  isplitl [HA]; · iexact HA
  iapply Hk; iexact H
theorem Writes.left {A B : sProp 𝕄} {sp : Space} {m : Memref sig c.2.kind sp s e} (h : Writes c A m) : Writes c iprop(A ∗ B) m := by
  unfold Writes at h ⊢
  iintro ⟨H, HB⟩
  ihave H := h $$ H
  icases H with ⟨H, Hk⟩
  isplitl [H]; · iexact H
  iintro H
  isplitr [HB]; · iapply Hk; iexact H
  iexact HB
theorem Writes.right {A B : sProp 𝕄} {sp : Space} {m : Memref sig c.2.kind sp s e} (h : Writes c B m) : Writes c iprop(A ∗ B) m := by
  unfold Writes at h ⊢
  iintro ⟨HA, H⟩
  ihave H := h $$ H
  icases H with ⟨H, Hk⟩
  isplitl [H]; · iexact H
  iintro H
  isplitl [HA]; · iexact HA
  iapply Hk; iexact H

/-- `p` runs from `R` to `R`. -/
def Runs (R : sProp 𝕄) (p : Prog (TpuEff nD τ sig Val Λ c.2) α) : Prop := R ⊢ wp frame (wpE defs 𝒱 c none) Set.univ p fun _ => R

theorem Runs.pure {R : sProp 𝕄} (a : α) : Runs defs 𝒱 c R (Pure.pure a) := by
  unfold Runs
  rw [wp_pure]
  iintro H
  imodintro
  iexact H
theorem Runs.bind {R : sProp 𝕄} {p : Prog (TpuEff nD τ sig Val Λ c.2) β} {k : β → Prog (TpuEff nD τ sig Val Λ c.2) α}
    (hp : Runs defs 𝒱 c R p) (hk : ∀ b, Runs defs 𝒱 c R (k b)) : Runs defs 𝒱 c R (p >>= k) := by
  unfold Runs
  rw [wp_bind]
  exact hp.trans (wp_mono _ _ _ hk)
theorem Runs.load {R : sProp 𝕄} {m : Memref sig c.2.kind cs s e} {r : LoadRect s} {hl : m.view.LoadsAt r} (h : Reads c R m) :
    Runs defs 𝒱 c R (Prog.lift (.load m r hl)) := by
  unfold Runs
  unfold Reads at h
  iintro H
  ihave H := h $$ H
  icases H with ⟨%X, H, Hk⟩
  iapply (Own.load defs 𝒱 c (m := m) (r := r) (hl := hl) (X := X)) $$ H
  iintro H
  rw [wp_ret]
  imodintro
  iapply Hk; iexact H
theorem Runs.store {R : sProp 𝕄} {m : Memref sig c.2.kind cs s e} {r : Rect s} {w : r.shape.Idx → Val e} {Mk : Finset r.shape.Idx} {hx : (m.access r).Stores Mk}
    {hm : Mk = Finset.univ ∨ ∀ a, r.stride a = 1} (h : Writes c R m) : Runs defs 𝒱 c R (Prog.lift (.store m r w Mk hx hm)) := by
  unfold Runs
  unfold Writes at h
  iintro H
  ihave H := h $$ H
  icases H with ⟨H, Hk⟩
  unfold any
  icases H with ⟨%X, H⟩
  iapply (Own.store defs 𝒱 c (m := m) (r := r) (w := w) (Mk := Mk) (hx := hx) (hm := hm) (X := X)) $$ H
  unfold any
  iintro H
  rw [wp_ret]
  imodintro
  iapply Hk; iexact H

/-- What runs from `R` to `R`, then the rest, with what else is held; -/
theorem Runs.step {R A : sProp 𝕄} {p : Prog (TpuEff nD τ sig Val Λ c.2) β} {k : β → Prog (TpuEff nD τ sig Val Λ c.2) α} {Q : α → sProp 𝕄}
    (hp : Runs defs 𝒱 c R p) (hk : ∀ b, iprop(R ∗ A) ⊢ wp frame (wpE defs 𝒱 c none) Set.univ (k b) Q) :
    iprop(R ∗ A) ⊢ wp frame (wpE defs 𝒱 c none) Set.univ (p >>= k) Q := by
  rw [wp_bind]
  refine (BI.sep_mono hp (BI.Entails.refl A)).trans ((wp_frame_r _ _ _).trans (wp_mono _ _ _ hk))
/-- a step that changes only the rest. -/
theorem other {R A : sProp 𝕄} {B : β → sProp 𝕄} {p : Prog (TpuEff nD τ sig Val Λ c.2) β} {k : β → Prog (TpuEff nD τ sig Val Λ c.2) α} {Q : α → sProp 𝕄}
    (hp : A ⊢ wp frame (wpE defs 𝒱 c none) Set.univ p B) (hk : ∀ b, iprop(R ∗ B b) ⊢ wp frame (wpE defs 𝒱 c none) Set.univ (k b) Q) :
    iprop(R ∗ A) ⊢ wp frame (wpE defs 𝒱 c none) Set.univ (p >>= k) Q := by
  rw [wp_bind]
  refine (BI.sep_mono (BI.Entails.refl R) hp).trans ((wp_frame_l _ _ _).trans (wp_mono _ _ _ hk))

end Own
-- ==== Proof.Merge.lean ====
/-
  The gradient of the merged branches with an exchange inside the chip beside it (`Merge`): at its first grid point a device
  sends the halves its sibling core keeps of three weight gradients into the sibling's results, over the grid it computes,
  and at the last it waits for its own. The run, over any float values. The blocks laid out for the attention's backward
  pass, and the branch gradients whose first columns another kernel writes, are left at some contents.
-/
module

public import proofs.«01_k».proof.Proof.Wire
public import proofs.«01_k».proof.Proof.Loose
public import proofs.«01_k».proof.Proof.Gen.MergeIdeal.Frame
public import proofs.«01_k».proof.Proof.Gen.MergeIdeal.Skeleton
public import Idealize.ShloMosaic.Lib.Pipeline.Value

@[expose] public section

noncomputable section

namespace Cert.Proof.Merge

open Cert.MergeIdeal Cert.MergeIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg BodyObligation)

set_option Elab.async false

variable {F : FTy → Type} [FloatOps F]

local notation "𝕄" => MT nD τ sig Unit (Elt F) ℕ (Wire.UU nD τ sig) ℕ

/-! ## The protocol -/

theorem lt16 (t : Fin cfg0.N) : t.val < 16 := t.isLt
theorem cond1_iff : ∀ t : Fin cfg0.N, k0_cond1 (grid0.coords t) = 1#1 ↔ t.val = 0 := by decide
theorem cond2_iff : ∀ t : Fin cfg0.N, k0_cond2 (grid0.coords t) = 1#1 ↔ t.val = 15 := by decide
theorem inb (c : Dev nD) : ∀ a, (k0_off1 c) a + S4x1x352x1024.size a ≤ S4x2x352x1024.size a :=
  k0_off1_inb (grid0.coords t0_0) c ((cond1_iff t0_0).mpr rfl)

/-- The other core of the device's chip, -/
def sibF (c : Dev nD) : Dev nD := ⟨k0_dev1 c, k0_dev1_lt (grid0.coords t0_0) c ((cond1_iff t0_0).mpr rfl)⟩
theorem sibF_sibF : ∀ c : Dev nD, sibF (sibF c) = c := by decide
def sib : Equiv.Perm (Dev nD) := ⟨sibF, sibF, sibF_sibF, sibF_sibF⟩
/-- as the kernel addresses it each time. -/
theorem dev1 : ∀ c : Dev nD, k0_dev1 c = (sibF c).val := by decide
theorem dev2 : ∀ c : Dev nD, k0_dev2 c = (sibF c).val := by decide
theorem dev3 : ∀ c : Dev nD, k0_dev3 c = (sibF c).val := by decide

abbrev snd0 : DmaSems sig S_ := (cc0_scratch2.slice (Rect.unit (s := S3) ![0] S1.size inb_S3_S1_0)).squeeze S_ squeezes_S1_S_
abbrev snd1 : DmaSems sig S_ := (cc0_scratch2.slice (Rect.unit (s := S3) ![1] S1.size inb_S3_S1_1)).squeeze S_ squeezes_S1_S_
abbrev snd2 : DmaSems sig S_ := (cc0_scratch2.slice (Rect.unit (s := S3) ![2] S1.size inb_S3_S1_2)).squeeze S_ squeezes_S1_S_
abbrev rcv0 : DmaSems sig S_ := (cc0_scratch3.slice (Rect.unit (s := S3) ![0] S1.size inb_S3_S1_0)).squeeze S_ squeezes_S1_S_
abbrev rcv1 : DmaSems sig S_ := (cc0_scratch3.slice (Rect.unit (s := S3) ![1] S1.size inb_S3_S1_1)).squeeze S_ squeezes_S1_S_
abbrev rcv2 : DmaSems sig S_ := (cc0_scratch3.slice (Rect.unit (s := S3) ![2] S1.size inb_S3_S1_2)).squeeze S_ squeezes_S1_S_

/-- What device `c` sends of an array: the halves of its chunks that are its sibling's. -/
abbrev half (a : Memref sig .tc .hbm S4x2x352x1024 .f32) (c : Dev nD) : Memref sig .tc .hbm S4x352x1024 .f32 :=
  (a.slice (Rect.unit (s := S4x2x352x1024) (k0_off1 c) S4x1x352x1024.size (inb c)) (fun _ => rfl)).squeeze S4x352x1024 squeezes_S4x1x352x1024_S4x352x1024
abbrev src0 (c : Dev nD) := half (Memref.whole main_arg9) c
abbrev src1 (c : Dev nD) := half (Memref.whole main_arg10) c
abbrev src2 (c : Dev nD) := half (Memref.whole main_arg11) c
abbrev dst0 : Memref sig .tc .hbm S4x352x1024 .f32 := Memref.whole main_v1_10
abbrev dst1 : Memref sig .tc .hbm S4x352x1024 .f32 := Memref.whole main_v1_11
abbrev dst2 : Memref sig .tc .hbm S4x352x1024 .f32 := Memref.whole main_v1_12

/-- Kinds 0 to 2 are the read-outs of the device's own copies, kinds 3 to 5 the arrivals of its sibling's. -/
def plan : Wire.Plan nD sig (Fin 6) where
  sem := ![.dma snd0.sem, .dma snd1.sem, .dma snd2.sem, .dma rcv0.sem, .dma rcv1.sem, .dma rcv2.sem]
  amt _ := dst0.view.dmaCredit
  peer := ![Equiv.refl _, Equiv.refl _, Equiv.refl _, sib, sib, sib]
  away := ![false, false, false, true, true, true]
  lev _ := 1
  inj := by decide
  pos _ := by decide

theorem ownSems : Pipeline.OwnSemFacts (cfgs 0).spec plan.sem := by decide

variable (m : (ℓ : Loc nD τ sig) → Buf (Elt F) ℓ) (ρ : Dev nD → PrngReg)

/-- The halves of an array's chunks that device `c` sends, -/
def sent (g : S4x2x352x1024.Idx → Elt F .f32) (c : Dev nD) : S4x352x1024.Idx → Elt F .f32 := (src0 c).view.read (Elt F) g
/-- and what its results end holding: what its sibling sent. -/
def got0 (c : Dev nD) : Buf (Elt F) ((c : Thread nD τ).loc main_v1_10) := sent (m ((sib c : Thread nD τ).loc main_arg9)) (sib c)
def got1 (c : Dev nD) : Buf (Elt F) ((c : Thread nD τ).loc main_v1_11) := sent (m ((sib c : Thread nD τ).loc main_arg10)) (sib c)
def got2 (c : Dev nD) : Buf (Elt F) ((c : Thread nD τ).loc main_v1_12) := sent (m ((sib c : Thread nD τ).loc main_arg11)) (sib c)

/-- The payloads: what was read comes back; the results hold what was sent. -/
def pay (c : Dev nD) (k : Fin 6) : sProp 𝕄 := match k with
  | 0 => ((c : Thread nD τ).loc main_arg9) ↦[(src0 c).view.set]{fullShare} m ((c : Thread nD τ).loc main_arg9)
  | 1 => ((c : Thread nD τ).loc main_arg10) ↦[(src1 c).view.set]{fullShare} m ((c : Thread nD τ).loc main_arg10)
  | 2 => ((c : Thread nD τ).loc main_arg11) ↦[(src2 c).view.set]{fullShare} m ((c : Thread nD τ).loc main_arg11)
  | 3 => ((c : Thread nD τ).loc main_v1_10) ↦{fullShare} got0 m c
  | 4 => ((c : Thread nD τ).loc main_v1_11) ↦{fullShare} got1 m c
  | 5 => ((c : Thread nD τ).loc main_v1_12) ↦{fullShare} got2 m c

instance pay_storable (c : Dev nD) (k : Fin 6) : BI.Storable (upEmb : UEmb _ 𝕄) (pay m c k) := by
  unfold pay
  split <;> infer_instance

theorem pay_0 (c : Dev nD) : pay m c 0 = (((c : Thread nD τ).loc main_arg9) ↦[(src0 c).view.set]{fullShare} m ((c : Thread nD τ).loc main_arg9)) := rfl
theorem pay_1 (c : Dev nD) : pay m c 1 = (((c : Thread nD τ).loc main_arg10) ↦[(src1 c).view.set]{fullShare} m ((c : Thread nD τ).loc main_arg10)) := rfl
theorem pay_2 (c : Dev nD) : pay m c 2 = (((c : Thread nD τ).loc main_arg11) ↦[(src2 c).view.set]{fullShare} m ((c : Thread nD τ).loc main_arg11)) := rfl
theorem pay_3 (c : Dev nD) : pay m c 3 = (((c : Thread nD τ).loc main_v1_10) ↦{fullShare} got0 m c) := rfl
theorem pay_4 (c : Dev nD) : pay m c 4 = (((c : Thread nD τ).loc main_v1_11) ↦{fullShare} got1 m c) := rfl
theorem pay_5 (c : Dev nD) : pay m c 5 = (((c : Thread nD τ).loc main_v1_12) ↦{fullShare} got2 m c) := rfl

/-- The sibling's results come to hold what was sent. -/
theorem there0 (c : Dev nD) (fd : Buf (Elt F) ((sib c : Thread nD τ).loc main_v1_10)) : (((sib c : Thread nD τ).loc main_v1_10 ↦[dst0.view.set]{fullShare}
      dst0.view.write (Elt F) fd ((src0 c).view.read (Elt F) (m ((c : Thread nD τ).loc main_arg9))) Finset.univ : sProp 𝕄)) ⊢ pay m (sib c) 3 := by
  have h : dst0.view.write (Elt F) fd ((src0 c).view.read (Elt F) (m ((c : Thread nD τ).loc main_arg9))) Finset.univ = got0 m (sib c) := by
    show (View.whole main_v1_10).write (Elt F) fd (sent (m ((c : Thread nD τ).loc main_arg9)) c) Finset.univ = sent (m ((sib (sib c) : Thread nD τ).loc main_arg9)) (sib (sib c))
    rw [show sib (sib c) = c from sibF_sibF c]
    exact View.write_whole_univ _ _ _
  rw [h, show dst0.view.set = Finset.univ from View.set_whole _]
  exact Entails.of_eq (pay_3 m (sib c)).symm
theorem there1 (c : Dev nD) (fd : Buf (Elt F) ((sib c : Thread nD τ).loc main_v1_11)) : (((sib c : Thread nD τ).loc main_v1_11 ↦[dst1.view.set]{fullShare}
      dst1.view.write (Elt F) fd ((src1 c).view.read (Elt F) (m ((c : Thread nD τ).loc main_arg10))) Finset.univ : sProp 𝕄)) ⊢ pay m (sib c) 4 := by
  have h : dst1.view.write (Elt F) fd ((src1 c).view.read (Elt F) (m ((c : Thread nD τ).loc main_arg10))) Finset.univ = got1 m (sib c) := by
    show (View.whole main_v1_11).write (Elt F) fd (sent (m ((c : Thread nD τ).loc main_arg10)) c) Finset.univ = sent (m ((sib (sib c) : Thread nD τ).loc main_arg10)) (sib (sib c))
    rw [show sib (sib c) = c from sibF_sibF c]
    exact View.write_whole_univ _ _ _
  rw [h, show dst1.view.set = Finset.univ from View.set_whole _]
  exact Entails.of_eq (pay_4 m (sib c)).symm
theorem there2 (c : Dev nD) (fd : Buf (Elt F) ((sib c : Thread nD τ).loc main_v1_12)) : (((sib c : Thread nD τ).loc main_v1_12 ↦[dst2.view.set]{fullShare}
      dst2.view.write (Elt F) fd ((src2 c).view.read (Elt F) (m ((c : Thread nD τ).loc main_arg11))) Finset.univ : sProp 𝕄)) ⊢ pay m (sib c) 5 := by
  have h : dst2.view.write (Elt F) fd ((src2 c).view.read (Elt F) (m ((c : Thread nD τ).loc main_arg11))) Finset.univ = got2 m (sib c) := by
    show (View.whole main_v1_12).write (Elt F) fd (sent (m ((c : Thread nD τ).loc main_arg11)) c) Finset.univ = sent (m ((sib (sib c) : Thread nD τ).loc main_arg11)) (sib (sib c))
    rw [show sib (sib c) = c from sibF_sibF c]
    exact View.write_whole_univ _ _ _
  rw [h, show dst2.view.set = Finset.univ from View.set_whole _]
  exact Entails.of_eq (pay_5 m (sib c)).symm
theorem route (c : Dev nD) : τ.routes (c : Thread nD τ) ((sib c : Dev nD) : Thread nD τ) = true := by
  revert c; decide

abbrev 𝒱₀ : Variants := Variants.none

/-- An array's elements that are sent and those that stay. -/
theorem cut {b : Ref sig .tc} (c : Dev nD) (I : Finset b.ty.shape.Idx) (g : Buf (Elt F) ((c : Thread nD τ).loc b)) :
    (((c : Thread nD τ).loc b) ↦{fullShare} g : sProp 𝕄)
      = iprop((((c : Thread nD τ).loc b) ↦[I]{fullShare} g) ∗ (((c : Thread nD τ).loc b) ↦[Finset.univ \ I]{fullShare} g)) :=
  have h := pointsTo_split_subset (nD := nD) (τ := τ) (sig := sig) (Val := Elt F) (Ix := Unit) (Name := ℕ) (U := Wire.UU nD τ sig) (Lvl := ℕ)
    (ℓ := (c : Thread nD τ).loc b) (q := fullShare) (f := g) (Finset.subset_univ I)
  Entails.antisymm h.1 h.2

/-! ## The body -/

/-- What device `c` has of the exchange before its first point, -/
def before (κ : Dev nD × Fin 6 → ℕ) (c : Dev nD) : sProp 𝕄 :=
  iprop(Wire.hold plan (pay m) κ c Finset.univ Finset.univ
    ∗ (((c : Thread nD τ).loc main_arg9) ↦{fullShare} m ((c : Thread nD τ).loc main_arg9)) ∗ (((c : Thread nD τ).loc main_arg10) ↦{fullShare} m ((c : Thread nD τ).loc main_arg10)) ∗ (((c : Thread nD τ).loc main_arg11) ↦{fullShare} m ((c : Thread nD τ).loc main_arg11))
    ∗ (((sib c : Thread nD τ).loc main_v1_10) ↦{fullShare} m ((sib c : Thread nD τ).loc main_v1_10)) ∗ (((sib c : Thread nD τ).loc main_v1_11) ↦{fullShare} m ((sib c : Thread nD τ).loc main_v1_11)) ∗ (((sib c : Thread nD τ).loc main_v1_12) ↦{fullShare} m ((sib c : Thread nD τ).loc main_v1_12)))
/-- while the copies are under way, -/
def during (κ : Dev nD × Fin 6 → ℕ) (c : Dev nD) : sProp 𝕄 :=
  iprop(Wire.hold plan (pay m) κ c ∅ Finset.univ
    ∗ (((c : Thread nD τ).loc main_arg9) ↦[Finset.univ \ (src0 c).view.set]{fullShare} m ((c : Thread nD τ).loc main_arg9)) ∗ (((c : Thread nD τ).loc main_arg10) ↦[Finset.univ \ (src1 c).view.set]{fullShare} m ((c : Thread nD τ).loc main_arg10)) ∗ (((c : Thread nD τ).loc main_arg11) ↦[Finset.univ \ (src2 c).view.set]{fullShare} m ((c : Thread nD τ).loc main_arg11)))
/-- and at its end. -/
def kept (c : Dev nD) : sProp 𝕄 :=
  iprop(((((c : Thread nD τ).loc main_arg9) ↦{fullShare} m ((c : Thread nD τ).loc main_arg9)) ∗ (((c : Thread nD τ).loc main_arg10) ↦{fullShare} m ((c : Thread nD τ).loc main_arg10)) ∗ (((c : Thread nD τ).loc main_arg11) ↦{fullShare} m ((c : Thread nD τ).loc main_arg11)))
    ∗ (((c : Thread nD τ).loc main_v1_10) ↦{fullShare} got0 m c) ∗ (((c : Thread nD τ).loc main_v1_11) ↦{fullShare} got1 m c) ∗ (((c : Thread nD τ).loc main_v1_12) ↦{fullShare} got2 m c))

/-- What a device has of the exchange as it comes to point `n`, -/
def talk (κ : Dev nD × Fin 6 → ℕ) (c : Dev nD) (n : ℕ) : sProp 𝕄 :=
  if n = 0 then iprop(before m κ c ∗ Wire.debt plan c Finset.univ) else iprop(during m κ c ∗ Wire.debt plan c ∅)
/-- and after it. -/
def talkOut (κ : Dev nD × Fin 6 → ℕ) (c : Dev nD) (t : Fin cfg0.N) : sProp 𝕄 :=
  if t.val = 15 then iprop(kept m c ∗ Pipeline.ownSems0 plan.sem c ∗ ∃ Ws : Waits sig Unit, owes (c : Thread nD τ) 0 Ws) else iprop(during m κ c ∗ Wire.debt plan c ∅)

/-- The sends, at the first point. -/
theorem sends (κ : Dev nD × Fin 6 → ℕ) (c : Dev nD) {n0 n1 n2 : Dev nD} (h0 : n0 = sib c) (h1 : n1 = sib c) (h2 : n2 = sib c)
    {x0 x1 x2 w0 w1 w2} {y0 : (DmaTarget.remote (Dev.tc n0 : Thread nD τ) dst0 (SemLoc.dma snd0.sem) w0).view.WordExact} {y1 : (DmaTarget.remote (Dev.tc n1 : Thread nD τ) dst1 (SemLoc.dma snd1.sem) w1).view.WordExact} {y2 : (DmaTarget.remote (Dev.tc n2 : Thread nD τ) dst2 (SemLoc.dma snd2.sem) w2).view.WordExact} {z0 : DmaTarget.Typed Space.hbm (SemLoc.dma rcv0.sem) (DmaTarget.remote (Dev.tc n0 : Thread nD τ) dst0 (SemLoc.dma snd0.sem) w0)} {z1 : DmaTarget.Typed Space.hbm (SemLoc.dma rcv1.sem) (DmaTarget.remote (Dev.tc n1 : Thread nD τ) dst1 (SemLoc.dma snd1.sem) w1)} {z2 : DmaTarget.Typed Space.hbm (SemLoc.dma rcv2.sem) (DmaTarget.remote (Dev.tc n2 : Thread nD τ) dst2 (SemLoc.dma snd2.sem) w2)} {α : Type} {Q : α → sProp 𝕄} {k : PUnit → Prog (TpuEff nD τ sig (Elt F) Λ₀ .tc) α} :
    iprop((before m κ c ∗ Wire.debt plan c Finset.univ) ∗ ((during m κ c ∗ Wire.debt plan c ∅) -∗ wp frame (wpE (defs₀ (F := F)) 𝒱₀ (c : Thread nD τ) none) Set.univ (k ⟨⟩) Q))
      ⊢ wp frame (wpE (defs₀ (F := F)) 𝒱₀ (c : Thread nD τ) none) Set.univ
        (.op (.enqueueDma (src0 c) (.remote (Dev.tc n0 : Thread nD τ) dst0 (.dma snd0.sem) w0) (.dma rcv0.sem) x0 y0 z0) fun _ =>
         .op (.enqueueDma (src1 c) (.remote (Dev.tc n1 : Thread nD τ) dst1 (.dma snd1.sem) w1) (.dma rcv1.sem) x1 y1 z1) fun _ =>
         .op (.enqueueDma (src2 c) (.remote (Dev.tc n2 : Thread nD τ) dst2 (.dma snd2.sem) w2) (.dma rcv2.sem) x2 y2 z2) k) Q := by
  unfold before during
  rw [cut c (src0 c).view.set (m ((c : Thread nD τ).loc main_arg9)), cut c (src1 c).view.set (m ((c : Thread nD τ).loc main_arg10)), cut c (src2 c).view.set (m ((c : Thread nD τ).loc main_arg11))]
  iintro ⟨⟨⟨Hh, ⟨Hs0, Hr0⟩, ⟨Hs1, Hr1⟩, ⟨Hs2, Hr2⟩, Hb0, Hb1, Hb2⟩, Hd⟩, Hk⟩
  iapply (Wire.hold_send plan (pay m) κ c (defs₀ (F := F)) 𝒱₀ (src := src0 c) (dst := dst0) 0 3 (P := Finset.univ) (W := Finset.univ)
    (fd := m ((sib c : Thread nD τ).loc main_v1_10)) (fs := m ((c : Thread nD τ).loc main_arg9)) (q := fullShare)
    h0 rfl rfl rfl rfl rfl (by decide) (by decide) (Finset.mem_univ _) rfl rfl
    (Entails.of_eq (pay_0 m c).symm) (there0 m c _) (route c)) $$ [Hh Hd Hs0 Hb0]
  · isplitl [Hh]; · iexact Hh
    isplitl [Hd]; · iexact Hd
    isplitl [Hs0]; · iexact Hs0
    iapply (Entails.of_eq (show (((sib c : Thread nD τ).loc main_v1_10) ↦{fullShare} m ((sib c : Thread nD τ).loc main_v1_10) : sProp 𝕄)
      = ((sib c : Thread nD τ).loc main_v1_10 ↦[dst0.view.set]{fullShare} m ((sib c : Thread nD τ).loc main_v1_10)) by rw [show dst0.view.set = Finset.univ from View.set_whole _])); iexact Hb0
  iintro ⟨Hh, Hd⟩
  iapply (Wire.hold_send plan (pay m) κ c (defs₀ (F := F)) 𝒱₀ (src := src1 c) (dst := dst1) 1 4 (P := ((Finset.univ : Finset (Fin 6)).erase 0).erase 3) (W := Finset.univ)
    (fd := m ((sib c : Thread nD τ).loc main_v1_11)) (fs := m ((c : Thread nD τ).loc main_arg10)) (q := fullShare)
    h1 rfl rfl rfl rfl rfl (by decide) (by decide) (Finset.mem_univ _) rfl rfl
    (Entails.of_eq (pay_1 m c).symm) (there1 m c _) (route c)) $$ [Hh Hd Hs1 Hb1]
  · isplitl [Hh]; · iexact Hh
    isplitl [Hd]; · iexact Hd
    isplitl [Hs1]; · iexact Hs1
    iapply (Entails.of_eq (show (((sib c : Thread nD τ).loc main_v1_11) ↦{fullShare} m ((sib c : Thread nD τ).loc main_v1_11) : sProp 𝕄)
      = ((sib c : Thread nD τ).loc main_v1_11 ↦[dst1.view.set]{fullShare} m ((sib c : Thread nD τ).loc main_v1_11)) by rw [show dst1.view.set = Finset.univ from View.set_whole _])); iexact Hb1
  iintro ⟨Hh, Hd⟩
  iapply (Wire.hold_send plan (pay m) κ c (defs₀ (F := F)) 𝒱₀ (src := src2 c) (dst := dst2) 2 5 (P := ((((Finset.univ : Finset (Fin 6)).erase 0).erase 3).erase 1).erase 4) (W := Finset.univ)
    (fd := m ((sib c : Thread nD τ).loc main_v1_12)) (fs := m ((c : Thread nD τ).loc main_arg11)) (q := fullShare)
    h2 rfl rfl rfl rfl rfl (by decide) (by decide) (Finset.mem_univ _) rfl rfl
    (Entails.of_eq (pay_2 m c).symm) (there2 m c _) (route c)) $$ [Hh Hd Hs2 Hb2]
  · isplitl [Hh]; · iexact Hh
    isplitl [Hd]; · iexact Hd
    isplitl [Hs2]; · iexact Hs2
    iapply (Entails.of_eq (show (((sib c : Thread nD τ).loc main_v1_12) ↦{fullShare} m ((sib c : Thread nD τ).loc main_v1_12) : sProp 𝕄)
      = ((sib c : Thread nD τ).loc main_v1_12 ↦[dst2.view.set]{fullShare} m ((sib c : Thread nD τ).loc main_v1_12)) by rw [show dst2.view.set = Finset.univ from View.set_whole _])); iexact Hb2
  iintro ⟨Hh, Hd⟩
  rw [show ((((((Finset.univ : Finset (Fin 6)).erase 0).erase 3).erase 1).erase 4).erase 2).erase 5 = ∅ from by decide]
  iapply Hk
  isplitr [Hd]
  · isplitl [Hh]; · iexact Hh
    isplitl [Hr0]; · iexact Hr0
    isplitl [Hr1] <;> iassumption
  iexact Hd

theorem credit (a : Memref sig .tc .hbm S4x352x1024 .f32) : dst0.view.dmaCredit = a.view.dmaCredit := rfl
/-- The waits, at the last. -/
theorem waits (κ : Dev nD × Fin 6 → ℕ) (c : Dev nD) {a0 a1 a2 b0 b1 b2 : Memref sig .tc .hbm S4x352x1024 .f32} {x0 x1 x2 y0 y1 y2 x3 x4 x5 y3 y4 y5}
    {α : Type} {Q : α → sProp 𝕄} {k : PUnit → Prog (TpuEff nD τ sig (Elt F) Λ₀ .tc) α} :
    iprop((during m κ c ∗ Wire.debt plan c ∅)
        ∗ ((kept m c ∗ Pipeline.ownSems0 plan.sem c ∗ ∃ Ws : Waits sig Unit, owes (c : Thread nD τ) 0 Ws) -∗ wp frame (wpE (defs₀ (F := F)) 𝒱₀ (c : Thread nD τ) none) Set.univ (k ⟨⟩) Q))
      ⊢ wp frame (wpE (defs₀ (F := F)) 𝒱₀ (c : Thread nD τ) none) Set.univ
        (.op (.waitDma2 snd0.sem dst0 a0 x0 y0) fun _ => .op (.waitDma2 rcv0.sem b0 dst0 x1 y1) fun _ =>
         .op (.waitDma2 snd1.sem dst1 a1 x2 y2) fun _ => .op (.waitDma2 rcv1.sem b1 dst1 x3 y3) fun _ =>
         .op (.waitDma2 snd2.sem dst2 a2 x4 y4) fun _ => .op (.waitDma2 rcv2.sem b2 dst2 x5 y5) k) Q := by
  unfold during kept
  rw [cut c (src0 c).view.set (m ((c : Thread nD τ).loc main_arg9)), cut c (src1 c).view.set (m ((c : Thread nD τ).loc main_arg10)), cut c (src2 c).view.set (m ((c : Thread nD τ).loc main_arg11))]
  iintro ⟨⟨⟨Hh, Hr0, Hr1, Hr2⟩, Hd⟩, Hk⟩
  iapply (Wire.hold_wait plan (pay m) κ c (defs₀ (F := F)) 𝒱₀ (P := ∅) (W := Finset.univ) 0 rfl (by decide) (Or.inr (by decide)) (credit a0) (by decide)) $$ [Hh Hd]
  · isplitl [Hh] <;> iassumption
  iintro ⟨Hh, Hd, Hp0⟩
  ihave Hp0 := (Entails.of_eq (pay_0 m c)) $$ Hp0
  iapply (Wire.hold_wait plan (pay m) κ c (defs₀ (F := F)) 𝒱₀ (P := ∅) (W := (Finset.univ : Finset (Fin 6)).erase 0) 3 rfl (by decide) (Or.inr (by decide)) rfl (by decide)) $$ [Hh Hd]
  · isplitl [Hh] <;> iassumption
  iintro ⟨Hh, Hd, Hp3⟩
  ihave Hp3 := (Entails.of_eq (pay_3 m c)) $$ Hp3
  iapply (Wire.hold_wait plan (pay m) κ c (defs₀ (F := F)) 𝒱₀ (P := ∅) (W := ((Finset.univ : Finset (Fin 6)).erase 0).erase 3) 1 rfl (by decide) (Or.inr (by decide)) (credit a1) (by decide)) $$ [Hh Hd]
  · isplitl [Hh] <;> iassumption
  iintro ⟨Hh, Hd, Hp1⟩
  ihave Hp1 := (Entails.of_eq (pay_1 m c)) $$ Hp1
  iapply (Wire.hold_wait plan (pay m) κ c (defs₀ (F := F)) 𝒱₀ (P := ∅) (W := (((Finset.univ : Finset (Fin 6)).erase 0).erase 3).erase 1) 4 rfl (by decide) (Or.inr (by decide)) rfl (by decide)) $$ [Hh Hd]
  · isplitl [Hh] <;> iassumption
  iintro ⟨Hh, Hd, Hp4⟩
  ihave Hp4 := (Entails.of_eq (pay_4 m c)) $$ Hp4
  iapply (Wire.hold_wait plan (pay m) κ c (defs₀ (F := F)) 𝒱₀ (P := ∅) (W := ((((Finset.univ : Finset (Fin 6)).erase 0).erase 3).erase 1).erase 4) 2 rfl (by decide) (Or.inr (by decide)) (credit a2) (by decide)) $$ [Hh Hd]
  · isplitl [Hh] <;> iassumption
  iintro ⟨Hh, Hd, Hp2⟩
  ihave Hp2 := (Entails.of_eq (pay_2 m c)) $$ Hp2
  iapply (Wire.hold_wait plan (pay m) κ c (defs₀ (F := F)) 𝒱₀ (P := ∅) (W := (((((Finset.univ : Finset (Fin 6)).erase 0).erase 3).erase 1).erase 4).erase 2) 5 rfl (by decide) (Or.inr (by decide)) rfl (by decide)) $$ [Hh Hd]
  · isplitl [Hh] <;> iassumption
  iintro ⟨Hh, Hd, Hp5⟩
  ihave Hp5 := (Entails.of_eq (pay_5 m c)) $$ Hp5
  rw [show ((((((Finset.univ : Finset (Fin 6)).erase 0).erase 3).erase 1).erase 4).erase 2).erase 5 = ∅ from by decide]
  iapply Hk
  isplitr [Hh Hd]
  · isplitr [Hp3 Hp4 Hp5]
    · isplitl [Hp0 Hr0]; · isplitl [Hp0] <;> iassumption
      isplitl [Hp1 Hr1]; · isplitl [Hp1] <;> iassumption
      isplitl [Hp2] <;> iassumption
    isplitl [Hp3]; · iexact Hp3
    isplitl [Hp4] <;> iassumption
  isplitl [Hh]; · iapply (Wire.hold_done plan (pay m) κ c); iexact Hh
  iapply (Wire.debt_done plan c); iexact Hd

section Body

variable (κ : Dev nD × Fin 6 → ℕ) (c : Dev nD) (t : Fin cfg0.N)
  (arg1 : Memref sig .tc .vmem S512x1024 .bf16) (harg1 : arg1.IsWhole)
  (arg2 : Memref sig .tc .vmem S1024x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S1024x512 .bf16) (harg7 : arg7.IsWhole)
  (arg8 : Memref sig .tc .vmem S1024x512 .bf16) (harg8 : arg8.IsWhole)
  (arg9 : Memref sig .tc .vmem S512x512 .f32) (harg9 : arg9.IsWhole)
  (arg10 : Memref sig .tc .vmem S512x128 .f32) (harg10 : arg10.IsWhole)
  (arg14 : Memref sig .tc .vmem S512x1024 .bf16) (harg14 : arg14.IsWhole)
  (arg15 : Memref sig .tc .vmem S512x1024 .bf16) (harg15 : arg15.IsWhole)
  (arg16 : Memref sig .tc .vmem S512x3072 .bf16) (harg16 : arg16.IsWhole)
  (arg17 : Memref sig .tc .vmem S512x512 .f32) (harg17 : arg17.IsWhole)
  (arg18 : Memref sig .tc .vmem S1x512x512 .bf16) (harg18 : arg18.IsWhole)
  (arg19 : Memref sig .tc .vmem S1x512x128 .f32) (harg19 : arg19.IsWhole)
  (arg20 : Memref sig .tc .vmem S4x128x512 .bf16) (harg20 : arg20.IsWhole)
  (arg21 : Memref sig .tc .vmem S4x128x128 .f32) (harg21 : arg21.IsWhole)
  (arg22 : Memref sig .tc .vmem S16x32x512 .bf16) (harg22 : arg22.IsWhole)
  (arg23 : Memref sig .tc .vmem S16x32x128 .f32) (harg23 : arg23.IsWhole)
  (X1 : S512x1024.Idx → Elt F .bf16) (X2 : S1024x1024.Idx → Elt F .bf16) (X3 X4 X5 X6 : S512x1024.Idx → Elt F .bf16) (X7 X8 : S1024x512.Idx → Elt F .bf16)
  (X9 : S512x512.Idx → Elt F .f32) (X10 : S512x128.Idx → Elt F .f32) (X14 X15 : S512x1024.Idx → Elt F .bf16) (X17 : S512x512.Idx → Elt F .f32)

/-- The inputs whose values the results are made of. -/
abbrev ins : sProp 𝕄 := iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8)
/-- What is held of the rest of the body's arrays, whose contents no claim reads. -/
abbrev loose : sProp 𝕄 := iprop(owns (c : Thread nD τ) arg9 fullShare X9 ∗ owns (c : Thread nD τ) arg10 fullShare X10 ∗ Own.any (c : Thread nD τ) arg18 ∗ Own.any (c : Thread nD τ) arg19 ∗ Own.any (c : Thread nD τ) arg20 ∗ Own.any (c : Thread nD τ) arg21 ∗ Own.any (c : Thread nD τ) arg22 ∗ Own.any (c : Thread nD τ) arg23 ∗ Own.any (c : Thread nD τ) (Memref.whole cc0_scratch0) ∗ Own.any (c : Thread nD τ) (Memref.whole cc0_scratch1))
/-- The results' blocks as the body finds them, -/
abbrev outs0 : sProp 𝕄 := iprop(owns (c : Thread nD τ) arg14 fullShare X14 ∗ owns (c : Thread nD τ) arg15 fullShare X15 ∗ Own.any (c : Thread nD τ) arg16 ∗ owns (c : Thread nD τ) arg17 fullShare X17)
/-- and as it leaves them. -/
abbrev outs : sProp 𝕄 := iprop(owns (c : Thread nD τ) arg14 fullShare (k0_pay7 X1 X2 X5) ∗ owns (c : Thread nD τ) arg15 fullShare (k0_pay8 X1 X2 X6) ∗ Own.any (c : Thread nD τ) arg16 ∗ owns (c : Thread nD τ) arg17 fullShare (k0_pay11 (k0_pay6 X1 X2 X6) X8))

/-- The exchange begins at the first point; the gradient of the first branch. -/
theorem first_part :
    iprop(talk m κ c t.val ∗ ins c arg1 arg2 arg3 arg4 arg5 arg6 arg7 arg8 X1 X2 X3 X4 X5 X6 X7 X8 ∗ outs0 c arg14 arg15 arg16 arg17 X14 X15 X17)
      ⊢ wp frame (wpE (defs₀ (F := F)) 𝒱₀ (c : Thread nD τ) none) Set.univ
          (k0_part3 (grid0.coords t) arg1 harg1 arg2 harg2 arg3 harg3 arg4 harg4 arg5 harg5 arg6 harg6 arg7 harg7 arg8 harg8 arg9 harg9 arg10 harg10 (Memref.whole main_arg9) (Memref.isWhole_whole _) (Memref.whole main_arg10) (Memref.isWhole_whole _) (Memref.whole main_arg11) (Memref.isWhole_whole _) arg14 harg14 arg15 harg15 arg16 harg16 arg17 harg17 arg18 harg18 arg19 harg19 arg20 harg20 arg21 harg21 arg22 harg22 arg23 harg23 (Memref.whole main_v1_10) (Memref.isWhole_whole _) (Memref.whole main_v1_11) (Memref.isWhole_whole _) (Memref.whole main_v1_12) (Memref.isWhole_whole _) (Memref.whole cc0_scratch0) (Memref.isWhole_whole _) (Memref.whole cc0_scratch1) (Memref.isWhole_whole _) cc0_scratch2 cc0_scratch3)
          fun r => iprop(⌜r.2.1 = c ∧ r.2.2.2.2.2.2.2.2.2.1 = k0_pay6 X1 X2 X6 ∧ r.2.2.2.2.2.2.2.2.2.2 = k0_pay8 X1 X2 X6⌝
            ∗ talk m κ c (t.val + 1) ∗ ins c arg1 arg2 arg3 arg4 arg5 arg6 arg7 arg8 X1 X2 X3 X4 X5 X6 X7 X8 ∗ outs0 c arg14 arg15 arg16 arg17 (k0_pay7 X1 X2 X5) X15 X17) := by
  simp only [k0_part3_eq_skeleton]; unfold k0_part3_skel
  simp only [Prog.lift, Prog.bind_op, Prog.bind_ret, Prog.pure_eq_ret, wp_deviceId]
  unfold talk
  rw [if_neg (Nat.succ_ne_zero t.val)]
  by_cases h : k0_cond1 (grid0.coords t) = 1#1
  case' pos =>
    rw [dif_pos h, if_pos ((cond1_iff t).mp h)]
    simp only [k0_part1_eq_skeleton]; unfold k0_part1_skel
    simp only [Prog.lift, Prog.bind_op, Prog.bind_ret, Prog.pure_eq_ret]
    iintro ⟨HT, ⟨H1, H2, H3, H4, H5, H6, H7, H8⟩, H14, H15, H16, H17⟩
    iapply (sends m κ c (Fin.ext (dev1 c)) (Fin.ext (dev2 c)) (Fin.ext (dev3 c)))
    isplitl [HT]; · iexact HT
    iintro HT
  case' neg =>
    rw [dif_neg h, if_neg (fun h0 => h ((cond1_iff t).mpr h0))]
    iintro ⟨HT, ⟨H1, H2, H3, H4, H5, H6, H7, H8⟩, H14, H15, H16, H17⟩
  all_goals
    iapply (Own.load_whole (defs₀ (F := F)) 𝒱₀ (c : Thread nD τ) (m := arg1) (by decide)) $$ H1
    iintro H1
    iapply (Own.load_whole (defs₀ (F := F)) 𝒱₀ (c : Thread nD τ) (m := arg2) (by decide)) $$ H2
    iintro H2
    iapply (Own.load_whole (defs₀ (F := F)) 𝒱₀ (c : Thread nD τ) (m := arg5) (by decide)) $$ H5
    iintro H5
    iapply (Own.load_whole (defs₀ (F := F)) 𝒱₀ (c : Thread nD τ) (m := arg6) (by decide)) $$ H6
    iintro H6
    iapply (Own.load_whole (defs₀ (F := F)) 𝒱₀ (c : Thread nD τ) (m := arg14) (by decide)) $$ H14
    iintro H14
    iapply (Own.store_whole (defs₀ (F := F)) 𝒱₀ (c : Thread nD τ) (m := arg14) (by decide)) $$ H14
    iintro H14
    iapply (Own.load_whole (defs₀ (F := F)) 𝒱₀ (c : Thread nD τ) (m := arg15) (by decide)) $$ H15
    iintro H15
    rw [wp_ret]
    imodintro
    isplitr; · ipureintro; exact ⟨rfl, rfl, rfl⟩
    isplitl [HT]; · iexact HT
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7] <;> iassumption
    isplitl [H14]; · iexact H14
    isplitl [H15]; · iexact H15
    isplitl [H16] <;> iassumption

/-- The gradient of the second branch, and what it sends back through its weight. -/
theorem second_part (n : ℕ) (v16 v20 v24 : FVec F S512x1024 .f32) (v26 v28 : FVec F S512x1024 .bf16) (v34 : FVec F S512x1024 .bf16) :
    iprop(talk m κ c n ∗ ins c arg1 arg2 arg3 arg4 arg5 arg6 arg7 arg8 X1 X2 X3 X4 X5 X6 X7 X8 ∗ outs0 c arg14 arg15 arg16 arg17 X14 X15 X17)
      ⊢ wp frame (wpE (defs₀ (F := F)) 𝒱₀ (c : Thread nD τ) none) Set.univ
          (k0_part4 (grid0.coords t) arg1 harg1 arg2 harg2 arg3 harg3 arg4 harg4 arg5 harg5 arg6 harg6 arg7 harg7 arg8 harg8 arg9 harg9 arg10 harg10 (Memref.whole main_arg9) (Memref.isWhole_whole _) (Memref.whole main_arg10) (Memref.isWhole_whole _) (Memref.whole main_arg11) (Memref.isWhole_whole _) arg14 harg14 arg15 harg15 arg16 harg16 arg17 harg17 arg18 harg18 arg19 harg19 arg20 harg20 arg21 harg21 arg22 harg22 arg23 harg23 (Memref.whole main_v1_10) (Memref.isWhole_whole _) (Memref.whole main_v1_11) (Memref.isWhole_whole _) (Memref.whole main_v1_12) (Memref.isWhole_whole _) (Memref.whole cc0_scratch0) (Memref.isWhole_whole _) (Memref.whole cc0_scratch1) (Memref.isWhole_whole _) cc0_scratch2 cc0_scratch3 v16 v20 v24 v26 v28 v34)
          fun _ => iprop(talk m κ c n ∗ ins c arg1 arg2 arg3 arg4 arg5 arg6 arg7 arg8 X1 X2 X3 X4 X5 X6 X7 X8 ∗ outs0 c arg14 arg15 arg16 arg17 X14 v34 (k0_pay11 v28 X8)) := by
  simp only [k0_part4_eq_skeleton]; unfold k0_part4_skel
  simp only [Prog.lift, Prog.bind_op, Prog.bind_ret, Prog.pure_eq_ret]
  unfold outs0 Own.any
  iintro ⟨HT, ⟨H1, H2, H3, H4, H5, H6, H7, H8⟩, H14, H15, ⟨%Y, H16⟩, H17⟩
  iapply (Own.store_whole (defs₀ (F := F)) 𝒱₀ (c : Thread nD τ) (m := arg15) (by decide)) $$ H15
  iintro H15
  iapply (Own.load_whole (defs₀ (F := F)) 𝒱₀ (c : Thread nD τ) (m := arg3) (by decide)) $$ H3
  iintro H3
  iapply (Own.load (defs₀ (F := F)) 𝒱₀ (c : Thread nD τ) (m := arg16)) $$ H16
  iintro H16
  iapply (Own.store (defs₀ (F := F)) 𝒱₀ (c : Thread nD τ) (m := arg16)) $$ H16
  unfold Own.any
  iintro ⟨%Y, H16⟩
  iapply (Own.load_whole (defs₀ (F := F)) 𝒱₀ (c : Thread nD τ) (m := arg4) (by decide)) $$ H4
  iintro H4
  iapply (Own.load (defs₀ (F := F)) 𝒱₀ (c : Thread nD τ) (m := arg16)) $$ H16
  iintro H16
  iapply (Own.store (defs₀ (F := F)) 𝒱₀ (c : Thread nD τ) (m := arg16)) $$ H16
  unfold Own.any
  iintro ⟨%Y, H16⟩
  iapply (Own.load_whole (defs₀ (F := F)) 𝒱₀ (c : Thread nD τ) (m := arg8) (by decide)) $$ H8
  iintro H8
  iapply (Own.load_whole (defs₀ (F := F)) 𝒱₀ (c : Thread nD τ) (m := arg17) (by decide)) $$ H17
  iintro H17
  iapply (Own.store_whole (defs₀ (F := F)) 𝒱₀ (c : Thread nD τ) (m := arg17) (by decide)) $$ H17
  iintro H17
  iapply (Own.load_whole (defs₀ (F := F)) 𝒱₀ (c : Thread nD τ) (m := arg7) (by decide)) $$ H7
  iintro H7
  rw [wp_ret]
  imodintro
  isplitl [HT]; · iexact HT
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7] <;> iassumption
  isplitl [H14]; · iexact H14
  isplitl [H15]; · iexact H15
  isplitl [H16]
  · iexists _
    iexact H16
  iexact H17

set_option maxHeartbeats 1000000 in
/-- The rest is laid out from block to block; the exchange ends at the last point. -/
theorem sound_body (R : sProp 𝕄) (r9 : Own.Reads (c : Thread nD τ) R arg9) (r10 : Own.Reads (c : Thread nD τ) R arg10) (w18 : Own.Writes (c : Thread nD τ) R arg18) (w19 : Own.Writes (c : Thread nD τ) R arg19) (w20 : Own.Writes (c : Thread nD τ) R arg20) (w21 : Own.Writes (c : Thread nD τ) R arg21) (w22 : Own.Writes (c : Thread nD τ) R arg22) (w23 : Own.Writes (c : Thread nD τ) R arg23) (w27 : Own.Writes (c : Thread nD τ) R (Memref.whole cc0_scratch0)) (w28 : Own.Writes (c : Thread nD τ) R (Memref.whole cc0_scratch1)) :
    iprop(R ∗ talk m κ c t.val ∗ ins c arg1 arg2 arg3 arg4 arg5 arg6 arg7 arg8 X1 X2 X3 X4 X5 X6 X7 X8 ∗ outs0 c arg14 arg15 arg16 arg17 X14 X15 X17)
      ⊢ wp frame (wpE (defs₀ (F := F)) 𝒱₀ (c : Thread nD τ) none) Set.univ
          (cc0_merge_bwd (grid0.coords t) arg1 harg1 arg2 harg2 arg3 harg3 arg4 harg4 arg5 harg5 arg6 harg6 arg7 harg7 arg8 harg8 arg9 harg9 arg10 harg10 (Memref.whole main_arg9) (Memref.isWhole_whole _) (Memref.whole main_arg10) (Memref.isWhole_whole _) (Memref.whole main_arg11) (Memref.isWhole_whole _) arg14 harg14 arg15 harg15 arg16 harg16 arg17 harg17 arg18 harg18 arg19 harg19 arg20 harg20 arg21 harg21 arg22 harg22 arg23 harg23 (Memref.whole main_v1_10) (Memref.isWhole_whole _) (Memref.whole main_v1_11) (Memref.isWhole_whole _) (Memref.whole main_v1_12) (Memref.isWhole_whole _) (Memref.whole cc0_scratch0) (Memref.isWhole_whole _) (Memref.whole cc0_scratch1) (Memref.isWhole_whole _) cc0_scratch2 cc0_scratch3)
          fun _ => iprop(R ∗ talkOut m κ c t ∗ ins c arg1 arg2 arg3 arg4 arg5 arg6 arg7 arg8 X1 X2 X3 X4 X5 X6 X7 X8 ∗ outs c arg14 arg15 arg16 arg17 X1 X2 X5 X6 X8) := by
  simp only [cc0_merge_bwd_eq_skeleton]; unfold cc0_merge_bwd_skel
  have q18 := Own.Writes.reads _ w18
  have q19 := Own.Writes.reads _ w19
  have q20 := Own.Writes.reads _ w20
  have q21 := Own.Writes.reads _ w21
  have q22 := Own.Writes.reads _ w22
  have q23 := Own.Writes.reads _ w23
  have q27 := Own.Writes.reads _ w27
  have q28 := Own.Writes.reads _ w28
  refine Own.other (defs₀ (F := F)) 𝒱₀ (c : Thread nD τ) (R := R) (first_part m κ c t arg1 harg1 arg2 harg2 arg3 harg3 arg4 harg4 arg5 harg5 arg6 harg6 arg7 harg7 arg8 harg8 arg9 harg9 arg10 harg10 arg14 harg14 arg15 harg15 arg16 harg16 arg17 harg17 arg18 harg18 arg19 harg19 arg20 harg20 arg21 harg21 arg22 harg22 arg23 harg23 X1 X2 X3 X4 X5 X6 X7 X8 X14 X15 X17) fun ⟨a0, d0, v2, v5, v8, v16, v20, v24, v26, v28, v34⟩ => ?_
  iintro ⟨HR, %hr, H⟩
  obtain ⟨h1, h2, h3⟩ := hr
  simp only at h1 h2 h3
  obtain rfl := h1.symm
  subst h2 h3
  istop
  refine Own.other (defs₀ (F := F)) 𝒱₀ (c : Thread nD τ) (R := R) (second_part m κ c t arg1 harg1 arg2 harg2 arg3 harg3 arg4 harg4 arg5 harg5 arg6 harg6 arg7 harg7 arg8 harg8 arg9 harg9 arg10 harg10 arg14 harg14 arg15 harg15 arg16 harg16 arg17 harg17 arg18 harg18 arg19 harg19 arg20 harg20 arg21 harg21 arg22 harg22 arg23 harg23 X1 X2 X3 X4 X5 X6 X7 X8 (k0_pay7 X1 X2 X5) X15 X17 (t.val + 1) v16 v20 v24 v26 (k0_pay6 X1 X2 X6) (k0_pay8 X1 X2 X6)) fun ⟨v67, v70, v71⟩ => ?_
  refine Own.Runs.step (defs₀ (F := F)) 𝒱₀ (c : Thread nD τ) (R := R) ?_ fun ⟨_, _⟩ => ?_
  swap
  refine Own.Runs.step (defs₀ (F := F)) 𝒱₀ (c : Thread nD τ) (R := R) ?_ fun ⟨_, _, _, _, _⟩ => ?_
  swap
  refine Own.Runs.step (defs₀ (F := F)) 𝒱₀ (c : Thread nD τ) (R := R) ?_ fun ⟨_, _, _, _, _, _⟩ => ?_
  swap
  refine Own.Runs.step (defs₀ (F := F)) 𝒱₀ (c : Thread nD τ) (R := R) ?_ fun ⟨_, _⟩ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun ⟨_, _⟩ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) ?_ fun _ => ?_
  swap
  refine Own.Runs.step (defs₀ (F := F)) 𝒱₀ (c : Thread nD τ) (R := R) (Own.Runs.load _ _ _ q28) fun _ => ?_
  refine Own.Runs.step (defs₀ (F := F)) 𝒱₀ (c : Thread nD τ) (R := R) (Own.Runs.load _ _ _ q23) fun _ => ?_
  refine Own.Runs.step (defs₀ (F := F)) 𝒱₀ (c : Thread nD τ) (R := R) (Own.Runs.store _ _ _ w23) fun _ => ?_
  · unfold talk talkOut
    rw [if_neg (Nat.succ_ne_zero t.val)]
    by_cases h : k0_cond2 (grid0.coords t) = 1#1
    case' pos =>
      rw [dif_pos h, if_pos ((cond2_iff t).mp h)]
      simp only [k0_part2_eq_skeleton]; unfold k0_part2_skel
      simp only [Prog.lift, Prog.bind_op, Prog.bind_ret, Prog.pure_eq_ret]
      iintro ⟨HR, HT, HI, HO⟩
      iapply (waits m κ c)
      isplitl [HT]; · iexact HT
      iintro HT
    case' neg =>
      rw [dif_neg h, if_neg (fun h0 => h ((cond2_iff t).mpr h0))]
      simp only [Prog.lift, Prog.bind_op, Prog.bind_ret, Prog.pure_eq_ret]
      iintro ⟨HR, HT, HI, HO⟩
    all_goals
      rw [wp_ret]
      imodintro
      isplitl [HR]; · iexact HR
      isplitl [HT]; · iexact HT
      isplitl [HI]; · iexact HI
      iexact HO
  all_goals
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    first
      | unfold k0_part5_skel
      | unfold k0_part6_skel
      | unfold k0_part7_skel
      | unfold k0_part8_skel
      | unfold k0_part9_skel
      | unfold k0_part10_skel
      | unfold k0_part11_skel
      | unfold k0_part12_skel
      | unfold k0_part13_skel
      | unfold k0_part14_skel
      | unfold k0_part15_skel
      | unfold k0_part16_skel
      | unfold k0_part17_skel
      | unfold k0_part18_skel
      | unfold k0_part19_skel
      | unfold k0_part20_skel
      | unfold k0_part21_skel
      | unfold k0_part22_skel
      | unfold k0_part23_skel
      | unfold k0_part24_skel
      | unfold k0_part25_skel
      | unfold k0_part26_skel
      | unfold k0_part27_skel
      | unfold k0_part28_skel
      | unfold k0_part29_skel
    repeat' first
      | with_reducible assumption
      | with_reducible exact Own.Runs.pure _ _ _ _
      | with_reducible refine Own.Runs.load _ _ _ ?_
      | with_reducible refine Own.Runs.store _ _ _ ?_
      | with_reducible refine Own.Runs.bind _ _ _ ?_ fun _ => ?_

end Body

/-! ## The proof data -/

/-- The blocks of the three results whose values the points leave. -/
def dpaAt (c : Dev nD) (t : Fin cfg0.N) : S512x1024.Idx → Elt F .bf16 := k0_pay7 (iblk m c 0 t) (iblk m c 1 t) (iblk m c 4 t)
def dpsAt (c : Dev nD) (t : Fin cfg0.N) : S512x1024.Idx → Elt F .bf16 := k0_pay8 (iblk m c 0 t) (iblk m c 1 t) (iblk m c 5 t)
def dsguAt (c : Dev nD) (t : Fin cfg0.N) : S512x512.Idx → Elt F .f32 := k0_pay11 (k0_pay6 (iblk m c 0 t) (iblk m c 1 t) (iblk m c 5 t)) (iblk m c 7 t)

/-- The windows of which nothing is said. -/
def loosely (w : Fin cfg0.W) : Bool := w.val == 12 || Nat.ble 14 w.val

def start (c : Dev nD) : sProp 𝕄 := iprop(∃ κ, before m κ c)
def going (c : Dev nD) : sProp 𝕄 := iprop(∃ κ, during m κ c)
def scratch (c : Dev nD) : sProp 𝕄 := iprop(Own.any (c : Thread nD τ) (Memref.whole cc0_scratch0) ∗ Own.any (c : Thread nD τ) (Memref.whole cc0_scratch1))

def Phi (c : Dev nD) (n : ℕ) : sProp 𝕄 :=
  if n = 0 then iprop(start m c ∗ scratch c) else if n = 16 then iprop((kept m c ∗ Pipeline.ownSems0 plan.sem c) ∗ scratch c) else iprop(going m c ∗ scratch c)
def owed (c : Dev nD) (n : ℕ) : CellTallies nD τ sig Unit := Wire.owe plan c (if n = 0 then Finset.univ else ∅)

def dats (_ : Fin 1) (c : Dev nD) : Dat τ (Elt F) Unit ℕ (Wire.UU nD τ sig) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dpaAt m c t
    | ⟨11, _⟩ => dpsAt m c t
    | ⟨12, _⟩ => Pipeline.Dat.unnamed (cfg := cfg0) 12 t
    | ⟨13, _⟩ => dsguAt m c t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨n + 20, h⟩ => absurd h (by show ¬ n + 20 < 20; omega)
  Φ t := Phi m c t.val
  q w := Pipeline.shareOf spec0 w
  owed t := owed c t.val

/-- A point finds in an input's stage the block it leaves there. -/
theorem find (c : Dev nD) (t : Fin cfg0.N) (w : Fin cfg0.W) (hw : w.val < 10) (d) : (dats m 0 c).before w t d = (dats m 0 c).after w t := by
  rcases w with ⟨w, h⟩
  have hc : w = 0 ∨ w = 1 ∨ w = 2 ∨ w = 3 ∨ w = 4 ∨ w = 5 ∨ w = 6 ∨ w = 7 ∨ w = 8 ∨ w = 9 := by
    have : w < 10 := hw
    omega
  rcases hc with rfl | rfl | rfl | rfl | rfl | rfl | rfl | rfl | rfl | rfl <;>
    exact ((dats m 0 c).before_in_eq_fetched _ rfl (fun _ => rfl) (fun _ _ _ => rfl) (fun _ => rfl) t d).trans rfl

theorem talk_in (c : Dev nD) (t : Fin cfg0.N) : iprop((dats m 0 c).Φ t.castSucc ∗ (dats m 0 c).owesAt () t.castSucc) ⊢ (iprop((∃ κ, talk m κ c t.val) ∗ scratch c) : sProp 𝕄) := by
  unfold Dat.owesAt Pipeline.owesWithin
  show iprop(Phi m c t.val ∗ ∃ Ws, ⌜_⌝ ∗ owes (c : Thread nD τ) (owed c t.val) Ws) ⊢ _
  unfold Phi owed talk start going Wire.debt
  have ht := lt16 t
  by_cases h : t.val = 0
  all_goals
    simp only [h, if_true, if_false, if_neg (show ¬ t.val = 16 by omega)]
    iintro ⟨⟨⟨%κ, H⟩, HS⟩, ⟨%Ws, -, HO⟩⟩
    isplitr [HS]
    · iexists κ
      isplitl [H]; · iexact H
      iexists Ws; iexact HO
    iexact HS

theorem talk_out (κ : Dev nD × Fin 6 → ℕ) (c : Dev nD) (t : Fin cfg0.N) : (iprop(talkOut m κ c t ∗ scratch c) : sProp 𝕄) ⊢ iprop((dats m 0 c).Φ t.succ ∗ (dats m 0 c).owesAt () t.succ) := by
  unfold Dat.owesAt Pipeline.owesWithin talkOut
  show _ ⊢ iprop(Phi m c (t.val + 1) ∗ ∃ Ws, ⌜_⌝ ∗ owes (c : Thread nD τ) (owed c (t.val + 1)) Ws)
  unfold Phi owed going Wire.debt
  have ht := lt16 t
  have hn : ¬ t.val + 1 = 0 := Nat.succ_ne_zero _
  by_cases h : t.val = 15
  · have h16 : t.val + 1 = 16 := by omega
    simp only [if_pos h, if_neg hn, if_pos h16, Wire.owe_empty]
    iintro ⟨⟨HK, Hs, ⟨%Ws, HO⟩⟩, HS⟩
    isplitl [HK Hs HS]
    · isplitr [HS]
      · isplitl [HK] <;> iassumption
      iexact HS
    iexists Ws
    isplitr; · ipureintro; exact fun _ _ => Or.inl trivial
    iexact HO
  · have h16 : ¬ t.val + 1 = 16 := by omega
    simp only [if_neg h, if_neg hn, if_neg h16]
    iintro ⟨⟨HK, ⟨%Ws, HO⟩⟩, HS⟩
    isplitl [HK HS]
    · isplitl [HK]
      · iexists κ; iexact HK
      iexact HS
    iexists Ws
    isplitr; · ipureintro; exact fun _ _ => Or.inl trivial
    iexact HO

set_option maxHeartbeats 1000000 in
theorem body_obligation (c : Dev nD) : BodyObligation (dats m 0 c) (defs₀ (F := F)) 𝒱₀ () Set.univ loosely := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ Own.any (c : Thread nD τ) (st0_12 t) ∗ (∃ d, owns (c : Thread nD τ) (st0_13 t) fullShare ((dats m 0 c).before 13 t d)) ∗ Own.any (c : Thread nD τ) (st0_14 t) ∗ Own.any (c : Thread nD τ) (st0_15 t) ∗ Own.any (c : Thread nD τ) (st0_16 t) ∗ Own.any (c : Thread nD τ) (st0_17 t) ∗ Own.any (c : Thread nD τ) (st0_18 t) ∗ Own.any (c : Thread nD τ) (st0_19 t))
    ⊢ wp frame (wpE (defs₀ (F := F)) 𝒱₀ (c : Thread nD τ) none) Set.univ (bodyAt0 t) fun _ => iprop((dats m 0 c).Φ t.succ ∗ (dats m 0 c).owesAt () t.succ
      ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (dpaAt m c t) ∗ owns (c : Thread nD τ) (st0_11 t) fullShare (dpsAt m c t) ∗ Own.any (c : Thread nD τ) (st0_12 t) ∗ owns (c : Thread nD τ) (st0_13 t) fullShare (dsguAt m c t) ∗ Own.any (c : Thread nD τ) (st0_14 t) ∗ Own.any (c : Thread nD τ) (st0_15 t) ∗ Own.any (c : Thread nD τ) (st0_16 t) ∗ Own.any (c : Thread nD τ) (st0_17 t) ∗ Own.any (c : Thread nD τ) (st0_18 t) ∗ Own.any (c : Thread nD τ) (st0_19 t))
  iintro ⟨HΦ, HO, ⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, H12, ⟨%X13, H13⟩, H14, H15, H16, H17, H18, H19⟩
  ihave HT := (talk_in m c t) $$ [HΦ HO]
  · isplitl [HΦ] <;> iassumption
  icases HT with ⟨⟨%κ, HT⟩, HS⟩
  have hrun := sound_body m κ c t (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (st0_9 t) (hstage0_9 ((cfg0.slots t 9).cast nbuf0_9))
    (st0_10 t) (hstage0_10 ((cfg0.slots t 10).cast nbuf0_10))
    (st0_11 t) (hstage0_11 ((cfg0.slots t 11).cast nbuf0_11))
    (st0_12 t) (hstage0_12 ((cfg0.slots t 12).cast nbuf0_12))
    (st0_13 t) (hstage0_13 ((cfg0.slots t 13).cast nbuf0_13))
    (st0_14 t) (hstage0_14 ((cfg0.slots t 14).cast nbuf0_14))
    (st0_15 t) (hstage0_15 ((cfg0.slots t 15).cast nbuf0_15))
    (st0_16 t) (hstage0_16 ((cfg0.slots t 16).cast nbuf0_16))
    (st0_17 t) (hstage0_17 ((cfg0.slots t 17).cast nbuf0_17))
    (st0_18 t) (hstage0_18 ((cfg0.slots t 18).cast nbuf0_18))
    (st0_19 t) (hstage0_19 ((cfg0.slots t 19).cast nbuf0_19))
    (iblk m c 0 t) (iblk m c 1 t) (iblk m c 2 t) (iblk m c 3 t) (iblk m c 4 t) (iblk m c 5 t) (iblk m c 6 t) (iblk m c 7 t) ((dats m 0 c).before 10 t X10) ((dats m 0 c).before 11 t X11) ((dats m 0 c).before 13 t X13)
    (loose c (st0_8 t) (st0_9 t) (st0_14 t) (st0_15 t) (st0_16 t) (st0_17 t) (st0_18 t) (st0_19 t) (iblk m c 8 t) (iblk m c 9 t))
    (Own.Reads.left _ (Own.reads_owns _))
    (Own.Reads.right _ (Own.Reads.left _ (Own.reads_owns _)))
    (Own.Writes.right _ (Own.Writes.right _ (Own.Writes.left _ (Own.writes_any _))))
    (Own.Writes.right _ (Own.Writes.right _ (Own.Writes.right _ (Own.Writes.left _ (Own.writes_any _)))))
    (Own.Writes.right _ (Own.Writes.right _ (Own.Writes.right _ (Own.Writes.right _ (Own.Writes.left _ (Own.writes_any _))))))
    (Own.Writes.right _ (Own.Writes.right _ (Own.Writes.right _ (Own.Writes.right _ (Own.Writes.right _ (Own.Writes.left _ (Own.writes_any _)))))))
    (Own.Writes.right _ (Own.Writes.right _ (Own.Writes.right _ (Own.Writes.right _ (Own.Writes.right _ (Own.Writes.right _ (Own.Writes.left _ (Own.writes_any _))))))))
    (Own.Writes.right _ (Own.Writes.right _ (Own.Writes.right _ (Own.Writes.right _ (Own.Writes.right _ (Own.Writes.right _ (Own.Writes.right _ (Own.Writes.left _ (Own.writes_any _)))))))))
    (Own.Writes.right _ (Own.Writes.right _ (Own.Writes.right _ (Own.Writes.right _ (Own.Writes.right _ (Own.Writes.right _ (Own.Writes.right _ (Own.Writes.right _ (Own.Writes.left _ (Own.writes_any _))))))))))
    (Own.Writes.right _ (Own.Writes.right _ (Own.Writes.right _ (Own.Writes.right _ (Own.Writes.right _ (Own.Writes.right _ (Own.Writes.right _ (Own.Writes.right _ (Own.Writes.right _ (Own.writes_any _))))))))))
  rw [find m c t 0 (by decide), find m c t 1 (by decide), find m c t 2 (by decide), find m c t 3 (by decide), find m c t 4 (by decide), find m c t 5 (by decide), find m c t 6 (by decide), find m c t 7 (by decide), find m c t 8 (by decide), find m c t 9 (by decide)]
  unfold scratch
  icases HS with ⟨S0, S1⟩
  ihave H := hrun $$ [HT S0 S1 H0 H1 H2 H3 H4 H5 H6 H7 H8 H9 H10 H11 H12 H13 H14 H15 H16 H17 H18 H19]
  · isplitl [S0 S1 H8 H9 H14 H15 H16 H17 H18 H19]
    · isplitl [H8]; · iexact H8
      isplitl [H9]; · iexact H9
      isplitl [H14]; · iexact H14
      isplitl [H15]; · iexact H15
      isplitl [H16]; · iexact H16
      isplitl [H17]; · iexact H17
      isplitl [H18]; · iexact H18
      isplitl [H19]; · iexact H19
      isplitl [S0] <;> iassumption
    isplitl [HT]; · iexact HT
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H10]; · iexact H10
    isplitl [H11]; · iexact H11
    isplitl [H12]; · iexact H12
    iexact H13
  iapply wp_wand $$ H
  iintro %_ ⟨⟨H8, H9, H14, H15, H16, H17, H18, H19, S0, S1⟩, HT, ⟨H0, H1, H2, H3, H4, H5, H6, H7⟩, H10, H11, H12, H13⟩
  ihave HT := (talk_out m κ c t) $$ [HT S0 S1]
  · isplitl [HT]; · iexact HT
    unfold scratch
    isplitl [S0] <;> iassumption
  icases HT with ⟨HΦ, HO⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-! ## The run -/

theorem kinds_sems : ∀ (w : Fin cfg0.W) (s : Fin (cfg0.win w).nbuf) (k : Fin 6), plan.sem k ≠ .dma ((cfg0.win w).sem s) := by decide
theorem lev_pos : ∀ j : Fin 6, 0 < plan.lev j := by decide

/-- The arrays, a device's exchanged results to its sibling. -/
theorem hand (κ : Dev nD × Fin 6 → ℕ) :
    iprop((bigSep Finset.univ fun c : Dev nD => Wire.hold plan (pay m) κ c Finset.univ Finset.univ)
        ∗ bigSep Finset.univ fun c : Dev nD => Pipeline.unscopedRest (cfgs 0).spec c (fun b => m ((c.tc : Thread nD τ).loc b)))
      ⊢ bigSep Finset.univ fun c : Dev nD => iprop(start m c ∗ emp) := by
  have hr (c : Dev nD) := unscopedRest0_eq (Ix := Unit) (Val := Elt F) (Name := ℕ) (U := Wire.UU nD τ sig) (Lvl := ℕ) c (fun b => m ((c.tc : Thread nD τ).loc b))
  have hs (c : Dev nD) (_ : c ∈ (Finset.univ : Finset (Dev nD))) : before m κ c ⊢ (iprop(start m c ∗ emp) : sProp 𝕄) := by
    unfold start
    iintro H
    isplitl; · iexists κ; iexact H
    iempintro
  have hm (b : Ref sig .tc) := bigSep_univ_equiv sib (fun c : Dev nD => (((c : Thread nD τ).loc b) ↦{fullShare} m ((c : Thread nD τ).loc b) : sProp 𝕄))
  refine BI.Entails.trans (sep_mono (BI.Entails.refl _) (bigSep_mono fun c _ => Entails.of_eq (hr c))) (BI.Entails.trans ?_ (bigSep_mono hs))
  unfold before
  simp only [bigSep_sep']
  exact BI.sep_mono (BI.Entails.refl _) (BI.sep_mono (BI.Entails.refl _) (BI.sep_mono (BI.Entails.refl _) (BI.sep_mono (BI.Entails.refl _)
    (BI.sep_mono (Entails.of_eq (hm main_v1_10)) (BI.sep_mono (Entails.of_eq (hm main_v1_11)) (Entails.of_eq (hm main_v1_12)))))))

theorem scratch_eq (c : Dev nD) : (Pipeline.scopedRest (cfgs 0).spec c : sProp 𝕄) = scratch c := by
  unfold scratch
  rw [Own.any_whole, Own.any_whole]
  exact scopedRest0_eq c

/-- What the exchange leaves of a device's arrays. -/
def Exchanged (c : Dev nD) (s : MemSt nD τ sig (Elt F)) : Prop :=
  (s.mem ((c : Thread nD τ).loc main_arg9) = m ((c : Thread nD τ).loc main_arg9) ∧ s.mem ((c : Thread nD τ).loc main_arg10) = m ((c : Thread nD τ).loc main_arg10) ∧ s.mem ((c : Thread nD τ).loc main_arg11) = m ((c : Thread nD τ).loc main_arg11))
    ∧ s.mem ((c : Thread nD τ).loc main_v1_10) = got0 m c ∧ s.mem ((c : Thread nD τ).loc main_v1_11) = got1 m c ∧ s.mem ((c : Thread nD τ).loc main_v1_12) = got2 m c

/-- Every run ends: the windows' arrays as the points leave them, the halves exchanged, all counters at zero. -/
theorem run_main : θ_run defs (onTc (τ := τ) (main (F := F))) ⟨m, fun _ => 0, ρ⟩
    (fun r => (∀ c : Dev nD, (∀ w, loosely w = false → r.2.mem (((cfgs 0).spec w).arr.view.loc (c.tc : Thread nD τ)) = (dats m 0 c).arrAt w (cfgs 0).N) ∧ Exchanged m c r.2)
      ∧ r.2.sem = fun _ => 0) :=
  Deal.θ_run_dealt_rel cfgs () cellOf_inj (0 : Fin 1) Wire.EP defs₀ 𝒱₀ (fun p c => (dats m p c).toRForget loosely) winFacts₀0 sharedIn0 ownSems m ρ main
    (hmain := fun _ => rfl)
    (hbody := fun c => (body_obligation m c).loose.toRForget)
    (hne := block_pos0) (harr := arr_whole0) (hstage := stage_whole0) (hq := fun _ _ _ => rfl)
    (O₀ := fun c => Wire.owe plan c Finset.univ) (howed₀ := fun _ => rfl) (howedN := fun c => Wire.owe_empty plan c)
    (L := Wire.L) (lv := Wire.lv plan) (hL := Wire.L_of_ne)
    (hwaits := fun c => Pipeline.PerCore.RDat.cellsWaits_intro _ (fun p c => (dats m p c).toRForget loosely) () 0 c fun w s t =>
      Wire.mayWait_other plan c (.dma ((cfg0.win w).sem s)) _ (kinds_sems w s) (fun j _ _ => lev_pos j))
    (G := fun c => Wire.G plan (pay m) c cfgs 0 ownSems) (u₀ := (_, Wire.seed plan cfgs 0 ownSems))
    (hu₀ := Wire.fund plan (pay m) cfgs 0 ownSems _)
    (hA := fun _ w => rfl)
    (X := start m) (Y := kept m) (Z := fun _ => iprop(emp))
    (hdeal := by
      iintro H
      imod (Wire.deal_brings plan (pay m) cfgs 0 ownSems m ρ) $$ H with ⟨%κ, H⟩
      imodintro
      iapply (hand m κ); iexact H)
    (hin := fun c => by
      rw [scratch_eq]
      exact BI.Entails.refl _)
    (hout := fun c => by
      rw [scratch_eq]
      show iprop((kept m c ∗ Pipeline.ownSems0 plan.sem c) ∗ scratch c) ⊢ _
      iintro ⟨⟨H, Hs⟩, Hx⟩
      isplitl [H]; · iexact H
      isplitl [Hs] <;> iassumption)
    (QY := Exchanged m)
    (hY := fun s => Wire.read_all (φ := Exchanged m) s fun c => by
      unfold kept Exchanged
      iintro ⟨⟨⟨⟨Ha, Hb, Hc⟩, Hd, He, Hf⟩, -⟩, HSI⟩
      ihave %h0 := (Wire.read_buf s ((c : Thread nD τ).loc main_arg9) (m ((c : Thread nD τ).loc main_arg9))) $$ [Ha HSI]
      · isplitl [Ha] <;> iassumption
      ihave %h1 := (Wire.read_buf s ((c : Thread nD τ).loc main_arg10) (m ((c : Thread nD τ).loc main_arg10))) $$ [Hb HSI]
      · isplitl [Hb] <;> iassumption
      ihave %h2 := (Wire.read_buf s ((c : Thread nD τ).loc main_arg11) (m ((c : Thread nD τ).loc main_arg11))) $$ [Hc HSI]
      · isplitl [Hc] <;> iassumption
      ihave %h3 := (Wire.read_buf s ((c : Thread nD τ).loc main_v1_10) (got0 m c)) $$ [Hd HSI]
      · isplitl [Hd] <;> iassumption
      ihave %h4 := (Wire.read_buf s ((c : Thread nD τ).loc main_v1_11) (got1 m c)) $$ [He HSI]
      · isplitl [He] <;> iassumption
      ihave %h5 := (Wire.read_buf s ((c : Thread nD τ).loc main_v1_12) (got2 m c)) $$ [Hf HSI]
      · isplitl [Hf] <;> iassumption
      ipureintro
      exact ⟨⟨h0, h1, h2⟩, h3, h4, h5⟩)
    (hQ := fun _ h hs => ⟨fun c => ⟨fun w hw => ((dats m 0 c).toRForget_arrAt_iff hw _ _).mp ((h c).1 w), (h c).2⟩, sem_eq_zero_of_scoped (by decide) hs⟩)

end Cert.Proof.Merge
-- ==== Proof.MergeRow.lean ====
/-
  One row of the merged branches' gradients, over extended reals: the kernel's payloads on a tile and the reference's
  operations on the whole arrays, each read at an index.
-/
module

public import proofs.«01_k».proof.Proof.Merge
public import proofs.«01_k».proof.Proof.Gen.MergeRefIdeal.Run
public import Idealize.ShloMosaic.Lib.Pointwise

@[expose] public section

noncomputable section

namespace Cert.Proof.Merge

open Idealize.ShloMosaic Idealize.ShloMosaic.TcCoe

set_option Elab.async false

/-- A row of the gradient times the transposed output weight, gated by the sigmoid of `u`. -/
def gated (x : Fin 1024 → EReal) (w : Fin 1024 → Fin 1024 → EReal) (u : Fin 1024 → EReal) (l : Fin 1024) : EReal :=
  (∑ k, x k * w l k) * Ideal.div 1 (1 + Ideal.exp (-u l))
/-- A row times a projection's weight. -/
def through (g : Fin 1024 → EReal) (w : Fin 1024 → Fin 512 → EReal) (l : Fin 512) : EReal := ∑ k, g k * w k l

theorem gated_congr {x x' u u' : Fin 1024 → EReal} {w w' : Fin 1024 → Fin 1024 → EReal} {l : Fin 1024} (hx : ∀ k, x k = x' k) (hw : ∀ k j, w k j = w' k j)
    (hu : ∀ k, u k = u' k) : gated x w u l = gated x' w' u' l := by
  rw [funext hx, funext hu, funext fun k => funext (hw k)]
theorem through_congr {g g' : Fin 1024 → EReal} {w w' : Fin 1024 → Fin 512 → EReal} {l : Fin 512} (hg : ∀ k, g k = g' k) (hw : ∀ k j, w k j = w' k j) :
    through g w l = through g' w' l := by
  rw [funext hg, funext fun k => funext (hw k)]

section kernel
open Cert.MergeIdeal Cert.MergeIdeal.Gen

variable (x : FVec Ideal S512x1024 .bf16) (w : FVec Ideal S1024x1024 .bf16) (u : FVec Ideal S512x1024 .bf16)

theorem pay6_apply (r : Fin 512) (l : Fin 1024) :
    k0_pay6 (F := Ideal) x w u (ix2 r l) = gated (fun k => x (ix2 r k)) (fun i k => w (ix2 i k)) (fun k => u (ix2 r k)) l := by
  pointwise [k0_pay6, k0_pay2, k0_pay4, gated]
  rfl
theorem pay7_apply (r : Fin 512) (l : Fin 1024) :
    k0_pay7 (F := Ideal) x w u (ix2 r l) = gated (fun k => x (ix2 r k)) (fun i k => w (ix2 i k)) (fun k => u (ix2 r k)) l := by
  pointwise [k0_pay7, k0_pay5, k0_pay2, k0_pay3, gated]
  rfl
theorem pay8_apply (r : Fin 512) (l : Fin 1024) :
    k0_pay8 (F := Ideal) x w u (ix2 r l) = gated (fun k => x (ix2 r k)) (fun i k => w (ix2 i k)) (fun k => u (ix2 r k)) l := by
  pointwise [k0_pay8, pay6_apply]
theorem pay11_apply (g : FVec Ideal S512x1024 .bf16) (v : FVec Ideal S1024x512 .bf16) (r : Fin 512) (l : Fin 512) :
    k0_pay11 (F := Ideal) g v (ix2 r l) = through (fun k => g (ix2 r k)) (fun k j => v (ix2 k j)) l := by
  pointwise [k0_pay11, through]
end kernel

section reference
open Cert.MergeRefIdeal Cert.MergeRefIdeal.Gen

variable (A0 : FVec Ideal S65536x1024 .bf16) (A1 : FVec Ideal S1024x1024 .bf16) (A4 : FVec Ideal S65536x3072 .bf16) (A6 : FVec Ideal S1024x512 .bf16)

/-- What the reference has of the gradient at a gate's columns `at_`, -/
def refGated (at_ : ℕ) (h : S65536x3072.Slices ![0, at_] S65536x1024) : FVec Ideal S65536x1024 .bf16 :=
  truncf .bf16 (mulf (Host.dotGeneral dot_S65536x1024_S1024x1024_S65536x1024_1_0_0_1_n_n none (extf .f32 A0 bitsLt_bf16_f32) (transpose S1024x1024 [1, 0] (extf .f32 A1 bitsLt_bf16_f32) transposes_S1024x1024_S1024x1024_1_0)) (Host.divf (broadcastInDim S65536x1024 ![] bcast_S_S65536x1024 (constant S_ .f32 0x3F800000#32)) (addf (broadcastInDim S65536x1024 ![] bcast_S_S65536x1024 (constant S_ .f32 0x3F800000#32)) (Host.exp (Host.negf (extf .f32 (extractStridedSlice S65536x1024 ![0, at_] A4 h) bitsLt_bf16_f32)))))) bitsLt_bf16_f32
/-- the two of them, and the second through its projection. -/
abbrev refDpa := refGated A0 A1 A4 1024 slices_S65536x3072_S65536x1024_0_1024
abbrev refDps := refGated A0 A1 A4 2048 slices_S65536x3072_S65536x1024_0_2048
def refDsgu : FVec Ideal S65536x512 .f32 :=
  Host.dotGeneral dot_S65536x1024_S1024x512_S65536x512_1_0_0_1_n_n none (extf .f32 (refDps A0 A1 A4) bitsLt_bf16_f32) (extf .f32 A6 bitsLt_bf16_f32)

theorem refDpa_apply (r : Fin 65536) (l : Fin 1024) : refDpa A0 A1 A4 (ix2 r l)
    = gated (fun k => A0 (ix2 r k)) (fun i k => A1 (ix2 i k)) (fun k => A4 (ix2 r ⟨1024 + k.val, by omega⟩)) l := by
  pointwise [refDpa, refGated, gated]
theorem refDps_apply (r : Fin 65536) (l : Fin 1024) : refDps A0 A1 A4 (ix2 r l)
    = gated (fun k => A0 (ix2 r k)) (fun i k => A1 (ix2 i k)) (fun k => A4 (ix2 r ⟨2048 + k.val, by omega⟩)) l := by
  pointwise [refDps, refGated, gated]
theorem refDsgu_apply (r : Fin 65536) (l : Fin 512) : refDsgu A0 A1 A4 A6 (ix2 r l)
    = through (fun k => refDps A0 A1 A4 (ix2 r k)) (fun k j => A6 (ix2 k j)) l := by
  pointwise [refDsgu, through]
end reference

end Cert.Proof.Merge

end
-- ==== Proof.MergeValue.lean ====
/-
  The values of the merged branches' gradients over extended reals: each device's results are its blocks of the reference's.
-/
module

public import proofs.«01_k».proof.Proof.MergeRow
public import Idealize.ShloMosaic.Lib.Pipeline.ValueKit

@[expose] public section

noncomputable section

namespace Cert.Proof.Merge

open Cert.MergeIdeal Cert.MergeIdeal.Gen
open Idealize.ShloMosaic Idealize.ShloMosaic.TcCoe
open Idealize.ShloMosaic.Pipeline (Dat Cfg Window)

set_option Elab.async false

/-! ## The windows' blocks -/

section
variable {F : FTy → Type} [FloatOps F] (m : (ℓ : Loc nD τ sig) → Buf (Elt F) ℓ) (c : Dev nD) (t : Fin cfg0.N)

/-- Row `r` of a point's tile, among the device's rows. -/
abbrev row (r : Fin 512) : Fin 8192 := ⟨t.val * 512 + r.val, by have := lt16 t; omega⟩

theorem at0 : ∀ t : Fin cfg0.N, win0_0.index t 0 = t.val ∧ win0_0.index t 1 = 0 := by decide
theorem at1 : ∀ t : Fin cfg0.N, win0_1.index t 0 = 0 ∧ win0_1.index t 1 = 0 := by decide
theorem at4 : ∀ t : Fin cfg0.N, win0_4.index t 0 = t.val ∧ win0_4.index t 1 = 1 := by decide
theorem at5 : ∀ t : Fin cfg0.N, win0_5.index t 0 = t.val ∧ win0_5.index t 1 = 2 := by decide
theorem at7 : ∀ t : Fin cfg0.N, win0_7.index t 0 = 0 ∧ win0_7.index t 1 = 0 := by decide
theorem at10 : ∀ t : Fin cfg0.N, win0_10.index t 0 = t.val ∧ win0_10.index t 1 = 0 := by decide
theorem at11 : ∀ t : Fin cfg0.N, win0_11.index t 0 = t.val ∧ win0_11.index t 1 = 0 := by decide
theorem at13 : ∀ t : Fin cfg0.N, win0_13.index t 0 = t.val ∧ win0_13.index t 1 = 0 := by decide

theorem iblk0 (r : Fin 512) (k : Fin 1024) : iblk m c 0 t (ix2 r k) = m ((c : Thread nD τ).loc main_arg0) (ix2 (row t r) k) := by
  refine congrArg (m ((c : Thread nD τ).loc main_arg0)) (funext fun a => Fin.ext ?_)
  refine (Window.rect_emb_val win0_0 t (ix2 r k) a).trans ?_
  match a with
  | ⟨0, _⟩ => show win0_0.index t 0 * 512 + r.val = _; rw [(at0 t).1]; rfl
  | ⟨1, _⟩ => show win0_0.index t 1 * 1024 + k.val = _; rw [(at0 t).2, Nat.zero_mul, Nat.zero_add]; rfl
theorem iblk1 (r k : Fin 1024) : iblk m c 1 t (ix2 r k) = m ((c : Thread nD τ).loc main_arg1) (ix2 r k) := by
  refine congrArg (m ((c : Thread nD τ).loc main_arg1)) (funext fun a => Fin.ext ?_)
  refine (Window.rect_emb_val win0_1 t (ix2 r k) a).trans ?_
  match a with
  | ⟨0, _⟩ => show win0_1.index t 0 * 1024 + r.val = _; rw [(at1 t).1, Nat.zero_mul, Nat.zero_add]; rfl
  | ⟨1, _⟩ => show win0_1.index t 1 * 1024 + k.val = _; rw [(at1 t).2, Nat.zero_mul, Nat.zero_add]; rfl
theorem iblk4 (r : Fin 512) (k : Fin 1024) : iblk m c 4 t (ix2 r k) = m ((c : Thread nD τ).loc main_arg4) (ix2 (row t r) ⟨1024 + k.val, by omega⟩) := by
  refine congrArg (m ((c : Thread nD τ).loc main_arg4)) (funext fun a => Fin.ext ?_)
  refine (Window.rect_emb_val win0_4 t (ix2 r k) a).trans ?_
  match a with
  | ⟨0, _⟩ => show win0_4.index t 0 * 512 + r.val = _; rw [(at4 t).1]; rfl
  | ⟨1, _⟩ => show win0_4.index t 1 * 1024 + k.val = _; rw [(at4 t).2, Nat.one_mul]; rfl
theorem iblk5 (r : Fin 512) (k : Fin 1024) : iblk m c 5 t (ix2 r k) = m ((c : Thread nD τ).loc main_arg4) (ix2 (row t r) ⟨2048 + k.val, by omega⟩) := by
  refine congrArg (m ((c : Thread nD τ).loc main_arg4)) (funext fun a => Fin.ext ?_)
  refine (Window.rect_emb_val win0_5 t (ix2 r k) a).trans ?_
  match a with
  | ⟨0, _⟩ => show win0_5.index t 0 * 512 + r.val = _; rw [(at5 t).1]; rfl
  | ⟨1, _⟩ => show win0_5.index t 1 * 1024 + k.val = _; rw [(at5 t).2]; rfl
theorem iblk7 (r : Fin 1024) (k : Fin 512) : iblk m c 7 t (ix2 r k) = m ((c : Thread nD τ).loc main_arg6) (ix2 r k) := by
  refine congrArg (m ((c : Thread nD τ).loc main_arg6)) (funext fun a => Fin.ext ?_)
  refine (Window.rect_emb_val win0_7 t (ix2 r k) a).trans ?_
  match a with
  | ⟨0, _⟩ => show win0_7.index t 0 * 1024 + r.val = _; rw [(at7 t).1, Nat.zero_mul, Nat.zero_add]; rfl
  | ⟨1, _⟩ => show win0_7.index t 1 * 512 + k.val = _; rw [(at7 t).2, Nat.zero_mul, Nat.zero_add]; rfl

/-- Where a point leaves its rows of a result. -/
theorem emb10 (r : Fin 512) (k : Fin 1024) : ((cfg0.win 10).blk t).view.emb (ix2 r k) = (ix2 (row t r) k : S8192x1024.Idx) := by
  refine funext fun a => Fin.ext ?_
  refine (Window.rect_emb_val win0_10 t (ix2 r k) a).trans ?_
  match a with
  | ⟨0, _⟩ => show win0_10.index t 0 * 512 + r.val = _; rw [(at10 t).1]; rfl
  | ⟨1, _⟩ => show win0_10.index t 1 * 1024 + k.val = _; rw [(at10 t).2, Nat.zero_mul, Nat.zero_add]; rfl
theorem emb11 (r : Fin 512) (k : Fin 1024) : ((cfg0.win 11).blk t).view.emb (ix2 r k) = (ix2 (row t r) k : S8192x1024.Idx) := by
  refine funext fun a => Fin.ext ?_
  refine (Window.rect_emb_val win0_11 t (ix2 r k) a).trans ?_
  match a with
  | ⟨0, _⟩ => show win0_11.index t 0 * 512 + r.val = _; rw [(at11 t).1]; rfl
  | ⟨1, _⟩ => show win0_11.index t 1 * 1024 + k.val = _; rw [(at11 t).2, Nat.zero_mul, Nat.zero_add]; rfl
theorem emb13 (r : Fin 512) (k : Fin 512) : ((cfg0.win 13).blk t).view.emb (ix2 r k) = (ix2 (row t r) k : S8192x512.Idx) := by
  refine funext fun a => Fin.ext ?_
  refine (Window.rect_emb_val win0_13 t (ix2 r k) a).trans ?_
  match a with
  | ⟨0, _⟩ => show win0_13.index t 0 * 512 + r.val = _; rw [(at13 t).1]; rfl
  | ⟨1, _⟩ => show win0_13.index t 1 * 512 + k.val = _; rw [(at13 t).2, Nat.zero_mul, Nat.zero_add]; rfl

/-- The arrays the points' rows make. -/
theorem array10 (G : S8192x1024.Idx → Elt F .bf16) (h : ∀ t r k, dpaAt m c t (ix2 r k) = G (ix2 (row t r) k)) : (dats m 0 c).arrAt 10 (cfgs 0).N = G :=
  (dats m 0 c).arrAt_eq_of_covers 10 G (by decide +kernel) fun t _ (y : S512x1024.Idx) => by
    obtain ⟨r, k, rfl⟩ : ∃ (r : Fin 512) (k : Fin 1024), y = ix2 r k := ⟨y 0, y 1, eq_ix2 y⟩
    exact (h t r k).trans (congrArg G (emb10 t r k).symm)
theorem array11 (G : S8192x1024.Idx → Elt F .bf16) (h : ∀ t r k, dpsAt m c t (ix2 r k) = G (ix2 (row t r) k)) : (dats m 0 c).arrAt 11 (cfgs 0).N = G :=
  (dats m 0 c).arrAt_eq_of_covers 11 G (by decide +kernel) fun t _ (y : S512x1024.Idx) => by
    obtain ⟨r, k, rfl⟩ : ∃ (r : Fin 512) (k : Fin 1024), y = ix2 r k := ⟨y 0, y 1, eq_ix2 y⟩
    exact (h t r k).trans (congrArg G (emb11 t r k).symm)
theorem array13 (G : S8192x512.Idx → Elt F .f32) (h : ∀ t r k, dsguAt m c t (ix2 r k) = G (ix2 (row t r) k)) : (dats m 0 c).arrAt 13 (cfgs 0).N = G :=
  (dats m 0 c).arrAt_eq_of_covers 13 G (by decide +kernel) fun t _ (y : S512x512.Idx) => by
    obtain ⟨r, k, rfl⟩ : ∃ (r k : Fin 512), y = ix2 r k := ⟨y 0, y 1, eq_ix2 y⟩
    exact (h t r k).trans (congrArg G (emb13 t r k).symm)
end

/-! ## The results as blocks of the reference's -/

section
open Cert.MergeRefIdeal (S65536x1024 S65536x3072)

variable (m : (ℓ : Loc nD τ sig) → Buf (Elt Ideal) ℓ)
  (A0 : FVec Ideal S65536x1024 .bf16) (A1 : FVec Ideal S1024x1024 .bf16) (A4 : FVec Ideal S65536x3072 .bf16) (A6 : FVec Ideal S1024x512 .bf16) (c : Dev nD)
  {T0 : Layout.Tiles ⟨2, ![8192, 1024]⟩ ⟨2, ![65536, 1024]⟩ 0 8} {T4 : Layout.Tiles ⟨2, ![8192, 3072]⟩ ⟨2, ![65536, 3072]⟩ 0 8}
  {T13 : Layout.Tiles ⟨2, ![8192, 512]⟩ ⟨2, ![65536, 512]⟩ 0 8}
  (h0 : m ((c : Thread nD τ).loc main_arg0) = Layout.block ⟨2, ![8192, 1024]⟩ ⟨2, ![65536, 1024]⟩ 0 8 c A0 T0)
  (h1 : m ((c : Thread nD τ).loc main_arg1) = A1)
  (h4 : m ((c : Thread nD τ).loc main_arg4) = Layout.block ⟨2, ![8192, 3072]⟩ ⟨2, ![65536, 3072]⟩ 0 8 c A4 T4)
  (h6 : m ((c : Thread nD τ).loc main_arg6) = A6)

/-- Row `r` of device `c`, among the rows of all. -/
abbrev rowOf (c : Dev nD) (r : Fin 8192) : Fin 65536 := ⟨c.val * 8192 + r.val, by have : c.val < 8 := c.isLt; omega⟩

theorem block_row {n : ℕ} {α : Type} (A : (⟨2, ![65536, n]⟩ : Shape).Idx → α) (h : Layout.Tiles ⟨2, ![8192, n]⟩ ⟨2, ![65536, n]⟩ 0 8) (r : Fin 8192) (k : Fin n) :
    Layout.block ⟨2, ![8192, n]⟩ ⟨2, ![65536, n]⟩ 0 8 c A h (ix2 r k) = A (ix2 (rowOf c r) k) := by
  rw [Layout.block_apply]
  exact congrArg A (funext fun d => Fin.ext (by rw [Layout.Tiles.idx_val]; match d with | ⟨0, _⟩ => rfl | ⟨1, _⟩ => rfl))

include h0 h1 h4 in
theorem dpaAt_row (t : Fin cfg0.N) (r : Fin 512) (k : Fin 1024) : dpaAt m c t (ix2 r k) = refDpa A0 A1 A4 (ix2 (rowOf c (row t r)) k) := by
  refine (pay7_apply _ _ _ r k).trans (Eq.trans ?_ (refDpa_apply A0 A1 A4 _ k).symm)
  refine gated_congr (fun j => ?_) (fun i j => ?_) fun j => ?_
  · rw [iblk0, h0]; exact block_row c A0 _ _ j
  · rw [iblk1, h1]
  · rw [iblk4, h4]; exact block_row c A4 _ _ _

include h0 h1 h4 in
theorem gate_row (t : Fin cfg0.N) (r : Fin 512) (k : Fin 1024) :
    gated (fun j => iblk m c 0 t (ix2 r j)) (fun i j => iblk m c 1 t (ix2 i j)) (fun j => iblk m c 5 t (ix2 r j)) k = refDps A0 A1 A4 (ix2 (rowOf c (row t r)) k) := by
  refine Eq.trans ?_ (refDps_apply A0 A1 A4 _ k).symm
  refine gated_congr (fun j => ?_) (fun i j => ?_) fun j => ?_
  · rw [iblk0, h0]; exact block_row c A0 _ _ j
  · rw [iblk1, h1]
  · rw [iblk5, h4]; exact block_row c A4 _ _ _

include h0 h1 h4 in
theorem dpa_block : (dats (F := Ideal) m 0 c).arrAt 10 (cfgs 0).N = Layout.block ⟨2, ![8192, 1024]⟩ ⟨2, ![65536, 1024]⟩ 0 8 c (refDpa A0 A1 A4) T0 :=
  array10 m c _ fun t r k => (dpaAt_row m A0 A1 A4 c h0 h1 h4 t r k).trans (block_row c _ _ _ k).symm

include h0 h1 h4 in
theorem dps_block : (dats (F := Ideal) m 0 c).arrAt 11 (cfgs 0).N = Layout.block ⟨2, ![8192, 1024]⟩ ⟨2, ![65536, 1024]⟩ 0 8 c (refDps A0 A1 A4) T0 :=
  array11 m c _ fun t r k => (pay8_apply _ _ _ r k).trans ((gate_row m A0 A1 A4 c h0 h1 h4 t r k).trans (block_row c _ _ _ k).symm)

include h0 h1 h4 h6 in
theorem dsgu_block : (dats (F := Ideal) m 0 c).arrAt 13 (cfgs 0).N = Layout.block ⟨2, ![8192, 512]⟩ ⟨2, ![65536, 512]⟩ 0 8 c (refDsgu A0 A1 A4 A6) T13 := by
  refine array13 m c _ fun t r k => ?_
  refine (pay11_apply _ _ r k).trans (Eq.trans ?_ (block_row c _ _ _ k).symm)
  refine Eq.trans ?_ (refDsgu_apply A0 A1 A4 A6 _ k).symm
  refine through_congr (fun j => ?_) fun i j => ?_
  · exact (pay6_apply _ _ _ r j).trans (gate_row m A0 A1 A4 c h0 h1 h4 t r j)
  · rw [iblk7, h6]

end

end Cert.Proof.Merge

end
-- ==== Proof.MergeHalves.lean ====
/-
  The halves a device receives beside the merged branches' gradients: its blocks of the reference's, over any float values.
-/
module

public import proofs.«01_k».proof.Proof.Merge
public import proofs.«01_k».proof.Proof.Halves
public import proofs.«01_k».proof.Proof.Gen.MergeRefIdeal.Run

@[expose] public section

noncomputable section

namespace Cert.Proof.Merge

open Cert.MergeIdeal Cert.MergeIdeal.Gen
open Idealize.ShloMosaic Idealize.ShloMosaic.TcCoe Idealize.ShloMosaic.ValueIdx
open Cert.MergeRefIdeal (S32x2x352x1024)
open Cert.MergeRefIdeal.Gen

theorem fits : Halves.Fits 352 :=
  ⟨shapeCasts_S32x2x352x1024_S4x2x4x2x352x1024, slices_S4x2x4x2x352x1024_S4x1x4x1x352x1024_0_1_0_0_0_0,
    slices_S4x2x4x2x352x1024_S4x1x4x1x352x1024_0_0_0_1_0_0, shapeCasts_S4x1x4x1x352x1024_S4x4x352x1024,
    bcast_S4x4x352x1024_S4x1x4x352x1024_0_2_3_4, concatenates_S4x1x4x352x1024_S4x1x4x352x1024_S4x2x4x352x1024_d1,
    shapeCasts_S4x2x4x352x1024_S32x352x1024⟩

theorem off_sib : ∀ c : Dev nD, k0_off1 (sibF c) = ![0, c.val % 2, 0, 0] := by decide
theorem sib_val : ∀ c : Dev nD, (sibF c).val = 2 * (c.val / 2) + (1 - c.val % 2) := by decide

variable {F : FTy → Type} [FloatOps F]

theorem sent_apply (g : S4x2x352x1024.Idx → Elt F .f32) (c : Dev nD) (core : Fin 2) (hc : core.val = c.val % 2) (k : Fin 4) (a : Fin 352) (b : Fin 1024) :
    sent g (sibF c) (ix3 k a b) = g (ix4 k core a b) := by
  show (src0 (sibF c)).view.read (Elt F) g (ix3 k a b) = _
  rw [Memref.read_squeeze_slice (Memref.whole main_arg9) _ _ Cert.MergeIdeal.Gen.squeezes_S4x1x352x1024_S4x352x1024 (show S4x1x352x1024.ShapeCasts S4x352x1024 by decide)]
  refine (shapeCast_apply (s := S4x1x352x1024) (t := S4x352x1024) _ _ _ (ix4 k (0 : Fin 1) a b) (by
    rw [Shape.rowMajor_val_four, Shape.rowMajor_val_three]
    show ((k.val * 1 + 0) * 352 + a.val) * 1024 + b.val = (k.val * 352 + a.val) * 1024 + b.val
    omega)).trans ?_
  refine congrArg g (funext fun d => Fin.ext ?_)
  have H : ∀ d : Fin 4, (![0, c.val % 2, 0, 0] : Fin 4 → ℕ) d + 1 * (ix4 k (0 : Fin 1) a b d).val = (ix4 k core a b d).val := fun
    | 0 => by show 0 + 1 * k.val = k.val; omega
    | 1 => by show c.val % 2 + 1 * 0 = core.val; omega
    | 2 => by show 0 + 1 * a.val = a.val; omega
    | 3 => by show 0 + 1 * b.val = b.val; omega
  exact (congrArg (· + 1 * (ix4 k (0 : Fin 1) a b d).val) (congrFun (off_sib c) d)).trans (H d)

/-- What a device is sent of a whole array's block is its block of the reference's halves. -/
theorem sent_block (x : S32x2x352x1024.Idx → Elt F .f32) {T : Layout.Tiles ⟨4, ![4, 2, 352, 1024]⟩ ⟨4, ![32, 2, 352, 1024]⟩ 0 8}
    {T' : Layout.Tiles ⟨3, ![4, 352, 1024]⟩ ⟨3, ![32, 352, 1024]⟩ 0 8} (c : Dev nD) (g : S4x2x352x1024.Idx → Elt F .f32)
    (h : g = Layout.block ⟨4, ![4, 2, 352, 1024]⟩ ⟨4, ![32, 2, 352, 1024]⟩ 0 8 (sibF c) x T) :
    sent g (sib c) = Layout.block ⟨3, ![4, 352, 1024]⟩ ⟨3, ![32, 352, 1024]⟩ 0 8 c (Halves.whole fits x) T' :=
  Halves.block fits x c (sibF c) (sib_val c) (sent g (sib c)) fun k a b => by
    rw [← h]
    exact sent_apply g c ⟨c.val % 2, by omega⟩ rfl k a b

end Cert.Proof.Merge

end
-- ==== Proof.MergeClaims.lean ====
/-
  The claims about the merged branches' gradients and the exchange beside them, from the run and its values.
-/
module

public import proofs.«01_k».proof.Defs
public import proofs.«01_k».proof.Proof.MergeValue
public import proofs.«01_k».proof.Proof.MergeHalves
public import proofs.«01_k».proof.Proof.Gen.Merge
public import Idealize.ShloMosaic.Adequacy
public import Idealize.ShloMosaic.Init

@[expose] public section

set_option maxHeartbeats 4000000

noncomputable section

namespace Cert.Proof.Merge

open Idealize.ShloMosaic Idealize.ShloMosaic.TcCoe Idealize.SL.Sem
open Idealize.ShloMosaic.Pipeline (Dat)

section
variable {F : FTy → Type} [FloatOps F]
open Cert.MergeIdeal Cert.MergeIdeal.Gen

/-- The run, array by array. -/
theorem run_arrays (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      (r.2.mem ((c.tc : Thread nD τ).loc main_v1_0) = (dats m 0 c).arrAt 10 (cfgs 0).N
        ∧ r.2.mem ((c.tc : Thread nD τ).loc main_v1_1) = (dats m 0 c).arrAt 11 (cfgs 0).N
        ∧ r.2.mem ((c.tc : Thread nD τ).loc main_v1_3) = (dats m 0 c).arrAt 13 (cfgs 0).N
        ∧ r.2.mem ((c.tc : Thread nD τ).loc main_v1_10) = got0 m c
        ∧ r.2.mem ((c.tc : Thread nD τ).loc main_v1_11) = got1 m c
        ∧ r.2.mem ((c.tc : Thread nD τ).loc main_v1_12) = got2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 :=
  (θ_run defs _ _).mono (fun _ h => ⟨fun c =>
    have hw := (h.1 c).1
    have hx := (h.1 c).2
    ⟨⟨hw 10 rfl, hw 11 rfl, hw 13 rfl, hx.2.1, hx.2.2.1, hx.2.2.2⟩,
      (hw 0 rfl).trans ((dats m 0 c).arrAt_in 0 rfl _), (hw 1 rfl).trans ((dats m 0 c).arrAt_in 1 rfl _),
      (hw 2 rfl).trans ((dats m 0 c).arrAt_in 2 rfl _), (hw 3 rfl).trans ((dats m 0 c).arrAt_in 3 rfl _),
      (hw 4 rfl).trans ((dats m 0 c).arrAt_in 4 rfl _), (hw 6 rfl).trans ((dats m 0 c).arrAt_in 6 rfl _),
      (hw 7 rfl).trans ((dats m 0 c).arrAt_in 7 rfl _), (hw 8 rfl).trans ((dats m 0 c).arrAt_in 8 rfl _),
      (hw 9 rfl).trans ((dats m 0 c).arrAt_in 9 rfl _), hx.1.1, hx.1.2.1, hx.1.2.2⟩, h.2⟩) (run_main m ρ)
end

/-- The two printed programs call the same body. -/
theorem bodies_eq : Cert.Merge.defs₀ (F := Bits) = Cert.MergeIdeal.defs₀ (F := Bits) := by
  unfold Cert.Merge.defs₀ Cert.MergeIdeal.defs₀
  congr 1
  funext l
  match l with
  | 0 => rfl
theorem defs_eq : Cert.Merge.defs (F := Bits) = Cert.MergeIdeal.defs (F := Bits) := congrArg (Pipeline.defs _) bodies_eq

theorem frame : Cert.quiescent_Merge := fun m ρ _ => by
  have h := (θ_run Cert.MergeIdeal.defs _ _).mono (fun _ h => (⟨fun c => (h.1 c).2, h.2⟩ : (∀ c, _) ∧ _)) (run_arrays (F := Bits) m ρ)
  rw [← defs_eq] at h
  exact h

theorem frame_ideal : Cert.quiescent_MergeIdeal := fun m ρ _ =>
  (θ_run Cert.MergeIdeal.defs _ _).mono (fun _ h => ⟨fun c => (h.1 c).2, h.2⟩) (run_arrays (F := Ideal) m ρ)

theorem frame_ref_ideal : Cert.quiescent_MergeRefIdeal := fun m ρ _ =>
  (θ_run Cert.MergeRefIdeal.defs _ _).mono (fun r h => ⟨fun c => (h c).2.2.2.2.2.2, sem_eq_zero_of_no_sems (by decide) r.2⟩)
    (Cert.MergeRefIdeal.Value.run (F := Ideal) m ρ)

theorem algebraic : Cert.algebraic_MergeIdeal_MergeRefIdeal := fun m g m' g' _ h =>
  ⟨_, _, _, _, _, _,
    (θ_run Cert.MergeIdeal.defs _ _).mono (fun _ hr c =>
      have ha := h c
      have hb := h (sibF c)
      ⟨(hr.1 c).1.1.trans (dpa_block m _ _ _ c ha.1 ha.2.1 ha.2.2.2.2.1),
        (hr.1 c).1.2.1.trans (dps_block m _ _ _ c ha.1 ha.2.1 ha.2.2.2.2.1),
        (hr.1 c).1.2.2.1.trans (dsgu_block m _ _ _ _ c ha.1 ha.2.1 ha.2.2.2.2.1 ha.2.2.2.2.2.2.1),
        (hr.1 c).1.2.2.2.1.trans (sent_block _ c _ hb.2.2.2.2.2.2.2.2.2.1),
        (hr.1 c).1.2.2.2.2.1.trans (sent_block _ c _ hb.2.2.2.2.2.2.2.2.2.2.1),
        (hr.1 c).1.2.2.2.2.2.trans (sent_block _ c _ hb.2.2.2.2.2.2.2.2.2.2.2), (hr.1 c).2⟩) (run_arrays (F := Ideal) m g),
    (θ_run Cert.MergeRefIdeal.defs _ _).mono (fun _ hr => hr 0) (Cert.MergeRefIdeal.Value.run (F := Ideal) m' g')⟩

end Cert.Proof.Merge

end
-- ==== Proof.InProjGather.lean ====
/-
  The gather beside the projection (`InProj`): each device puts its own rows of six weights in place and sends them to its
  sibling core and to the same core of the three other chips, passes what arrives from the other chips on to its sibling, and
  waits for what is still under way. Every array goes the same way, so what is said here is said of one array, and of the
  state between two steps by how many were taken.
-/
module

public import proofs.«01_k».proof.Proof.Wire
public import proofs.«01_k».proof.Proof.Own
public import proofs.«01_k».proof.Proof.Gen.InProjIdeal.Frame
public import proofs.«01_k».proof.Proof.Gen.InProjIdeal.Skeleton
public import Idealize.ShloMosaic.Lib.Pipeline.Value
public import Idealize.ShloMosaic.Lib.ValueIdxRank6

@[expose] public section

noncomputable section

namespace Cert.Proof.InProj

open Cert.InProjIdeal Cert.InProjIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

set_option Elab.async false
variable {F : FTy → Type} [FloatOps F]

local notation "𝕄" => MT nD τ sig Unit (Elt F) ℕ (Wire.UU nD τ sig) ℕ

/-! ## The arrays -/

/-- A weight: the device's rows of it, and the result that gathers every device's. -/
structure Arr where
  n : ℕ
  N : ℕ
  k : ℕ
  src : Memref sig .tc .hbm ⟨2, ![n, k]⟩ .bf16
  dst : Memref sig .tc .hbm ⟨2, ![N, k]⟩ .bf16
  all : N = 8 * n
  pos : 0 < n
  credit : 0 < src.view.dmaCredit
  same : src.view.dmaCredit = sig.dmaCredit .tc (Kind.tc.table .hbm) dst.view.buf ⟨2, ![n, k]⟩ .bf16

def arr : Fin 6 → Arr
  | 0 => ⟨352, 2816, 1024, Memref.whole main_arg5, Memref.whole main_v1_4, rfl, by decide, View.dmaCredit_pos _ (by decide), rfl⟩
  | 1 => ⟨352, 2816, 1024, Memref.whole main_arg6, Memref.whole main_v1_5, rfl, by decide, View.dmaCredit_pos _ (by decide), rfl⟩
  | 2 => ⟨128, 1024, 1024, Memref.whole main_arg7, Memref.whole main_v1_6, rfl, by decide, View.dmaCredit_pos _ (by decide), rfl⟩
  | 3 => ⟨128, 1024, 512, Memref.whole main_arg8, Memref.whole main_v1_7, rfl, by decide, View.dmaCredit_pos _ (by decide), rfl⟩
  | 4 => ⟨128, 1024, 512, Memref.whole main_arg9, Memref.whole main_v1_8, rfl, by decide, View.dmaCredit_pos _ (by decide), rfl⟩
  | 5 => ⟨352, 2816, 1024, Memref.whole main_arg10, Memref.whole main_v1_9, rfl, by decide, View.dmaCredit_pos _ (by decide), rfl⟩

section Rows

variable (A : Arr) (m : (ℓ : Loc nD τ sig) → Buf (Elt F) ℓ)

/-- A block of rows of the result, -/
abbrev Arr.blk (off : Fin 2 → ℕ) (inb : ∀ p, off p + (![A.n, A.k] : Fin 2 → ℕ) p ≤ (⟨2, ![A.N, A.k]⟩ : Shape).size p) : Memref sig .tc .hbm ⟨2, ![A.n, A.k]⟩ .bf16 :=
  A.dst.slice (Rect.unit (s := ⟨2, ![A.N, A.k]⟩) off ![A.n, A.k] inb) (fun _ => rfl)
theorem Arr.inb (d : Dev nD) : ∀ p, (![d.val * A.n, 0] : Fin 2 → ℕ) p + (![A.n, A.k] : Fin 2 → ℕ) p ≤ (⟨2, ![A.N, A.k]⟩ : Shape).size p := fun
  | 0 => by
    show d.val * A.n + A.n ≤ A.N
    have hd : d.val + 1 ≤ 8 := d.isLt
    have := Nat.mul_le_mul_right A.n hd
    rw [Nat.add_mul, Nat.one_mul] at this
    rw [A.all]; exact this
  | 1 => by show 0 + A.k ≤ A.k; omega
/-- and a device's. -/
abbrev Arr.place (d : Dev nD) : Memref sig .tc .hbm ⟨2, ![A.n, A.k]⟩ .bf16 := A.blk ![d.val * A.n, 0] (A.inb d)

/-- A device's rows, -/
def Arr.rows (d : Dev nD) : (⟨2, ![A.n, A.k]⟩ : Shape).Idx → Elt F .bf16 := A.src.view.read (Elt F) (m (A.src.view.loc (d : Thread nD τ)))
/-- everyone's, -/
def Arr.stack : (⟨2, ![A.N, A.k]⟩ : Shape).Idx → Elt F .bf16 := fun x =>
  A.rows m ⟨(x 0).val / A.n, Nat.div_lt_of_lt_mul (lt_of_lt_of_eq (show (x 0).val < A.N from (x 0).isLt) (A.all.trans (Nat.mul_comm 8 A.n)))⟩
    (ix2 (⟨(x 0).val % A.n, Nat.mod_lt _ A.pos⟩ : Fin A.n) (x 1))
/-- and the result that holds them. -/
def Arr.full (p : Dev nD) : Buf (Elt F) (A.dst.view.loc (p : Thread nD τ)) := A.dst.view.write (Elt F) (m (A.dst.view.loc (p : Thread nD τ))) (A.stack m) Finset.univ

theorem Arr.read_full (p d : Dev nD) : (A.place d).view.read (Elt F) (A.full m p) = A.rows m d := by
  funext i
  have h1 : (A.place d).view.read (Elt F) (A.full m p) i = A.stack m ((Rect.unit (s := ⟨2, ![A.N, A.k]⟩) ![d.val * A.n, 0] ![A.n, A.k] (A.inb d)).toLoadRect.idx i) :=
    congrFun (A.dst.view.read_write_univ (Val := Elt F) (m (A.dst.view.loc (p : Thread nD τ))) (A.stack m)) _
  rw [h1]
  have h0 : (i 0).val < A.n := (i 0).isLt
  have e0 : ((Rect.unit (s := ⟨2, ![A.N, A.k]⟩) ![d.val * A.n, 0] ![A.n, A.k] (A.inb d)).toLoadRect.idx i 0).val = d.val * A.n + (i 0).val := by
    show d.val * A.n + 1 * (i 0).val = _; omega
  have e1 : ((Rect.unit (s := ⟨2, ![A.N, A.k]⟩) ![d.val * A.n, 0] ![A.n, A.k] (A.inb d)).toLoadRect.idx i 1).val = (i 1).val := by
    show 0 + 1 * (i 1).val = _; omega
  have q : (d.val * A.n + (i 0).val) / A.n = d.val := by
    rw [Nat.mul_comm, Nat.mul_add_div A.pos, Nat.div_eq_of_lt h0, Nat.add_zero]
  have r : (d.val * A.n + (i 0).val) % A.n = (i 0).val := by
    rw [Nat.mul_comm, Nat.mul_add_mod, Nat.mod_eq_of_lt h0]
  unfold Arr.stack
  have f1 : ∀ (d' : Dev nD) (_ : d' = d) (j : (⟨2, ![A.n, A.k]⟩ : Shape).Idx) (_ : j = i), A.rows m d' j = A.rows m d i := fun _ h _ h' => by rw [h, h']
  refine f1 _ (Fin.ext (by show _ / A.n = d.val; rw [e0, q])) _ (funext fun
    | 0 => Fin.ext (by show _ % A.n = (i 0).val; rw [e0, r])
    | 1 => Fin.ext e1)

/-- A device's rows, read by a share; -/
def Arr.lent (q : PosShare TreeShare) (c : Dev nD) : sProp 𝕄 := (A.src.view.loc (c : Thread nD τ) ↦[A.src.view.set]{q} m (A.src.view.loc (c : Thread nD τ)))
/-- device `d`'s place on device `p` as it was at first, -/
def Arr.bare (d p : Dev nD) : sProp 𝕄 := ((A.place d).view.loc (p : Thread nD τ) ↦[(A.place d).view.set]{fullShare} m (A.dst.view.loc (p : Thread nD τ)))
/-- and with its rows there. -/
def Arr.there (d p : Dev nD) : sProp 𝕄 := ((A.place d).view.loc (p : Thread nD τ) ↦[(A.place d).view.set]{fullShare} A.full m p)

instance (q : PosShare TreeShare) (c : Dev nD) : BI.Storable (upEmb : UEmb _ 𝕄) (A.lent m q c) := by unfold Arr.lent; infer_instance
instance (d p : Dev nD) : BI.Storable (upEmb : UEmb _ 𝕄) (A.there m d p) := by unfold Arr.there; infer_instance

/-- Rows that have landed. -/
theorem Arr.land (d p : Dev nD) (fd : Buf (Elt F) ((A.place d).view.loc (p : Thread nD τ))) (v : (⟨2, ![A.n, A.k]⟩ : Shape).Idx → Elt F .bf16) (h : v = A.rows m d) :
    ((A.place d).view.loc (p : Thread nD τ) ↦[(A.place d).view.set]{fullShare} (A.place d).view.write (Elt F) fd v Finset.univ : sProp 𝕄) ⊢ A.there m d p :=
  Entails.of_eq (Own.landed (p : Thread nD τ) (A.place d) fd (A.full m p) v ((A.read_full m p d).trans h.symm))

end Rows

/-! ## The protocol -/

/-- The devices as one of them sees them: itself, its sibling core, its own core's counterparts on the three other chips,
    and the siblings of those. -/
def nbF (k : Fin 8) (c : Dev nD) : Dev nD := ⟨c.val ^^^ (![0, 1, 4, 2, 6, 5, 3, 7] : Fin 8 → ℕ) k, by revert c k; decide⟩
theorem nb_nb : ∀ (k : Fin 8) (c : Dev nD), nbF k (nbF k c) = c := by decide
def nb (k : Fin 8) : Equiv.Perm (Dev nD) := ⟨nbF k, nbF k, nb_nb k, nb_nb k⟩
theorem nb_inj : ∀ (c : Dev nD) (k l : Fin 8), nbF k c = nbF l c → k = l := by decide
theorem nb_all : ∀ c d : Dev nD, ∃ k : Fin 8, nbF k c = d := by decide

/-- Of each array kinds 0 to 6 are the read-outs of the device's own sends, kinds 7 to 13 the arrivals, kind 14 the copy of
    its own rows. -/
abbrev K : Type := Fin 6 × Fin 15

theorem inb_sem : ∀ (a : Fin 6) (k : Fin 7) (p : Fin 2), (![a.val, k.val] : Fin 2 → ℕ) p + S1x1.size p ≤ S6x7.size p := by decide
theorem inb_lcl : ∀ (a : Fin 6) (p : Fin 1), (![a.val] : Fin 1 → ℕ) p + S1.size p ≤ S6.size p := by decide
abbrev snd (a : Fin 6) (k : Fin 7) : DmaSem sig := ((cc0_scratch3.slice (Rect.unit (s := S6x7) ![a.val, k.val] S1x1.size (inb_sem a k))).squeeze S_ squeezes_S1x1_S_).sem
abbrev rcv (a : Fin 6) (k : Fin 7) : DmaSem sig := ((cc0_scratch4.slice (Rect.unit (s := S6x7) ![a.val, k.val] S1x1.size (inb_sem a k))).squeeze S_ squeezes_S1x1_S_).sem
abbrev lcl (a : Fin 6) : DmaSem sig := ((cc0_scratch5.slice (Rect.unit (s := S6) ![a.val] S1.size (inb_lcl a))).squeeze S_ squeezes_S1_S_).sem

def plan : Wire.Plan nD sig K where
  sem x := .dma ((![snd x.1 0, snd x.1 1, snd x.1 2, snd x.1 3, snd x.1 4, snd x.1 5, snd x.1 6, rcv x.1 0, rcv x.1 1, rcv x.1 2, rcv x.1 3, rcv x.1 4, rcv x.1 5, rcv x.1 6, lcl x.1] : Fin 15 → DmaSem sig) x.2)
  amt x := (arr x.1).src.view.dmaCredit
  peer x := (![Equiv.refl _, Equiv.refl _, Equiv.refl _, Equiv.refl _, Equiv.refl _, Equiv.refl _, Equiv.refl _, nb 1, nb 2, nb 3, nb 4, nb 1, nb 1, nb 1, Equiv.refl _] : Fin 15 → Equiv.Perm (Dev nD)) x.2
  away x := (![false, false, false, false, false, false, false, true, true, true, true, true, true, true, false] : Fin 15 → Bool) x.2
  lev x := (![1, 1, 1, 1, 1, 1, 1, 2, 2, 2, 2, 3, 3, 3, 1] : Fin 15 → ℕ) x.2
  inj := by decide +kernel
  pos x := (arr x.1).credit

theorem ownSems : Pipeline.OwnSemFacts (cfgs 0).spec plan.sem := by decide +kernel

variable (m : (ℓ : Loc nD τ sig) → Buf (Elt F) ℓ)

/-- A fifth of a share, and what is left after it. -/
abbrev q0 : PosShare TreeShare := fullShare.left
abbrev q1 : PosShare TreeShare := fullShare.right.left
abbrev q2 : PosShare TreeShare := fullShare.right.right.left
abbrev q3 : PosShare TreeShare := fullShare.right.right.right.left
abbrev q4 : PosShare TreeShare := fullShare.right.right.right.right
abbrev share (j : Fin 4) : PosShare TreeShare := (![q0, q1, q2, q3] : Fin 4 → PosShare TreeShare) j

/-- What a step pays, -/
def payA (A : Arr) (c : Dev nD) (k : Fin 15) : sProp 𝕄 := match k with
  | 0 => A.lent m q0 c
  | 1 => A.lent m q1 c
  | 2 => A.lent m q2 c
  | 3 => A.lent m q3 c
  | 4 => A.there m (nbF 2 c) c
  | 5 => A.there m (nbF 3 c) c
  | 6 => A.there m (nbF 4 c) c
  | 7 => A.there m (nbF 1 c) c
  | 8 => A.there m (nbF 2 c) c
  | 9 => A.there m (nbF 3 c) c
  | 10 => A.there m (nbF 4 c) c
  | 11 => A.there m (nbF 5 c) c
  | 12 => A.there m (nbF 6 c) c
  | 13 => A.there m (nbF 7 c) c
  | 14 => iprop(A.there m c c ∗ A.lent m q4 c)
def pay (c : Dev nD) (x : K) : sProp 𝕄 := payA m (arr x.1) c x.2
/-- and what it takes to pay it. -/
def needA (A : Arr) (c : Dev nD) (k : Fin 15) : sProp 𝕄 := match k with
  | 0 => A.lent m q0 c
  | 1 => A.lent m q1 c
  | 2 => A.lent m q2 c
  | 3 => A.lent m q3 c
  | 4 => iprop(emp)
  | 5 => iprop(emp)
  | 6 => iprop(emp)
  | 7 => A.bare m c (nbF 1 c)
  | 8 => A.bare m c (nbF 2 c)
  | 9 => A.bare m c (nbF 3 c)
  | 10 => A.bare m c (nbF 4 c)
  | 11 => A.bare m (nbF 2 c) (nbF 1 c)
  | 12 => A.bare m (nbF 3 c) (nbF 1 c)
  | 13 => A.bare m (nbF 4 c) (nbF 1 c)
  | 14 => iprop(A.bare m c c ∗ A.lent m q4 c)
def need (c : Dev nD) (x : K) : sProp 𝕄 := needA m (arr x.1) c x.2

instance pay_storable (c : Dev nD) (x : K) : BI.Storable (upEmb : UEmb _ 𝕄) (pay m c x) := by
  unfold pay payA
  split <;> infer_instance

/-- When a kind is paid, and when it is waited for. -/
def rankP (x : K) : ℕ := (![6 + 4 * x.1.val, 7 + 4 * x.1.val, 8 + 4 * x.1.val, 9 + 4 * x.1.val, 30 + 3 * x.1.val, 31 + 3 * x.1.val, 32 + 3 * x.1.val,
  6 + 4 * x.1.val, 7 + 4 * x.1.val, 8 + 4 * x.1.val, 9 + 4 * x.1.val, 30 + 3 * x.1.val, 31 + 3 * x.1.val, 32 + 3 * x.1.val, x.1.val] : Fin 15 → ℕ) x.2
def rankW (x : K) : ℕ := (![42 + 8 * x.1.val, 43 + 8 * x.1.val, 44 + 8 * x.1.val, 45 + 8 * x.1.val, 46 + 8 * x.1.val, 47 + 8 * x.1.val, 48 + 8 * x.1.val,
  18 + 4 * x.1.val, 3 * x.1.val, 1 + 3 * x.1.val, 2 + 3 * x.1.val, 19 + 4 * x.1.val, 20 + 4 * x.1.val, 21 + 4 * x.1.val, 49 + 8 * x.1.val] : Fin 15 → ℕ) x.2

def P (i : ℕ) : Finset K := Finset.univ.filter fun x => i ≤ rankP x
def W (j : ℕ) : Finset K := Finset.univ.filter fun x => j ≤ rankW x
def R (j : ℕ) : Finset K := Finset.univ.filter fun x => 18 ≤ rankW x ∧ rankW x < j

theorem mem_P {i : ℕ} {x : K} : x ∈ P i ↔ i ≤ rankP x := Finset.mem_filter.trans ⟨fun h => h.2, fun h => ⟨Finset.mem_univ _, h⟩⟩
theorem mem_W {j : ℕ} {x : K} : x ∈ W j ↔ j ≤ rankW x := Finset.mem_filter.trans ⟨fun h => h.2, fun h => ⟨Finset.mem_univ _, h⟩⟩
theorem mem_R {j : ℕ} {x : K} : x ∈ R j ↔ 18 ≤ rankW x ∧ rankW x < j := Finset.mem_filter.trans ⟨fun h => h.2, fun h => ⟨Finset.mem_univ _, h⟩⟩
theorem P_zero : P 0 = Finset.univ := Finset.filter_true_of_mem fun _ _ => Nat.zero_le _
theorem W_zero : W 0 = Finset.univ := Finset.filter_true_of_mem fun _ _ => Nat.zero_le _
theorem R_zero : R 0 = ∅ := Finset.filter_false_of_mem fun _ _ h => Nat.not_lt_zero _ h.2
theorem R_18 : R 18 = ∅ := Finset.filter_false_of_mem fun _ _ h => absurd h.2 (Nat.not_lt.mpr h.1)

theorem rankP_lt : ∀ x : K, rankP x < 48 := by decide +kernel
theorem rankW_lt : ∀ x : K, rankW x < 90 := by decide +kernel
theorem P_end : P 48 = ∅ := Finset.filter_false_of_mem fun x _ h => Nat.not_le.mpr (rankP_lt x) h
theorem W_end : W 90 = ∅ := Finset.filter_false_of_mem fun x _ h => Nat.not_le.mpr (rankW_lt x) h
theorem rankW_inj : ∀ x y : K, rankW x = rankW y → x = y := by decide +kernel
theorem rankP_of : ∀ x y : K, rankP x = rankP y → x = y ∨ (plan.away x = true ∧ plan.away y = false) ∨ (plan.away x = false ∧ plan.away y = true) := by decide +kernel
theorem lev_3 : ∀ x : K, 30 ≤ rankP x → plan.away x = true → plan.lev x = 3 := by decide +kernel

theorem W_next {j : ℕ} {x : K} (h : rankW x = j) : (W j).erase x = W (j + 1) := by
  ext y
  rw [Finset.mem_erase, mem_W, mem_W]
  constructor
  · rintro ⟨h1, h2⟩
    exact Nat.lt_of_le_of_ne h2 fun h3 => h1 (rankW_inj y x (h3.symm.trans h.symm))
  · intro h1
    exact ⟨fun h2 => by rw [h2, h] at h1; omega, Nat.le_of_succ_le h1⟩
theorem R_next {j : ℕ} {x : K} (h : rankW x = j) (hj : 18 ≤ j) : x ∈ R (j + 1) ∧ (R (j + 1)).erase x = R j := by
  refine ⟨mem_R.mpr (by omega), ?_⟩
  ext y
  rw [Finset.mem_erase, mem_R, mem_R]
  constructor
  · rintro ⟨h1, h2, h3⟩
    have : rankW y ≠ j := fun h4 => h1 (rankW_inj y x (h4.trans h.symm))
    omega
  · rintro ⟨h1, h2⟩
    exact ⟨fun h3 => by rw [h3, h] at h2; omega, h1, by omega⟩
theorem R_early {j : ℕ} (hj : j ≤ 18) : R j = ∅ := Finset.filter_false_of_mem fun _ _ h => by omega
/-- A step pays one kind, or two of which one is the peer's. -/
theorem P_two {i : ℕ} {x y : K} (hx : rankP x = i) (hy : rankP y = i) (ax : plan.away x = false) (ay : plan.away y = true) : ((P i).erase x).erase y = P (i + 1) := by
  ext z
  rw [Finset.mem_erase, Finset.mem_erase, mem_P, mem_P]
  constructor
  · rintro ⟨h1, h2, h3⟩
    refine Nat.lt_of_le_of_ne h3 fun h4 => ?_
    rcases hz : plan.away z with _ | _
    · rcases rankP_of z x (h4.symm.trans hx.symm) with h | h | h
      · exact h2 h
      · rw [hz] at h; cases h.1
      · rw [ax] at h; cases h.2
    · rcases rankP_of z y (h4.symm.trans hy.symm) with h | h | h
      · exact h1 h
      · rw [ay] at h; cases h.2
      · rw [hz] at h; cases h.1
  · intro h1
    exact ⟨fun h2 => by rw [h2, hy] at h1; omega, fun h2 => by rw [h2, hx] at h1; omega, Nat.le_of_succ_le h1⟩
theorem P_copy : ∀ (a : Fin 6) (x : K), a.val + 1 ≤ rankP x ↔ x ≠ (a, 14) ∧ a.val ≤ rankP x := by decide +kernel
theorem P_one (a : Fin 6) : (P a.val).erase (a, 14) = P (a.val + 1) := by
  ext x
  rw [Finset.mem_erase, mem_P, mem_P]
  exact (P_copy a x).symm

/-! ## The steps -/

abbrev 𝒱₀ : Variants := Variants.none

section Steps

variable (κ : Dev nD × K → ℕ) (c : Dev nD)

/-- What a device has of the gather after `i` steps that pay and `j` that wait. -/
def St (i j : ℕ) : sProp 𝕄 :=
  iprop((Wire.hold plan (pay m) κ c (P i) (W j) ∗ Wire.debt plan c (P i)) ∗ bigSep (P i) (need m c) ∗ bigSep (R j) (pay m c))

theorem route (x : K) : τ.routes (c : Thread nD τ) ((plan.peer x c : Dev nD) : Thread nD τ) = true := by
  revert c x; decide +kernel

/-- A device puts its own rows in place. -/
theorem copy (a : Fin 6) (j : ℕ) (hj : j = 0) {off : Fin 2 → ℕ} {inb} {sS : SemLoc sig} {hs hd ht} (hoff : off = ![c.val * (arr a).n, 0]) (hS : plan.sem (a, 14) = sS) :
    St m κ c a.val j ⊢ wp frame (wpE (defs₀ (F := F)) 𝒱₀ (c : Thread nD τ) none) Set.univ
      (Prog.lift (.enqueueDma (arr a).src (.here ((arr a).blk off inb)) sS hs hd ht)) fun _ => St m κ c (a.val + 1) j := by
  subst hoff hj
  have hm : (a, (14 : Fin 15)) ∈ P a.val := mem_P.mpr (Nat.le_refl _)
  unfold St
  have hN : bigSep (P a.val) (need m c) = (iprop(((arr a).bare m c c ∗ (arr a).lent m q4 c) ∗ bigSep (P (a.val + 1)) (need m c)) : sProp 𝕄) := by
    rw [bigSep_erase hm, P_one a]; rfl
  rw [hN]
  have hd : (Wire.debt plan c (P a.val) : sProp 𝕄) = Wire.debt plan c (P (a.val + 1)) := by
    unfold Wire.debt; rw [← P_one a, Wire.owe_drop plan rfl]
  rw [hd]
  iintro ⟨⟨Hh, Hd⟩, ⟨⟨Hb, Hs⟩, HN⟩, HR⟩
  iapply (Wire.hold_copy plan (pay m) κ c (defs₀ (F := F)) 𝒱₀ (src := (arr a).src) (dst := (arr a).place c) (a, 14) (P := P a.val) (W := W 0)
    (fd := m ((arr a).dst.view.loc (c : Thread nD τ))) (fs := m ((arr a).src.view.loc (c : Thread nD τ))) (q := q4)
    hS rfl rfl hm (by rw [W_zero]; exact Finset.mem_univ _) (by rw [← hS]; exact (arr a).same)
    (BI.sep_mono ((arr a).land m c c _ _ rfl) (Entails.refl _))) $$ [Hh Hb Hs]
  · isplitl [Hh]; · iexact Hh
    isplitl [Hs]; · unfold Arr.lent; iexact Hs
    unfold Arr.bare; iexact Hb
  iintro Hh
  rw [P_one a, wp_ret]
  imodintro
  isplitl [Hh Hd]
  · isplitl [Hh] <;> iassumption
  isplitl [HN] <;> iassumption

/-- The kinds of a send to another device, and that device; -/
abbrev sK (u : Fin 4) : Fin 15 := ⟨u.val, by omega⟩
abbrev rK (u : Fin 4) : Fin 15 := ⟨7 + u.val, by omega⟩
abbrev nK (u : Fin 4) : Fin 8 := ⟨u.val + 1, by omega⟩
/-- of a send of what arrived, and whose rows it is of. -/
abbrev sP (u : Fin 3) : Fin 15 := ⟨4 + u.val, by omega⟩
abbrev rP (u : Fin 3) : Fin 15 := ⟨11 + u.val, by omega⟩
abbrev fP (u : Fin 3) : Fin 15 := ⟨8 + u.val, by omega⟩
abbrev nP (u : Fin 3) : Fin 8 := ⟨u.val + 2, by omega⟩

theorem need_sK (a : Fin 6) (u : Fin 4) : (need m c (a, sK u) : sProp 𝕄) = (arr a).lent m (share u) c := match u with | 0 => rfl | 1 => rfl | 2 => rfl | 3 => rfl
theorem need_rK (a : Fin 6) (u : Fin 4) : (need m c (a, rK u) : sProp 𝕄) = (arr a).bare m c (nbF (nK u) c) := match u with | 0 => rfl | 1 => rfl | 2 => rfl | 3 => rfl
theorem pay_sK (a : Fin 6) (u : Fin 4) : (pay m c (a, sK u) : sProp 𝕄) = (arr a).lent m (share u) c := match u with | 0 => rfl | 1 => rfl | 2 => rfl | 3 => rfl
theorem pay_rK (a : Fin 6) (u : Fin 4) : (pay m (nbF (nK u) c) (a, rK u) : sProp 𝕄) = (arr a).there m c (nbF (nK u) c) := by
  have h : (pay m (nbF (nK u) c) (a, rK u) : sProp 𝕄) = (arr a).there m (nbF (nK u) (nbF (nK u) c)) (nbF (nK u) c) := match u with | 0 => rfl | 1 => rfl | 2 => rfl | 3 => rfl
  rw [h, nb_nb]
theorem need_sP (a : Fin 6) (u : Fin 3) : (need m c (a, sP u) : sProp 𝕄) = iprop(emp) := match u with | 0 => rfl | 1 => rfl | 2 => rfl
theorem need_rP (a : Fin 6) (u : Fin 3) : (need m c (a, rP u) : sProp 𝕄) = (arr a).bare m (nbF (nP u) c) (nbF 1 c) := match u with | 0 => rfl | 1 => rfl | 2 => rfl
theorem pay_sP (a : Fin 6) (u : Fin 3) : (pay m c (a, sP u) : sProp 𝕄) = (arr a).there m (nbF (nP u) c) c := match u with | 0 => rfl | 1 => rfl | 2 => rfl
theorem pay_fP (a : Fin 6) (u : Fin 3) : (pay m c (a, fP u) : sProp 𝕄) = (arr a).there m (nbF (nP u) c) c := match u with | 0 => rfl | 1 => rfl | 2 => rfl
theorem nb_one : ∀ (u : Fin 3) (c : Dev nD), nbF ⟨u.val + 5, by omega⟩ (nbF 1 c) = nbF (nP u) c := by decide
theorem pay_rP (a : Fin 6) (u : Fin 3) : (pay m (nbF 1 c) (a, rP u) : sProp 𝕄) = (arr a).there m (nbF (nP u) c) (nbF 1 c) := by
  have h : (pay m (nbF 1 c) (a, rP u) : sProp 𝕄) = (arr a).there m (nbF ⟨u.val + 5, by omega⟩ (nbF 1 c)) (nbF 1 c) := match u with | 0 => rfl | 1 => rfl | 2 => rfl
  rw [h, nb_one]
theorem kinds_K : ∀ (a : Fin 6) (u : Fin 4), plan.peer (a, sK u) = Equiv.refl _ ∧ plan.away (a, sK u) = false ∧ plan.away (a, rK u) = true
    ∧ rankP (a, sK u) = 6 + 4 * a.val + u.val ∧ rankP (a, rK u) = 6 + 4 * a.val + u.val := by
  intro a u; exact match u with
    | 0 => ⟨rfl, rfl, rfl, by show 6 + 4 * a.val = _; omega, by show 6 + 4 * a.val = _; omega⟩
    | 1 => ⟨rfl, rfl, rfl, by show 7 + 4 * a.val = _; omega, by show 7 + 4 * a.val = _; omega⟩
    | 2 => ⟨rfl, rfl, rfl, by show 8 + 4 * a.val = _; omega, by show 8 + 4 * a.val = _; omega⟩
    | 3 => ⟨rfl, rfl, rfl, by show 9 + 4 * a.val = _; omega, by show 9 + 4 * a.val = _; omega⟩
theorem peer_K (a : Fin 6) (u : Fin 4) : plan.peer (a, rK u) c = nbF (nK u) c := match u with | 0 => rfl | 1 => rfl | 2 => rfl | 3 => rfl
theorem kinds_P : ∀ (a : Fin 6) (u : Fin 3), plan.peer (a, sP u) = Equiv.refl _ ∧ plan.away (a, sP u) = false ∧ plan.away (a, rP u) = true
    ∧ rankP (a, sP u) = 30 + 3 * a.val + u.val ∧ rankP (a, rP u) = 30 + 3 * a.val + u.val ∧ 18 ≤ rankW (a, sP u)
    ∧ rankW (a, fP u) = 3 * a.val + u.val ∧ plan.away (a, fP u) = true ∧ plan.lev (a, fP u) = 2 := by
  intro a u; exact match u with
    | 0 => ⟨rfl, rfl, rfl, by show 30 + 3 * a.val = _; omega, by show 30 + 3 * a.val = _; omega, by show 18 ≤ 46 + 8 * a.val; omega, by show 3 * a.val = _; omega, rfl, rfl⟩
    | 1 => ⟨rfl, rfl, rfl, by show 31 + 3 * a.val = _; omega, by show 31 + 3 * a.val = _; omega, by show 18 ≤ 47 + 8 * a.val; omega, by show 1 + 3 * a.val = _; omega, rfl, rfl⟩
    | 2 => ⟨rfl, rfl, rfl, by show 32 + 3 * a.val = _; omega, by show 32 + 3 * a.val = _; omega, by show 18 ≤ 48 + 8 * a.val; omega, by show 2 + 3 * a.val = _; omega, rfl, rfl⟩
theorem peer_P (a : Fin 6) (u : Fin 3) : plan.peer (a, rP u) c = nbF 1 c := match u with | 0 => rfl | 1 => rfl | 2 => rfl

/-- What a step that pays two kinds takes. -/
theorem need_two {i : ℕ} {x y : K} (hx : rankP x = i) (hy : rankP y = i) (ax : plan.away x = false) (ay : plan.away y = true) :
    bigSep (P i) (need m c) = (iprop(need m c x ∗ need m c y ∗ bigSep (P (i + 1)) (need m c)) : sProp 𝕄) := by
  have h1 : x ∈ P i := mem_P.mpr (Nat.le_of_eq hx.symm)
  have h2 : y ∈ (P i).erase x := Finset.mem_erase.mpr ⟨fun h => (by rw [h, ax] at ay; cases ay), mem_P.mpr (Nat.le_of_eq hy.symm)⟩
  rw [bigSep_erase h1, bigSep_erase h2, P_two hx hy ax ay]; rfl

/-- It sends them to its sibling and to the three chips. -/
theorem send (a : Fin 6) (u : Fin 4) {i i' : ℕ} (hi : 6 + 4 * a.val + u.val = i) (hi' : i + 1 = i') {n : Dev nD} {off : Fin 2 → ℕ} {inb} {sS sR : SemLoc sig} {hsc hs hd ht}
    (hn : n = nbF (nK u) c) (hoff : off = ![c.val * (arr a).n, 0]) (hS : plan.sem (a, sK u) = sS) (hR : plan.sem (a, rK u) = sR) :
    St m κ c i 0 ⊢ wp frame (wpE (defs₀ (F := F)) 𝒱₀ (c : Thread nD τ) none) Set.univ
      (Prog.lift (.enqueueDma (arr a).src (.remote (Dev.tc n : Thread nD τ) ((arr a).blk off inb) sS hsc) sR hs hd ht)) fun _ => St m κ c i' 0 := by
  subst hoff hi'
  obtain ⟨k1, k2, k3, k4, k5⟩ := kinds_K a u
  have h4 := k4.trans hi
  have h5 := k5.trans hi
  have hpe := peer_K c a u
  unfold St
  rw [need_two m c h4 h5 k2 k3, need_sK, need_rK]
  iintro ⟨⟨Hh, Hd⟩, ⟨Hs, Hb, HN⟩, HR⟩
  iapply (Wire.hold_send plan (pay m) κ c (defs₀ (F := F)) 𝒱₀ (src := (arr a).src) (dst := (arr a).place c) (a, sK u) (a, rK u) (P := P i) (W := W 0)
    (fd := m ((arr a).dst.view.loc ((plan.peer (a, rK u) c : Dev nD) : Thread nD τ))) (fs := m ((arr a).src.view.loc (c : Thread nD τ))) (q := share u)
    (hn.trans hpe.symm) hS hR (by rw [k1]; rfl) k2 k3 (mem_P.mpr (Nat.le_of_eq h4.symm)) (mem_P.mpr (Nat.le_of_eq h5.symm)) (by rw [W_zero]; exact Finset.mem_univ _) (by rw [← hR]; exact (arr a).same) (by rw [← hR]; exact (arr a).same)
    (Entails.of_eq (pay_sK m c a u).symm)
    (((arr a).land m c _ _ _ rfl).trans (Entails.of_eq (by rw [hpe]; exact (pay_rK m c a u).symm))) (route c _)) $$ [Hh Hd Hb Hs]
  · isplitl [Hh]; · iexact Hh
    isplitl [Hd]; · iexact Hd
    isplitl [Hs]; · unfold Arr.lent; iexact Hs
    rw [hpe]
    unfold Arr.bare; iexact Hb
  rw [P_two h4 h5 k2 k3]
  iintro ⟨Hh, Hd⟩
  rw [wp_ret]
  imodintro
  isplitl [Hh Hd]
  · isplitl [Hh] <;> iassumption
  isplitl [HN] <;> iassumption

/-- It waits for what a chip sent, -/
theorem take (a : Fin 6) (u : Fin 3) {i j j' : ℕ} (hi : 30 ≤ i) (hj : 3 * a.val + u.val = j) (hj' : j + 1 = j') {off : Fin 2 → ℕ} {inb} {sp : Space} {s' : Shape} {e' : EltTy} {src : Memref sig .tc sp s' e'} {sem : DmaSem sig} {hs hd}
    (hS : plan.sem (a, fP u) = .dma sem) :
    St m κ c i j ⊢ wp frame (wpE (defs₀ (F := F)) 𝒱₀ (c : Thread nD τ) none) Set.univ
      (Prog.lift (.waitDma2 sem src ((arr a).blk off inb) hs hd)) fun _ => iprop(St m κ c i j' ∗ pay m c (a, fP u)) := by
  subst hj'
  obtain ⟨-, -, -, -, -, -, k7, k8, k9⟩ := kinds_P a u
  have h7 := k7.trans hj
  have ha : a.val < 6 := a.isLt
  have hu : u.val < 3 := u.isLt
  unfold St
  rw [R_early (show j ≤ 18 by omega), R_early (show j + 1 ≤ 18 by omega)]
  iintro ⟨HH, HN, HR⟩
  iapply (Wire.hold_wait plan (pay m) κ c (defs₀ (F := F)) 𝒱₀ (P := P i) (W := W j) (a, fP u) hS (mem_W.mpr (Nat.le_of_eq h7.symm)) (Or.inl k8) (arr a).same
    (fun x hx hax => by rw [k9, lev_3 x (hi.trans (mem_P.mp hx)) hax]; decide)) $$ HH
  rw [W_next h7]
  iintro ⟨Hh, Hd, Hp⟩
  rw [wp_ret]
  imodintro
  isplitr [Hp]
  · isplitl [Hh Hd]
    · isplitl [Hh] <;> iassumption
    isplitl [HN] <;> iassumption
  iexact Hp
/-- and passes it on to its sibling. -/
theorem pass (a : Fin 6) (u : Fin 3) {i i' j : ℕ} (hi : 30 + 3 * a.val + u.val = i) (hi' : i + 1 = i') (hj : j ≤ 18) {n : Dev nD} {off : Fin 2 → ℕ} {inb} {sS sR : SemLoc sig} {hsc hs hd ht}
    (hn : n = nbF 1 c) (hoff : off = ![(nbF (nP u) c).val * (arr a).n, 0]) (hS : plan.sem (a, sP u) = sS) (hR : plan.sem (a, rP u) = sR) :
    iprop(St m κ c i j ∗ pay m c (a, fP u)) ⊢ wp frame (wpE (defs₀ (F := F)) 𝒱₀ (c : Thread nD τ) none) Set.univ
      (Prog.lift (.enqueueDma ((arr a).blk off inb) (.remote (Dev.tc n : Thread nD τ) ((arr a).blk off inb) sS hsc) sR hs hd ht)) fun _ => St m κ c i' j := by
  subst hoff hi'
  obtain ⟨k1, k2, k3, k4, k5, k6, -⟩ := kinds_P a u
  have h4 := k4.trans hi
  have h5 := k5.trans hi
  have hpe := peer_P c a u
  unfold St
  rw [need_two m c h4 h5 k2 k3, need_sP, need_rP, pay_fP]
  iintro ⟨⟨⟨Hh, Hd⟩, ⟨-, Hb, HN⟩, HR⟩, Hs⟩
  iapply (Wire.hold_send plan (pay m) κ c (defs₀ (F := F)) 𝒱₀ (src := (arr a).place (nbF (nP u) c)) (dst := (arr a).place (nbF (nP u) c)) (a, sP u) (a, rP u) (P := P i) (W := W j)
    (fd := m ((arr a).dst.view.loc ((plan.peer (a, rP u) c : Dev nD) : Thread nD τ))) (fs := (arr a).full m c) (q := fullShare)
    (hn.trans hpe.symm) hS hR (by rw [k1]; rfl) k2 k3 (mem_P.mpr (Nat.le_of_eq h4.symm)) (mem_P.mpr (Nat.le_of_eq h5.symm)) (mem_W.mpr (hj.trans k6)) (by rw [← hR]; exact (arr a).same) (by rw [← hR]; exact (arr a).same)
    (Entails.of_eq (pay_sP m c a u).symm)
    (((arr a).land m (nbF (nP u) c) _ _ _ ((arr a).read_full m c _)).trans (Entails.of_eq (by rw [hpe]; exact (pay_rP m c a u).symm))) (route c _)) $$ [Hh Hd Hb Hs]
  · isplitl [Hh]; · iexact Hh
    isplitl [Hd]; · iexact Hd
    isplitl [Hs]; · unfold Arr.there; iexact Hs
    rw [hpe]
    unfold Arr.bare; iexact Hb
  rw [P_two h4 h5 k2 k3]
  iintro ⟨Hh, Hd⟩
  rw [wp_ret]
  imodintro
  isplitl [Hh Hd]
  · isplitl [Hh] <;> iassumption
  isplitl [HN] <;> iassumption

/-- The kind waited for at a step of the end. -/
def atW (j : ℕ) : Fin 6 × Fin 15 :=
  if j < 42 then (⟨(j - 18) / 4 % 6, Nat.mod_lt _ (by decide)⟩, (![7, 11, 12, 13] : Fin 4 → Fin 15) ⟨(j - 18) % 4, Nat.mod_lt _ (by decide)⟩)
  else (⟨(j - 42) / 8 % 6, Nat.mod_lt _ (by decide)⟩, (![0, 1, 2, 3, 4, 5, 6, 14] : Fin 8 → Fin 15) ⟨(j - 42) % 8, Nat.mod_lt _ (by decide)⟩)
theorem rankW_atW : ∀ i : Fin 72, rankW (atW (18 + i.val)) = 18 + i.val := by decide +kernel

/-- At the end it waits for all that is still under way. -/
theorem drain (i : Fin 72) {j j' : ℕ} (hj : 18 + i.val = j) (hj' : j + 1 = j') {sp sp' : Space} {s s' : Shape} {e e' : EltTy} {src : Memref sig .tc sp' s' e'} {dst : Memref sig .tc sp s e} {sem : DmaSem sig} {hs hd}
    (hS : plan.sem (atW (18 + i.val)) = .dma sem) (hamt : (arr (atW (18 + i.val)).1).src.view.dmaCredit = dst.view.dmaCredit) :
    St m κ c 48 j ⊢ wp frame (wpE (defs₀ (F := F)) 𝒱₀ (c : Thread nD τ) none) Set.univ
      (Prog.lift (.waitDma2 sem src dst hs hd)) fun _ => St m κ c 48 j' := by
  subst hj hj'
  have h := rankW_atW i
  have hR : bigSep (R (18 + i.val + 1)) (pay m c) = (iprop(pay m c (atW (18 + i.val)) ∗ bigSep (R (18 + i.val)) (pay m c)) : sProp 𝕄) := by
    obtain ⟨r1, r2⟩ := R_next h (Nat.le_add_right _ _)
    rw [bigSep_erase r1, r2]; rfl
  unfold St
  rw [hR]
  iintro ⟨HH, HN, HR⟩
  iapply (Wire.hold_wait plan (pay m) κ c (defs₀ (F := F)) 𝒱₀ (P := P 48) (W := W (18 + i.val)) (atW (18 + i.val)) hS (mem_W.mpr (Nat.le_of_eq h.symm))
    (Or.inr (by rw [P_end]; exact Finset.notMem_empty _)) hamt (fun x hx => by rw [P_end] at hx; exact absurd hx (Finset.notMem_empty _))) $$ HH
  rw [W_next h]
  iintro ⟨Hh, Hd, Hp⟩
  rw [wp_ret]
  imodintro
  isplitl [Hh Hd]
  · isplitl [Hh] <;> iassumption
  isplitl [HN]; · iexact HN
  isplitl [Hp] <;> iassumption

end Steps

end Cert.Proof.InProj
-- ==== Proof.InProjTalk.lean ====
/-
  The gather's steps as the projection's body takes them (`InProj`): the sends at the first grid point, the passing on at the
  thirteenth, the waits at the last; and what the body reads first.
-/
module

public import proofs.«01_k».proof.Proof.InProjGather
public import proofs.«01_k».proof.Proof.Loose

@[expose] public section

noncomputable section

namespace Cert.Proof.InProj

open Cert.InProjIdeal Cert.InProjIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg BodyObligation)

set_option Elab.async false

variable {F : FTy → Type} [FloatOps F]

local notation "𝕄" => MT nD τ sig Unit (Elt F) ℕ (Wire.UU nD τ sig) ℕ

theorem lt16 (t : Fin cfg0.N) : t.val < 16 := t.isLt
theorem cond1_iff : ∀ t : Fin cfg0.N, k0_cond1 (grid0.coords t) = 1#1 ↔ t.val = 0 := by decide
theorem cond2_iff : ∀ t : Fin cfg0.N, k0_cond2 (grid0.coords t) = 1#1 ↔ t.val = 12 := by decide
theorem cond3_iff : ∀ t : Fin cfg0.N, k0_cond3 (grid0.coords t) = 1#1 ↔ t.val = 15 := by decide

section Seq

variable (c : Dev nD) {α β : Type}

/-- One program, then another. -/
theorem seq {A : sProp 𝕄} {B : β → sProp 𝕄} {p : Prog (TpuEff nD τ sig (Elt F) Λ₀ .tc) β} {k : β → Prog (TpuEff nD τ sig (Elt F) Λ₀ .tc) α} {Q : α → sProp 𝕄}
    (hp : A ⊢ wp frame (wpE (defs₀ (F := F)) 𝒱₀ (c : Thread nD τ) none) Set.univ p B)
    (hk : ∀ b, B b ⊢ wp frame (wpE (defs₀ (F := F)) 𝒱₀ (c : Thread nD τ) none) Set.univ (k b) Q) :
    A ⊢ wp frame (wpE (defs₀ (F := F)) 𝒱₀ (c : Thread nD τ) none) Set.univ (p >>= k) Q := by
  rw [wp_bind]; exact hp.trans (wp_mono _ _ _ hk)
/-- A step of what else is held, then the rest. -/
theorem step {R A : sProp 𝕄} {B : β → sProp 𝕄} {e : TpuEff nD τ sig (Elt F) Λ₀ .tc β} {k : β → Prog (TpuEff nD τ sig (Elt F) Λ₀ .tc) α} {Q : α → sProp 𝕄}
    (hp : A ⊢ wp frame (wpE (defs₀ (F := F)) 𝒱₀ (c : Thread nD τ) none) Set.univ (Prog.lift e) B)
    (hk : ∀ b, iprop(R ∗ B b) ⊢ wp frame (wpE (defs₀ (F := F)) 𝒱₀ (c : Thread nD τ) none) Set.univ (k b) Q) :
    iprop(R ∗ A) ⊢ wp frame (wpE (defs₀ (F := F)) 𝒱₀ (c : Thread nD τ) none) Set.univ (.op e k) Q := Own.other (defs₀ (F := F)) 𝒱₀ (c : Thread nD τ) hp hk
theorem done {A : sProp 𝕄} (a : α) :
    A ⊢ wp frame (wpE (defs₀ (F := F)) 𝒱₀ (c : Thread nD τ) none) Set.univ (pure a) fun _ => A := by
  rw [wp_pure]
  iintro H
  imodintro
  iexact H

end Seq

variable (m : (ℓ : Loc nD τ sig) → Buf (Elt F) ℓ) (κ : Dev nD × K → ℕ) (c : Dev nD)

/-- What a device has of the gather before a grid point. -/
def talk (n : ℕ) : sProp 𝕄 := if n = 0 then St m κ c 0 0 else if n ≤ 12 then St m κ c 30 0 else St m κ c 48 18

/-- The steps of the gather by their numbers. -/
theorem copy_at (i : ℕ) (hi : i < 6) {off : Fin 2 → ℕ} {inb} {sS : DmaSem sig} {hs hd ht}
    (hoff : off = ![c.val * (arr ⟨i, hi⟩).n, 0]) (hS : plan.sem (⟨i, hi⟩, 14) = .dma sS) :
    St m κ c i 0 ⊢ wp frame (wpE (defs₀ (F := F)) 𝒱₀ (c : Thread nD τ) none) Set.univ
      (Prog.lift (.enqueueDma (arr ⟨i, hi⟩).src (.here ((arr ⟨i, hi⟩).blk off inb)) (.dma sS) hs hd ht)) fun _ => St m κ c (i + 1) 0 :=
  copy m κ c ⟨i, hi⟩ 0 rfl hoff hS
theorem send_at (i : ℕ) (h6 : 6 ≤ i) (ha : (i - 6) / 4 < 6) {d : Dev nD} {off : Fin 2 → ℕ} {inb} {sS sR : DmaSem sig} {hsc hs hd ht}
    (hd' : d.val = (nbF (nK ⟨(i - 6) % 4, Nat.mod_lt _ (by decide)⟩) c).val) (hoff : off = ![c.val * (arr ⟨(i - 6) / 4, ha⟩).n, 0])
    (hS : plan.sem (⟨(i - 6) / 4, ha⟩, sK ⟨(i - 6) % 4, Nat.mod_lt _ (by decide)⟩) = .dma sS) (hR : plan.sem (⟨(i - 6) / 4, ha⟩, rK ⟨(i - 6) % 4, Nat.mod_lt _ (by decide)⟩) = .dma sR) :
    St m κ c i 0 ⊢ wp frame (wpE (defs₀ (F := F)) 𝒱₀ (c : Thread nD τ) none) Set.univ
      (Prog.lift (.enqueueDma (arr ⟨(i - 6) / 4, ha⟩).src (.remote (Dev.tc d : Thread nD τ) ((arr ⟨(i - 6) / 4, ha⟩).blk off inb) (.dma sS) hsc) (.dma sR) hs hd ht)) fun _ => St m κ c (i + 1) 0 :=
  send m κ c ⟨(i - 6) / 4, ha⟩ ⟨(i - 6) % 4, Nat.mod_lt _ (by decide)⟩ (by show 6 + 4 * ((i - 6) / 4) + (i - 6) % 4 = i; omega) rfl (Fin.ext hd') hoff hS hR
theorem drain_at (j : ℕ) (h18 : 18 ≤ j) (hn : j < 90) {sp sp' : Space} {s s' : Shape} {e e' : EltTy} {src : Memref sig .tc sp' s' e'} {dst : Memref sig .tc sp s e} {sem : DmaSem sig} {hs hd}
    (hS : plan.sem (atW j) = .dma sem) (hamt : (arr (atW j).1).src.view.dmaCredit = dst.view.dmaCredit) :
    St m κ c 48 j ⊢ wp frame (wpE (defs₀ (F := F)) 𝒱₀ (c : Thread nD τ) none) Set.univ
      (Prog.lift (.waitDma2 sem src dst hs hd)) fun _ => St m κ c 48 (j + 1) := by
  have e : 18 + (j - 18) = j := by omega
  exact drain m κ c ⟨j - 18, by omega⟩ e rfl (by rw [e]; exact hS) (by rw [e]; exact hamt)

/-- Before a chip's rows are awaited, and with them at hand. -/
def mid (j : ℕ) : sProp 𝕄 := St m κ c (30 + j) j
def mid' (j : ℕ) (ha : j / 3 < 6) : sProp 𝕄 := iprop(St m κ c (30 + j) (j + 1) ∗ pay m c (⟨j / 3, ha⟩, fP ⟨j % 3, Nat.mod_lt _ (by decide)⟩))
theorem take_at (j : ℕ) (ha : j / 3 < 6) {off : Fin 2 → ℕ} {inb} {sp : Space} {s' : Shape} {e' : EltTy} {src : Memref sig .tc sp s' e'} {sem : DmaSem sig} {hs hd}
    (hS : plan.sem (⟨j / 3, ha⟩, fP ⟨j % 3, Nat.mod_lt _ (by decide)⟩) = .dma sem) :
    mid m κ c j ⊢ wp frame (wpE (defs₀ (F := F)) 𝒱₀ (c : Thread nD τ) none) Set.univ
      (Prog.lift (.waitDma2 sem src ((arr ⟨j / 3, ha⟩).blk off inb) hs hd)) fun _ => mid' m κ c j ha :=
  take m κ c ⟨j / 3, ha⟩ ⟨j % 3, Nat.mod_lt _ (by decide)⟩ (Nat.le_add_right _ _) (by show 3 * (j / 3) + j % 3 = j; omega) rfl hS
theorem pass_at (j : ℕ) (ha : j / 3 < 6) {d : Dev nD} {off : Fin 2 → ℕ} {inb} {sS sR : DmaSem sig} {hsc hs hd ht}
    (hd' : d.val = (nbF 1 c).val) (hoff : off = ![(nbF (nP ⟨j % 3, Nat.mod_lt _ (by decide)⟩) c).val * (arr ⟨j / 3, ha⟩).n, 0])
    (hS : plan.sem (⟨j / 3, ha⟩, sP ⟨j % 3, Nat.mod_lt _ (by decide)⟩) = .dma sS) (hR : plan.sem (⟨j / 3, ha⟩, rP ⟨j % 3, Nat.mod_lt _ (by decide)⟩) = .dma sR) :
    mid' m κ c j ha ⊢ wp frame (wpE (defs₀ (F := F)) 𝒱₀ (c : Thread nD τ) none) Set.univ
      (Prog.lift (.enqueueDma ((arr ⟨j / 3, ha⟩).blk off inb) (.remote (Dev.tc d : Thread nD τ) ((arr ⟨j / 3, ha⟩).blk off inb) (.dma sS) hsc) (.dma sR) hs hd ht)) fun _ => mid m κ c (j + 1) :=
  pass m κ c ⟨j / 3, ha⟩ ⟨j % 3, Nat.mod_lt _ (by decide)⟩ (by show 30 + 3 * (j / 3) + j % 3 = 30 + j; omega) rfl (by omega) (Fin.ext hd') hoff hS hR

section Body

variable (t : Fin cfg0.N)
  (arg1 : Memref sig .tc .vmem S512x1024 .bf16) (harg1 : arg1.IsWhole)
  (arg2 : Memref sig .tc .vmem S7680x1024 .bf16) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S512x128 .f32) (harg5 : arg5.IsWhole)
  (arg12 : Memref sig .tc .vmem S1x512x1536 .bf16) (harg12 : arg12.IsWhole)
  (arg13 : Memref sig .tc .vmem S4x128x1536 .bf16) (harg13 : arg13.IsWhole)
  (arg14 : Memref sig .tc .vmem S16x32x1536 .bf16) (harg14 : arg14.IsWhole)
  (arg15 : Memref sig .tc .vmem S512x3072 .bf16) (harg15 : arg15.IsWhole)
  (X1 : S512x1024.Idx → Elt F .bf16) (X2 : S7680x1024.Idx → Elt F .bf16) (X3 X4 X5 : S512x128.Idx → Elt F .f32)

/-- What the body holds all along: the projected rows' weight but for what it stores. -/
def ins : sProp 𝕄 := iprop(owns (c : Thread nD τ) arg1 fullShare X1 ∗ owns (c : Thread nD τ) arg2 fullShare X2 ∗ owns (c : Thread nD τ) arg3 fullShare X3
  ∗ owns (c : Thread nD τ) arg4 fullShare X4 ∗ owns (c : Thread nD τ) arg5 fullShare X5)

/-- The rows of the weight at an offset. -/
def wrows (X : S7680x1024.Idx → Elt F .bf16) (off : Fin 2 → ℕ) (inb : ∀ a, off a + S512x1024.size a ≤ S7680x1024.size a) : S512x1024.Idx → Elt F .bf16 :=
  fun x => X ((Rect.unit (s := S7680x1024) off S512x1024.size inb).toLoadRect.idx x)

/-- The gather's steps of a point, and the operands read. -/
theorem first_part :
    iprop(ins c arg1 arg2 arg3 arg4 arg5 X1 X2 X3 X4 X5 ∗ talk m κ c t.val)
      ⊢ wp frame (wpE (defs₀ (F := F)) 𝒱₀ (c : Thread nD τ) none) Set.univ (k0_part69 (grid0.coords t) arg1 harg1 arg2 harg2 arg3 harg3 arg4 harg4 arg5 harg5 (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) arg12 harg12 arg13 harg13 arg14 harg14 arg15 harg15 (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5)
          fun r => iprop(⌜r.2.1 = c ∧ r.2.2.2.2.2.2.2.2.2.2.1 = k0_pay2 X1 ∧ r.2.2.2.2.2.2.2.2.2.2.2.2.2.2.1 = k0_pay6 (wrows X2 ![4608, 0] inb_S7680x1024_S512x1024_4608_0)
              ∧ r.2.2.2.2.2.2.2.2.2.2.2.2.2.2.2 = constant S512x512 .f32 0x00000000#32⌝
            ∗ ins c arg1 arg2 arg3 arg4 arg5 X1 X2 X3 X4 X5 ∗ talk m κ c (t.val + 1)) := by
  simp only [k0_part69_eq_skeleton]; unfold k0_part69_skel
  simp only [Prog.lift, Prog.bind_op, Prog.bind_ret, Prog.pure_eq_ret, wp_deviceId]
  unfold talk
  rw [if_neg (Nat.succ_ne_zero _)]
  by_cases h : k0_cond1 (grid0.coords t) = 1#1
  case' pos =>
    have h0 := (cond1_iff t).mp h
    have h2 : ¬ k0_cond2 (grid0.coords t) = 1#1 := fun h2 => by have := (cond2_iff t).mp h2; omega
    rw [dif_pos h, if_pos h0, if_pos (show t.val + 1 ≤ 12 by omega), dif_neg h2]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold k0_part1_skel k0_part2_skel k0_part3_skel k0_part4_skel k0_part5_skel k0_part6_skel k0_part7_skel k0_part8_skel k0_part9_skel k0_part10_skel k0_part11_skel k0_part12_skel k0_part13_skel
    simp only [Prog.lift, Prog.bind_op, Prog.bind_ret, Prog.pure_eq_ret]
    iterate 6 refine step c (copy_at (F := F) m κ c _ (by decide) (by revert c; decide) rfl) fun _ => ?_
    iterate 24 refine step c (send_at (F := F) m κ c _ (by decide) (by decide) (by dsimp only; revert c; decide) (by revert c; decide) rfl rfl) fun _ => ?_
    show iprop(_ ∗ St m κ c 30 0) ⊢ _
  case' neg =>
    rw [dif_neg h, if_neg fun h0 => h ((cond1_iff t).mpr h0)]
    by_cases h2 : k0_cond2 (grid0.coords t) = 1#1
    case' pos =>
      have h0 := (cond2_iff t).mp h2
      rw [dif_pos h2, if_pos h0.le, if_neg (show ¬ t.val + 1 ≤ 12 by omega)]
      simp only [k0_part36_eq_skeleton]; unfold k0_part36_skel
      simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
      unfold k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel
      simp only [Prog.lift, Prog.bind_op, Prog.bind_ret, Prog.pure_eq_ret]
      show iprop(_ ∗ mid m κ c 0) ⊢ _
      iterate 18
        refine step c (take_at (F := F) m κ c _ (by decide) rfl) fun _ => ?_
        refine step c (pass_at (F := F) m κ c _ (by decide) (by dsimp only; revert c; decide) (by revert c; decide) rfl rfl) fun _ => ?_
      show iprop(_ ∗ St m κ c 48 18) ⊢ _
    case' neg =>
      have hi : (if t.val ≤ 12 then St m κ c 30 0 else St m κ c 48 18) = if t.val + 1 ≤ 12 then St m κ c 30 0 else St m κ c 48 18 := by
        have h2' : t.val ≠ 12 := fun h0 => h2 ((cond2_iff t).mpr h0)
        by_cases h3 : t.val ≤ 12
        · rw [if_pos h3, if_pos (show t.val + 1 ≤ 12 by omega)]
        · rw [if_neg h3, if_neg (show ¬ t.val + 1 ≤ 12 by omega)]
      rw [dif_neg h2, hi]
  all_goals
    unfold ins
    iintro ⟨⟨H1, H2, H3, H4, H5⟩, HT⟩
    iapply (Own.load_whole (defs₀ (F := F)) 𝒱₀ (c : Thread nD τ) (m := arg1) (by decide)) $$ H1
    iintro H1
    iapply (Own.load_whole (defs₀ (F := F)) 𝒱₀ (c : Thread nD τ) (m := arg3) (by decide)) $$ H3
    iintro H3
    iapply (Own.load_whole (defs₀ (F := F)) 𝒱₀ (c : Thread nD τ) (m := arg4) (by decide)) $$ H4
    iintro H4
    iapply (Own.load_whole (defs₀ (F := F)) 𝒱₀ (c : Thread nD τ) (m := arg5) (by decide)) $$ H5
    iintro H5
    iapply (Own.load (defs₀ (F := F)) 𝒱₀ (c : Thread nD τ) (m := arg2)) $$ H2
    iintro H2
    rw [wp_ret]
    imodintro
    isplitr; · ipureintro; exact ⟨rfl, rfl, rfl, rfl⟩
    isplitr [HT]
    · isplitl [H1]; · iexact H1
      isplitl [H2]; · iexact H2
      isplitl [H3]; · iexact H3
      isplitl [H4] <;> iassumption
    iexact HT

end Body

end Cert.Proof.InProj
-- ==== Proof.InProjBody.lean ====
/-
  The projection's body (`InProj`) runs as its gather does, and leaves in its last result the normalized rows times the
  rows of the weight from 4608 on. Of the three results laid out by dilation only that they are written is said.
-/
module

public import proofs.«01_k».proof.Proof.InProjTalk

@[expose] public section

noncomputable section

namespace Cert.Proof.InProj

open Cert.InProjIdeal Cert.InProjIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (Wire.UU nD τ sig) ℕ

/-- An index of a block. -/
def ix (r j : Fin 512) : S512x512.Idx := fun a => match a with
  | 0 => r
  | 1 => j

/-- The last result at an index: its block of 512 columns is one product. -/
def uvgAt (X1 : S512x1024.Idx → Elt F .bf16) (X2 : S7680x1024.Idx → Elt F .bf16) (i : S512x3072.Idx) : Elt F .bf16 :=
  k0_pay9 (k0_pay2 X1) (wrows X2 ![4608 + 512 * ((i 1).val / 512), 0] (by
    have h : (i 1).val < 3072 := (i 1).isLt
    intro a
    match a with
    | 0 => show 4608 + 512 * ((i 1).val / 512) + 512 ≤ 7680; omega
    | 1 => exact Nat.le_refl 1024)) (ix (i 0) ⟨(i 1).val % 512, Nat.mod_lt _ (by decide)⟩)

theorem uvgAt_eq {X1 : S512x1024.Idx → Elt F .bf16} {X2 : S7680x1024.Idx → Elt F .bf16} (i : S512x3072.Idx) (n : ℕ) (hi : ∀ a, (![4608 + 512 * n, 0] : Fin 2 → ℕ) a + S512x1024.size a ≤ S7680x1024.size a)
    (hq : (i 1).val / 512 = n) (hr : (i 1).val - 512 * n < 512) :
    uvgAt X1 X2 i = k0_pay9 (k0_pay2 X1) (wrows X2 ![4608 + 512 * n, 0] hi) (ix (i 0) ⟨(i 1).val - 512 * n, hr⟩) := by
  subst hq
  have e : (⟨(i 1).val % 512, Nat.mod_lt _ (by decide)⟩ : Fin 512) = ⟨(i 1).val - 512 * ((i 1).val / 512), hr⟩ := Fin.ext (by show _ % 512 = _ - _; omega)
  unfold uvgAt
  rw [e]

section Body

variable (m : (ℓ : Loc nD τ sig) → Buf (Elt F) ℓ) (κ : Dev nD × K → ℕ) (c : Dev nD) {α : Type}

/-- The first `n` blocks of columns of the last result are done. -/
def U (arg15 : Memref sig .tc .vmem S512x3072 .bf16) (X1 : S512x1024.Idx → Elt F .bf16) (X2 : S7680x1024.Idx → Elt F .bf16) (n : ℕ) : sProp 𝕄 :=
  iprop(∃ X, ⌜∀ i : S512x3072.Idx, (i 1).val < 512 * n → X i = uvgAt X1 X2 i⌝ ∗ owns (c : Thread nD τ) arg15 fullShare X)

/-- `R` lends `arg2` at `X2`. -/
def Lends (R : sProp 𝕄) (arg2 : Memref sig .tc .vmem S7680x1024 .bf16) (X2 : S7680x1024.Idx → Elt F .bf16) : Prop :=
  R ⊢ iprop(owns (c : Thread nD τ) arg2 fullShare X2 ∗ (owns (c : Thread nD τ) arg2 fullShare X2 -∗ R))

/-- A read of the weight, -/
theorem load_w {R A : sProp 𝕄} {Q : α → sProp 𝕄} {arg2 : Memref sig .tc .vmem S7680x1024 .bf16} {X2 : S7680x1024.Idx → Elt F .bf16} (h : Lends c R arg2 X2) {off : Fin 2 → ℕ} {inb : ∀ a, off a + S512x1024.size a ≤ S7680x1024.size a} {hl}
    {k : (S512x1024.Idx → Elt F .bf16) → Prog (TpuEff nD τ sig (Elt F) Λ₀ .tc) α}
    (hk : iprop(R ∗ A) ⊢ wp frame (wpE (defs₀ (F := F)) 𝒱₀ (c : Thread nD τ) none) Set.univ (k (wrows X2 off inb)) Q) :
    iprop(R ∗ A) ⊢ wp frame (wpE (defs₀ (F := F)) 𝒱₀ (c : Thread nD τ) none) Set.univ
      (.op (.load arg2 (Rect.unit (s := S7680x1024) off S512x1024.size inb).toLoadRect hl) k) Q := by
  iintro ⟨HR, HA⟩
  unfold Lends at h
  ihave HR := h $$ HR
  icases HR with ⟨H2, Hb⟩
  iapply (Own.load (defs₀ (F := F)) 𝒱₀ (c : Thread nD τ) (m := arg2) (X := X2)) $$ H2
  iintro H2
  iapply hk
  isplitr [HA]
  · iapply Hb; iexact H2
  iexact HA
/-- of the result, -/
theorem load_u {R A : sProp 𝕄} {Q : α → sProp 𝕄} {arg15 : Memref sig .tc .vmem S512x3072 .bf16} {X1 : S512x1024.Idx → Elt F .bf16} {X2 : S7680x1024.Idx → Elt F .bf16}
    {n : ℕ} {off : Fin 2 → ℕ} {inb : ∀ a, off a + S512x512.size a ≤ S512x3072.size a} {hl}
    {k : (S512x512.Idx → Elt F .bf16) → Prog (TpuEff nD τ sig (Elt F) Λ₀ .tc) α}
    (hk : ∀ v, iprop(R ∗ (U c arg15 X1 X2 n ∗ A)) ⊢ wp frame (wpE (defs₀ (F := F)) 𝒱₀ (c : Thread nD τ) none) Set.univ (k v) Q) :
    iprop(R ∗ (U c arg15 X1 X2 n ∗ A)) ⊢ wp frame (wpE (defs₀ (F := F)) 𝒱₀ (c : Thread nD τ) none) Set.univ
      (.op (.load arg15 (Rect.unit (s := S512x3072) off S512x512.size inb).toLoadRect hl) k) Q := by
  iintro ⟨HR, HU, HA⟩
  unfold U
  icases HU with ⟨%X, %hX, H⟩
  iapply (Own.load (defs₀ (F := F)) 𝒱₀ (c : Thread nD τ) (m := arg15) (X := X)) $$ H
  iintro H
  iapply (hk _)
  isplitl [HR]; · iexact HR
  isplitr [HA]
  · unfold U
    iexists X
    isplitr; · ipureintro; exact hX
    iexact H
  iexact HA
/-- a write of its next block of columns, -/
theorem store_u {R A : sProp 𝕄} {Q : α → sProp 𝕄} {arg15 : Memref sig .tc .vmem S512x3072 .bf16} {X1 : S512x1024.Idx → Elt F .bf16} {X2 : S7680x1024.Idx → Elt F .bf16}
    {n : ℕ} {off : Fin 2 → ℕ} {inb : ∀ a, off a + S512x512.size a ≤ S512x3072.size a} {w : S512x512.Idx → Elt F .bf16} {hx hm}
    {k : PUnit → Prog (TpuEff nD τ sig (Elt F) Λ₀ .tc) α} (hn : n < 6) (hoff : off = ![0, 512 * n]) (hi : ∀ a, (![4608 + 512 * n, 0] : Fin 2 → ℕ) a + S512x1024.size a ≤ S7680x1024.size a)
    (hw : w = k0_pay9 (k0_pay2 X1) (wrows X2 ![4608 + 512 * n, 0] hi))
    (hk : iprop(R ∗ (U c arg15 X1 X2 (n + 1) ∗ A)) ⊢ wp frame (wpE (defs₀ (F := F)) 𝒱₀ (c : Thread nD τ) none) Set.univ (k ⟨⟩) Q) :
    iprop(R ∗ (U c arg15 X1 X2 n ∗ A)) ⊢ wp frame (wpE (defs₀ (F := F)) 𝒱₀ (c : Thread nD τ) none) Set.univ
      (.op (.store arg15 (Rect.unit (s := S512x3072) off S512x512.size inb) w Finset.univ hx hm) k) Q := by
  subst hoff
  iintro ⟨HR, HU, HA⟩
  unfold U owns
  icases HU with ⟨%X, %hX, %f, %hf, H⟩
  have hS : (arg15.access (Rect.unit (s := S512x3072) ![0, 512 * n] S512x512.size inb)).setOn Finset.univ ⊆ arg15.view.set := by
    intro i hi
    obtain ⟨x, -, rfl⟩ := Finset.mem_map.mp hi
    exact arg15.view.emb_mem_set _
  iapply (wp_store 𝒱₀ (c : Thread nD τ) none Set.univ (m := arg15) (r := Rect.unit (s := S512x3072) ![0, 512 * n] S512x512.size inb) (w := w) (Mk := Finset.univ) (hx := hx) (hm := hm) (f := f) hS) $$ H
  iintro H
  iapply hk
  isplitl [HR]; · iexact HR
  isplitr [HA]
  · unfold U owns
    iexists arg15.view.read (Elt F) ((arg15.access (Rect.unit (s := S512x3072) ![0, 512 * n] S512x512.size inb)).write (Elt F) f w Finset.univ)
    isplitr
    · ipureintro
      intro i hlt
      by_cases hin : 512 * n ≤ (i 1).val
      · have h1 := congrFun ((arg15.access (Rect.unit (s := S512x3072) ![0, 512 * n] S512x512.size inb)).read_write_univ (Val := Elt F) f w) (ix (i 0) ⟨(i 1).val - 512 * n, by omega⟩)
        have hidx : (Rect.unit (s := S512x3072) ![0, 512 * n] S512x512.size inb).emb (ix (i 0) ⟨(i 1).val - 512 * n, by omega⟩) = i := by
          funext a
          match a with
          | 0 => exact Fin.ext (by show 0 + 1 * (i 0).val = (i 0).val; omega)
          | 1 => exact Fin.ext (by show 512 * n + 1 * ((i 1).val - 512 * n) = (i 1).val; omega)
        have h2 : arg15.view.read (Elt F) ((arg15.access (Rect.unit (s := S512x3072) ![0, 512 * n] S512x512.size inb)).write (Elt F) f w Finset.univ) ((Rect.unit (s := S512x3072) ![0, 512 * n] S512x512.size inb).emb (ix (i 0) ⟨(i 1).val - 512 * n, by omega⟩)) = w (ix (i 0) ⟨(i 1).val - 512 * n, by omega⟩) := h1
        rw [hidx] at h2
        rw [h2, hw]
        exact (uvgAt_eq i n hi (by omega) (by omega)).symm
      · have h2 := View.read_slice_write_of_not_mem (v := arg15.view) (Val := Elt F) (Rect.unit (s := S512x3072) ![0, 512 * n] S512x512.size inb) f w Finset.univ (y := i) (by
          intro hm
          obtain ⟨x, -, hx⟩ := Finset.mem_map.mp hm
          have := congrArg (fun z : S512x3072.Idx => (z 1).val) hx
          have h3 : 512 * n + 1 * (x 1).val = (i 1).val := this
          omega)
        have h4 : arg15.view.read (Elt F) ((arg15.access (Rect.unit (s := S512x3072) ![0, 512 * n] S512x512.size inb)).write (Elt F) f w Finset.univ) i = arg15.view.read (Elt F) f i := h2
        rw [h4, hf]
        exact hX i (by omega)
    iexists _
    isplitr; · ipureintro; rfl
    iexact H
  iexact HA
/-- and steps that leave what `R` says. -/
theorem load_r {R A : sProp 𝕄} {Q : α → sProp 𝕄} {s : Shape} {e : EltTy} {b : Memref sig .tc .vmem s e} {r : LoadRect s} {hl} {k : (r.shape.Idx → Elt F e) → Prog (TpuEff nD τ sig (Elt F) Λ₀ .tc) α}
    (h : Own.Reads (c : Thread nD τ) R b) (hk : ∀ v, iprop(R ∗ A) ⊢ wp frame (wpE (defs₀ (F := F)) 𝒱₀ (c : Thread nD τ) none) Set.univ (k v) Q) :
    iprop(R ∗ A) ⊢ wp frame (wpE (defs₀ (F := F)) 𝒱₀ (c : Thread nD τ) none) Set.univ (.op (.load b r hl) k) Q :=
  Own.Runs.step (defs₀ (F := F)) 𝒱₀ (c : Thread nD τ) (Own.Runs.load _ _ _ h) hk
theorem store_r {R A : sProp 𝕄} {Q : α → sProp 𝕄} {s : Shape} {e : EltTy} {b : Memref sig .tc .vmem s e} {r : Rect s} {w : r.shape.Idx → Elt F e} {Mk : Finset r.shape.Idx} {hx hm}
    {k : PUnit → Prog (TpuEff nD τ sig (Elt F) Λ₀ .tc) α}
    (h : Own.Writes (c : Thread nD τ) R b) (hk : iprop(R ∗ A) ⊢ wp frame (wpE (defs₀ (F := F)) 𝒱₀ (c : Thread nD τ) none) Set.univ (k ⟨⟩) Q) :
    iprop(R ∗ A) ⊢ wp frame (wpE (defs₀ (F := F)) 𝒱₀ (c : Thread nD τ) none) Set.univ (.op (.store b r w Mk hx hm) k) Q :=
  Own.Runs.step (defs₀ (F := F)) 𝒱₀ (c : Thread nD τ) (Own.Runs.store _ _ _ h) fun _ => hk

variable (t : Fin cfg0.N)
  (arg1 : Memref sig .tc .vmem S512x1024 .bf16) (harg1 : arg1.IsWhole)
  (arg2 : Memref sig .tc .vmem S7680x1024 .bf16) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S512x128 .f32) (harg5 : arg5.IsWhole)
  (arg12 : Memref sig .tc .vmem S1x512x1536 .bf16) (harg12 : arg12.IsWhole)
  (arg13 : Memref sig .tc .vmem S4x128x1536 .bf16) (harg13 : arg13.IsWhole)
  (arg14 : Memref sig .tc .vmem S16x32x1536 .bf16) (harg14 : arg14.IsWhole)
  (arg15 : Memref sig .tc .vmem S512x3072 .bf16) (harg15 : arg15.IsWhole)
  (X1 : S512x1024.Idx → Elt F .bf16) (X2 : S7680x1024.Idx → Elt F .bf16) (X3 X4 X5 : S512x128.Idx → Elt F .f32)

/-- What the body holds but for the last result and the gather. -/
def held : sProp 𝕄 := iprop(ins c arg1 arg2 arg3 arg4 arg5 X1 X2 X3 X4 X5 ∗ Own.any (c : Thread nD τ) arg12 ∗ Own.any (c : Thread nD τ) arg13 ∗ Own.any (c : Thread nD τ) arg14
  ∗ Own.any (c : Thread nD τ) (Memref.whole cc0_scratch0) ∗ Own.any (c : Thread nD τ) (Memref.whole cc0_scratch1) ∗ Own.any (c : Thread nD τ) (Memref.whole cc0_scratch2))

theorem held_lends : Lends c (held c arg1 arg2 arg3 arg4 arg5 arg12 arg13 arg14 X1 X2 X3 X4 X5) arg2 X2 := by
  unfold Lends held ins
  iintro ⟨⟨H1, H2, HI⟩, HR⟩
  isplitl [H2]; · iexact H2
  iintro H2
  isplitr [HR]
  · isplitl [H1]; · iexact H1
    isplitl [H2] <;> iassumption
  iexact HR

set_option maxHeartbeats 4000000 in
/-- The parts of the body after the gather's steps. -/
theorem rest_part {R : sProp 𝕄} (l2 : Lends c R arg2 X2) (w12 : Own.Writes (c : Thread nD τ) R arg12) (w13 : Own.Writes (c : Thread nD τ) R arg13) (w14 : Own.Writes (c : Thread nD τ) R arg14)
    (w22 : Own.Writes (c : Thread nD τ) R (Memref.whole cc0_scratch0)) (w23 : Own.Writes (c : Thread nD τ) R (Memref.whole cc0_scratch1)) (w24 : Own.Writes (c : Thread nD τ) R (Memref.whole cc0_scratch2))
    (hR : R = held c arg1 arg2 arg3 arg4 arg5 arg12 arg13 arg14 X1 X2 X3 X4 X5) :
    iprop(R ∗ U c arg15 X1 X2 0 ∗ talk m κ c t.val)
      ⊢ wp frame (wpE (defs₀ (F := F)) 𝒱₀ (c : Thread nD τ) none) Set.univ (k0_part129 (grid0.coords t) arg1 harg1 arg2 harg2 arg3 harg3 arg4 harg4 arg5 harg5 (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) arg12 harg12 arg13 harg13 arg14 harg14 arg15 harg15 (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5)
          fun r => iprop(⌜r.2.1 = c⌝ ∗ R ∗ U c arg15 X1 X2 6 ∗ talk m κ c (t.val + 1)) := by
  have q12 := Own.Writes.reads _ w12
  have q13 := Own.Writes.reads _ w13
  have q14 := Own.Writes.reads _ w14
  have q22 := Own.Writes.reads _ w22
  have q23 := Own.Writes.reads _ w23
  have q24 := Own.Writes.reads _ w24
  have q2 : Own.Reads (c : Thread nD τ) R arg2 := by
    unfold Own.Reads; unfold Lends at l2
    iintro H
    iexists X2
    iapply l2; iexact H
  simp only [k0_part129_eq_skeleton]; unfold k0_part129_skel
  have hfirst : iprop(R ∗ U c arg15 X1 X2 0 ∗ talk m κ c t.val) ⊢ wp frame (wpE (defs₀ (F := F)) 𝒱₀ (c : Thread nD τ) none) Set.univ (k0_part69 (grid0.coords t) arg1 harg1 arg2 harg2 arg3 harg3 arg4 harg4 arg5 harg5 (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) arg12 harg12 arg13 harg13 arg14 harg14 arg15 harg15 (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5)
      fun r => iprop(⌜r.2.1 = c ∧ r.2.2.2.2.2.2.2.2.2.2.1 = k0_pay2 X1 ∧ r.2.2.2.2.2.2.2.2.2.2.2.2.2.2.1 = k0_pay6 (wrows X2 ![4608, 0] inb_S7680x1024_S512x1024_4608_0)
              ∧ r.2.2.2.2.2.2.2.2.2.2.2.2.2.2.2 = constant S512x512 .f32 0x00000000#32⌝
            ∗ R ∗ U c arg15 X1 X2 0 ∗ talk m κ c (t.val + 1)) := by
    subst hR
    unfold held
    iintro ⟨⟨HI, HR⟩, HU, HT⟩
    ihave H := first_part m κ c t arg1 harg1 arg2 harg2 arg3 harg3 arg4 harg4 arg5 harg5 arg12 harg12 arg13 harg13 arg14 harg14 arg15 harg15 X1 X2 X3 X4 X5 $$ [HI HT]
    · isplitl [HI] <;> iassumption
    iapply wp_wand $$ H
    iintro %r ⟨%hr, HI, HT⟩
    isplitr; · ipureintro; exact hr
    isplitr [HU HT]
    · isplitl [HI] <;> iassumption
    isplitl [HU] <;> iassumption
  refine seq c hfirst ?_
  rintro ⟨a0, d0, _, _, _, _, _, _, _, _, v21, v23, v25, v27, v29, cst⟩
  iintro ⟨%hr, H⟩
  obtain ⟨h1, h2, h3, h4⟩ := hr
  simp only at h1 h2 h3 h4
  obtain rfl := h1.symm
  subst h2 h3 h4
  istop
  dsimp only
  simp only [k0_part70_eq_skeleton, k0_part75_eq_skeleton, k0_part90_eq_skeleton, k0_part91_eq_skeleton, k0_part95_eq_skeleton]
  unfold k0_part70_skel k0_part75_skel k0_part90_skel k0_part91_skel k0_part95_skel
  simp only [Prog.lift, Prog.bind_op, Prog.bind_ret, Prog.pure_eq_ret]
  repeat first
    | with_reducible refine load_w c l2 ?_
    | with_reducible refine load_u c fun _ => ?_
    | with_reducible refine store_u c (by decide) rfl (by decide) rfl ?_
    | with_reducible refine load_r c (by assumption) fun _ => ?_
    | with_reducible refine store_r c (by assumption) ?_
  iterate 4
    refine Own.Runs.step (defs₀ (F := F)) 𝒱₀ (c : Thread nD τ) ?_ fun _ => ?_
    swap
  repeat first
    | with_reducible refine load_w c l2 ?_
    | with_reducible refine load_u c fun _ => ?_
    | with_reducible refine store_u c (by decide) rfl (by decide) rfl ?_
    | with_reducible refine load_r c (by assumption) fun _ => ?_
    | with_reducible refine store_r c (by assumption) ?_
  iterate 4
    refine Own.Runs.step (defs₀ (F := F)) 𝒱₀ (c : Thread nD τ) ?_ fun _ => ?_
    swap
  refine Own.Runs.step (defs₀ (F := F)) 𝒱₀ (c : Thread nD τ) ?_ fun ⟨_, _⟩ => ?_
  swap
  iterate 9
    refine Own.Runs.step (defs₀ (F := F)) 𝒱₀ (c : Thread nD τ) ?_ fun _ => ?_
    swap
  repeat first
    | with_reducible refine load_w c l2 ?_
    | with_reducible refine load_u c fun _ => ?_
    | with_reducible refine store_u c (by decide) rfl (by decide) rfl ?_
    | with_reducible refine load_r c (by assumption) fun _ => ?_
    | with_reducible refine store_r c (by assumption) ?_
  repeat first
    | with_reducible refine load_w c l2 ?_
    | with_reducible refine load_u c fun _ => ?_
    | with_reducible refine store_u c (by decide) rfl (by decide) rfl ?_
    | with_reducible refine load_r c (by assumption) fun _ => ?_
    | with_reducible refine store_r c (by assumption) ?_
  iterate 3
    refine Own.Runs.step (defs₀ (F := F)) 𝒱₀ (c : Thread nD τ) ?_ fun _ => ?_
    swap
  repeat first
    | with_reducible refine load_w c l2 ?_
    | with_reducible refine load_u c fun _ => ?_
    | with_reducible refine store_u c (by decide) rfl (by decide) rfl ?_
    | with_reducible refine load_r c (by assumption) fun _ => ?_
    | with_reducible refine store_r c (by assumption) ?_
  iterate 3
    refine Own.Runs.step (defs₀ (F := F)) 𝒱₀ (c : Thread nD τ) ?_ fun _ => ?_
    swap
  refine Own.Runs.step (defs₀ (F := F)) 𝒱₀ (c : Thread nD τ) ?_ fun ⟨_, _⟩ => ?_
  swap
  iterate 12
    refine Own.Runs.step (defs₀ (F := F)) 𝒱₀ (c : Thread nD τ) ?_ fun _ => ?_
    swap
  refine Own.Runs.step (defs₀ (F := F)) 𝒱₀ (c : Thread nD τ) ?_ fun ⟨_, _⟩ => ?_
  swap
  refine Own.Runs.step (defs₀ (F := F)) 𝒱₀ (c : Thread nD τ) ?_ fun _ => ?_
  swap
  refine Own.Runs.step (defs₀ (F := F)) 𝒱₀ (c : Thread nD τ) ?_ fun ⟨_, _⟩ => ?_
  swap
  iterate 5
    refine Own.Runs.step (defs₀ (F := F)) 𝒱₀ (c : Thread nD τ) ?_ fun _ => ?_
    swap
  refine Own.Runs.step (defs₀ (F := F)) 𝒱₀ (c : Thread nD τ) ?_ fun ⟨_, _⟩ => ?_
  swap
  iterate 8
    refine Own.Runs.step (defs₀ (F := F)) 𝒱₀ (c : Thread nD τ) ?_ fun _ => ?_
    swap
  · rw [wp_ret]
    iintro H
    imodintro
    isplitr; · ipureintro; rfl
    iexact H
  all_goals
    simp only [k0_part71_eq_skeleton, k0_part72_eq_skeleton, k0_part73_eq_skeleton, k0_part74_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part92_eq_skeleton, k0_part93_eq_skeleton, k0_part94_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    first
      | unfold k0_part71_skel
      | unfold k0_part72_skel
      | unfold k0_part73_skel
      | unfold k0_part74_skel
      | unfold k0_part76_skel
      | unfold k0_part77_skel
      | unfold k0_part78_skel
      | unfold k0_part79_skel
      | unfold k0_part80_skel
      | unfold k0_part81_skel
      | unfold k0_part82_skel
      | unfold k0_part83_skel
      | unfold k0_part84_skel
      | unfold k0_part85_skel
      | unfold k0_part86_skel
      | unfold k0_part87_skel
      | unfold k0_part88_skel
      | unfold k0_part89_skel
      | unfold k0_part92_skel
      | unfold k0_part93_skel
      | unfold k0_part94_skel
      | unfold k0_part96_skel
      | unfold k0_part97_skel
      | unfold k0_part98_skel
      | unfold k0_part99_skel
      | unfold k0_part100_skel
      | unfold k0_part101_skel
      | unfold k0_part102_skel
      | unfold k0_part103_skel
      | unfold k0_part104_skel
      | unfold k0_part105_skel
      | unfold k0_part106_skel
      | unfold k0_part107_skel
      | unfold k0_part108_skel
      | unfold k0_part109_skel
      | unfold k0_part110_skel
      | unfold k0_part111_skel
      | unfold k0_part112_skel
      | unfold k0_part113_skel
      | unfold k0_part114_skel
      | unfold k0_part115_skel
      | unfold k0_part116_skel
      | unfold k0_part117_skel
      | unfold k0_part118_skel
      | unfold k0_part119_skel
      | unfold k0_part120_skel
      | unfold k0_part121_skel
      | unfold k0_part122_skel
      | unfold k0_part123_skel
      | unfold k0_part124_skel
      | unfold k0_part125_skel
      | unfold k0_part126_skel
      | unfold k0_part127_skel
      | unfold k0_part128_skel
    repeat' first
      | with_reducible assumption
      | with_reducible exact Own.Runs.pure _ _ _ _
      | with_reducible refine Own.Runs.load _ _ _ ?_
      | with_reducible refine Own.Runs.store _ _ _ ?_
      | with_reducible refine Own.Runs.bind _ _ _ ?_ fun _ => ?_

end Body

end Cert.Proof.InProj
-- ==== Proof.InProjBodyEnd.lean ====
/-
  The whole of the projection's body (`InProj`), to the waits at the last grid point.
-/
module

public import proofs.«01_k».proof.Proof.InProjBody

@[expose] public section

noncomputable section

namespace Cert.Proof.InProj

open Cert.InProjIdeal Cert.InProjIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg BodyObligation)

set_option Elab.async false

variable {F : FTy → Type} [FloatOps F]

local notation "𝕄" => MT nD τ sig Unit (Elt F) ℕ (Wire.UU nD τ sig) ℕ

section Body

variable (m : (ℓ : Loc nD τ sig) → Buf (Elt F) ℓ) (κ : Dev nD × K → ℕ) (c : Dev nD)

variable (t : Fin cfg0.N)
  (arg1 : Memref sig .tc .vmem S512x1024 .bf16) (harg1 : arg1.IsWhole)
  (arg2 : Memref sig .tc .vmem S7680x1024 .bf16) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S512x128 .f32) (harg5 : arg5.IsWhole)
  (arg12 : Memref sig .tc .vmem S1x512x1536 .bf16) (harg12 : arg12.IsWhole)
  (arg13 : Memref sig .tc .vmem S4x128x1536 .bf16) (harg13 : arg13.IsWhole)
  (arg14 : Memref sig .tc .vmem S16x32x1536 .bf16) (harg14 : arg14.IsWhole)
  (arg15 : Memref sig .tc .vmem S512x3072 .bf16) (harg15 : arg15.IsWhole)
  (X1 : S512x1024.Idx → Elt F .bf16) (X2 : S7680x1024.Idx → Elt F .bf16) (X3 X4 X5 : S512x128.Idx → Elt F .f32)

theorem assoc (A B C : sProp 𝕄) : iprop(A ∗ B ∗ C) ⊢ iprop((A ∗ B) ∗ C) := by
  iintro ⟨HA, HB, HC⟩
  isplitr [HC]
  · isplitl [HA] <;> iassumption
  iexact HC

/-- What a device has of the gather after a grid point. -/
def talkOut : sProp 𝕄 := if t.val = 15 then St m κ c 48 90 else talk m κ c (t.val + 1)

set_option maxRecDepth 20000 in
set_option maxHeartbeats 4000000 in
theorem sound_body :
    iprop(held c arg1 arg2 arg3 arg4 arg5 arg12 arg13 arg14 X1 X2 X3 X4 X5 ∗ U c arg15 X1 X2 0 ∗ talk m κ c t.val)
      ⊢ wp frame (wpE (defs₀ (F := F)) 𝒱₀ (c : Thread nD τ) none) Set.univ (cc0_in_proj (grid0.coords t) arg1 harg1 arg2 harg2 arg3 harg3 arg4 harg4 arg5 harg5 (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) arg12 harg12 arg13 harg13 arg14 harg14 arg15 harg15 (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) (Memref.whole main_v1_9) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5)
          fun _ => iprop((held c arg1 arg2 arg3 arg4 arg5 arg12 arg13 arg14 X1 X2 X3 X4 X5 ∗ U c arg15 X1 X2 6) ∗ talkOut m κ c t) := by
  simp only [cc0_in_proj_eq_skeleton]; unfold cc0_in_proj_skel
  have l2 := held_lends c arg1 arg2 arg3 arg4 arg5 arg12 arg13 arg14 X1 X2 X3 X4 X5
  have w12 : Own.Writes (c : Thread nD τ) (held c arg1 arg2 arg3 arg4 arg5 arg12 arg13 arg14 X1 X2 X3 X4 X5) arg12 := Own.Writes.right _ (Own.Writes.left _ (Own.writes_any _))
  have w13 : Own.Writes (c : Thread nD τ) (held c arg1 arg2 arg3 arg4 arg5 arg12 arg13 arg14 X1 X2 X3 X4 X5) arg13 := Own.Writes.right _ (Own.Writes.right _ (Own.Writes.left _ (Own.writes_any _)))
  have w14 : Own.Writes (c : Thread nD τ) (held c arg1 arg2 arg3 arg4 arg5 arg12 arg13 arg14 X1 X2 X3 X4 X5) arg14 := Own.Writes.right _ (Own.Writes.right _ (Own.Writes.right _ (Own.Writes.left _ (Own.writes_any _))))
  have w22 : Own.Writes (c : Thread nD τ) (held c arg1 arg2 arg3 arg4 arg5 arg12 arg13 arg14 X1 X2 X3 X4 X5) (Memref.whole cc0_scratch0) :=
    Own.Writes.right _ (Own.Writes.right _ (Own.Writes.right _ (Own.Writes.right _ (Own.Writes.left _ (Own.writes_any _)))))
  have w23 : Own.Writes (c : Thread nD τ) (held c arg1 arg2 arg3 arg4 arg5 arg12 arg13 arg14 X1 X2 X3 X4 X5) (Memref.whole cc0_scratch1) :=
    Own.Writes.right _ (Own.Writes.right _ (Own.Writes.right _ (Own.Writes.right _ (Own.Writes.right _ (Own.Writes.left _ (Own.writes_any _))))))
  have w24 : Own.Writes (c : Thread nD τ) (held c arg1 arg2 arg3 arg4 arg5 arg12 arg13 arg14 X1 X2 X3 X4 X5) (Memref.whole cc0_scratch2) :=
    Own.Writes.right _ (Own.Writes.right _ (Own.Writes.right _ (Own.Writes.right _ (Own.Writes.right _ (Own.Writes.right _ (Own.writes_any _))))))
  have q14 := Own.Writes.reads _ w14
  refine seq c (rest_part m κ c t arg1 harg1 arg2 harg2 arg3 harg3 arg4 harg4 arg5 harg5 arg12 harg12 arg13 harg13 arg14 harg14 arg15 harg15 X1 X2 X3 X4 X5 l2 w12 w13 w14 w22 w23 w24 rfl) ?_
  rintro ⟨a0, d0, _, _, _, _, _, _, _, _, v⟩
  iintro ⟨%h1, H⟩
  simp only at h1
  obtain rfl := h1.symm
  istop
  dsimp only
  simp only [Prog.lift, Prog.bind_op, Prog.bind_ret, Prog.pure_eq_ret]
  refine load_r c q14 fun _ => store_r c w14 ?_
  unfold talkOut
  by_cases h : k0_cond3 (grid0.coords t) = 1#1
  · have h15 := (cond3_iff t).mp h
    rw [dif_pos h, if_pos h15, h15]
    refine (assoc _ _ _).trans ?_
    simp only [k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel
    simp only [Prog.lift, Prog.bind_op, Prog.bind_ret, Prog.pure_eq_ret]
    show iprop(_ ∗ St m κ c 48 18) ⊢ _
    iterate 72 refine step c (drain_at (F := F) m κ c _ (by decide) (by decide) rfl rfl) fun _ => ?_
    exact done (F := F) c _
  · rw [dif_neg h, if_neg fun h15 => h ((cond3_iff t).mpr h15)]
    refine (assoc _ _ _).trans ?_
    exact done (F := F) c _

end Body

end Cert.Proof.InProj
-- ==== Proof.InProjEnds.lean ====
/-
  The ends of the gather beside the projection (`InProj`): the arrays as the launch hands them out, cut by device and dealt to
  the devices that write, and the arrays whole again once everything was waited for.
-/
module

public import proofs.«01_k».proof.Proof.InProjGather
public import proofs.«01_k».proof.Proof.Gen.InProjIdeal.Launch
public import Idealize.ShloMosaic.Lib.SparseCore.Launch

@[expose] public section

noncomputable section

namespace Cert.Proof.InProj

open Cert.InProjIdeal Cert.InProjIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false
variable {F : FTy → Type} [FloatOps F]

local notation "𝕄" => MT nD τ sig Unit (Elt F) ℕ (Wire.UU nD τ sig) ℕ

/-! ## An array, cut and whole -/

theorem arr_sets : ∀ a : Fin 6, (arr a).src.view.set = Finset.univ ∧ (arr a).dst.view.set = Finset.univ := fun
  | 0 => ⟨View.set_whole _, View.set_whole _⟩
  | 1 => ⟨View.set_whole _, View.set_whole _⟩
  | 2 => ⟨View.set_whole _, View.set_whole _⟩
  | 3 => ⟨View.set_whole _, View.set_whole _⟩
  | 4 => ⟨View.set_whole _, View.set_whole _⟩
  | 5 => ⟨View.set_whole _, View.set_whole _⟩

section Cut

variable (A : Arr)

theorem Arr.mem_place (d : Dev nD) (y : (⟨2, ![A.N, A.k]⟩ : Shape).Idx) : A.dst.view.emb y ∈ (A.place d).view.set ↔ (y 0).val / A.n = d.val := by
  have hs : (A.place d).view.set = (Rect.unit (s := ⟨2, ![A.N, A.k]⟩) ![d.val * A.n, 0] ![A.n, A.k] (A.inb d)).set.map A.dst.view.emb := View.set_slice _ _
  rw [hs, Finset.mem_map' A.dst.view.emb, Rect.mem_set_unit]
  constructor
  · intro h
    have h1 : d.val * A.n ≤ (y 0).val := (h (0 : Fin 2)).1
    have h2 : (y 0).val < d.val * A.n + A.n := (h (0 : Fin 2)).2
    exact Nat.div_eq_of_lt_le h1 (by rw [Nat.succ_mul]; exact h2)
  · intro h
    have h1 : d.val * A.n ≤ (y 0).val := by rw [← h]; exact Nat.div_mul_le_self _ _
    have h2 : (y 0).val < d.val * A.n + A.n := by rw [← h]; exact Nat.lt_div_mul_add A.pos
    have H : ∀ a : Fin 2, (![d.val * A.n, 0] : Fin 2 → ℕ) a ≤ (y a).val ∧ (y a).val < (![d.val * A.n, 0] : Fin 2 → ℕ) a + (![A.n, A.k] : Fin 2 → ℕ) a := fun
      | 0 => ⟨h1, h2⟩
      | 1 => ⟨Nat.zero_le _, by show (y 1).val < 0 + A.k; have : (y 1).val < A.k := (y 1).isLt; omega⟩
    exact H

/-- The gathered array whole, and cut by the device whose rows they are. -/
theorem Arr.cut (h : A.dst.view.set = Finset.univ) (c : Dev nD) (g : Buf (Elt F) (A.dst.view.loc (c : Thread nD τ))) :
    (A.dst.view.loc (c : Thread nD τ) ↦{fullShare} g : sProp 𝕄) = bigSep Finset.univ fun k : Fin 8 => (A.dst.view.loc (c : Thread nD τ) ↦[(A.place (nbF k c)).view.set]{fullShare} g) := by
  have hy (x : A.dst.view.ty.Idx) : ∃ y, A.dst.view.emb y = x := by
    have hx : x ∈ A.dst.view.set := by rw [h]; exact Finset.mem_univ _
    obtain ⟨y, -, e⟩ := Finset.mem_map.mp hx
    exact ⟨y, e⟩
  let T : Fin 8 → Finset A.dst.view.ty.Idx := fun k => (A.place (nbF k c)).view.set
  have hu : (Finset.univ : Finset (Fin 8)).biUnion T = Finset.univ := Finset.eq_univ_iff_forall.mpr fun x => by
    obtain ⟨y, rfl⟩ := hy x
    obtain ⟨k, hk⟩ := nb_all c ⟨(y 0).val / A.n, Nat.div_lt_of_lt_mul (lt_of_lt_of_eq (show (y 0).val < A.N from (y 0).isLt) (A.all.trans (Nat.mul_comm 8 A.n)))⟩
    exact Finset.mem_biUnion.mpr ⟨k, Finset.mem_univ _, show A.dst.view.emb y ∈ T k from (A.mem_place (nbF k c) y).mpr (by rw [hk])⟩
  have hA := pointsTo_biUnion (nD := nD) (τ := τ) (sig := sig) (Val := Elt F) (Ix := Unit) (Name := ℕ) (U := Wire.UU nD τ sig) (Lvl := ℕ)
    (ℓ := A.dst.view.loc (c : Thread nD τ)) (q := fullShare) (f := g) (Finset.univ : Finset (Fin 8)) T
    (fun k _ l _ hkl => Finset.disjoint_left.mpr fun x h1 h2 => by
      obtain ⟨y, rfl⟩ := hy x
      exact hkl (nb_inj c k l (Fin.ext (((A.mem_place _ _).mp h1).symm.trans ((A.mem_place _ _).mp h2)))))
  rw [hu] at hA
  exact hA

variable (m : (ℓ : Loc nD τ sig) → Buf (Elt F) ℓ)

/-- The device's own rows whole, and in the five shares. -/
theorem Arr.shares (h : A.src.view.set = Finset.univ) (c : Dev nD) :
    (A.src.view.loc (c : Thread nD τ) ↦{fullShare} m (A.src.view.loc (c : Thread nD τ)) : sProp 𝕄)
      ⊣⊢ iprop(A.lent m q0 c ∗ A.lent m q1 c ∗ A.lent m q2 c ∗ A.lent m q3 c ∗ A.lent m q4 c) := by
  unfold Arr.lent
  rw [h]
  have h (q : PosShare TreeShare) := pointsTo_share (nD := nD) (τ := τ) (sig := sig) (Val := Elt F) (Ix := Unit) (Name := ℕ) (U := Wire.UU nD τ sig) (Lvl := ℕ)
    (ℓ := A.src.view.loc (c : Thread nD τ)) (I := Finset.univ) (f := m (A.src.view.loc (c : Thread nD τ))) (PosShare.mem_left_op_right q)
  exact (h _).trans (sep_congr .rfl ((h _).trans (sep_congr .rfl ((h _).trans (sep_congr .rfl (h _))))))

/-- An array as the launch hands it to a device, -/
def Arr.own (c : Dev nD) : sProp 𝕄 :=
  iprop((A.src.view.loc (c : Thread nD τ) ↦{fullShare} m (A.src.view.loc (c : Thread nD τ))) ∗ (A.dst.view.loc (c : Thread nD τ) ↦{fullShare} m (A.dst.view.loc (c : Thread nD τ))))
/-- cut, -/
def Arr.parts (c : Dev nD) : sProp 𝕄 :=
  iprop((A.lent m q0 c ∗ A.lent m q1 c ∗ A.lent m q2 c ∗ A.lent m q3 c ∗ A.lent m q4 c)
    ∗ A.bare m (nbF 0 c) c ∗ A.bare m (nbF 1 c) c ∗ A.bare m (nbF 2 c) c ∗ A.bare m (nbF 3 c) c
    ∗ A.bare m (nbF 4 c) c ∗ A.bare m (nbF 5 c) c ∗ A.bare m (nbF 6 c) c ∗ A.bare m (nbF 7 c) c)
/-- as the devices start from it, -/
def Arr.dealt (c : Dev nD) : sProp 𝕄 :=
  iprop((A.lent m q0 c ∗ A.lent m q1 c ∗ A.lent m q2 c ∗ A.lent m q3 c ∗ A.lent m q4 c)
    ∗ A.bare m c c ∗ A.bare m c (nbF 1 c) ∗ A.bare m c (nbF 2 c) ∗ A.bare m c (nbF 3 c)
    ∗ A.bare m c (nbF 4 c) ∗ A.bare m (nbF 2 c) (nbF 1 c) ∗ A.bare m (nbF 3 c) (nbF 1 c) ∗ A.bare m (nbF 4 c) (nbF 1 c))
/-- and at the end. -/
def Arr.kept (c : Dev nD) : sProp 𝕄 :=
  iprop((A.src.view.loc (c : Thread nD τ) ↦{fullShare} m (A.src.view.loc (c : Thread nD τ))) ∗ (A.dst.view.loc (c : Thread nD τ) ↦{fullShare} A.full m c))

theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem Arr.own_parts (hs : A.src.view.set = Finset.univ) (hd : A.dst.view.set = Finset.univ) (c : Dev nD) : A.own m c ⊢ (A.parts m c : sProp 𝕄) := by
  unfold Arr.own Arr.parts
  refine BI.sep_mono (A.shares m hs c).1 ?_
  rw [A.cut hd c, bigSep_8]
  exact BI.Entails.refl _

theorem nb_0 : ∀ c : Dev nD, nbF 0 c = c := by decide
theorem nb_5 : ∀ c : Dev nD, nbF 5 (nbF 1 c) = nbF 2 c := by decide
theorem nb_6 : ∀ c : Dev nD, nbF 6 (nbF 1 c) = nbF 3 c := by decide
theorem nb_7 : ∀ c : Dev nD, nbF 7 (nbF 1 c) = nbF 4 c := by decide

theorem Arr.deal : bigSep Finset.univ (A.parts m) ⊢ bigSep Finset.univ (A.dealt m : Dev nD → sProp 𝕄) := by
  have hm (e k : Fin 8) (d : Dev nD → Dev nD) (h : ∀ c, nbF k (nbF e c) = d c) :
      bigSep Finset.univ (fun c : Dev nD => A.bare m (nbF k c) c) ⊢ bigSep Finset.univ (fun c : Dev nD => (A.bare m (d c) (nbF e c) : sProp 𝕄)) := by
    rw [bigSep_univ_equiv (nb e) (fun c : Dev nD => (A.bare m (nbF k c) c : sProp 𝕄))]
    exact bigSep_mono fun c _ => Entails.of_eq (congrArg (fun x => (A.bare m x (nbF e c) : sProp 𝕄)) (h c))
  have h0 : bigSep Finset.univ (fun c : Dev nD => A.bare m (nbF 0 c) c) ⊢ bigSep Finset.univ (fun c : Dev nD => (A.bare m c c : sProp 𝕄)) :=
    bigSep_mono fun c _ => Entails.of_eq (congrArg (fun x => (A.bare m x c : sProp 𝕄)) (nb_0 c))
  unfold Arr.parts Arr.dealt
  simp only [bigSep_sep']
  exact BI.sep_mono (BI.Entails.refl _) (BI.sep_mono h0 (BI.sep_mono (hm 1 1 _ (nb_nb 1)) (BI.sep_mono (hm 2 2 _ (nb_nb 2)) (BI.sep_mono (hm 3 3 _ (nb_nb 3))
    (BI.sep_mono (hm 4 4 _ (nb_nb 4)) (BI.sep_mono (hm 1 5 _ nb_5) (BI.sep_mono (hm 1 6 _ nb_6) (hm 1 7 _ nb_7))))))))

theorem Arr.need (c : Dev nD) : A.dealt m c ⊢ bigSep Finset.univ (needA m A c : Fin 15 → sProp 𝕄) := by
  rw [bigSep_15]
  unfold Arr.dealt
  show _ ⊢ iprop(A.lent m q0 c ∗ A.lent m q1 c ∗ A.lent m q2 c ∗ A.lent m q3 c ∗ emp ∗ emp ∗ emp ∗ A.bare m c (nbF 1 c) ∗ A.bare m c (nbF 2 c) ∗ A.bare m c (nbF 3 c)
    ∗ A.bare m c (nbF 4 c) ∗ A.bare m (nbF 2 c) (nbF 1 c) ∗ A.bare m (nbF 3 c) (nbF 1 c) ∗ A.bare m (nbF 4 c) (nbF 1 c) ∗ A.bare m c c ∗ A.lent m q4 c)
  iintro ⟨⟨L0, L1, L2, L3, L4⟩, B0, B1, B2, B3, B4, B5, B6, B7⟩
  isplitl [L0]; · iexact L0
  isplitl [L1]; · iexact L1
  isplitl [L2]; · iexact L2
  isplitl [L3]; · iexact L3
  isplitl []; · iempintro
  isplitl []; · iempintro
  isplitl []; · iempintro
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B0] <;> iassumption

/-- The kinds whose pay is kept until the end. -/
abbrev late : Finset (Fin 15) := {0, 1, 2, 3, 4, 5, 6, 7, 11, 12, 13, 14}
theorem R_end : R 90 = (Finset.univ : Finset (Fin 6)) ×ˢ late := by
  ext x
  rw [mem_R, Finset.mem_product]
  revert x; decide +kernel

theorem Arr.end_ (hs : A.src.view.set = Finset.univ) (hd : A.dst.view.set = Finset.univ) (c : Dev nD) : bigSep late (payA m A c) ⊢ (A.kept m c : sProp 𝕄) := by
  rw [bigSep_eq_bigSepL_of_eq [0, 1, 2, 3, 4, 5, 6, 7, 11, 12, 13, 14] (by decide) (by decide)]
  show iprop(A.lent m q0 c ∗ A.lent m q1 c ∗ A.lent m q2 c ∗ A.lent m q3 c ∗ A.there m (nbF 2 c) c ∗ A.there m (nbF 3 c) c ∗ A.there m (nbF 4 c) c
    ∗ A.there m (nbF 1 c) c ∗ A.there m (nbF 5 c) c ∗ A.there m (nbF 6 c) c ∗ A.there m (nbF 7 c) c ∗ A.there m c c ∗ A.lent m q4 c) ⊢ _
  unfold Arr.kept Arr.there
  iintro ⟨L0, L1, L2, L3, B2, B3, B4, B1, B5, B6, B7, B0, L4⟩
  isplitl [L0 L1 L2 L3 L4]
  · iapply (A.shares m hs c).2
    isplitl [L0]; · iexact L0
    isplitl [L1]; · iexact L1
    isplitl [L2]; · iexact L2
    isplitl [L3] <;> iassumption
  rw [A.cut hd c, bigSep_8, nb_0]
  isplitl [B0]; · iexact B0
  isplitl [B1]; · iexact B1
  isplitl [B2]; · iexact B2
  isplitl [B3]; · iexact B3
  isplitl [B4]; · iexact B4
  isplitl [B5]; · iexact B5
  isplitl [B6] <;> iassumption

end Cut

/-! ## All six -/

section Six

variable (m : (ℓ : Loc nD τ sig) → Buf (Elt F) ℓ)

/-- What a device has of the gather besides what it owes. -/
def stay (κ : Dev nD × K → ℕ) (c : Dev nD) (i j : ℕ) : sProp 𝕄 :=
  iprop(Wire.hold plan (pay m) κ c (P i) (W j) ∗ bigSep (P i) (need m c) ∗ bigSep (R j) (pay m c))
theorem St_stay (κ : Dev nD × K → ℕ) (c : Dev nD) (i j : ℕ) : St m κ c i j ⊣⊢ (iprop(stay m κ c i j ∗ Wire.debt plan c (P i)) : sProp 𝕄) := by
  unfold St stay
  constructor
  · iintro ⟨⟨H1, H2⟩, H3, H4⟩
    isplitr [H2]
    · isplitl [H1]; · iexact H1
      isplitl [H3] <;> iassumption
    iexact H2
  · iintro ⟨⟨H1, H3, H4⟩, H2⟩
    isplitl [H1 H2]
    · isplitl [H1] <;> iassumption
    isplitl [H3] <;> iassumption

def start (c : Dev nD) : sProp 𝕄 := iprop(∃ κ, stay m κ c 0 0)
def kept (c : Dev nD) : sProp 𝕄 := bigSep Finset.univ fun a : Fin 6 => (arr a).kept m c

/-- Everything waited for. -/
theorem St_end (κ : Dev nD × K → ℕ) (c : Dev nD) :
    St m κ c 48 90 ⊢ (iprop(kept m c ∗ Pipeline.ownSems0 plan.sem c ∗ Wire.debt plan c ∅) : sProp 𝕄) := by
  have hk : bigSep (R 90) (pay m c) ⊢ (kept m c : sProp 𝕄) := by
    rw [R_end, Idealize.ShloMosaic.SparseCore.bigSep_product]
    exact bigSep_mono fun a _ => (arr a).end_ m (arr_sets a).1 (arr_sets a).2 c
  unfold St
  rw [P_end, W_end]
  iintro ⟨⟨Hh, Hd⟩, -, HR⟩
  isplitl [HR]; · iapply hk; iexact HR
  isplitl [Hh]; · iapply (Wire.hold_done plan (pay m) κ c); iexact Hh
  iexact Hd

/-- An array as it was at first. -/
def at_ (c : Dev nD) (b : Ref sig .tc) : sProp 𝕄 := (((c : Thread nD τ).loc b) ↦{fullShare} m ((c : Thread nD τ).loc b))

/-- The arrays, each block of a result to the device that writes it. -/
theorem hand (κ : Dev nD × K → ℕ) :
    iprop((bigSep Finset.univ fun c : Dev nD => Wire.hold plan (pay m) κ c Finset.univ Finset.univ)
        ∗ bigSep Finset.univ fun c : Dev nD => Pipeline.unscopedRest (cfgs 0).spec c (fun b => m ((c.tc : Thread nD τ).loc b)))
      ⊢ bigSep Finset.univ fun c : Dev nD => (iprop(start m c ∗ emp) : sProp 𝕄) := by
  have hr (c : Dev nD) : (Pipeline.unscopedRest (cfgs 0).spec c (fun b => m ((c.tc : Thread nD τ).loc b)) : sProp 𝕄) ⊢ bigSep Finset.univ fun a : Fin 6 => (arr a).parts m c := by
    have h : (Pipeline.unscopedRest (cfgs 0).spec c (fun b => m ((c.tc : Thread nD τ).loc b)) : sProp 𝕄) ⊢ bigSep Finset.univ fun a : Fin 6 => (arr a).own m c := by
      refine (Entails.of_eq (unscopedRest0_eq (Ix := Unit) (Val := Elt F) (Name := ℕ) (U := Wire.UU nD τ sig) (Lvl := ℕ) c (fun b => m ((c.tc : Thread nD τ).loc b)))).trans ?_
      rw [bigSep_6]
      show iprop(at_ m c main_arg5 ∗ at_ m c main_arg6 ∗ at_ m c main_arg7 ∗ at_ m c main_arg8 ∗ at_ m c main_arg9 ∗ at_ m c main_arg10
          ∗ at_ m c main_v1_4 ∗ at_ m c main_v1_5 ∗ at_ m c main_v1_6 ∗ at_ m c main_v1_7 ∗ at_ m c main_v1_8 ∗ at_ m c main_v1_9)
        ⊢ iprop((at_ m c main_arg5 ∗ at_ m c main_v1_4) ∗ (at_ m c main_arg6 ∗ at_ m c main_v1_5) ∗ (at_ m c main_arg7 ∗ at_ m c main_v1_6)
          ∗ (at_ m c main_arg8 ∗ at_ m c main_v1_7) ∗ (at_ m c main_arg9 ∗ at_ m c main_v1_8) ∗ (at_ m c main_arg10 ∗ at_ m c main_v1_9))
      iintro ⟨S0, S1, S2, S3, S4, S5, D0, D1, D2, D3, D4, D5⟩
      isplitl [S0 D0]; · isplitl [S0] <;> iassumption
      isplitl [S1 D1]; · isplitl [S1] <;> iassumption
      isplitl [S2 D2]; · isplitl [S2] <;> iassumption
      isplitl [S3 D3]; · isplitl [S3] <;> iassumption
      isplitl [S4 D4]; · isplitl [S4] <;> iassumption
      isplitl [S5] <;> iassumption
    exact h.trans (bigSep_mono fun a _ => (arr a).own_parts m (arr_sets a).1 (arr_sets a).2 c)
  have swap (Φ : Dev nD → Fin 6 → sProp 𝕄) : (bigSep Finset.univ fun c => bigSep Finset.univ fun a => Φ c a) = bigSep Finset.univ fun a => bigSep Finset.univ fun c => Φ c a := by
    rw [← bigSep_univ_prod (fun x : Dev nD × Fin 6 => Φ x.1 x.2), bigSep_univ_equiv (Equiv.prodComm (Fin 6) (Dev nD)) (fun x : Dev nD × Fin 6 => Φ x.1 x.2), bigSep_univ_prod]
    rfl
  have hn (c : Dev nD) : (bigSep Finset.univ fun a : Fin 6 => (arr a).dealt m c) ⊢ (bigSep Finset.univ (need m c) : sProp 𝕄) := by
    rw [bigSep_univ_prod (need m c)]
    exact bigSep_mono fun a _ => (arr a).need m c
  have hd : (bigSep Finset.univ fun c : Dev nD => Pipeline.unscopedRest (cfgs 0).spec c (fun b => m ((c.tc : Thread nD τ).loc b)))
      ⊢ bigSep Finset.univ fun c : Dev nD => (bigSep Finset.univ (need m c) : sProp 𝕄) := by
    refine (bigSep_mono fun c _ => hr c).trans (BI.Entails.trans ?_ (bigSep_mono fun c _ => hn c))
    rw [swap fun c a => (arr a).parts m c, swap fun c a => (arr a).dealt m c]
    exact bigSep_mono fun a _ => (arr a).deal m
  have hs (c : Dev nD) : iprop(Wire.hold plan (pay m) κ c Finset.univ Finset.univ ∗ bigSep Finset.univ (need m c)) ⊢ (iprop(start m c ∗ emp) : sProp 𝕄) := by
    unfold start stay
    iintro ⟨H, HN⟩
    isplitl
    · iexists κ
      rw [P_zero, W_zero, R_zero, bigSep_empty]
      isplitl [H]; · iexact H
      isplitl; · iexact HN
      iempintro
    iempintro
  refine (BIClass.sep_mono (BI.Entails.refl _) hd).trans ?_
  rw [← bigSep_sep']
  exact bigSep_mono fun c _ => hs c

end Six

end Cert.Proof.InProj
-- ==== Proof.InProj.lean ====
/-
  The run of the projection with its gather (`InProj`): the last result is the products the body leaves, each device's
  weights are gathered on every device, what was read is as it was.
-/
module

public import proofs.«01_k».proof.Proof.InProjBodyEnd
public import proofs.«01_k».proof.Proof.InProjEnds
public import proofs.«01_k».proof.Proof.Deal

@[expose] public section

noncomputable section

namespace Cert.Proof.InProj

open Cert.InProjIdeal Cert.InProjIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg BodyObligation)

set_option Elab.async false

variable {F : FTy → Type} [FloatOps F]

local notation "𝕄" => MT nD τ sig Unit (Elt F) ℕ (Wire.UU nD τ sig) ℕ

variable (m : (ℓ : Loc nD τ sig) → Buf (Elt F) ℓ) (ρ : Dev nD → PrngReg)

/-! ## The proof data -/

/-- The block of the last result that a point leaves. -/
def uvgHere (c : Dev nD) (t : Fin cfg0.N) : S512x3072.Idx → Elt F .bf16 := uvgAt (iblk m c 0 t) (iblk m c 1 t)

/-- The windows of which nothing is said. -/
def loosely (w : Fin cfg0.W) : Bool := w.val == 5 || w.val == 6 || w.val == 7

def scratch (c : Dev nD) : sProp 𝕄 := iprop(Own.any (c : Thread nD τ) (Memref.whole cc0_scratch0) ∗ Own.any (c : Thread nD τ) (Memref.whole cc0_scratch1) ∗ Own.any (c : Thread nD τ) (Memref.whole cc0_scratch2))

def Phi (c : Dev nD) (n : ℕ) : sProp 𝕄 :=
  if n = 0 then iprop(start m c ∗ scratch c) else if n = 16 then iprop((kept m c ∗ Pipeline.ownSems0 plan.sem c) ∗ scratch c)
  else if n ≤ 12 then iprop((∃ κ, stay m κ c 30 0) ∗ scratch c) else iprop((∃ κ, stay m κ c 48 18) ∗ scratch c)
def owed (c : Dev nD) (n : ℕ) : CellTallies nD τ sig Unit := Wire.owe plan c (if n = 0 then Finset.univ else if n ≤ 12 then P 30 else ∅)

def dats (_ : Fin 1) (c : Dev nD) : Dat τ (Elt F) Unit ℕ (Wire.UU nD τ sig) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => uvgHere m c t
    | ⟨n + 9, h⟩ => absurd h (by show ¬ n + 9 < 9; omega)
  Φ t := Phi m c t.val
  q w := Pipeline.shareOf spec0 w
  owed t := owed c t.val

/-- A point finds in an input's stage the block it leaves there. -/
theorem find (c : Dev nD) (t : Fin cfg0.N) (w : Fin cfg0.W) (hw : w.val < 5) (d) : (dats m 0 c).before w t d = (dats m 0 c).after w t := by
  rcases w with ⟨w, h⟩
  have hc : w = 0 ∨ w = 1 ∨ w = 2 ∨ w = 3 ∨ w = 4 := by
    have : w < 5 := hw
    omega
  rcases hc with rfl | rfl | rfl | rfl | rfl <;>
    exact ((dats m 0 c).before_in_eq_fetched _ rfl (fun _ => rfl) (fun _ _ _ => rfl) (fun _ => rfl) t d).trans rfl

theorem talk_in (c : Dev nD) (t : Fin cfg0.N) : iprop((dats m 0 c).Φ t.castSucc ∗ (dats m 0 c).owesAt () t.castSucc) ⊢ (iprop((∃ κ, talk m κ c t.val) ∗ scratch c) : sProp 𝕄) := by
  unfold Dat.owesAt Pipeline.owesWithin
  show iprop(Phi m c t.val ∗ ∃ Ws, ⌜_⌝ ∗ owes (c : Thread nD τ) (owed c t.val) Ws) ⊢ _
  unfold Phi owed talk start
  have ht := lt16 t
  have hS (i j : ℕ) (Q : Finset K) (hQ : P i = Q) : iprop(((∃ κ, stay m κ c i j) ∗ scratch c) ∗ ∃ Ws : Waits sig Unit, ⌜↑Ws ⊆ (dats m 0 c).bound () t.castSucc⌝ ∗ owes (c : Thread nD τ) (Wire.owe plan c Q) Ws)
      ⊢ (iprop((∃ κ, St m κ c i j) ∗ scratch c) : sProp 𝕄) := by
    subst hQ
    iintro ⟨⟨⟨%κ, H⟩, HS⟩, ⟨%Ws, -, HO⟩⟩
    isplitr [HS]
    · iexists κ
      iapply (St_stay m κ c i j).2
      isplitl [H]; · iexact H
      unfold Wire.debt
      iexists Ws; iexact HO
    iexact HS
  by_cases h : t.val = 0
  · simp only [if_pos h]
    exact hS 0 0 _ P_zero
  simp only [if_neg h, if_neg (show ¬ t.val = 16 by omega)]
  by_cases h2 : t.val ≤ 12
  · simp only [if_pos h2]
    exact hS 30 0 _ rfl
  · simp only [if_neg h2]
    exact hS 48 18 _ P_end

theorem talk_out (κ : Dev nD × K → ℕ) (c : Dev nD) (t : Fin cfg0.N) : (iprop(talkOut m κ c t ∗ scratch c) : sProp 𝕄) ⊢ iprop((dats m 0 c).Φ t.succ ∗ (dats m 0 c).owesAt () t.succ) := by
  unfold Dat.owesAt Pipeline.owesWithin talkOut
  show _ ⊢ iprop(Phi m c (t.val + 1) ∗ ∃ Ws, ⌜_⌝ ∗ owes (c : Thread nD τ) (owed c (t.val + 1)) Ws)
  unfold Phi owed talk
  have ht := lt16 t
  have hn : ¬ t.val + 1 = 0 := Nat.succ_ne_zero _
  have hO (Q : Finset K) : Wire.debt plan c Q ⊢ (iprop(∃ Ws : Waits sig Unit, ⌜↑Ws ⊆ (dats m 0 c).bound () t.succ⌝ ∗ owes (c : Thread nD τ) (Wire.owe plan c Q) Ws) : sProp 𝕄) := by
    unfold Wire.debt
    iintro ⟨%Ws, HO⟩
    iexists Ws
    isplitr; · ipureintro; exact fun _ _ => Or.inl trivial
    iexact HO
  have hS (i j : ℕ) (Q : Finset K) (hQ : P i = Q) : iprop(St m κ c i j ∗ scratch c)
      ⊢ (iprop(((∃ κ, stay m κ c i j) ∗ scratch c) ∗ Wire.debt plan c Q) : sProp 𝕄) := by
    subst hQ
    iintro ⟨H, HS⟩
    ihave H := (St_stay m κ c i j).1 $$ H
    icases H with ⟨H, HO⟩
    isplitl [H HS]
    · isplitl [H]
      · iexists κ; iexact H
      iexact HS
    iexact HO
  by_cases h : t.val = 15
  · have h16 : t.val + 1 = 16 := by omega
    have h12 : ¬ t.val + 1 ≤ 12 := by omega
    simp only [if_pos h, if_neg hn, if_pos h16, if_neg h12]
    iintro ⟨H, HS⟩
    ihave H := (St_end m κ c) $$ H
    icases H with ⟨HK, Hs, HO⟩
    isplitl [HK Hs HS]
    · isplitr [HS]
      · isplitl [HK] <;> iassumption
      iexact HS
    iapply (hO ∅); iexact HO
  have h16 : ¬ t.val + 1 = 16 := by omega
  by_cases h2 : t.val + 1 ≤ 12
  · simp only [if_neg h, if_neg hn, if_neg h16, if_pos h2]
    exact (hS 30 0 _ rfl).trans (BI.sep_mono (BI.Entails.refl _) (hO _))
  · simp only [if_neg h, if_neg hn, if_neg h16, if_neg h2]
    exact (hS 48 18 _ P_end).trans (BI.sep_mono (BI.Entails.refl _) (hO _))

/-- All of the last result's columns are done. -/
theorem U_done (c : Dev nD) (t : Fin cfg0.N) (arg15 : Memref sig .tc .vmem S512x3072 .bf16) : U c arg15 (iblk m c 0 t) (iblk m c 1 t) 6 ⊢ (owns (c : Thread nD τ) arg15 fullShare (uvgHere m c t) : sProp 𝕄) := by
  unfold U
  iintro ⟨%X, %h, H⟩
  obtain rfl : X = uvgHere m c t := funext fun i => h i (i 1).isLt
  iexact H
theorem U_none (c : Dev nD) (t : Fin cfg0.N) (arg15 : Memref sig .tc .vmem S512x3072 .bf16) (X) : (owns (c : Thread nD τ) arg15 fullShare X : sProp 𝕄) ⊢ U c arg15 (iblk m c 0 t) (iblk m c 1 t) 0 := by
  unfold U
  iintro H
  iexists X
  isplitr; · ipureintro; exact fun _ h => absurd h (Nat.not_lt_zero _)
  iexact H

set_option maxHeartbeats 1000000 in
theorem body_obligation (c : Dev nD) : BodyObligation (dats m 0 c) (defs₀ (F := F)) 𝒱₀ () Set.univ loosely := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ Own.any (c : Thread nD τ) (st0_5 t) ∗ Own.any (c : Thread nD τ) (st0_6 t) ∗ Own.any (c : Thread nD τ) (st0_7 t) ∗ (∃ d, owns (c : Thread nD τ) (st0_8 t) fullShare ((dats m 0 c).before 8 t d)))
    ⊢ wp frame (wpE (defs₀ (F := F)) 𝒱₀ (c : Thread nD τ) none) Set.univ (bodyAt0 t) fun _ => iprop((dats m 0 c).Φ t.succ ∗ (dats m 0 c).owesAt () t.succ
      ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ Own.any (c : Thread nD τ) (st0_5 t) ∗ Own.any (c : Thread nD τ) (st0_6 t) ∗ Own.any (c : Thread nD τ) (st0_7 t) ∗ owns (c : Thread nD τ) (st0_8 t) fullShare (uvgHere m c t))
  iintro ⟨HΦ, HO, ⟨%X0, H0⟩, ⟨%X1, H1⟩, ⟨%X2, H2⟩, ⟨%X3, H3⟩, ⟨%X4, H4⟩, H5, H6, H7, ⟨%X8, H8⟩⟩
  ihave HT := (talk_in m c t) $$ [HΦ HO]
  · isplitl [HΦ] <;> iassumption
  icases HT with ⟨⟨%κ, HT⟩, HS⟩
  have hrun := sound_body m κ c t (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (iblk m c 0 t) (iblk m c 1 t) (iblk m c 2 t) (iblk m c 3 t) (iblk m c 4 t)
  rw [find m c t 0 (by decide), find m c t 1 (by decide), find m c t 2 (by decide), find m c t 3 (by decide), find m c t 4 (by decide)]
  unfold held ins at hrun
  unfold scratch
  icases HS with ⟨S0, S1, S2⟩
  ihave H8 := (U_none m c t (st0_8 t) _) $$ H8
  ihave H := hrun $$ [HT S0 S1 S2 H0 H1 H2 H3 H4 H5 H6 H7 H8]
  · isplitl [S0 S1 S2 H0 H1 H2 H3 H4 H5 H6 H7]
    · isplitl [H0 H1 H2 H3 H4]
      · isplitl [H0]; · iexact H0
        isplitl [H1]; · iexact H1
        isplitl [H2]; · iexact H2
        isplitl [H3]; · iexact H3
        iexact H4
      isplitl [H5]; · iexact H5
      isplitl [H6]; · iexact H6
      isplitl [H7]; · iexact H7
      isplitl [S0]; · iexact S0
      isplitl [S1] <;> iassumption
    isplitl [H8] <;> iassumption
  iapply wp_wand $$ H
  iintro %_ ⟨⟨⟨⟨H0, H1, H2, H3, H4⟩, H5, H6, H7, S0, S1, S2⟩, H8⟩, HT⟩
  ihave HT := (talk_out m κ c t) $$ [HT S0 S1 S2]
  · isplitl [HT]; · iexact HT
    unfold scratch
    isplitl [S0]; · iexact S0
    isplitl [S1] <;> iassumption
  icases HT with ⟨HΦ, HO⟩
  ihave H8 := (U_done m c t (st0_8 t)) $$ H8
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The run -/

theorem kinds_sems : ∀ (w : Fin cfg0.W) (s : Fin (cfg0.win w).nbuf) (k : K), plan.sem k ≠ .dma ((cfg0.win w).sem s) := by decide +kernel
theorem lev_pos : ∀ j : K, 0 < plan.lev j := by decide +kernel

theorem scratch_eq (c : Dev nD) : (Pipeline.scopedRest (cfgs 0).spec c : sProp 𝕄) = scratch c := by
  unfold scratch
  rw [Own.any_whole, Own.any_whole, Own.any_whole]
  exact scopedRest0_eq c

/-- What the gather leaves of a device's arrays. -/
def Gathered (c : Dev nD) (s : MemSt nD τ sig (Elt F)) : Prop :=
  ∀ a : Fin 6, s.mem ((arr a).src.view.loc (c : Thread nD τ)) = m ((arr a).src.view.loc (c : Thread nD τ)) ∧ s.mem ((arr a).dst.view.loc (c : Thread nD τ)) = (arr a).full m c

theorem read_kept (c : Dev nD) (s : Phys nD τ sig (Elt F)) : iprop(kept m c ∗ SI s) ⊢ (⌜Gathered m c s.mem⌝ : sProp 𝕄) := by
  unfold Gathered
  refine Entails.trans (forall_intro fun a => ?_) (BI.Laws.pure_forall.2)
  have h2 : kept m c ⊢ ((arr a).kept m c : sProp 𝕄) := bigSep_elim (Finset.mem_univ a)
  refine (sep_mono_left h2).trans ?_
  unfold Arr.kept
  iintro ⟨⟨Ha, Hb⟩, HSI⟩
  ihave %h0 := (Wire.read_buf s _ _) $$ [Ha HSI]
  · isplitl [Ha] <;> iassumption
  ihave %h1 := (Wire.read_buf s _ _) $$ [Hb HSI]
  · isplitl [Hb] <;> iassumption
  ipureintro
  exact ⟨h0, h1⟩

/-- Every run ends: the windows' arrays as the points leave them, the weights gathered, all counters at zero. -/
theorem run_main : θ_run defs (onTc (τ := τ) (main (F := F))) ⟨m, fun _ => 0, ρ⟩
    (fun r => (∀ c : Dev nD, (∀ w, loosely w = false → r.2.mem (((cfgs 0).spec w).arr.view.loc (c.tc : Thread nD τ)) = (dats m 0 c).arrAt w (cfgs 0).N) ∧ Gathered m c r.2)
      ∧ r.2.sem = fun _ => 0) :=
  Deal.θ_run_dealt_rel cfgs () cellOf_inj (0 : Fin 1) Wire.EP defs₀ 𝒱₀ (fun p c => (dats m p c).toRForget loosely) winFacts0.to₀ (Pipeline.SharedIn.of_injective winFacts0.arr_inj) ownSems m ρ main
    (hmain := fun _ => rfl)
    (hbody := fun c => (body_obligation m c).loose.toRForget)
    (hne := block_pos0) (harr := arr_whole0) (hstage := stage_whole0) (hq := fun _ _ _ => rfl)
    (O₀ := fun c => Wire.owe plan c Finset.univ) (howed₀ := fun _ => rfl) (howedN := fun c => Wire.owe_empty plan c)
    (L := Wire.L) (lv := Wire.lv plan) (hL := Wire.L_of_ne)
    (hwaits := fun c => Pipeline.PerCore.RDat.cellsWaits_intro _ (fun p c => (dats m p c).toRForget loosely) () 0 c fun w s t =>
      Wire.mayWait_other plan c (.dma ((cfg0.win w).sem s)) _ (kinds_sems w s) (fun j _ _ => lev_pos j))
    (G := fun c => Wire.G plan (pay m) c cfgs 0 ownSems) (u₀ := (_, Wire.seed plan cfgs 0 ownSems))
    (hu₀ := Wire.fund plan (pay m) cfgs 0 ownSems _)
    (hA := fun _ w => rfl)
    (X := start m) (Y := kept m) (Z := fun _ => iprop(emp))
    (hdeal := by
      iintro H
      imod (Wire.deal_brings plan (pay m) cfgs 0 ownSems m ρ) $$ H with ⟨%κ, H⟩
      imodintro
      iapply (hand m κ); iexact H)
    (hin := fun c => by
      rw [scratch_eq]
      exact BI.Entails.refl _)
    (hout := fun c => by
      rw [scratch_eq]
      show iprop((kept m c ∗ Pipeline.ownSems0 plan.sem c) ∗ scratch c) ⊢ _
      iintro ⟨⟨H, Hs⟩, Hx⟩
      isplitl [H]; · iexact H
      isplitl [Hs] <;> iassumption)
    (QY := Gathered m)
    (hY := fun s => Wire.read_all (φ := Gathered m) s fun c => by
      iintro ⟨⟨H, -⟩, HSI⟩
      iapply (read_kept m c s)
      isplitl [H] <;> iassumption)
    (hQ := fun _ h hs => ⟨fun c => ⟨fun w hw => ((dats m 0 c).toRForget_arrAt_iff hw _ _).mp ((h c).1 w), (h c).2⟩, sem_eq_zero_of_scoped (by decide) hs⟩)

end Cert.Proof.InProj
-- ==== Proof.InProjValue.lean ====
/-
  The values of the projection with its gather, over extended reals: each device's products are its block of the
  reference's, and each gathered weight is the whole one.
-/
module

public import proofs.«01_k».proof.Proof.InProj
public import proofs.«01_k».proof.Proof.Gen.InProjRefIdeal.Run
public import Idealize.ShloMosaic.Lib.Pointwise
public import Idealize.ShloMosaic.Lib.Pipeline.ValueKit

@[expose] public section

noncomputable section

namespace Cert.Proof.InProj

open Idealize.ShloMosaic Idealize.ShloMosaic.TcCoe
open Idealize.ShloMosaic.Pipeline (Dat Cfg Window)

set_option Elab.async false

/-! ## The reference at an index -/

/-- A row times a row of the weight. -/
def across (x w : Fin 1024 → EReal) : EReal := ∑ k, x k * w k

section reference
open Cert.InProjRefIdeal Cert.InProjRefIdeal.Gen

variable (A0 : FVec Ideal S65536x1024 .bf16) (A1 : FVec Ideal S7680x1024 .bf16)

/-- What the reference has of the projection's last columns. -/
def refUvg : FVec Ideal S65536x3072 .bf16 :=
  truncf .bf16 (Host.dotGeneral dot_S65536x1024_S1024x3072_S65536x3072_1_0_0_1_n_n none (extf .f32 A0 bitsLt_bf16_f32) (transpose S1024x3072 [1, 0] (extf .f32 (extractStridedSlice S3072x1024 ![4608, 0] A1 slices_S7680x1024_S3072x1024_4608_0) bitsLt_bf16_f32) transposes_S3072x1024_S1024x3072_1_0)) bitsLt_bf16_f32

theorem slice_apply (l : Fin 3072) (k : Fin 1024) : extractStridedSlice S3072x1024 ![4608, 0] A1 slices_S7680x1024_S3072x1024_4608_0 (ix2 l k)
    = A1 (ix2 (⟨4608 + l.val, by omega⟩ : Fin 7680) k) :=
  extractStridedSlice_apply _ A1 _ _ _ fun
    | ⟨0, _⟩ => Eq.refl (4608 + l.val)
    | ⟨1, _⟩ => (Nat.zero_add k.val).symm

theorem product_apply (B : FVec Ideal S3072x1024 .bf16) (r : Fin 65536) (l : Fin 3072) :
    (truncf .bf16 (Host.dotGeneral dot_S65536x1024_S1024x3072_S65536x3072_1_0_0_1_n_n none (extf .f32 A0 bitsLt_bf16_f32) (transpose S1024x3072 [1, 0] (extf .f32 B bitsLt_bf16_f32) transposes_S3072x1024_S1024x3072_1_0)) bitsLt_bf16_f32 : FVec Ideal S65536x3072 .bf16) (ix2 r l)
      = across (fun k => A0 (ix2 r k)) (fun k => B (ix2 l k)) := by
  pointwise [across]

theorem refUvg_apply (r : Fin 65536) (l : Fin 3072) : refUvg A0 A1 (ix2 r l)
    = across (fun k => A0 (ix2 r k)) (fun k => A1 (ix2 (⟨4608 + l.val, by omega⟩ : Fin 7680) k)) :=
  (product_apply A0 _ r l).trans (congrArg (across _) (funext fun k => slice_apply A1 l k))
end reference

open Cert.InProjIdeal Cert.InProjIdeal.Gen

/-! ## The windows' blocks -/

section
variable {F : FTy → Type} [FloatOps F] (m : (ℓ : Loc nD τ sig) → Buf (Elt F) ℓ) (c : Dev nD) (t : Fin cfg0.N)

/-- Row `r` of a point's tile, among the device's rows. -/
abbrev row (r : Fin 512) : Fin 8192 := ⟨t.val * 512 + r.val, by have := lt16 t; omega⟩

theorem at0 : ∀ t : Fin cfg0.N, win0_0.index t 0 = t.val ∧ win0_0.index t 1 = 0 := by decide
theorem at1 : ∀ t : Fin cfg0.N, win0_1.index t 0 = 0 ∧ win0_1.index t 1 = 0 := by decide
theorem at8 : ∀ t : Fin cfg0.N, win0_8.index t 0 = t.val ∧ win0_8.index t 1 = 0 := by decide

theorem iblk0 (r : Fin 512) (k : Fin 1024) : iblk m c 0 t (ix2 r k) = m ((c : Thread nD τ).loc main_arg0) (ix2 (row t r) k) := by
  refine congrArg (m ((c : Thread nD τ).loc main_arg0)) (funext fun a => Fin.ext ?_)
  refine (Window.rect_emb_val win0_0 t (ix2 r k) a).trans ?_
  match a with
  | ⟨0, _⟩ => show win0_0.index t 0 * 512 + r.val = _; rw [(at0 t).1]; rfl
  | ⟨1, _⟩ => show win0_0.index t 1 * 1024 + k.val = _; rw [(at0 t).2, Nat.zero_mul, Nat.zero_add]; rfl
theorem iblk1 (r : Fin 7680) (k : Fin 1024) : iblk m c 1 t (ix2 r k) = m ((c : Thread nD τ).loc main_arg1) (ix2 r k) := by
  refine congrArg (m ((c : Thread nD τ).loc main_arg1)) (funext fun a => Fin.ext ?_)
  refine (Window.rect_emb_val win0_1 t (ix2 r k) a).trans ?_
  match a with
  | ⟨0, _⟩ => show win0_1.index t 0 * 7680 + r.val = _; rw [(at1 t).1, Nat.zero_mul, Nat.zero_add]; rfl
  | ⟨1, _⟩ => show win0_1.index t 1 * 1024 + k.val = _; rw [(at1 t).2, Nat.zero_mul, Nat.zero_add]; rfl

/-- Where a point leaves its rows of the last result, -/
theorem emb8 (r : Fin 512) (k : Fin 3072) : ((cfg0.win 8).blk t).view.emb (ix2 r k) = (ix2 (row t r) k : S8192x3072.Idx) := by
  refine funext fun a => Fin.ext ?_
  refine (Window.rect_emb_val win0_8 t (ix2 r k) a).trans ?_
  match a with
  | ⟨0, _⟩ => show win0_8.index t 0 * 512 + r.val = _; rw [(at8 t).1]; rfl
  | ⟨1, _⟩ => show win0_8.index t 1 * 3072 + k.val = _; rw [(at8 t).2, Nat.zero_mul, Nat.zero_add]; rfl
/-- and the array the points' rows make. -/
theorem array8 (G : S8192x3072.Idx → Elt F .bf16) (h : ∀ t r k, uvgHere m c t (ix2 r k) = G (ix2 (row t r) k)) : (dats m 0 c).arrAt 8 (cfgs 0).N = G :=
  (dats m 0 c).arrAt_eq_of_covers 8 G (by decide +kernel) fun t _ (y : S512x3072.Idx) => by
    obtain ⟨r, k, rfl⟩ : ∃ (r : Fin 512) (k : Fin 3072), y = ix2 r k := ⟨y 0, y 1, eq_ix2 y⟩
    exact (h t r k).trans (congrArg G (emb8 t r k).symm)
end

/-! ## The products as a block of the reference's -/

theorem pay9_apply (x w : FVec Ideal S512x1024 .bf16) (r j : Fin 512) :
    k0_pay9 (F := Ideal) (k0_pay2 x) w (ix2 r j) = across (fun k => x (ix2 r k)) (fun k => w (ix2 j k)) := by
  pointwise [k0_pay9, k0_pay2, across]

theorem wrows_apply (X : S7680x1024.Idx → Elt Ideal .bf16) (off : ℕ) (inb : ∀ a, (![off, 0] : Fin 2 → ℕ) a + S512x1024.size a ≤ S7680x1024.size a)
    (j : Fin 512) (k : Fin 1024) (h : off + j.val < 7680) : wrows X ![off, 0] inb (ix2 j k) = X (ix2 (⟨off + j.val, h⟩ : Fin 7680) k) := by
  refine congrArg X (funext fun a => Fin.ext ?_)
  match a with
  | ⟨0, _⟩ => show off + 1 * j.val = off + j.val; omega
  | ⟨1, _⟩ => show 0 + 1 * k.val = k.val; omega

theorem uvgAt_apply (X1 : S512x1024.Idx → Elt Ideal .bf16) (X2 : S7680x1024.Idx → Elt Ideal .bf16) (r : Fin 512) (k : Fin 3072) :
    uvgAt (F := Ideal) X1 X2 (ix2 r k) = across (fun j => X1 (ix2 r j)) (fun j => X2 (ix2 (⟨4608 + k.val, by omega⟩ : Fin 7680) j)) := by
  have hix : ∀ r j : Fin 512, ix r j = ix2 r j := fun r j => funext fun a => match a with
    | 0 => rfl
    | 1 => rfl
  unfold uvgAt
  refine (congrArg (k0_pay9 (F := Ideal) _ _) (hix r ⟨k.val % 512, Nat.mod_lt _ (by decide)⟩)).trans ((pay9_apply _ _ _ _).trans ?_)
  refine congrArg (across _) (funext fun j => ?_)
  refine (wrows_apply X2 _ _ _ j (by show 4608 + 512 * (k.val / 512) + k.val % 512 < 7680; omega)).trans ?_
  exact congrArg (fun i : Fin 7680 => X2 (ix2 i j)) (Fin.ext (by show 4608 + 512 * (k.val / 512) + k.val % 512 = 4608 + k.val; omega))

section
open Cert.InProjRefIdeal (S65536x1024 S65536x3072)

variable (m : (ℓ : Loc nD τ sig) → Buf (Elt Ideal) ℓ) (A0 : FVec Ideal S65536x1024 .bf16) (A1 : FVec Ideal S7680x1024 .bf16) (c : Dev nD)
  {T0 : Layout.Tiles ⟨2, ![8192, 1024]⟩ ⟨2, ![65536, 1024]⟩ 0 8} {T : Layout.Tiles ⟨2, ![8192, 3072]⟩ ⟨2, ![65536, 3072]⟩ 0 8}
  (h0 : m ((c : Thread nD τ).loc main_arg0) = Layout.block ⟨2, ![8192, 1024]⟩ ⟨2, ![65536, 1024]⟩ 0 8 c A0 T0)
  (h1 : m ((c : Thread nD τ).loc main_arg1) = A1)

/-- Row `r` of device `c`, among the rows of all. -/
abbrev rowOf (c : Dev nD) (r : Fin 8192) : Fin 65536 := ⟨c.val * 8192 + r.val, by have : c.val < 8 := c.isLt; omega⟩

theorem block_row {n : ℕ} {α : Type} (A : (⟨2, ![65536, n]⟩ : Shape).Idx → α) (h : Layout.Tiles ⟨2, ![8192, n]⟩ ⟨2, ![65536, n]⟩ 0 8) (r : Fin 8192) (k : Fin n) :
    Layout.block ⟨2, ![8192, n]⟩ ⟨2, ![65536, n]⟩ 0 8 c A h (ix2 r k) = A (ix2 (rowOf c r) k) := by
  rw [Layout.block_apply]
  exact congrArg A (funext fun d => Fin.ext (by rw [Layout.Tiles.idx_val]; match d with | ⟨0, _⟩ => rfl | ⟨1, _⟩ => rfl))

include h0 h1 in
theorem uvg_block : (dats (F := Ideal) m 0 c).arrAt 8 (cfgs 0).N = Layout.block ⟨2, ![8192, 3072]⟩ ⟨2, ![65536, 3072]⟩ 0 8 c (refUvg A0 A1) T := by
  refine array8 m c _ fun t r k => ?_
  refine (uvgAt_apply _ _ r k).trans (Eq.trans ?_ (block_row c _ _ _ k).symm)
  refine Eq.trans ?_ (refUvg_apply A0 A1 _ k).symm
  refine congrArg₂ across (funext fun j => ?_) (funext fun j => ?_)
  · rw [iblk0, h0]; exact block_row c A0 _ _ j
  · rw [iblk1, h1]

end

/-! ## The gathered weights -/

section
variable {F : FTy → Type} [FloatOps F] (m : (ℓ : Loc nD τ sig) → Buf (Elt F) ℓ)

theorem Arr.stack_whole (A : Arr) (x : (⟨2, ![A.N, A.k]⟩ : Shape).Idx → Elt F .bf16) {T : Layout.Tiles ⟨2, ![A.n, A.k]⟩ ⟨2, ![A.N, A.k]⟩ 0 8}
    (h : ∀ c : Dev nD, A.rows m c = Layout.block ⟨2, ![A.n, A.k]⟩ ⟨2, ![A.N, A.k]⟩ 0 8 c x T) : A.stack m = x := by
  funext i
  unfold Arr.stack
  rw [h, Layout.block_apply]
  refine congrArg x (funext fun d => Fin.ext ?_)
  rw [Layout.Tiles.idx_val]
  match d with
  | ⟨0, _⟩ => show (i 0).val / A.n * A.n + (i 0).val % A.n = (i 0).val; rw [Nat.mul_comm]; exact Nat.div_add_mod _ _
  | ⟨1, _⟩ => rfl

/-- A gathered weight is the whole one. -/
theorem full_whole (a : Fin 6) (c : Dev nD) (x : (⟨2, ![(arr a).N, (arr a).k]⟩ : Shape).Idx → Elt F .bf16) {T : Layout.Tiles ⟨2, ![(arr a).n, (arr a).k]⟩ ⟨2, ![(arr a).N, (arr a).k]⟩ 0 8}
    (h : ∀ c : Dev nD, (arr a).rows m c = Layout.block ⟨2, ![(arr a).n, (arr a).k]⟩ ⟨2, ![(arr a).N, (arr a).k]⟩ 0 8 c x T) :
    (arr a).dst.view.read (Elt F) ((arr a).full m c) = x :=
  ((arr a).dst.view.read_write_univ (Val := Elt F) _ _).trans ((arr a).stack_whole m x h)
end

end Cert.Proof.InProj

end
-- ==== Proof.InProjClaims.lean ====
/-
  The claims about the projection with its gather, from the run and its values.
-/
module

public import proofs.«01_k».proof.Defs
public import proofs.«01_k».proof.Proof.InProjValue
public import proofs.«01_k».proof.Proof.Gen.InProj
public import Idealize.ShloMosaic.Adequacy
public import Idealize.ShloMosaic.Init

@[expose] public section

set_option maxHeartbeats 4000000

noncomputable section

namespace Cert.Proof.InProj

open Idealize.ShloMosaic Idealize.ShloMosaic.TcCoe Idealize.SL.Sem
open Idealize.ShloMosaic.Pipeline (Dat)

section
variable {F : FTy → Type} [FloatOps F]
open Cert.InProjIdeal Cert.InProjIdeal.Gen

/-- The run, array by array. -/
theorem run_arrays (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      (r.2.mem ((c.tc : Thread nD τ).loc main_v1_3) = (dats m 0 c).arrAt 8 (cfgs 0).N
        ∧ r.2.mem ((c.tc : Thread nD τ).loc main_v1_4) = (arr 0).full m c
        ∧ r.2.mem ((c.tc : Thread nD τ).loc main_v1_5) = (arr 1).full m c
        ∧ r.2.mem ((c.tc : Thread nD τ).loc main_v1_6) = (arr 2).full m c
        ∧ r.2.mem ((c.tc : Thread nD τ).loc main_v1_7) = (arr 3).full m c
        ∧ r.2.mem ((c.tc : Thread nD τ).loc main_v1_8) = (arr 4).full m c
        ∧ r.2.mem ((c.tc : Thread nD τ).loc main_v1_9) = (arr 5).full m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  (θ_run defs _ _).mono (fun _ h => ⟨fun c =>
    have hw := (h.1 c).1
    have hx := (h.1 c).2
    ⟨⟨hw 8 rfl, (hx 0).2, (hx 1).2, (hx 2).2, (hx 3).2, (hx 4).2, (hx 5).2⟩,
      (hw 0 rfl).trans ((dats m 0 c).arrAt_in 0 rfl _),
      (hw 1 rfl).trans ((dats m 0 c).arrAt_in 1 rfl _),
      (hw 2 rfl).trans ((dats m 0 c).arrAt_in 2 rfl _),
      (hw 3 rfl).trans ((dats m 0 c).arrAt_in 3 rfl _),
      (hw 4 rfl).trans ((dats m 0 c).arrAt_in 4 rfl _),
      (hx 0).1, (hx 1).1, (hx 2).1, (hx 3).1, (hx 4).1, (hx 5).1⟩, h.2⟩) (run_main m ρ)
end

/-- The two printed programs call the same body. -/
theorem bodies_eq : Cert.InProj.defs₀ (F := Bits) = Cert.InProjIdeal.defs₀ (F := Bits) := by
  unfold Cert.InProj.defs₀ Cert.InProjIdeal.defs₀
  congr 1
  funext l
  match l with
  | 0 => rfl
theorem defs_eq : Cert.InProj.defs (F := Bits) = Cert.InProjIdeal.defs (F := Bits) := congrArg (Pipeline.defs _) bodies_eq

theorem frame : Cert.quiescent_InProj := fun m ρ _ => by
  have h := (θ_run Cert.InProjIdeal.defs _ _).mono (fun _ h => (⟨fun c => (h.1 c).2, h.2⟩ : (∀ c, _) ∧ _)) (run_arrays (F := Bits) m ρ)
  rw [← defs_eq] at h
  exact h

theorem frame_ideal : Cert.quiescent_InProjIdeal := fun m ρ _ =>
  (θ_run Cert.InProjIdeal.defs _ _).mono (fun _ h => ⟨fun c => (h.1 c).2, h.2⟩) (run_arrays (F := Ideal) m ρ)

theorem frame_ref_ideal : Cert.quiescent_InProjRefIdeal := fun m ρ _ =>
  (θ_run Cert.InProjRefIdeal.defs _ _).mono (fun r h => ⟨fun c => (h c).2.2.2.2.2.2.2, sem_eq_zero_of_no_sems (by decide) r.2⟩)
    (Cert.InProjRefIdeal.Value.run (F := Ideal) m ρ)

theorem algebraic : Cert.algebraic_InProjIdeal_InProjRefIdeal := fun m g m' g' _ h =>
  ⟨_, _, _, _, _, _, _,
    (θ_run Cert.InProjIdeal.defs _ _).mono (fun _ hr c =>
      ⟨(hr.1 c).1.1.trans (uvg_block m _ _ c (h c).1 (h c).2.1),
        (hr.1 c).1.2.1.trans (full_whole m 0 c _ fun d => (h d).2.2.2.2.2.1),
        (hr.1 c).1.2.2.1.trans (full_whole m 1 c _ fun d => (h d).2.2.2.2.2.2.1),
        (hr.1 c).1.2.2.2.1.trans (full_whole m 2 c _ fun d => (h d).2.2.2.2.2.2.2.1),
        (hr.1 c).1.2.2.2.2.1.trans (full_whole m 3 c _ fun d => (h d).2.2.2.2.2.2.2.2.1),
        (hr.1 c).1.2.2.2.2.2.1.trans (full_whole m 4 c _ fun d => (h d).2.2.2.2.2.2.2.2.2.1),
        (hr.1 c).1.2.2.2.2.2.2.trans (full_whole m 5 c _ fun d => (h d).2.2.2.2.2.2.2.2.2.2),
        (hr.1 c).2⟩) (run_arrays (F := Ideal) m g),
    (θ_run Cert.InProjRefIdeal.defs _ _).mono (fun _ hr => hr 0) (Cert.InProjRefIdeal.Value.run (F := Ideal) m' g')⟩

end Cert.Proof.InProj

end
-- ==== Proof.Step.lean ====
/-
  One step of AdamW on one element of a weight, over extended reals.
-/
module

public import Idealize.ShloMosaic.PureOps.Ideal

@[expose] public section

noncomputable section

namespace Cert.Proof.Step

open Idealize.ShloMosaic

/-- The first moment after the step, from the gradient and the moment before, -/
def first (g m : EReal) : EReal := Ideal.ofBits .f32 0x3F666666#32 * m + Ideal.ofBits .f32 0x3DCCCCCD#32 * g
/-- the second, -/
def second (g v : EReal) : EReal := Ideal.ofBits .f32 0x3F7FBE77#32 * v + Ideal.ofBits .f32 0x3A83126F#32 * (g * g)
/-- and the weight's change. -/
def change (w g m v : EReal) : EReal :=
  Ideal.ofBits .f32 0xBA83126F#32 *
    (Ideal.div (Ideal.div (first g m) (Ideal.ofBits .f32 0x3F26BD02#32))
      (Ideal.sqrt (Ideal.div (second g v) (Ideal.ofBits .f32 0x3C231ACC#32)) + Ideal.ofBits .f32 0x322BCC77#32)
      + Ideal.ofBits .f32 0x3C23D70A#32 * w)

end Cert.Proof.Step

end
-- ==== Proof.AdamIn.lean ====
/-
  One step of AdamW on the input projection's weight.
-/
module

public import proofs.«01_k».proof.Defs
public import proofs.«01_k».proof.Proof.Step
public import proofs.«01_k».proof.Proof.Gen.AdamIn
public import proofs.«01_k».proof.Proof.Gen.AdamInIdeal.Value
public import proofs.«01_k».proof.Proof.Gen.AdamInRefIdeal.Run
public import Idealize.ShloMosaic.Lib.Pipeline.ValueKit
public import Idealize.ShloMosaic.Lib.Quiescent

@[expose] public section

noncomputable section

namespace Cert.Proof.AdamIn

open Idealize.ShloMosaic Idealize.ShloMosaic.TcCoe Idealize.SL.Sem
open Cert.AdamInIdeal Cert.AdamInIdeal.Gen Cert.Proof.Step

section
variable (m : (ℓ : Loc nD τ sig) → Buf (Elt Ideal) ℓ) (c : Dev nD)

/-- The weight, its gradient and its moments before the step. -/
abbrev w := m ((c.tc : Thread nD τ).loc main_arg0)
abbrev g := m ((c.tc : Thread nD τ).loc main_arg1)
abbrev m₁ := m ((c.tc : Thread nD τ).loc main_arg2)
abbrev m₂ := m ((c.tc : Thread nD τ).loc main_arg3)

theorem changes : (dats m 0 c).arrAt 4 cfg0.N = fun i => change (w m c i) (g m c i) (m₁ m c i) (m₂ m c i) := by
  refine (dats m 0 c).arrAt_eq_of_covers 4 _ (by decide +kernel) fun t hf y => ?_
  blk_simp
  rw [after0_4]
  frame_out
  unfold k0_pay4
  rw [shapeCast_self]
  rfl

theorem firsts : (dats m 0 c).arrAt 5 cfg0.N = fun i => first (g m c i) (m₁ m c i) := by
  refine (dats m 0 c).arrAt_eq_of_covers 5 _ (by decide +kernel) fun t hf y => ?_
  blk_simp
  rw [after0_5]
  frame_out
  unfold k0_pay5
  rw [shapeCast_self]
  rfl

theorem seconds : (dats m 0 c).arrAt 6 cfg0.N = fun i => second (g m c i) (m₂ m c i) := by
  refine (dats m 0 c).arrAt_eq_of_covers 6 _ (by decide +kernel) fun t hf y => ?_
  blk_simp
  rw [after0_6]
  frame_out
  unfold k0_pay1
  rw [shapeCast_self]
  rfl
end

/-- The two printed programs call the same body. -/
theorem defs_eq : Cert.AdamIn.defs (F := Bits) = Cert.AdamInIdeal.defs (F := Bits) := by
  refine congrArg (Pipeline.defs _) ?_
  unfold Cert.AdamIn.defs₀ Cert.AdamInIdeal.defs₀
  congr 1
  funext l
  match l with
  | 0 => rfl

theorem frame : Cert.quiescent_AdamIn := fun m ρ _ => by
  have h := Cert.AdamInIdeal.Gen.frame (F := Bits) m ρ
  rw [← defs_eq] at h
  exact h
theorem frame_ideal : Cert.quiescent_AdamInIdeal := fun m ρ _ => Cert.AdamInIdeal.Gen.frame (F := Ideal) m ρ
theorem frame_ref_ideal : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

theorem algebraic : Cert.algebraic_AdamInIdeal_AdamInRefIdeal := fun m ρ m' ρ' _ h =>
  ⟨_, _, _,
    (θ_run Cert.AdamInIdeal.defs _ _).mono (fun _ hr c =>
      ⟨(hr c).1.trans (changes m c), (hr c).2.1.trans (firsts m c), (hr c).2.2.1.trans (seconds m c), (hr c).2.2.2⟩)
      (Cert.AdamInIdeal.Value.run_blocks (F := Ideal) m ρ),
    (θ_run Cert.AdamInRefIdeal.defs _ _).mono (fun _ hr c => by
      have hr := hr c
      rw [(h c).1, (h c).2.1, (h c).2.2.1, (h c).2.2.2] at hr
      rw [(h c).1, (h c).2.1, (h c).2.2.1, (h c).2.2.2]
      exact hr) (Cert.AdamInRefIdeal.Value.run (F := Ideal) m' ρ')⟩

end Cert.Proof.AdamIn

end
-- ==== Proof.AdamProj.lean ====
/-
  One step of AdamW on the weight of an output projection of the attention or of the gating unit.
-/
module

public import proofs.«01_k».proof.Defs
public import proofs.«01_k».proof.Proof.Step
public import proofs.«01_k».proof.Proof.Gen.AdamProj
public import proofs.«01_k».proof.Proof.Gen.AdamProjIdeal.Value
public import proofs.«01_k».proof.Proof.Gen.AdamProjRefIdeal.Run
public import Idealize.ShloMosaic.Lib.Pipeline.ValueKit
public import Idealize.ShloMosaic.Lib.Quiescent

@[expose] public section

noncomputable section

namespace Cert.Proof.AdamProj

open Idealize.ShloMosaic Idealize.ShloMosaic.TcCoe Idealize.SL.Sem
open Cert.AdamProjIdeal Cert.AdamProjIdeal.Gen Cert.Proof.Step

section
variable (m : (ℓ : Loc nD τ sig) → Buf (Elt Ideal) ℓ) (c : Dev nD)

/-- The weight, its gradient and its moments before the step. -/
abbrev w := m ((c.tc : Thread nD τ).loc main_arg0)
abbrev g := m ((c.tc : Thread nD τ).loc main_arg1)
abbrev m₁ := m ((c.tc : Thread nD τ).loc main_arg2)
abbrev m₂ := m ((c.tc : Thread nD τ).loc main_arg3)

theorem changes : (dats m 0 c).arrAt 4 cfg0.N = fun i => change (w m c i) (g m c i) (m₁ m c i) (m₂ m c i) := by
  refine (dats m 0 c).arrAt_eq_of_covers 4 _ (by decide +kernel) fun t hf y => ?_
  blk_simp
  rw [after0_4]
  frame_out
  unfold k0_pay4
  rw [shapeCast_self]
  rfl

theorem firsts : (dats m 0 c).arrAt 5 cfg0.N = fun i => first (g m c i) (m₁ m c i) := by
  refine (dats m 0 c).arrAt_eq_of_covers 5 _ (by decide +kernel) fun t hf y => ?_
  blk_simp
  rw [after0_5]
  frame_out
  unfold k0_pay5
  rw [shapeCast_self]
  rfl

theorem seconds : (dats m 0 c).arrAt 6 cfg0.N = fun i => second (g m c i) (m₂ m c i) := by
  refine (dats m 0 c).arrAt_eq_of_covers 6 _ (by decide +kernel) fun t hf y => ?_
  blk_simp
  rw [after0_6]
  frame_out
  unfold k0_pay1
  rw [shapeCast_self]
  rfl
end

/-- The two printed programs call the same body. -/
theorem defs_eq : Cert.AdamProj.defs (F := Bits) = Cert.AdamProjIdeal.defs (F := Bits) := by
  refine congrArg (Pipeline.defs _) ?_
  unfold Cert.AdamProj.defs₀ Cert.AdamProjIdeal.defs₀
  congr 1
  funext l
  match l with
  | 0 => rfl

theorem frame : Cert.quiescent_AdamProj := fun m ρ _ => by
  have h := Cert.AdamProjIdeal.Gen.frame (F := Bits) m ρ
  rw [← defs_eq] at h
  exact h
theorem frame_ideal : Cert.quiescent_AdamProjIdeal := fun m ρ _ => Cert.AdamProjIdeal.Gen.frame (F := Ideal) m ρ
theorem frame_ref_ideal : Cert.quiescent_AdamProjRefIdeal := fun m ρ _ =>
  (θ_run Cert.AdamProjRefIdeal.defs _ _).mono (fun r h => ⟨fun c => (h c).2.2.2, sem_eq_zero_of_no_sems (by decide) r.2⟩)
    (Cert.AdamProjRefIdeal.Value.run (F := Ideal) m ρ)

theorem algebraic : Cert.algebraic_AdamProjIdeal_AdamProjRefIdeal := fun m ρ m' ρ' _ h =>
  ⟨_, _, _,
    (θ_run Cert.AdamProjIdeal.defs _ _).mono (fun _ hr c =>
      ⟨(hr c).1.trans (changes m c), (hr c).2.1.trans (firsts m c), (hr c).2.2.1.trans (seconds m c), (hr c).2.2.2⟩)
      (Cert.AdamProjIdeal.Value.run_blocks (F := Ideal) m ρ),
    (θ_run Cert.AdamProjRefIdeal.defs _ _).mono (fun _ hr c => by
      have hr := hr c
      rw [(h c).1, (h c).2.1, (h c).2.2.1, (h c).2.2.2] at hr
      rw [(h c).1, (h c).2.1, (h c).2.2.1, (h c).2.2.2]
      exact hr) (Cert.AdamProjRefIdeal.Value.run (F := Ideal) m' ρ')⟩

end Cert.Proof.AdamProj

end
-- ==== Proof.AdamOut.lean ====
/-
  One step of AdamW on the output weight.
-/
module

public import proofs.«01_k».proof.Defs
public import proofs.«01_k».proof.Proof.Step
public import proofs.«01_k».proof.Proof.Gen.AdamOut
public import proofs.«01_k».proof.Proof.Gen.AdamOutIdeal.Value
public import proofs.«01_k».proof.Proof.Gen.AdamOutRefIdeal.Run
public import Idealize.ShloMosaic.Lib.Pipeline.ValueKit
public import Idealize.ShloMosaic.Lib.Quiescent

@[expose] public section

noncomputable section

namespace Cert.Proof.AdamOut

open Idealize.ShloMosaic Idealize.ShloMosaic.TcCoe Idealize.SL.Sem
open Cert.AdamOutIdeal Cert.AdamOutIdeal.Gen Cert.Proof.Step

section
variable (m : (ℓ : Loc nD τ sig) → Buf (Elt Ideal) ℓ) (c : Dev nD)

/-- The weight, its gradient and its moments before the step. -/
abbrev w := m ((c.tc : Thread nD τ).loc main_arg0)
abbrev g := m ((c.tc : Thread nD τ).loc main_arg1)
abbrev m₁ := m ((c.tc : Thread nD τ).loc main_arg2)
abbrev m₂ := m ((c.tc : Thread nD τ).loc main_arg3)

theorem changes : (dats m 0 c).arrAt 4 cfg0.N = fun i => change (w m c i) (g m c i) (m₁ m c i) (m₂ m c i) := by
  refine (dats m 0 c).arrAt_eq_of_covers 4 _ (by decide +kernel) fun t hf y => ?_
  blk_simp
  rw [after0_4]
  frame_out
  unfold k0_pay4
  rw [shapeCast_self]
  rfl

theorem firsts : (dats m 0 c).arrAt 5 cfg0.N = fun i => first (g m c i) (m₁ m c i) := by
  refine (dats m 0 c).arrAt_eq_of_covers 5 _ (by decide +kernel) fun t hf y => ?_
  blk_simp
  rw [after0_5]
  frame_out
  unfold k0_pay5
  rw [shapeCast_self]
  rfl

theorem seconds : (dats m 0 c).arrAt 6 cfg0.N = fun i => second (g m c i) (m₂ m c i) := by
  refine (dats m 0 c).arrAt_eq_of_covers 6 _ (by decide +kernel) fun t hf y => ?_
  blk_simp
  rw [after0_6]
  frame_out
  unfold k0_pay1
  rw [shapeCast_self]
  rfl
end

/-- The two printed programs call the same body. -/
theorem defs_eq : Cert.AdamOut.defs (F := Bits) = Cert.AdamOutIdeal.defs (F := Bits) := by
  refine congrArg (Pipeline.defs _) ?_
  unfold Cert.AdamOut.defs₀ Cert.AdamOutIdeal.defs₀
  congr 1
  funext l
  match l with
  | 0 => rfl

theorem frame : Cert.quiescent_AdamOut := fun m ρ _ => by
  have h := Cert.AdamOutIdeal.Gen.frame (F := Bits) m ρ
  rw [← defs_eq] at h
  exact h
theorem frame_ideal : Cert.quiescent_AdamOutIdeal := fun m ρ _ => Cert.AdamOutIdeal.Gen.frame (F := Ideal) m ρ
theorem frame_ref_ideal : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

theorem algebraic : Cert.algebraic_AdamOutIdeal_AdamOutRefIdeal := fun m ρ m' ρ' _ h =>
  ⟨_, _, _,
    (θ_run Cert.AdamOutIdeal.defs _ _).mono (fun _ hr c =>
      ⟨(hr c).1.trans (changes m c), (hr c).2.1.trans (firsts m c), (hr c).2.2.1.trans (seconds m c), (hr c).2.2.2⟩)
      (Cert.AdamOutIdeal.Value.run_blocks (F := Ideal) m ρ),
    (θ_run Cert.AdamOutRefIdeal.defs _ _).mono (fun _ hr c => by
      have hr := hr c
      rw [(h c).1, (h c).2.1, (h c).2.2.1, (h c).2.2.2] at hr
      rw [(h c).1, (h c).2.1, (h c).2.2.1, (h c).2.2.2]
      exact hr) (Cert.AdamOutRefIdeal.Value.run (F := Ideal) m' ρ')⟩

end Cert.Proof.AdamOut

end
-- ==== Proof.AdamUp.lean ====
/-
  One step of AdamW on an upward weight of the feed-forward layer.
-/
module

public import proofs.«01_k».proof.Defs
public import proofs.«01_k».proof.Proof.Step
public import proofs.«01_k».proof.Proof.Gen.AdamUp
public import proofs.«01_k».proof.Proof.Gen.AdamUpIdeal.Value
public import proofs.«01_k».proof.Proof.Gen.AdamUpRefIdeal.Run
public import Idealize.ShloMosaic.Lib.Pipeline.ValueKit
public import Idealize.ShloMosaic.Lib.Quiescent

@[expose] public section

noncomputable section

namespace Cert.Proof.AdamUp

open Idealize.ShloMosaic Idealize.ShloMosaic.TcCoe Idealize.SL.Sem
open Cert.AdamUpIdeal Cert.AdamUpIdeal.Gen Cert.Proof.Step

section
variable (m : (ℓ : Loc nD τ sig) → Buf (Elt Ideal) ℓ) (c : Dev nD)

/-- The weight, its gradient and its moments before the step. -/
abbrev w := m ((c.tc : Thread nD τ).loc main_arg0)
abbrev g := m ((c.tc : Thread nD τ).loc main_arg1)
abbrev m₁ := m ((c.tc : Thread nD τ).loc main_arg2)
abbrev m₂ := m ((c.tc : Thread nD τ).loc main_arg3)

theorem changes : (dats m 0 c).arrAt 4 cfg0.N = fun i => change (w m c i) (g m c i) (m₁ m c i) (m₂ m c i) := by
  refine (dats m 0 c).arrAt_eq_of_covers 4 _ (by decide +kernel) fun t hf y => ?_
  blk_simp
  rw [after0_4]
  frame_out
  unfold k0_pay4
  rw [shapeCast_self]
  rfl

theorem firsts : (dats m 0 c).arrAt 5 cfg0.N = fun i => first (g m c i) (m₁ m c i) := by
  refine (dats m 0 c).arrAt_eq_of_covers 5 _ (by decide +kernel) fun t hf y => ?_
  blk_simp
  rw [after0_5]
  frame_out
  unfold k0_pay5
  rw [shapeCast_self]
  rfl

theorem seconds : (dats m 0 c).arrAt 6 cfg0.N = fun i => second (g m c i) (m₂ m c i) := by
  refine (dats m 0 c).arrAt_eq_of_covers 6 _ (by decide +kernel) fun t hf y => ?_
  blk_simp
  rw [after0_6]
  frame_out
  unfold k0_pay1
  rw [shapeCast_self]
  rfl
end

/-- The two printed programs call the same body. -/
theorem defs_eq : Cert.AdamUp.defs (F := Bits) = Cert.AdamUpIdeal.defs (F := Bits) := by
  refine congrArg (Pipeline.defs _) ?_
  unfold Cert.AdamUp.defs₀ Cert.AdamUpIdeal.defs₀
  congr 1
  funext l
  match l with
  | 0 => rfl

theorem frame : Cert.quiescent_AdamUp := fun m ρ _ => by
  have h := Cert.AdamUpIdeal.Gen.frame (F := Bits) m ρ
  rw [← defs_eq] at h
  exact h
theorem frame_ideal : Cert.quiescent_AdamUpIdeal := fun m ρ _ => Cert.AdamUpIdeal.Gen.frame (F := Ideal) m ρ
theorem frame_ref_ideal : Cert.quiescent_AdamUpRefIdeal := fun m ρ _ =>
  (θ_run Cert.AdamUpRefIdeal.defs _ _).mono (fun r h => ⟨fun c => (h c).2.2.2, sem_eq_zero_of_no_sems (by decide) r.2⟩)
    (Cert.AdamUpRefIdeal.Value.run (F := Ideal) m ρ)

theorem algebraic : Cert.algebraic_AdamUpIdeal_AdamUpRefIdeal := fun m ρ m' ρ' _ h =>
  ⟨_, _, _,
    (θ_run Cert.AdamUpIdeal.defs _ _).mono (fun _ hr c =>
      ⟨(hr c).1.trans (changes m c), (hr c).2.1.trans (firsts m c), (hr c).2.2.1.trans (seconds m c), (hr c).2.2.2⟩)
      (Cert.AdamUpIdeal.Value.run_blocks (F := Ideal) m ρ),
    (θ_run Cert.AdamUpRefIdeal.defs _ _).mono (fun _ hr c => by
      have hr := hr c
      rw [(h c).1, (h c).2.1, (h c).2.2.1, (h c).2.2.2] at hr
      rw [(h c).1, (h c).2.1, (h c).2.2.1, (h c).2.2.2]
      exact hr) (Cert.AdamUpRefIdeal.Value.run (F := Ideal) m' ρ')⟩

end Cert.Proof.AdamUp

end
-- ==== Proof.AdamDown.lean ====
/-
  One step of AdamW on the downward weight of the feed-forward layer.
-/
module

public import proofs.«01_k».proof.Defs
public import proofs.«01_k».proof.Proof.Step
public import proofs.«01_k».proof.Proof.Gen.AdamDown
public import proofs.«01_k».proof.Proof.Gen.AdamDownIdeal.Value
public import proofs.«01_k».proof.Proof.Gen.AdamDownRefIdeal.Run
public import Idealize.ShloMosaic.Lib.Pipeline.ValueKit
public import Idealize.ShloMosaic.Lib.Quiescent

@[expose] public section

noncomputable section

namespace Cert.Proof.AdamDown

open Idealize.ShloMosaic Idealize.ShloMosaic.TcCoe Idealize.SL.Sem
open Cert.AdamDownIdeal Cert.AdamDownIdeal.Gen Cert.Proof.Step

section
variable (m : (ℓ : Loc nD τ sig) → Buf (Elt Ideal) ℓ) (c : Dev nD)

/-- The weight, its gradient and its moments before the step. -/
abbrev w := m ((c.tc : Thread nD τ).loc main_arg0)
abbrev g := m ((c.tc : Thread nD τ).loc main_arg1)
abbrev m₁ := m ((c.tc : Thread nD τ).loc main_arg2)
abbrev m₂ := m ((c.tc : Thread nD τ).loc main_arg3)

theorem changes : (dats m 0 c).arrAt 4 cfg0.N = fun i => change (w m c i) (g m c i) (m₁ m c i) (m₂ m c i) := by
  refine (dats m 0 c).arrAt_eq_of_covers 4 _ (by decide +kernel) fun t hf y => ?_
  blk_simp
  rw [after0_4]
  frame_out
  unfold k0_pay4
  rw [shapeCast_self]
  rfl

theorem firsts : (dats m 0 c).arrAt 5 cfg0.N = fun i => first (g m c i) (m₁ m c i) := by
  refine (dats m 0 c).arrAt_eq_of_covers 5 _ (by decide +kernel) fun t hf y => ?_
  blk_simp
  rw [after0_5]
  frame_out
  unfold k0_pay5
  rw [shapeCast_self]
  rfl

theorem seconds : (dats m 0 c).arrAt 6 cfg0.N = fun i => second (g m c i) (m₂ m c i) := by
  refine (dats m 0 c).arrAt_eq_of_covers 6 _ (by decide +kernel) fun t hf y => ?_
  blk_simp
  rw [after0_6]
  frame_out
  unfold k0_pay1
  rw [shapeCast_self]
  rfl
end

/-- The two printed programs call the same body. -/
theorem defs_eq : Cert.AdamDown.defs (F := Bits) = Cert.AdamDownIdeal.defs (F := Bits) := by
  refine congrArg (Pipeline.defs _) ?_
  unfold Cert.AdamDown.defs₀ Cert.AdamDownIdeal.defs₀
  congr 1
  funext l
  match l with
  | 0 => rfl

theorem frame : Cert.quiescent_AdamDown := fun m ρ _ => by
  have h := Cert.AdamDownIdeal.Gen.frame (F := Bits) m ρ
  rw [← defs_eq] at h
  exact h
theorem frame_ideal : Cert.quiescent_AdamDownIdeal := fun m ρ _ => Cert.AdamDownIdeal.Gen.frame (F := Ideal) m ρ
theorem frame_ref_ideal : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

theorem algebraic : Cert.algebraic_AdamDownIdeal_AdamDownRefIdeal := fun m ρ m' ρ' _ h =>
  ⟨_, _, _,
    (θ_run Cert.AdamDownIdeal.defs _ _).mono (fun _ hr c =>
      ⟨(hr c).1.trans (changes m c), (hr c).2.1.trans (firsts m c), (hr c).2.2.1.trans (seconds m c), (hr c).2.2.2⟩)
      (Cert.AdamDownIdeal.Value.run_blocks (F := Ideal) m ρ),
    (θ_run Cert.AdamDownRefIdeal.defs _ _).mono (fun _ hr c => by
      have hr := hr c
      rw [(h c).1, (h c).2.1, (h c).2.2.1, (h c).2.2.2] at hr
      rw [(h c).1, (h c).2.1, (h c).2.2.1, (h c).2.2.2]
      exact hr) (Cert.AdamDownRefIdeal.Value.run (F := Ideal) m' ρ')⟩

end Cert.Proof.AdamDown

end
-- ==== Proof.Total.lean ====
/-
  A gradient's total on a chip: its own sums and the parts that arrived from the other three chips, over extended reals.
-/
module

public import Idealize.ShloMosaic.Lib.Pointwise

@[expose] public section

noncomputable section

namespace Cert.Proof.Total

open Idealize.ShloMosaic

variable {r n : ℕ}

/-- One element of the total, in the order in which the kernel adds. -/
def total (own : (⟨2, ![r, n]⟩ : Shape).Idx → EReal) (far : (⟨3, ![3, r, n]⟩ : Shape).Idx → EReal)
    (i : (⟨2, ![r, n]⟩ : Shape).Idx) : EReal :=
  own i + far (ix3 0 (i 0) (i 1)) + far (ix3 1 (i 0) (i 1)) + far (ix3 2 (i 0) (i 1))

/-- The sum over the chips first and then its own is the same. -/
theorem total_host (own : FVec Ideal ⟨2, ![r, n]⟩ .f32) (far : FVec Ideal ⟨3, ![3, r, n]⟩ .bf16)
    (hb : FTy.bits .bf16 < FTy.bits .f32) (hr : (⟨3, ![3, r, n]⟩ : Shape).ReducesTo [0] ⟨2, ![r, n]⟩)
    (h0 : 0 < (⟨0, ![]⟩ : Shape).numel) :
    addf own (Host.reduceAdd (extf .f32 far hb) (constant ⟨0, ![]⟩ .f32 0x00000000#32) hr h0) = total own far := by
  funext i
  rw [eq_ix2 i]
  pointwise
  rw [Fin.sum_univ_three, ← add_assoc, ← add_assoc]
  rfl

end Cert.Proof.Total

end
-- ==== Proof.SumIn.lean ====
/-
  The input projection's gradient: a chip's own sums and the parts that arrived from the other three chips, added.
-/
module

public import proofs.«01_k».proof.Defs
public import proofs.«01_k».proof.Proof.Total
public import proofs.«01_k».proof.Proof.Gen.SumIn
public import proofs.«01_k».proof.Proof.Gen.SumInIdeal.Value
public import proofs.«01_k».proof.Proof.Gen.SumInRefIdeal.Run
public import Idealize.ShloMosaic.Lib.Pipeline.ValueKit
public import Idealize.ShloMosaic.Lib.Pointwise
public import Idealize.ShloMosaic.Lib.Quiescent

@[expose] public section

noncomputable section

namespace Cert.Proof.SumIn

open Idealize.ShloMosaic Idealize.ShloMosaic.TcCoe Idealize.SL.Sem
open Cert.SumInIdeal Cert.SumInIdeal.Gen Cert.Proof.Total

section
variable (m : (ℓ : Loc nD τ sig) → Buf (Elt Ideal) ℓ) (c : Dev nD)

/-- A chip's own sums, and those of the other chips. -/
abbrev own := m ((c.tc : Thread nD τ).loc main_arg0)
abbrev far := m ((c.tc : Thread nD τ).loc main_arg1)

theorem pay_apply (x : FVec Ideal S320x1024 .f32) (p q s : FVec Ideal S1x320x1024 .bf16) (r : Fin 320) (l : Fin 1024) :
    k0_pay1 (F := Ideal) x p q s (ix2 r l) = x (ix2 r l) + p (ix3 0 r l) + q (ix3 0 r l) + s (ix3 0 r l) := by
  pointwise [k0_pay1]

theorem totals : (dats m 0 c).arrAt 2 cfg0.N = total (own m c) (far m c) := by
  refine (dats m 0 c).arrAt_eq_of_covers 2 _ (by decide +kernel) fun t hf y => ?_
  blk_simp
  rw [after0_2]
  frame_out
  obtain ⟨r, l, rfl⟩ : ∃ (r : Fin 320) (l : Fin 1024), y = ix2 r l := ⟨y 0, y 1, eq_ix2 y⟩
  rw [pay_apply]
  refine congrArg₂ (· + ·) (congrArg₂ (· + ·) (congrArg₂ (· + ·) rfl ?_) ?_) ?_
  all_goals
    refine congrArg (m ((c.tc : Thread nD τ).loc main_arg1)) (funext fun a => Fin.ext ?_)
    match a with
    | ⟨0, _⟩ => rfl
    | ⟨1, _⟩ => exact congrArg (_ + ·) (by show 1 * (0 + 1 * r.val) = 1 * r.val; omega)
    | ⟨2, _⟩ => exact congrArg (_ + ·) (by show 1 * (0 + 1 * l.val) = 1 * l.val; omega)
end

/-- The two printed programs call the same body. -/
theorem defs_eq : Cert.SumIn.defs (F := Bits) = Cert.SumInIdeal.defs (F := Bits) := by
  refine congrArg (Pipeline.defs _) ?_
  unfold Cert.SumIn.defs₀ Cert.SumInIdeal.defs₀
  congr 1
  funext l
  match l with
  | 0 => rfl

theorem frame : Cert.quiescent_SumIn := fun m ρ _ => by
  have h := Cert.SumInIdeal.Gen.frame (F := Bits) m ρ
  rw [← defs_eq] at h
  exact h
theorem frame_ideal : Cert.quiescent_SumInIdeal := fun m ρ _ => Cert.SumInIdeal.Gen.frame (F := Ideal) m ρ
theorem frame_ref_ideal : Cert.quiescent_SumInRefIdeal := fun m ρ _ =>
  (θ_run Cert.SumInRefIdeal.defs _ _).mono (fun r h => ⟨fun c => (h c).2, sem_eq_zero_of_no_sems (by decide) r.2⟩)
    (Cert.SumInRefIdeal.Value.run (F := Ideal) m ρ)

theorem algebraic : Cert.algebraic_SumInIdeal_SumInRefIdeal := fun m ρ m' ρ' _ h =>
  ⟨_,
    (θ_run Cert.SumInIdeal.defs _ _).mono (fun _ hr c => ⟨(hr c).1.trans (totals m c), (hr c).2⟩)
      (Cert.SumInIdeal.Value.run_blocks (F := Ideal) m ρ),
    (θ_run Cert.SumInRefIdeal.defs _ _).mono (fun _ hr c =>
      ⟨(hr c).1.trans ((total_host _ _ _ _ _).trans (congrArg₂ total (h c).1 (h c).2)), (hr c).2⟩)
      (Cert.SumInRefIdeal.Value.run (F := Ideal) m' ρ')⟩

end Cert.Proof.SumIn

end
-- ==== Proof.SumProj.lean ====
/-
  The gradient of an output projection of the attention or of the gating unit: a chip's own sums and the parts that arrived from the other three chips, added.
-/
module

public import proofs.«01_k».proof.Defs
public import proofs.«01_k».proof.Proof.Total
public import proofs.«01_k».proof.Proof.Gen.SumProj
public import proofs.«01_k».proof.Proof.Gen.SumProjIdeal.Value
public import proofs.«01_k».proof.Proof.Gen.SumProjRefIdeal.Run
public import Idealize.ShloMosaic.Lib.Pipeline.ValueKit
public import Idealize.ShloMosaic.Lib.Pointwise
public import Idealize.ShloMosaic.Lib.Quiescent

@[expose] public section

noncomputable section

namespace Cert.Proof.SumProj

open Idealize.ShloMosaic Idealize.ShloMosaic.TcCoe Idealize.SL.Sem
open Cert.SumProjIdeal Cert.SumProjIdeal.Gen Cert.Proof.Total

section
variable (m : (ℓ : Loc nD τ sig) → Buf (Elt Ideal) ℓ) (c : Dev nD)

/-- A chip's own sums, and those of the other chips. -/
abbrev own := m ((c.tc : Thread nD τ).loc main_arg0)
abbrev far := m ((c.tc : Thread nD τ).loc main_arg1)

theorem pay_apply (x : FVec Ideal S128x512 .f32) (p q s : FVec Ideal S1x128x512 .bf16) (r : Fin 128) (l : Fin 512) :
    k0_pay1 (F := Ideal) x p q s (ix2 r l) = x (ix2 r l) + p (ix3 0 r l) + q (ix3 0 r l) + s (ix3 0 r l) := by
  pointwise [k0_pay1]

theorem totals : (dats m 0 c).arrAt 2 cfg0.N = total (own m c) (far m c) := by
  refine (dats m 0 c).arrAt_eq_of_covers 2 _ (by decide +kernel) fun t hf y => ?_
  blk_simp
  rw [after0_2]
  frame_out
  obtain ⟨r, l, rfl⟩ : ∃ (r : Fin 128) (l : Fin 512), y = ix2 r l := ⟨y 0, y 1, eq_ix2 y⟩
  rw [pay_apply]
  refine congrArg₂ (· + ·) (congrArg₂ (· + ·) (congrArg₂ (· + ·) rfl ?_) ?_) ?_
  all_goals
    refine congrArg (m ((c.tc : Thread nD τ).loc main_arg1)) (funext fun a => Fin.ext ?_)
    match a with
    | ⟨0, _⟩ => rfl
    | ⟨1, _⟩ => exact congrArg (_ + ·) (by show 1 * (0 + 1 * r.val) = 1 * r.val; omega)
    | ⟨2, _⟩ => exact congrArg (_ + ·) (by show 1 * (0 + 1 * l.val) = 1 * l.val; omega)
end

/-- The two printed programs call the same body. -/
theorem defs_eq : Cert.SumProj.defs (F := Bits) = Cert.SumProjIdeal.defs (F := Bits) := by
  refine congrArg (Pipeline.defs _) ?_
  unfold Cert.SumProj.defs₀ Cert.SumProjIdeal.defs₀
  congr 1
  funext l
  match l with
  | 0 => rfl

theorem frame : Cert.quiescent_SumProj := fun m ρ _ => by
  have h := Cert.SumProjIdeal.Gen.frame (F := Bits) m ρ
  rw [← defs_eq] at h
  exact h
theorem frame_ideal : Cert.quiescent_SumProjIdeal := fun m ρ _ => Cert.SumProjIdeal.Gen.frame (F := Ideal) m ρ
theorem frame_ref_ideal : Cert.quiescent_SumProjRefIdeal := fun m ρ _ =>
  (θ_run Cert.SumProjRefIdeal.defs _ _).mono (fun r h => ⟨fun c => (h c).2, sem_eq_zero_of_no_sems (by decide) r.2⟩)
    (Cert.SumProjRefIdeal.Value.run (F := Ideal) m ρ)

theorem algebraic : Cert.algebraic_SumProjIdeal_SumProjRefIdeal := fun m ρ m' ρ' _ h =>
  ⟨_,
    (θ_run Cert.SumProjIdeal.defs _ _).mono (fun _ hr c => ⟨(hr c).1.trans (totals m c), (hr c).2⟩)
      (Cert.SumProjIdeal.Value.run_blocks (F := Ideal) m ρ),
    (θ_run Cert.SumProjRefIdeal.defs _ _).mono (fun _ hr c =>
      ⟨(hr c).1.trans ((total_host _ _ _ _ _).trans (congrArg₂ total (h c).1 (h c).2)), (hr c).2⟩)
      (Cert.SumProjRefIdeal.Value.run (F := Ideal) m' ρ')⟩

end Cert.Proof.SumProj

end
-- ==== Proof.SumOut.lean ====
/-
  The output weight's gradient: a chip's own sums and the parts that arrived from the other three chips, added.
-/
module

public import proofs.«01_k».proof.Defs
public import proofs.«01_k».proof.Proof.Total
public import proofs.«01_k».proof.Proof.Gen.SumOut
public import proofs.«01_k».proof.Proof.Gen.SumOutIdeal.Value
public import proofs.«01_k».proof.Proof.Gen.SumOutRefIdeal.Run
public import Idealize.ShloMosaic.Lib.Pipeline.ValueKit
public import Idealize.ShloMosaic.Lib.Pointwise
public import Idealize.ShloMosaic.Lib.Quiescent

@[expose] public section

noncomputable section

namespace Cert.Proof.SumOut

open Idealize.ShloMosaic Idealize.ShloMosaic.TcCoe Idealize.SL.Sem
open Cert.SumOutIdeal Cert.SumOutIdeal.Gen Cert.Proof.Total

section
variable (m : (ℓ : Loc nD τ sig) → Buf (Elt Ideal) ℓ) (c : Dev nD)

/-- A chip's own sums, and those of the other chips. -/
abbrev own := m ((c.tc : Thread nD τ).loc main_arg0)
abbrev far := m ((c.tc : Thread nD τ).loc main_arg1)

theorem pay_apply (x : FVec Ideal S128x1024 .f32) (p q s : FVec Ideal S1x128x1024 .bf16) (r : Fin 128) (l : Fin 1024) :
    k0_pay1 (F := Ideal) x p q s (ix2 r l) = x (ix2 r l) + p (ix3 0 r l) + q (ix3 0 r l) + s (ix3 0 r l) := by
  pointwise [k0_pay1]

theorem totals : (dats m 0 c).arrAt 2 cfg0.N = total (own m c) (far m c) := by
  refine (dats m 0 c).arrAt_eq_of_covers 2 _ (by decide +kernel) fun t hf y => ?_
  blk_simp
  rw [after0_2]
  frame_out
  obtain ⟨r, l, rfl⟩ : ∃ (r : Fin 128) (l : Fin 1024), y = ix2 r l := ⟨y 0, y 1, eq_ix2 y⟩
  rw [pay_apply]
  refine congrArg₂ (· + ·) (congrArg₂ (· + ·) (congrArg₂ (· + ·) rfl ?_) ?_) ?_
  all_goals
    refine congrArg (m ((c.tc : Thread nD τ).loc main_arg1)) (funext fun a => Fin.ext ?_)
    match a with
    | ⟨0, _⟩ => rfl
    | ⟨1, _⟩ => exact congrArg (_ + ·) (by show 1 * (0 + 1 * r.val) = 1 * r.val; omega)
    | ⟨2, _⟩ => exact congrArg (_ + ·) (by show 1 * (0 + 1 * l.val) = 1 * l.val; omega)
end

/-- The two printed programs call the same body. -/
theorem defs_eq : Cert.SumOut.defs (F := Bits) = Cert.SumOutIdeal.defs (F := Bits) := by
  refine congrArg (Pipeline.defs _) ?_
  unfold Cert.SumOut.defs₀ Cert.SumOutIdeal.defs₀
  congr 1
  funext l
  match l with
  | 0 => rfl

theorem frame : Cert.quiescent_SumOut := fun m ρ _ => by
  have h := Cert.SumOutIdeal.Gen.frame (F := Bits) m ρ
  rw [← defs_eq] at h
  exact h
theorem frame_ideal : Cert.quiescent_SumOutIdeal := fun m ρ _ => Cert.SumOutIdeal.Gen.frame (F := Ideal) m ρ
theorem frame_ref_ideal : Cert.quiescent_SumOutRefIdeal := fun m ρ _ =>
  (θ_run Cert.SumOutRefIdeal.defs _ _).mono (fun r h => ⟨fun c => (h c).2, sem_eq_zero_of_no_sems (by decide) r.2⟩)
    (Cert.SumOutRefIdeal.Value.run (F := Ideal) m ρ)

theorem algebraic : Cert.algebraic_SumOutIdeal_SumOutRefIdeal := fun m ρ m' ρ' _ h =>
  ⟨_,
    (θ_run Cert.SumOutIdeal.defs _ _).mono (fun _ hr c => ⟨(hr c).1.trans (totals m c), (hr c).2⟩)
      (Cert.SumOutIdeal.Value.run_blocks (F := Ideal) m ρ),
    (θ_run Cert.SumOutRefIdeal.defs _ _).mono (fun _ hr c =>
      ⟨(hr c).1.trans ((total_host _ _ _ _ _).trans (congrArg₂ total (h c).1 (h c).2)), (hr c).2⟩)
      (Cert.SumOutRefIdeal.Value.run (F := Ideal) m' ρ')⟩

end Cert.Proof.SumOut

end
-- ==== Proof.SumFfn.lean ====
/-
  The gradient of a weight of the feed-forward layer: a chip's own sums and the parts that arrived from the other three chips, added.
-/
module

public import proofs.«01_k».proof.Defs
public import proofs.«01_k».proof.Proof.Total
public import proofs.«01_k».proof.Proof.Gen.SumFfn
public import proofs.«01_k».proof.Proof.Gen.SumFfnIdeal.Value
public import proofs.«01_k».proof.Proof.Gen.SumFfnRefIdeal.Run
public import Idealize.ShloMosaic.Lib.Pipeline.ValueKit
public import Idealize.ShloMosaic.Lib.Pointwise
public import Idealize.ShloMosaic.Lib.Quiescent

@[expose] public section

noncomputable section

namespace Cert.Proof.SumFfn

open Idealize.ShloMosaic Idealize.ShloMosaic.TcCoe Idealize.SL.Sem
open Cert.SumFfnIdeal Cert.SumFfnIdeal.Gen Cert.Proof.Total

section
variable (m : (ℓ : Loc nD τ sig) → Buf (Elt Ideal) ℓ) (c : Dev nD)

/-- A chip's own sums, and those of the other chips. -/
abbrev own := m ((c.tc : Thread nD τ).loc main_arg0)
abbrev far := m ((c.tc : Thread nD τ).loc main_arg1)

theorem pay_apply (x : FVec Ideal S176x1024 .f32) (p q s : FVec Ideal S1x176x1024 .bf16) (r : Fin 176) (l : Fin 1024) :
    k0_pay1 (F := Ideal) x p q s (ix2 r l) = x (ix2 r l) + p (ix3 0 r l) + q (ix3 0 r l) + s (ix3 0 r l) := by
  pointwise [k0_pay1]

theorem totals : (dats m 0 c).arrAt 2 cfg0.N = total (own m c) (far m c) := by
  refine (dats m 0 c).arrAt_eq_of_covers 2 _ (by decide +kernel) fun t hf y => ?_
  blk_simp
  rw [after0_2]
  frame_out
  obtain ⟨r, l, rfl⟩ : ∃ (r : Fin 176) (l : Fin 1024), y = ix2 r l := ⟨y 0, y 1, eq_ix2 y⟩
  rw [pay_apply]
  refine congrArg₂ (· + ·) (congrArg₂ (· + ·) (congrArg₂ (· + ·) rfl ?_) ?_) ?_
  all_goals
    refine congrArg (m ((c.tc : Thread nD τ).loc main_arg1)) (funext fun a => Fin.ext ?_)
    match a with
    | ⟨0, _⟩ => rfl
    | ⟨1, _⟩ => exact congrArg (_ + ·) (by show 1 * (0 + 1 * r.val) = 1 * r.val; omega)
    | ⟨2, _⟩ => exact congrArg (_ + ·) (by show 1 * (0 + 1 * l.val) = 1 * l.val; omega)
end

/-- The two printed programs call the same body. -/
theorem defs_eq : Cert.SumFfn.defs (F := Bits) = Cert.SumFfnIdeal.defs (F := Bits) := by
  refine congrArg (Pipeline.defs _) ?_
  unfold Cert.SumFfn.defs₀ Cert.SumFfnIdeal.defs₀
  congr 1
  funext l
  match l with
  | 0 => rfl

theorem frame : Cert.quiescent_SumFfn := fun m ρ _ => by
  have h := Cert.SumFfnIdeal.Gen.frame (F := Bits) m ρ
  rw [← defs_eq] at h
  exact h
theorem frame_ideal : Cert.quiescent_SumFfnIdeal := fun m ρ _ => Cert.SumFfnIdeal.Gen.frame (F := Ideal) m ρ
theorem frame_ref_ideal : Cert.quiescent_SumFfnRefIdeal := fun m ρ _ =>
  (θ_run Cert.SumFfnRefIdeal.defs _ _).mono (fun r h => ⟨fun c => (h c).2, sem_eq_zero_of_no_sems (by decide) r.2⟩)
    (Cert.SumFfnRefIdeal.Value.run (F := Ideal) m ρ)

theorem algebraic : Cert.algebraic_SumFfnIdeal_SumFfnRefIdeal := fun m ρ m' ρ' _ h =>
  ⟨_,
    (θ_run Cert.SumFfnIdeal.defs _ _).mono (fun _ hr c => ⟨(hr c).1.trans (totals m c), (hr c).2⟩)
      (Cert.SumFfnIdeal.Value.run_blocks (F := Ideal) m ρ),
    (θ_run Cert.SumFfnRefIdeal.defs _ _).mono (fun _ hr c =>
      ⟨(hr c).1.trans ((total_host _ _ _ _ _).trans (congrArg₂ total (h c).1 (h c).2)), (hr c).2⟩)
      (Cert.SumFfnRefIdeal.Value.run (F := Ideal) m' ρ')⟩

end Cert.Proof.SumFfn

end
-- ==== Proof.Small.lean ====
/-
  The update of the small weights.
-/
module

public import proofs.«01_k».proof.Defs
public import proofs.«01_k».proof.Proof.Step
public import proofs.«01_k».proof.Proof.Gen.Small
public import proofs.«01_k».proof.Proof.Gen.SmallIdeal.Value
public import proofs.«01_k».proof.Proof.Gen.SmallRefIdeal.Run
public import Idealize.ShloMosaic.Lib.Pipeline.ValueKit
public import Idealize.ShloMosaic.Lib.Pointwise
public import Idealize.ShloMosaic.Lib.Quiescent

@[expose] public section

noncomputable section

namespace Cert.Proof.Small

open Idealize.ShloMosaic Idealize.ShloMosaic.TcCoe Idealize.SL.Sem
open Cert.SmallIdeal Cert.SmallIdeal.Gen Cert.SmallIdeal.Value Cert.Proof.Step

section
variable (m : (ℓ : Loc nD τ sig) → Buf (Elt Ideal) ℓ) (c : Dev nD)

/-- Row `r` of device `d`'s part. -/
abbrev part {n : ℕ} (d : Fin 8) (r : Fin n) : Fin (8 * n) := ⟨d * n + r, by have := d.isLt; have := r.isLt; nlinarith⟩

/-- The sum over the devices, from the first on. -/
def sum {n : ℕ} (a : (⟨2, ![8 * n, 128]⟩ : Shape).Idx → EReal) (i : (⟨2, ![n, 128]⟩ : Shape).Idx) : EReal :=
  ∑ d : Fin 8, a (ix2 (part d (i 0)) (i 1))

theorem sum_host {n : ℕ} (a : FVec Ideal ⟨2, ![8 * n, 128]⟩ .f32) (hs : (⟨2, ![8 * n, 128]⟩ : Shape).ShapeCasts ⟨3, ![8, n, 128]⟩)
    (hr : (⟨3, ![8, n, 128]⟩ : Shape).ReducesTo [0] ⟨2, ![n, 128]⟩)
    (h0 : 0 < (⟨0, ![]⟩ : Shape).numel) :
    Host.reduceAdd (F := Ideal) (shapeCast ⟨3, ![8, n, 128]⟩ a hs) (constant (F := Ideal) ⟨0, ![]⟩ .f32 0x00000000#32) hr h0 = sum a := by
  funext i
  rw [eq_ix2 i]
  pointwise
  refine Finset.sum_congr rfl fun d _ => congrArg a (Shape.reshapeEquiv_eq_of_rowMajor _ ?_)
  rw [Shape.rowMajor_val_three, Shape.rowMajor_val_two]
  rfl

/-- The kernel's sum of the eight parts that come late, -/
theorem late_sum (a : Vec Ideal S64x128 .f32) :
    k0_pay2 (F := Ideal) (View.ld a r0_0) (View.ld a r0_1) (View.ld a r0_2) (View.ld a r0_3) (View.ld a r0_4) (View.ld a r0_5)
      (View.ld a r0_6) (View.ld a r0_7) = sum (n := 8) a := by
  funext i
  rw [eq_ix2 i]
  pointwise [k0_pay2]
  refine .trans ?_ (Fin.sum_univ_eight _).symm
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals exact congrArg (fun r => a (ix2 r (i 1))) (Fin.ext (by simp [part]))

/-- and of those that came early. -/
theorem early_sum (a : Vec Ideal S8512x128 .f32) :
    addf (F := Ideal) (k0_pay3 (F := Ideal) (View.ld a r0_8) (View.ld a r0_9) (View.ld a r0_10) (View.ld a r0_11) (View.ld a r0_12)
      (View.ld a r0_13) (View.ld a r0_14)) (View.ld a r0_15) = sum (n := 1064) a := by
  funext i
  rw [eq_ix2 i]
  pointwise [k0_pay3]
  refine .trans ?_ (Fin.sum_univ_eight _).symm
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals exact congrArg (fun r => a (ix2 r (i 1))) (Fin.ext (by simp [part]))

/-- The gradients of all the small weights, in one array. -/
def grad (late : FVec Ideal S64x128 .f32) (early : FVec Ideal S8512x128 .f32) : FVec Ideal S1072x128 .f32 :=
  concatenate S1072x128 0 [⟨S8x128, sum (n := 8) late⟩, ⟨S1064x128, sum (n := 1064) early⟩] concatenates_S8x128_S1064x128_S1072x128_d0

theorem grad_eq (late : FVec Ideal S64x128 .f32) (early : FVec Ideal S8512x128 .f32) (x y z) :
    k0_pay4 (F := Ideal) (k0_pay8 late early x y z) (k0_pay9 late early x y z) (View.ld early r0_15) = grad late early := by
  unfold k0_pay4 k0_pay8 k0_pay9 grad
  rw [late_sum, early_sum]

theorem loss_host (g : FVec Ideal S1072x128 .f32) (h1) (h2) (h3) (h4) :
    shapeCast Cert.SmallRefIdeal.S1x1 (Host.reduceAdd (F := Ideal) (axes := [0, 1]) (t := Cert.SmallRefIdeal.S_)
      (extractStridedSlice Cert.SmallRefIdeal.S8x128 ![1064, 0] g h1) (constant Cert.SmallRefIdeal.S_ .f32 0x00000000#32) h2 h3) h4
      = k0_pay1 g := by
  funext i
  obtain rfl : i = ix2 0 0 := (eq_ix2 i).trans (congrArg₂ ix2 (Subsingleton.elim _ _) (Subsingleton.elim _ _))
  pointwise [k0_pay1]

/-- The parts, and the weights and their moments before the step. -/
abbrev late := m ((c.tc : Thread nD τ).loc main_arg0)
abbrev early := m ((c.tc : Thread nD τ).loc main_arg1)
abbrev w := m ((c.tc : Thread nD τ).loc main_arg2)
abbrev m₁ := m ((c.tc : Thread nD τ).loc main_arg3)
abbrev m₂ := m ((c.tc : Thread nD τ).loc main_arg4)

theorem grads : (dats m 0 c).arrAt 5 cfg0.N = grad (late m c) (early m c) := by
  refine (dats m 0 c).arrAt_eq_of_after_last 5 ⟨0, by decide⟩ (by decide +kernel) _ fun j => ?_
  rw [after0_5, iblk0_eq, iblk1_eq]
  frame_out
  rw [grad_eq]
  rfl

theorem changes : (dats m 0 c).arrAt 6 cfg0.N
    = fun i => change (w m c i) (grad (late m c) (early m c) i) (m₁ m c i) (m₂ m c i) := by
  refine (dats m 0 c).arrAt_eq_of_after_last 6 ⟨0, by decide⟩ (by decide +kernel) _ fun j => ?_
  rw [after0_6, iblk0_eq, iblk1_eq, iblk2_eq, iblk3_eq, iblk4_eq]
  frame_out
  unfold k0_pay7 k0_pay6 k0_pay5
  rw [grad_eq]
  rfl

theorem firsts : (dats m 0 c).arrAt 7 cfg0.N = fun i => first (grad (late m c) (early m c) i) (m₁ m c i) := by
  refine (dats m 0 c).arrAt_eq_of_after_last 7 ⟨0, by decide⟩ (by decide +kernel) _ fun j => ?_
  rw [after0_7, iblk0_eq, iblk1_eq, iblk3_eq]
  frame_out
  unfold k0_pay5
  rw [grad_eq]
  rfl

theorem seconds : (dats m 0 c).arrAt 8 cfg0.N = fun i => second (grad (late m c) (early m c) i) (m₂ m c i) := by
  refine (dats m 0 c).arrAt_eq_of_after_last 8 ⟨0, by decide⟩ (by decide +kernel) _ fun j => ?_
  rw [after0_8, iblk0_eq, iblk1_eq, iblk4_eq]
  frame_out
  unfold k0_pay6
  rw [grad_eq]
  rfl

theorem losses : (dats m 0 c).arrAt 9 cfg0.N = k0_pay1 (F := Ideal) (grad (late m c) (early m c)) := by
  refine (dats m 0 c).arrAt_eq_of_after_last 9 ⟨0, by decide⟩ (by decide +kernel) _ fun j => ?_
  rw [after0_9, iblk0_eq, iblk1_eq]
  frame_out
  rw [grad_eq]
  rfl
end

/-- The two printed programs call the same body. -/
theorem defs_eq : Cert.Small.defs (F := Bits) = Cert.SmallIdeal.defs (F := Bits) := by
  refine congrArg (Pipeline.defs _) ?_
  unfold Cert.Small.defs₀ Cert.SmallIdeal.defs₀
  congr 1
  funext l
  match l with
  | 0 => rfl

theorem frame : Cert.quiescent_Small := fun m ρ _ => by
  have h := Cert.SmallIdeal.Gen.frame (F := Bits) m ρ
  rw [← defs_eq] at h
  exact h
theorem frame_ideal : Cert.quiescent_SmallIdeal := fun m ρ _ => Cert.SmallIdeal.Gen.frame (F := Ideal) m ρ
theorem frame_ref_ideal : Cert.quiescent_SmallRefIdeal := fun m ρ _ =>
  (θ_run Cert.SmallRefIdeal.defs _ _).mono (fun r h => ⟨fun c => (h c).2.2.2.2.2, sem_eq_zero_of_no_sems (by decide) r.2⟩)
    (Cert.SmallRefIdeal.Value.run (F := Ideal) m ρ)

/-- The reference's gradients. -/
theorem grad_host (late : FVec Ideal S64x128 .f32) (early : FVec Ideal S8512x128 .f32) (h1) (h2) (h3) (h4) (h5) (h6) (h7) :
    concatenate S1072x128 0 [⟨S8x128, Host.reduceAdd (F := Ideal) (axes := [0]) (shapeCast ⟨3, ![8, 8, 128]⟩ late h1) (constant ⟨0, ![]⟩ .f32 0x00000000#32) h2 h3⟩,
      ⟨S1064x128, Host.reduceAdd (F := Ideal) (axes := [0]) (shapeCast ⟨3, ![8, 1064, 128]⟩ early h4) (constant ⟨0, ![]⟩ .f32 0x00000000#32) h5 h6⟩] h7
      = grad late early := by
  unfold grad
  rw [sum_host (n := 8) late, sum_host (n := 1064) early]

theorem algebraic : Cert.algebraic_SmallIdeal_SmallRefIdeal := fun m ρ m' ρ' _ h =>
  ⟨_, _, _, _, _,
    (θ_run Cert.SmallIdeal.defs _ _).mono (fun _ hr c =>
      ⟨(hr c).1.trans (grads m c), (hr c).2.1.trans (changes m c), (hr c).2.2.1.trans (firsts m c),
        (hr c).2.2.2.1.trans (seconds m c), (hr c).2.2.2.2.1.trans (losses m c), (hr c).2.2.2.2.2⟩)
      (Cert.SmallIdeal.Value.run_blocks (F := Ideal) m ρ),
    (θ_run Cert.SmallRefIdeal.defs _ _).mono (fun _ hr c => by
      obtain ⟨h0, h1, h2, h3, h4⟩ := h c
      have hr := hr c
      rw [h0, h1, h2, h3, h4] at hr
      rw [h0, h1, h2, h3, h4]
      rw [grad_host] at hr
      obtain ⟨r0, r1, r2, r3, r4, r5⟩ := hr
      exact ⟨r0, r1, r2, r3, r4.trans (loss_host _ _ _ _ _), r5⟩) (Cert.SmallRefIdeal.Value.run (F := Ideal) m' ρ')⟩

end Cert.Proof.Small

end
-- ==== Proof.Grad.lean ====
/-
  The gradient of a weight over extended reals: a sum over 8192 rows, that is over four tiles of 2048.
-/
module

public import Idealize.ShloMosaic.Lib.Pipeline.Value
public import Idealize.ShloMosaic.Lib.Pointwise

@[expose] public section

noncomputable section

namespace Cert.Proof.Grad

open Idealize.ShloMosaic

variable {a b : ℕ}

/-- Row `r` of tile `s`. -/
abbrev row (s : ℕ) (r : Fin 2048) : Fin 8192 := ⟨s % 4 * 2048 + r.val, by omega⟩

/-- One tile's share in the gradient, -/
def share (x : (⟨2, ![8192, a]⟩ : Shape).Idx → EReal) (d : (⟨2, ![8192, b]⟩ : Shape).Idx → EReal) (s : ℕ)
    (i : (⟨2, ![a, b]⟩ : Shape).Idx) : EReal :=
  ∑ r : Fin 2048, x (ix2 (row s r) (i 0)) * d (ix2 (row s r) (i 1))
/-- and the whole. -/
def grad (x : (⟨2, ![8192, a]⟩ : Shape).Idx → EReal) (d : (⟨2, ![8192, b]⟩ : Shape).Idx → EReal)
    (i : (⟨2, ![a, b]⟩ : Shape).Idx) : EReal :=
  ∑ k : Fin 8192, x (ix2 k (i 0)) * d (ix2 k (i 1))

theorem grad_eq (x : (⟨2, ![8192, a]⟩ : Shape).Idx → EReal) (d : (⟨2, ![8192, b]⟩ : Shape).Idx → EReal)
    (i : (⟨2, ![a, b]⟩ : Shape).Idx) : ∑ s ∈ Finset.range 4, share x d s i = grad x d i := by
  unfold grad
  rw [Finset.sum_range, Fin.sum_univ_tiles 4 2048 rfl]
  refine Finset.sum_congr rfl fun s _ => Finset.sum_congr rfl fun r _ => ?_
  have h : row s.val r = ⟨s.val * 2048 + r.val, by omega⟩ := Fin.ext (by show s.val % 4 * 2048 + r.val = _; rw [Nat.mod_eq_of_lt s.isLt])
  rw [h]

/-- A run of four points, of which the first clears the sums and each adds its share, ends at the gradient. `y` is the
    place in a point's block of the place `i` in the whole. -/
theorem run_eq {N h w q : ℕ} (x : (⟨2, ![8192, a]⟩ : Shape).Idx → EReal) (d : (⟨2, ![8192, b]⟩ : Shape).Idx → EReal)
    (first : (n : ℕ) → n < N → (⟨2, ![h, w]⟩ : Shape).Idx → EReal)
    (next : (n : ℕ) → n < N → ((⟨2, ![h, w]⟩ : Shape).Idx → EReal) → (⟨2, ![h, w]⟩ : Shape).Idx → EReal)
    (at_ : ℕ → (⟨2, ![h, w]⟩ : Shape).Idx → (⟨2, ![a, b]⟩ : Shape).Idx)
    (h0 : ∀ n hn y, first n hn y = share x d n (at_ (n / 4) y))
    (hs : ∀ n hn acc y, next n hn acc y = acc y + share x d n (at_ (n / 4) y))
    (hN : 4 * q + 3 < N) (y : (⟨2, ![h, w]⟩ : Shape).Idx) :
    Pipeline.accAt first next (4 * q) 3 hN y = grad x d (at_ q y) := by
  rw [Pipeline.accAt_add_apply first next (fun _ => 0) (fun n y => share x d n (at_ (n / 4) y)) (4 * q) 3
    (fun hn y => by rw [h0, zero_add]) (fun n hn acc y _ _ => hs n hn acc y) 3 le_rfl hN y, zero_add, ← grad_eq]
  refine Finset.sum_congr rfl fun s hsr => ?_
  have hlt := Finset.mem_range.mp hsr
  have hd : (4 * q + s) / 4 = q := by omega
  have hm : ∀ r, row (4 * q + s) r = row s r := fun r => Fin.ext (by show (4 * q + s) % 4 * 2048 + _ = s % 4 * 2048 + _; omega)
  simp only [share, hd, hm]

end Cert.Proof.Grad

end
-- ==== Proof.GradFfn.lean ====
/-
  The gradient of a weight of the feed-forward layer: two runs of four points, each of 1408 rows of it.
-/
module

public import proofs.«01_k».proof.Defs
public import proofs.«01_k».proof.Proof.Grad
public import proofs.«01_k».proof.Proof.Gen.GradFfn
public import proofs.«01_k».proof.Proof.Gen.GradFfnIdeal.Value
public import proofs.«01_k».proof.Proof.Gen.GradFfnRefIdeal.Run
public import Idealize.ShloMosaic.Lib.Pipeline.ValueKit
public import Idealize.ShloMosaic.Lib.Pointwise
public import Idealize.ShloMosaic.Lib.Quiescent

@[expose] public section

noncomputable section

namespace Cert.Proof.GradFfn

open Idealize.ShloMosaic Idealize.ShloMosaic.TcCoe Idealize.SL.Sem Idealize.ShloMosaic.Pipeline
open Cert.GradFfnIdeal Cert.GradFfnIdeal.Gen Cert.GradFfnIdeal.Value Cert.Proof.Grad

section
variable (m : (ℓ : Loc nD τ sig) → Buf (Elt Ideal) ℓ) (c : Dev nD)

/-- The rows that the weight multiplied, and the gradients of the products. -/
abbrev rows : S8192x2816.Idx → EReal := m ((c : Thread nD τ).loc main_arg0)
abbrev grads : S8192x1024.Idx → EReal := m ((c : Thread nD τ).loc main_arg1)

/-- Where an element of a point's block is in the whole, in run `q`. -/
abbrev place (q : ℕ) (y : S1408x1024.Idx) : S2816x1024.Idx :=
  ix2 ⟨q % 2 * 1408 + (y 0).val, by have : (y 0).val < 1408 := (y 0).isLt; omega⟩ ⟨(y 1).val, (y 1).isLt⟩

theorem at0 : ∀ t : Fin cfg0.N, win0_0.index t 0 = t.val % 4 ∧ win0_0.index t 1 = t.val / 4 % 2 := by decide
theorem at1 : ∀ t : Fin cfg0.N, win0_1.index t 0 = t.val % 4 ∧ win0_1.index t 1 = 0 := by decide

theorem iblk0 (t : Fin cfg0.N) (r : Fin 2048) (y : S1408x1024.Idx) :
    iblk m c 0 t (ix2 r (y 0 : Fin 1408)) = rows m c (ix2 (row t.val r) (place (t.val / 4) y 0)) := by
  refine congrArg (m ((c : Thread nD τ).loc main_arg0)) (funext fun a => Fin.ext ?_)
  refine (Window.rect_emb_val win0_0 t (ix2 r (y 0 : Fin 1408)) a).trans ?_
  match a with
  | ⟨0, _⟩ => show win0_0.index t 0 * 2048 + r.val = _; rw [(at0 t).1]; rfl
  | ⟨1, _⟩ => show win0_0.index t 1 * 1408 + (y 0).val = _; rw [(at0 t).2]; rfl
theorem iblk1 (t : Fin cfg0.N) (r : Fin 2048) (y : S1408x1024.Idx) :
    iblk m c 1 t (ix2 r (y 1 : Fin 1024)) = grads m c (ix2 (row t.val r) (place (t.val / 4) y 1)) := by
  refine congrArg (m ((c : Thread nD τ).loc main_arg1)) (funext fun a => Fin.ext ?_)
  refine (Window.rect_emb_val win0_1 t (ix2 r (y 1 : Fin 1024)) a).trans ?_
  match a with
  | ⟨0, _⟩ => show win0_1.index t 0 * 2048 + r.val = _; rw [(at1 t).1]; rfl
  | ⟨1, _⟩ => show win0_1.index t 1 * 1024 + (y 1).val = _; rw [(at1 t).2, Nat.zero_mul, Nat.zero_add]; rfl

theorem pay_apply (A : FVec Ideal S1408x1024 .f32) (X : FVec Ideal S2048x1408 .bf16) (D : FVec Ideal S2048x1024 .bf16)
    (j : Fin 1408) (l : Fin 1024) :
    k0_pay2 (F := Ideal) A X D (ix2 j l) = A (ix2 j l) + ∑ r : Fin 2048, X (ix2 r j) * D (ix2 r l) := by
  pointwise [k0_pay2]

theorem step_apply (n : ℕ) (hn : n < cfg0.N) (acc : S1408x1024.Idx → EReal) (y : S1408x1024.Idx) :
    step2 m c n hn acc y = acc y + share (rows m c) (grads m c) n (place (n / 4) y) := by
  obtain ⟨j, l, rfl⟩ : ∃ (j : Fin 1408) (l : Fin 1024), y = ix2 j l := ⟨y 0, y 1, eq_ix2 y⟩
  refine (pay_apply _ _ _ j l).trans (congrArg (_ + ·) (Finset.sum_congr rfl fun r _ => congrArg₂ (· * ·) ?_ ?_))
  · exact iblk0 m c ⟨n, hn⟩ r (ix2 j l)
  · exact iblk1 m c ⟨n, hn⟩ r (ix2 j l)
theorem reset_apply (n : ℕ) (hn : n < cfg0.N) (y : S1408x1024.Idx) :
    reset2 m c n hn y = share (rows m c) (grads m c) n (place (n / 4) y) := by
  refine (step_apply m c n hn (k0_pay1 (F := Ideal)) y).trans ?_
  rw [eq_ix2 y, show k0_pay1 (F := Ideal) (ix2 (y 0) (y 1)) = 0 by pointwise [k0_pay1], zero_add]

theorem array : (dats m 0 c).arrAt 2 cfg0.N = grad (rows m c) (grads m c) := by
  rw [final2]
  funext (i : S2816x1024.Idx)
  have h0 : (i 0).val < 2816 := (i 0).isLt
  have h1 : (i 1).val < 1024 := (i 1).isLt
  unfold G2
  rw [dif_pos (by rw [show cfg0.N = 8 from N_0]; dsimp only [run2Of]; omega)]
  refine (run_eq (rows m c) (grads m c) (reset2 m c) (step2 m c) place (reset_apply m c) (step_apply m c) _ _).trans ?_
  refine congrArg (grad (rows m c) (grads m c)) (funext fun a => Fin.ext ?_)
  match a with
  | ⟨0, _⟩ => show (1 * ((i 0).val / 1408 - 0) + 1 * ((i 1).val / 1024 - 0)) % 2 * 1408 + (i 0).val % 1408 = (i 0).val; omega
  | ⟨1, _⟩ => exact Nat.mod_eq_of_lt h1
end

/-- The two printed programs call the same body. -/
theorem defs_eq : Cert.GradFfn.defs (F := Bits) = Cert.GradFfnIdeal.defs (F := Bits) := by
  refine congrArg (Pipeline.defs _) ?_
  unfold Cert.GradFfn.defs₀ Cert.GradFfnIdeal.defs₀
  congr 1
  funext l
  match l with
  | 0 => rfl

open Cert.GradFfnRefIdeal Cert.GradFfnRefIdeal.Gen in
theorem host (X : FVec Ideal ⟨2, ![8192, 2816]⟩ .bf16) (D : FVec Ideal ⟨2, ![8192, 1024]⟩ .bf16)
    (hb : FTy.bits .bf16 < FTy.bits .f32) :
    (Host.dotGeneral dot_S2816x8192_S8192x1024_S2816x1024_1_0_0_1_n_n none (transpose ⟨2, ![2816, 8192]⟩ [1, 0]
      (extf .f32 X hb) transposes_S8192x2816_S2816x8192_1_0) (extf .f32 D hb) : FVec Ideal ⟨2, ![2816, 1024]⟩ .f32) = grad X D := by
  funext i
  rw [eq_ix2 i]
  pointwise [grad]

theorem frame : Cert.quiescent_GradFfn := fun m ρ _ => by
  have h := Cert.GradFfnIdeal.Gen.frame (F := Bits) m ρ
  rw [← defs_eq] at h
  exact h
theorem frame_ideal : Cert.quiescent_GradFfnIdeal := fun m ρ _ => Cert.GradFfnIdeal.Gen.frame (F := Ideal) m ρ
theorem frame_ref_ideal : Cert.quiescent_GradFfnRefIdeal := fun m ρ _ =>
  (θ_run Cert.GradFfnRefIdeal.defs _ _).mono (fun r h => ⟨fun c => (h c).2, sem_eq_zero_of_no_sems (by decide) r.2⟩)
    (Cert.GradFfnRefIdeal.Value.run (F := Ideal) m ρ)

theorem algebraic : Cert.algebraic_GradFfnIdeal_GradFfnRefIdeal := fun m ρ m' ρ' _ h =>
  ⟨_,
    (θ_run Cert.GradFfnIdeal.defs _ _).mono (fun _ hr c => ⟨(hr c).1.trans (array m c), (hr c).2⟩)
      (Cert.GradFfnIdeal.Value.run_blocks (F := Ideal) m ρ),
    (θ_run Cert.GradFfnRefIdeal.defs _ _).mono (fun _ hr c =>
      ⟨(hr c).1.trans ((host _ _ _).trans (congrArg₂ grad (h c).1 (h c).2)), (hr c).2⟩)
      (Cert.GradFfnRefIdeal.Value.run (F := Ideal) m' ρ')⟩

end Cert.Proof.GradFfn

end
-- ==== Proof.GradOut.lean ====
/-
  The gradient of the output projection's weight: one run of four points over the whole of it.
-/
module

public import proofs.«01_k».proof.Defs
public import proofs.«01_k».proof.Proof.Grad
public import proofs.«01_k».proof.Proof.Gen.GradOut
public import proofs.«01_k».proof.Proof.Gen.GradOutIdeal.Value
public import proofs.«01_k».proof.Proof.Gen.GradOutRefIdeal.Run
public import Idealize.ShloMosaic.Lib.Pipeline.ValueKit
public import Idealize.ShloMosaic.Lib.Pointwise
public import Idealize.ShloMosaic.Lib.Quiescent

@[expose] public section

noncomputable section

namespace Cert.Proof.GradOut

open Idealize.ShloMosaic Idealize.ShloMosaic.TcCoe Idealize.SL.Sem Idealize.ShloMosaic.Pipeline
open Cert.GradOutIdeal Cert.GradOutIdeal.Gen Cert.GradOutIdeal.Value Cert.Proof.Grad

section
variable (m : (ℓ : Loc nD τ sig) → Buf (Elt Ideal) ℓ) (c : Dev nD)

/-- The rows that the weight multiplied, and the gradients of the products. -/
abbrev rows : S8192x1024.Idx → EReal := m ((c : Thread nD τ).loc main_arg0)
abbrev grads : S8192x1024.Idx → EReal := m ((c : Thread nD τ).loc main_arg1)

/-- A point's block is the whole. -/
abbrev place (_ : ℕ) (y : S1024x1024.Idx) : S1024x1024.Idx := y

theorem at0 : ∀ t : Fin cfg0.N, win0_0.index t 0 = t.val % 4 ∧ win0_0.index t 1 = 0 := by decide
theorem at1 : ∀ t : Fin cfg0.N, win0_1.index t 0 = t.val % 4 ∧ win0_1.index t 1 = 0 := by decide

theorem iblk0 (t : Fin cfg0.N) (r : Fin 2048) (y : S1024x1024.Idx) :
    iblk m c 0 t (ix2 r (y 0 : Fin 1024)) = rows m c (ix2 (row t.val r) (place (t.val / 4) y 0)) := by
  refine congrArg (m ((c : Thread nD τ).loc main_arg0)) (funext fun a => Fin.ext ?_)
  refine (Window.rect_emb_val win0_0 t (ix2 r (y 0 : Fin 1024)) a).trans ?_
  match a with
  | ⟨0, _⟩ => show win0_0.index t 0 * 2048 + r.val = _; rw [(at0 t).1]; rfl
  | ⟨1, _⟩ => show win0_0.index t 1 * 1024 + (y 0).val = _; rw [(at0 t).2, Nat.zero_mul, Nat.zero_add]; rfl
theorem iblk1 (t : Fin cfg0.N) (r : Fin 2048) (y : S1024x1024.Idx) :
    iblk m c 1 t (ix2 r (y 1 : Fin 1024)) = grads m c (ix2 (row t.val r) (place (t.val / 4) y 1)) := by
  refine congrArg (m ((c : Thread nD τ).loc main_arg1)) (funext fun a => Fin.ext ?_)
  refine (Window.rect_emb_val win0_1 t (ix2 r (y 1 : Fin 1024)) a).trans ?_
  match a with
  | ⟨0, _⟩ => show win0_1.index t 0 * 2048 + r.val = _; rw [(at1 t).1]; rfl
  | ⟨1, _⟩ => show win0_1.index t 1 * 1024 + (y 1).val = _; rw [(at1 t).2, Nat.zero_mul, Nat.zero_add]; rfl

theorem pay_apply (A : FVec Ideal S1024x1024 .f32) (X : FVec Ideal S2048x1024 .bf16) (D : FVec Ideal S2048x1024 .bf16)
    (j : Fin 1024) (l : Fin 1024) :
    k0_pay2 (F := Ideal) A X D (ix2 j l) = A (ix2 j l) + ∑ r : Fin 2048, X (ix2 r j) * D (ix2 r l) := by
  pointwise [k0_pay2]

theorem step_apply (n : ℕ) (hn : n < cfg0.N) (acc : S1024x1024.Idx → EReal) (y : S1024x1024.Idx) :
    step2 m c n hn acc y = acc y + share (rows m c) (grads m c) n (place (n / 4) y) := by
  obtain ⟨j, l, rfl⟩ : ∃ (j : Fin 1024) (l : Fin 1024), y = ix2 j l := ⟨y 0, y 1, eq_ix2 y⟩
  refine (pay_apply _ _ _ j l).trans (congrArg (_ + ·) (Finset.sum_congr rfl fun r _ => congrArg₂ (· * ·) ?_ ?_))
  · exact iblk0 m c ⟨n, hn⟩ r (ix2 j l)
  · exact iblk1 m c ⟨n, hn⟩ r (ix2 j l)
theorem reset_apply (n : ℕ) (hn : n < cfg0.N) (y : S1024x1024.Idx) :
    reset2 m c n hn y = share (rows m c) (grads m c) n (place (n / 4) y) := by
  refine (step_apply m c n hn (k0_pay1 (F := Ideal)) y).trans ?_
  rw [eq_ix2 y, show k0_pay1 (F := Ideal) (ix2 (y 0) (y 1)) = 0 by pointwise [k0_pay1], zero_add]

theorem array : (dats m 0 c).arrAt 2 cfg0.N = grad (rows m c) (grads m c) := by
  rw [final2]
  funext (i : S1024x1024.Idx)
  have h0 : (i 0).val < 1024 := (i 0).isLt
  have h1 : (i 1).val < 1024 := (i 1).isLt
  unfold G2
  rw [dif_pos (by rw [show cfg0.N = 4 from N_0]; dsimp only [run2Of]; omega)]
  refine (run_eq (rows m c) (grads m c) (reset2 m c) (step2 m c) place (reset_apply m c) (step_apply m c) _ _).trans ?_
  refine congrArg (grad (rows m c) (grads m c)) (funext fun a => Fin.ext ?_)
  match a with
  | ⟨0, _⟩ => exact Nat.mod_eq_of_lt h0
  | ⟨1, _⟩ => exact Nat.mod_eq_of_lt h1
end

/-- The two printed programs call the same body. -/
theorem defs_eq : Cert.GradOut.defs (F := Bits) = Cert.GradOutIdeal.defs (F := Bits) := by
  refine congrArg (Pipeline.defs _) ?_
  unfold Cert.GradOut.defs₀ Cert.GradOutIdeal.defs₀
  congr 1
  funext l
  match l with
  | 0 => rfl

open Cert.GradOutRefIdeal Cert.GradOutRefIdeal.Gen in
theorem host (X : FVec Ideal ⟨2, ![8192, 1024]⟩ .bf16) (D : FVec Ideal ⟨2, ![8192, 1024]⟩ .bf16)
    (hb : FTy.bits .bf16 < FTy.bits .f32) :
    (Host.dotGeneral dot_S1024x8192_S8192x1024_S1024x1024_1_0_0_1_n_n none (transpose ⟨2, ![1024, 8192]⟩ [1, 0]
      (extf .f32 X hb) transposes_S8192x1024_S1024x8192_1_0) (extf .f32 D hb) : FVec Ideal ⟨2, ![1024, 1024]⟩ .f32) = grad X D := by
  funext i
  rw [eq_ix2 i]
  pointwise [grad]

theorem frame : Cert.quiescent_GradOut := fun m ρ _ => by
  have h := Cert.GradOutIdeal.Gen.frame (F := Bits) m ρ
  rw [← defs_eq] at h
  exact h
theorem frame_ideal : Cert.quiescent_GradOutIdeal := fun m ρ _ => Cert.GradOutIdeal.Gen.frame (F := Ideal) m ρ
theorem frame_ref_ideal : Cert.quiescent_GradOutRefIdeal := fun m ρ _ =>
  (θ_run Cert.GradOutRefIdeal.defs _ _).mono (fun r h => ⟨fun c => (h c).2, sem_eq_zero_of_no_sems (by decide) r.2⟩)
    (Cert.GradOutRefIdeal.Value.run (F := Ideal) m ρ)

theorem algebraic : Cert.algebraic_GradOutIdeal_GradOutRefIdeal := fun m ρ m' ρ' _ h =>
  ⟨_,
    (θ_run Cert.GradOutIdeal.defs _ _).mono (fun _ hr c => ⟨(hr c).1.trans (array m c), (hr c).2⟩)
      (Cert.GradOutIdeal.Value.run_blocks (F := Ideal) m ρ),
    (θ_run Cert.GradOutRefIdeal.defs _ _).mono (fun _ hr c =>
      ⟨(hr c).1.trans ((host _ _ _).trans (congrArg₂ grad (h c).1 (h c).2)), (hr c).2⟩)
      (Cert.GradOutRefIdeal.Value.run (F := Ideal) m' ρ')⟩

end Cert.Proof.GradOut

end
-- ==== Proof.GradProj.lean ====
/-
  The gradient of a branch's projection's weight: one run of four points over the whole of it.
-/
module

public import proofs.«01_k».proof.Defs
public import proofs.«01_k».proof.Proof.Grad
public import proofs.«01_k».proof.Proof.Gen.GradProj
public import proofs.«01_k».proof.Proof.Gen.GradProjIdeal.Value
public import proofs.«01_k».proof.Proof.Gen.GradProjRefIdeal.Run
public import Idealize.ShloMosaic.Lib.Pipeline.ValueKit
public import Idealize.ShloMosaic.Lib.Pointwise
public import Idealize.ShloMosaic.Lib.Quiescent

@[expose] public section

noncomputable section

namespace Cert.Proof.GradProj

open Idealize.ShloMosaic Idealize.ShloMosaic.TcCoe Idealize.SL.Sem Idealize.ShloMosaic.Pipeline
open Cert.GradProjIdeal Cert.GradProjIdeal.Gen Cert.GradProjIdeal.Value Cert.Proof.Grad

section
variable (m : (ℓ : Loc nD τ sig) → Buf (Elt Ideal) ℓ) (c : Dev nD)

/-- The rows that the weight multiplied, and the gradients of the products. -/
abbrev rows : S8192x1024.Idx → EReal := m ((c : Thread nD τ).loc main_arg0)
abbrev grads : S8192x512.Idx → EReal := m ((c : Thread nD τ).loc main_arg1)

/-- A point's block is the whole. -/
abbrev place (_ : ℕ) (y : S1024x512.Idx) : S1024x512.Idx := y

theorem at0 : ∀ t : Fin cfg0.N, win0_0.index t 0 = t.val % 4 ∧ win0_0.index t 1 = 0 := by decide
theorem at1 : ∀ t : Fin cfg0.N, win0_1.index t 0 = t.val % 4 ∧ win0_1.index t 1 = 0 := by decide

theorem iblk0 (t : Fin cfg0.N) (r : Fin 2048) (y : S1024x512.Idx) :
    iblk m c 0 t (ix2 r (y 0 : Fin 1024)) = rows m c (ix2 (row t.val r) (place (t.val / 4) y 0)) := by
  refine congrArg (m ((c : Thread nD τ).loc main_arg0)) (funext fun a => Fin.ext ?_)
  refine (Window.rect_emb_val win0_0 t (ix2 r (y 0 : Fin 1024)) a).trans ?_
  match a with
  | ⟨0, _⟩ => show win0_0.index t 0 * 2048 + r.val = _; rw [(at0 t).1]; rfl
  | ⟨1, _⟩ => show win0_0.index t 1 * 1024 + (y 0).val = _; rw [(at0 t).2, Nat.zero_mul, Nat.zero_add]; rfl
theorem iblk1 (t : Fin cfg0.N) (r : Fin 2048) (y : S1024x512.Idx) :
    iblk m c 1 t (ix2 r (y 1 : Fin 512)) = grads m c (ix2 (row t.val r) (place (t.val / 4) y 1)) := by
  refine congrArg (m ((c : Thread nD τ).loc main_arg1)) (funext fun a => Fin.ext ?_)
  refine (Window.rect_emb_val win0_1 t (ix2 r (y 1 : Fin 512)) a).trans ?_
  match a with
  | ⟨0, _⟩ => show win0_1.index t 0 * 2048 + r.val = _; rw [(at1 t).1]; rfl
  | ⟨1, _⟩ => show win0_1.index t 1 * 512 + (y 1).val = _; rw [(at1 t).2, Nat.zero_mul, Nat.zero_add]; rfl

theorem pay_apply (A : FVec Ideal S1024x512 .f32) (X : FVec Ideal S2048x1024 .bf16) (D : FVec Ideal S2048x512 .bf16)
    (j : Fin 1024) (l : Fin 512) :
    k0_pay2 (F := Ideal) A X D (ix2 j l) = A (ix2 j l) + ∑ r : Fin 2048, X (ix2 r j) * D (ix2 r l) := by
  pointwise [k0_pay2]

theorem step_apply (n : ℕ) (hn : n < cfg0.N) (acc : S1024x512.Idx → EReal) (y : S1024x512.Idx) :
    step2 m c n hn acc y = acc y + share (rows m c) (grads m c) n (place (n / 4) y) := by
  obtain ⟨j, l, rfl⟩ : ∃ (j : Fin 1024) (l : Fin 512), y = ix2 j l := ⟨y 0, y 1, eq_ix2 y⟩
  refine (pay_apply _ _ _ j l).trans (congrArg (_ + ·) (Finset.sum_congr rfl fun r _ => congrArg₂ (· * ·) ?_ ?_))
  · exact iblk0 m c ⟨n, hn⟩ r (ix2 j l)
  · exact iblk1 m c ⟨n, hn⟩ r (ix2 j l)
theorem reset_apply (n : ℕ) (hn : n < cfg0.N) (y : S1024x512.Idx) :
    reset2 m c n hn y = share (rows m c) (grads m c) n (place (n / 4) y) := by
  refine (step_apply m c n hn (k0_pay1 (F := Ideal)) y).trans ?_
  rw [eq_ix2 y, show k0_pay1 (F := Ideal) (ix2 (y 0) (y 1)) = 0 by pointwise [k0_pay1], zero_add]

theorem array : (dats m 0 c).arrAt 2 cfg0.N = grad (rows m c) (grads m c) := by
  rw [final2]
  funext (i : S1024x512.Idx)
  have h0 : (i 0).val < 1024 := (i 0).isLt
  have h1 : (i 1).val < 512 := (i 1).isLt
  unfold G2
  rw [dif_pos (by rw [show cfg0.N = 4 from N_0]; dsimp only [run2Of]; omega)]
  refine (run_eq (rows m c) (grads m c) (reset2 m c) (step2 m c) place (reset_apply m c) (step_apply m c) _ _).trans ?_
  refine congrArg (grad (rows m c) (grads m c)) (funext fun a => Fin.ext ?_)
  match a with
  | ⟨0, _⟩ => exact Nat.mod_eq_of_lt h0
  | ⟨1, _⟩ => exact Nat.mod_eq_of_lt h1
end

/-- The two printed programs call the same body. -/
theorem defs_eq : Cert.GradProj.defs (F := Bits) = Cert.GradProjIdeal.defs (F := Bits) := by
  refine congrArg (Pipeline.defs _) ?_
  unfold Cert.GradProj.defs₀ Cert.GradProjIdeal.defs₀
  congr 1
  funext l
  match l with
  | 0 => rfl

open Cert.GradProjRefIdeal Cert.GradProjRefIdeal.Gen in
theorem host (X : FVec Ideal ⟨2, ![8192, 1024]⟩ .bf16) (D : FVec Ideal ⟨2, ![8192, 512]⟩ .bf16)
    (hb : FTy.bits .bf16 < FTy.bits .f32) :
    (Host.dotGeneral dot_S1024x8192_S8192x512_S1024x512_1_0_0_1_n_n none (transpose ⟨2, ![1024, 8192]⟩ [1, 0]
      (extf .f32 X hb) transposes_S8192x1024_S1024x8192_1_0) (extf .f32 D hb) : FVec Ideal ⟨2, ![1024, 512]⟩ .f32) = grad X D := by
  funext i
  rw [eq_ix2 i]
  pointwise [grad]

theorem frame : Cert.quiescent_GradProj := fun m ρ _ => by
  have h := Cert.GradProjIdeal.Gen.frame (F := Bits) m ρ
  rw [← defs_eq] at h
  exact h
theorem frame_ideal : Cert.quiescent_GradProjIdeal := fun m ρ _ => Cert.GradProjIdeal.Gen.frame (F := Ideal) m ρ
theorem frame_ref_ideal : Cert.quiescent_GradProjRefIdeal := fun m ρ _ =>
  (θ_run Cert.GradProjRefIdeal.defs _ _).mono (fun r h => ⟨fun c => (h c).2, sem_eq_zero_of_no_sems (by decide) r.2⟩)
    (Cert.GradProjRefIdeal.Value.run (F := Ideal) m ρ)

theorem algebraic : Cert.algebraic_GradProjIdeal_GradProjRefIdeal := fun m ρ m' ρ' _ h =>
  ⟨_,
    (θ_run Cert.GradProjIdeal.defs _ _).mono (fun _ hr c => ⟨(hr c).1.trans (array m c), (hr c).2⟩)
      (Cert.GradProjIdeal.Value.run_blocks (F := Ideal) m ρ),
    (θ_run Cert.GradProjRefIdeal.defs _ _).mono (fun _ hr c =>
      ⟨(hr c).1.trans ((host _ _ _).trans (congrArg₂ grad (h c).1 (h c).2)), (hr c).2⟩)
      (Cert.GradProjRefIdeal.Value.run (F := Ideal) m' ρ')⟩

end Cert.Proof.GradProj

end
-- ==== Proof.Ffn.lean ====
/-
  The gate and the upward projection with their SwiGLU product: each of 16 points has 512 rows, and writes the columns
  in two halves.
-/
module

public import proofs.«01_k».proof.Defs
public import proofs.«01_k».proof.Proof.Gen.Ffn
public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Quiescent

@[expose] public section

noncomputable section

namespace Cert.Proof.Ffn

open Idealize.ShloMosaic Idealize.ShloMosaic.TcCoe Idealize.SL.Sem Idealize.ShloMosaic.Pipeline

/-- A row times a row of a weight, -/
def along {n : ℕ} (h : (⟨2, ![n, 1024]⟩ : Shape).Idx → EReal) (w : (⟨2, ![2816, 1024]⟩ : Shape).Idx → EReal)
    (i : (⟨2, ![n, 2816]⟩ : Shape).Idx) : EReal :=
  ∑ k : Fin 1024, h (ix2 (i 0) k) * w (ix2 (i 1) k)
/-- and the product of the two, the first through the sigmoid too. -/
def act (g u : EReal) : EReal := g * Ideal.div 1 (1 + Ideal.exp (-g)) * u
def gated {n : ℕ} (h : (⟨2, ![n, 1024]⟩ : Shape).Idx → EReal) (w v : (⟨2, ![2816, 1024]⟩ : Shape).Idx → EReal)
    (i : (⟨2, ![n, 2816]⟩ : Shape).Idx) : EReal :=
  act (along h w i) (along h v i)

section reference
open Cert.FfnRefIdeal Cert.FfnRefIdeal.Gen

variable (H : FVec Ideal S8192x1024 .bf16) (W V : FVec Ideal S2816x1024 .bf16)

def refDot : FVec Ideal S8192x2816 .f32 :=
  Host.dotGeneral dot_S8192x1024_S1024x2816_S8192x2816_1_0_0_1_n_n none (extf .f32 H bitsLt_bf16_f32) (transpose S1024x2816 [1, 0] (extf .f32 W bitsLt_bf16_f32) transposes_S2816x1024_S1024x2816_1_0)

theorem refDot_apply (r : Fin 8192) (j : Fin 2816) : refDot H W (ix2 r j) = along H W (ix2 r j) := by
  pointwise [refDot, along]

theorem ref_along : truncf .bf16 (refDot H W) bitsLt_bf16_f32 = along H W := by
  funext i
  rw [eq_ix2 i]
  exact refDot_apply H W _ _

def refGated : FVec Ideal S8192x2816 .bf16 :=
  truncf .bf16 (mulf (mulf (refDot H W) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (refDot H W)))))) (refDot H V)) bitsLt_bf16_f32

theorem ref_gated : refGated H W V = gated H W V := by
  funext i
  rw [gated, ← (refDot_apply H W (i 0) (i 1)).trans (congrArg _ (eq_ix2 i).symm), ← (refDot_apply H V (i 0) (i 1)).trans (congrArg _ (eq_ix2 i).symm), ← eq_ix2 i]
  pointwise [refGated, act]
end reference

open Cert.FfnIdeal Cert.FfnIdeal.Gen

section payloads
variable (h : FVec Ideal S512x1024 .bf16) (w v : FVec Ideal S1408x1024 .bf16) (r : Fin 512) (j : Fin 1408)

/-- The product with half of a weight. -/
abbrev part : EReal := ∑ k : Fin 1024, h (ix2 r k) * w (ix2 j k)

theorem pay3_apply : k0_pay3 (F := Ideal) h w (ix2 r j) = part h w r j := by pointwise [k0_pay3, part]
theorem pay4_apply : k0_pay4 (F := Ideal) h w (ix2 r j) = part h w r j := by pointwise [k0_pay4, part]
theorem pay8_apply : k0_pay8 (F := Ideal) h w (ix2 r j) = part h w r j := by pointwise [k0_pay8, part]
theorem pay9_apply : k0_pay9 (F := Ideal) h w (ix2 r j) = part h w r j := by pointwise [k0_pay9, part]
theorem pay5_apply : k0_pay5 (F := Ideal) h w (ix2 r j) = part h w r j := by pointwise [k0_pay5, pay3_apply]
theorem pay6_apply : k0_pay6 (F := Ideal) h w (ix2 r j) = part h w r j := by pointwise [k0_pay6, pay4_apply]
theorem pay10_apply : k0_pay10 (F := Ideal) h w (ix2 r j) = part h w r j := by pointwise [k0_pay10, pay8_apply]
theorem pay1_apply : k0_pay1 (F := Ideal) (k0_pay11 h w) (ix2 r j) = part h w r j := by
  pointwise [k0_pay1, k0_pay11, pay9_apply]
theorem pay7_apply : k0_pay7 (F := Ideal) h w v (ix2 r j) = act (part h w r j) (part h v r j) := by
  pointwise [k0_pay7, pay3_apply, pay4_apply, act]
  rfl
theorem pay2_apply : k0_pay2 (F := Ideal) (k0_pay8 h w) (k0_pay9 h v) (ix2 r j) = act (part h w r j) (part h v r j) := by
  pointwise [k0_pay2, pay8_apply, pay9_apply, act]
  rfl
end payloads

section body
variable (x : Vec Ideal S512x1024 .bf16) (w v : Vec Ideal S2816x1024 .bf16)

/-- A load of half of a weight's rows from row `o` on. -/
theorem part_ld (o : ℕ) (inb) (y : S512x2816.Idx) (r : Fin 512) (j : Fin 1408) (h0 : (y 0).val = r.val) (h1 : (y 1).val = o + j.val) :
    part (View.ld x r0_0) (View.ld w (Rect.unit (s := S2816x1024) ![o, 0] S1408x1024.size inb)) r j = along x w y := by
  refine Finset.sum_congr rfl fun k _ => congrArg₂ (· * ·) ?_ ?_
  · refine View.ld_unit_apply_of x _ _ _ _ _ fun a => ?_
    match a with
    | ⟨0, _⟩ => exact h0.trans (Nat.zero_add _).symm
    | ⟨1, _⟩ => exact (Nat.zero_add _).symm
  · refine View.ld_unit_apply_of w _ _ _ _ _ fun a => ?_
    match a with
    | ⟨0, _⟩ => exact h1
    | ⟨1, _⟩ => exact (Nat.zero_add _).symm

theorem out3 (y : S512x2816.Idx) : out0_3 (F := Ideal) x w v y = along x w y := by
  canon_tiles z h
  · rw [eq_ix2 z]; exact (pay10_apply _ _ _ _).trans (part_ld x w 1408 _ y _ _ h0 h1)
  · rw [eq_ix2 z]; exact (pay5_apply _ _ _ _).trans (part_ld x w 0 _ y _ _ h0 (h1.trans (Nat.zero_add _).symm))
theorem out4 (y : S512x2816.Idx) : out0_4 (F := Ideal) x w v y = along x v y := by
  canon_tiles z h
  · rw [eq_ix2 z]; exact (pay1_apply _ _ _ _).trans (part_ld x v 1408 _ y _ _ h0 h1)
  · rw [eq_ix2 z]; exact (pay6_apply _ _ _ _).trans (part_ld x v 0 _ y _ _ h0 (h1.trans (Nat.zero_add _).symm))
theorem out5 (y : S512x2816.Idx) : out0_5 (F := Ideal) x w v y = gated x w v y := by
  canon_tiles z h
  · rw [eq_ix2 z]
    exact (pay2_apply _ _ _ _ _).trans (congrArg₂ act (part_ld x w 1408 _ y _ _ h0 h1) (part_ld x v 1408 _ y _ _ h0 h1))
  · rw [eq_ix2 z]
    have h1' := h1.trans (Nat.zero_add _).symm
    exact (pay7_apply _ _ _ _ _).trans (congrArg₂ act (part_ld x w 0 _ y _ _ h0 h1') (part_ld x v 0 _ y _ _ h0 h1'))
end body

section
variable (m : (ℓ : Loc nD τ sig) → Buf (Elt Ideal) ℓ) (c : Dev nD)

abbrev rows := m ((c : Thread nD τ).loc main_arg0)
abbrev gate := m ((c : Thread nD τ).loc main_arg1)
abbrev up := m ((c : Thread nD τ).loc main_arg2)

/-- Row `r` of a point's tile, among all. -/
abbrev row (t : Fin cfg0.N) (r : Fin 512) : Fin 8192 := ⟨t.val * 512 + r.val, by have := lt_of_lt_of_eq t.isLt (show cfg0.N = 16 from N_0); omega⟩

theorem at0 : ∀ t : Fin cfg0.N, win0_0.index t 0 = t.val ∧ win0_0.index t 1 = 0 := by decide
theorem at1 : ∀ t : Fin cfg0.N, win0_1.index t 0 = 0 ∧ win0_1.index t 1 = 0 := by decide
theorem at2 : ∀ t : Fin cfg0.N, win0_2.index t 0 = 0 ∧ win0_2.index t 1 = 0 := by decide

theorem iblk0 (t : Fin cfg0.N) (r : Fin 512) (k : Fin 1024) : iblk m c 0 t (ix2 r k) = rows m c (ix2 (row t r) k) := by
  blk_ext [iblk, V, at0 t]
theorem iblk1 (t : Fin cfg0.N) (j : Fin 2816) (k : Fin 1024) : iblk m c 1 t (ix2 j k) = gate m c (ix2 j k) := by
  blk_ext [iblk, V, at1 t]
theorem iblk2 (t : Fin cfg0.N) (j : Fin 2816) (k : Fin 1024) : iblk m c 2 t (ix2 j k) = up m c (ix2 j k) := by
  blk_ext [iblk, V, at2 t]

theorem along1 (t : Fin cfg0.N) (r : Fin 512) (j : Fin 2816) :
    along (iblk m c 0 t) (iblk m c 1 t) (ix2 r j) = along (rows m c) (gate m c) (ix2 (row t r) j) :=
  Finset.sum_congr rfl fun k _ => congrArg₂ (· * ·) (iblk0 m c t r k) (iblk1 m c t j k)
theorem along2 (t : Fin cfg0.N) (r : Fin 512) (j : Fin 2816) :
    along (iblk m c 0 t) (iblk m c 2 t) (ix2 r j) = along (rows m c) (up m c) (ix2 (row t r) j) :=
  Finset.sum_congr rfl fun k _ => congrArg₂ (· * ·) (iblk0 m c t r k) (iblk2 m c t j k)

theorem at3 : ∀ t : Fin cfg0.N, win0_3.index t 0 = t.val ∧ win0_3.index t 1 = 0 := by decide
theorem at4 : ∀ t : Fin cfg0.N, win0_4.index t 0 = t.val ∧ win0_4.index t 1 = 0 := by decide
theorem at5 : ∀ t : Fin cfg0.N, win0_5.index t 0 = t.val ∧ win0_5.index t 1 = 0 := by decide

/-- Where a point leaves its rows of each result. -/
theorem emb3 (t : Fin cfg0.N) (r : Fin 512) (j : Fin 2816) : ((cfg0.win 3).blk t).view.emb (ix2 r j) = (ix2 (row t r) j : S8192x2816.Idx) := by
  blk_ext [at3 t]
theorem emb4 (t : Fin cfg0.N) (r : Fin 512) (j : Fin 2816) : ((cfg0.win 4).blk t).view.emb (ix2 r j) = (ix2 (row t r) j : S8192x2816.Idx) := by
  blk_ext [at4 t]
theorem emb5 (t : Fin cfg0.N) (r : Fin 512) (j : Fin 2816) : ((cfg0.win 5).blk t).view.emb (ix2 r j) = (ix2 (row t r) j : S8192x2816.Idx) := by
  blk_ext [at5 t]

theorem gates : (dats m 0 c).arrAt 3 cfg0.N = along (rows m c) (gate m c) := by
  refine (dats m 0 c).arrAt_eq_of_covers 3 _ (by decide +kernel) fun t hf y => ?_
  rw [after0_3, out3]
  obtain ⟨r, j, rfl⟩ : ∃ (r : Fin 512) (j : Fin 2816), y = ix2 r j := ⟨y 0, y 1, eq_ix2 y⟩
  blk_simp
  exact (along1 m c t r j).trans (congrArg (along (rows m c) (gate m c)) (emb3 t r j).symm)
theorem ups : (dats m 0 c).arrAt 4 cfg0.N = along (rows m c) (up m c) := by
  refine (dats m 0 c).arrAt_eq_of_covers 4 _ (by decide +kernel) fun t hf y => ?_
  rw [after0_4, out4]
  obtain ⟨r, j, rfl⟩ : ∃ (r : Fin 512) (j : Fin 2816), y = ix2 r j := ⟨y 0, y 1, eq_ix2 y⟩
  blk_simp
  exact (along2 m c t r j).trans (congrArg (along (rows m c) (up m c)) (emb4 t r j).symm)
theorem products : (dats m 0 c).arrAt 5 cfg0.N = gated (rows m c) (gate m c) (up m c) := by
  refine (dats m 0 c).arrAt_eq_of_covers 5 _ (by decide +kernel) fun t hf y => ?_
  rw [after0_5, out5]
  obtain ⟨r, j, rfl⟩ : ∃ (r : Fin 512) (j : Fin 2816), y = ix2 r j := ⟨y 0, y 1, eq_ix2 y⟩
  blk_simp
  exact (congrArg₂ act (along1 m c t r j) (along2 m c t r j)).trans (congrArg (gated (rows m c) (gate m c) (up m c)) (emb5 t r j).symm)
end

/-- The two printed programs call the same body. -/
theorem defs_eq : Cert.Ffn.defs (F := Bits) = Cert.FfnIdeal.defs (F := Bits) := by
  refine congrArg (Pipeline.defs _) ?_
  unfold Cert.Ffn.defs₀ Cert.FfnIdeal.defs₀
  congr 1
  funext l
  match l with
  | 0 => rfl

theorem frame : Cert.quiescent_Ffn := fun m ρ _ => by
  have h := Cert.FfnIdeal.Gen.frame (F := Bits) m ρ
  rw [← defs_eq] at h
  exact h
theorem frame_ideal : Cert.quiescent_FfnIdeal := fun m ρ _ => Cert.FfnIdeal.Gen.frame (F := Ideal) m ρ
theorem frame_ref_ideal : Cert.quiescent_FfnRefIdeal := fun m ρ _ =>
  (θ_run Cert.FfnRefIdeal.defs _ _).mono (fun r h => ⟨fun c => (h c).2.2.2, sem_eq_zero_of_no_sems (by decide) r.2⟩)
    (Cert.FfnRefIdeal.Value.run (F := Ideal) m ρ)

theorem algebraic : Cert.algebraic_FfnIdeal_FfnRefIdeal := fun m ρ m' ρ' _ h =>
  ⟨_, _, _,
    (θ_run Cert.FfnIdeal.defs _ _).mono
      (fun _ hr c => ⟨(hr c).1.trans (gates m c), (hr c).2.1.trans (ups m c), (hr c).2.2.1.trans (products m c), (hr c).2.2.2⟩)
      (Cert.FfnIdeal.Value.run_blocks (F := Ideal) m ρ),
    (θ_run Cert.FfnRefIdeal.defs _ _).mono (fun _ hr c =>
      ⟨(hr c).1.trans ((ref_along _ _).trans (congrArg₂ along (h c).1 (h c).2.1)),
        (hr c).2.1.trans ((ref_along _ _).trans (congrArg₂ along (h c).1 (h c).2.2)),
        (hr c).2.2.1.trans ((ref_gated _ _ _).trans (by rw [(h c).1, (h c).2.1, (h c).2.2])), (hr c).2.2.2⟩)
      (Cert.FfnRefIdeal.Value.run (F := Ideal) m' ρ')⟩

end Cert.Proof.Ffn

end
-- ==== Proof.Loss.lean ====
/-
  The downward projection of the feed-forward layer with the final norm and the loss: 16 tiles of 512 rows, over which the
  loss and the gradient of the norm's scale are summed.
-/
module

public import proofs.«01_k».proof.Defs
public import proofs.«01_k».proof.Proof.Gen.Loss
public import proofs.«01_k».proof.Proof.Gen.LossIdeal.Value
public import proofs.«01_k».proof.Proof.Gen.LossRefIdeal.Run
public import Idealize.ShloMosaic.Lib.Pipeline.ValueKit
public import Idealize.ShloMosaic.Lib.Pointwise
public import Idealize.ShloMosaic.Lib.Quiescent

@[expose] public section

noncomputable section

namespace Cert.Proof.Loss

open Idealize.ShloMosaic Idealize.ShloMosaic.TcCoe Idealize.SL.Sem Idealize.ShloMosaic.Pipeline

/-! ## One row -/

/-- A row after the layer: what the residual was, and the products with the weight. -/
def sum (x : Fin 1024 → EReal) (f : Fin 2816 → EReal) (w : Fin 2816 → Fin 1024 → EReal) (l : Fin 1024) : EReal :=
  x l + ∑ k, f k * w k l
/-- One over the root mean square of a row. -/
def inv (x : Fin 1024 → EReal) : EReal :=
  Ideal.rsqrt (Ideal.div (∑ k, x k * x k) (Ideal.ofBits .f32 0x44800000#32) + Ideal.ofBits .f32 0x358637BD#32)
/-- The error of the scaled row, -/
def err (x g u : Fin 1024 → EReal) (l : Fin 1024) : EReal := x l * inv x * g l - u l
/-- the gradient of the loss at the scaled row, -/
def slope (x g u : Fin 1024 → EReal) (l : Fin 1024) : EReal := err x g u l * Ideal.ofBits .f32 0x3A800000#32
/-- and at the row before the norm. -/
def back (x g u : Fin 1024 → EReal) (l : Fin 1024) : EReal :=
  inv x * (slope x g u l * g l
    - x l * inv x * Ideal.div (∑ k, slope x g u k * g k * (x k * inv x)) (Ideal.ofBits .f32 0x44800000#32))
/-- A row's share in the loss before its constant, and in the scale's gradient. -/
def square (x g u : Fin 1024 → EReal) (l : Fin 1024) : EReal := err x g u l * err x g u l
def scale (x g u : Fin 1024 → EReal) (l : Fin 1024) : EReal := slope x g u l * (x l * inv x)

/-- Half of one over the row's length: the loss's constant. -/
abbrev half : EReal := Ideal.ofBits .f32 0x3A000000#32

theorem square_nonneg (x g u : Fin 1024 → EReal) (l : Fin 1024) : 0 ≤ square x g u l :=
  EReal.mul_nonneg_iff.mpr ((le_total 0 (err x g u l)).imp (fun h => ⟨h, h⟩) fun h => ⟨h, h⟩)

/-- A factor goes into a sum of terms that are not negative. -/
theorem sum_mul {ι : Type} (s : Finset ι) (f : ι → EReal) (h : ∀ i, 0 ≤ f i) (a : EReal) :
    (∑ i ∈ s, f i) * a = ∑ i ∈ s, f i * a := by
  classical
  induction s using Finset.induction_on with
  | empty => simp
  | insert i s hi ih =>
    rw [Finset.sum_insert hi, Finset.sum_insert hi, EReal.right_distrib_of_nonneg (h i) (Finset.sum_nonneg fun j _ => h j), ih]

/-! ## The arrays -/

section
variable (f : (⟨2, ![8192, 2816]⟩ : Shape).Idx → EReal) (w : (⟨2, ![2816, 1024]⟩ : Shape).Idx → EReal)
  (x u : (⟨2, ![8192, 1024]⟩ : Shape).Idx → EReal) (g : (⟨2, ![1, 1024]⟩ : Shape).Idx → EReal)

/-- The operands at a row. -/
abbrev rowX (r : Fin 8192) : Fin 1024 → EReal := sum (fun k => x (ix2 r k)) (fun k => f (ix2 r k)) fun k l => w (ix2 k l)
abbrev rowG : Fin 1024 → EReal := fun k => g (ix2 0 k)
abbrev rowU (r : Fin 8192) : Fin 1024 → EReal := fun k => u (ix2 r k)

/-- The gradient of the layer's result, -/
def dx (i : (⟨2, ![8192, 1024]⟩ : Shape).Idx) : EReal := back (rowX f w x (i 0)) (rowG g) (rowU u (i 0)) (i 1)
/-- the loss by columns, -/
def loss (i : (⟨2, ![1, 1024]⟩ : Shape).Idx) : EReal := (∑ r, square (rowX f w x r) (rowG g) (rowU u r) (i 1)) * half
/-- and the gradient of the scale. -/
def dg (i : (⟨2, ![1, 1024]⟩ : Shape).Idx) : EReal := ∑ r, scale (rowX f w x r) (rowG g) (rowU u r) (i 1)
end

/-! ## The body -/

section body
open Cert.LossIdeal Cert.LossIdeal.Gen

variable (X : FVec Ideal S512x1024 .f32) (F : FVec Ideal S512x2816 .bf16) (W : FVec Ideal S2816x1024 .bf16)
  (G : FVec Ideal S1x1024 .f32) (U : FVec Ideal S512x1024 .f32)

/-- The operands at a row of a tile. -/
abbrev tileX (r : Fin 512) : Fin 1024 → EReal := sum (fun k => X (ix2 r k)) (fun k => F (ix2 r k)) fun k l => W (ix2 k l)
abbrev tileU (r : Fin 512) : Fin 1024 → EReal := fun k => U (ix2 r k)

theorem pay8_apply (r : Fin 512) (l : Fin 1024) : k0_pay8 (F := Ideal) X F W (ix2 r l) = tileX X F W r l := by
  pointwise [k0_pay8, sum]
theorem pay9_apply (r : Fin 512) : k0_pay9 (F := Ideal) X F W (ix2 r 0) = inv (tileX X F W r) := by
  refine Eq.trans ?_ (congrArg inv (funext fun k => pay8_apply X F W r k))
  pointwise [k0_pay9, inv]
theorem pay10_apply (r : Fin 512) (l : Fin 1024) :
    k0_pay10 (F := Ideal) X F W (ix2 r l) = tileX X F W r l * inv (tileX X F W r) := by
  pointwise [k0_pay10, pay9_apply, pay8_apply]
theorem pay11_apply (r : Fin 512) (l : Fin 1024) :
    k0_pay11 (F := Ideal) X F W G U (ix2 r l) = err (tileX X F W r) (rowG G) (tileU U r) l := by
  pointwise [k0_pay11, pay10_apply, err]
theorem pay13_apply (r : Fin 512) (l : Fin 1024) : k0_pay13 (F := Ideal) (ix2 r l) = Ideal.ofBits .f32 0x3A800000#32 := by
  pointwise [k0_pay13]
theorem pay1_apply (r : Fin 512) (l : Fin 1024) :
    k0_pay1 (F := Ideal) (k0_pay11 X F W G U) k0_pay13 (ix2 r l) = slope (tileX X F W r) (rowG G) (tileU U r) l := by
  pointwise [k0_pay1, pay11_apply, pay13_apply, slope]
theorem pay3_apply (r : Fin 512) (l : Fin 1024) :
    k0_pay3 (F := Ideal) G (k0_pay9 X F W) (k0_pay10 X F W) (k0_pay11 X F W G U) k0_pay13 (ix2 r l)
      = back (tileX X F W r) (rowG G) (tileU U r) l := by
  pointwise [k0_pay3, pay1_apply, pay9_apply, pay10_apply, back]
theorem pay4_apply (r : Fin 512) (l : Fin 1024) :
    k0_pay4 (F := Ideal) G (k0_pay9 X F W) (k0_pay10 X F W) (k0_pay11 X F W G U) k0_pay13 (ix2 r l)
      = back (tileX X F W r) (rowG G) (tileU U r) l := by
  pointwise [k0_pay4, pay3_apply]
theorem pay5_apply (r : Fin 512) (l : Fin 1024) :
    k0_pay5 (F := Ideal) G (k0_pay9 X F W) (k0_pay10 X F W) (k0_pay11 X F W G U) k0_pay13 (ix2 r l)
      = back (tileX X F W r) (rowG G) (tileU U r) l := by
  pointwise [k0_pay5, pay3_apply]
theorem pay12_apply (A : FVec Ideal S1x1024 .f32) (l : Fin 1024) :
    k0_pay12 (F := Ideal) X F W G U A (ix2 0 l)
      = A (ix2 0 l) + (∑ r, square (tileX X F W r) (rowG G) (tileU U r) l) * half := by
  pointwise [k0_pay12, pay11_apply, square]
theorem pay2_apply (A : FVec Ideal S1x1024 .f32) (l : Fin 1024) :
    k0_pay2 (F := Ideal) (k0_pay10 X F W) (k0_pay11 X F W G U) k0_pay13 A (ix2 0 l)
      = A (ix2 0 l) + ∑ r, scale (tileX X F W r) (rowG G) (tileU U r) l := by
  pointwise [k0_pay2, pay1_apply, pay10_apply, scale]
theorem pay6_apply (l : Fin 1024) : k0_pay6 (F := Ideal) (ix2 0 l) = 0 := by pointwise [k0_pay6]
theorem pay7_apply (l : Fin 1024) : k0_pay7 (F := Ideal) (ix2 0 l) = 0 := by pointwise [k0_pay7]
end body

/-! ## The grid -/

section
open Cert.LossIdeal Cert.LossIdeal.Gen Cert.LossIdeal.Value
variable (m : (ℓ : Loc nD τ sig) → Buf (Elt Ideal) ℓ) (c : Dev nD)

abbrev ff : S8192x2816.Idx → EReal := m ((c : Thread nD τ).loc main_arg0)
abbrev weight : S2816x1024.Idx → EReal := m ((c : Thread nD τ).loc main_arg1)
abbrev rest : S8192x1024.Idx → EReal := m ((c : Thread nD τ).loc main_arg2)
abbrev gain : S1x1024.Idx → EReal := m ((c : Thread nD τ).loc main_arg3)
abbrev target : S8192x1024.Idx → EReal := m ((c : Thread nD τ).loc main_arg4)

/-- Row `r` of a point's tile, among all. -/
abbrev row (t : Fin cfg0.N) (r : Fin 512) : Fin 8192 := ⟨t.val * 512 + r.val, by have := lt_of_lt_of_eq t.isLt (show cfg0.N = 16 from N_0); omega⟩

theorem at0 : ∀ t : Fin cfg0.N, win0_0.index t 0 = t.val ∧ win0_0.index t 1 = 0 := by decide
theorem at1 : ∀ t : Fin cfg0.N, win0_1.index t 0 = 0 ∧ win0_1.index t 1 = 0 := by decide
theorem at2 : ∀ t : Fin cfg0.N, win0_2.index t 0 = t.val ∧ win0_2.index t 1 = 0 := by decide
theorem at3 : ∀ t : Fin cfg0.N, win0_3.index t 0 = 0 ∧ win0_3.index t 1 = 0 := by decide
theorem at4 : ∀ t : Fin cfg0.N, win0_4.index t 0 = t.val ∧ win0_4.index t 1 = 0 := by decide
theorem at5 : ∀ t : Fin cfg0.N, win0_5.index t 0 = t.val ∧ win0_5.index t 1 = 0 := by decide
theorem at6 : ∀ t : Fin cfg0.N, win0_6.index t 0 = t.val ∧ win0_6.index t 1 = 0 := by decide
theorem at7 : ∀ t : Fin cfg0.N, win0_7.index t 0 = 0 ∧ win0_7.index t 1 = 0 := by decide
theorem at8 : ∀ t : Fin cfg0.N, win0_8.index t 0 = 0 ∧ win0_8.index t 1 = 0 := by decide

theorem iblk0 (t : Fin cfg0.N) (r : Fin 512) (k : Fin 2816) : iblk m c 0 t (ix2 r k) = ff m c (ix2 (row t r) k) := by
  blk_ext [iblk, V, at0 t]
theorem iblk1 (t : Fin cfg0.N) (j : Fin 2816) (k : Fin 1024) : iblk m c 1 t (ix2 j k) = weight m c (ix2 j k) := by
  blk_ext [iblk, V, at1 t]
theorem iblk2 (t : Fin cfg0.N) (r : Fin 512) (k : Fin 1024) : iblk m c 2 t (ix2 r k) = rest m c (ix2 (row t r) k) := by
  blk_ext [iblk, V, at2 t]
theorem iblk3 (t : Fin cfg0.N) (k : Fin 1024) : iblk m c 3 t (ix2 0 k) = gain m c (ix2 0 k) := by
  blk_ext [iblk, V, at3 t]
theorem iblk4 (t : Fin cfg0.N) (r : Fin 512) (k : Fin 1024) : iblk m c 4 t (ix2 r k) = target m c (ix2 (row t r) k) := by
  blk_ext [iblk, V, at4 t]

/-- A point's operands at a row are the arrays' at that row among all. -/
theorem tileX_eq (t : Fin cfg0.N) (r : Fin 512) :
    tileX (iblk m c 2 t) (iblk m c 0 t) (iblk m c 1 t) r = rowX (ff m c) (weight m c) (rest m c) (row t r) :=
  funext fun l => congrArg₂ (· + ·) (iblk2 m c t r l)
    (Finset.sum_congr rfl fun k _ => congrArg₂ (· * ·) (iblk0 m c t r k) (iblk1 m c t k l))
theorem rowG_eq (t : Fin cfg0.N) : rowG (iblk m c 3 t) = rowG (gain m c) := funext fun k => iblk3 m c t k
theorem tileU_eq (t : Fin cfg0.N) (r : Fin 512) : tileU (iblk m c 4 t) r = rowU (target m c) (row t r) :=
  funext fun k => iblk4 m c t r k

/-- What every point leaves of the gradient, -/
theorem outs5 (t : Fin cfg0.N) : (outsAt0 m c t.val t.isLt).1
    = k0_pay4 (iblk m c 3 t) (k0_pay9 (iblk m c 2 t) (iblk m c 0 t) (iblk m c 1 t)) (k0_pay10 (iblk m c 2 t) (iblk m c 0 t) (iblk m c 1 t))
        (k0_pay11 (iblk m c 2 t) (iblk m c 0 t) (iblk m c 1 t) (iblk m c 3 t) (iblk m c 4 t)) k0_pay13 := by
  by_cases h : t.val % 16 = 0
  · rw [outsAt0_A m c t h]; frame_out
  · rw [outsAt0_B m c t h]; frame_out
theorem outs6 (t : Fin cfg0.N) : (outsAt0 m c t.val t.isLt).2.1
    = k0_pay5 (iblk m c 3 t) (k0_pay9 (iblk m c 2 t) (iblk m c 0 t) (iblk m c 1 t)) (k0_pay10 (iblk m c 2 t) (iblk m c 0 t) (iblk m c 1 t))
        (k0_pay11 (iblk m c 2 t) (iblk m c 0 t) (iblk m c 1 t) (iblk m c 3 t) (iblk m c 4 t)) k0_pay13 := by
  by_cases h : t.val % 16 = 0
  · rw [outsAt0_A m c t h]; frame_out
  · rw [outsAt0_B m c t h]; frame_out
theorem row5 (t : Fin cfg0.N) (r : Fin 512) (k : Fin 1024) : (outsAt0 m c t.val t.isLt).1 (ix2 r k)
    = dx (ff m c) (weight m c) (rest m c) (target m c) (gain m c) (ix2 (row t r) k) := by
  rw [outs5, pay4_apply, tileX_eq, rowG_eq, tileU_eq]
  rfl
theorem row6 (t : Fin cfg0.N) (r : Fin 512) (k : Fin 1024) : (outsAt0 m c t.val t.isLt).2.1 (ix2 r k)
    = dx (ff m c) (weight m c) (rest m c) (target m c) (gain m c) (ix2 (row t r) k) := by
  rw [outs6, pay5_apply, tileX_eq, rowG_eq, tileU_eq]
  rfl

/-- and what has been summed when the last has run. -/
theorem outs7 (l : Fin 1024) : (outsAt0 m c t0_15.val t0_15.isLt).2.2.1 (ix2 0 l)
    = loss (ff m c) (weight m c) (rest m c) (target m c) (gain m c) (ix2 0 l) := by
  rw [Pipeline.eq_sum_fin_of_reset_step_apply_last (ι := Fin 1024) (fun n h l => (outsAt0 m c n h).2.2.1 (ix2 0 l)) 16 (fun _ => 0)
    (fun t l => (∑ r, square (tileX (iblk m c 2 t) (iblk m c 0 t) (iblk m c 1 t) r) (rowG (iblk m c 3 t)) (tileU (iblk m c 4 t) r) l) * half)
    (fun t h l => by
      rw [outsAt0_A m c t h]; frame_out
      rw [pay12_apply, pay6_apply])
    (fun t h l => by
      rw [outsAt0_B m c t h]; frame_out
      rw [pay12_apply])
    (le_of_eq N_0) t0_15 rfl l, zero_add]
  show _ = (∑ r, square (rowX (ff m c) (weight m c) (rest m c) r) (rowG (gain m c)) (rowU (target m c) r) l) * half
  rw [Fin.sum_univ_tiles 16 512 rfl]
  refine Eq.trans ?_ (sum_mul _ _ (fun i => Finset.sum_nonneg fun r _ => square_nonneg _ _ _ _) _).symm
  refine Finset.sum_congr rfl fun t _ => congrArg (· * half) (Finset.sum_congr rfl fun r _ => ?_)
  rw [tileX_eq, rowG_eq, tileU_eq]
theorem outs8 (l : Fin 1024) : (outsAt0 m c t0_15.val t0_15.isLt).2.2.2 (ix2 0 l)
    = dg (ff m c) (weight m c) (rest m c) (target m c) (gain m c) (ix2 0 l) := by
  rw [Pipeline.eq_sum_fin_of_reset_step_apply_last (ι := Fin 1024) (fun n h l => (outsAt0 m c n h).2.2.2 (ix2 0 l)) 16 (fun _ => 0)
    (fun t l => ∑ r, scale (tileX (iblk m c 2 t) (iblk m c 0 t) (iblk m c 1 t) r) (rowG (iblk m c 3 t)) (tileU (iblk m c 4 t) r) l)
    (fun t h l => by
      rw [outsAt0_A m c t h]; frame_out
      rw [pay2_apply, pay7_apply])
    (fun t h l => by
      rw [outsAt0_B m c t h]; frame_out
      rw [pay2_apply])
    (le_of_eq N_0) t0_15 rfl l, zero_add]
  unfold dg
  rw [Fin.sum_univ_tiles 16 512 rfl]
  refine Finset.sum_congr rfl fun t _ => Finset.sum_congr rfl fun r _ => ?_
  rw [tileX_eq, rowG_eq, tileU_eq]
  rfl

/-- Where a point leaves its rows of a gradient, -/
theorem emb5 (t : Fin cfg0.N) (r : Fin 512) (k : Fin 1024) : ((cfg0.win 5).blk t).view.emb (ix2 r k) = (ix2 (row t r) k : S8192x1024.Idx) := by
  blk_ext [at5 t]
theorem emb6 (t : Fin cfg0.N) (r : Fin 512) (k : Fin 1024) : ((cfg0.win 6).blk t).view.emb (ix2 r k) = (ix2 (row t r) k : S8192x1024.Idx) := by
  blk_ext [at6 t]
/-- and its sums. -/
theorem emb7 (t : Fin cfg0.N) (k : Fin 1024) : ((cfg0.win 7).blk t).view.emb (ix2 0 k) = (ix2 0 k : S1x1024.Idx) := by
  blk_ext [at7 t]
theorem emb8 (t : Fin cfg0.N) (k : Fin 1024) : ((cfg0.win 8).blk t).view.emb (ix2 0 k) = (ix2 0 k : S1x1024.Idx) := by
  blk_ext [at8 t]

theorem array5 : (dats m 0 c).arrAt 5 cfg0.N = dx (ff m c) (weight m c) (rest m c) (target m c) (gain m c) := by
  refine (dats m 0 c).arrAt_eq_of_covers 5 _ (by decide +kernel) fun t hf y => ?_
  obtain ⟨r, k, rfl⟩ : ∃ (r : Fin 512) (k : Fin 1024), y = ix2 r k := ⟨y 0, y 1, eq_ix2 y⟩
  rw [after0_5]
  blk_simp
  exact (row5 m c t r k).trans (congrArg (dx (ff m c) (weight m c) (rest m c) (target m c) (gain m c)) (emb5 t r k).symm)
theorem array6 : (dats m 0 c).arrAt 6 cfg0.N = dx (ff m c) (weight m c) (rest m c) (target m c) (gain m c) := by
  refine (dats m 0 c).arrAt_eq_of_covers 6 _ (by decide +kernel) fun t hf y => ?_
  obtain ⟨r, k, rfl⟩ : ∃ (r : Fin 512) (k : Fin 1024), y = ix2 r k := ⟨y 0, y 1, eq_ix2 y⟩
  rw [after0_6]
  blk_simp
  exact (row6 m c t r k).trans (congrArg (dx (ff m c) (weight m c) (rest m c) (target m c) (gain m c)) (emb6 t r k).symm)
theorem array7 : (dats m 0 c).arrAt 7 cfg0.N = loss (ff m c) (weight m c) (rest m c) (target m c) (gain m c) := by
  refine (dats m 0 c).arrAt_eq_of_covers 7 _ (by decide +kernel) fun t hf y => ?_
  have ht : t = t0_15 := Fin.ext (by have := (flush0_7 t).mp hf; have := lt_of_lt_of_eq t.isLt (show cfg0.N = 16 from N_0); show t.val = 15; omega)
  subst ht
  obtain ⟨k, rfl⟩ : ∃ k : Fin 1024, y = ix2 0 k := ⟨y 1, (eq_ix2 y).trans (by congr 1; exact Subsingleton.elim (α := Fin 1) _ _)⟩
  rw [after0_7]
  blk_simp
  exact (outs7 m c k).trans (congrArg (loss (ff m c) (weight m c) (rest m c) (target m c) (gain m c)) (emb7 t0_15 k).symm)
theorem array8 : (dats m 0 c).arrAt 8 cfg0.N = dg (ff m c) (weight m c) (rest m c) (target m c) (gain m c) := by
  refine (dats m 0 c).arrAt_eq_of_covers 8 _ (by decide +kernel) fun t hf y => ?_
  have ht : t = t0_15 := Fin.ext (by have := (flush0_8 t).mp hf; have := lt_of_lt_of_eq t.isLt (show cfg0.N = 16 from N_0); show t.val = 15; omega)
  subst ht
  obtain ⟨k, rfl⟩ : ∃ k : Fin 1024, y = ix2 0 k := ⟨y 1, (eq_ix2 y).trans (by congr 1; exact Subsingleton.elim (α := Fin 1) _ _)⟩
  rw [after0_8]
  blk_simp
  exact (outs8 m c k).trans (congrArg (dg (ff m c) (weight m c) (rest m c) (target m c) (gain m c)) (emb8 t0_15 k).symm)
end

/-! ## The reference -/

section reference
open Cert.LossRefIdeal Cert.LossRefIdeal.Gen

variable (F : FVec Ideal S8192x2816 .bf16) (W : FVec Ideal S2816x1024 .bf16) (X : FVec Ideal S8192x1024 .f32)
  (G : FVec Ideal S1x1024 .f32) (U : FVec Ideal S8192x1024 .f32)

def refSum : FVec Ideal S8192x1024 .f32 :=
  addf X (Host.dotGeneral dot_S8192x2816_S2816x1024_S8192x1024_1_0_0_1_n_n none (extf .f32 F bitsLt_bf16_f32) (extf .f32 W bitsLt_bf16_f32))
theorem refSum_apply (r : Fin 8192) (l : Fin 1024) : refSum F W X (ix2 r l) = rowX F W X r l := by
  pointwise [refSum, sum]

def refInv : FVec Ideal S8192x1 .f32 :=
  Host.rsqrt (addf (Host.divf (broadcastInDim S8192x1 ![0] bcast_S8192_S8192x1_0 (Host.reduceAdd (mulf (refSum F W X) (refSum F W X))
    (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))
theorem refInv_apply (r : Fin 8192) : refInv F W X (ix2 r 0) = inv (rowX F W X r) := by
  refine Eq.trans ?_ (congrArg inv (funext fun k => refSum_apply F W X r k))
  pointwise [refInv, inv]

def refNormed : FVec Ideal S8192x1024 .f32 :=
  mulf (refSum F W X) (broadcastInDim S8192x1024 ![0, 1] bcast_S8192x1_S8192x1024_0_1 (refInv F W X))
theorem refNormed_apply (r : Fin 8192) (l : Fin 1024) : refNormed F W X (ix2 r l) = rowX F W X r l * inv (rowX F W X r) := by
  pointwise [refNormed, refSum_apply, refInv_apply]

def refErr : FVec Ideal S8192x1024 .f32 :=
  subf (mulf (refNormed F W X) (broadcastInDim S8192x1024 ![0, 1] bcast_S1x1024_S8192x1024_0_1 G)) U
theorem refErr_apply (r : Fin 8192) (l : Fin 1024) : refErr F W X G U (ix2 r l) = err (rowX F W X r) (rowG G) (rowU U r) l := by
  pointwise [refErr, refNormed_apply, err]

def refSlope : FVec Ideal S8192x1024 .f32 :=
  mulf (refErr F W X G U) (broadcastInDim S8192x1024 ![] bcast_S_S8192x1024 (constant S_ .f32 0x3A800000#32))
theorem refSlope_apply (r : Fin 8192) (l : Fin 1024) : refSlope F W X G U (ix2 r l) = slope (rowX F W X r) (rowG G) (rowU U r) l := by
  pointwise [refSlope, refErr_apply, slope]

def refScaled : FVec Ideal S8192x1024 .f32 :=
  mulf (refSlope F W X G U) (broadcastInDim S8192x1024 ![0, 1] bcast_S1x1024_S8192x1024_0_1 G)
theorem refScaled_apply (r : Fin 8192) (l : Fin 1024) :
    refScaled F W X G U (ix2 r l) = slope (rowX F W X r) (rowG G) (rowU U r) l * rowG G l := by
  pointwise [refScaled, refSlope_apply]

/-- What the reference puts at its results. -/
def refDx : FVec Ideal S8192x1024 .f32 :=
  mulf (broadcastInDim S8192x1024 ![0, 1] bcast_S8192x1_S8192x1024_0_1 (refInv F W X)) (subf (refScaled F W X G U) (mulf (refNormed F W X)
    (broadcastInDim S8192x1024 ![0, 1] bcast_S8192x1_S8192x1024_0_1 (Host.divf (broadcastInDim S8192x1 ![0] bcast_S8192_S8192x1_0
      (Host.reduceAdd (mulf (refScaled F W X G U) (refNormed F W X)) (constant S_ .f32 0x00000000#32) reducesTo_S8192x1024_S8192_d1 h_S_))
      (broadcastInDim S8192x1 ![] bcast_S_S8192x1 (constant S_ .f32 0x44800000#32))))))
theorem refDx_apply (r : Fin 8192) (l : Fin 1024) : refDx F W X G U (ix2 r l) = back (rowX F W X r) (rowG G) (rowU U r) l := by
  pointwise [refDx, refScaled_apply, refNormed_apply, refInv_apply, back]
theorem refDx_eq : refDx F W X G U = dx F W X U G := by
  funext i
  rw [eq_ix2 i]
  exact refDx_apply F W X G U (i 0) (i 1)
theorem refDx_eq' : (truncf .bf16 (refDx F W X G U) bitsLt_bf16_f32 : FVec Ideal S8192x1024 .bf16) = dx F W X U G :=
  Eq.trans (by funext i; rw [eq_ix2 i]; pointwise []) (refDx_eq F W X G U)

def refLoss : FVec Ideal S1x1024 .f32 :=
  shapeCast _ (mulf (Host.reduceAdd (mulf (refErr F W X G U) (refErr F W X G U)) (constant S_ .f32 0x00000000#32) reducesTo_S8192x1024_S1024_d0 h_S_)
    (broadcastInDim S1024 ![] bcast_S_S1024 (constant S_ .f32 0x3A000000#32))) shapeCasts_S1024_S1x1024
theorem refLoss_eq : refLoss F W X G U = loss F W X U G := by
  funext i
  obtain ⟨k, rfl⟩ : ∃ k : Fin 1024, i = ix2 0 k := ⟨i 1, (eq_ix2 i).trans (by congr 1; exact Subsingleton.elim (α := Fin 1) _ _)⟩
  pointwise [refLoss, refErr_apply, loss, square]

def refDg : FVec Ideal S1x1024 .f32 :=
  shapeCast _ (Host.reduceAdd (mulf (refSlope F W X G U) (refNormed F W X)) (constant S_ .f32 0x00000000#32) reducesTo_S8192x1024_S1024_d0 h_S_)
    shapeCasts_S1024_S1x1024
theorem refDg_eq : refDg F W X G U = dg F W X U G := by
  funext i
  obtain ⟨k, rfl⟩ : ∃ k : Fin 1024, i = ix2 0 k := ⟨i 1, (eq_ix2 i).trans (by congr 1; exact Subsingleton.elim (α := Fin 1) _ _)⟩
  pointwise [refDg, refSlope_apply, refNormed_apply, dg, scale]
end reference

/-- The two printed programs call the same body. -/
theorem defs_eq : Cert.Loss.defs (F := Bits) = Cert.LossIdeal.defs (F := Bits) := by
  refine congrArg (Pipeline.defs _) ?_
  unfold Cert.Loss.defs₀ Cert.LossIdeal.defs₀
  congr 1
  funext l
  match l with
  | 0 => rfl

theorem frame : Cert.quiescent_Loss := fun m ρ _ => by
  have h := Cert.LossIdeal.Gen.frame (F := Bits) m ρ
  rw [← defs_eq] at h
  exact h
theorem frame_ideal : Cert.quiescent_LossIdeal := fun m ρ _ => Cert.LossIdeal.Gen.frame (F := Ideal) m ρ
theorem frame_ref_ideal : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem algebraic : Cert.algebraic_LossIdeal_LossRefIdeal := fun m ρ m' ρ' _ h =>
  ⟨_, _, _, _,
    (θ_run Cert.LossIdeal.defs _ _).mono
      (fun _ hr c => ⟨(hr c).1.trans (array5 m c), (hr c).2.1.trans (array6 m c), (hr c).2.2.1.trans (array7 m c),
        (hr c).2.2.2.1.trans (array8 m c), (hr c).2.2.2.2⟩)
      (Cert.LossIdeal.Value.run_blocks (F := Ideal) m ρ),
    (θ_run Cert.LossRefIdeal.defs _ _).mono (fun _ hr c => by
      obtain ⟨h0, h1, h2, h3, h4⟩ := h c
      obtain ⟨r0, r1, r2, r3, r4⟩ := hr c
      refine ⟨r0.trans ((refDx_eq _ _ _ _ _).trans ?_), r1.trans ((refDx_eq' _ _ _ _ _).trans ?_), r2.trans ((refLoss_eq _ _ _ _ _).trans ?_),
        r3.trans ((refDg_eq _ _ _ _ _).trans ?_), r4⟩
      all_goals rw [h0, h1, h2, h3, h4]) (Cert.LossRefIdeal.Value.run (F := Ideal) m' ρ')⟩

end Cert.Proof.Loss

end
-- ==== Proof.FfnBwd.lean ====
/-
  The backward of the feed-forward layer and of the norm before it: 32 tiles of 256 rows, whose columns between the
  projections are taken in two halves; the gradient of the norm's scale is summed over the tiles.
-/
module

public import proofs.«01_k».proof.Defs
public import proofs.«01_k».proof.Proof.Ffn
public import proofs.«01_k».proof.Proof.InBwdRow
public import proofs.«01_k».proof.Proof.Gen.FfnBwd
public import proofs.«01_k».proof.Proof.Gen.FfnBwdIdeal.Value
public import proofs.«01_k».proof.Proof.Gen.FfnBwdRefIdeal.Run
public import Idealize.ShloMosaic.Lib.Pipeline.ValueKit
public import Idealize.ShloMosaic.Lib.Pointwise
public import Idealize.ShloMosaic.Lib.Quiescent

@[expose] public section

noncomputable section

namespace Cert.Proof.FfnBwd

open Idealize.ShloMosaic Idealize.ShloMosaic.TcCoe Idealize.SL.Sem Idealize.ShloMosaic.Pipeline
open Cert.Proof.Ffn (along)
open Cert.Proof.InBwd (inv back back_congr)

/-! ## The gradients -/

def sigmoid (g : EReal) : EReal := Ideal.div 1 (1 + Ideal.exp (-g))
/-- From the gradient `d` of the product: the gate's, and the upward projection's. -/
def slopeG (d g u : EReal) : EReal := d * u * sigmoid g * (1 + g * (1 - sigmoid g))
def slopeU (d g : EReal) : EReal := d * g * sigmoid g

section
variable {n : ℕ} (d : (⟨2, ![n, 1024]⟩ : Shape).Idx → EReal) (w v z : (⟨2, ![2816, 1024]⟩ : Shape).Idx → EReal)
  (g u : (⟨2, ![n, 2816]⟩ : Shape).Idx → EReal) (e x : (⟨2, ![n, 1024]⟩ : Shape).Idx → EReal) (a : (⟨2, ![1, 1024]⟩ : Shape).Idx → EReal)

def dgate (i : (⟨2, ![n, 2816]⟩ : Shape).Idx) : EReal := slopeG (along d w i) (g i) (u i)
def dup (i : (⟨2, ![n, 2816]⟩ : Shape).Idx) : EReal := slopeU (along d w i) (g i)
/-- The gradient of a row after the norm, -/
def hid (r : Fin n) (l : Fin 1024) : EReal :=
  (∑ j : Fin 2816, dgate d w g u (ix2 r j) * v (ix2 j l)) + ∑ j : Fin 2816, dup d w g (ix2 r j) * z (ix2 j l)
/-- before it, -/
def dx (i : (⟨2, ![n, 1024]⟩ : Shape).Idx) : EReal :=
  back (hid d w v z g u (i 0)) (fun k => x (ix2 (i 0) k)) (fun k => a (ix2 0 k)) (fun k => e (ix2 (i 0) k)) (i 1)
/-- and of the norm's scale. -/
def dg (i : (⟨2, ![1, 1024]⟩ : Shape).Idx) : EReal :=
  ∑ r : Fin n, hid d w v z g u r (i 1) * (x (ix2 r (i 1)) * inv fun k => x (ix2 r k))
end

/-! ## The body -/

section payloads
open Cert.FfnBwdIdeal Cert.FfnBwdIdeal.Gen

section half
variable (d : FVec Ideal S256x1024 .bf16) (w : FVec Ideal S1408x1024 .bf16) (g u : FVec Ideal S256x1408 .bf16) (r : Fin 256) (j : Fin 1408)

/-- The product with half of the weight. -/
abbrev part : EReal := ∑ k : Fin 1024, d (ix2 r k) * w (ix2 j k)

theorem pay3_apply : k0_pay3 (F := Ideal) d w (ix2 r j) = part d w r j := by pointwise [k0_pay3, part]
theorem pay5_apply : k0_pay5 (F := Ideal) g (ix2 r j) = sigmoid (g (ix2 r j)) := by
  pointwise [k0_pay5, k0_pay4, sigmoid]
  rfl
theorem pay6_apply : k0_pay6 (F := Ideal) d w g u (ix2 r j) = slopeG (part d w r j) (g (ix2 r j)) (u (ix2 r j)) := by
  pointwise [k0_pay6, k0_pay4, pay3_apply, pay5_apply, slopeG]
theorem pay14_apply : k0_pay14 (F := Ideal) d w g u (ix2 r j) = slopeG (part d w r j) (g (ix2 r j)) (u (ix2 r j)) :=
  pay6_apply d w g u r j
theorem pay7_apply : k0_pay7 (F := Ideal) d w g (ix2 r j) = slopeU (part d w r j) (g (ix2 r j)) := by
  pointwise [k0_pay7, k0_pay4, pay3_apply, pay5_apply, slopeU]
theorem pay15_apply : k0_pay15 (F := Ideal) d w g (ix2 r j) = slopeU (part d w r j) (g (ix2 r j)) :=
  pay7_apply d w g r j
theorem pay8_apply : k0_pay8 (F := Ideal) d w g u (ix2 r j) = slopeG (part d w r j) (g (ix2 r j)) (u (ix2 r j)) := by
  pointwise [k0_pay8, pay6_apply]
theorem pay9_apply : k0_pay9 (F := Ideal) d w g (ix2 r j) = slopeU (part d w r j) (g (ix2 r j)) := by
  pointwise [k0_pay9, pay7_apply]
theorem pay16_apply : k0_pay16 (F := Ideal) d w g u (ix2 r j) = slopeG (part d w r j) (g (ix2 r j)) (u (ix2 r j)) := by
  pointwise [k0_pay16, pay14_apply]
theorem pay17_apply : k0_pay17 (F := Ideal) d w g (ix2 r j) = slopeU (part d w r j) (g (ix2 r j)) := by
  pointwise [k0_pay17, pay15_apply]
end half

theorem pay18_apply (d : FVec Ideal S256x1024 .bf16) (w w' v v' z z' : FVec Ideal S1408x1024 .bf16) (g u g' u' : FVec Ideal S256x1408 .bf16)
    (r : Fin 256) (l : Fin 1024) :
    k0_pay18 (F := Ideal) d k0_pay2 (k0_pay7 d w g) (k0_pay10 d w g u v) z w' g' u' v' z' (ix2 r l)
      = ((∑ j, slopeG (part d w r j) (g (ix2 r j)) (u (ix2 r j)) * v (ix2 j l)) + ∑ j, slopeU (part d w r j) (g (ix2 r j)) * z (ix2 j l))
        + ((∑ j, slopeG (part d w' r j) (g' (ix2 r j)) (u' (ix2 r j)) * v' (ix2 j l)) + ∑ j, slopeU (part d w' r j) (g' (ix2 r j)) * z' (ix2 j l)) := by
  pointwise [k0_pay18, k0_pay2, k0_pay10, pay6_apply, pay7_apply, pay14_apply, pay15_apply]

section norm
variable (h x : FVec Ideal S256x1024 .f32) (a : FVec Ideal S1x1024 .f32) (e : FVec Ideal S256x1024 .f32)

theorem pay19_apply (r : Fin 256) : k0_pay19 (F := Ideal) x (ix2 r 0) = inv fun k => x (ix2 r k) := by
  pointwise [k0_pay19]
  rfl
theorem pay20_apply (r : Fin 256) (l : Fin 1024) : k0_pay20 (F := Ideal) x (ix2 r l) = x (ix2 r l) * inv fun k => x (ix2 r k) := by
  pointwise [k0_pay20, pay19_apply]
theorem pay21_apply (l : Fin 1024) :
    k0_pay21 (F := Ideal) h x a (ix2 0 l) = a (ix2 0 l) + ∑ r : Fin 256, h (ix2 r l) * (x (ix2 r l) * inv fun k => x (ix2 r k)) := by
  pointwise [k0_pay21, pay20_apply]
theorem pay22_apply (r : Fin 256) (l : Fin 1024) : k0_pay22 (F := Ideal) h x a e (ix2 r l)
    = back (fun k => h (ix2 r k)) (fun k => x (ix2 r k)) (fun k => a (ix2 0 k)) (fun k => e (ix2 r k)) l := by
  pointwise [k0_pay22, pay19_apply, pay20_apply, back]
theorem pay23_apply (r : Fin 256) (l : Fin 1024) : k0_pay23 (F := Ideal) h x a e (ix2 r l)
    = back (fun k => h (ix2 r k)) (fun k => x (ix2 r k)) (fun k => a (ix2 0 k)) (fun k => e (ix2 r k)) l := by
  pointwise [k0_pay23, pay22_apply]
theorem pay24_apply (r : Fin 256) (l : Fin 1024) : k0_pay24 (F := Ideal) h x a e (ix2 r l)
    = back (fun k => h (ix2 r k)) (fun k => x (ix2 r k)) (fun k => a (ix2 0 k)) (fun k => e (ix2 r k)) l := by
  pointwise [k0_pay24, pay22_apply]
theorem pay1_apply (l : Fin 1024) : k0_pay1 (F := Ideal) (ix2 0 l) = 0 := by pointwise [k0_pay1]
end norm
/-! ## Halves -/

section halves
variable (d : Vec Ideal S256x1024 .bf16) (w v z : Vec Ideal S2816x1024 .bf16) (g u : Vec Ideal S256x2816 .bf16)

/-- A load of half of a weight's rows, or of half of the columns, from `o` on. -/
abbrev rowsAt (o : ℕ) (inb : ∀ a, (![o, 0] : Fin 2 → ℕ) a + (![1408, 1024] : Fin 2 → ℕ) a ≤ S2816x1024.size a) : FVec Ideal S1408x1024 .bf16 :=
  View.ld w (Rect.unit ![o, 0] ![1408, 1024] inb)
abbrev colsAt (o : ℕ) (inb : ∀ a, (![0, o] : Fin 2 → ℕ) a + (![256, 1408] : Fin 2 → ℕ) a ≤ S256x2816.size a) : FVec Ideal S256x1408 .bf16 :=
  View.ld g (Rect.unit ![0, o] ![256, 1408] inb)

theorem rowsAt_apply (o : ℕ) (inb) (j : Fin 1408) (k : Fin 1024) (i : Fin 2816) (h : i.val = o + j.val) :
    rowsAt w o inb (ix2 j k) = w (ix2 i k) := by
  refine View.ld_unit_apply_of w _ _ _ _ _ fun a => ?_
  match a with
  | ⟨0, _⟩ => exact h
  | ⟨1, _⟩ => exact (Nat.zero_add _).symm
theorem colsAt_apply (o : ℕ) (inb) (r : Fin 256) (j : Fin 1408) (i : Fin 2816) (h : i.val = o + j.val) :
    colsAt g o inb (ix2 r j) = g (ix2 r i) := by
  refine View.ld_unit_apply_of g _ _ _ _ _ fun a => ?_
  match a with
  | ⟨0, _⟩ => exact (Nat.zero_add _).symm
  | ⟨1, _⟩ => exact h

theorem slopeG_at (o : ℕ) (inb inb') (r : Fin 256) (j : Fin 1408) (i : Fin 2816) (h : i.val = o + j.val) :
    slopeG (part d (rowsAt w o inb) r j) (colsAt g o inb' (ix2 r j)) (colsAt u o inb' (ix2 r j)) = dgate d w g u (ix2 r i) := by
  rw [colsAt_apply g o inb' r j i h, colsAt_apply u o inb' r j i h]
  exact congrArg (slopeG · _ _) (Finset.sum_congr rfl fun k _ => congrArg (_ * ·) (rowsAt_apply w o inb j k i h))
theorem slopeU_at (o : ℕ) (inb inb') (r : Fin 256) (j : Fin 1408) (i : Fin 2816) (h : i.val = o + j.val) :
    slopeU (part d (rowsAt w o inb) r j) (colsAt g o inb' (ix2 r j)) = dup d w g (ix2 r i) := by
  rw [colsAt_apply g o inb' r j i h]
  exact congrArg (slopeU · _) (Finset.sum_congr rfl fun k _ => congrArg (_ * ·) (rowsAt_apply w o inb j k i h))

/-- What a point writes of the two gradients between the projections, -/
theorem tileG (y : S256x2816.Idx) : View.canon ([⟨Rect.unit ![0, 1408] ![256, 1408] inb_S256x2816_S256x1408_0_1408,
      k0_pay16 (F := Ideal) d (rowsAt w 1408 inb_S2816x1024_S1408x1024_1408_0) (colsAt g 1408 inb_S256x2816_S256x1408_0_1408)
        (colsAt u 1408 inb_S256x2816_S256x1408_0_1408)⟩,
     ⟨Rect.unit ![0, 0] ![256, 1408] inb_S256x2816_S256x1408_0_0,
      k0_pay8 (F := Ideal) d (rowsAt w 0 inb_S2816x1024_S1408x1024_0_0) (colsAt g 0 inb_S256x2816_S256x1408_0_0)
        (colsAt u 0 inb_S256x2816_S256x1408_0_0)⟩] : List (View.Piece (Elt Ideal) S256x2816 .bf16)) y = dgate d w g u y := by
  obtain ⟨r, j, rfl⟩ : ∃ (r : Fin 256) (j : Fin 2816), y = ix2 r j := ⟨y 0, y 1, eq_ix2 y⟩
  canon_tiles z h
  · obtain rfl : r = z 0 := Fin.ext h0
    rw [eq_ix2 z]; exact (pay16_apply _ _ _ _ _ _).trans (slopeG_at d w g u 1408 _ _ _ _ j h1)
  · obtain rfl : r = z 0 := Fin.ext h0
    rw [eq_ix2 z]; exact (pay8_apply _ _ _ _ _ _).trans (slopeG_at d w g u 0 _ _ _ _ j (h1.trans (Nat.zero_add _).symm))
theorem tileU (y : S256x2816.Idx) : View.canon ([⟨Rect.unit ![0, 1408] ![256, 1408] inb_S256x2816_S256x1408_0_1408,
      k0_pay17 (F := Ideal) d (rowsAt w 1408 inb_S2816x1024_S1408x1024_1408_0) (colsAt g 1408 inb_S256x2816_S256x1408_0_1408)⟩,
     ⟨Rect.unit ![0, 0] ![256, 1408] inb_S256x2816_S256x1408_0_0,
      k0_pay9 (F := Ideal) d (rowsAt w 0 inb_S2816x1024_S1408x1024_0_0) (colsAt g 0 inb_S256x2816_S256x1408_0_0)⟩] : List (View.Piece (Elt Ideal) S256x2816 .bf16)) y = dup d w g y := by
  obtain ⟨r, j, rfl⟩ : ∃ (r : Fin 256) (j : Fin 2816), y = ix2 r j := ⟨y 0, y 1, eq_ix2 y⟩
  canon_tiles z h
  · obtain rfl : r = z 0 := Fin.ext h0
    rw [eq_ix2 z]; exact (pay17_apply _ _ _ _ _).trans (slopeU_at d w g 1408 _ _ _ _ j h1)
  · obtain rfl : r = z 0 := Fin.ext h0
    rw [eq_ix2 z]; exact (pay9_apply _ _ _ _ _).trans (slopeU_at d w g 0 _ _ _ _ j (h1.trans (Nat.zero_add _).symm))

/-- and the gradient after the norm that it goes on with. -/
abbrev tileH : FVec Ideal S256x1024 .f32 :=
  k0_pay18 (F := Ideal) d k0_pay2 (k0_pay7 d (rowsAt w 0 inb_S2816x1024_S1408x1024_0_0) (colsAt g 0 inb_S256x2816_S256x1408_0_0))
    (k0_pay10 d (rowsAt w 0 inb_S2816x1024_S1408x1024_0_0) (colsAt g 0 inb_S256x2816_S256x1408_0_0) (colsAt u 0 inb_S256x2816_S256x1408_0_0)
      (rowsAt v 0 inb_S2816x1024_S1408x1024_0_0))
    (rowsAt z 0 inb_S2816x1024_S1408x1024_0_0) (rowsAt w 1408 inb_S2816x1024_S1408x1024_1408_0)
    (colsAt g 1408 inb_S256x2816_S256x1408_0_1408) (colsAt u 1408 inb_S256x2816_S256x1408_0_1408)
    (rowsAt v 1408 inb_S2816x1024_S1408x1024_1408_0) (rowsAt z 1408 inb_S2816x1024_S1408x1024_1408_0)

theorem tileH_apply (r : Fin 256) (l : Fin 1024) : tileH d w v z g u (ix2 r l) = hid d w v z g u r l := by
  refine (pay18_apply _ _ _ _ _ _ _ _ _ _ _ r l).trans ?_
  unfold hid
  rw [Fin.sum_univ_tiles 2 1408 rfl (fun j => dgate d w g u (ix2 r j) * v (ix2 j l)),
    Fin.sum_univ_tiles 2 1408 rfl (fun j => dup d w g (ix2 r j) * z (ix2 j l)), Fin.sum_univ_two, Fin.sum_univ_two, add_add_add_comm]
  refine congrArg₂ (· + ·) (congrArg₂ (· + ·) ?_ ?_) (congrArg₂ (· + ·) ?_ ?_)
  · exact Finset.sum_congr rfl fun j _ => congrArg₂ (· * ·) (slopeG_at d w g u 0 _ _ r j _ (by simp)) (rowsAt_apply v 0 _ j l _ (by simp))
  · exact Finset.sum_congr rfl fun j _ => congrArg₂ (· * ·) (slopeG_at d w g u 1408 _ _ r j _ (by simp)) (rowsAt_apply v 1408 _ j l _ (by simp))
  · exact Finset.sum_congr rfl fun j _ => congrArg₂ (· * ·) (slopeU_at d w g 0 _ _ r j _ (by simp)) (rowsAt_apply z 0 _ j l _ (by simp))
  · exact Finset.sum_congr rfl fun j _ => congrArg₂ (· * ·) (slopeU_at d w g 1408 _ _ r j _ (by simp)) (rowsAt_apply z 1408 _ j l _ (by simp))
end halves
end payloads

/-! ## The grid -/

section
open Cert.FfnBwdIdeal Cert.FfnBwdIdeal.Gen Cert.FfnBwdIdeal.Value
variable (m : (ℓ : Loc nD τ sig) → Buf (Elt Ideal) ℓ) (c : Dev nD)

abbrev skip : S8192x1024.Idx → EReal := m ((c : Thread nD τ).loc main_arg0)
abbrev grad : S8192x1024.Idx → EReal := m ((c : Thread nD τ).loc main_arg1)
abbrev down : S2816x1024.Idx → EReal := m ((c : Thread nD τ).loc main_arg2)
abbrev gateW : S2816x1024.Idx → EReal := m ((c : Thread nD τ).loc main_arg3)
abbrev upW : S2816x1024.Idx → EReal := m ((c : Thread nD τ).loc main_arg4)
abbrev gate : S8192x2816.Idx → EReal := m ((c : Thread nD τ).loc main_arg5)
abbrev up : S8192x2816.Idx → EReal := m ((c : Thread nD τ).loc main_arg6)
abbrev inp : S8192x1024.Idx → EReal := m ((c : Thread nD τ).loc main_arg7)
abbrev gain : S1x1024.Idx → EReal := m ((c : Thread nD τ).loc main_arg8)

/-- The results over them. -/
abbrev allG : S8192x2816.Idx → EReal := dgate (grad m c) (down m c) (gate m c) (up m c)
abbrev allU : S8192x2816.Idx → EReal := dup (grad m c) (down m c) (gate m c)
abbrev allX : S8192x1024.Idx → EReal := dx (grad m c) (down m c) (gateW m c) (upW m c) (gate m c) (up m c) (skip m c) (inp m c) (gain m c)
abbrev allA : S1x1024.Idx → EReal := dg (grad m c) (down m c) (gateW m c) (upW m c) (gate m c) (up m c) (inp m c)

/-- Row `r` of a point's tile, among all. -/
abbrev row (t : Fin cfg0.N) (r : Fin 256) : Fin 8192 := ⟨t.val * 256 + r.val, by have := lt_of_lt_of_eq t.isLt (show cfg0.N = 32 from N_0); omega⟩

theorem at0 : ∀ t : Fin cfg0.N, win0_0.index t 0 = t.val ∧ win0_0.index t 1 = 0 := by decide
theorem at1 : ∀ t : Fin cfg0.N, win0_1.index t 0 = t.val ∧ win0_1.index t 1 = 0 := by decide
theorem at2 : ∀ t : Fin cfg0.N, win0_2.index t 0 = 0 ∧ win0_2.index t 1 = 0 := by decide
theorem at3 : ∀ t : Fin cfg0.N, win0_3.index t 0 = 0 ∧ win0_3.index t 1 = 0 := by decide
theorem at4 : ∀ t : Fin cfg0.N, win0_4.index t 0 = 0 ∧ win0_4.index t 1 = 0 := by decide
theorem at5 : ∀ t : Fin cfg0.N, win0_5.index t 0 = t.val ∧ win0_5.index t 1 = 0 := by decide
theorem at6 : ∀ t : Fin cfg0.N, win0_6.index t 0 = t.val ∧ win0_6.index t 1 = 0 := by decide
theorem at7 : ∀ t : Fin cfg0.N, win0_7.index t 0 = t.val ∧ win0_7.index t 1 = 0 := by decide
theorem at8 : ∀ t : Fin cfg0.N, win0_8.index t 0 = 0 ∧ win0_8.index t 1 = 0 := by decide
theorem at9 : ∀ t : Fin cfg0.N, win0_9.index t 0 = t.val ∧ win0_9.index t 1 = 0 := by decide
theorem at10 : ∀ t : Fin cfg0.N, win0_10.index t 0 = t.val ∧ win0_10.index t 1 = 0 := by decide
theorem at11 : ∀ t : Fin cfg0.N, win0_11.index t 0 = t.val ∧ win0_11.index t 1 = 0 := by decide
theorem at12 : ∀ t : Fin cfg0.N, win0_12.index t 0 = t.val ∧ win0_12.index t 1 = 0 := by decide
theorem at13 : ∀ t : Fin cfg0.N, win0_13.index t 0 = 0 ∧ win0_13.index t 1 = 0 := by decide

theorem iblk0 (t : Fin cfg0.N) (r : Fin 256) (k : Fin 1024) : iblk m c 0 t (ix2 r k) = skip m c (ix2 (row t r) k) := by
  blk_ext [iblk, V, at0 t]
theorem iblk1 (t : Fin cfg0.N) (r : Fin 256) (k : Fin 1024) : iblk m c 1 t (ix2 r k) = grad m c (ix2 (row t r) k) := by
  blk_ext [iblk, V, at1 t]
theorem iblk2 (t : Fin cfg0.N) (j : Fin 2816) (k : Fin 1024) : iblk m c 2 t (ix2 j k) = down m c (ix2 j k) := by
  blk_ext [iblk, V, at2 t]
theorem iblk3 (t : Fin cfg0.N) (j : Fin 2816) (k : Fin 1024) : iblk m c 3 t (ix2 j k) = gateW m c (ix2 j k) := by
  blk_ext [iblk, V, at3 t]
theorem iblk4 (t : Fin cfg0.N) (j : Fin 2816) (k : Fin 1024) : iblk m c 4 t (ix2 j k) = upW m c (ix2 j k) := by
  blk_ext [iblk, V, at4 t]
theorem iblk5 (t : Fin cfg0.N) (r : Fin 256) (k : Fin 2816) : iblk m c 5 t (ix2 r k) = gate m c (ix2 (row t r) k) := by
  blk_ext [iblk, V, at5 t]
theorem iblk6 (t : Fin cfg0.N) (r : Fin 256) (k : Fin 2816) : iblk m c 6 t (ix2 r k) = up m c (ix2 (row t r) k) := by
  blk_ext [iblk, V, at6 t]
theorem iblk7 (t : Fin cfg0.N) (r : Fin 256) (k : Fin 1024) : iblk m c 7 t (ix2 r k) = inp m c (ix2 (row t r) k) := by
  blk_ext [iblk, V, at7 t]
theorem iblk8 (t : Fin cfg0.N) (k : Fin 1024) : iblk m c 8 t (ix2 0 k) = gain m c (ix2 0 k) := by
  blk_ext [iblk, V, at8 t]

/-- A point's rows of each quantity are the arrays' at those rows among all. -/
theorem along_eq (t : Fin cfg0.N) (r : Fin 256) (j : Fin 2816) :
    along (iblk m c 1 t) (iblk m c 2 t) (ix2 r j) = along (grad m c) (down m c) (ix2 (row t r) j) :=
  Finset.sum_congr rfl fun k _ => congrArg₂ (· * ·) (iblk1 m c t r k) (iblk2 m c t j k)
theorem dgate_eq (t : Fin cfg0.N) (r : Fin 256) (j : Fin 2816) :
    dgate (iblk m c 1 t) (iblk m c 2 t) (iblk m c 5 t) (iblk m c 6 t) (ix2 r j) = allG m c (ix2 (row t r) j) := by
  rw [dgate, along_eq, iblk5, iblk6]
  rfl
theorem dup_eq (t : Fin cfg0.N) (r : Fin 256) (j : Fin 2816) :
    dup (iblk m c 1 t) (iblk m c 2 t) (iblk m c 5 t) (ix2 r j) = allU m c (ix2 (row t r) j) := by
  rw [dup, along_eq, iblk5]
  rfl

abbrev blkH (t : Fin cfg0.N) : FVec Ideal S256x1024 .f32 :=
  tileH (iblk m c 1 t) (iblk m c 2 t) (iblk m c 3 t) (iblk m c 4 t) (iblk m c 5 t) (iblk m c 6 t)

theorem hid_eq (t : Fin cfg0.N) (r : Fin 256) (l : Fin 1024) : blkH m c t (ix2 r l)
    = hid (grad m c) (down m c) (gateW m c) (upW m c) (gate m c) (up m c) (row t r) l :=
  (tileH_apply _ _ _ _ _ _ r l).trans (congrArg₂ (· + ·)
    (Finset.sum_congr rfl fun j _ => congrArg₂ (· * ·) (dgate_eq m c t r j) (iblk3 m c t j l))
    (Finset.sum_congr rfl fun j _ => congrArg₂ (· * ·) (dup_eq m c t r j) (iblk4 m c t j l)))
theorem dx_eq (t : Fin cfg0.N) (r : Fin 256) (l : Fin 1024) :
    back (fun k => blkH m c t (ix2 r k)) (fun k => iblk m c 7 t (ix2 r k)) (fun k => iblk m c 8 t (ix2 0 k)) (fun k => iblk m c 0 t (ix2 r k)) l
      = allX m c (ix2 (row t r) l) :=
  back_congr (hid_eq m c t r) (iblk7 m c t r) (iblk8 m c t) (iblk0 m c t r)

/-- What every point leaves of the results, -/
theorem row9 (t : Fin cfg0.N) (r : Fin 256) (j : Fin 2816) : (outsAt0 m c t.val t.isLt).1 (ix2 r j) = allG m c (ix2 (row t r) j) := by
  refine Eq.trans ?_ ((tileG _ _ _ _ _).trans (dgate_eq m c t r j))
  by_cases h : t.val % 32 = 0
  · rw [outsAt0_A m c t h]; frame_out
  · rw [outsAt0_B m c t h]; frame_out
theorem row10 (t : Fin cfg0.N) (r : Fin 256) (j : Fin 2816) : (outsAt0 m c t.val t.isLt).2.1 (ix2 r j) = allU m c (ix2 (row t r) j) := by
  refine Eq.trans ?_ ((tileU _ _ _ _).trans (dup_eq m c t r j))
  by_cases h : t.val % 32 = 0
  · rw [outsAt0_A m c t h]; frame_out
  · rw [outsAt0_B m c t h]; frame_out
theorem outs11 (t : Fin cfg0.N) : (outsAt0 m c t.val t.isLt).2.2.1 = k0_pay23 (blkH m c t) (iblk m c 7 t) (iblk m c 8 t) (iblk m c 0 t) := by
  by_cases h : t.val % 32 = 0
  · rw [outsAt0_A m c t h]; frame_out
  · rw [outsAt0_B m c t h]; frame_out
theorem outs12 (t : Fin cfg0.N) : (outsAt0 m c t.val t.isLt).2.2.2.1 = k0_pay24 (blkH m c t) (iblk m c 7 t) (iblk m c 8 t) (iblk m c 0 t) := by
  by_cases h : t.val % 32 = 0
  · rw [outsAt0_A m c t h]; frame_out
  · rw [outsAt0_B m c t h]; frame_out
theorem row11 (t : Fin cfg0.N) (r : Fin 256) (k : Fin 1024) : (outsAt0 m c t.val t.isLt).2.2.1 (ix2 r k) = allX m c (ix2 (row t r) k) := by
  rw [outs11]
  exact (pay23_apply _ _ _ _ r k).trans (dx_eq m c t r k)
theorem row12 (t : Fin cfg0.N) (r : Fin 256) (k : Fin 1024) : (outsAt0 m c t.val t.isLt).2.2.2.1 (ix2 r k) = allX m c (ix2 (row t r) k) := by
  rw [outs12]
  exact (pay24_apply _ _ _ _ r k).trans (dx_eq m c t r k)

/-- The last point, -/
abbrev last : Fin cfg0.N := ⟨31, lt_of_lt_of_eq (by decide : 31 < 32) (show cfg0.N = 32 from N_0).symm⟩
/-- a point's rows before the norm, -/
abbrev blkX (t : Fin cfg0.N) : FVec Ideal S256x1024 .f32 := iblk m c 7 t

/-- and what has been summed when the last has run. -/
theorem outs13 (l : Fin 1024) : (outsAt0 m c last.val last.isLt).2.2.2.2 (ix2 0 l) = allA m c (ix2 0 l) := by
  rw [Pipeline.eq_sum_fin_of_reset_step_apply_last (ι := Fin 1024) (fun n h l => (outsAt0 m c n h).2.2.2.2 (ix2 0 l)) 32 (fun _ => 0)
    (fun t l => ∑ r : Fin 256, blkH m c t (ix2 r l) * (blkX m c t (ix2 r l) * InBwd.inv fun k => blkX m c t (ix2 r k)))
    (fun t h l => by
      rw [outsAt0_A m c t h]; frame_out
      exact (pay21_apply _ _ _ l).trans (congrArg (· + _) (pay1_apply l)))
    (fun t h l => by
      rw [outsAt0_B m c t h]; frame_out
      exact pay21_apply _ _ _ l)
    (le_of_eq N_0) last rfl l, zero_add]
  unfold allA dg
  rw [Fin.sum_univ_tiles 32 256 rfl]
  refine Finset.sum_congr rfl fun t _ => Finset.sum_congr rfl fun r _ => ?_
  exact congrArg₂ (· * ·) (hid_eq m c t r l) (congrArg₂ (· * ·) (iblk7 m c t r l) (congrArg InBwd.inv (funext (iblk7 m c t r))))

/-- Where a point leaves its rows of a result, -/
theorem emb9 (t : Fin cfg0.N) (r : Fin 256) (k : Fin 2816) : ((cfg0.win 9).blk t).view.emb (ix2 r k) = (ix2 (row t r) k : S8192x2816.Idx) := by
  blk_ext [at9 t]
theorem emb10 (t : Fin cfg0.N) (r : Fin 256) (k : Fin 2816) : ((cfg0.win 10).blk t).view.emb (ix2 r k) = (ix2 (row t r) k : S8192x2816.Idx) := by
  blk_ext [at10 t]
theorem emb11 (t : Fin cfg0.N) (r : Fin 256) (k : Fin 1024) : ((cfg0.win 11).blk t).view.emb (ix2 r k) = (ix2 (row t r) k : S8192x1024.Idx) := by
  blk_ext [at11 t]
theorem emb12 (t : Fin cfg0.N) (r : Fin 256) (k : Fin 1024) : ((cfg0.win 12).blk t).view.emb (ix2 r k) = (ix2 (row t r) k : S8192x1024.Idx) := by
  blk_ext [at12 t]
/-- and its sums. -/
theorem emb13 (t : Fin cfg0.N) (k : Fin 1024) : ((cfg0.win 13).blk t).view.emb (ix2 0 k) = (ix2 0 k : S1x1024.Idx) := by
  blk_ext [at13 t]

theorem array9 : (dats m 0 c).arrAt 9 cfg0.N = allG m c := by
  refine (dats m 0 c).arrAt_eq_of_covers 9 _ (by decide +kernel) fun t hf y => ?_
  obtain ⟨r, k, rfl⟩ : ∃ (r : Fin 256) (k : Fin 2816), y = ix2 r k := ⟨y 0, y 1, eq_ix2 y⟩
  rw [after0_9]
  blk_simp
  exact (row9 m c t r k).trans (congrArg (allG m c) (emb9 t r k).symm)
theorem array10 : (dats m 0 c).arrAt 10 cfg0.N = allU m c := by
  refine (dats m 0 c).arrAt_eq_of_covers 10 _ (by decide +kernel) fun t hf y => ?_
  obtain ⟨r, k, rfl⟩ : ∃ (r : Fin 256) (k : Fin 2816), y = ix2 r k := ⟨y 0, y 1, eq_ix2 y⟩
  rw [after0_10]
  blk_simp
  exact (row10 m c t r k).trans (congrArg (allU m c) (emb10 t r k).symm)
theorem array11 : (dats m 0 c).arrAt 11 cfg0.N = allX m c := by
  refine (dats m 0 c).arrAt_eq_of_covers 11 _ (by decide +kernel) fun t hf y => ?_
  obtain ⟨r, k, rfl⟩ : ∃ (r : Fin 256) (k : Fin 1024), y = ix2 r k := ⟨y 0, y 1, eq_ix2 y⟩
  rw [after0_11]
  blk_simp
  exact (row11 m c t r k).trans (congrArg (allX m c) (emb11 t r k).symm)
theorem array12 : (dats m 0 c).arrAt 12 cfg0.N = allX m c := by
  refine (dats m 0 c).arrAt_eq_of_covers 12 _ (by decide +kernel) fun t hf y => ?_
  obtain ⟨r, k, rfl⟩ : ∃ (r : Fin 256) (k : Fin 1024), y = ix2 r k := ⟨y 0, y 1, eq_ix2 y⟩
  rw [after0_12]
  blk_simp
  exact (row12 m c t r k).trans (congrArg (allX m c) (emb12 t r k).symm)
theorem array13 : (dats m 0 c).arrAt 13 cfg0.N = allA m c := by
  refine (dats m 0 c).arrAt_eq_of_covers 13 _ (by decide +kernel) fun t hf y => ?_
  have ht : t = last := Fin.ext (by have := (flush0_13 t).mp hf; have := lt_of_lt_of_eq t.isLt (show cfg0.N = 32 from N_0); show t.val = 31; omega)
  subst ht
  obtain ⟨k, rfl⟩ : ∃ k : Fin 1024, y = ix2 0 k := ⟨y 1, (eq_ix2 y).trans (by congr 1; exact Subsingleton.elim (α := Fin 1) _ _)⟩
  rw [after0_13]
  blk_simp
  exact (outs13 m c k).trans (congrArg (allA m c) (emb13 last k).symm)
end

/-! ## The reference -/

section reference
open Cert.FfnBwdRefIdeal Cert.FfnBwdRefIdeal.Gen

variable (E : FVec Ideal S8192x1024 .f32) (D : FVec Ideal S8192x1024 .bf16) (W V Z : FVec Ideal S2816x1024 .bf16)
  (G U : FVec Ideal S8192x2816 .bf16) (X : FVec Ideal S8192x1024 .f32) (A : FVec Ideal S1x1024 .f32)

def refDot : FVec Ideal S8192x2816 .f32 :=
  Host.dotGeneral dot_S8192x1024_S1024x2816_S8192x2816_1_0_0_1_n_n none (extf .f32 D bitsLt_bf16_f32) (transpose S1024x2816 [1, 0] (extf .f32 W bitsLt_bf16_f32) transposes_S2816x1024_S1024x2816_1_0)
theorem refDot_apply (r : Fin 8192) (j : Fin 2816) : refDot D W (ix2 r j) = along D W (ix2 r j) := by
  pointwise [refDot, along]

abbrev ones : FVec Ideal S8192x2816 .f32 := broadcastInDim S8192x2816 ![] bcast_S_S8192x2816 (constant S_ .f32 0x3F800000#32)
def refSigmoid : FVec Ideal S8192x2816 .f32 :=
  Host.divf ones (addf ones (Host.exp (Host.negf (extf .f32 G bitsLt_bf16_f32))))
theorem refSigmoid_apply (r : Fin 8192) (j : Fin 2816) : refSigmoid G (ix2 r j) = sigmoid (G (ix2 r j)) := by
  pointwise [refSigmoid, sigmoid]

def refG : FVec Ideal S8192x2816 .f32 :=
  mulf (mulf (mulf (refDot D W) (extf .f32 U bitsLt_bf16_f32)) (refSigmoid G))
    (addf ones (mulf (extf .f32 G bitsLt_bf16_f32) (subf ones (refSigmoid G))))
theorem refG_apply (r : Fin 8192) (j : Fin 2816) : refG D W G U (ix2 r j) = dgate D W G U (ix2 r j) := by
  pointwise [refG, refDot_apply, refSigmoid_apply, dgate, slopeG]
def refU : FVec Ideal S8192x2816 .f32 :=
  mulf (mulf (refDot D W) (extf .f32 G bitsLt_bf16_f32)) (refSigmoid G)
theorem refU_apply (r : Fin 8192) (j : Fin 2816) : refU D W G (ix2 r j) = dup D W G (ix2 r j) := by
  pointwise [refU, refDot_apply, refSigmoid_apply, dup, slopeU]
theorem refG_eq : (truncf .bf16 (refG D W G U) bitsLt_bf16_f32 : FVec Ideal S8192x2816 .bf16) = dgate D W G U := by
  funext i
  rw [eq_ix2 i]
  exact refG_apply D W G U _ _
theorem refU_eq : (truncf .bf16 (refU D W G) bitsLt_bf16_f32 : FVec Ideal S8192x2816 .bf16) = dup D W G := by
  funext i
  rw [eq_ix2 i]
  exact refU_apply D W G _ _

def refHid : FVec Ideal S8192x1024 .f32 :=
  addf (Host.dotGeneral dot_S8192x2816_S2816x1024_S8192x1024_1_0_0_1_n_n none (refG D W G U) (extf .f32 V bitsLt_bf16_f32))
    (Host.dotGeneral dot_S8192x2816_S2816x1024_S8192x1024_1_0_0_1_n_n none (refU D W G) (extf .f32 Z bitsLt_bf16_f32))
theorem refHid_apply (r : Fin 8192) (l : Fin 1024) : refHid D W V Z G U (ix2 r l) = hid D W V Z G U r l := by
  pointwise [refHid, refG_apply, refU_apply, hid]

def refInv : FVec Ideal S8192x1 .f32 :=
  Host.rsqrt (addf (Host.divf (broadcastInDim S8192x1 ![0] bcast_S8192_S8192x1_0 (Host.reduceAdd (mulf X X) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))
theorem refInv_apply (r : Fin 8192) : refInv X (ix2 r 0) = inv fun k => X (ix2 r k) := by
  pointwise [refInv]
  rfl
def refNormed : FVec Ideal S8192x1024 .f32 :=
  mulf X (broadcastInDim S8192x1024 ![0, 1] bcast_S8192x1_S8192x1024_0_1 (refInv X))
theorem refNormed_apply (r : Fin 8192) (l : Fin 1024) : refNormed X (ix2 r l) = X (ix2 r l) * inv fun k => X (ix2 r k) := by
  pointwise [refNormed, refInv_apply]
def refScaled : FVec Ideal S8192x1024 .f32 :=
  mulf (refHid D W V Z G U) (broadcastInDim S8192x1024 ![0, 1] bcast_S1x1024_S8192x1024_0_1 A)
theorem refScaled_apply (r : Fin 8192) (l : Fin 1024) : refScaled D W V Z G U A (ix2 r l) = hid D W V Z G U r l * A (ix2 0 l) := by
  pointwise [refScaled, refHid_apply]

/-- What the reference puts at its results. -/
def refDx : FVec Ideal S8192x1024 .f32 :=
  addf E (mulf (broadcastInDim S8192x1024 ![0, 1] bcast_S8192x1_S8192x1024_0_1 (refInv X)) (subf (refScaled D W V Z G U A) (mulf (refNormed X)
    (broadcastInDim S8192x1024 ![0, 1] bcast_S8192x1_S8192x1024_0_1 (Host.divf (broadcastInDim S8192x1 ![0] bcast_S8192_S8192x1_0
      (Host.reduceAdd (mulf (refScaled D W V Z G U A) (refNormed X)) (constant S_ .f32 0x00000000#32) reducesTo_S8192x1024_S8192_d1 h_S_))
      (broadcastInDim S8192x1 ![] bcast_S_S8192x1 (constant S_ .f32 0x44800000#32)))))))
theorem refDx_apply (r : Fin 8192) (l : Fin 1024) : refDx E D W V Z G U X A (ix2 r l) = dx D W V Z G U E X A (ix2 r l) := by
  pointwise [refDx, refScaled_apply, refNormed_apply, refInv_apply, dx, back]
theorem refDx_eq : refDx E D W V Z G U X A = dx D W V Z G U E X A := by
  funext i
  rw [eq_ix2 i]
  exact refDx_apply E D W V Z G U X A _ _
theorem refDx_eq' : (truncf .bf16 (refDx E D W V Z G U X A) bitsLt_bf16_f32 : FVec Ideal S8192x1024 .bf16) = dx D W V Z G U E X A := by
  funext i
  rw [eq_ix2 i]
  exact refDx_apply E D W V Z G U X A _ _
def refDg : FVec Ideal S1x1024 .f32 :=
  shapeCast _ (Host.reduceAdd (mulf (refHid D W V Z G U) (refNormed X)) (constant S_ .f32 0x00000000#32) reducesTo_S8192x1024_S1024_d0 h_S_)
    shapeCasts_S1024_S1x1024
theorem refDg_eq : refDg D W V Z G U X = dg D W V Z G U X := by
  funext i
  obtain ⟨k, rfl⟩ : ∃ k : Fin 1024, i = ix2 0 k := ⟨i 1, (eq_ix2 i).trans (by congr 1; exact Subsingleton.elim (α := Fin 1) _ _)⟩
  pointwise [refDg, refHid_apply, refNormed_apply, dg]
end reference

/-- The two printed programs call the same body. -/
theorem defs_eq : Cert.FfnBwd.defs (F := Bits) = Cert.FfnBwdIdeal.defs (F := Bits) := by
  refine congrArg (Pipeline.defs _) ?_
  unfold Cert.FfnBwd.defs₀ Cert.FfnBwdIdeal.defs₀
  congr 1
  funext l
  match l with
  | 0 => rfl

theorem frame : Cert.quiescent_FfnBwd := fun m ρ _ => by
  have h := Cert.FfnBwdIdeal.Gen.frame (F := Bits) m ρ
  rw [← defs_eq] at h
  exact h
theorem frame_ideal : Cert.quiescent_FfnBwdIdeal := fun m ρ _ => Cert.FfnBwdIdeal.Gen.frame (F := Ideal) m ρ
theorem frame_ref_ideal : Cert.quiescent_FfnBwdRefIdeal := fun m ρ _ =>
  (θ_run Cert.FfnBwdRefIdeal.defs _ _).mono (fun r h => ⟨fun c => (h c).2.2.2.2.2, sem_eq_zero_of_no_sems (by decide) r.2⟩)
    (Cert.FfnBwdRefIdeal.Value.run (F := Ideal) m ρ)

theorem algebraic : Cert.algebraic_FfnBwdIdeal_FfnBwdRefIdeal := fun m ρ m' ρ' _ h =>
  ⟨_, _, _, _, _,
    (θ_run Cert.FfnBwdIdeal.defs _ _).mono
      (fun _ hr c => ⟨(hr c).1.trans (array9 m c), (hr c).2.1.trans (array10 m c), (hr c).2.2.1.trans (array11 m c),
        (hr c).2.2.2.1.trans (array12 m c), (hr c).2.2.2.2.1.trans (array13 m c), (hr c).2.2.2.2.2⟩)
      (Cert.FfnBwdIdeal.Value.run_blocks (F := Ideal) m ρ),
    (θ_run Cert.FfnBwdRefIdeal.defs _ _).mono (fun _ hr c => by
      obtain ⟨h0, h1, h2, h3, h4, h5, h6, h7, h8⟩ := h c
      obtain ⟨r0, r1, r2, r3, r4, r5⟩ := hr c
      refine ⟨r0.trans ((refG_eq _ _ _ _).trans ?_), r1.trans ((refU_eq _ _ _).trans ?_), r2.trans ((refDx_eq _ _ _ _ _ _ _ _ _).trans ?_),
        r3.trans ((refDx_eq' _ _ _ _ _ _ _ _ _).trans ?_), r4.trans ((refDg_eq _ _ _ _ _ _ _).trans ?_), r5⟩
      · rw [h1, h2, h5, h6]
      · rw [h1, h2, h5]
      · rw [h0, h1, h2, h3, h4, h5, h6, h7, h8]
      · rw [h0, h1, h2, h3, h4, h5, h6, h7, h8]
      · rw [h1, h2, h3, h4, h5, h6, h7]) (Cert.FfnBwdRefIdeal.Value.run (F := Ideal) m' ρ')⟩

end Cert.Proof.FfnBwd

end
-- ==== Proof.lean ====
/- The proof of the claims. -/
module

public import proofs.«01_k».proof.Defs
public import proofs.«01_k».proof.Proof.PairClaims
public import proofs.«01_k».proof.Proof.InBwdClaims
public import proofs.«01_k».proof.Proof.NormClaims
public import proofs.«01_k».proof.Proof.MergeClaims
public import proofs.«01_k».proof.Proof.InProjClaims
public import proofs.«01_k».proof.Proof.AdamIn
public import proofs.«01_k».proof.Proof.AdamProj
public import proofs.«01_k».proof.Proof.AdamOut
public import proofs.«01_k».proof.Proof.AdamUp
public import proofs.«01_k».proof.Proof.AdamDown
public import proofs.«01_k».proof.Proof.SumIn
public import proofs.«01_k».proof.Proof.SumProj
public import proofs.«01_k».proof.Proof.SumOut
public import proofs.«01_k».proof.Proof.SumFfn
public import proofs.«01_k».proof.Proof.Small
public import proofs.«01_k».proof.Proof.GradFfn
public import proofs.«01_k».proof.Proof.GradOut
public import proofs.«01_k».proof.Proof.GradProj
public import proofs.«01_k».proof.Proof.Ffn
public import proofs.«01_k».proof.Proof.Loss
public import proofs.«01_k».proof.Proof.FfnBwd

@[expose] public section

namespace Cert.Proof

theorem claim : Cert.Claim :=
  ⟨Cert.Pair.Gen.facts, Cert.PairIdeal.Gen.facts, Cert.PairRefIdeal.Gen.facts, Cert.PairRef.Gen.facts,
    Cert.InBwd.Gen.facts, Cert.InBwdIdeal.Gen.facts, Cert.InBwdRefIdeal.Gen.facts,
    Cert.Norm.Gen.facts, Cert.NormIdeal.Gen.facts, Cert.NormRefIdeal.Gen.facts,
    Cert.Merge.Gen.facts, Cert.MergeIdeal.Gen.facts, Cert.MergeRefIdeal.Gen.facts,
    Cert.InProj.Gen.facts, Cert.InProjIdeal.Gen.facts, Cert.InProjRefIdeal.Gen.facts,
    Cert.AdamIn.Gen.facts, Cert.AdamInIdeal.Gen.facts, Cert.AdamInRefIdeal.Gen.facts,
    Cert.AdamProj.Gen.facts, Cert.AdamProjIdeal.Gen.facts, Cert.AdamProjRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.SumIn.Gen.facts, Cert.SumInIdeal.Gen.facts, Cert.SumInRefIdeal.Gen.facts,
    Cert.SumProj.Gen.facts, Cert.SumProjIdeal.Gen.facts, Cert.SumProjRefIdeal.Gen.facts,
    Cert.SumOut.Gen.facts, Cert.SumOutIdeal.Gen.facts, Cert.SumOutRefIdeal.Gen.facts,
    Cert.SumFfn.Gen.facts, Cert.SumFfnIdeal.Gen.facts, Cert.SumFfnRefIdeal.Gen.facts,
    Cert.Small.Gen.facts, Cert.SmallIdeal.Gen.facts, Cert.SmallRefIdeal.Gen.facts,
    Cert.GradFfn.Gen.facts, Cert.GradFfnIdeal.Gen.facts, Cert.GradFfnRefIdeal.Gen.facts,
    Cert.GradOut.Gen.facts, Cert.GradOutIdeal.Gen.facts, Cert.GradOutRefIdeal.Gen.facts,
    Cert.GradProj.Gen.facts, Cert.GradProjIdeal.Gen.facts, Cert.GradProjRefIdeal.Gen.facts,
    Cert.Ffn.Gen.facts, Cert.FfnIdeal.Gen.facts, Cert.FfnRefIdeal.Gen.facts,
    Cert.Loss.Gen.facts, Cert.LossIdeal.Gen.facts, Cert.LossRefIdeal.Gen.facts,
    Cert.FfnBwd.Gen.facts, Cert.FfnBwdIdeal.Gen.facts, Cert.FfnBwdRefIdeal.Gen.facts,
    Pair.frame, Pair.frame_ideal, Pair.frame_ref_ideal, Pair.frame_ref, InBwd.frame, InBwd.frame_ideal, InBwd.frame_ref_ideal,
    Norm.frame, Norm.frame_ideal, Norm.frame_ref_ideal,
    Merge.frame, Merge.frame_ideal, Merge.frame_ref_ideal,
    InProj.frame, InProj.frame_ideal, InProj.frame_ref_ideal,
    AdamIn.frame, AdamIn.frame_ideal, AdamIn.frame_ref_ideal,
    AdamProj.frame, AdamProj.frame_ideal, AdamProj.frame_ref_ideal,
    AdamOut.frame, AdamOut.frame_ideal, AdamOut.frame_ref_ideal,
    AdamUp.frame, AdamUp.frame_ideal, AdamUp.frame_ref_ideal,
    AdamDown.frame, AdamDown.frame_ideal, AdamDown.frame_ref_ideal,
    SumIn.frame, SumIn.frame_ideal, SumIn.frame_ref_ideal,
    SumProj.frame, SumProj.frame_ideal, SumProj.frame_ref_ideal,
    SumOut.frame, SumOut.frame_ideal, SumOut.frame_ref_ideal,
    SumFfn.frame, SumFfn.frame_ideal, SumFfn.frame_ref_ideal,
    Small.frame, Small.frame_ideal, Small.frame_ref_ideal,
    GradFfn.frame, GradFfn.frame_ideal, GradFfn.frame_ref_ideal,
    GradOut.frame, GradOut.frame_ideal, GradOut.frame_ref_ideal,
    GradProj.frame, GradProj.frame_ideal, GradProj.frame_ref_ideal,
    Ffn.frame, Ffn.frame_ideal, Ffn.frame_ref_ideal,
    Loss.frame, Loss.frame_ideal, Loss.frame_ref_ideal,
    FfnBwd.frame, FfnBwd.frame_ideal, FfnBwd.frame_ref_ideal,
    trivial, Pair.algebraic, Pair.bitexact, trivial, InBwd.algebraic, trivial, Norm.algebraic, trivial, Merge.algebraic, trivial, InProj.algebraic,
    trivial, AdamIn.algebraic, trivial, AdamProj.algebraic, trivial, AdamOut.algebraic, trivial, AdamUp.algebraic, trivial, AdamDown.algebraic,
    trivial, SumIn.algebraic, trivial, SumProj.algebraic, trivial, SumOut.algebraic, trivial, SumFfn.algebraic, trivial, Small.algebraic,
    trivial, GradFfn.algebraic, trivial, GradOut.algebraic, trivial, GradProj.algebraic, trivial, Ffn.algebraic, trivial, Loss.algebraic,
    trivial, FfnBwd.algebraic⟩

end Cert.Proof
